-- ==== Defs.lean ====
def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpRefIdeal (m : (ℓ : Loc Cert.GateUpRefIdeal.nD Cert.GateUpRefIdeal.τ Cert.GateUpRefIdeal.sig) → Buf (Elt Ideal) ℓ) : Prop :=
  True

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2)
      ∧ r.2.mem ((c.tc : Thread Cert.GateUp.nD Cert.GateUp.τ).loc Cert.GateUp.main_arg3) = m ((c.tc : Thread Cert.GateUp.nD Cert.GateUp.τ).loc Cert.GateUp.main_arg3)
      ∧ r.2.mem ((c.tc : Thread Cert.GateUp.nD Cert.GateUp.τ).loc Cert.GateUp.main_arg4) = m ((c.tc : Thread Cert.GateUp.nD Cert.GateUp.τ).loc Cert.GateUp.main_arg4)
      ∧ r.2.mem ((c.tc : Thread Cert.GateUp.nD Cert.GateUp.τ).loc Cert.GateUp.main_arg5) = m ((c.tc : Thread Cert.GateUp.nD Cert.GateUp.τ).loc Cert.GateUp.main_arg5)
      ∧ r.2.mem ((c.tc : Thread Cert.GateUp.nD Cert.GateUp.τ).loc Cert.GateUp.main_arg6) = m ((c.tc : Thread Cert.GateUp.nD Cert.GateUp.τ).loc Cert.GateUp.main_arg6)
      ∧ r.2.mem ((c.tc : Thread Cert.GateUp.nD Cert.GateUp.τ).loc Cert.GateUp.main_arg7) = m ((c.tc : Thread Cert.GateUp.nD Cert.GateUp.τ).loc Cert.GateUp.main_arg7)
      ∧ r.2.mem ((c.tc : Thread Cert.GateUp.nD Cert.GateUp.τ).loc Cert.GateUp.main_arg8) = m ((c.tc : Thread Cert.GateUp.nD Cert.GateUp.τ).loc Cert.GateUp.main_arg8)
      ∧ r.2.mem ((c.tc : Thread Cert.GateUp.nD Cert.GateUp.τ).loc Cert.GateUp.main_arg9) = m ((c.tc : Thread Cert.GateUp.nD Cert.GateUp.τ).loc Cert.GateUp.main_arg9)
      ∧ r.2.mem ((c.tc : Thread Cert.GateUp.nD Cert.GateUp.τ).loc Cert.GateUp.main_arg10) = m ((c.tc : Thread Cert.GateUp.nD Cert.GateUp.τ).loc Cert.GateUp.main_arg10))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
      ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
      ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4)
      ∧ r.2.mem ((c.tc : Thread Cert.GateUpIdeal.nD Cert.GateUpIdeal.τ).loc Cert.GateUpIdeal.main_arg5) = m ((c.tc : Thread Cert.GateUpIdeal.nD Cert.GateUpIdeal.τ).loc Cert.GateUpIdeal.main_arg5)
      ∧ r.2.mem ((c.tc : Thread Cert.GateUpIdeal.nD Cert.GateUpIdeal.τ).loc Cert.GateUpIdeal.main_arg6) = m ((c.tc : Thread Cert.GateUpIdeal.nD Cert.GateUpIdeal.τ).loc Cert.GateUpIdeal.main_arg6)
      ∧ r.2.mem ((c.tc : Thread Cert.GateUpIdeal.nD Cert.GateUpIdeal.τ).loc Cert.GateUpIdeal.main_arg7) = m ((c.tc : Thread Cert.GateUpIdeal.nD Cert.GateUpIdeal.τ).loc Cert.GateUpIdeal.main_arg7)
      ∧ r.2.mem ((c.tc : Thread Cert.GateUpIdeal.nD Cert.GateUpIdeal.τ).loc Cert.GateUpIdeal.main_arg8) = m ((c.tc : Thread Cert.GateUpIdeal.nD Cert.GateUpIdeal.τ).loc Cert.GateUpIdeal.main_arg8)
      ∧ r.2.mem ((c.tc : Thread Cert.GateUpIdeal.nD Cert.GateUpIdeal.τ).loc Cert.GateUpIdeal.main_arg9) = m ((c.tc : Thread Cert.GateUpIdeal.nD Cert.GateUpIdeal.τ).loc Cert.GateUpIdeal.main_arg9)
      ∧ r.2.mem ((c.tc : Thread Cert.GateUpIdeal.nD Cert.GateUpIdeal.τ).loc Cert.GateUpIdeal.main_arg10) = m ((c.tc : Thread Cert.GateUpIdeal.nD Cert.GateUpIdeal.τ).loc Cert.GateUpIdeal.main_arg10))
      ∧ r.2.sem = fun _ => 0)

def quiescent_GateUpRefIdeal [hGateUpRefIdeal : Cert.GateUpRefIdeal.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1)
      ∧ r.2.mem ((c.tc : Thread Cert.GateUpRefIdeal.nD Cert.GateUpRefIdeal.τ).loc Cert.GateUpRefIdeal.main_arg2) = m ((c.tc : Thread Cert.GateUpRefIdeal.nD Cert.GateUpRefIdeal.τ).loc Cert.GateUpRefIdeal.main_arg2)
      ∧ r.2.mem ((c.tc : Thread Cert.GateUpRefIdeal.nD Cert.GateUpRefIdeal.τ).loc Cert.GateUpRefIdeal.main_arg3) = m ((c.tc : Thread Cert.GateUpRefIdeal.nD Cert.GateUpRefIdeal.τ).loc Cert.GateUpRefIdeal.main_arg3)
      ∧ r.2.mem ((c.tc : Thread Cert.GateUpRefIdeal.nD Cert.GateUpRefIdeal.τ).loc Cert.GateUpRefIdeal.main_arg4) = m ((c.tc : Thread Cert.GateUpRefIdeal.nD Cert.GateUpRefIdeal.τ).loc Cert.GateUpRefIdeal.main_arg4)
      ∧ r.2.mem ((c.tc : Thread Cert.GateUpRefIdeal.nD Cert.GateUpRefIdeal.τ).loc Cert.GateUpRefIdeal.main_arg5) = m ((c.tc : Thread Cert.GateUpRefIdeal.nD Cert.GateUpRefIdeal.τ).loc Cert.GateUpRefIdeal.main_arg5)
      ∧ r.2.mem ((c.tc : Thread Cert.GateUpRefIdeal.nD Cert.GateUpRefIdeal.τ).loc Cert.GateUpRefIdeal.main_arg6) = m ((c.tc : Thread Cert.GateUpRefIdeal.nD Cert.GateUpRefIdeal.τ).loc Cert.GateUpRefIdeal.main_arg6)
      ∧ r.2.mem ((c.tc : Thread Cert.GateUpRefIdeal.nD Cert.GateUpRefIdeal.τ).loc Cert.GateUpRefIdeal.main_arg7) = m ((c.tc : Thread Cert.GateUpRefIdeal.nD Cert.GateUpRefIdeal.τ).loc Cert.GateUpRefIdeal.main_arg7)
      ∧ r.2.mem ((c.tc : Thread Cert.GateUpRefIdeal.nD Cert.GateUpRefIdeal.τ).loc Cert.GateUpRefIdeal.main_arg8) = m ((c.tc : Thread Cert.GateUpRefIdeal.nD Cert.GateUpRefIdeal.τ).loc Cert.GateUpRefIdeal.main_arg8)
      ∧ r.2.mem ((c.tc : Thread Cert.GateUpRefIdeal.nD Cert.GateUpRefIdeal.τ).loc Cert.GateUpRefIdeal.main_arg9) = m ((c.tc : Thread Cert.GateUpRefIdeal.nD Cert.GateUpRefIdeal.τ).loc Cert.GateUpRefIdeal.main_arg9)
      ∧ r.2.mem ((c.tc : Thread Cert.GateUpRefIdeal.nD Cert.GateUpRefIdeal.τ).loc Cert.GateUpRefIdeal.main_arg10) = m ((c.tc : Thread Cert.GateUpRefIdeal.nD Cert.GateUpRefIdeal.τ).loc Cert.GateUpRefIdeal.main_arg10))
      ∧ r.2.sem = fun _ => 0)

def preserves_GateUp_GateUpIdeal : Prop :=
  True

def algebraic_GateUpIdeal_GateUpRefIdeal [hGateUpIdeal : Cert.GateUpIdeal.Facts] [hGateUpRefIdeal : Cert.GateUpRefIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpRefIdeal.nD Cert.GateUpRefIdeal.τ Cert.GateUpRefIdeal.sig) → Buf (Elt Ideal) ℓ) (g' : Dev Cert.GateUpRefIdeal.nD → PrngReg), Pre_GateUpIdeal m →
    (∀ c : Dev Cert.GateUpIdeal.nD,
      m' ((c.tc : Thread Cert.GateUpRefIdeal.nD Cert.GateUpRefIdeal.τ).loc Cert.GateUpRefIdeal.main_arg0) = m ((c.tc : Thread Cert.GateUpIdeal.nD Cert.GateUpIdeal.τ).loc Cert.GateUpIdeal.main_arg0)
      ∧ m' ((c.tc : Thread Cert.GateUpRefIdeal.nD Cert.GateUpRefIdeal.τ).loc Cert.GateUpRefIdeal.main_arg1) = m ((c.tc : Thread Cert.GateUpIdeal.nD Cert.GateUpIdeal.τ).loc Cert.GateUpIdeal.main_arg1)
      ∧ m' ((c.tc : Thread Cert.GateUpRefIdeal.nD Cert.GateUpRefIdeal.τ).loc Cert.GateUpRefIdeal.main_arg2) = m ((c.tc : Thread Cert.GateUpIdeal.nD Cert.GateUpIdeal.τ).loc Cert.GateUpIdeal.main_arg2)
      ∧ m' ((c.tc : Thread Cert.GateUpRefIdeal.nD Cert.GateUpRefIdeal.τ).loc Cert.GateUpRefIdeal.main_arg3) = m ((c.tc : Thread Cert.GateUpIdeal.nD Cert.GateUpIdeal.τ).loc Cert.GateUpIdeal.main_arg3)
      ∧ m' ((c.tc : Thread Cert.GateUpRefIdeal.nD Cert.GateUpRefIdeal.τ).loc Cert.GateUpRefIdeal.main_arg4) = m ((c.tc : Thread Cert.GateUpIdeal.nD Cert.GateUpIdeal.τ).loc Cert.GateUpIdeal.main_arg4)
      ∧ m' ((c.tc : Thread Cert.GateUpRefIdeal.nD Cert.GateUpRefIdeal.τ).loc Cert.GateUpRefIdeal.main_arg5) = m ((c.tc : Thread Cert.GateUpIdeal.nD Cert.GateUpIdeal.τ).loc Cert.GateUpIdeal.main_arg5)
      ∧ m' ((c.tc : Thread Cert.GateUpRefIdeal.nD Cert.GateUpRefIdeal.τ).loc Cert.GateUpRefIdeal.main_arg6) = m ((c.tc : Thread Cert.GateUpIdeal.nD Cert.GateUpIdeal.τ).loc Cert.GateUpIdeal.main_arg6)
      ∧ m' ((c.tc : Thread Cert.GateUpRefIdeal.nD Cert.GateUpRefIdeal.τ).loc Cert.GateUpRefIdeal.main_arg7) = m ((c.tc : Thread Cert.GateUpIdeal.nD Cert.GateUpIdeal.τ).loc Cert.GateUpIdeal.main_arg7)
      ∧ m' ((c.tc : Thread Cert.GateUpRefIdeal.nD Cert.GateUpRefIdeal.τ).loc Cert.GateUpRefIdeal.main_arg8) = m ((c.tc : Thread Cert.GateUpIdeal.nD Cert.GateUpIdeal.τ).loc Cert.GateUpIdeal.main_arg8)
      ∧ m' ((c.tc : Thread Cert.GateUpRefIdeal.nD Cert.GateUpRefIdeal.τ).loc Cert.GateUpRefIdeal.main_arg9) = m ((c.tc : Thread Cert.GateUpIdeal.nD Cert.GateUpIdeal.τ).loc Cert.GateUpIdeal.main_arg9)
      ∧ m' ((c.tc : Thread Cert.GateUpRefIdeal.nD Cert.GateUpRefIdeal.τ).loc Cert.GateUpRefIdeal.main_arg10) = m ((c.tc : Thread Cert.GateUpIdeal.nD Cert.GateUpIdeal.τ).loc Cert.GateUpIdeal.main_arg10)) →
    ∃ (v0 : (c : Dev Cert.GateUpIdeal.nD) → Buf (Elt Ideal) ((c.tc : Thread Cert.GateUpIdeal.nD Cert.GateUpIdeal.τ).loc Cert.GateUpIdeal.main_v53)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v53) = v0 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
          ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
          ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4)
          ∧ r.2.mem ((c.tc : Thread Cert.GateUpIdeal.nD Cert.GateUpIdeal.τ).loc Cert.GateUpIdeal.main_arg5) = m ((c.tc : Thread Cert.GateUpIdeal.nD Cert.GateUpIdeal.τ).loc Cert.GateUpIdeal.main_arg5)
          ∧ r.2.mem ((c.tc : Thread Cert.GateUpIdeal.nD Cert.GateUpIdeal.τ).loc Cert.GateUpIdeal.main_arg6) = m ((c.tc : Thread Cert.GateUpIdeal.nD Cert.GateUpIdeal.τ).loc Cert.GateUpIdeal.main_arg6)
          ∧ r.2.mem ((c.tc : Thread Cert.GateUpIdeal.nD Cert.GateUpIdeal.τ).loc Cert.GateUpIdeal.main_arg7) = m ((c.tc : Thread Cert.GateUpIdeal.nD Cert.GateUpIdeal.τ).loc Cert.GateUpIdeal.main_arg7)
          ∧ r.2.mem ((c.tc : Thread Cert.GateUpIdeal.nD Cert.GateUpIdeal.τ).loc Cert.GateUpIdeal.main_arg8) = m ((c.tc : Thread Cert.GateUpIdeal.nD Cert.GateUpIdeal.τ).loc Cert.GateUpIdeal.main_arg8)
          ∧ r.2.mem ((c.tc : Thread Cert.GateUpIdeal.nD Cert.GateUpIdeal.τ).loc Cert.GateUpIdeal.main_arg9) = m ((c.tc : Thread Cert.GateUpIdeal.nD Cert.GateUpIdeal.τ).loc Cert.GateUpIdeal.main_arg9)
          ∧ r.2.mem ((c.tc : Thread Cert.GateUpIdeal.nD Cert.GateUpIdeal.τ).loc Cert.GateUpIdeal.main_arg10) = m ((c.tc : Thread Cert.GateUpIdeal.nD Cert.GateUpIdeal.τ).loc Cert.GateUpIdeal.main_arg10))
      ∧ θ_run (Cert.GateUpRefIdeal.defs (F := Ideal)) (onTc (τ := Cert.GateUpRefIdeal.τ) (Cert.GateUpRefIdeal.main (F := Ideal))) ⟨m', fun _ => 0, g'⟩ (fun r => ∀ c : Dev Cert.GateUpRefIdeal.nD,
          r.2.mem ((c.tc : Thread Cert.GateUpRefIdeal.nD Cert.GateUpRefIdeal.τ).loc Cert.GateUpRefIdeal.main_v68) = v0 c
          ∧ r.2.mem ((c.tc : Thread Cert.GateUpRefIdeal.nD Cert.GateUpRefIdeal.τ).loc Cert.GateUpRefIdeal.main_arg0) = m' ((c.tc : Thread Cert.GateUpRefIdeal.nD Cert.GateUpRefIdeal.τ).loc Cert.GateUpRefIdeal.main_arg0)
          ∧ r.2.mem ((c.tc : Thread Cert.GateUpRefIdeal.nD Cert.GateUpRefIdeal.τ).loc Cert.GateUpRefIdeal.main_arg1) = m' ((c.tc : Thread Cert.GateUpRefIdeal.nD Cert.GateUpRefIdeal.τ).loc Cert.GateUpRefIdeal.main_arg1)
          ∧ r.2.mem ((c.tc : Thread Cert.GateUpRefIdeal.nD Cert.GateUpRefIdeal.τ).loc Cert.GateUpRefIdeal.main_arg2) = m' ((c.tc : Thread Cert.GateUpRefIdeal.nD Cert.GateUpRefIdeal.τ).loc Cert.GateUpRefIdeal.main_arg2)
          ∧ r.2.mem ((c.tc : Thread Cert.GateUpRefIdeal.nD Cert.GateUpRefIdeal.τ).loc Cert.GateUpRefIdeal.main_arg3) = m' ((c.tc : Thread Cert.GateUpRefIdeal.nD Cert.GateUpRefIdeal.τ).loc Cert.GateUpRefIdeal.main_arg3)
          ∧ r.2.mem ((c.tc : Thread Cert.GateUpRefIdeal.nD Cert.GateUpRefIdeal.τ).loc Cert.GateUpRefIdeal.main_arg4) = m' ((c.tc : Thread Cert.GateUpRefIdeal.nD Cert.GateUpRefIdeal.τ).loc Cert.GateUpRefIdeal.main_arg4)
          ∧ r.2.mem ((c.tc : Thread Cert.GateUpRefIdeal.nD Cert.GateUpRefIdeal.τ).loc Cert.GateUpRefIdeal.main_arg5) = m' ((c.tc : Thread Cert.GateUpRefIdeal.nD Cert.GateUpRefIdeal.τ).loc Cert.GateUpRefIdeal.main_arg5)
          ∧ r.2.mem ((c.tc : Thread Cert.GateUpRefIdeal.nD Cert.GateUpRefIdeal.τ).loc Cert.GateUpRefIdeal.main_arg6) = m' ((c.tc : Thread Cert.GateUpRefIdeal.nD Cert.GateUpRefIdeal.τ).loc Cert.GateUpRefIdeal.main_arg6)
          ∧ r.2.mem ((c.tc : Thread Cert.GateUpRefIdeal.nD Cert.GateUpRefIdeal.τ).loc Cert.GateUpRefIdeal.main_arg7) = m' ((c.tc : Thread Cert.GateUpRefIdeal.nD Cert.GateUpRefIdeal.τ).loc Cert.GateUpRefIdeal.main_arg7)
          ∧ r.2.mem ((c.tc : Thread Cert.GateUpRefIdeal.nD Cert.GateUpRefIdeal.τ).loc Cert.GateUpRefIdeal.main_arg8) = m' ((c.tc : Thread Cert.GateUpRefIdeal.nD Cert.GateUpRefIdeal.τ).loc Cert.GateUpRefIdeal.main_arg8)
          ∧ r.2.mem ((c.tc : Thread Cert.GateUpRefIdeal.nD Cert.GateUpRefIdeal.τ).loc Cert.GateUpRefIdeal.main_arg9) = m' ((c.tc : Thread Cert.GateUpRefIdeal.nD Cert.GateUpRefIdeal.τ).loc Cert.GateUpRefIdeal.main_arg9)
          ∧ r.2.mem ((c.tc : Thread Cert.GateUpRefIdeal.nD Cert.GateUpRefIdeal.τ).loc Cert.GateUpRefIdeal.main_arg10) = m' ((c.tc : Thread Cert.GateUpRefIdeal.nD Cert.GateUpRefIdeal.τ).loc Cert.GateUpRefIdeal.main_arg10))

def Claim : Prop :=
  ∃ (hGateUp : Cert.GateUp.Facts) (hGateUpIdeal : Cert.GateUpIdeal.Facts) (hGateUpRefIdeal : Cert.GateUpRefIdeal.Facts),
    quiescent_GateUp (hGateUp := hGateUp)
    ∧ quiescent_GateUpIdeal (hGateUpIdeal := hGateUpIdeal)
    ∧ quiescent_GateUpRefIdeal (hGateUpRefIdeal := hGateUpRefIdeal)
    ∧ preserves_GateUp_GateUpIdeal
    ∧ algebraic_GateUpIdeal_GateUpRefIdeal (hGateUpIdeal := hGateUpIdeal) (hGateUpRefIdeal := hGateUpRefIdeal)
-- ==== GateUp.lean ====
abbrev S24x4x3584 : Shape := ⟨3, ![24, 4, 3584]⟩
abbrev S24x4x1 : Shape := ⟨3, ![24, 4, 1]⟩
abbrev S24 : Shape := ⟨1, ![24]⟩
abbrev S3584x18944 : Shape := ⟨2, ![3584, 18944]⟩
abbrev S18944 : Shape := ⟨1, ![18944]⟩
abbrev S24x112x18944 : Shape := ⟨3, ![24, 112, 18944]⟩
abbrev S24x18944 : Shape := ⟨2, ![24, 18944]⟩
abbrev S8 : Shape := ⟨1, ![8]⟩
abbrev S_ : Shape := ⟨0, ![]⟩
abbrev S1 : Shape := ⟨1, ![1]⟩
abbrev S24x4 : Shape := ⟨2, ![24, 4]⟩
abbrev S96x3584 : Shape := ⟨2, ![96, 3584]⟩
abbrev S24x4x14x8x4x8 : Shape := ⟨6, ![24, 4, 14, 8, 4, 8]⟩
abbrev S24x4x14x8x8x4 : Shape := ⟨6, ![24, 4, 14, 8, 8, 4]⟩
abbrev S8x1x1 : Shape := ⟨3, ![8, 1, 1]⟩
abbrev S1x1x1x8x1x1 : Shape := ⟨6, ![1, 1, 1, 8, 1, 1]⟩
abbrev S24x16x3584 : Shape := ⟨3, ![24, 16, 3584]⟩
abbrev S25 : Shape := ⟨1, ![25]⟩
abbrev S25x1 : Shape := ⟨2, ![25, 1]⟩
abbrev S1x18944 : Shape := ⟨2, ![1, 18944]⟩
abbrev S24x1x18944 : Shape := ⟨3, ![24, 1, 18944]⟩
abbrev S24x4x18944 : Shape := ⟨3, ![24, 4, 18944]⟩
abbrev S3584x512 : Shape := ⟨2, ![3584, 512]⟩
abbrev S1x512 : Shape := ⟨2, ![1, 512]⟩
abbrev S24x1x512 : Shape := ⟨3, ![24, 1, 512]⟩
abbrev S1x112x512 : Shape := ⟨3, ![1, 112, 512]⟩
abbrev S24x4x512 : Shape := ⟨3, ![24, 4, 512]⟩
abbrev S24x8x512 : Shape := ⟨3, ![24, 8, 512]⟩
abbrev S96x512 : Shape := ⟨2, ![96, 512]⟩
abbrev S4x512 : Shape := ⟨2, ![4, 512]⟩
abbrev S1x4x512 : Shape := ⟨3, ![1, 4, 512]⟩
abbrev S1x16x3584 : Shape := ⟨3, ![1, 16, 3584]⟩
abbrev S16x3584 : Shape := ⟨2, ![16, 3584]⟩
abbrev S1x8x512 : Shape := ⟨3, ![1, 8, 512]⟩
abbrev S8x512 : Shape := ⟨2, ![8, 512]⟩
abbrev S32x512 : Shape := ⟨2, ![32, 512]⟩
abbrev S256x512 : Shape := ⟨2, ![256, 512]⟩
abbrev S16x256 : Shape := ⟨2, ![16, 256]⟩
abbrev S16x512 : Shape := ⟨2, ![16, 512]⟩
abbrev S1x4x1 : Shape := ⟨3, ![1, 4, 1]⟩
abbrev S4x1 : Shape := ⟨2, ![4, 1]⟩
abbrev S1x1x512 : Shape := ⟨3, ![1, 1, 512]⟩

abbrev nBuf : Space → Nat
  | .hbm => 131
  | .vmem => 40
  | .smem => 3
  | _ => 0

abbrev hbmTy0_0 (i : Nat) : BufTy := match i % 128 with
  | 0 => ⟨S24x4x3584, .i8⟩
  | 1 => ⟨S24x4x1, .f32⟩
  | 2 => ⟨S24, .i32⟩
  | 3 => ⟨S3584x18944, .i8⟩
  | 4 => ⟨S18944, .f32⟩
  | 5 => ⟨S3584x18944, .i8⟩
  | 6 => ⟨S18944, .f32⟩
  | 7 => ⟨S24x112x18944, .i32⟩
  | 8 => ⟨S24x112x18944, .i32⟩
  | 9 => ⟨S24x18944, .f32⟩
  | 10 => ⟨S24x18944, .f32⟩
  | 11 => ⟨S8, .bf16⟩
  | 12 => ⟨S_, .i32⟩
  | 13 => ⟨S24, .i32⟩
  | 14 => ⟨S24, .i1⟩
  | 15 => ⟨S24, .i32⟩
  | 16 => ⟨S24, .i1⟩
  | 17 => ⟨S_, .i32⟩
  | 18 => ⟨S24, .i32⟩
  | 19 => ⟨S24, .i1⟩
  | 20 => ⟨S24, .i32⟩
  | 21 => ⟨S_, .i32⟩
  | 22 => ⟨S_, .i32⟩
  | 23 => ⟨S24x4x3584, .i32⟩
  | 24 => ⟨S24x4x3584, .f32⟩
  | 25 => ⟨S_, .f32⟩
  | 26 => ⟨S24x4, .f32⟩
  | 27 => ⟨S24x4x1, .f32⟩
  | 28 => ⟨S96x3584, .i8⟩
  | 29 => ⟨S96x3584, .i32⟩
  | 30 => ⟨S96x3584, .f32⟩
  | 31 => ⟨S96x3584, .bf16⟩
  | 32 => ⟨S24x4x14x8x4x8, .i8⟩
  | 33 => ⟨S24x4x14x8x8x4, .i8⟩
  | 34 => ⟨S24x4x14x8x8x4, .i32⟩
  | 35 => ⟨S24x4x14x8x8x4, .f32⟩
  | 36 => ⟨S24x4x14x8x8x4, .bf16⟩
  | 37 => ⟨S8x1x1, .bf16⟩
  | 38 => ⟨S1x1x1x8x1x1, .bf16⟩
  | 39 => ⟨S24x4x14x8x8x4, .bf16⟩
  | 40 => ⟨S24x4x14x8x8x4, .bf16⟩
  | 41 => ⟨S24x4x3584, .bf16⟩
  | 42 => ⟨S_, .i32⟩
  | 43 => ⟨S_, .bf16⟩
  | 44 => ⟨S24x16x3584, .bf16⟩
  | 45 => ⟨S_, .i32⟩
  | 46 => ⟨S1, .i32⟩
  | 47 => ⟨S1, .i32⟩
  | 48 => ⟨S_, .i32⟩
  | 49 => ⟨S1, .i32⟩
  | 50 => ⟨S1, .i32⟩
  | 51 => ⟨S25, .i32⟩
  | 52 => ⟨S_, .i32⟩
  | 53 => ⟨S_, .i32⟩
  | 54 => ⟨S25, .i32⟩
  | 55 => ⟨S25, .i32⟩
  | 56 => ⟨S25, .i32⟩
  | 57 => ⟨S_, .i32⟩
  | 58 => ⟨S25, .i32⟩
  | 59 => ⟨S25, .i1⟩
  | 60 => ⟨S25, .i32⟩
  | 61 => ⟨S25, .i32⟩
  | 62 => ⟨S_, .i32⟩
  | 63 => ⟨S25, .i32⟩
  | 64 => ⟨S25, .i1⟩
  | 65 => ⟨S25, .i1⟩
  | 66 => ⟨S_, .i32⟩
  | 67 => ⟨S25, .i32⟩
  | 68 => ⟨S25, .i32⟩
  | 69 => ⟨S25, .i32⟩
  | 70 => ⟨S_, .i32⟩
  | 71 => ⟨S_, .i32⟩
  | 72 => ⟨S1, .i32⟩
  | 73 => ⟨S1, .i32⟩
  | 74 => ⟨S1, .i32⟩
  | 75 => ⟨S_, .i32⟩
  | 76 => ⟨S1, .i32⟩
  | 77 => ⟨S1, .i1⟩
  | 78 => ⟨S1, .i32⟩
  | 79 => ⟨S1, .i32⟩
  | 80 => ⟨S_, .i32⟩
  | 81 => ⟨S1, .i32⟩
  | 82 => ⟨S1, .i1⟩
  | 83 => ⟨S1, .i1⟩
  | 84 => ⟨S_, .i32⟩
  | 85 => ⟨S1, .i32⟩
  | 86 => ⟨S1, .i32⟩
  | 87 => ⟨S1, .i32⟩
  | 88 => ⟨S25, .i32⟩
  | 89 => ⟨S25, .i32⟩
  | 90 => ⟨S_, .i32⟩
  | 91 => ⟨S25, .i32⟩
  | 92 => ⟨S25, .i32⟩
  | 93 => ⟨S_, .i32⟩
  | 94 => ⟨S_, .i32⟩
  | 95 => ⟨S_, .i32⟩
  | 96 => ⟨S_, .i1⟩
  | 97 => ⟨S_, .i32⟩
  | 98 => ⟨S_, .i32⟩
  | 99 => ⟨S25, .i32⟩
  | 100 => ⟨S25, .i32⟩
  | 101 => ⟨S_, .i32⟩
  | 102 => ⟨S25, .i32⟩
  | 103 => ⟨S25, .i1⟩
  | 104 => ⟨S_, .i32⟩
  | 105 => ⟨S25, .i32⟩
  | 106 => ⟨S25, .i1⟩
  | 107 => ⟨S_, .i32⟩
  | 108 => ⟨S_, .i1⟩
  | 109 => ⟨S25, .i1⟩
  | 110 => ⟨S25, .i1⟩
  | 111 => ⟨S25, .i1⟩
  | 112 => ⟨S25, .i32⟩
  | 113 => ⟨S25, .i32⟩
  | 114 => ⟨S25, .i32⟩
  | 115 => ⟨S25, .i32⟩
  | 116 => ⟨S25, .i32⟩
  | 117 => ⟨S25, .i32⟩
  | 118 => ⟨S_, .i32⟩
  | 119 => ⟨S25, .i32⟩
  | 120 => ⟨S25, .i1⟩
  | 121 => ⟨S_, .i32⟩
  | 122 => ⟨S25, .i32⟩
  | 123 => ⟨S25, .i32⟩
  | 124 => ⟨S25, .i32⟩
  | 125 => ⟨S25x1, .i32⟩
  | 126 => ⟨S1x18944, .f32⟩
  | 127 => ⟨S1x18944, .f32⟩
  | _ => ⟨S24x4x3584, .i8⟩

abbrev hbmTy0_1 (i : Nat) : BufTy := match i % 128 with
  | 0 => ⟨S24x1x18944, .f32⟩
  | 1 => ⟨S24x1x18944, .f32⟩
  | 2 => ⟨S24x4x18944, .f32⟩
  | _ => ⟨S24x4x3584, .i8⟩

abbrev hbmTy (i : Nat) : BufTy := match i / 128 with
  | 0 => hbmTy0_0 i
  | 1 => hbmTy0_1 i
  | _ => ⟨S24x4x3584, .i8⟩

abbrev bufTy : (tb : Table) → Fin (tcTables nBuf tb) → BufTy
  | .hbm, ⟨i, _⟩ => hbmTy i
  | .local _ .vmem, ⟨0, _⟩ => ⟨S96x3584, .bf16⟩
  | .local _ .vmem, ⟨1, _⟩ => ⟨S24x16x3584, .bf16⟩
  | .local _ .vmem, ⟨2, _⟩ => ⟨S24x4x1, .f32⟩
  | .local _ .vmem, ⟨3, _⟩ => ⟨S24x4x1, .f32⟩
  | .local _ .vmem, ⟨4, _⟩ => ⟨S3584x512, .i8⟩
  | .local _ .vmem, ⟨5, _⟩ => ⟨S3584x512, .i8⟩
  | .local _ .vmem, ⟨6, _⟩ => ⟨S3584x512, .i8⟩
  | .local _ .vmem, ⟨7, _⟩ => ⟨S3584x512, .i8⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S24x1x512, .f32⟩
  | .local _ .vmem, ⟨13, _⟩ => ⟨S24x1x512, .f32⟩
  | .local _ .vmem, ⟨14, _⟩ => ⟨S24x1x512, .f32⟩
  | .local _ .vmem, ⟨15, _⟩ => ⟨S24x1x512, .f32⟩
  | .local _ .vmem, ⟨16, _⟩ => ⟨S1x112x512, .i32⟩
  | .local _ .vmem, ⟨17, _⟩ => ⟨S1x112x512, .i32⟩
  | .local _ .vmem, ⟨18, _⟩ => ⟨S1x112x512, .i32⟩
  | .local _ .vmem, ⟨19, _⟩ => ⟨S1x112x512, .i32⟩
  | .local _ .vmem, ⟨20, _⟩ => ⟨S1x112x512, .i32⟩
  | .local _ .vmem, ⟨21, _⟩ => ⟨S1x112x512, .i32⟩
  | .local _ .vmem, ⟨22, _⟩ => ⟨S1x112x512, .i32⟩
  | .local _ .vmem, ⟨23, _⟩ => ⟨S1x112x512, .i32⟩
  | .local _ .vmem, ⟨24, _⟩ => ⟨S1x112x512, .i32⟩
  | .local _ .vmem, ⟨25, _⟩ => ⟨S1x112x512, .i32⟩
  | .local _ .vmem, ⟨26, _⟩ => ⟨S1x112x512, .i32⟩
  | .local _ .vmem, ⟨27, _⟩ => ⟨S1x112x512, .i32⟩
  | .local _ .vmem, ⟨28, _⟩ => ⟨S1x112x512, .i32⟩
  | .local _ .vmem, ⟨29, _⟩ => ⟨S1x112x512, .i32⟩
  | .local _ .vmem, ⟨30, _⟩ => ⟨S1x112x512, .i32⟩
  | .local _ .vmem, ⟨31, _⟩ => ⟨S1x112x512, .i32⟩
  | .local _ .vmem, ⟨32, _⟩ => ⟨S1x112x512, .i32⟩
  | .local _ .vmem, ⟨33, _⟩ => ⟨S1x112x512, .i32⟩
  | .local _ .vmem, ⟨34, _⟩ => ⟨S1x112x512, .i32⟩
  | .local _ .vmem, ⟨35, _⟩ => ⟨S1x112x512, .i32⟩
  | .local _ .vmem, ⟨36, _⟩ => ⟨S24x4x512, .f32⟩
  | .local _ .vmem, ⟨37, _⟩ => ⟨S24x4x512, .f32⟩
  | .local _ .vmem, ⟨38, _⟩ => ⟨S24x8x512, .f32⟩
  | .local _ .vmem, ⟨39, _⟩ => ⟨S24x8x512, .f32⟩
  | .local _ .smem, ⟨0, _⟩ => ⟨S24, .i32⟩
  | .local _ .smem, ⟨1, _⟩ => ⟨S1, .i32⟩
  | .local _ .smem, ⟨2, _⟩ => ⟨S25, .i32⟩
  | _, _ => ⟨S24x4x3584, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_call0_v0 : Ref sig .tc := ⟨.hbm, 15, rfl⟩
abbrev main_call0_v1_0 : Ref sig .tc := ⟨.hbm, 16, rfl⟩
abbrev main_c_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_c_1 : Ref sig .tc := ⟨.hbm, 21, rfl⟩
abbrev main_v6 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_3 : Ref sig .tc := ⟨.hbm, 42, rfl⟩
abbrev main_call1_v0 : Ref sig .tc := ⟨.hbm, 43, rfl⟩
abbrev main_v26 : Ref sig .tc := ⟨.hbm, 44, rfl⟩
abbrev main_c_4 : Ref sig .tc := ⟨.hbm, 45, rfl⟩
abbrev main_v27 : Ref sig .tc := ⟨.hbm, 46, rfl⟩
abbrev main_v28 : Ref sig .tc := ⟨.hbm, 47, rfl⟩
abbrev main_c_5 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_6 : Ref sig .tc := ⟨.hbm, 52, rfl⟩
abbrev main_call2_v0 : Ref sig .tc := ⟨.hbm, 53, rfl⟩
abbrev main_call2_v1 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_v5 : Ref sig .tc := ⟨.hbm, 58, rfl⟩
abbrev main_call2_v6 : Ref sig .tc := ⟨.hbm, 59, rfl⟩
abbrev main_call2_v7 : Ref sig .tc := ⟨.hbm, 60, rfl⟩
abbrev main_call2_v8 : Ref sig .tc := ⟨.hbm, 61, rfl⟩
abbrev main_call2_c : Ref sig .tc := ⟨.hbm, 62, rfl⟩
abbrev main_call2_v9 : Ref sig .tc := ⟨.hbm, 63, rfl⟩
abbrev main_call2_v10 : Ref sig .tc := ⟨.hbm, 64, rfl⟩
abbrev main_call2_v11 : Ref sig .tc := ⟨.hbm, 65, rfl⟩
abbrev main_call2_c_0 : Ref sig .tc := ⟨.hbm, 66, rfl⟩
abbrev main_call2_v12 : Ref sig .tc := ⟨.hbm, 67, rfl⟩
abbrev main_call2_v13 : Ref sig .tc := ⟨.hbm, 68, rfl⟩
abbrev main_v32 : Ref sig .tc := ⟨.hbm, 69, rfl⟩
abbrev main_c_7 : Ref sig .tc := ⟨.hbm, 70, rfl⟩
abbrev main_call3_v0 : Ref sig .tc := ⟨.hbm, 71, rfl⟩
abbrev main_call3_v1 : Ref sig .tc := ⟨.hbm, 72, rfl⟩
abbrev main_call3_v2 : Ref sig .tc := ⟨.hbm, 73, rfl⟩
abbrev main_call3_v3 : Ref sig .tc := ⟨.hbm, 74, rfl⟩
abbrev main_call3_v4 : Ref sig .tc := ⟨.hbm, 75, rfl⟩
abbrev main_call3_v5 : Ref sig .tc := ⟨.hbm, 76, rfl⟩
abbrev main_call3_v6 : Ref sig .tc := ⟨.hbm, 77, rfl⟩
abbrev main_call3_v7 : Ref sig .tc := ⟨.hbm, 78, rfl⟩
abbrev main_call3_v8 : Ref sig .tc := ⟨.hbm, 79, rfl⟩
abbrev main_call3_c : Ref sig .tc := ⟨.hbm, 80, rfl⟩
abbrev main_call3_v9 : Ref sig .tc := ⟨.hbm, 81, rfl⟩
abbrev main_call3_v10 : Ref sig .tc := ⟨.hbm, 82, rfl⟩
abbrev main_call3_v11 : Ref sig .tc := ⟨.hbm, 83, rfl⟩
abbrev main_call3_c_0 : Ref sig .tc := ⟨.hbm, 84, rfl⟩
abbrev main_call3_v12 : Ref sig .tc := ⟨.hbm, 85, rfl⟩
abbrev main_call3_v13 : Ref sig .tc := ⟨.hbm, 86, rfl⟩
abbrev main_v33 : Ref sig .tc := ⟨.hbm, 87, rfl⟩
abbrev main_v34 : Ref sig .tc := ⟨.hbm, 88, rfl⟩
abbrev main_v35 : Ref sig .tc := ⟨.hbm, 89, rfl⟩
abbrev main_c_8 : Ref sig .tc := ⟨.hbm, 90, rfl⟩
abbrev main_v36 : Ref sig .tc := ⟨.hbm, 91, rfl⟩
abbrev main_v37 : Ref sig .tc := ⟨.hbm, 92, rfl⟩
abbrev main_c_9 : Ref sig .tc := ⟨.hbm, 93, rfl⟩
abbrev main_call4_v0 : Ref sig .tc := ⟨.hbm, 94, rfl⟩
abbrev main_call4_c : Ref sig .tc := ⟨.hbm, 95, rfl⟩
abbrev main_call4_v1 : Ref sig .tc := ⟨.hbm, 96, rfl⟩
abbrev main_call4_c_0 : Ref sig .tc := ⟨.hbm, 97, rfl⟩
abbrev main_call4_v2 : Ref sig .tc := ⟨.hbm, 98, rfl⟩
abbrev main_call4_v3 : Ref sig .tc := ⟨.hbm, 99, rfl⟩
abbrev main_call4_v4 : Ref sig .tc := ⟨.hbm, 100, rfl⟩
abbrev main_call4_c_1 : Ref sig .tc := ⟨.hbm, 101, rfl⟩
abbrev main_call4_v5 : Ref sig .tc := ⟨.hbm, 102, rfl⟩
abbrev main_call4_v6 : Ref sig .tc := ⟨.hbm, 103, rfl⟩
abbrev main_call4_c_2 : Ref sig .tc := ⟨.hbm, 104, rfl⟩
abbrev main_call4_v7 : Ref sig .tc := ⟨.hbm, 105, rfl⟩
abbrev main_call4_v8 : Ref sig .tc := ⟨.hbm, 106, rfl⟩
abbrev main_call4_c_3 : Ref sig .tc := ⟨.hbm, 107, rfl⟩
abbrev main_call4_v9 : Ref sig .tc := ⟨.hbm, 108, rfl⟩
abbrev main_call4_v10 : Ref sig .tc := ⟨.hbm, 109, rfl⟩
abbrev main_call4_v11 : Ref sig .tc := ⟨.hbm, 110, rfl⟩
abbrev main_call4_v12 : Ref sig .tc := ⟨.hbm, 111, rfl⟩
abbrev main_call4_v13 : Ref sig .tc := ⟨.hbm, 112, rfl⟩
abbrev main_call4_v14 : Ref sig .tc := ⟨.hbm, 113, rfl⟩
abbrev main_v38 : Ref sig .tc := ⟨.hbm, 114, rfl⟩
abbrev main_v39 : Ref sig .tc := ⟨.hbm, 115, rfl⟩
abbrev main_v40 : Ref sig .tc := ⟨.hbm, 116, rfl⟩
abbrev main_v41 : Ref sig .tc := ⟨.hbm, 117, rfl⟩
abbrev main_c_10 : Ref sig .tc := ⟨.hbm, 118, rfl⟩
abbrev main_v42 : Ref sig .tc := ⟨.hbm, 119, rfl⟩
abbrev main_v43 : Ref sig .tc := ⟨.hbm, 120, rfl⟩
abbrev main_c_11 : Ref sig .tc := ⟨.hbm, 121, rfl⟩
abbrev main_v44 : Ref sig .tc := ⟨.hbm, 122, rfl⟩
abbrev main_v45 : Ref sig .tc := ⟨.hbm, 123, rfl⟩
abbrev main_v46 : Ref sig .tc := ⟨.hbm, 124, rfl⟩
abbrev main_v47 : Ref sig .tc := ⟨.hbm, 125, rfl⟩
abbrev main_v49 : Ref sig .tc := ⟨.hbm, 126, rfl⟩
abbrev main_v50 : Ref sig .tc := ⟨.hbm, 127, rfl⟩
abbrev main_v51 : Ref sig .tc := ⟨.hbm, 128, rfl⟩
abbrev main_v52 : Ref sig .tc := ⟨.hbm, 129, rfl⟩
abbrev main_v53 : Ref sig .tc := ⟨.hbm, 130, rfl⟩
abbrev main_v2 : Ref sig .tc := ⟨.smem, 0, rfl⟩
abbrev main_v7 : Ref sig .tc := ⟨.smem, 1, rfl⟩
abbrev main_v48 : Ref sig .tc := ⟨.smem, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_stg18_0 : Ref sig .tc := ⟨.vmem, 32, rfl⟩
abbrev cc0_stg18_1 : Ref sig .tc := ⟨.vmem, 33, rfl⟩
abbrev cc0_stg19_0 : Ref sig .tc := ⟨.vmem, 34, rfl⟩
abbrev cc0_stg19_1 : Ref sig .tc := ⟨.vmem, 35, rfl⟩
abbrev cc0_stg20_0 : Ref sig .tc := ⟨.vmem, 36, rfl⟩
abbrev cc0_stg20_1 : Ref sig .tc := ⟨.vmem, 37, rfl⟩
abbrev cc0_scratch0 : Ref sig .tc := ⟨.vmem, 38, rfl⟩
abbrev cc0_scratch1 : Ref sig .tc := ⟨.vmem, 39, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31
abbrev cc0_sem18_0 : DmaSem sig := 32
abbrev cc0_sem18_1 : DmaSem sig := 33
abbrev cc0_sem19_0 : DmaSem sig := 34
abbrev cc0_sem19_1 : DmaSem sig := 35
abbrev cc0_sem20_0 : DmaSem sig := 36
abbrev cc0_sem20_1 : DmaSem sig := 37

abbrev nD : Nat := 1
abbrev τ : Topo := Topo.v7x

variable {F : FTy → Type} [FloatOps F]

abbrev grid0 : Pipeline.Grid := ⟨2, ![37, 5], ![false, false]⟩

abbrev pre0 : Pipeline.Prefetch sig := ⟨3, ![main_v2.idx, main_v7.idx, main_v48.idx], fun | 0 => main_v2.names | 1 => main_v7.names | 2 => main_v48.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) (c0_i32 : BitVec 32) : Fin 1 → Nat :=
  let arg1 : BitVec 32 := BitVec.ofNat 32 (i 1).val
  let c5_i32 : BitVec 32 := 5#32
  let v0 : BitVec 32 := Scalar.muli arg1 c5_i32
  let v1 : BitVec 32 := Scalar.addi v0 c0_i32
  let v2 : Index := Scalar.indexCast v1
  ![v2.toNat]
def k0_off2 (i : grid0.Coords) (v10 : BitVec 32) : Fin 1 → Nat :=
  let arg1 : BitVec 32 := BitVec.ofNat 32 (i 1).val
  let c5_i32_2 : BitVec 32 := 5#32
  let v8 : BitVec 32 := Scalar.muli arg1 c5_i32_2
  let c0_i32_3 : BitVec 32 := 0#32
  let v9 : BitVec 32 := Scalar.addi v8 c0_i32_3
  let c1_i32 : BitVec 32 := 1#32
  let v11 : BitVec 32 := Scalar.subi v10 c1_i32
  let v12 : BitVec 32 := Scalar.minsi v9 v11
  let v13 : Index := Scalar.indexCast v12
  ![v13.toNat]
def k0_cond2 (i : grid0.Coords) (v4 : BitVec 32) : BitVec 1 :=
  let arg1 : BitVec 32 := BitVec.ofNat 32 (i 1).val
  let c5_i32 : BitVec 32 := 5#32
  let v3 : BitVec 32 := Scalar.muli arg1 c5_i32
  let v5 : BitVec 1 := Scalar.cmpi .slt v3 v4
  let v6 : BitVec 32 := Scalar.extui v5
  let c0_i32_1 : BitVec 32 := 0#32
  let v7 : BitVec 1 := Scalar.cmpi .ne v6 c0_i32_1
  v7

def k0_chk1 (i : grid0.Coords) (v4 : BitVec 32) (v10 : BitVec 32) : Prop :=
  (∀ (k0_h2 : k0_cond2 i v4 = 1#1), ∀ a, (k0_off2 i v10) a + S1.size a ≤ S24.size a)
theorem k0_off2_inb : ∀ (i : grid0.Coords) (v4 : BitVec 32) (v10 : BitVec 32) (k0_hw1 : k0_chk1 i v4 v10), ∀ (k0_h2 : k0_cond2 i v4 = 1#1), ∀ a, (k0_off2 i v10) a + S1.size a ≤ S24.size a := fun i v4 v10 k0_hw1 k0_h2 => k0_hw1 k0_h2

def k0_off3 (v14 : BitVec 32) : Fin 3 → Nat :=
  let v15 : Index := Scalar.indexCast v14
  let c0_5 : Index := 0#32
  let c0_6 : Index := 0#32
  ![v15.toNat, 0, 0]

def k0_off4 (v14 : BitVec 32) : Fin 3 → Nat :=
  let v466 : Index := Scalar.indexCast v14
  let c0_168 : Index := 0#32
  let c0_169 : Index := 0#32
  ![v466.toNat, 0, 0]
def k0_off5 (v14 : BitVec 32) : Fin 3 → Nat :=
  let v927 : Index := Scalar.indexCast v14
  let c0_356 : Index := 0#32
  let c0_357 : Index := 0#32
  ![v927.toNat, 0, 0]
def k0_off6 (v14 : BitVec 32) : Fin 3 → Nat :=
  let v934 : Index := Scalar.indexCast v14
  let c0_360 : Index := 0#32
  let c0_361 : Index := 0#32
  ![v934.toNat, 0, 0]
def k0_off7 (v14 : BitVec 32) : Fin 3 → Nat :=
  let v960 : Index := Scalar.indexCast v14
  let c0_368 : Index := 0#32
  let c0_369 : Index := 0#32
  ![v960.toNat, 0, 0]

def k0_chk2 (i : grid0.Coords) (v4 : BitVec 32) (v14 : BitVec 32) : Prop :=
  (∀ (k0_h2 : k0_cond2 i v4 = 1#1), ∀ a, (k0_off3 v14) a + S1x16x3584.size a ≤ S24x16x3584.size a) ∧
  (∀ (k0_h2 : k0_cond2 i v4 = 1#1), ∀ a, (k0_off4 v14) a + S1x4x1.size a ≤ S24x4x1.size a) ∧
  (∀ (k0_h2 : k0_cond2 i v4 = 1#1), ∀ a, (k0_off5 v14) a + S1x4x512.size a ≤ S24x8x512.size a) ∧
  (∀ (k0_h2 : k0_cond2 i v4 = 1#1), ∀ a, (k0_off6 v14) a + S1x1x512.size a ≤ S24x1x512.size a) ∧
  (∀ (k0_h2 : k0_cond2 i v4 = 1#1), ∀ a, (k0_off7 v14) a + S1x4x512.size a ≤ S24x4x512.size a)
theorem k0_off3_inb : ∀ (i : grid0.Coords) (v4 : BitVec 32) (v14 : BitVec 32) (k0_hw2 : k0_chk2 i v4 v14), ∀ (k0_h2 : k0_cond2 i v4 = 1#1), ∀ a, (k0_off3 v14) a + S1x16x3584.size a ≤ S24x16x3584.size a := fun i v4 v14 k0_hw2 k0_h2 => k0_hw2.1 k0_h2
theorem k0_off4_inb : ∀ (i : grid0.Coords) (v4 : BitVec 32) (v14 : BitVec 32) (k0_hw2 : k0_chk2 i v4 v14), ∀ (k0_h2 : k0_cond2 i v4 = 1#1), ∀ a, (k0_off4 v14) a + S1x4x1.size a ≤ S24x4x1.size a := fun i v4 v14 k0_hw2 k0_h2 => k0_hw2.2.1 k0_h2
theorem k0_off5_inb : ∀ (i : grid0.Coords) (v4 : BitVec 32) (v14 : BitVec 32) (k0_hw2 : k0_chk2 i v4 v14), ∀ (k0_h2 : k0_cond2 i v4 = 1#1), ∀ a, (k0_off5 v14) a + S1x4x512.size a ≤ S24x8x512.size a := fun i v4 v14 k0_hw2 k0_h2 => k0_hw2.2.2.1 k0_h2
theorem k0_off6_inb : ∀ (i : grid0.Coords) (v4 : BitVec 32) (v14 : BitVec 32) (k0_hw2 : k0_chk2 i v4 v14), ∀ (k0_h2 : k0_cond2 i v4 = 1#1), ∀ a, (k0_off6 v14) a + S1x1x512.size a ≤ S24x1x512.size a := fun i v4 v14 k0_hw2 k0_h2 => k0_hw2.2.2.2.1 k0_h2
theorem k0_off7_inb : ∀ (i : grid0.Coords) (v4 : BitVec 32) (v14 : BitVec 32) (k0_hw2 : k0_chk2 i v4 v14), ∀ (k0_h2 : k0_cond2 i v4 = 1#1), ∀ a, (k0_off7 v14) a + S1x4x512.size a ≤ S24x4x512.size a := fun i v4 v14 k0_hw2 k0_h2 => k0_hw2.2.2.2.2 k0_h2

def k0_off8 (i : grid0.Coords) (v966 : BitVec 32) : Fin 1 → Nat :=
  let arg1 : BitVec 32 := BitVec.ofNat 32 (i 1).val
  let c5_i32_370 : BitVec 32 := 5#32
  let v964 : BitVec 32 := Scalar.muli arg1 c5_i32_370
  let c1_i32_371 : BitVec 32 := 1#32
  let v965 : BitVec 32 := Scalar.addi v964 c1_i32_371
  let c1_i32_373 : BitVec 32 := 1#32
  let v967 : BitVec 32 := Scalar.subi v966 c1_i32_373
  let v968 : BitVec 32 := Scalar.minsi v965 v967
  let v969 : Index := Scalar.indexCast v968
  ![v969.toNat]

def k0_chk3 (i : grid0.Coords) (v4 : BitVec 32) (v966 : BitVec 32) : Prop :=
  (∀ (k0_h2 : k0_cond2 i v4 = 1#1), ∀ a, (k0_off8 i v966) a + S1.size a ≤ S24.size a)
theorem k0_off8_inb : ∀ (i : grid0.Coords) (v4 : BitVec 32) (v966 : BitVec 32) (k0_hw3 : k0_chk3 i v4 v966), ∀ (k0_h2 : k0_cond2 i v4 = 1#1), ∀ a, (k0_off8 i v966) a + S1.size a ≤ S24.size a := fun i v4 v966 k0_hw3 k0_h2 => k0_hw3 k0_h2

def k0_off9 (v970 : BitVec 32) : Fin 3 → Nat :=
  let v971 : Index := Scalar.indexCast v970
  let c0_374 : Index := 0#32
  let c0_375 : Index := 0#32
  ![v971.toNat, 0, 0]

def k0_off10 (v970 : BitVec 32) : Fin 3 → Nat :=
  let v1422 : Index := Scalar.indexCast v970
  let c0_558 : Index := 0#32
  let c0_559 : Index := 0#32
  ![v1422.toNat, 0, 0]
def k0_off11 (v970 : BitVec 32) : Fin 3 → Nat :=
  let v1883 : Index := Scalar.indexCast v970
  let c0_746 : Index := 0#32
  let c0_747 : Index := 0#32
  ![v1883.toNat, 0, 0]
def k0_off12 (v970 : BitVec 32) : Fin 3 → Nat :=
  let v1890 : Index := Scalar.indexCast v970
  let c0_750 : Index := 0#32
  let c0_751 : Index := 0#32
  ![v1890.toNat, 0, 0]
def k0_off13 (v970 : BitVec 32) : Fin 3 → Nat :=
  let v1916 : Index := Scalar.indexCast v970
  let c0_758 : Index := 0#32
  let c0_759 : Index := 0#32
  ![v1916.toNat, 0, 0]

def k0_chk4 (i : grid0.Coords) (v4 : BitVec 32) (v970 : BitVec 32) : Prop :=
  (∀ (k0_h2 : k0_cond2 i v4 = 1#1), ∀ a, (k0_off9 v970) a + S1x16x3584.size a ≤ S24x16x3584.size a) ∧
  (∀ (k0_h2 : k0_cond2 i v4 = 1#1), ∀ a, (k0_off10 v970) a + S1x4x1.size a ≤ S24x4x1.size a) ∧
  (∀ (k0_h2 : k0_cond2 i v4 = 1#1), ∀ a, (k0_off11 v970) a + S1x4x512.size a ≤ S24x8x512.size a) ∧
  (∀ (k0_h2 : k0_cond2 i v4 = 1#1), ∀ a, (k0_off12 v970) a + S1x1x512.size a ≤ S24x1x512.size a) ∧
  (∀ (k0_h2 : k0_cond2 i v4 = 1#1), ∀ a, (k0_off13 v970) a + S1x4x512.size a ≤ S24x4x512.size a)
theorem k0_off9_inb : ∀ (i : grid0.Coords) (v4 : BitVec 32) (v970 : BitVec 32) (k0_hw4 : k0_chk4 i v4 v970), ∀ (k0_h2 : k0_cond2 i v4 = 1#1), ∀ a, (k0_off9 v970) a + S1x16x3584.size a ≤ S24x16x3584.size a := fun i v4 v970 k0_hw4 k0_h2 => k0_hw4.1 k0_h2
theorem k0_off10_inb : ∀ (i : grid0.Coords) (v4 : BitVec 32) (v970 : BitVec 32) (k0_hw4 : k0_chk4 i v4 v970), ∀ (k0_h2 : k0_cond2 i v4 = 1#1), ∀ a, (k0_off10 v970) a + S1x4x1.size a ≤ S24x4x1.size a := fun i v4 v970 k0_hw4 k0_h2 => k0_hw4.2.1 k0_h2
theorem k0_off11_inb : ∀ (i : grid0.Coords) (v4 : BitVec 32) (v970 : BitVec 32) (k0_hw4 : k0_chk4 i v4 v970), ∀ (k0_h2 : k0_cond2 i v4 = 1#1), ∀ a, (k0_off11 v970) a + S1x4x512.size a ≤ S24x8x512.size a := fun i v4 v970 k0_hw4 k0_h2 => k0_hw4.2.2.1 k0_h2
theorem k0_off12_inb : ∀ (i : grid0.Coords) (v4 : BitVec 32) (v970 : BitVec 32) (k0_hw4 : k0_chk4 i v4 v970), ∀ (k0_h2 : k0_cond2 i v4 = 1#1), ∀ a, (k0_off12 v970) a + S1x1x512.size a ≤ S24x1x512.size a := fun i v4 v970 k0_hw4 k0_h2 => k0_hw4.2.2.2.1 k0_h2
theorem k0_off13_inb : ∀ (i : grid0.Coords) (v4 : BitVec 32) (v970 : BitVec 32) (k0_hw4 : k0_chk4 i v4 v970), ∀ (k0_h2 : k0_cond2 i v4 = 1#1), ∀ a, (k0_off13 v970) a + S1x4x512.size a ≤ S24x4x512.size a := fun i v4 v970 k0_hw4 k0_h2 => k0_hw4.2.2.2.2 k0_h2

def k0_off14 (i : grid0.Coords) (v1922 : BitVec 32) : Fin 1 → Nat :=
  let arg1 : BitVec 32 := BitVec.ofNat 32 (i 1).val
  let c5_i32_760 : BitVec 32 := 5#32
  let v1920 : BitVec 32 := Scalar.muli arg1 c5_i32_760
  let c2_i32 : BitVec 32 := 2#32
  let v1921 : BitVec 32 := Scalar.addi v1920 c2_i32
  let c1_i32_762 : BitVec 32 := 1#32
  let v1923 : BitVec 32 := Scalar.subi v1922 c1_i32_762
  let v1924 : BitVec 32 := Scalar.minsi v1921 v1923
  let v1925 : Index := Scalar.indexCast v1924
  ![v1925.toNat]

def k0_chk5 (i : grid0.Coords) (v4 : BitVec 32) (v1922 : BitVec 32) : Prop :=
  (∀ (k0_h2 : k0_cond2 i v4 = 1#1), ∀ a, (k0_off14 i v1922) a + S1.size a ≤ S24.size a)
theorem k0_off14_inb : ∀ (i : grid0.Coords) (v4 : BitVec 32) (v1922 : BitVec 32) (k0_hw5 : k0_chk5 i v4 v1922), ∀ (k0_h2 : k0_cond2 i v4 = 1#1), ∀ a, (k0_off14 i v1922) a + S1.size a ≤ S24.size a := fun i v4 v1922 k0_hw5 k0_h2 => k0_hw5 k0_h2

def k0_off15 (v1926 : BitVec 32) : Fin 3 → Nat :=
  let v1927 : Index := Scalar.indexCast v1926
  let c0_763 : Index := 0#32
  let c0_764 : Index := 0#32
  ![v1927.toNat, 0, 0]

def k0_off16 (v1926 : BitVec 32) : Fin 3 → Nat :=
  let v2378 : Index := Scalar.indexCast v1926
  let c0_947 : Index := 0#32
  let c0_948 : Index := 0#32
  ![v2378.toNat, 0, 0]
def k0_off17 (v1926 : BitVec 32) : Fin 3 → Nat :=
  let v2839 : Index := Scalar.indexCast v1926
  let c0_1135 : Index := 0#32
  let c0_1136 : Index := 0#32
  ![v2839.toNat, 0, 0]
def k0_off18 (v1926 : BitVec 32) : Fin 3 → Nat :=
  let v2846 : Index := Scalar.indexCast v1926
  let c0_1139 : Index := 0#32
  let c0_1140 : Index := 0#32
  ![v2846.toNat, 0, 0]
def k0_off19 (v1926 : BitVec 32) : Fin 3 → Nat :=
  let v2872 : Index := Scalar.indexCast v1926
  let c0_1147 : Index := 0#32
  let c0_1148 : Index := 0#32
  ![v2872.toNat, 0, 0]

def k0_chk6 (i : grid0.Coords) (v4 : BitVec 32) (v1926 : BitVec 32) : Prop :=
  (∀ (k0_h2 : k0_cond2 i v4 = 1#1), ∀ a, (k0_off15 v1926) a + S1x16x3584.size a ≤ S24x16x3584.size a) ∧
  (∀ (k0_h2 : k0_cond2 i v4 = 1#1), ∀ a, (k0_off16 v1926) a + S1x4x1.size a ≤ S24x4x1.size a) ∧
  (∀ (k0_h2 : k0_cond2 i v4 = 1#1), ∀ a, (k0_off17 v1926) a + S1x4x512.size a ≤ S24x8x512.size a) ∧
  (∀ (k0_h2 : k0_cond2 i v4 = 1#1), ∀ a, (k0_off18 v1926) a + S1x1x512.size a ≤ S24x1x512.size a) ∧
  (∀ (k0_h2 : k0_cond2 i v4 = 1#1), ∀ a, (k0_off19 v1926) a + S1x4x512.size a ≤ S24x4x512.size a)
theorem k0_off15_inb : ∀ (i : grid0.Coords) (v4 : BitVec 32) (v1926 : BitVec 32) (k0_hw6 : k0_chk6 i v4 v1926), ∀ (k0_h2 : k0_cond2 i v4 = 1#1), ∀ a, (k0_off15 v1926) a + S1x16x3584.size a ≤ S24x16x3584.size a := fun i v4 v1926 k0_hw6 k0_h2 => k0_hw6.1 k0_h2
theorem k0_off16_inb : ∀ (i : grid0.Coords) (v4 : BitVec 32) (v1926 : BitVec 32) (k0_hw6 : k0_chk6 i v4 v1926), ∀ (k0_h2 : k0_cond2 i v4 = 1#1), ∀ a, (k0_off16 v1926) a + S1x4x1.size a ≤ S24x4x1.size a := fun i v4 v1926 k0_hw6 k0_h2 => k0_hw6.2.1 k0_h2
theorem k0_off17_inb : ∀ (i : grid0.Coords) (v4 : BitVec 32) (v1926 : BitVec 32) (k0_hw6 : k0_chk6 i v4 v1926), ∀ (k0_h2 : k0_cond2 i v4 = 1#1), ∀ a, (k0_off17 v1926) a + S1x4x512.size a ≤ S24x8x512.size a := fun i v4 v1926 k0_hw6 k0_h2 => k0_hw6.2.2.1 k0_h2
theorem k0_off18_inb : ∀ (i : grid0.Coords) (v4 : BitVec 32) (v1926 : BitVec 32) (k0_hw6 : k0_chk6 i v4 v1926), ∀ (k0_h2 : k0_cond2 i v4 = 1#1), ∀ a, (k0_off18 v1926) a + S1x1x512.size a ≤ S24x1x512.size a := fun i v4 v1926 k0_hw6 k0_h2 => k0_hw6.2.2.2.1 k0_h2
theorem k0_off19_inb : ∀ (i : grid0.Coords) (v4 : BitVec 32) (v1926 : BitVec 32) (k0_hw6 : k0_chk6 i v4 v1926), ∀ (k0_h2 : k0_cond2 i v4 = 1#1), ∀ a, (k0_off19 v1926) a + S1x4x512.size a ≤ S24x4x512.size a := fun i v4 v1926 k0_hw6 k0_h2 => k0_hw6.2.2.2.2 k0_h2

def k0_off20 (i : grid0.Coords) (v2878 : BitVec 32) : Fin 1 → Nat :=
  let arg1 : BitVec 32 := BitVec.ofNat 32 (i 1).val
  let c5_i32_1149 : BitVec 32 := 5#32
  let v2876 : BitVec 32 := Scalar.muli arg1 c5_i32_1149
  let c3_i32 : BitVec 32 := 3#32
  let v2877 : BitVec 32 := Scalar.addi v2876 c3_i32
  let c1_i32_1151 : BitVec 32 := 1#32
  let v2879 : BitVec 32 := Scalar.subi v2878 c1_i32_1151
  let v2880 : BitVec 32 := Scalar.minsi v2877 v2879
  let v2881 : Index := Scalar.indexCast v2880
  ![v2881.toNat]

def k0_chk7 (i : grid0.Coords) (v4 : BitVec 32) (v2878 : BitVec 32) : Prop :=
  (∀ (k0_h2 : k0_cond2 i v4 = 1#1), ∀ a, (k0_off20 i v2878) a + S1.size a ≤ S24.size a)
theorem k0_off20_inb : ∀ (i : grid0.Coords) (v4 : BitVec 32) (v2878 : BitVec 32) (k0_hw7 : k0_chk7 i v4 v2878), ∀ (k0_h2 : k0_cond2 i v4 = 1#1), ∀ a, (k0_off20 i v2878) a + S1.size a ≤ S24.size a := fun i v4 v2878 k0_hw7 k0_h2 => k0_hw7 k0_h2

def k0_off21 (v2882 : BitVec 32) : Fin 3 → Nat :=
  let v2883 : Index := Scalar.indexCast v2882
  let c0_1152 : Index := 0#32
  let c0_1153 : Index := 0#32
  ![v2883.toNat, 0, 0]

def k0_off22 (v2882 : BitVec 32) : Fin 3 → Nat :=
  let v3334 : Index := Scalar.indexCast v2882
  let c0_1336 : Index := 0#32
  let c0_1337 : Index := 0#32
  ![v3334.toNat, 0, 0]
def k0_off23 (v2882 : BitVec 32) : Fin 3 → Nat :=
  let v3795 : Index := Scalar.indexCast v2882
  let c0_1524 : Index := 0#32
  let c0_1525 : Index := 0#32
  ![v3795.toNat, 0, 0]
def k0_off24 (v2882 : BitVec 32) : Fin 3 → Nat :=
  let v3802 : Index := Scalar.indexCast v2882
  let c0_1528 : Index := 0#32
  let c0_1529 : Index := 0#32
  ![v3802.toNat, 0, 0]
def k0_off25 (v2882 : BitVec 32) : Fin 3 → Nat :=
  let v3828 : Index := Scalar.indexCast v2882
  let c0_1536 : Index := 0#32
  let c0_1537 : Index := 0#32
  ![v3828.toNat, 0, 0]

def k0_chk8 (i : grid0.Coords) (v4 : BitVec 32) (v2882 : BitVec 32) : Prop :=
  (∀ (k0_h2 : k0_cond2 i v4 = 1#1), ∀ a, (k0_off21 v2882) a + S1x16x3584.size a ≤ S24x16x3584.size a) ∧
  (∀ (k0_h2 : k0_cond2 i v4 = 1#1), ∀ a, (k0_off22 v2882) a + S1x4x1.size a ≤ S24x4x1.size a) ∧
  (∀ (k0_h2 : k0_cond2 i v4 = 1#1), ∀ a, (k0_off23 v2882) a + S1x4x512.size a ≤ S24x8x512.size a) ∧
  (∀ (k0_h2 : k0_cond2 i v4 = 1#1), ∀ a, (k0_off24 v2882) a + S1x1x512.size a ≤ S24x1x512.size a) ∧
  (∀ (k0_h2 : k0_cond2 i v4 = 1#1), ∀ a, (k0_off25 v2882) a + S1x4x512.size a ≤ S24x4x512.size a)
theorem k0_off21_inb : ∀ (i : grid0.Coords) (v4 : BitVec 32) (v2882 : BitVec 32) (k0_hw8 : k0_chk8 i v4 v2882), ∀ (k0_h2 : k0_cond2 i v4 = 1#1), ∀ a, (k0_off21 v2882) a + S1x16x3584.size a ≤ S24x16x3584.size a := fun i v4 v2882 k0_hw8 k0_h2 => k0_hw8.1 k0_h2
theorem k0_off22_inb : ∀ (i : grid0.Coords) (v4 : BitVec 32) (v2882 : BitVec 32) (k0_hw8 : k0_chk8 i v4 v2882), ∀ (k0_h2 : k0_cond2 i v4 = 1#1), ∀ a, (k0_off22 v2882) a + S1x4x1.size a ≤ S24x4x1.size a := fun i v4 v2882 k0_hw8 k0_h2 => k0_hw8.2.1 k0_h2
theorem k0_off23_inb : ∀ (i : grid0.Coords) (v4 : BitVec 32) (v2882 : BitVec 32) (k0_hw8 : k0_chk8 i v4 v2882), ∀ (k0_h2 : k0_cond2 i v4 = 1#1), ∀ a, (k0_off23 v2882) a + S1x4x512.size a ≤ S24x8x512.size a := fun i v4 v2882 k0_hw8 k0_h2 => k0_hw8.2.2.1 k0_h2
theorem k0_off24_inb : ∀ (i : grid0.Coords) (v4 : BitVec 32) (v2882 : BitVec 32) (k0_hw8 : k0_chk8 i v4 v2882), ∀ (k0_h2 : k0_cond2 i v4 = 1#1), ∀ a, (k0_off24 v2882) a + S1x1x512.size a ≤ S24x1x512.size a := fun i v4 v2882 k0_hw8 k0_h2 => k0_hw8.2.2.2.1 k0_h2
theorem k0_off25_inb : ∀ (i : grid0.Coords) (v4 : BitVec 32) (v2882 : BitVec 32) (k0_hw8 : k0_chk8 i v4 v2882), ∀ (k0_h2 : k0_cond2 i v4 = 1#1), ∀ a, (k0_off25 v2882) a + S1x4x512.size a ≤ S24x4x512.size a := fun i v4 v2882 k0_hw8 k0_h2 => k0_hw8.2.2.2.2 k0_h2

def k0_off26 (i : grid0.Coords) (v3834 : BitVec 32) : Fin 1 → Nat :=
  let arg1 : BitVec 32 := BitVec.ofNat 32 (i 1).val
  let c5_i32_1538 : BitVec 32 := 5#32
  let v3832 : BitVec 32 := Scalar.muli arg1 c5_i32_1538
  let c4_i32 : BitVec 32 := 4#32
  let v3833 : BitVec 32 := Scalar.addi v3832 c4_i32
  let c1_i32_1540 : BitVec 32 := 1#32
  let v3835 : BitVec 32 := Scalar.subi v3834 c1_i32_1540
  let v3836 : BitVec 32 := Scalar.minsi v3833 v3835
  let v3837 : Index := Scalar.indexCast v3836
  ![v3837.toNat]

def k0_chk9 (i : grid0.Coords) (v4 : BitVec 32) (v3834 : BitVec 32) : Prop :=
  (∀ (k0_h2 : k0_cond2 i v4 = 1#1), ∀ a, (k0_off26 i v3834) a + S1.size a ≤ S24.size a)
theorem k0_off26_inb : ∀ (i : grid0.Coords) (v4 : BitVec 32) (v3834 : BitVec 32) (k0_hw9 : k0_chk9 i v4 v3834), ∀ (k0_h2 : k0_cond2 i v4 = 1#1), ∀ a, (k0_off26 i v3834) a + S1.size a ≤ S24.size a := fun i v4 v3834 k0_hw9 k0_h2 => k0_hw9 k0_h2

def k0_off27 (v3838 : BitVec 32) : Fin 3 → Nat :=
  let v3839 : Index := Scalar.indexCast v3838
  let c0_1541 : Index := 0#32
  let c0_1542 : Index := 0#32
  ![v3839.toNat, 0, 0]

def k0_off28 (v3838 : BitVec 32) : Fin 3 → Nat :=
  let v4290 : Index := Scalar.indexCast v3838
  let c0_1725 : Index := 0#32
  let c0_1726 : Index := 0#32
  ![v4290.toNat, 0, 0]
def k0_off29 (v3838 : BitVec 32) : Fin 3 → Nat :=
  let v4751 : Index := Scalar.indexCast v3838
  let c0_1913 : Index := 0#32
  let c0_1914 : Index := 0#32
  ![v4751.toNat, 0, 0]
def k0_off30 (v3838 : BitVec 32) : Fin 3 → Nat :=
  let v4758 : Index := Scalar.indexCast v3838
  let c0_1917 : Index := 0#32
  let c0_1918 : Index := 0#32
  ![v4758.toNat, 0, 0]
def k0_off31 (v3838 : BitVec 32) : Fin 3 → Nat :=
  let v4784 : Index := Scalar.indexCast v3838
  let c0_1925 : Index := 0#32
  let c0_1926 : Index := 0#32
  ![v4784.toNat, 0, 0]

def k0_chk10 (i : grid0.Coords) (v4 : BitVec 32) (v3838 : BitVec 32) : Prop :=
  (∀ (k0_h2 : k0_cond2 i v4 = 1#1), ∀ a, (k0_off27 v3838) a + S1x16x3584.size a ≤ S24x16x3584.size a) ∧
  (∀ (k0_h2 : k0_cond2 i v4 = 1#1), ∀ a, (k0_off28 v3838) a + S1x4x1.size a ≤ S24x4x1.size a) ∧
  (∀ (k0_h2 : k0_cond2 i v4 = 1#1), ∀ a, (k0_off29 v3838) a + S1x4x512.size a ≤ S24x8x512.size a) ∧
  (∀ (k0_h2 : k0_cond2 i v4 = 1#1), ∀ a, (k0_off30 v3838) a + S1x1x512.size a ≤ S24x1x512.size a) ∧
  (∀ (k0_h2 : k0_cond2 i v4 = 1#1), ∀ a, (k0_off31 v3838) a + S1x4x512.size a ≤ S24x4x512.size a)
theorem k0_off27_inb : ∀ (i : grid0.Coords) (v4 : BitVec 32) (v3838 : BitVec 32) (k0_hw10 : k0_chk10 i v4 v3838), ∀ (k0_h2 : k0_cond2 i v4 = 1#1), ∀ a, (k0_off27 v3838) a + S1x16x3584.size a ≤ S24x16x3584.size a := fun i v4 v3838 k0_hw10 k0_h2 => k0_hw10.1 k0_h2
theorem k0_off28_inb : ∀ (i : grid0.Coords) (v4 : BitVec 32) (v3838 : BitVec 32) (k0_hw10 : k0_chk10 i v4 v3838), ∀ (k0_h2 : k0_cond2 i v4 = 1#1), ∀ a, (k0_off28 v3838) a + S1x4x1.size a ≤ S24x4x1.size a := fun i v4 v3838 k0_hw10 k0_h2 => k0_hw10.2.1 k0_h2
theorem k0_off29_inb : ∀ (i : grid0.Coords) (v4 : BitVec 32) (v3838 : BitVec 32) (k0_hw10 : k0_chk10 i v4 v3838), ∀ (k0_h2 : k0_cond2 i v4 = 1#1), ∀ a, (k0_off29 v3838) a + S1x4x512.size a ≤ S24x8x512.size a := fun i v4 v3838 k0_hw10 k0_h2 => k0_hw10.2.2.1 k0_h2
theorem k0_off30_inb : ∀ (i : grid0.Coords) (v4 : BitVec 32) (v3838 : BitVec 32) (k0_hw10 : k0_chk10 i v4 v3838), ∀ (k0_h2 : k0_cond2 i v4 = 1#1), ∀ a, (k0_off30 v3838) a + S1x1x512.size a ≤ S24x1x512.size a := fun i v4 v3838 k0_hw10 k0_h2 => k0_hw10.2.2.2.1 k0_h2
theorem k0_off31_inb : ∀ (i : grid0.Coords) (v4 : BitVec 32) (v3838 : BitVec 32) (k0_hw10 : k0_chk10 i v4 v3838), ∀ (k0_h2 : k0_cond2 i v4 = 1#1), ∀ a, (k0_off31 v3838) a + S1x4x512.size a ≤ S24x4x512.size a := fun i v4 v3838 k0_hw10 k0_h2 => k0_hw10.2.2.2.2 k0_h2

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_10 (k0_off1_inb : ∀ i : grid0.Coords, ∀ (r : Fin 5), ∀ a, (k0_off1 i (BitVec.ofNat 32 r.val)) a + S1.size a ≤ S25.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c5_i32 : BitVec 32 := 5#32
  let v0 : BitVec 32 := Scalar.muli arg1 c5_i32
  let c0_i32 : BitVec 32 := 0#32
  let v1 : BitVec 32 := Scalar.addi v0 c0_i32
  let v2 : Index := Scalar.indexCast v1
  let v3 : BitVec 32 := pf.at 2 (Rect.unit (s := S25) ![v2.toNat] S1.size (k0_off1_inb i 0)) numel1_S1
  let c0_i32_0 : BitVec 32 := 0#32
  let c0_i32_1 : BitVec 32 := 0#32
  ![v3.toNat, c0_i32_0.toNat, arg0.toNat]

def cc0_transform_11 (k0_off1_inb : ∀ i : grid0.Coords, ∀ (r : Fin 5), ∀ a, (k0_off1 i (BitVec.ofNat 32 r.val)) a + S1.size a ≤ S25.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c5_i32 : BitVec 32 := 5#32
  let v0 : BitVec 32 := Scalar.muli arg1 c5_i32
  let c1_i32 : BitVec 32 := 1#32
  let v1 : BitVec 32 := Scalar.addi v0 c1_i32
  let v2 : Index := Scalar.indexCast v1
  let v3 : BitVec 32 := pf.at 2 (Rect.unit (s := S25) ![v2.toNat] S1.size (k0_off1_inb i 1)) numel1_S1
  let c0_i32 : BitVec 32 := 0#32
  let c0_i32_0 : BitVec 32 := 0#32
  ![v3.toNat, c0_i32.toNat, arg0.toNat]

def cc0_transform_12 (k0_off1_inb : ∀ i : grid0.Coords, ∀ (r : Fin 5), ∀ a, (k0_off1 i (BitVec.ofNat 32 r.val)) a + S1.size a ≤ S25.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c5_i32 : BitVec 32 := 5#32
  let v0 : BitVec 32 := Scalar.muli arg1 c5_i32
  let c2_i32 : BitVec 32 := 2#32
  let v1 : BitVec 32 := Scalar.addi v0 c2_i32
  let v2 : Index := Scalar.indexCast v1
  let v3 : BitVec 32 := pf.at 2 (Rect.unit (s := S25) ![v2.toNat] S1.size (k0_off1_inb i 2)) numel1_S1
  let c0_i32 : BitVec 32 := 0#32
  let c0_i32_0 : BitVec 32 := 0#32
  ![v3.toNat, c0_i32.toNat, arg0.toNat]

def cc0_transform_13 (k0_off1_inb : ∀ i : grid0.Coords, ∀ (r : Fin 5), ∀ a, (k0_off1 i (BitVec.ofNat 32 r.val)) a + S1.size a ≤ S25.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c5_i32 : BitVec 32 := 5#32
  let v0 : BitVec 32 := Scalar.muli arg1 c5_i32
  let c3_i32 : BitVec 32 := 3#32
  let v1 : BitVec 32 := Scalar.addi v0 c3_i32
  let v2 : Index := Scalar.indexCast v1
  let v3 : BitVec 32 := pf.at 2 (Rect.unit (s := S25) ![v2.toNat] S1.size (k0_off1_inb i 3)) numel1_S1
  let c0_i32 : BitVec 32 := 0#32
  let c0_i32_0 : BitVec 32 := 0#32
  ![v3.toNat, c0_i32.toNat, arg0.toNat]

def cc0_transform_14 (k0_off1_inb : ∀ i : grid0.Coords, ∀ (r : Fin 5), ∀ a, (k0_off1 i (BitVec.ofNat 32 r.val)) a + S1.size a ≤ S25.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c5_i32 : BitVec 32 := 5#32
  let v0 : BitVec 32 := Scalar.muli arg1 c5_i32
  let c4_i32 : BitVec 32 := 4#32
  let v1 : BitVec 32 := Scalar.addi v0 c4_i32
  let v2 : Index := Scalar.indexCast v1
  let v3 : BitVec 32 := pf.at 2 (Rect.unit (s := S25) ![v2.toNat] S1.size (k0_off1_inb i 4)) numel1_S1
  let c0_i32 : BitVec 32 := 0#32
  let c0_i32_0 : BitVec 32 := 0#32
  ![v3.toNat, c0_i32.toNat, arg0.toNat]

def cc0_transform_15 (k0_off1_inb : ∀ i : grid0.Coords, ∀ (r : Fin 5), ∀ a, (k0_off1 i (BitVec.ofNat 32 r.val)) a + S1.size a ≤ S25.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c5_i32 : BitVec 32 := 5#32
  let v0 : BitVec 32 := Scalar.muli arg1 c5_i32
  let c0_i32 : BitVec 32 := 0#32
  let v1 : BitVec 32 := Scalar.addi v0 c0_i32
  let v2 : Index := Scalar.indexCast v1
  let v3 : BitVec 32 := pf.at 2 (Rect.unit (s := S25) ![v2.toNat] S1.size (k0_off1_inb i 0)) numel1_S1
  let c0_i32_0 : BitVec 32 := 0#32
  let c0_i32_1 : BitVec 32 := 0#32
  ![v3.toNat, c0_i32_0.toNat, arg0.toNat]

def cc0_transform_16 (k0_off1_inb : ∀ i : grid0.Coords, ∀ (r : Fin 5), ∀ a, (k0_off1 i (BitVec.ofNat 32 r.val)) a + S1.size a ≤ S25.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c5_i32 : BitVec 32 := 5#32
  let v0 : BitVec 32 := Scalar.muli arg1 c5_i32
  let c1_i32 : BitVec 32 := 1#32
  let v1 : BitVec 32 := Scalar.addi v0 c1_i32
  let v2 : Index := Scalar.indexCast v1
  let v3 : BitVec 32 := pf.at 2 (Rect.unit (s := S25) ![v2.toNat] S1.size (k0_off1_inb i 1)) numel1_S1
  let c0_i32 : BitVec 32 := 0#32
  let c0_i32_0 : BitVec 32 := 0#32
  ![v3.toNat, c0_i32.toNat, arg0.toNat]

def cc0_transform_17 (k0_off1_inb : ∀ i : grid0.Coords, ∀ (r : Fin 5), ∀ a, (k0_off1 i (BitVec.ofNat 32 r.val)) a + S1.size a ≤ S25.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c5_i32 : BitVec 32 := 5#32
  let v0 : BitVec 32 := Scalar.muli arg1 c5_i32
  let c2_i32 : BitVec 32 := 2#32
  let v1 : BitVec 32 := Scalar.addi v0 c2_i32
  let v2 : Index := Scalar.indexCast v1
  let v3 : BitVec 32 := pf.at 2 (Rect.unit (s := S25) ![v2.toNat] S1.size (k0_off1_inb i 2)) numel1_S1
  let c0_i32 : BitVec 32 := 0#32
  let c0_i32_0 : BitVec 32 := 0#32
  ![v3.toNat, c0_i32.toNat, arg0.toNat]

def cc0_transform_18 (k0_off1_inb : ∀ i : grid0.Coords, ∀ (r : Fin 5), ∀ a, (k0_off1 i (BitVec.ofNat 32 r.val)) a + S1.size a ≤ S25.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c5_i32 : BitVec 32 := 5#32
  let v0 : BitVec 32 := Scalar.muli arg1 c5_i32
  let c3_i32 : BitVec 32 := 3#32
  let v1 : BitVec 32 := Scalar.addi v0 c3_i32
  let v2 : Index := Scalar.indexCast v1
  let v3 : BitVec 32 := pf.at 2 (Rect.unit (s := S25) ![v2.toNat] S1.size (k0_off1_inb i 3)) numel1_S1
  let c0_i32 : BitVec 32 := 0#32
  let c0_i32_0 : BitVec 32 := 0#32
  ![v3.toNat, c0_i32.toNat, arg0.toNat]

def cc0_transform_19 (k0_off1_inb : ∀ i : grid0.Coords, ∀ (r : Fin 5), ∀ a, (k0_off1 i (BitVec.ofNat 32 r.val)) a + S1.size a ≤ S25.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c5_i32 : BitVec 32 := 5#32
  let v0 : BitVec 32 := Scalar.muli arg1 c5_i32
  let c4_i32 : BitVec 32 := 4#32
  let v1 : BitVec 32 := Scalar.addi v0 c4_i32
  let v2 : Index := Scalar.indexCast v1
  let v3 : BitVec 32 := pf.at 2 (Rect.unit (s := S25) ![v2.toNat] S1.size (k0_off1_inb i 4)) numel1_S1
  let c0_i32 : BitVec 32 := 0#32
  let c0_i32_0 : BitVec 32 := 0#32
  ![v3.toNat, c0_i32.toNat, arg0.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

abbrev stage0_0 : Fin 1 → Memref sig .tc .vmem S96x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S24x16x3584 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S24x4x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S24x4x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S3584x512 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S3584x512 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S24x1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S24x1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x112x512 .i32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x112x512 .i32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x112x512 .i32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x112x512 .i32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x112x512 .i32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x112x512 .i32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x112x512 .i32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x112x512 .i32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x112x512 .i32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x112x512 .i32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S24x4x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, false]
-- ==== GateUpRefIdeal.lean ====
abbrev S24x4x3584 : Shape := ⟨3, ![24, 4, 3584]⟩
abbrev S24x4x1 : Shape := ⟨3, ![24, 4, 1]⟩
abbrev S24 : Shape := ⟨1, ![24]⟩
abbrev S3584x18944 : Shape := ⟨2, ![3584, 18944]⟩
abbrev S18944 : Shape := ⟨1, ![18944]⟩
abbrev S24x112x18944 : Shape := ⟨3, ![24, 112, 18944]⟩
abbrev S24x18944 : Shape := ⟨2, ![24, 18944]⟩
abbrev S24x4x18944 : Shape := ⟨3, ![24, 4, 18944]⟩
abbrev S1x1x18944 : Shape := ⟨3, ![1, 1, 18944]⟩
abbrev S24x1x18944 : Shape := ⟨3, ![24, 1, 18944]⟩
abbrev S32 : Shape := ⟨1, ![32]⟩
abbrev S1x1x32x1 : Shape := ⟨4, ![1, 1, 32, 1]⟩
abbrev S24x112x1x18944 : Shape := ⟨4, ![24, 112, 1, 18944]⟩
abbrev S24x112x32x18944 : Shape := ⟨4, ![24, 112, 32, 18944]⟩
abbrev S_ : Shape := ⟨0, ![]⟩
abbrev S24x3584x18944 : Shape := ⟨3, ![24, 3584, 18944]⟩
abbrev S24x1x1 : Shape := ⟨3, ![24, 1, 1]⟩

abbrev nBuf : Space → Nat
  | .hbm => 99
  | .vmem => 0
  | .smem => 0
  | _ => 0

abbrev bufTy : (tb : Table) → Fin (tcTables nBuf tb) → BufTy
  | .hbm, ⟨0, _⟩ => ⟨S24x4x3584, .i8⟩
  | .hbm, ⟨1, _⟩ => ⟨S24x4x1, .f32⟩
  | .hbm, ⟨2, _⟩ => ⟨S24, .i32⟩
  | .hbm, ⟨3, _⟩ => ⟨S3584x18944, .i8⟩
  | .hbm, ⟨4, _⟩ => ⟨S18944, .f32⟩
  | .hbm, ⟨5, _⟩ => ⟨S3584x18944, .i8⟩
  | .hbm, ⟨6, _⟩ => ⟨S18944, .f32⟩
  | .hbm, ⟨7, _⟩ => ⟨S24x112x18944, .i32⟩
  | .hbm, ⟨8, _⟩ => ⟨S24x112x18944, .i32⟩
  | .hbm, ⟨9, _⟩ => ⟨S24x18944, .f32⟩
  | .hbm, ⟨10, _⟩ => ⟨S24x18944, .f32⟩
  | .hbm, ⟨11, _⟩ => ⟨S24x4x3584, .i32⟩
  | .hbm, ⟨12, _⟩ => ⟨S24x4x3584, .f32⟩
  | .hbm, ⟨13, _⟩ => ⟨S24x4x3584, .bf16⟩
  | .hbm, ⟨14, _⟩ => ⟨S3584x18944, .i32⟩
  | .hbm, ⟨15, _⟩ => ⟨S3584x18944, .f32⟩
  | .hbm, ⟨16, _⟩ => ⟨S3584x18944, .bf16⟩
  | .hbm, ⟨17, _⟩ => ⟨S24x4x18944, .f32⟩
  | .hbm, ⟨18, _⟩ => ⟨S1x1x18944, .f32⟩
  | .hbm, ⟨19, _⟩ => ⟨S24x4x18944, .f32⟩
  | .hbm, ⟨20, _⟩ => ⟨S24x4x18944, .f32⟩
  | .hbm, ⟨21, _⟩ => ⟨S24x1x18944, .f32⟩
  | .hbm, ⟨22, _⟩ => ⟨S32, .i32⟩
  | .hbm, ⟨23, _⟩ => ⟨S1x1x32x1, .i32⟩
  | .hbm, ⟨24, _⟩ => ⟨S24x112x1x18944, .i32⟩
  | .hbm, ⟨25, _⟩ => ⟨S24x112x32x18944, .i32⟩
  | .hbm, ⟨26, _⟩ => ⟨S24x112x32x18944, .i32⟩
  | .hbm, ⟨27, _⟩ => ⟨S24x112x32x18944, .i32⟩
  | .hbm, ⟨28, _⟩ => ⟨S_, .i32⟩
  | .hbm, ⟨29, _⟩ => ⟨S24x112x32x18944, .i32⟩
  | .hbm, ⟨30, _⟩ => ⟨S24x112x32x18944, .i32⟩
  | .hbm, ⟨31, _⟩ => ⟨S_, .i32⟩
  | .hbm, ⟨32, _⟩ => ⟨S24x112x32x18944, .i32⟩
  | .hbm, ⟨33, _⟩ => ⟨S24x112x32x18944, .i1⟩
  | .hbm, ⟨34, _⟩ => ⟨S_, .f32⟩
  | .hbm, ⟨35, _⟩ => ⟨S_, .f32⟩
  | .hbm, ⟨36, _⟩ => ⟨S24x112x32x18944, .f32⟩
  | .hbm, ⟨37, _⟩ => ⟨S24x112x32x18944, .f32⟩
  | .hbm, ⟨38, _⟩ => ⟨S24x112x32x18944, .f32⟩
  | .hbm, ⟨39, _⟩ => ⟨S24x112x32x18944, .bf16⟩
  | .hbm, ⟨40, _⟩ => ⟨S24x3584x18944, .bf16⟩
  | .hbm, ⟨41, _⟩ => ⟨S24x4x18944, .f32⟩
  | .hbm, ⟨42, _⟩ => ⟨S24x4x18944, .f32⟩
  | .hbm, ⟨43, _⟩ => ⟨S24x4x18944, .f32⟩
  | .hbm, ⟨44, _⟩ => ⟨S24x4x18944, .f32⟩
  | .hbm, ⟨45, _⟩ => ⟨S24x4x18944, .f32⟩
  | .hbm, ⟨46, _⟩ => ⟨S24x4x18944, .f32⟩
  | .hbm, ⟨47, _⟩ => ⟨S3584x18944, .i32⟩
  | .hbm, ⟨48, _⟩ => ⟨S3584x18944, .f32⟩
  | .hbm, ⟨49, _⟩ => ⟨S3584x18944, .bf16⟩
  | .hbm, ⟨50, _⟩ => ⟨S24x4x18944, .f32⟩
  | .hbm, ⟨51, _⟩ => ⟨S1x1x18944, .f32⟩
  | .hbm, ⟨52, _⟩ => ⟨S24x4x18944, .f32⟩
  | .hbm, ⟨53, _⟩ => ⟨S24x4x18944, .f32⟩
  | .hbm, ⟨54, _⟩ => ⟨S24x1x18944, .f32⟩
  | .hbm, ⟨55, _⟩ => ⟨S32, .i32⟩
  | .hbm, ⟨56, _⟩ => ⟨S1x1x32x1, .i32⟩
  | .hbm, ⟨57, _⟩ => ⟨S24x112x1x18944, .i32⟩
  | .hbm, ⟨58, _⟩ => ⟨S24x112x32x18944, .i32⟩
  | .hbm, ⟨59, _⟩ => ⟨S24x112x32x18944, .i32⟩
  | .hbm, ⟨60, _⟩ => ⟨S24x112x32x18944, .i32⟩
  | .hbm, ⟨61, _⟩ => ⟨S_, .i32⟩
  | .hbm, ⟨62, _⟩ => ⟨S24x112x32x18944, .i32⟩
  | .hbm, ⟨63, _⟩ => ⟨S24x112x32x18944, .i32⟩
  | .hbm, ⟨64, _⟩ => ⟨S_, .i32⟩
  | .hbm, ⟨65, _⟩ => ⟨S24x112x32x18944, .i32⟩
  | .hbm, ⟨66, _⟩ => ⟨S24x112x32x18944, .i1⟩
  | .hbm, ⟨67, _⟩ => ⟨S_, .f32⟩
  | .hbm, ⟨68, _⟩ => ⟨S_, .f32⟩
  | .hbm, ⟨69, _⟩ => ⟨S24x112x32x18944, .f32⟩
  | .hbm, ⟨70, _⟩ => ⟨S24x112x32x18944, .f32⟩
  | .hbm, ⟨71, _⟩ => ⟨S24x112x32x18944, .f32⟩
  | .hbm, ⟨72, _⟩ => ⟨S24x112x32x18944, .bf16⟩
  | .hbm, ⟨73, _⟩ => ⟨S24x3584x18944, .bf16⟩
  | .hbm, ⟨74, _⟩ => ⟨S24x4x18944, .f32⟩
  | .hbm, ⟨75, _⟩ => ⟨S24x4x18944, .f32⟩
  | .hbm, ⟨76, _⟩ => ⟨S24x4x18944, .f32⟩
  | .hbm, ⟨77, _⟩ => ⟨S24x4x18944, .f32⟩
  | .hbm, ⟨78, _⟩ => ⟨S24x4x18944, .f32⟩
  | .hbm, ⟨79, _⟩ => ⟨S24x4x18944, .f32⟩
  | .hbm, ⟨80, _⟩ => ⟨S24x4x18944, .f32⟩
  | .hbm, ⟨81, _⟩ => ⟨S24x4x18944, .f32⟩
  | .hbm, ⟨82, _⟩ => ⟨S_, .f32⟩
  | .hbm, ⟨83, _⟩ => ⟨S24x4x18944, .f32⟩
  | .hbm, ⟨84, _⟩ => ⟨S24x4x18944, .f32⟩
  | .hbm, ⟨85, _⟩ => ⟨S_, .f32⟩
  | .hbm, ⟨86, _⟩ => ⟨S24x4x18944, .f32⟩
  | .hbm, ⟨87, _⟩ => ⟨S24x4x18944, .f32⟩
  | .hbm, ⟨88, _⟩ => ⟨S24x4x18944, .f32⟩
  | .hbm, ⟨89, _⟩ => ⟨S24x4x18944, .f32⟩
  | .hbm, ⟨90, _⟩ => ⟨S_, .i32⟩
  | .hbm, ⟨91, _⟩ => ⟨S24, .i32⟩
  | .hbm, ⟨92, _⟩ => ⟨S24, .i1⟩
  | .hbm, ⟨93, _⟩ => ⟨S24x1x1, .i1⟩
  | .hbm, ⟨94, _⟩ => ⟨S_, .f32⟩
  | .hbm, ⟨95, _⟩ => ⟨S_, .f32⟩
  | .hbm, ⟨96, _⟩ => ⟨S24x4x18944, .i1⟩
  | .hbm, ⟨97, _⟩ => ⟨S24x4x18944, .f32⟩
  | .hbm, ⟨98, _⟩ => ⟨S24x4x18944, .f32⟩
  | _, _ => ⟨S24x4x3584, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c : Ref sig .tc := ⟨.hbm, 28, rfl⟩
abbrev main_v17 : Ref sig .tc := ⟨.hbm, 29, rfl⟩
abbrev main_v18 : Ref sig .tc := ⟨.hbm, 30, rfl⟩
abbrev main_c_0 : Ref sig .tc := ⟨.hbm, 31, rfl⟩
abbrev main_v19 : Ref sig .tc := ⟨.hbm, 32, rfl⟩
abbrev main_v20 : Ref sig .tc := ⟨.hbm, 33, rfl⟩
abbrev main_cst : Ref sig .tc := ⟨.hbm, 34, rfl⟩
abbrev main_cst_1 : Ref sig .tc := ⟨.hbm, 35, rfl⟩
abbrev main_call0_v0 : Ref sig .tc := ⟨.hbm, 36, rfl⟩
abbrev main_call0_v1 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_c_2 : Ref sig .tc := ⟨.hbm, 61, rfl⟩
abbrev main_v44 : Ref sig .tc := ⟨.hbm, 62, rfl⟩
abbrev main_v45 : Ref sig .tc := ⟨.hbm, 63, rfl⟩
abbrev main_c_3 : Ref sig .tc := ⟨.hbm, 64, rfl⟩
abbrev main_v46 : Ref sig .tc := ⟨.hbm, 65, rfl⟩
abbrev main_v47 : Ref sig .tc := ⟨.hbm, 66, rfl⟩
abbrev main_cst_4 : Ref sig .tc := ⟨.hbm, 67, rfl⟩
abbrev main_cst_5 : Ref sig .tc := ⟨.hbm, 68, rfl⟩
abbrev main_call1_v0 : Ref sig .tc := ⟨.hbm, 69, rfl⟩
abbrev main_call1_v1 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_6 : Ref sig .tc := ⟨.hbm, 82, rfl⟩
abbrev main_v59 : Ref sig .tc := ⟨.hbm, 83, rfl⟩
abbrev main_v60 : Ref sig .tc := ⟨.hbm, 84, rfl⟩
abbrev main_cst_7 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_c_8 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_9 : Ref sig .tc := ⟨.hbm, 94, rfl⟩
abbrev main_call2_v0 : Ref sig .tc := ⟨.hbm, 95, rfl⟩
abbrev main_call2_v1 : Ref sig .tc := ⟨.hbm, 96, rfl⟩
abbrev main_call2_v2 : Ref sig .tc := ⟨.hbm, 97, rfl⟩
abbrev main_v68 : Ref sig .tc := ⟨.hbm, 98, rfl⟩

abbrev nD : Nat := 1
abbrev τ : Topo := Topo.v7x

variable {F : FTy → Type} [FloatOps F]
-- ==== Proof.GateUpKit.lean ====
/-
  The program up to its one region: the arrays' contents there, each argument as launched, the prefetched tables, and
  each window's block at a point.
-/
module

public import proofs.«01_k».proof.Proof.Gen.GateUp.Launch
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.GateUp.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`, `hostOps0_3`, `hostOps0_4`, `hostOps0_5`, `hostOps0_6`, `hostOps0_7`, `hostOps0_8`, `hostOps0_9`, `hostOps0_10`. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9, hostOps0_10]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2, hostOps0_3, hostOps0_4, hostOps0_5, hostOps0_6, hostOps0_7, hostOps0_8, hostOps0_9, hostOps0_10] (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 3) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S24 .i32 := Memref.whole main_v2
abbrev htbM0_0 : tbM0_0.IsWhole := Memref.isWhole_whole _
abbrev tbM0_1 : Memref sig .tc .smem S1 .i32 := Memref.whole main_v7
abbrev htbM0_1 : tbM0_1.IsWhole := Memref.isWhole_whole _
abbrev tbM0_2 : Memref sig .tc .smem S25 .i32 := Memref.whole main_v48
abbrev htbM0_2 : tbM0_2.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

end Cert.GateUp.Gen

end
-- ==== Proof.GateUpBody.lean ====
/-
  The body of `cc0_gate_up` as two programs run one after the other: `bodyA`, the start of a tile (clear the output
  block, form the base products of all tenants and keep their rows), and `bodyB`, the work on one group of five tenants.
-/
module

public import proofs.«01_k».proof.Proof.Gen.GateUp.Skeleton
public import proofs.«01_k».proof.Proof.Gen.GateUp.Launch

@[expose] public section

set_option maxRecDepth 16384

noncomputable section

namespace Cert.GateUp.Gen

open Idealize.ShloMosaic Idealize.SL.Sem

variable {F : FTy → Type} [FloatOps F]

set_option cleanup.letToHave false in set_option maxHeartbeats 40000000 in
/-- The start of a tile. -/
def bodyA (i : grid0.Coords) (arg2 : Memref sig .tc .smem S24 .i32) (harg2 : arg2.IsWhole) (arg3 : Memref sig .tc .smem S1 .i32) (harg3 : arg3.IsWhole) (arg4 : Memref sig .tc .smem S25 .i32) (harg4 : arg4.IsWhole) (arg5 : Memref sig .tc .vmem S96x3584 .bf16) (harg5 : arg5.IsWhole) (arg6 : Memref sig .tc .vmem S24x16x3584 .bf16) (harg6 : arg6.IsWhole) (arg7 : Memref sig .tc .vmem S24x4x1 .f32) (harg7 : arg7.IsWhole) (arg8 : Memref sig .tc .vmem S24x4x1 .f32) (harg8 : arg8.IsWhole) (arg9 : Memref sig .tc .vmem S3584x512 .i8) (harg9 : arg9.IsWhole) (arg10 : Memref sig .tc .vmem S3584x512 .i8) (harg10 : arg10.IsWhole) (arg11 : Memref sig .tc .vmem S1x512 .f32) (harg11 : arg11.IsWhole) (arg12 : Memref sig .tc .vmem S1x512 .f32) (harg12 : arg12.IsWhole) (arg13 : Memref sig .tc .vmem S24x1x512 .f32) (harg13 : arg13.IsWhole) (arg14 : Memref sig .tc .vmem S24x1x512 .f32) (harg14 : arg14.IsWhole) (arg15 : Memref sig .tc .vmem S1x112x512 .i32) (harg15 : arg15.IsWhole) (arg16 : Memref sig .tc .vmem S1x112x512 .i32) (harg16 : arg16.IsWhole) (arg17 : Memref sig .tc .vmem S1x112x512 .i32) (harg17 : arg17.IsWhole) (arg18 : Memref sig .tc .vmem S1x112x512 .i32) (harg18 : arg18.IsWhole) (arg19 : Memref sig .tc .vmem S1x112x512 .i32) (harg19 : arg19.IsWhole) (arg20 : Memref sig .tc .vmem S1x112x512 .i32) (harg20 : arg20.IsWhole) (arg21 : Memref sig .tc .vmem S1x112x512 .i32) (harg21 : arg21.IsWhole) (arg22 : Memref sig .tc .vmem S1x112x512 .i32) (harg22 : arg22.IsWhole) (arg23 : Memref sig .tc .vmem S1x112x512 .i32) (harg23 : arg23.IsWhole) (arg24 : Memref sig .tc .vmem S1x112x512 .i32) (harg24 : arg24.IsWhole) (arg25 : Memref sig .tc .vmem S24x4x512 .f32) (harg25 : arg25.IsWhole) (arg26 : Memref sig .tc .vmem S24x8x512 .f32) (harg26 : arg26.IsWhole) (arg27 : Memref sig .tc .vmem S24x8x512 .f32) (harg27 : arg27.IsWhole) :
    Prog (TpuEff nD τ sig (Elt F) Λ₀ .tc) PUnit := do
  let arg1 : BitVec 32 := BitVec.ofNat 32 (i 1).val
  if k0_h1 : k0_cond1 i = 1#1 then do
    let ⟨v14, v35⟩ : Σ' (v14 : FVec F S96x512 .f32), FVec F S4x512 .f32 ← k0_part1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27
    let v66 : FVec F S1x4x512 .f32 ← k0_part2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v14 v35
    let v95 : FVec F S4x512 .f32 ← k0_part3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v14 v66
    let ⟨v115, v124, v125⟩ : Σ' (v115 : FVec F S96x512 .f32) (v124 : FVec F S4x512 .f32), Vec F S1x4x512 .f32 ← k0_part4 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v14 v95
    let v156 : FVec F S4x512 .f32 ← k0_part5 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v115 v124 v125
    let ⟨v184, v185⟩ : Σ' (v184 : FVec F S4x512 .f32), Vec F S1x4x512 .f32 ← k0_part6 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v115 v156
    Prog.lift (.store arg27 (Rect.unit (s := S24x8x512) ![17, 0, 0] S1x4x512.size inb_S24x8x512_S1x4x512_17_0_0) (k0_pay1 v184) Finset.univ (View.stores_vmem_bits_univ h_S1x4x512 rfl) (.inl rfl))
    let v189 : Vec F S1x4x512 .f32 ← Prog.lift (.load arg27 (Rect.unit (s := S24x8x512) ![18, 0, 0] S1x4x512.size inb_S24x8x512_S1x4x512_18_0_0).toLoadRect (View.loadsAt_vmem h_S1x4x512))
    Prog.lift (.store arg27 (Rect.unit (s := S24x8x512) ![18, 0, 0] S1x4x512.size inb_S24x8x512_S1x4x512_18_0_0) (k0_pay2 v115) Finset.univ (View.stores_vmem_bits_univ h_S1x4x512 rfl) (.inl rfl))
    let v193 : Vec F S1x4x512 .f32 ← Prog.lift (.load arg27 (Rect.unit (s := S24x8x512) ![19, 0, 0] S1x4x512.size inb_S24x8x512_S1x4x512_19_0_0).toLoadRect (View.loadsAt_vmem h_S1x4x512))
    Prog.lift (.store arg27 (Rect.unit (s := S24x8x512) ![19, 0, 0] S1x4x512.size inb_S24x8x512_S1x4x512_19_0_0) (k0_pay3 v115) Finset.univ (View.stores_vmem_bits_univ h_S1x4x512 rfl) (.inl rfl))
    let v197 : Vec F S1x4x512 .f32 ← Prog.lift (.load arg27 (Rect.unit (s := S24x8x512) ![20, 0, 0] S1x4x512.size inb_S24x8x512_S1x4x512_20_0_0).toLoadRect (View.loadsAt_vmem h_S1x4x512))
    Prog.lift (.store arg27 (Rect.unit (s := S24x8x512) ![20, 0, 0] S1x4x512.size inb_S24x8x512_S1x4x512_20_0_0) (k0_pay4 v115) Finset.univ (View.stores_vmem_bits_univ h_S1x4x512 rfl) (.inl rfl))
    let v201 : Vec F S1x4x512 .f32 ← Prog.lift (.load arg27 (Rect.unit (s := S24x8x512) ![21, 0, 0] S1x4x512.size inb_S24x8x512_S1x4x512_21_0_0).toLoadRect (View.loadsAt_vmem h_S1x4x512))
    Prog.lift (.store arg27 (Rect.unit (s := S24x8x512) ![21, 0, 0] S1x4x512.size inb_S24x8x512_S1x4x512_21_0_0) (k0_pay5 v115) Finset.univ (View.stores_vmem_bits_univ h_S1x4x512 rfl) (.inl rfl))
    let v205 : Vec F S1x4x512 .f32 ← Prog.lift (.load arg27 (Rect.unit (s := S24x8x512) ![22, 0, 0] S1x4x512.size inb_S24x8x512_S1x4x512_22_0_0).toLoadRect (View.loadsAt_vmem h_S1x4x512))
    Prog.lift (.store arg27 (Rect.unit (s := S24x8x512) ![22, 0, 0] S1x4x512.size inb_S24x8x512_S1x4x512_22_0_0) (k0_pay6 v115) Finset.univ (View.stores_vmem_bits_univ h_S1x4x512 rfl) (.inl rfl))
    let v209 : Vec F S1x4x512 .f32 ← Prog.lift (.load arg27 (Rect.unit (s := S24x8x512) ![23, 0, 0] S1x4x512.size inb_S24x8x512_S1x4x512_23_0_0).toLoadRect (View.loadsAt_vmem h_S1x4x512))
    Prog.lift (.store arg27 (Rect.unit (s := S24x8x512) ![23, 0, 0] S1x4x512.size inb_S24x8x512_S1x4x512_23_0_0) (k0_pay7 v115) Finset.univ (View.stores_vmem_bits_univ h_S1x4x512 rfl) (.inl rfl))
    pure ⟨⟩
  else do
    pure ⟨⟩

set_option cleanup.letToHave false in set_option maxHeartbeats 40000000 in
/-- One group of tenants. -/
def bodyB (i : grid0.Coords) (arg2 : Memref sig .tc .smem S24 .i32) (harg2 : arg2.IsWhole) (arg3 : Memref sig .tc .smem S1 .i32) (harg3 : arg3.IsWhole) (arg4 : Memref sig .tc .smem S25 .i32) (harg4 : arg4.IsWhole) (arg5 : Memref sig .tc .vmem S96x3584 .bf16) (harg5 : arg5.IsWhole) (arg6 : Memref sig .tc .vmem S24x16x3584 .bf16) (harg6 : arg6.IsWhole) (arg7 : Memref sig .tc .vmem S24x4x1 .f32) (harg7 : arg7.IsWhole) (arg8 : Memref sig .tc .vmem S24x4x1 .f32) (harg8 : arg8.IsWhole) (arg9 : Memref sig .tc .vmem S3584x512 .i8) (harg9 : arg9.IsWhole) (arg10 : Memref sig .tc .vmem S3584x512 .i8) (harg10 : arg10.IsWhole) (arg11 : Memref sig .tc .vmem S1x512 .f32) (harg11 : arg11.IsWhole) (arg12 : Memref sig .tc .vmem S1x512 .f32) (harg12 : arg12.IsWhole) (arg13 : Memref sig .tc .vmem S24x1x512 .f32) (harg13 : arg13.IsWhole) (arg14 : Memref sig .tc .vmem S24x1x512 .f32) (harg14 : arg14.IsWhole) (arg15 : Memref sig .tc .vmem S1x112x512 .i32) (harg15 : arg15.IsWhole) (arg16 : Memref sig .tc .vmem S1x112x512 .i32) (harg16 : arg16.IsWhole) (arg17 : Memref sig .tc .vmem S1x112x512 .i32) (harg17 : arg17.IsWhole) (arg18 : Memref sig .tc .vmem S1x112x512 .i32) (harg18 : arg18.IsWhole) (arg19 : Memref sig .tc .vmem S1x112x512 .i32) (harg19 : arg19.IsWhole) (arg20 : Memref sig .tc .vmem S1x112x512 .i32) (harg20 : arg20.IsWhole) (arg21 : Memref sig .tc .vmem S1x112x512 .i32) (harg21 : arg21.IsWhole) (arg22 : Memref sig .tc .vmem S1x112x512 .i32) (harg22 : arg22.IsWhole) (arg23 : Memref sig .tc .vmem S1x112x512 .i32) (harg23 : arg23.IsWhole) (arg24 : Memref sig .tc .vmem S1x112x512 .i32) (harg24 : arg24.IsWhole) (arg25 : Memref sig .tc .vmem S24x4x512 .f32) (harg25 : arg25.IsWhole) (arg26 : Memref sig .tc .vmem S24x8x512 .f32) (harg26 : arg26.IsWhole) (arg27 : Memref sig .tc .vmem S24x8x512 .f32) (harg27 : arg27.IsWhole) :
    Prog (TpuEff nD τ sig (Elt F) Λ₀ .tc) PUnit := do
  let arg1 : BitVec 32 := BitVec.ofNat 32 (i 1).val
  let v4 : Elt F .i32 ← smemLoad arg3 (Rect.unit (s := S1) ![0] S1.size inb_S1_S1_0) numel1_S1 rfl
  if k0_h2 : k0_cond2 i v4 = 1#1 then do
    let ⟨v1926, k0_hw6, v1929, v2382, v2541, v2543, v2546, v2549, v2552, v2555, v2556⟩ : Σ' (v1926 : Elt F .i32) (k0_hw6 : k0_chk6 i v4 v1926) (v1929 : FVec F S16x3584 .bf16) (v2382 : FVec F S4x512 .f32) (v2541 : FVec F S16x512 .f32) (v2543 : IVec S8x512 32) (v2546 : FVec F S32x512 .fp8e4m3) (v2549 : FVec F S32x512 .fp8e4m3) (v2552 : FVec F S32x512 .fp8e4m3) (v2555 : FVec F S32x512 .fp8e4m3), IVec S8x512 32 ← k0_part119 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v4 k0_h2
    let ⟨v3838, k0_hw10, v4747, v4750, v4765, v4772⟩ : Σ' (v3838 : Elt F .i32) (k0_hw10 : k0_chk10 i v4 v3838) (v4747 : FVec F S4x512 .f32) (v4750 : FVec F S4x1 .f32) (v4765 : FVec F S4x512 .f32), FVec F S4x512 .f32 ← k0_part120 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v4 k0_h2 v1926 k0_hw6 v1929 v2382 v2541 v2543 v2546 v2549 v2552 v2555 v2556
    let v4774 : Vec F S1x1x512 .f32 ← Prog.lift (.load arg14 (Rect.unit (s := S24x1x512) (k0_off30 v3838) S1x1x512.size (k0_off30_inb i v4 v3838 k0_hw10 k0_h2)).toLoadRect (View.loadsAt_vmem h_S1x1x512))
    let v4785 : Vec F S1x4x512 .f32 ← Prog.lift (.load arg25 (Rect.unit (s := S24x4x512) (k0_off31 v3838) S1x4x512.size (k0_off31_inb i v4 v3838 k0_hw10 k0_h2)).toLoadRect (View.loadsAt_vmem h_S1x4x512))
    Prog.lift (.store arg25 (Rect.unit (s := S24x4x512) (k0_off31 v3838) S1x4x512.size (k0_off31_inb i v4 v3838 k0_hw10 k0_h2)) (k0_pay8 v4747 v4750 v4765 v4772 v4774) Finset.univ (View.stores_vmem_bits_univ h_S1x4x512 rfl) (.inl rfl))
    pure ⟨⟩
  else do
    pure ⟨⟩
  pure ⟨⟩

set_option maxHeartbeats 4000000 in
/-- The body is its two programs one after the other. -/
theorem body_eq (i : grid0.Coords) (arg2 : Memref sig .tc .smem S24 .i32) (harg2 : arg2.IsWhole) (arg3 : Memref sig .tc .smem S1 .i32) (harg3 : arg3.IsWhole) (arg4 : Memref sig .tc .smem S25 .i32) (harg4 : arg4.IsWhole) (arg5 : Memref sig .tc .vmem S96x3584 .bf16) (harg5 : arg5.IsWhole) (arg6 : Memref sig .tc .vmem S24x16x3584 .bf16) (harg6 : arg6.IsWhole) (arg7 : Memref sig .tc .vmem S24x4x1 .f32) (harg7 : arg7.IsWhole) (arg8 : Memref sig .tc .vmem S24x4x1 .f32) (harg8 : arg8.IsWhole) (arg9 : Memref sig .tc .vmem S3584x512 .i8) (harg9 : arg9.IsWhole) (arg10 : Memref sig .tc .vmem S3584x512 .i8) (harg10 : arg10.IsWhole) (arg11 : Memref sig .tc .vmem S1x512 .f32) (harg11 : arg11.IsWhole) (arg12 : Memref sig .tc .vmem S1x512 .f32) (harg12 : arg12.IsWhole) (arg13 : Memref sig .tc .vmem S24x1x512 .f32) (harg13 : arg13.IsWhole) (arg14 : Memref sig .tc .vmem S24x1x512 .f32) (harg14 : arg14.IsWhole) (arg15 : Memref sig .tc .vmem S1x112x512 .i32) (harg15 : arg15.IsWhole) (arg16 : Memref sig .tc .vmem S1x112x512 .i32) (harg16 : arg16.IsWhole) (arg17 : Memref sig .tc .vmem S1x112x512 .i32) (harg17 : arg17.IsWhole) (arg18 : Memref sig .tc .vmem S1x112x512 .i32) (harg18 : arg18.IsWhole) (arg19 : Memref sig .tc .vmem S1x112x512 .i32) (harg19 : arg19.IsWhole) (arg20 : Memref sig .tc .vmem S1x112x512 .i32) (harg20 : arg20.IsWhole) (arg21 : Memref sig .tc .vmem S1x112x512 .i32) (harg21 : arg21.IsWhole) (arg22 : Memref sig .tc .vmem S1x112x512 .i32) (harg22 : arg22.IsWhole) (arg23 : Memref sig .tc .vmem S1x112x512 .i32) (harg23 : arg23.IsWhole) (arg24 : Memref sig .tc .vmem S1x112x512 .i32) (harg24 : arg24.IsWhole) (arg25 : Memref sig .tc .vmem S24x4x512 .f32) (harg25 : arg25.IsWhole) (arg26 : Memref sig .tc .vmem S24x8x512 .f32) (harg26 : arg26.IsWhole) (arg27 : Memref sig .tc .vmem S24x8x512 .f32) (harg27 : arg27.IsWhole) :
    cc0_gate_up (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 =
      (do let _ ← bodyA (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27; bodyB (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) := by
  rw [show cc0_gate_up (F := F) = cc0_gate_up_skel (F := F) from cc0_gate_up_eq_skeleton]
  unfold cc0_gate_up_skel bodyA bodyB
  by_cases h : k0_cond1 i = 1#1
  · simp only [dif_pos h, bind_assoc, pure_bind]
  · simp only [dif_neg h, bind_assoc, pure_bind]

end Cert.GateUp.Gen

end
-- ==== Proof.GateUpRunB.lean ====
/-
  The run of `bodyB` where the group has work: each of the group's five tenants has its output rows written once, from the
  operands' contents; the pieces written are found by the run.
-/
module

public import proofs.«01_k».proof.Proof.GateUpBody
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.GateUp.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 40000000 in
/-- What one group writes into the output block, with the proof that the program runs from its operands to them. -/
def runB (c : Dev nD) (i : grid0.Coords) (arg2 : Memref sig .tc .smem S24 .i32) (harg2 : arg2.IsWhole) (arg3 : Memref sig .tc .smem S1 .i32) (harg3 : arg3.IsWhole) (arg4 : Memref sig .tc .smem S25 .i32) (harg4 : arg4.IsWhole) (arg5 : Memref sig .tc .vmem S96x3584 .bf16) (harg5 : arg5.IsWhole) (arg6 : Memref sig .tc .vmem S24x16x3584 .bf16) (harg6 : arg6.IsWhole) (arg7 : Memref sig .tc .vmem S24x4x1 .f32) (harg7 : arg7.IsWhole) (arg8 : Memref sig .tc .vmem S24x4x1 .f32) (harg8 : arg8.IsWhole) (arg9 : Memref sig .tc .vmem S3584x512 .i8) (harg9 : arg9.IsWhole) (arg10 : Memref sig .tc .vmem S3584x512 .i8) (harg10 : arg10.IsWhole) (arg11 : Memref sig .tc .vmem S1x512 .f32) (harg11 : arg11.IsWhole) (arg12 : Memref sig .tc .vmem S1x512 .f32) (harg12 : arg12.IsWhole) (arg13 : Memref sig .tc .vmem S24x1x512 .f32) (harg13 : arg13.IsWhole) (arg14 : Memref sig .tc .vmem S24x1x512 .f32) (harg14 : arg14.IsWhole) (arg15 : Memref sig .tc .vmem S1x112x512 .i32) (harg15 : arg15.IsWhole) (arg16 : Memref sig .tc .vmem S1x112x512 .i32) (harg16 : arg16.IsWhole) (arg17 : Memref sig .tc .vmem S1x112x512 .i32) (harg17 : arg17.IsWhole) (arg18 : Memref sig .tc .vmem S1x112x512 .i32) (harg18 : arg18.IsWhole) (arg19 : Memref sig .tc .vmem S1x112x512 .i32) (harg19 : arg19.IsWhole) (arg20 : Memref sig .tc .vmem S1x112x512 .i32) (harg20 : arg20.IsWhole) (arg21 : Memref sig .tc .vmem S1x112x512 .i32) (harg21 : arg21.IsWhole) (arg22 : Memref sig .tc .vmem S1x112x512 .i32) (harg22 : arg22.IsWhole) (arg23 : Memref sig .tc .vmem S1x112x512 .i32) (harg23 : arg23.IsWhole) (arg24 : Memref sig .tc .vmem S1x112x512 .i32) (harg24 : arg24.IsWhole) (arg25 : Memref sig .tc .vmem S24x4x512 .f32) (harg25 : arg25.IsWhole) (arg26 : Memref sig .tc .vmem S24x8x512 .f32) (harg26 : arg26.IsWhole) (arg27 : Memref sig .tc .vmem S24x8x512 .f32) (harg27 : arg27.IsWhole)
    (x6 : Vec F S24x16x3584 .bf16) (x7 : Vec F S24x4x1 .f32) (x8 : Vec F S24x4x1 .f32) (x11 : Vec F S1x512 .f32) (x12 : Vec F S1x512 .f32) (x13 : Vec F S24x1x512 .f32) (x14 : Vec F S24x1x512 .f32) (x15 : Vec F S1x112x512 .i32) (x16 : Vec F S1x112x512 .i32) (x17 : Vec F S1x112x512 .i32) (x18 : Vec F S1x112x512 .i32) (x19 : Vec F S1x112x512 .i32) (x20 : Vec F S1x112x512 .i32) (x21 : Vec F S1x112x512 .i32) (x22 : Vec F S1x112x512 .i32) (x23 : Vec F S1x112x512 .i32) (x24 : Vec F S1x112x512 .i32) (x25 : Vec F S24x4x512 .f32) (x26 : Vec F S24x8x512 .f32) (x27 : Vec F S24x8x512 .f32)
    (f2 : Buf (Elt F) (arg2.view.loc (c : Thread nD τ))) (f3 : Buf (Elt F) (arg3.view.loc (c : Thread nD τ)))
    (hc2 : ∀ r y, k0_cond2 i (View.readAt (Elt F) arg3.view r f3 y) = 1#1)
    (hk1 : ∀ r y r' y', k0_chk1 i (View.readAt (Elt F) arg3.view r f3 y) (View.readAt (Elt F) arg3.view r' f3 y'))
    (hk3 : ∀ r y r' y', k0_chk3 i (View.readAt (Elt F) arg3.view r f3 y) (View.readAt (Elt F) arg3.view r' f3 y'))
    (hk5 : ∀ r y r' y', k0_chk5 i (View.readAt (Elt F) arg3.view r f3 y) (View.readAt (Elt F) arg3.view r' f3 y'))
    (hk7 : ∀ r y r' y', k0_chk7 i (View.readAt (Elt F) arg3.view r f3 y) (View.readAt (Elt F) arg3.view r' f3 y'))
    (hk9 : ∀ r y r' y', k0_chk9 i (View.readAt (Elt F) arg3.view r f3 y) (View.readAt (Elt F) arg3.view r' f3 y'))
    (hk2 : ∀ r y r' y', k0_chk2 i (View.readAt (Elt F) arg3.view r f3 y) (View.readAt (Elt F) arg2.view r' f2 y'))
    (hk4 : ∀ r y r' y', k0_chk4 i (View.readAt (Elt F) arg3.view r f3 y) (View.readAt (Elt F) arg2.view r' f2 y'))
    (hk6 : ∀ r y r' y', k0_chk6 i (View.readAt (Elt F) arg3.view r f3 y) (View.readAt (Elt F) arg2.view r' f2 y'))
    (hk8 : ∀ r y r' y', k0_chk8 i (View.readAt (Elt F) arg3.view r f3 y) (View.readAt (Elt F) arg2.view r' f2 y'))
    (hk10 : ∀ r y r' y', k0_chk10 i (View.readAt (Elt F) arg3.view r f3 y) (View.readAt (Elt F) arg2.view r' f2 y'))
 :
    { L : List (View.Piece (Elt F) S24x4x512 .f32) //
      ∀ (q2 q3 q6 q7 q8 q11 q12 q13 q14 q15 q16 q17 q18 q19 q20 q21 q22 q23 q24 : PosShare TreeShare) (E : Set ℕ) (K : PUnit → sProp 𝕄),
        iprop((arg2.view.loc (c : Thread nD τ) ↦{q2} f2) ∗ (arg3.view.loc (c : Thread nD τ) ↦{q3} f3) ∗ (arg6.view.loc (c : Thread nD τ) ↦{q6} harg6.unread x6) ∗ (arg7.view.loc (c : Thread nD τ) ↦{q7} harg7.unread x7) ∗ (arg8.view.loc (c : Thread nD τ) ↦{q8} harg8.unread x8) ∗ (arg11.view.loc (c : Thread nD τ) ↦{q11} harg11.unread x11) ∗ (arg12.view.loc (c : Thread nD τ) ↦{q12} harg12.unread x12) ∗ (arg13.view.loc (c : Thread nD τ) ↦{q13} harg13.unread x13) ∗ (arg14.view.loc (c : Thread nD τ) ↦{q14} harg14.unread x14) ∗ (arg15.view.loc (c : Thread nD τ) ↦{q15} harg15.unread x15) ∗ (arg16.view.loc (c : Thread nD τ) ↦{q16} harg16.unread x16) ∗ (arg17.view.loc (c : Thread nD τ) ↦{q17} harg17.unread x17) ∗ (arg18.view.loc (c : Thread nD τ) ↦{q18} harg18.unread x18) ∗ (arg19.view.loc (c : Thread nD τ) ↦{q19} harg19.unread x19) ∗ (arg20.view.loc (c : Thread nD τ) ↦{q20} harg20.unread x20) ∗ (arg21.view.loc (c : Thread nD τ) ↦{q21} harg21.unread x21) ∗ (arg22.view.loc (c : Thread nD τ) ↦{q22} harg22.unread x22) ∗ (arg23.view.loc (c : Thread nD τ) ↦{q23} harg23.unread x23) ∗ (arg24.view.loc (c : Thread nD τ) ↦{q24} harg24.unread x24) ∗ (arg25.view.loc (c : Thread nD τ) ↦{fullShare} harg25.unread x25) ∗ (arg26.view.loc (c : Thread nD τ) ↦{fullShare} harg26.unread x26) ∗ (arg27.view.loc (c : Thread nD τ) ↦{fullShare} harg27.unread x27) ∗ (iprop((arg2.view.loc (c : Thread nD τ) ↦{q2} f2) ∗ (arg3.view.loc (c : Thread nD τ) ↦{q3} f3) ∗ (arg6.view.loc (c : Thread nD τ) ↦{q6} harg6.unread x6) ∗ (arg7.view.loc (c : Thread nD τ) ↦{q7} harg7.unread x7) ∗ (arg8.view.loc (c : Thread nD τ) ↦{q8} harg8.unread x8) ∗ (arg11.view.loc (c : Thread nD τ) ↦{q11} harg11.unread x11) ∗ (arg12.view.loc (c : Thread nD τ) ↦{q12} harg12.unread x12) ∗ (arg13.view.loc (c : Thread nD τ) ↦{q13} harg13.unread x13) ∗ (arg14.view.loc (c : Thread nD τ) ↦{q14} harg14.unread x14) ∗ (arg15.view.loc (c : Thread nD τ) ↦{q15} harg15.unread x15) ∗ (arg16.view.loc (c : Thread nD τ) ↦{q16} harg16.unread x16) ∗ (arg17.view.loc (c : Thread nD τ) ↦{q17} harg17.unread x17) ∗ (arg18.view.loc (c : Thread nD τ) ↦{q18} harg18.unread x18) ∗ (arg19.view.loc (c : Thread nD τ) ↦{q19} harg19.unread x19) ∗ (arg20.view.loc (c : Thread nD τ) ↦{q20} harg20.unread x20) ∗ (arg21.view.loc (c : Thread nD τ) ↦{q21} harg21.unread x21) ∗ (arg22.view.loc (c : Thread nD τ) ↦{q22} harg22.unread x22) ∗ (arg23.view.loc (c : Thread nD τ) ↦{q23} harg23.unread x23) ∗ (arg24.view.loc (c : Thread nD τ) ↦{q24} harg24.unread x24) ∗ (arg25.view.loc (c : Thread nD τ) ↦{fullShare} arg25.view.writes (Elt F) (harg25.unread x25) L) ∗ (arg26.view.loc (c : Thread nD τ) ↦{fullShare} harg26.unread x26) ∗ (arg27.view.loc (c : Thread nD τ) ↦{fullShare} harg27.unread x27)) -∗ K ⟨⟩))
          ⊢ wp frame (wpE (defs₀ (F := F)) Variants.none c none) E (bodyB (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨?L, fun q2 q3 q6 q7 q8 q11 q12 q13 q14 q15 q16 q17 q18 q19 q20 q21 q22 q23 q24 E K => ?run⟩
  case run =>
    iintro ⟨H2, H3, H6, H7, H8, H11, H12, H13, H14, H15, H16, H17, H18, H19, H20, H21, H22, H23, H24, H25, H26, H27, Hk⟩
    sl_unfold [bodyB]
    sl_exec_parts (disch := first | (guard_target = k0_cond2 _ _ = _; exact hc2 _ _) | (guard_target = k0_chk1 _ _ _; exact hk1 _ _ _ _) | (guard_target = k0_chk2 _ _ _; exact hk2 _ _ _ _) | (guard_target = k0_chk3 _ _ _; exact hk3 _ _ _ _) | (guard_target = k0_chk4 _ _ _; exact hk4 _ _ _ _) | (guard_target = k0_chk5 _ _ _; exact hk5 _ _ _ _) | (guard_target = k0_chk6 _ _ _; exact hk6 _ _ _ _) | (guard_target = k0_chk7 _ _ _; exact hk7 _ _ _ _) | (guard_target = k0_chk8 _ _ _; exact hk8 _ _ _ _) | (guard_target = k0_chk9 _ _ _; exact hk9 _ _ _ _) | (guard_target = k0_chk10 _ _ _; exact hk10 _ _ _ _))
    sl_step
    iapply Hk
    isplitl [H2]; · iexact H2
    isplitl [H3]; · iexact H3
    isplitl [H6]; · iexact H6
    isplitl [H7]; · iexact H7
    isplitl [H8]; · iexact H8
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    iexact H27

end Cert.GateUp.Gen

end
-- ==== Proof.GateUpRows.lean ====
/-
  The group's stored pieces in closed form: the sign expansion of an eight-row word block, the delta product over the
  fourteen chunks of the contraction, and the row a group step writes.
-/
module

public import proofs.«01_k».proof.Proof.GateUpRunB
import all proofs.«01_k».proof.Proof.GateUpRunB
public import Idealize.ShloMosaic.Lib.WholeRead

@[expose] public section

set_option maxRecDepth 16384

noncomputable section

namespace Cert.GateUp.Gen

open Idealize.ShloMosaic Idealize.ShloMosaic.TcCoe
open Idealize.SL Idealize.SL.RA Idealize.SL.BI

variable {F : FTy → Type} [FloatOps F]

/-- The word block read as a matrix of words. -/
def words (v : Vec F S1x8x512 .i32) : IVec S8x512 32 := shapeCast S8x512 v shapeCasts_S1x8x512_S8x512

/-- One masked word block taken apart into its bytes, each read as an eight bit float. -/
def bytes (x : IVec S8x512 32) : FVec F S32x512 .fp8e4m3 :=
  bitcastToFloat .fp8e4m3 (bitcast S32x512 8 x bitcasts_S8x512_w32_S32x512_w8)

/-- A word block expanded: one entry per stored bit, bit `j` of every byte in the block of rows `32 j …`. -/
def expand (v : Vec F S1x8x512 .i32) : FVec F S256x512 .fp8e4m3 :=
  concatenate S256x512 0 [
    ⟨S32x512, bytes (andi (words v) (broadcast S8x512 16843009#32))⟩,
    ⟨S32x512, bytes (andi (words v) (broadcast S8x512 33686018#32))⟩,
    ⟨S32x512, bytes (andi (words v) (broadcast S8x512 67372036#32))⟩,
    ⟨S32x512, bytes (andi (words v) (broadcast S8x512 134744072#32))⟩,
    ⟨S32x512, bytes (andi (words v) (broadcast S8x512 269488144#32))⟩,
    ⟨S32x512, bytes (andi (words v) (broadcast S8x512 538976288#32))⟩,
    ⟨S32x512, bytes (andi (words v) (broadcast S8x512 1077952576#32))⟩,
    ⟨S32x512, bytes (andi (shrui (words v) (broadcast S8x512 1#32)) (broadcast S8x512 1077952576#32))⟩]
    concatenates_S32x512_S32x512_S32x512_S32x512_S32x512_S32x512_S32x512_S32x512_S256x512_d0

/-- One chunk of the contraction. -/
def chunk (qs : FVec F S16x256 .bf16) (v : Vec F S1x8x512 .i32) : FVec F S16x512 .f32 :=
  matmul dot_S16x256_S256x512_S16x512_1_0_0_1_n_n none qs (expand v) (constant S16x512 .f32 0x00000000#32)

/-- The delta product: the chunks added from the first on, the four rows kept, the row sum taken off. -/
def delta (qv : Vec F S1x16x3584 .bf16) (sm : Vec F S1x4x1 .f32)
    (g0 g1 g2 g3 g4 g5 g6 g7 g8 g9 g10 g11 g12 g13 : Vec F S1x8x512 .i32) : FVec F S4x512 .f32 :=
  have q : FVec F S16x3584 .bf16 := shapeCast S16x3584 qv shapeCasts_S1x16x3584_S16x3584
  subf (extractStridedSlice S4x512 ![0, 0] (addf (addf (addf (addf (addf (addf (addf (addf (addf (addf (addf (addf (addf (chunk (extractStridedSlice S16x256 ![0, 0] q slices_S16x3584_o0_0_S16x256) g0)
    (chunk (extractStridedSlice S16x256 ![0, 256] q slices_S16x3584_o0_256_S16x256) g1))
    (chunk (extractStridedSlice S16x256 ![0, 512] q slices_S16x3584_o0_512_S16x256) g2))
    (chunk (extractStridedSlice S16x256 ![0, 768] q slices_S16x3584_o0_768_S16x256) g3))
    (chunk (extractStridedSlice S16x256 ![0, 1024] q slices_S16x3584_o0_1024_S16x256) g4))
    (chunk (extractStridedSlice S16x256 ![0, 1280] q slices_S16x3584_o0_1280_S16x256) g5))
    (chunk (extractStridedSlice S16x256 ![0, 1536] q slices_S16x3584_o0_1536_S16x256) g6))
    (chunk (extractStridedSlice S16x256 ![0, 1792] q slices_S16x3584_o0_1792_S16x256) g7))
    (chunk (extractStridedSlice S16x256 ![0, 2048] q slices_S16x3584_o0_2048_S16x256) g8))
    (chunk (extractStridedSlice S16x256 ![0, 2304] q slices_S16x3584_o0_2304_S16x256) g9))
    (chunk (extractStridedSlice S16x256 ![0, 2560] q slices_S16x3584_o0_2560_S16x256) g10))
    (chunk (extractStridedSlice S16x256 ![0, 2816] q slices_S16x3584_o0_2816_S16x256) g11))
    (chunk (extractStridedSlice S16x256 ![0, 3072] q slices_S16x3584_o0_3072_S16x256) g12))
    (chunk (extractStridedSlice S16x256 ![0, 3328] q slices_S16x3584_o0_3328_S16x256) g13)) slices_S16x512_o0_0_S4x512)
    (broadcastTo S4x512 (shapeCast S4x1 sm shapeCasts_S1x4x1_S4x1) broadcasts_S4x1_S4x512)

/-- One projection of a tenant's rows: the base product rescaled, the delta product rescaled and added, the row scale. -/
def proj (sc : Vec F S1x4x1 .f32) (acc : Vec F S1x4x512 .f32) (ws : Vec F S1x512 .f32) (al : Vec F S1x1x512 .f32)
    (d : FVec F S4x512 .f32) : FVec F S4x512 .f32 :=
  mulf (broadcastTo S4x512 (shapeCast S4x1 sc shapeCasts_S1x4x1_S4x1) broadcasts_S4x1_S4x512)
    (addf (mulf (shapeCast S4x512 acc shapeCasts_S1x4x512_S4x512)
        (broadcastTo S4x512 (shapeCast S1x512 ws shapeCasts_S1x512_S1x512) broadcasts_S1x512_S4x512))
      (mulf (broadcastTo S4x512 (shapeCast S1x512 al shapeCasts_S1x1x512_S1x512) broadcasts_S1x512_S4x512) d))

/-- What a group step stores in a tenant's rows, from the two delta products. -/
def rowOut (sc : Vec F S1x4x1 .f32) (accg accu : Vec F S1x4x512 .f32) (wgs wus : Vec F S1x512 .f32)
    (ag au : Vec F S1x1x512 .f32) (dg du : FVec F S4x512 .f32) : FVec F S1x4x512 .f32 :=
  shapeCast S1x4x512 (mulf (mulf (proj sc accg wgs ag dg) (logistic (proj sc accg wgs ag dg))) (proj sc accu wus au du))
    shapeCasts_S4x512_S1x4x512

/-- The delta product over a tenant's sign window. -/
def deltaM (m : Memref sig .tc .vmem S1x112x512 .i32) (hm : m.IsWhole) (X : Vec F S1x112x512 .i32)
    (qv : Vec F S1x16x3584 .bf16) (sm : Vec F S1x4x1 .f32) : FVec F S4x512 .f32 :=
  delta qv sm
      (View.readAt (Elt F) m.view (Rect.unit (s := S1x112x512) ![0, 0, 0] S1x8x512.size inb_S1x112x512_S1x8x512_0_0_0).toLoadRect (hm.unread X))
      (View.readAt (Elt F) m.view (Rect.unit (s := S1x112x512) ![0, 8, 0] S1x8x512.size inb_S1x112x512_S1x8x512_0_8_0).toLoadRect (hm.unread X))
      (View.readAt (Elt F) m.view (Rect.unit (s := S1x112x512) ![0, 16, 0] S1x8x512.size inb_S1x112x512_S1x8x512_0_16_0).toLoadRect (hm.unread X))
      (View.readAt (Elt F) m.view (Rect.unit (s := S1x112x512) ![0, 24, 0] S1x8x512.size inb_S1x112x512_S1x8x512_0_24_0).toLoadRect (hm.unread X))
      (View.readAt (Elt F) m.view (Rect.unit (s := S1x112x512) ![0, 32, 0] S1x8x512.size inb_S1x112x512_S1x8x512_0_32_0).toLoadRect (hm.unread X))
      (View.readAt (Elt F) m.view (Rect.unit (s := S1x112x512) ![0, 40, 0] S1x8x512.size inb_S1x112x512_S1x8x512_0_40_0).toLoadRect (hm.unread X))
      (View.readAt (Elt F) m.view (Rect.unit (s := S1x112x512) ![0, 48, 0] S1x8x512.size inb_S1x112x512_S1x8x512_0_48_0).toLoadRect (hm.unread X))
      (View.readAt (Elt F) m.view (Rect.unit (s := S1x112x512) ![0, 56, 0] S1x8x512.size inb_S1x112x512_S1x8x512_0_56_0).toLoadRect (hm.unread X))
      (View.readAt (Elt F) m.view (Rect.unit (s := S1x112x512) ![0, 64, 0] S1x8x512.size inb_S1x112x512_S1x8x512_0_64_0).toLoadRect (hm.unread X))
      (View.readAt (Elt F) m.view (Rect.unit (s := S1x112x512) ![0, 72, 0] S1x8x512.size inb_S1x112x512_S1x8x512_0_72_0).toLoadRect (hm.unread X))
      (View.readAt (Elt F) m.view (Rect.unit (s := S1x112x512) ![0, 80, 0] S1x8x512.size inb_S1x112x512_S1x8x512_0_80_0).toLoadRect (hm.unread X))
      (View.readAt (Elt F) m.view (Rect.unit (s := S1x112x512) ![0, 88, 0] S1x8x512.size inb_S1x112x512_S1x8x512_0_88_0).toLoadRect (hm.unread X))
      (View.readAt (Elt F) m.view (Rect.unit (s := S1x112x512) ![0, 96, 0] S1x8x512.size inb_S1x112x512_S1x8x512_0_96_0).toLoadRect (hm.unread X))
      (View.readAt (Elt F) m.view (Rect.unit (s := S1x112x512) ![0, 104, 0] S1x8x512.size inb_S1x112x512_S1x8x512_0_104_0).toLoadRect (hm.unread X))

/-- The piece a group step stores for the tenant `w`. -/
def pieceW (arg6 : Memref sig .tc .vmem S24x16x3584 .bf16) (harg6 : arg6.IsWhole) (x6 : Vec F S24x16x3584 .bf16) (arg7 : Memref sig .tc .vmem S24x4x1 .f32) (harg7 : arg7.IsWhole) (x7 : Vec F S24x4x1 .f32) (arg8 : Memref sig .tc .vmem S24x4x1 .f32) (harg8 : arg8.IsWhole) (x8 : Vec F S24x4x1 .f32) (arg11 : Memref sig .tc .vmem S1x512 .f32) (harg11 : arg11.IsWhole) (x11 : Vec F S1x512 .f32) (arg12 : Memref sig .tc .vmem S1x512 .f32) (harg12 : arg12.IsWhole) (x12 : Vec F S1x512 .f32) (arg13 : Memref sig .tc .vmem S24x1x512 .f32) (harg13 : arg13.IsWhole) (x13 : Vec F S24x1x512 .f32) (arg14 : Memref sig .tc .vmem S24x1x512 .f32) (harg14 : arg14.IsWhole) (x14 : Vec F S24x1x512 .f32) (arg26 : Memref sig .tc .vmem S24x8x512 .f32) (harg26 : arg26.IsWhole) (x26 : Vec F S24x8x512 .f32) (arg27 : Memref sig .tc .vmem S24x8x512 .f32) (harg27 : arg27.IsWhole) (x27 : Vec F S24x8x512 .f32)
    (mg : Memref sig .tc .vmem S1x112x512 .i32) (hmg : mg.IsWhole) (Xg : Vec F S1x112x512 .i32)
    (mu : Memref sig .tc .vmem S1x112x512 .i32) (hmu : mu.IsWhole) (Xu : Vec F S1x112x512 .i32)
    (w : BitVec 32) (hw : w.toNat < 24) : View.Piece (Elt F) S24x4x512 .f32 :=
  have inb (b d : ℕ) (B : ℕ) (hb : b ≤ B) : ∀ a : Fin 3, ![w.toNat, 0, 0] a + ![1, b, d] a ≤ ![24, B, d] a := by
    intro a; fin_cases a <;> simp <;> omega
  have q := (View.readAt (Elt F) arg6.view (Rect.unit (s := S24x16x3584) ![w.toNat, 0, 0] S1x16x3584.size (inb 16 3584 16 le_rfl)).toLoadRect (harg6.unread x6))
  have sm := (View.readAt (Elt F) arg8.view (Rect.unit (s := S24x4x1) ![w.toNat, 0, 0] S1x4x1.size (inb 4 1 4 le_rfl)).toLoadRect (harg8.unread x8))
  ⟨Rect.unit (s := S24x4x512) ![w.toNat, 0, 0] S1x4x512.size (inb 4 512 4 le_rfl),
    rowOut (View.readAt (Elt F) arg7.view (Rect.unit (s := S24x4x1) ![w.toNat, 0, 0] S1x4x1.size (inb 4 1 4 le_rfl)).toLoadRect (harg7.unread x7))
      (View.readAt (Elt F) arg26.view (Rect.unit (s := S24x8x512) ![w.toNat, 0, 0] S1x4x512.size (inb 4 512 8 (by decide))).toLoadRect (harg26.unread x26))
      (View.readAt (Elt F) arg27.view (Rect.unit (s := S24x8x512) ![w.toNat, 0, 0] S1x4x512.size (inb 4 512 8 (by decide))).toLoadRect (harg27.unread x27))
      (View.readAt (Elt F) arg11.view (Rect.unit (s := S1x512) ![0, 0] S1x512.size inb_S1x512_S1x512_0_0).toLoadRect (harg11.unread x11))
      (View.readAt (Elt F) arg12.view (Rect.unit (s := S1x512) ![0, 0] S1x512.size inb_S1x512_S1x512_0_0).toLoadRect (harg12.unread x12))
      (View.readAt (Elt F) arg13.view (Rect.unit (s := S24x1x512) ![w.toNat, 0, 0] S1x1x512.size (inb 1 512 1 le_rfl)).toLoadRect (harg13.unread x13))
      (View.readAt (Elt F) arg14.view (Rect.unit (s := S24x1x512) ![w.toNat, 0, 0] S1x1x512.size (inb 1 512 1 le_rfl)).toLoadRect (harg14.unread x14))
      (deltaM mg hmg Xg q sm) (deltaM mu hmu Xu q sm)⟩

/-- The number of active tenants, as the body reads it. -/
def nWord (arg3 : Memref sig .tc .smem S1 .i32) (f3 : arg3.view.ty.Contents (Elt F)) : BitVec 32 :=
  View.readAt (Elt F) arg3.view (Rect.unit (s := S1) ![0] S1.size inb_S1_S1_0).toLoadRect f3 (Shape.Idx.first (by show 0 < S1.numel; decide))

/-- The tenant word a group step reads from the order table. -/
def tWord (arg2 : Memref sig .tc .smem S24 .i32) (f2 : arg2.view.ty.Contents (Elt F)) (off : Fin 1 → ℕ)
    (inb : ∀ a, off a + S1.size a ≤ S24.size a) : BitVec 32 :=
  View.readAt (Elt F) arg2.view (Rect.unit (s := S24) off S1.size inb).toLoadRect f2 (Shape.Idx.first (by show 0 < S1.numel; decide))

set_option maxHeartbeats 4000000 in
/-- The pieces a group writes, in closed form (the last tenant first). -/
theorem runB_val (c : Dev nD) (i : grid0.Coords) (arg2 : Memref sig .tc .smem S24 .i32) (harg2 : arg2.IsWhole) (arg3 : Memref sig .tc .smem S1 .i32) (harg3 : arg3.IsWhole) (arg4 : Memref sig .tc .smem S25 .i32) (harg4 : arg4.IsWhole) (arg5 : Memref sig .tc .vmem S96x3584 .bf16) (harg5 : arg5.IsWhole) (arg6 : Memref sig .tc .vmem S24x16x3584 .bf16) (harg6 : arg6.IsWhole) (arg7 : Memref sig .tc .vmem S24x4x1 .f32) (harg7 : arg7.IsWhole) (arg8 : Memref sig .tc .vmem S24x4x1 .f32) (harg8 : arg8.IsWhole) (arg9 : Memref sig .tc .vmem S3584x512 .i8) (harg9 : arg9.IsWhole) (arg10 : Memref sig .tc .vmem S3584x512 .i8) (harg10 : arg10.IsWhole) (arg11 : Memref sig .tc .vmem S1x512 .f32) (harg11 : arg11.IsWhole) (arg12 : Memref sig .tc .vmem S1x512 .f32) (harg12 : arg12.IsWhole) (arg13 : Memref sig .tc .vmem S24x1x512 .f32) (harg13 : arg13.IsWhole) (arg14 : Memref sig .tc .vmem S24x1x512 .f32) (harg14 : arg14.IsWhole) (arg15 : Memref sig .tc .vmem S1x112x512 .i32) (harg15 : arg15.IsWhole) (arg16 : Memref sig .tc .vmem S1x112x512 .i32) (harg16 : arg16.IsWhole) (arg17 : Memref sig .tc .vmem S1x112x512 .i32) (harg17 : arg17.IsWhole) (arg18 : Memref sig .tc .vmem S1x112x512 .i32) (harg18 : arg18.IsWhole) (arg19 : Memref sig .tc .vmem S1x112x512 .i32) (harg19 : arg19.IsWhole) (arg20 : Memref sig .tc .vmem S1x112x512 .i32) (harg20 : arg20.IsWhole) (arg21 : Memref sig .tc .vmem S1x112x512 .i32) (harg21 : arg21.IsWhole) (arg22 : Memref sig .tc .vmem S1x112x512 .i32) (harg22 : arg22.IsWhole) (arg23 : Memref sig .tc .vmem S1x112x512 .i32) (harg23 : arg23.IsWhole) (arg24 : Memref sig .tc .vmem S1x112x512 .i32) (harg24 : arg24.IsWhole) (arg25 : Memref sig .tc .vmem S24x4x512 .f32) (harg25 : arg25.IsWhole) (arg26 : Memref sig .tc .vmem S24x8x512 .f32) (harg26 : arg26.IsWhole) (arg27 : Memref sig .tc .vmem S24x8x512 .f32) (harg27 : arg27.IsWhole)
    (x6 : Vec F S24x16x3584 .bf16) (x7 : Vec F S24x4x1 .f32) (x8 : Vec F S24x4x1 .f32) (x11 : Vec F S1x512 .f32) (x12 : Vec F S1x512 .f32) (x13 : Vec F S24x1x512 .f32) (x14 : Vec F S24x1x512 .f32) (x15 : Vec F S1x112x512 .i32) (x16 : Vec F S1x112x512 .i32) (x17 : Vec F S1x112x512 .i32) (x18 : Vec F S1x112x512 .i32) (x19 : Vec F S1x112x512 .i32) (x20 : Vec F S1x112x512 .i32) (x21 : Vec F S1x112x512 .i32) (x22 : Vec F S1x112x512 .i32) (x23 : Vec F S1x112x512 .i32) (x24 : Vec F S1x112x512 .i32) (x25 : Vec F S24x4x512 .f32) (x26 : Vec F S24x8x512 .f32) (x27 : Vec F S24x8x512 .f32)
    (f2 : Buf (Elt F) (arg2.view.loc (c : Thread nD τ))) (f3 : Buf (Elt F) (arg3.view.loc (c : Thread nD τ)))
    (hc2 : ∀ r y, k0_cond2 i (View.readAt (Elt F) arg3.view r f3 y) = 1#1)
    (hk1 : ∀ r y r' y', k0_chk1 i (View.readAt (Elt F) arg3.view r f3 y) (View.readAt (Elt F) arg3.view r' f3 y'))
    (hk3 : ∀ r y r' y', k0_chk3 i (View.readAt (Elt F) arg3.view r f3 y) (View.readAt (Elt F) arg3.view r' f3 y'))
    (hk5 : ∀ r y r' y', k0_chk5 i (View.readAt (Elt F) arg3.view r f3 y) (View.readAt (Elt F) arg3.view r' f3 y'))
    (hk7 : ∀ r y r' y', k0_chk7 i (View.readAt (Elt F) arg3.view r f3 y) (View.readAt (Elt F) arg3.view r' f3 y'))
    (hk9 : ∀ r y r' y', k0_chk9 i (View.readAt (Elt F) arg3.view r f3 y) (View.readAt (Elt F) arg3.view r' f3 y'))
    (hk2 : ∀ r y r' y', k0_chk2 i (View.readAt (Elt F) arg3.view r f3 y) (View.readAt (Elt F) arg2.view r' f2 y'))
    (hk4 : ∀ r y r' y', k0_chk4 i (View.readAt (Elt F) arg3.view r f3 y) (View.readAt (Elt F) arg2.view r' f2 y'))
    (hk6 : ∀ r y r' y', k0_chk6 i (View.readAt (Elt F) arg3.view r f3 y) (View.readAt (Elt F) arg2.view r' f2 y'))
    (hk8 : ∀ r y r' y', k0_chk8 i (View.readAt (Elt F) arg3.view r f3 y) (View.readAt (Elt F) arg2.view r' f2 y'))
    (hk10 : ∀ r y r' y', k0_chk10 i (View.readAt (Elt F) arg3.view r f3 y) (View.readAt (Elt F) arg2.view r' f2 y'))
    (hw : ∀ r y, BitVec.toNat (View.readAt (Elt F) arg2.view r f2 y) < 24) :
    (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x6 x7 x8 x11 x12 x13 x14 x15 x16 x17 x18 x19 x20 x21 x22 x23 x24 x25 x26 x27 f2 f3 hc2 hk1 hk3 hk5 hk7 hk9 hk2 hk4 hk6 hk8 hk10).1 = [
    pieceW arg6 harg6 x6 arg7 harg7 x7 arg8 harg8 x8 arg11 harg11 x11 arg12 harg12 x12 arg13 harg13 x13 arg14 harg14 x14 arg26 harg26 x26 arg27 harg27 x27 arg19 harg19 x19 arg24 harg24 x24
      (tWord arg2 f2 (k0_off26 i (nWord arg3 f3)) (k0_off26_inb i (nWord arg3 f3) (nWord arg3 f3) (hk9 _ _ _ _) (hc2 _ _))) (hw _ _),
    pieceW arg6 harg6 x6 arg7 harg7 x7 arg8 harg8 x8 arg11 harg11 x11 arg12 harg12 x12 arg13 harg13 x13 arg14 harg14 x14 arg26 harg26 x26 arg27 harg27 x27 arg18 harg18 x18 arg23 harg23 x23
      (tWord arg2 f2 (k0_off20 i (nWord arg3 f3)) (k0_off20_inb i (nWord arg3 f3) (nWord arg3 f3) (hk7 _ _ _ _) (hc2 _ _))) (hw _ _),
    pieceW arg6 harg6 x6 arg7 harg7 x7 arg8 harg8 x8 arg11 harg11 x11 arg12 harg12 x12 arg13 harg13 x13 arg14 harg14 x14 arg26 harg26 x26 arg27 harg27 x27 arg17 harg17 x17 arg22 harg22 x22
      (tWord arg2 f2 (k0_off14 i (nWord arg3 f3)) (k0_off14_inb i (nWord arg3 f3) (nWord arg3 f3) (hk5 _ _ _ _) (hc2 _ _))) (hw _ _),
    pieceW arg6 harg6 x6 arg7 harg7 x7 arg8 harg8 x8 arg11 harg11 x11 arg12 harg12 x12 arg13 harg13 x13 arg14 harg14 x14 arg26 harg26 x26 arg27 harg27 x27 arg16 harg16 x16 arg21 harg21 x21
      (tWord arg2 f2 (k0_off8 i (nWord arg3 f3)) (k0_off8_inb i (nWord arg3 f3) (nWord arg3 f3) (hk3 _ _ _ _) (hc2 _ _))) (hw _ _),
    pieceW arg6 harg6 x6 arg7 harg7 x7 arg8 harg8 x8 arg11 harg11 x11 arg12 harg12 x12 arg13 harg13 x13 arg14 harg14 x14 arg26 harg26 x26 arg27 harg27 x27 arg15 harg15 x15 arg20 harg20 x20
      (tWord arg2 f2 (k0_off2 i (nWord arg3 f3)) (k0_off2_inb i (nWord arg3 f3) (nWord arg3 f3) (hk1 _ _ _ _) (hc2 _ _))) (hw _ _)] := by
  rfl

end Cert.GateUp.Gen

end
-- ==== Proof.GateUpRunA.lean ====
/-
  The run of `bodyA` at the first group of a tile: the output block cleared, the base products' rows kept; the pieces
  written are found by the run.
-/
module

public import proofs.«01_k».proof.Proof.GateUpBody
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.GateUp.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 40000000 in
/-- What the start of a tile writes, with the proof that the program runs from its operands to it. -/
def runA (c : Dev nD) (i : grid0.Coords) (arg2 : Memref sig .tc .smem S24 .i32) (harg2 : arg2.IsWhole) (arg3 : Memref sig .tc .smem S1 .i32) (harg3 : arg3.IsWhole) (arg4 : Memref sig .tc .smem S25 .i32) (harg4 : arg4.IsWhole) (arg5 : Memref sig .tc .vmem S96x3584 .bf16) (harg5 : arg5.IsWhole) (arg6 : Memref sig .tc .vmem S24x16x3584 .bf16) (harg6 : arg6.IsWhole) (arg7 : Memref sig .tc .vmem S24x4x1 .f32) (harg7 : arg7.IsWhole) (arg8 : Memref sig .tc .vmem S24x4x1 .f32) (harg8 : arg8.IsWhole) (arg9 : Memref sig .tc .vmem S3584x512 .i8) (harg9 : arg9.IsWhole) (arg10 : Memref sig .tc .vmem S3584x512 .i8) (harg10 : arg10.IsWhole) (arg11 : Memref sig .tc .vmem S1x512 .f32) (harg11 : arg11.IsWhole) (arg12 : Memref sig .tc .vmem S1x512 .f32) (harg12 : arg12.IsWhole) (arg13 : Memref sig .tc .vmem S24x1x512 .f32) (harg13 : arg13.IsWhole) (arg14 : Memref sig .tc .vmem S24x1x512 .f32) (harg14 : arg14.IsWhole) (arg15 : Memref sig .tc .vmem S1x112x512 .i32) (harg15 : arg15.IsWhole) (arg16 : Memref sig .tc .vmem S1x112x512 .i32) (harg16 : arg16.IsWhole) (arg17 : Memref sig .tc .vmem S1x112x512 .i32) (harg17 : arg17.IsWhole) (arg18 : Memref sig .tc .vmem S1x112x512 .i32) (harg18 : arg18.IsWhole) (arg19 : Memref sig .tc .vmem S1x112x512 .i32) (harg19 : arg19.IsWhole) (arg20 : Memref sig .tc .vmem S1x112x512 .i32) (harg20 : arg20.IsWhole) (arg21 : Memref sig .tc .vmem S1x112x512 .i32) (harg21 : arg21.IsWhole) (arg22 : Memref sig .tc .vmem S1x112x512 .i32) (harg22 : arg22.IsWhole) (arg23 : Memref sig .tc .vmem S1x112x512 .i32) (harg23 : arg23.IsWhole) (arg24 : Memref sig .tc .vmem S1x112x512 .i32) (harg24 : arg24.IsWhole) (arg25 : Memref sig .tc .vmem S24x4x512 .f32) (harg25 : arg25.IsWhole) (arg26 : Memref sig .tc .vmem S24x8x512 .f32) (harg26 : arg26.IsWhole) (arg27 : Memref sig .tc .vmem S24x8x512 .f32) (harg27 : arg27.IsWhole)
    (x5 : Vec F S96x3584 .bf16) (x9 : Vec F S3584x512 .i8) (x10 : Vec F S3584x512 .i8) (x25 : Vec F S24x4x512 .f32) (x26 : Vec F S24x8x512 .f32) (x27 : Vec F S24x8x512 .f32) (hc1 : k0_cond1 i = 1#1) :
    Σ' (L25 : List (View.Piece (Elt F) S24x4x512 .f32)) (L26 : List (View.Piece (Elt F) S24x8x512 .f32)),
    { L27 : List (View.Piece (Elt F) S24x8x512 .f32) //
      ∀ (q5 q9 q10 : PosShare TreeShare) (E : Set ℕ) (K : PUnit → sProp 𝕄),
        iprop((arg5.view.loc (c : Thread nD τ) ↦{q5} harg5.unread x5) ∗ (arg9.view.loc (c : Thread nD τ) ↦{q9} harg9.unread x9) ∗ (arg10.view.loc (c : Thread nD τ) ↦{q10} harg10.unread x10) ∗ (arg25.view.loc (c : Thread nD τ) ↦{fullShare} harg25.unread x25) ∗ (arg26.view.loc (c : Thread nD τ) ↦{fullShare} harg26.unread x26) ∗ (arg27.view.loc (c : Thread nD τ) ↦{fullShare} harg27.unread x27) ∗ (iprop((arg5.view.loc (c : Thread nD τ) ↦{q5} harg5.unread x5) ∗ (arg9.view.loc (c : Thread nD τ) ↦{q9} harg9.unread x9) ∗ (arg10.view.loc (c : Thread nD τ) ↦{q10} harg10.unread x10) ∗ (arg25.view.loc (c : Thread nD τ) ↦{fullShare} arg25.view.writes (Elt F) (harg25.unread x25) L25) ∗ (arg26.view.loc (c : Thread nD τ) ↦{fullShare} arg26.view.writes (Elt F) (harg26.unread x26) L26) ∗ (arg27.view.loc (c : Thread nD τ) ↦{fullShare} arg27.view.writes (Elt F) (harg27.unread x27) L27)) -∗ K ⟨⟩))
          ⊢ wp frame (wpE (defs₀ (F := F)) Variants.none c none) E (bodyA (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨?L25, ?L26, ?L27, fun q5 q9 q10 E K => ?run⟩
  case run =>
    iintro ⟨H5, H9, H10, H25, H26, H27, Hk⟩
    sl_unfold [bodyA]
    sl_exec_parts (disch := first | (guard_target = k0_cond1 _ = _; exact hc1))
    sl_step
    iapply Hk
    isplitl [H5]; · iexact H5
    isplitl [H9]; · iexact H9
    isplitl [H10]; · iexact H10
    isplitl [H25]; · iexact H25
    isplitl [H26]; · iexact H26
    iexact H27

end Cert.GateUp.Gen

end
-- ==== Proof.GateUpRowsA.lean ====
/-
  The pieces the start of a tile stores in closed form: the base product's rows, four per tenant, and the cleared output
  block.
-/
module

public import proofs.«01_k».proof.Proof.GateUpRunA
import all proofs.«01_k».proof.Proof.GateUpRunA

@[expose] public section

set_option maxRecDepth 16384

noncomputable section

namespace Cert.GateUp.Gen

open Idealize.ShloMosaic Idealize.ShloMosaic.TcCoe
open Idealize.SL Idealize.SL.RA Idealize.SL.BI

variable {F : FTy → Type} [FloatOps F]

/-- The base product of a tile: every row's code against the tile's signed weights. -/
def base (xq : Vec F S96x3584 .bf16) (w : Vec F S3584x512 .i8) : FVec F S96x512 .f32 :=
  matmul dot_S96x3584_S3584x512_S96x512_1_0_0_1_n_n none (shapeCast S96x3584 xq shapeCasts_S96x3584_S96x3584)
    (sitofp .bf16 w : FVec F S3584x512 .bf16) (constant S96x512 .f32 0x00000000#32)

/-- The pieces that keep a base product, four rows for each of the twenty-four tenants (the last first). -/
def basePieces (b : FVec F S96x512 .f32) : List (View.Piece (Elt F) S24x8x512 .f32) := [
  ⟨Rect.unit (s := S24x8x512) ![23, 0, 0] S1x4x512.size inb_S24x8x512_S1x4x512_23_0_0,
    shapeCast S1x4x512 (extractStridedSlice S4x512 ![92, 0] b slices_S96x512_o92_0_S4x512) shapeCasts_S4x512_S1x4x512⟩,
  ⟨Rect.unit (s := S24x8x512) ![22, 0, 0] S1x4x512.size inb_S24x8x512_S1x4x512_22_0_0,
    shapeCast S1x4x512 (extractStridedSlice S4x512 ![88, 0] b slices_S96x512_o88_0_S4x512) shapeCasts_S4x512_S1x4x512⟩,
  ⟨Rect.unit (s := S24x8x512) ![21, 0, 0] S1x4x512.size inb_S24x8x512_S1x4x512_21_0_0,
    shapeCast S1x4x512 (extractStridedSlice S4x512 ![84, 0] b slices_S96x512_o84_0_S4x512) shapeCasts_S4x512_S1x4x512⟩,
  ⟨Rect.unit (s := S24x8x512) ![20, 0, 0] S1x4x512.size inb_S24x8x512_S1x4x512_20_0_0,
    shapeCast S1x4x512 (extractStridedSlice S4x512 ![80, 0] b slices_S96x512_o80_0_S4x512) shapeCasts_S4x512_S1x4x512⟩,
  ⟨Rect.unit (s := S24x8x512) ![19, 0, 0] S1x4x512.size inb_S24x8x512_S1x4x512_19_0_0,
    shapeCast S1x4x512 (extractStridedSlice S4x512 ![76, 0] b slices_S96x512_o76_0_S4x512) shapeCasts_S4x512_S1x4x512⟩,
  ⟨Rect.unit (s := S24x8x512) ![18, 0, 0] S1x4x512.size inb_S24x8x512_S1x4x512_18_0_0,
    shapeCast S1x4x512 (extractStridedSlice S4x512 ![72, 0] b slices_S96x512_o72_0_S4x512) shapeCasts_S4x512_S1x4x512⟩,
  ⟨Rect.unit (s := S24x8x512) ![17, 0, 0] S1x4x512.size inb_S24x8x512_S1x4x512_17_0_0,
    shapeCast S1x4x512 (extractStridedSlice S4x512 ![68, 0] b slices_S96x512_o68_0_S4x512) shapeCasts_S4x512_S1x4x512⟩,
  ⟨Rect.unit (s := S24x8x512) ![16, 0, 0] S1x4x512.size inb_S24x8x512_S1x4x512_16_0_0,
    shapeCast S1x4x512 (extractStridedSlice S4x512 ![64, 0] b slices_S96x512_o64_0_S4x512) shapeCasts_S4x512_S1x4x512⟩,
  ⟨Rect.unit (s := S24x8x512) ![15, 0, 0] S1x4x512.size inb_S24x8x512_S1x4x512_15_0_0,
    shapeCast S1x4x512 (extractStridedSlice S4x512 ![60, 0] b slices_S96x512_o60_0_S4x512) shapeCasts_S4x512_S1x4x512⟩,
  ⟨Rect.unit (s := S24x8x512) ![14, 0, 0] S1x4x512.size inb_S24x8x512_S1x4x512_14_0_0,
    shapeCast S1x4x512 (extractStridedSlice S4x512 ![56, 0] b slices_S96x512_o56_0_S4x512) shapeCasts_S4x512_S1x4x512⟩,
  ⟨Rect.unit (s := S24x8x512) ![13, 0, 0] S1x4x512.size inb_S24x8x512_S1x4x512_13_0_0,
    shapeCast S1x4x512 (extractStridedSlice S4x512 ![52, 0] b slices_S96x512_o52_0_S4x512) shapeCasts_S4x512_S1x4x512⟩,
  ⟨Rect.unit (s := S24x8x512) ![12, 0, 0] S1x4x512.size inb_S24x8x512_S1x4x512_12_0_0,
    shapeCast S1x4x512 (extractStridedSlice S4x512 ![48, 0] b slices_S96x512_o48_0_S4x512) shapeCasts_S4x512_S1x4x512⟩,
  ⟨Rect.unit (s := S24x8x512) ![11, 0, 0] S1x4x512.size inb_S24x8x512_S1x4x512_11_0_0,
    shapeCast S1x4x512 (extractStridedSlice S4x512 ![44, 0] b slices_S96x512_o44_0_S4x512) shapeCasts_S4x512_S1x4x512⟩,
  ⟨Rect.unit (s := S24x8x512) ![10, 0, 0] S1x4x512.size inb_S24x8x512_S1x4x512_10_0_0,
    shapeCast S1x4x512 (extractStridedSlice S4x512 ![40, 0] b slices_S96x512_o40_0_S4x512) shapeCasts_S4x512_S1x4x512⟩,
  ⟨Rect.unit (s := S24x8x512) ![9, 0, 0] S1x4x512.size inb_S24x8x512_S1x4x512_9_0_0,
    shapeCast S1x4x512 (extractStridedSlice S4x512 ![36, 0] b slices_S96x512_o36_0_S4x512) shapeCasts_S4x512_S1x4x512⟩,
  ⟨Rect.unit (s := S24x8x512) ![8, 0, 0] S1x4x512.size inb_S24x8x512_S1x4x512_8_0_0,
    shapeCast S1x4x512 (extractStridedSlice S4x512 ![32, 0] b slices_S96x512_o32_0_S4x512) shapeCasts_S4x512_S1x4x512⟩,
  ⟨Rect.unit (s := S24x8x512) ![7, 0, 0] S1x4x512.size inb_S24x8x512_S1x4x512_7_0_0,
    shapeCast S1x4x512 (extractStridedSlice S4x512 ![28, 0] b slices_S96x512_o28_0_S4x512) shapeCasts_S4x512_S1x4x512⟩,
  ⟨Rect.unit (s := S24x8x512) ![6, 0, 0] S1x4x512.size inb_S24x8x512_S1x4x512_6_0_0,
    shapeCast S1x4x512 (extractStridedSlice S4x512 ![24, 0] b slices_S96x512_o24_0_S4x512) shapeCasts_S4x512_S1x4x512⟩,
  ⟨Rect.unit (s := S24x8x512) ![5, 0, 0] S1x4x512.size inb_S24x8x512_S1x4x512_5_0_0,
    shapeCast S1x4x512 (extractStridedSlice S4x512 ![20, 0] b slices_S96x512_o20_0_S4x512) shapeCasts_S4x512_S1x4x512⟩,
  ⟨Rect.unit (s := S24x8x512) ![4, 0, 0] S1x4x512.size inb_S24x8x512_S1x4x512_4_0_0,
    shapeCast S1x4x512 (extractStridedSlice S4x512 ![16, 0] b slices_S96x512_o16_0_S4x512) shapeCasts_S4x512_S1x4x512⟩,
  ⟨Rect.unit (s := S24x8x512) ![3, 0, 0] S1x4x512.size inb_S24x8x512_S1x4x512_3_0_0,
    shapeCast S1x4x512 (extractStridedSlice S4x512 ![12, 0] b slices_S96x512_o12_0_S4x512) shapeCasts_S4x512_S1x4x512⟩,
  ⟨Rect.unit (s := S24x8x512) ![2, 0, 0] S1x4x512.size inb_S24x8x512_S1x4x512_2_0_0,
    shapeCast S1x4x512 (extractStridedSlice S4x512 ![8, 0] b slices_S96x512_o8_0_S4x512) shapeCasts_S4x512_S1x4x512⟩,
  ⟨Rect.unit (s := S24x8x512) ![1, 0, 0] S1x4x512.size inb_S24x8x512_S1x4x512_1_0_0,
    shapeCast S1x4x512 (extractStridedSlice S4x512 ![4, 0] b slices_S96x512_o4_0_S4x512) shapeCasts_S4x512_S1x4x512⟩,
  ⟨Rect.unit (s := S24x8x512) ![0, 0, 0] S1x4x512.size inb_S24x8x512_S1x4x512_0_0_0,
    shapeCast S1x4x512 (extractStridedSlice S4x512 ![0, 0] b slices_S96x512_o0_0_S4x512) shapeCasts_S4x512_S1x4x512⟩]

/-- What the start of a tile writes, in closed form. -/
theorem runA_val (c : Dev nD) (i : grid0.Coords) (arg2 : Memref sig .tc .smem S24 .i32) (harg2 : arg2.IsWhole) (arg3 : Memref sig .tc .smem S1 .i32) (harg3 : arg3.IsWhole) (arg4 : Memref sig .tc .smem S25 .i32) (harg4 : arg4.IsWhole) (arg5 : Memref sig .tc .vmem S96x3584 .bf16) (harg5 : arg5.IsWhole) (arg6 : Memref sig .tc .vmem S24x16x3584 .bf16) (harg6 : arg6.IsWhole) (arg7 : Memref sig .tc .vmem S24x4x1 .f32) (harg7 : arg7.IsWhole) (arg8 : Memref sig .tc .vmem S24x4x1 .f32) (harg8 : arg8.IsWhole) (arg9 : Memref sig .tc .vmem S3584x512 .i8) (harg9 : arg9.IsWhole) (arg10 : Memref sig .tc .vmem S3584x512 .i8) (harg10 : arg10.IsWhole) (arg11 : Memref sig .tc .vmem S1x512 .f32) (harg11 : arg11.IsWhole) (arg12 : Memref sig .tc .vmem S1x512 .f32) (harg12 : arg12.IsWhole) (arg13 : Memref sig .tc .vmem S24x1x512 .f32) (harg13 : arg13.IsWhole) (arg14 : Memref sig .tc .vmem S24x1x512 .f32) (harg14 : arg14.IsWhole) (arg15 : Memref sig .tc .vmem S1x112x512 .i32) (harg15 : arg15.IsWhole) (arg16 : Memref sig .tc .vmem S1x112x512 .i32) (harg16 : arg16.IsWhole) (arg17 : Memref sig .tc .vmem S1x112x512 .i32) (harg17 : arg17.IsWhole) (arg18 : Memref sig .tc .vmem S1x112x512 .i32) (harg18 : arg18.IsWhole) (arg19 : Memref sig .tc .vmem S1x112x512 .i32) (harg19 : arg19.IsWhole) (arg20 : Memref sig .tc .vmem S1x112x512 .i32) (harg20 : arg20.IsWhole) (arg21 : Memref sig .tc .vmem S1x112x512 .i32) (harg21 : arg21.IsWhole) (arg22 : Memref sig .tc .vmem S1x112x512 .i32) (harg22 : arg22.IsWhole) (arg23 : Memref sig .tc .vmem S1x112x512 .i32) (harg23 : arg23.IsWhole) (arg24 : Memref sig .tc .vmem S1x112x512 .i32) (harg24 : arg24.IsWhole) (arg25 : Memref sig .tc .vmem S24x4x512 .f32) (harg25 : arg25.IsWhole) (arg26 : Memref sig .tc .vmem S24x8x512 .f32) (harg26 : arg26.IsWhole) (arg27 : Memref sig .tc .vmem S24x8x512 .f32) (harg27 : arg27.IsWhole)
    (x5 : Vec F S96x3584 .bf16) (x9 : Vec F S3584x512 .i8) (x10 : Vec F S3584x512 .i8) (x25 : Vec F S24x4x512 .f32) (x26 : Vec F S24x8x512 .f32) (x27 : Vec F S24x8x512 .f32) (hc1 : k0_cond1 i = 1#1) :
    (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x5 x9 x10 x25 x26 x27 hc1).1 = [⟨Rect.unit (s := S24x4x512) ![0, 0, 0] S24x4x512.size inb_S24x4x512_S24x4x512_0_0_0, k0_pay9⟩]
      ∧ (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x5 x9 x10 x25 x26 x27 hc1).2.1 = basePieces (base (View.readAt (Elt F) arg5.view (Rect.unit (s := S96x3584) ![0, 0] S96x3584.size inb_S96x3584_S96x3584_0_0).toLoadRect (harg5.unread x5)) (View.readAt (Elt F) arg9.view (Rect.unit (s := S3584x512) ![0, 0] S3584x512.size inb_S3584x512_S3584x512_0_0).toLoadRect (harg9.unread x9)))
      ∧ (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x5 x9 x10 x25 x26 x27 hc1).2.2.1 = basePieces (base (View.readAt (Elt F) arg5.view (Rect.unit (s := S96x3584) ![0, 0] S96x3584.size inb_S96x3584_S96x3584_0_0).toLoadRect (harg5.unread x5)) (View.readAt (Elt F) arg10.view (Rect.unit (s := S3584x512) ![0, 0] S3584x512.size inb_S3584x512_S3584x512_0_0).toLoadRect (harg10.unread x10))) := by
  exact ⟨rfl, rfl, rfl⟩

end Cert.GateUp.Gen

end
-- ==== Proof.GateUpStep.lean ====
/-
  What the stored pieces leave, read back: a tenant's rows of the output block and of the scratch blocks.
-/
module

public import proofs.«01_k».proof.Proof.GateUpRows
public import proofs.«01_k».proof.Proof.GateUpRowsA
public import Idealize.ShloMosaic.Lib.WritesUnit
public import Idealize.ShloMosaic.Lib.ValueIdx

@[expose] public section

set_option maxRecDepth 16384

noncomputable section

namespace Cert.GateUp.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ (UR sig nD τ) ℕ

/-- Tenant `t`'s rows lie in a block of twenty-four tenants. -/
theorem inbT (t : Fin 24) (b d B : ℕ) (hb : b ≤ B) : ∀ a : Fin 3, ![t.val, 0, 0] a + ![1, b, d] a ≤ ![24, B, d] a := by
  intro a; have := t.isLt; fin_cases a <;> simp <;> omega

/-- Tenant `t`'s four rows of a scratch block. -/
def pick4 (X : Vec F S24x8x512 .f32) (t : Fin 24) : Vec F S1x4x512 .f32 :=
  (fun y => X ((Rect.unit (s := S24x8x512) ![t.val, 0, 0] S1x4x512.size (inbT t 4 512 8 (by decide))).toLoadRect.idx y))

/-- Tenant `t`'s four rows of a base product. -/
def baseRow (b : FVec F S96x512 .f32) (t : Fin 24) : FVec F S1x4x512 .f32 :=
  shapeCast S1x4x512 (extractStridedSlice S4x512 ![4 * t.val, 0] b ⟨rfl, by have := t.isLt; intro a; fin_cases a <;> simp <;> omega⟩) shapeCasts_S4x512_S1x4x512

/-- The delta product over a sign window. -/
def deltaX (X : Vec F S1x112x512 .i32) (qv : Vec F S1x16x3584 .bf16) (sm : Vec F S1x4x1 .f32) : FVec F S4x512 .f32 :=
  delta qv sm
      (fun y => X ((Rect.unit (s := S1x112x512) ![0, 0, 0] S1x8x512.size inb_S1x112x512_S1x8x512_0_0_0).toLoadRect.idx y))
      (fun y => X ((Rect.unit (s := S1x112x512) ![0, 8, 0] S1x8x512.size inb_S1x112x512_S1x8x512_0_8_0).toLoadRect.idx y))
      (fun y => X ((Rect.unit (s := S1x112x512) ![0, 16, 0] S1x8x512.size inb_S1x112x512_S1x8x512_0_16_0).toLoadRect.idx y))
      (fun y => X ((Rect.unit (s := S1x112x512) ![0, 24, 0] S1x8x512.size inb_S1x112x512_S1x8x512_0_24_0).toLoadRect.idx y))
      (fun y => X ((Rect.unit (s := S1x112x512) ![0, 32, 0] S1x8x512.size inb_S1x112x512_S1x8x512_0_32_0).toLoadRect.idx y))
      (fun y => X ((Rect.unit (s := S1x112x512) ![0, 40, 0] S1x8x512.size inb_S1x112x512_S1x8x512_0_40_0).toLoadRect.idx y))
      (fun y => X ((Rect.unit (s := S1x112x512) ![0, 48, 0] S1x8x512.size inb_S1x112x512_S1x8x512_0_48_0).toLoadRect.idx y))
      (fun y => X ((Rect.unit (s := S1x112x512) ![0, 56, 0] S1x8x512.size inb_S1x112x512_S1x8x512_0_56_0).toLoadRect.idx y))
      (fun y => X ((Rect.unit (s := S1x112x512) ![0, 64, 0] S1x8x512.size inb_S1x112x512_S1x8x512_0_64_0).toLoadRect.idx y))
      (fun y => X ((Rect.unit (s := S1x112x512) ![0, 72, 0] S1x8x512.size inb_S1x112x512_S1x8x512_0_72_0).toLoadRect.idx y))
      (fun y => X ((Rect.unit (s := S1x112x512) ![0, 80, 0] S1x8x512.size inb_S1x112x512_S1x8x512_0_80_0).toLoadRect.idx y))
      (fun y => X ((Rect.unit (s := S1x112x512) ![0, 88, 0] S1x8x512.size inb_S1x112x512_S1x8x512_0_88_0).toLoadRect.idx y))
      (fun y => X ((Rect.unit (s := S1x112x512) ![0, 96, 0] S1x8x512.size inb_S1x112x512_S1x8x512_0_96_0).toLoadRect.idx y))
      (fun y => X ((Rect.unit (s := S1x112x512) ![0, 104, 0] S1x8x512.size inb_S1x112x512_S1x8x512_0_104_0).toLoadRect.idx y))

/-- The four rows a group step stores for tenant `t`. -/
def rowV (x6 : Vec F S24x16x3584 .bf16) (x7 : Vec F S24x4x1 .f32) (x8 : Vec F S24x4x1 .f32) (x11 : Vec F S1x512 .f32) (x12 : Vec F S1x512 .f32) (x13 : Vec F S24x1x512 .f32) (x14 : Vec F S24x1x512 .f32) (Ag Au : Vec F S1x4x512 .f32) (Xg Xu : Vec F S1x112x512 .i32)
    (t : Fin 24) : FVec F S1x4x512 .f32 :=
  rowOut (fun y => x7 ((Rect.unit (s := S24x4x1) ![t.val, 0, 0] S1x4x1.size (inbT t 4 1 4 (by decide))).toLoadRect.idx y)) Ag Au x11 x12
    (fun y => x13 ((Rect.unit (s := S24x1x512) ![t.val, 0, 0] S1x1x512.size (inbT t 1 512 1 (by decide))).toLoadRect.idx y))
    (fun y => x14 ((Rect.unit (s := S24x1x512) ![t.val, 0, 0] S1x1x512.size (inbT t 1 512 1 (by decide))).toLoadRect.idx y))
    (deltaX Xg (fun y => x6 ((Rect.unit (s := S24x16x3584) ![t.val, 0, 0] S1x16x3584.size (inbT t 16 3584 16 (by decide))).toLoadRect.idx y))
      (fun y => x8 ((Rect.unit (s := S24x4x1) ![t.val, 0, 0] S1x4x1.size (inbT t 4 1 4 (by decide))).toLoadRect.idx y)))
    (deltaX Xu (fun y => x6 ((Rect.unit (s := S24x16x3584) ![t.val, 0, 0] S1x16x3584.size (inbT t 16 3584 16 (by decide))).toLoadRect.idx y))
      (fun y => x8 ((Rect.unit (s := S24x4x1) ![t.val, 0, 0] S1x4x1.size (inbT t 4 1 4 (by decide))).toLoadRect.idx y)))

theorem ra_unread {sp : Space} {s : Shape} {e : EltTy} {m : Memref sig .tc sp s e} (h : m.IsWhole) (X : s.Idx → Elt F e)
    (B : LoadRect s) : View.readAt (Elt F) m.view B (h.unread X) = fun x => X (B.idx x) :=
  funext fun x => h.readAt_unread X B x

theorem ld_full2 {d : Fin 2 → ℕ} {e : EltTy} (X : (⟨2, d⟩ : Shape).Idx → Elt F e) (inb : ∀ a : Fin 2, ![0, 0] a + d a ≤ d a) :
    (fun y => X ((Rect.unit (s := ⟨2, d⟩) ![0, 0] d inb).toLoadRect.idx y)) = X := by
  funext y
  exact congrArg X (funext fun a => Fin.ext (by
    show ![0, 0] a + 1 * (y a).val = (y a).val
    fin_cases a <;> simp))

/-- A stored piece by its pure contents. -/
theorem pieceW_eq (arg6 : Memref sig .tc .vmem S24x16x3584 .bf16) (harg6 : arg6.IsWhole) (x6 : Vec F S24x16x3584 .bf16) (arg7 : Memref sig .tc .vmem S24x4x1 .f32) (harg7 : arg7.IsWhole) (x7 : Vec F S24x4x1 .f32) (arg8 : Memref sig .tc .vmem S24x4x1 .f32) (harg8 : arg8.IsWhole) (x8 : Vec F S24x4x1 .f32) (arg11 : Memref sig .tc .vmem S1x512 .f32) (harg11 : arg11.IsWhole) (x11 : Vec F S1x512 .f32) (arg12 : Memref sig .tc .vmem S1x512 .f32) (harg12 : arg12.IsWhole) (x12 : Vec F S1x512 .f32) (arg13 : Memref sig .tc .vmem S24x1x512 .f32) (harg13 : arg13.IsWhole) (x13 : Vec F S24x1x512 .f32) (arg14 : Memref sig .tc .vmem S24x1x512 .f32) (harg14 : arg14.IsWhole) (x14 : Vec F S24x1x512 .f32) (arg26 : Memref sig .tc .vmem S24x8x512 .f32) (harg26 : arg26.IsWhole) (x26 : Vec F S24x8x512 .f32) (arg27 : Memref sig .tc .vmem S24x8x512 .f32) (harg27 : arg27.IsWhole) (x27 : Vec F S24x8x512 .f32)
    (mg : Memref sig .tc .vmem S1x112x512 .i32) (hmg : mg.IsWhole) (Xg : Vec F S1x112x512 .i32)
    (mu : Memref sig .tc .vmem S1x112x512 .i32) (hmu : mu.IsWhole) (Xu : Vec F S1x112x512 .i32)
    (w : BitVec 32) (hw : w.toNat < 24) :
    pieceW arg6 harg6 x6 arg7 harg7 x7 arg8 harg8 x8 arg11 harg11 x11 arg12 harg12 x12 arg13 harg13 x13 arg14 harg14 x14 arg26 harg26 x26 arg27 harg27 x27 mg hmg Xg mu hmu Xu w hw
      = ⟨Rect.unit (s := S24x4x512) ![w.toNat, 0, 0] S1x4x512.size (inbT ⟨w.toNat, hw⟩ 4 512 4 (by decide)),
          rowV x6 x7 x8 x11 x12 x13 x14 (pick4 x26 ⟨w.toNat, hw⟩) (pick4 x27 ⟨w.toNat, hw⟩) Xg Xu ⟨w.toNat, hw⟩⟩ := by
  unfold pieceW deltaM rowV pick4 deltaX
  simp only [ra_unread, ld_full2]
  rfl

/-- The same at a named tenant. -/
theorem pieceW_eq' (arg6 : Memref sig .tc .vmem S24x16x3584 .bf16) (harg6 : arg6.IsWhole) (x6 : Vec F S24x16x3584 .bf16) (arg7 : Memref sig .tc .vmem S24x4x1 .f32) (harg7 : arg7.IsWhole) (x7 : Vec F S24x4x1 .f32) (arg8 : Memref sig .tc .vmem S24x4x1 .f32) (harg8 : arg8.IsWhole) (x8 : Vec F S24x4x1 .f32) (arg11 : Memref sig .tc .vmem S1x512 .f32) (harg11 : arg11.IsWhole) (x11 : Vec F S1x512 .f32) (arg12 : Memref sig .tc .vmem S1x512 .f32) (harg12 : arg12.IsWhole) (x12 : Vec F S1x512 .f32) (arg13 : Memref sig .tc .vmem S24x1x512 .f32) (harg13 : arg13.IsWhole) (x13 : Vec F S24x1x512 .f32) (arg14 : Memref sig .tc .vmem S24x1x512 .f32) (harg14 : arg14.IsWhole) (x14 : Vec F S24x1x512 .f32) (arg26 : Memref sig .tc .vmem S24x8x512 .f32) (harg26 : arg26.IsWhole) (x26 : Vec F S24x8x512 .f32) (arg27 : Memref sig .tc .vmem S24x8x512 .f32) (harg27 : arg27.IsWhole) (x27 : Vec F S24x8x512 .f32)
    (mg : Memref sig .tc .vmem S1x112x512 .i32) (hmg : mg.IsWhole) (Xg : Vec F S1x112x512 .i32)
    (mu : Memref sig .tc .vmem S1x112x512 .i32) (hmu : mu.IsWhole) (Xu : Vec F S1x112x512 .i32)
    (w : BitVec 32) (hw : w.toNat < 24) (t : Fin 24) (h : w.toNat = t.val) :
    pieceW arg6 harg6 x6 arg7 harg7 x7 arg8 harg8 x8 arg11 harg11 x11 arg12 harg12 x12 arg13 harg13 x13 arg14 harg14 x14 arg26 harg26 x26 arg27 harg27 x27 mg hmg Xg mu hmu Xu w hw
      = ⟨Rect.unit (s := S24x4x512) ![t.val, 0, 0] S1x4x512.size (inbT t 4 512 4 (by decide)),
          rowV x6 x7 x8 x11 x12 x13 x14 (pick4 x26 t) (pick4 x27 t) Xg Xu t⟩ := by
  obtain rfl : t = ⟨w.toNat, hw⟩ := Fin.ext h.symm
  exact pieceW_eq arg6 harg6 x6 arg7 harg7 x7 arg8 harg8 x8 arg11 harg11 x11 arg12 harg12 x12 arg13 harg13 x13 arg14 harg14 x14 arg26 harg26 x26 arg27 harg27 x27 mg hmg Xg mu hmu Xu w hw

/-- An output block with tenant `t`'s rows replaced. -/
def putRow (t : Fin 24) (R : FVec F S1x4x512 .f32) (Y : Vec F S24x4x512 .f32) : Vec F S24x4x512 .f32 := fun y =>
  if (y (0 : Fin 3)).val = t.val then R (ix3 (0 : Fin 1) (y (1 : Fin 3)) (y (2 : Fin 3))) else Y y

/-- Reading past a stored tenant's rows. -/
theorem read_putRow {m : Memref sig .tc .vmem S24x4x512 .f32} (f : m.view.ty.Contents (Elt F)) (t : Fin 24)
    (inb : ∀ a : Fin 3, ![t.val, 0, 0] a + S1x4x512.size a ≤ S24x4x512.size a) (R : FVec F S1x4x512 .f32) (L : List (View.Piece (Elt F) S24x4x512 .f32)) :
    m.view.read (Elt F) (m.view.writes (Elt F) f (⟨Rect.unit (s := S24x4x512) ![t.val, 0, 0] S1x4x512.size inb, R⟩ :: L))
      = putRow t R (m.view.read (Elt F) (m.view.writes (Elt F) f L)) := by
  funext y
  unfold putRow
  by_cases h : (y (0 : Fin 3)).val = t.val
  · rw [if_pos h]
    refine View.read_writes_cons_unit_of_mem m.view f inb R L y (ix3 (0 : Fin 1) (y (1 : Fin 3)) (y (2 : Fin 3))) rfl ?_
    intro a; fin_cases a
    · exact h
    · exact (Nat.zero_add _).symm
    · exact (Nat.zero_add _).symm
  · rw [if_neg h]
    refine View.read_writes_cons_unit_of_not_mem m.view f inb R L y rfl (0 : Fin 3) ?_
    show (y (0 : Fin 3)).val < t.val ∨ t.val + 1 ≤ (y (0 : Fin 3)).val
    omega

/-- Reading past a group step's stored piece. -/
theorem read_pieceW {m : Memref sig .tc .vmem S24x4x512 .f32} (f : m.view.ty.Contents (Elt F)) (L : List (View.Piece (Elt F) S24x4x512 .f32))
    (arg6 : Memref sig .tc .vmem S24x16x3584 .bf16) (harg6 : arg6.IsWhole) (x6 : Vec F S24x16x3584 .bf16) (arg7 : Memref sig .tc .vmem S24x4x1 .f32) (harg7 : arg7.IsWhole) (x7 : Vec F S24x4x1 .f32) (arg8 : Memref sig .tc .vmem S24x4x1 .f32) (harg8 : arg8.IsWhole) (x8 : Vec F S24x4x1 .f32) (arg11 : Memref sig .tc .vmem S1x512 .f32) (harg11 : arg11.IsWhole) (x11 : Vec F S1x512 .f32) (arg12 : Memref sig .tc .vmem S1x512 .f32) (harg12 : arg12.IsWhole) (x12 : Vec F S1x512 .f32) (arg13 : Memref sig .tc .vmem S24x1x512 .f32) (harg13 : arg13.IsWhole) (x13 : Vec F S24x1x512 .f32) (arg14 : Memref sig .tc .vmem S24x1x512 .f32) (harg14 : arg14.IsWhole) (x14 : Vec F S24x1x512 .f32) (arg26 : Memref sig .tc .vmem S24x8x512 .f32) (harg26 : arg26.IsWhole) (x26 : Vec F S24x8x512 .f32) (arg27 : Memref sig .tc .vmem S24x8x512 .f32) (harg27 : arg27.IsWhole) (x27 : Vec F S24x8x512 .f32)
    (mg : Memref sig .tc .vmem S1x112x512 .i32) (hmg : mg.IsWhole) (Xg : Vec F S1x112x512 .i32)
    (mu : Memref sig .tc .vmem S1x112x512 .i32) (hmu : mu.IsWhole) (Xu : Vec F S1x112x512 .i32)
    (w : BitVec 32) (hw : w.toNat < 24) (t : Fin 24) (h : w.toNat = t.val) (Y : Vec F S24x4x512 .f32)
    (hY : m.view.read (Elt F) (m.view.writes (Elt F) f L) = Y) :
    m.view.read (Elt F) (m.view.writes (Elt F) f
        (pieceW arg6 harg6 x6 arg7 harg7 x7 arg8 harg8 x8 arg11 harg11 x11 arg12 harg12 x12 arg13 harg13 x13 arg14 harg14 x14 arg26 harg26 x26 arg27 harg27 x27 mg hmg Xg mu hmu Xu w hw :: L))
      = putRow t (rowV x6 x7 x8 x11 x12 x13 x14 (pick4 x26 t) (pick4 x27 t) Xg Xu t) Y := by
  rw [pieceW_eq' (h := h), read_putRow, hY]

/-- The pieces that keep a base product, by tenant. -/
theorem basePieces_eq (b : FVec F S96x512 .f32) :
    basePieces b = (List.finRange 24).reverse.map fun t =>
      (⟨Rect.unit (s := S24x8x512) ![t.val, 0, 0] S1x4x512.size (inbT t 4 512 8 (by decide)), baseRow b t⟩ :
        View.Piece (Elt F) S24x8x512 .f32) := by
  rfl

/-- A tenant's rows read back from its piece. -/
theorem pick4_writes {m : Memref sig .tc .vmem S24x8x512 .f32} (f : m.view.ty.Contents (Elt F)) (R : Fin 24 → FVec F S1x4x512 .f32) (t : Fin 24) :
    ∀ (l : List (Fin 24)), t ∈ l → pick4 (m.view.read (Elt F) (m.view.writes (Elt F) f (l.map fun t =>
      (⟨Rect.unit (s := S24x8x512) ![t.val, 0, 0] S1x4x512.size (inbT t 4 512 8 (by decide)), R t⟩ :
        View.Piece (Elt F) S24x8x512 .f32)))) t = R t
  | [], h => absurd h (by simp)
  | u :: l, h => by
      by_cases e : u = t
      · subst e
        funext y
        exact View.read_writes_cons_unit_of_mem m.view f _ (R u) _ _ y rfl fun a => by
          show ![u.val, 0, 0] a + 1 * (y a).val = _
          rw [Nat.one_mul]
      · rw [← pick4_writes f R t l ((List.mem_cons.mp h).resolve_left (fun h => e h.symm))]
        funext y
        refine View.read_writes_cons_unit_of_not_mem m.view f _ (R u) _ _ rfl (0 : Fin 3) ?_
        have h0 : (y (0 : Fin 3)).val = 0 := Nat.lt_one_iff.mp (y (0 : Fin 3)).isLt
        have : u.val ≠ t.val := fun e' => e (Fin.ext e')
        show t.val + 1 * (y (0 : Fin 3)).val < u.val ∨ u.val + 1 ≤ t.val + 1 * (y (0 : Fin 3)).val
        omega

theorem pick4_base {m : Memref sig .tc .vmem S24x8x512 .f32} (f : m.view.ty.Contents (Elt F)) (b : FVec F S96x512 .f32) (t : Fin 24) :
    pick4 (m.view.read (Elt F) (m.view.writes (Elt F) f (basePieces b))) t = baseRow b t := by
  rw [basePieces_eq]
  exact pick4_writes f (baseRow b) t _ (by simp)

theorem read_zero {m : Memref sig .tc .vmem S24x4x512 .f32} (f : m.view.ty.Contents (Elt F)) (R : FVec F S24x4x512 .f32)
    (inb : ∀ a : Fin 3, ![0, 0, 0] a + S24x4x512.size a ≤ S24x4x512.size a) :
    m.view.read (Elt F) (m.view.writes (Elt F) f [⟨Rect.unit (s := S24x4x512) ![0, 0, 0] S24x4x512.size inb, R⟩]) = R := by
  funext y
  exact View.read_writes_cons_unit_of_mem m.view f inb R [] y y rfl fun a => by
    fin_cases a <;> exact (Nat.zero_add _).symm

end Cert.GateUp.Gen

end
-- ==== Proof.GateUpStepRun.lean ====
/-
  The runs of a grid point's two programs with what they leave in closed form.
-/
module

public import proofs.«01_k».proof.Proof.GateUpStep
public import Idealize.ShloMosaic.Lib.WritesUnit

@[expose] public section

set_option maxRecDepth 16384

noncomputable section

namespace Cert.GateUp.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ (UR sig nD τ) ℕ

theorem congr_cons {α : Type _} {a b : α} {l m : List α} (h : a = b) (h' : l = m) : a :: l = b :: m := by rw [h, h']

set_option maxHeartbeats 4000000 in
/-- A group's run, its output block in closed form. -/
theorem runB_wp (c : Dev nD) (i : grid0.Coords) (arg2 : Memref sig .tc .smem S24 .i32) (harg2 : arg2.IsWhole) (arg3 : Memref sig .tc .smem S1 .i32) (harg3 : arg3.IsWhole) (arg4 : Memref sig .tc .smem S25 .i32) (harg4 : arg4.IsWhole) (arg5 : Memref sig .tc .vmem S96x3584 .bf16) (harg5 : arg5.IsWhole) (arg6 : Memref sig .tc .vmem S24x16x3584 .bf16) (harg6 : arg6.IsWhole) (arg7 : Memref sig .tc .vmem S24x4x1 .f32) (harg7 : arg7.IsWhole) (arg8 : Memref sig .tc .vmem S24x4x1 .f32) (harg8 : arg8.IsWhole) (arg9 : Memref sig .tc .vmem S3584x512 .i8) (harg9 : arg9.IsWhole) (arg10 : Memref sig .tc .vmem S3584x512 .i8) (harg10 : arg10.IsWhole) (arg11 : Memref sig .tc .vmem S1x512 .f32) (harg11 : arg11.IsWhole) (arg12 : Memref sig .tc .vmem S1x512 .f32) (harg12 : arg12.IsWhole) (arg13 : Memref sig .tc .vmem S24x1x512 .f32) (harg13 : arg13.IsWhole) (arg14 : Memref sig .tc .vmem S24x1x512 .f32) (harg14 : arg14.IsWhole) (arg15 : Memref sig .tc .vmem S1x112x512 .i32) (harg15 : arg15.IsWhole) (arg16 : Memref sig .tc .vmem S1x112x512 .i32) (harg16 : arg16.IsWhole) (arg17 : Memref sig .tc .vmem S1x112x512 .i32) (harg17 : arg17.IsWhole) (arg18 : Memref sig .tc .vmem S1x112x512 .i32) (harg18 : arg18.IsWhole) (arg19 : Memref sig .tc .vmem S1x112x512 .i32) (harg19 : arg19.IsWhole) (arg20 : Memref sig .tc .vmem S1x112x512 .i32) (harg20 : arg20.IsWhole) (arg21 : Memref sig .tc .vmem S1x112x512 .i32) (harg21 : arg21.IsWhole) (arg22 : Memref sig .tc .vmem S1x112x512 .i32) (harg22 : arg22.IsWhole) (arg23 : Memref sig .tc .vmem S1x112x512 .i32) (harg23 : arg23.IsWhole) (arg24 : Memref sig .tc .vmem S1x112x512 .i32) (harg24 : arg24.IsWhole) (arg25 : Memref sig .tc .vmem S24x4x512 .f32) (harg25 : arg25.IsWhole) (arg26 : Memref sig .tc .vmem S24x8x512 .f32) (harg26 : arg26.IsWhole) (arg27 : Memref sig .tc .vmem S24x8x512 .f32) (harg27 : arg27.IsWhole)
    (x6 : Vec F S24x16x3584 .bf16) (x7 : Vec F S24x4x1 .f32) (x8 : Vec F S24x4x1 .f32) (x11 : Vec F S1x512 .f32) (x12 : Vec F S1x512 .f32) (x13 : Vec F S24x1x512 .f32) (x14 : Vec F S24x1x512 .f32) (x15 : Vec F S1x112x512 .i32) (x16 : Vec F S1x112x512 .i32) (x17 : Vec F S1x112x512 .i32) (x18 : Vec F S1x112x512 .i32) (x19 : Vec F S1x112x512 .i32) (x20 : Vec F S1x112x512 .i32) (x21 : Vec F S1x112x512 .i32) (x22 : Vec F S1x112x512 .i32) (x23 : Vec F S1x112x512 .i32) (x24 : Vec F S1x112x512 .i32) (x25 : Vec F S24x4x512 .f32) (x26 : Vec F S24x8x512 .f32) (x27 : Vec F S24x8x512 .f32)
    (f2 : Buf (Elt F) (arg2.view.loc (c : Thread nD τ))) (f3 : Buf (Elt F) (arg3.view.loc (c : Thread nD τ)))
    (hc2 : ∀ r y, k0_cond2 i (View.readAt (Elt F) arg3.view r f3 y) = 1#1)
    (hk1 : ∀ r y r' y', k0_chk1 i (View.readAt (Elt F) arg3.view r f3 y) (View.readAt (Elt F) arg3.view r' f3 y'))
    (hk3 : ∀ r y r' y', k0_chk3 i (View.readAt (Elt F) arg3.view r f3 y) (View.readAt (Elt F) arg3.view r' f3 y'))
    (hk5 : ∀ r y r' y', k0_chk5 i (View.readAt (Elt F) arg3.view r f3 y) (View.readAt (Elt F) arg3.view r' f3 y'))
    (hk7 : ∀ r y r' y', k0_chk7 i (View.readAt (Elt F) arg3.view r f3 y) (View.readAt (Elt F) arg3.view r' f3 y'))
    (hk9 : ∀ r y r' y', k0_chk9 i (View.readAt (Elt F) arg3.view r f3 y) (View.readAt (Elt F) arg3.view r' f3 y'))
    (hk2 : ∀ r y r' y', k0_chk2 i (View.readAt (Elt F) arg3.view r f3 y) (View.readAt (Elt F) arg2.view r' f2 y'))
    (hk4 : ∀ r y r' y', k0_chk4 i (View.readAt (Elt F) arg3.view r f3 y) (View.readAt (Elt F) arg2.view r' f2 y'))
    (hk6 : ∀ r y r' y', k0_chk6 i (View.readAt (Elt F) arg3.view r f3 y) (View.readAt (Elt F) arg2.view r' f2 y'))
    (hk8 : ∀ r y r' y', k0_chk8 i (View.readAt (Elt F) arg3.view r f3 y) (View.readAt (Elt F) arg2.view r' f2 y'))
    (hk10 : ∀ r y r' y', k0_chk10 i (View.readAt (Elt F) arg3.view r f3 y) (View.readAt (Elt F) arg2.view r' f2 y'))
    (hw : ∀ r y, BitVec.toNat (View.readAt (Elt F) arg2.view r f2 y) < 24)
    (t0 t1 t2 t3 t4 : Fin 24)
    (ht0 : ∀ inb, (tWord arg2 f2 (k0_off2 i (nWord arg3 f3)) inb).toNat = t0.val)
    (ht1 : ∀ inb, (tWord arg2 f2 (k0_off8 i (nWord arg3 f3)) inb).toNat = t1.val)
    (ht2 : ∀ inb, (tWord arg2 f2 (k0_off14 i (nWord arg3 f3)) inb).toNat = t2.val)
    (ht3 : ∀ inb, (tWord arg2 f2 (k0_off20 i (nWord arg3 f3)) inb).toNat = t3.val)
    (ht4 : ∀ inb, (tWord arg2 f2 (k0_off26 i (nWord arg3 f3)) inb).toNat = t4.val)
    (q2 q3 q6 q7 q8 q11 q12 q13 q14 q15 q16 q17 q18 q19 q20 q21 q22 q23 q24 : PosShare TreeShare) (E : Set ℕ) (K : PUnit → sProp 𝕄) :
    iprop((arg2.view.loc (c : Thread nD τ) ↦{q2} f2) ∗ (arg3.view.loc (c : Thread nD τ) ↦{q3} f3) ∗ (arg6.view.loc (c : Thread nD τ) ↦{q6} harg6.unread x6) ∗ (arg7.view.loc (c : Thread nD τ) ↦{q7} harg7.unread x7) ∗ (arg8.view.loc (c : Thread nD τ) ↦{q8} harg8.unread x8) ∗ (arg11.view.loc (c : Thread nD τ) ↦{q11} harg11.unread x11) ∗ (arg12.view.loc (c : Thread nD τ) ↦{q12} harg12.unread x12) ∗ (arg13.view.loc (c : Thread nD τ) ↦{q13} harg13.unread x13) ∗ (arg14.view.loc (c : Thread nD τ) ↦{q14} harg14.unread x14) ∗ (arg15.view.loc (c : Thread nD τ) ↦{q15} harg15.unread x15) ∗ (arg16.view.loc (c : Thread nD τ) ↦{q16} harg16.unread x16) ∗ (arg17.view.loc (c : Thread nD τ) ↦{q17} harg17.unread x17) ∗ (arg18.view.loc (c : Thread nD τ) ↦{q18} harg18.unread x18) ∗ (arg19.view.loc (c : Thread nD τ) ↦{q19} harg19.unread x19) ∗ (arg20.view.loc (c : Thread nD τ) ↦{q20} harg20.unread x20) ∗ (arg21.view.loc (c : Thread nD τ) ↦{q21} harg21.unread x21) ∗ (arg22.view.loc (c : Thread nD τ) ↦{q22} harg22.unread x22) ∗ (arg23.view.loc (c : Thread nD τ) ↦{q23} harg23.unread x23) ∗ (arg24.view.loc (c : Thread nD τ) ↦{q24} harg24.unread x24) ∗ (arg25.view.loc (c : Thread nD τ) ↦{fullShare} harg25.unread x25) ∗ (arg26.view.loc (c : Thread nD τ) ↦{fullShare} harg26.unread x26) ∗ (arg27.view.loc (c : Thread nD τ) ↦{fullShare} harg27.unread x27) ∗ (iprop((arg2.view.loc (c : Thread nD τ) ↦{q2} f2) ∗ (arg3.view.loc (c : Thread nD τ) ↦{q3} f3) ∗ (arg6.view.loc (c : Thread nD τ) ↦{q6} harg6.unread x6) ∗ (arg7.view.loc (c : Thread nD τ) ↦{q7} harg7.unread x7) ∗ (arg8.view.loc (c : Thread nD τ) ↦{q8} harg8.unread x8) ∗ (arg11.view.loc (c : Thread nD τ) ↦{q11} harg11.unread x11) ∗ (arg12.view.loc (c : Thread nD τ) ↦{q12} harg12.unread x12) ∗ (arg13.view.loc (c : Thread nD τ) ↦{q13} harg13.unread x13) ∗ (arg14.view.loc (c : Thread nD τ) ↦{q14} harg14.unread x14) ∗ (arg15.view.loc (c : Thread nD τ) ↦{q15} harg15.unread x15) ∗ (arg16.view.loc (c : Thread nD τ) ↦{q16} harg16.unread x16) ∗ (arg17.view.loc (c : Thread nD τ) ↦{q17} harg17.unread x17) ∗ (arg18.view.loc (c : Thread nD τ) ↦{q18} harg18.unread x18) ∗ (arg19.view.loc (c : Thread nD τ) ↦{q19} harg19.unread x19) ∗ (arg20.view.loc (c : Thread nD τ) ↦{q20} harg20.unread x20) ∗ (arg21.view.loc (c : Thread nD τ) ↦{q21} harg21.unread x21) ∗ (arg22.view.loc (c : Thread nD τ) ↦{q22} harg22.unread x22) ∗ (arg23.view.loc (c : Thread nD τ) ↦{q23} harg23.unread x23) ∗ (arg24.view.loc (c : Thread nD τ) ↦{q24} harg24.unread x24) ∗ (arg25.view.loc (c : Thread nD τ) ↦{fullShare} harg25.unread (putRow t4
      (rowV x6 x7 x8 x11 x12 x13 x14 (pick4 x26 t4) (pick4 x27 t4) x19 x24 t4)
      (putRow t3
      (rowV x6 x7 x8 x11 x12 x13 x14 (pick4 x26 t3) (pick4 x27 t3) x18 x23 t3)
      (putRow t2
      (rowV x6 x7 x8 x11 x12 x13 x14 (pick4 x26 t2) (pick4 x27 t2) x17 x22 t2)
      (putRow t1
      (rowV x6 x7 x8 x11 x12 x13 x14 (pick4 x26 t1) (pick4 x27 t1) x16 x21 t1)
      (putRow t0
      (rowV x6 x7 x8 x11 x12 x13 x14 (pick4 x26 t0) (pick4 x27 t0) x15 x20 t0)
      x25)))))) ∗ (arg26.view.loc (c : Thread nD τ) ↦{fullShare} harg26.unread x26) ∗ (arg27.view.loc (c : Thread nD τ) ↦{fullShare} harg27.unread x27)) -∗ K ⟨⟩))
      ⊢ wp frame (wpE (defs₀ (F := F)) Variants.none c none) E (bodyB (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  have hY : arg25.view.writes (Elt F) (harg25.unread x25) (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x6 x7 x8 x11 x12 x13 x14 x15 x16 x17 x18 x19 x20 x21 x22 x23 x24 x25 x26 x27 f2 f3 hc2 hk1 hk3 hk5 hk7 hk9 hk2 hk4 hk6 hk8 hk10).1 = harg25.unread (putRow t4
      (rowV x6 x7 x8 x11 x12 x13 x14 (pick4 x26 t4) (pick4 x27 t4) x19 x24 t4)
      (putRow t3
      (rowV x6 x7 x8 x11 x12 x13 x14 (pick4 x26 t3) (pick4 x27 t3) x18 x23 t3)
      (putRow t2
      (rowV x6 x7 x8 x11 x12 x13 x14 (pick4 x26 t2) (pick4 x27 t2) x17 x22 t2)
      (putRow t1
      (rowV x6 x7 x8 x11 x12 x13 x14 (pick4 x26 t1) (pick4 x27 t1) x16 x21 t1)
      (putRow t0
      (rowV x6 x7 x8 x11 x12 x13 x14 (pick4 x26 t0) (pick4 x27 t0) x15 x20 t0)
      x25))))) :=
    (congrArg (arg25.view.writes (Elt F) (harg25.unread x25)) (runB_val c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x6 x7 x8 x11 x12 x13 x14 x15 x16 x17 x18 x19 x20 x21 x22 x23 x24 x25 x26 x27 f2 f3 hc2 hk1 hk3 hk5 hk7 hk9 hk2 hk4 hk6 hk8 hk10 hw)).trans
      (harg25.eq_unread (read_pieceW _ _ _ _ _ _ _ _ _ _ _ _ _ _ _ _ _ _ _ _ _ _ _ _ _ _ _ _ _ _ _ _ _ _ _ _ _ t4 (ht4 _) _ (read_pieceW _ _ _ _ _ _ _ _ _ _ _ _ _ _ _ _ _ _ _ _ _ _ _ _ _ _ _ _ _ _ _ _ _ _ _ _ _ t3 (ht3 _) _ (read_pieceW _ _ _ _ _ _ _ _ _ _ _ _ _ _ _ _ _ _ _ _ _ _ _ _ _ _ _ _ _ _ _ _ _ _ _ _ _ t2 (ht2 _) _ (read_pieceW _ _ _ _ _ _ _ _ _ _ _ _ _ _ _ _ _ _ _ _ _ _ _ _ _ _ _ _ _ _ _ _ _ _ _ _ _ t1 (ht1 _) _ (read_pieceW _ _ _ _ _ _ _ _ _ _ _ _ _ _ _ _ _ _ _ _ _ _ _ _ _ _ _ _ _ _ _ _ _ _ _ _ _ t0 (ht0 _) _ (by rw [View.writes_nil]; exact harg25.read_unread _)))))))
  have h := (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x6 x7 x8 x11 x12 x13 x14 x15 x16 x17 x18 x19 x20 x21 x22 x23 x24 x25 x26 x27 f2 f3 hc2 hk1 hk3 hk5 hk7 hk9 hk2 hk4 hk6 hk8 hk10).2 q2 q3 q6 q7 q8 q11 q12 q13 q14 q15 q16 q17 q18 q19 q20 q21 q22 q23 q24 E K
  rw [hY] at h
  exact h

set_option maxHeartbeats 4000000 in
/-- The start of a tile, its effect in closed form. -/
theorem runA_wp (c : Dev nD) (i : grid0.Coords) (arg2 : Memref sig .tc .smem S24 .i32) (harg2 : arg2.IsWhole) (arg3 : Memref sig .tc .smem S1 .i32) (harg3 : arg3.IsWhole) (arg4 : Memref sig .tc .smem S25 .i32) (harg4 : arg4.IsWhole) (arg5 : Memref sig .tc .vmem S96x3584 .bf16) (harg5 : arg5.IsWhole) (arg6 : Memref sig .tc .vmem S24x16x3584 .bf16) (harg6 : arg6.IsWhole) (arg7 : Memref sig .tc .vmem S24x4x1 .f32) (harg7 : arg7.IsWhole) (arg8 : Memref sig .tc .vmem S24x4x1 .f32) (harg8 : arg8.IsWhole) (arg9 : Memref sig .tc .vmem S3584x512 .i8) (harg9 : arg9.IsWhole) (arg10 : Memref sig .tc .vmem S3584x512 .i8) (harg10 : arg10.IsWhole) (arg11 : Memref sig .tc .vmem S1x512 .f32) (harg11 : arg11.IsWhole) (arg12 : Memref sig .tc .vmem S1x512 .f32) (harg12 : arg12.IsWhole) (arg13 : Memref sig .tc .vmem S24x1x512 .f32) (harg13 : arg13.IsWhole) (arg14 : Memref sig .tc .vmem S24x1x512 .f32) (harg14 : arg14.IsWhole) (arg15 : Memref sig .tc .vmem S1x112x512 .i32) (harg15 : arg15.IsWhole) (arg16 : Memref sig .tc .vmem S1x112x512 .i32) (harg16 : arg16.IsWhole) (arg17 : Memref sig .tc .vmem S1x112x512 .i32) (harg17 : arg17.IsWhole) (arg18 : Memref sig .tc .vmem S1x112x512 .i32) (harg18 : arg18.IsWhole) (arg19 : Memref sig .tc .vmem S1x112x512 .i32) (harg19 : arg19.IsWhole) (arg20 : Memref sig .tc .vmem S1x112x512 .i32) (harg20 : arg20.IsWhole) (arg21 : Memref sig .tc .vmem S1x112x512 .i32) (harg21 : arg21.IsWhole) (arg22 : Memref sig .tc .vmem S1x112x512 .i32) (harg22 : arg22.IsWhole) (arg23 : Memref sig .tc .vmem S1x112x512 .i32) (harg23 : arg23.IsWhole) (arg24 : Memref sig .tc .vmem S1x112x512 .i32) (harg24 : arg24.IsWhole) (arg25 : Memref sig .tc .vmem S24x4x512 .f32) (harg25 : arg25.IsWhole) (arg26 : Memref sig .tc .vmem S24x8x512 .f32) (harg26 : arg26.IsWhole) (arg27 : Memref sig .tc .vmem S24x8x512 .f32) (harg27 : arg27.IsWhole)
    (x5 : Vec F S96x3584 .bf16) (x9 : Vec F S3584x512 .i8) (x10 : Vec F S3584x512 .i8) (x25 : Vec F S24x4x512 .f32) (x26 : Vec F S24x8x512 .f32) (x27 : Vec F S24x8x512 .f32) (hc1 : k0_cond1 i = 1#1)
    (q5 q9 q10 : PosShare TreeShare) (E : Set ℕ) (K : PUnit → sProp 𝕄) :
    iprop((arg5.view.loc (c : Thread nD τ) ↦{q5} harg5.unread x5) ∗ (arg9.view.loc (c : Thread nD τ) ↦{q9} harg9.unread x9) ∗ (arg10.view.loc (c : Thread nD τ) ↦{q10} harg10.unread x10) ∗ (arg25.view.loc (c : Thread nD τ) ↦{fullShare} harg25.unread x25) ∗ (arg26.view.loc (c : Thread nD τ) ↦{fullShare} harg26.unread x26) ∗ (arg27.view.loc (c : Thread nD τ) ↦{fullShare} harg27.unread x27) ∗ (∀ x26' x27', ⌜(∀ t, pick4 x26' t = baseRow (base x5 x9) t) ∧ (∀ t, pick4 x27' t = baseRow (base x5 x10) t)⌝ -∗
        iprop((arg5.view.loc (c : Thread nD τ) ↦{q5} harg5.unread x5) ∗ (arg9.view.loc (c : Thread nD τ) ↦{q9} harg9.unread x9) ∗ (arg10.view.loc (c : Thread nD τ) ↦{q10} harg10.unread x10) ∗ (arg25.view.loc (c : Thread nD τ) ↦{fullShare} harg25.unread k0_pay9) ∗ (arg26.view.loc (c : Thread nD τ) ↦{fullShare} harg26.unread x26') ∗ (arg27.view.loc (c : Thread nD τ) ↦{fullShare} harg27.unread x27')) -∗ K ⟨⟩))
      ⊢ wp frame (wpE (defs₀ (F := F)) Variants.none c none) E (bodyA (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  have h := (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x5 x9 x10 x25 x26 x27 hc1).2.2.2 q5 q9 q10 E K
  obtain ⟨h1, h2, h3⟩ := runA_val c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x5 x9 x10 x25 x26 x27 hc1
  generalize runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x5 x9 x10 x25 x26 x27 hc1 = R at h h1 h2 h3
  obtain ⟨L25, L26, L27, hrun⟩ := R
  have b9 : base (View.readAt (Elt F) arg5.view (Rect.unit (s := S96x3584) ![0, 0] S96x3584.size inb_S96x3584_S96x3584_0_0).toLoadRect (harg5.unread x5)) (View.readAt (Elt F) arg9.view (Rect.unit (s := S3584x512) ![0, 0] S3584x512.size inb_S3584x512_S3584x512_0_0).toLoadRect (harg9.unread x9)) = base x5 x9 := by
    rw [ra_unread, ra_unread]; exact congrArg₂ base (ld_full2 _ _) (ld_full2 _ _)
  have b10 : base (View.readAt (Elt F) arg5.view (Rect.unit (s := S96x3584) ![0, 0] S96x3584.size inb_S96x3584_S96x3584_0_0).toLoadRect (harg5.unread x5)) (View.readAt (Elt F) arg10.view (Rect.unit (s := S3584x512) ![0, 0] S3584x512.size inb_S3584x512_S3584x512_0_0).toLoadRect (harg10.unread x10)) = base x5 x10 := by
    rw [ra_unread, ra_unread]; exact congrArg₂ base (ld_full2 _ _) (ld_full2 _ _)
  have hY25 : arg25.view.writes (Elt F) (harg25.unread x25) L25 = harg25.unread k0_pay9 :=
    (congrArg (arg25.view.writes (Elt F) (harg25.unread x25)) h1).trans (harg25.eq_unread (read_zero _ _ _))
  have hY26 : arg26.view.writes (Elt F) (harg26.unread x26) L26
      = harg26.unread (arg26.view.read (Elt F) (arg26.view.writes (Elt F) (harg26.unread x26) (basePieces (base x5 x9)))) :=
    (congrArg (arg26.view.writes (Elt F) (harg26.unread x26)) (h2.trans (congrArg basePieces b9))).trans (harg26.unread_read _).symm
  have hY27 : arg27.view.writes (Elt F) (harg27.unread x27) L27
      = harg27.unread (arg27.view.read (Elt F) (arg27.view.writes (Elt F) (harg27.unread x27) (basePieces (base x5 x10)))) :=
    (congrArg (arg27.view.writes (Elt F) (harg27.unread x27)) (h3.trans (congrArg basePieces b10))).trans (harg27.unread_read _).symm
  have h : iprop((arg5.view.loc (c : Thread nD τ) ↦{q5} harg5.unread x5) ∗ (arg9.view.loc (c : Thread nD τ) ↦{q9} harg9.unread x9) ∗ (arg10.view.loc (c : Thread nD τ) ↦{q10} harg10.unread x10) ∗ (arg25.view.loc (c : Thread nD τ) ↦{fullShare} harg25.unread x25) ∗ (arg26.view.loc (c : Thread nD τ) ↦{fullShare} harg26.unread x26) ∗ (arg27.view.loc (c : Thread nD τ) ↦{fullShare} harg27.unread x27) ∗ (iprop((arg5.view.loc (c : Thread nD τ) ↦{q5} harg5.unread x5) ∗ (arg9.view.loc (c : Thread nD τ) ↦{q9} harg9.unread x9) ∗ (arg10.view.loc (c : Thread nD τ) ↦{q10} harg10.unread x10) ∗ (arg25.view.loc (c : Thread nD τ) ↦{fullShare} arg25.view.writes (Elt F) (harg25.unread x25) L25) ∗ (arg26.view.loc (c : Thread nD τ) ↦{fullShare} arg26.view.writes (Elt F) (harg26.unread x26) L26) ∗ (arg27.view.loc (c : Thread nD τ) ↦{fullShare} arg27.view.writes (Elt F) (harg27.unread x27) L27)) -∗ K ⟨⟩))
      ⊢ wp frame (wpE (defs₀ (F := F)) Variants.none c none) E (bodyA (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := h
  rw [hY25, hY26, hY27] at h
  have hp : (∀ t, pick4 (arg26.view.read (Elt F) (arg26.view.writes (Elt F) (harg26.unread x26) (basePieces (base x5 x9)))) t = baseRow (base x5 x9) t)
      ∧ (∀ t, pick4 (arg27.view.read (Elt F) (arg27.view.writes (Elt F) (harg27.unread x27) (basePieces (base x5 x10)))) t = baseRow (base x5 x10) t) :=
    ⟨fun t => pick4_base _ _ t, fun t => pick4_base _ _ t⟩
  iintro ⟨H5, H9, H10, H25, H26, H27, Hk⟩
  iapply h
  isplitl [H5]; · iexact H5
  isplitl [H9]; · iexact H9
  isplitl [H10]; · iexact H10
  isplitl [H25]; · iexact H25
  isplitl [H26]; · iexact H26
  isplitl [H27]; · iexact H27
  ispecialize Hk $$ %(arg26.view.read (Elt F) (arg26.view.writes (Elt F) (harg26.unread x26) (basePieces (base x5 x9)))) %(arg27.view.read (Elt F) (arg27.view.writes (Elt F) (harg27.unread x27) (basePieces (base x5 x10)))) %hp
  iexact Hk

end Cert.GateUp.Gen

end
-- ==== Proof.GateUpTab.lean ====
/-
  What the three prefetched tables hold - an order of the tenants, a number of active ones and the tenant of each slot of
  the grid - and what the body's word computations and side conditions come to with them.
-/
module

public import proofs.«01_k».proof.Proof.GateUpKit
public import proofs.«01_k».proof.Proof.GateUpStepRun

@[expose] public section

set_option maxRecDepth 16384

noncomputable section

namespace Cert.GateUp.Gen

open Idealize.ShloMosaic Idealize.ShloMosaic.TcCoe Idealize.ShloMosaic.Tactic
open Idealize.ShloMosaic.ValueIdx

variable {F : FTy → Type} [FloatOps F]

/-- The position in the order which slot `s` of the grid takes, of `n` active tenants. -/
def slotPos (n s : ℕ) : Fin 24 := ⟨min (min (min (s / 5) ((n - 1) / 5) * 5 + s % 5) (n - 1)) 23, by omega⟩

/-- The tables hold the order `ord`, the number `n` of active tenants and the tenant of each slot. -/
structure Tab (pf : pre0.Contents (Elt F)) (ord : Fin 24 → Fin 24) (n : ℕ) : Prop where
  n_le : n ≤ 24
  h0 : ∀ p : S24.Idx, (show Vec F S24 .i32 from pf 0) p = BitVec.ofNat 32 (ord (p (0 : Fin 1))).val
  h1 : ∀ p : S1.Idx, (show Vec F S1 .i32 from pf 1) p = BitVec.ofNat 32 n
  h2 : ∀ p : S25.Idx, (show Vec F S25 .i32 from pf 2) p = BitVec.ofNat 32 (ord (slotPos n (p (0 : Fin 1)).val)).val

theorem slotPos_eq (n g k : ℕ) (hk : k < 5) (hg : g * 5 < n) (hn : n ≤ 24) : (slotPos n (g * 5 + k)).val = min (g * 5 + k) (n - 1) := by
  unfold slotPos; simp only; omega

/-- The group of a grid point. -/
abbrev grpOf (i : grid0.Coords) : ℕ := (i 1).val

theorem grpOf_lt (i : grid0.Coords) : grpOf i < 5 := (i 1).isLt

theorem toNat_fin (t : Fin 24) : (BitVec.ofNat 32 t.val).toNat = t.val := by
  rw [BitVec.toNat_ofNat]; have := t.isLt; omega

/-- A word below 24 is that tenant's. -/
theorem cond2_iff (i : grid0.Coords) (n : ℕ) (hn : n ≤ 24) : k0_cond2 i (BitVec.ofNat 32 n) = 1#1 ↔ grpOf i * 5 < n := by
  have hg := grpOf_lt i
  have H : ∀ (g : Fin 5) (n : Fin 25), (Scalar.cmpi .ne (Scalar.extui (Scalar.cmpi .slt (Scalar.muli (BitVec.ofNat 32 g.val) 5#32) (BitVec.ofNat 32 n.val)) : BitVec 32) 0#32 = 1#1 ↔ g.val * 5 < n.val) := by decide
  exact H ⟨grpOf i, hg⟩ ⟨n, by omega⟩

theorem off2_eq (i : grid0.Coords) (n : ℕ) (hn : n ≤ 24) (hg : grpOf i * 5 < n) : k0_off2 i (BitVec.ofNat 32 n) 0 = min (grpOf i * 5 + 0) (n - 1) := by
  have hi := grpOf_lt i
  have H : ∀ (g : Fin 5) (n : Fin 25), g.val * 5 < n.val → (Scalar.minsi (Scalar.addi (Scalar.muli (BitVec.ofNat 32 g.val) 5#32) 0#32) (Scalar.subi (BitVec.ofNat 32 n.val) 1#32)).toNat = min (g.val * 5 + 0) (n.val - 1) := by decide
  exact H ⟨grpOf i, hi⟩ ⟨n, by omega⟩ hg

theorem chk1_of (i : grid0.Coords) (n : ℕ) (hn : n ≤ 24) : k0_chk1 i (BitVec.ofNat 32 n) (BitVec.ofNat 32 n) := by
  intro h a
  have hg := (cond2_iff i n hn).mp h
  have h0 := off2_eq i n hn hg
  obtain rfl : a = (0 : Fin 1) := Subsingleton.elim (α := Fin 1) _ _
  rw [h0]; show _ + 1 ≤ 24
  omega

theorem chk2_of (i : grid0.Coords) (v w : BitVec 32) (hw : w.toNat < 24) : k0_chk2 i v w := by
  refine ⟨fun _ => ?_, fun _ => ?_, fun _ => ?_, fun _ => ?_, fun _ => ?_⟩ <;>
    exact fun a => by
      fin_cases a
      · show w.toNat + 1 ≤ 24; omega
      · exact Nat.le_of_ble_eq_true rfl
      · exact Nat.le_of_ble_eq_true rfl

theorem off8_eq (i : grid0.Coords) (n : ℕ) (hn : n ≤ 24) (hg : grpOf i * 5 < n) : k0_off8 i (BitVec.ofNat 32 n) 0 = min (grpOf i * 5 + 1) (n - 1) := by
  have hi := grpOf_lt i
  have H : ∀ (g : Fin 5) (n : Fin 25), g.val * 5 < n.val → (Scalar.minsi (Scalar.addi (Scalar.muli (BitVec.ofNat 32 g.val) 5#32) 1#32) (Scalar.subi (BitVec.ofNat 32 n.val) 1#32)).toNat = min (g.val * 5 + 1) (n.val - 1) := by decide
  exact H ⟨grpOf i, hi⟩ ⟨n, by omega⟩ hg

theorem chk3_of (i : grid0.Coords) (n : ℕ) (hn : n ≤ 24) : k0_chk3 i (BitVec.ofNat 32 n) (BitVec.ofNat 32 n) := by
  intro h a
  have hg := (cond2_iff i n hn).mp h
  have h0 := off8_eq i n hn hg
  obtain rfl : a = (0 : Fin 1) := Subsingleton.elim (α := Fin 1) _ _
  rw [h0]; show _ + 1 ≤ 24
  omega

theorem chk4_of (i : grid0.Coords) (v w : BitVec 32) (hw : w.toNat < 24) : k0_chk4 i v w := by
  refine ⟨fun _ => ?_, fun _ => ?_, fun _ => ?_, fun _ => ?_, fun _ => ?_⟩ <;>
    exact fun a => by
      fin_cases a
      · show w.toNat + 1 ≤ 24; omega
      · exact Nat.le_of_ble_eq_true rfl
      · exact Nat.le_of_ble_eq_true rfl

theorem off14_eq (i : grid0.Coords) (n : ℕ) (hn : n ≤ 24) (hg : grpOf i * 5 < n) : k0_off14 i (BitVec.ofNat 32 n) 0 = min (grpOf i * 5 + 2) (n - 1) := by
  have hi := grpOf_lt i
  have H : ∀ (g : Fin 5) (n : Fin 25), g.val * 5 < n.val → (Scalar.minsi (Scalar.addi (Scalar.muli (BitVec.ofNat 32 g.val) 5#32) 2#32) (Scalar.subi (BitVec.ofNat 32 n.val) 1#32)).toNat = min (g.val * 5 + 2) (n.val - 1) := by decide
  exact H ⟨grpOf i, hi⟩ ⟨n, by omega⟩ hg

theorem chk5_of (i : grid0.Coords) (n : ℕ) (hn : n ≤ 24) : k0_chk5 i (BitVec.ofNat 32 n) (BitVec.ofNat 32 n) := by
  intro h a
  have hg := (cond2_iff i n hn).mp h
  have h0 := off14_eq i n hn hg
  obtain rfl : a = (0 : Fin 1) := Subsingleton.elim (α := Fin 1) _ _
  rw [h0]; show _ + 1 ≤ 24
  omega

theorem chk6_of (i : grid0.Coords) (v w : BitVec 32) (hw : w.toNat < 24) : k0_chk6 i v w := by
  refine ⟨fun _ => ?_, fun _ => ?_, fun _ => ?_, fun _ => ?_, fun _ => ?_⟩ <;>
    exact fun a => by
      fin_cases a
      · show w.toNat + 1 ≤ 24; omega
      · exact Nat.le_of_ble_eq_true rfl
      · exact Nat.le_of_ble_eq_true rfl

theorem off20_eq (i : grid0.Coords) (n : ℕ) (hn : n ≤ 24) (hg : grpOf i * 5 < n) : k0_off20 i (BitVec.ofNat 32 n) 0 = min (grpOf i * 5 + 3) (n - 1) := by
  have hi := grpOf_lt i
  have H : ∀ (g : Fin 5) (n : Fin 25), g.val * 5 < n.val → (Scalar.minsi (Scalar.addi (Scalar.muli (BitVec.ofNat 32 g.val) 5#32) 3#32) (Scalar.subi (BitVec.ofNat 32 n.val) 1#32)).toNat = min (g.val * 5 + 3) (n.val - 1) := by decide
  exact H ⟨grpOf i, hi⟩ ⟨n, by omega⟩ hg

theorem chk7_of (i : grid0.Coords) (n : ℕ) (hn : n ≤ 24) : k0_chk7 i (BitVec.ofNat 32 n) (BitVec.ofNat 32 n) := by
  intro h a
  have hg := (cond2_iff i n hn).mp h
  have h0 := off20_eq i n hn hg
  obtain rfl : a = (0 : Fin 1) := Subsingleton.elim (α := Fin 1) _ _
  rw [h0]; show _ + 1 ≤ 24
  omega

theorem chk8_of (i : grid0.Coords) (v w : BitVec 32) (hw : w.toNat < 24) : k0_chk8 i v w := by
  refine ⟨fun _ => ?_, fun _ => ?_, fun _ => ?_, fun _ => ?_, fun _ => ?_⟩ <;>
    exact fun a => by
      fin_cases a
      · show w.toNat + 1 ≤ 24; omega
      · exact Nat.le_of_ble_eq_true rfl
      · exact Nat.le_of_ble_eq_true rfl

theorem off26_eq (i : grid0.Coords) (n : ℕ) (hn : n ≤ 24) (hg : grpOf i * 5 < n) : k0_off26 i (BitVec.ofNat 32 n) 0 = min (grpOf i * 5 + 4) (n - 1) := by
  have hi := grpOf_lt i
  have H : ∀ (g : Fin 5) (n : Fin 25), g.val * 5 < n.val → (Scalar.minsi (Scalar.addi (Scalar.muli (BitVec.ofNat 32 g.val) 5#32) 4#32) (Scalar.subi (BitVec.ofNat 32 n.val) 1#32)).toNat = min (g.val * 5 + 4) (n.val - 1) := by decide
  exact H ⟨grpOf i, hi⟩ ⟨n, by omega⟩ hg

theorem chk9_of (i : grid0.Coords) (n : ℕ) (hn : n ≤ 24) : k0_chk9 i (BitVec.ofNat 32 n) (BitVec.ofNat 32 n) := by
  intro h a
  have hg := (cond2_iff i n hn).mp h
  have h0 := off26_eq i n hn hg
  obtain rfl : a = (0 : Fin 1) := Subsingleton.elim (α := Fin 1) _ _
  rw [h0]; show _ + 1 ≤ 24
  omega

theorem chk10_of (i : grid0.Coords) (v w : BitVec 32) (hw : w.toNat < 24) : k0_chk10 i v w := by
  refine ⟨fun _ => ?_, fun _ => ?_, fun _ => ?_, fun _ => ?_, fun _ => ?_⟩ <;>
    exact fun a => by
      fin_cases a
      · show w.toNat + 1 ≤ 24; omega
      · exact Nat.le_of_ble_eq_true rfl
      · exact Nat.le_of_ble_eq_true rfl

/-- The tables' words keep every table-indexed window inside its array. -/
theorem ok_of_tab {pf : pre0.Contents (Elt F)} {ord : Fin 24 → Fin 24} {n : ℕ} (hT : Tab pf ord n) : ok0 pf := by
  have hw : ∀ p : S25.Idx, ((show Vec F S25 .i32 from pf 2) p).toNat < 24 := fun p => by
    rw [hT.h2]; rw [toNat_fin]; exact Fin.isLt _
  unfold ok0
  refine ⟨?_, ?_, ?_, ?_, ?_, ?_, ?_, ?_, ?_, ?_⟩ <;>
  · intro i
    refine ⟨fun a => ?_, Or.inl rfl⟩
    fin_cases a
    · show (_ + 1) * 1 ≤ 24
      rw [Nat.mul_one]; exact hw _
    · exact Nat.le_of_ble_eq_true rfl
    · have := (i 0).isLt
      have h37 : (i 0).val < 37 := this
      show ((BitVec.ofNat 32 (i 0).val).toNat + 1) * 512 ≤ 18944
      rw [BitVec.toNat_ofNat, Nat.mod_eq_of_lt (by omega)]; omega

/-- The word the body reads off the order at an offset. -/
theorem tWord_eq (f2 : Vec F S24 .i32) (ord : Fin 24 → Fin 24) (h0 : ∀ p : S24.Idx, f2 p = BitVec.ofNat 32 (ord (p (0 : Fin 1))).val)
    (off : Fin 1 → ℕ) (inb : ∀ a, off a + S1.size a ≤ S24.size a) (t : Fin 24) (ht : off 0 = t.val) :
    (tWord (F := F) (Memref.whole main_v2) f2 off inb).toNat = (ord t).val := by
  unfold tWord
  refine (congrArg BitVec.toNat (h0 _)).trans ?_
  rw [toNat_fin]
  congr 2
  apply Fin.ext
  show off 0 + _ = _
  rw [ht]; rfl

theorem nWord_eq (f3 : Vec F S1 .i32) (n : ℕ) (h1 : ∀ p : S1.Idx, f3 p = BitVec.ofNat 32 n) : nWord (F := F) (Memref.whole main_v7) f3 = BitVec.ofNat 32 n := h1 _

end Cert.GateUp.Gen

end
-- ==== Proof.GateUpHost.lean ====
/-
  What the host computes into the three prefetched tables: the tenants in a stable order with the active ones first, the
  number of active ones, and the tenant of each slot of the grid.
-/
module

public import proofs.«01_k».proof.Proof.GateUpTab
public import Idealize.ShloMosaic.Lib.Claim
public import Idealize.ShloMosaic.Lib.SortFacts
public import Idealize.ShloMosaic.Lib.IndicatorCount

@[expose] public section

set_option maxRecDepth 16384

noncomputable section

namespace Cert.GateUp.Gen

open Idealize.ShloMosaic Idealize.ShloMosaic.TcCoe Idealize.ShloMosaic.Tactic
open Idealize.ShloMosaic.ValueIdx

variable {F : FTy → Type} [FloatOps F]

/-! ## The order and the count -/

/-- Whether a tenant is inactive, as the host's bit. -/
def idleBit (x : IVec S24 32) (d : Fin 24) : BitVec 1 := IntOp.cmpi .sle (x (ix1 d)) 0#32
/-- Whether a tenant is active, as the host's bit. -/
def actBit (x : IVec S24 32) (i : S24.Idx) : BitVec 1 := IntOp.cmpi .sgt (x i) 0#32
/-- The host's order of the tenants. -/
def ordOf (x : IVec S24 32) : Fin 24 → Fin 24 := sortedFrom fun k k' => IntOp.cmpi .ult (idleBit x k) (idleBit x k') == 1#1
/-- The host's number of active tenants. -/
def cntOf (x : IVec S24 32) : ℕ := (Finset.univ.filter fun i : S24.Idx => actBit x i = 1#1).card

theorem cntOf_le (x : IVec S24 32) : cntOf x ≤ 24 := by
  refine (Finset.card_le_univ _).trans (Nat.le_of_eq ?_)
  rw [Shape.card_idx]
  rfl

theorem along_ix1 (j : S24.Idx) (k : Fin 24) : Shape.Idx.along j (0 : Fin S24.rank) k = ix1 k := by
  funext a
  obtain rfl : a = (0 : Fin 1) := Subsingleton.elim (α := Fin 1) _ _
  exact Function.update_self ..

/-- The count as the host reduces it. -/
theorem count_word (x : IVec S24 32) (j : S_.Idx) :
    Host.reduce IntOp.addi (extui 32 (cmpi .sgt x (broadcastInDim S24 ![] bcast_S_S24 (constantI S_ 32 0#32))) natLt_1_32) (constantI S_ 32 0#32) reducesTo_S24_S_d0 h_S_ j
      = BitVec.ofNat 32 (cntOf x) := by
  rw [Host.reduce_eq_fold, Finset.filter_true_of_mem (fun i _ => funext fun a => a.elim0)]
  exact IndicatorCount.fold_addi_setWidth_eq_card (fun i => actBit x i) _

/-- The order as the host sorts it. -/
theorem order_word (x : IVec S24 32) (j : S24.Idx) :
    (Host.sort2 S24 0 comparator_i1_i32_d0 (cmpi .sle x (broadcastInDim S24 ![] bcast_S_S24 (constantI S_ 32 0#32))) (iotaInDim S24 32 0)).2 j
      = BitVec.ofNat 32 (ordOf x (j (0 : Fin 1))).val := by
  unfold Host.sort2
  rw [dif_pos (show 0 < S24.rank from Nat.one_pos)]
  refine (congrArg (fun i : S24.Idx => BitVec.ofNat 32 (i (0 : Fin 1)).val) (along_ix1 j _)).trans ?_
  show BitVec.ofNat 32 (sortedFrom _ (j (0 : Fin 1))).val = _
  unfold ordOf
  have e : (fun k k' : Fin 24 => comparator_i1_i32_d0
        (cmpi .sle x (broadcastInDim S24 ![] bcast_S_S24 (constantI S_ 32 0#32)) (Shape.Idx.along j (0 : Fin S24.rank) k), iotaInDim S24 32 0 (Shape.Idx.along j (0 : Fin S24.rank) k))
        (cmpi .sle x (broadcastInDim S24 ![] bcast_S_S24 (constantI S_ 32 0#32)) (Shape.Idx.along j (0 : Fin S24.rank) k'), iotaInDim S24 32 0 (Shape.Idx.along j (0 : Fin S24.rank) k')) == 1#1)
      = fun k k' => IntOp.cmpi .ult (idleBit x k) (idleBit x k') == 1#1 := by
    funext k k'
    rw [along_ix1, along_ix1]; rfl
  exact congrArg (fun f => BitVec.ofNat 32 (sortedFrom f (j (0 : Fin 1))).val) e

/-! ## The slots -/

/-- The host's division by five. -/
def fdiv5 (s : Shape) (h : S_.BroadcastsInDim s (![] : Fin 0 → Fin s.rank)) (x : IVec s 32) : IVec s 32 :=
  select (andi (cmpi .ne (signi x) (broadcastInDim s ![] h (signi (constantI S_ 32 5#32))))
      (cmpi .ne (Host.remsi x (broadcastInDim s ![] h (constantI S_ 32 5#32))) (broadcastInDim s ![] h (constantI S_ 32 0#32))))
    (subi (Host.divsi x (broadcastInDim s ![] h (constantI S_ 32 5#32))) (broadcastInDim s ![] h (constantI S_ 32 1#32)))
    (Host.divsi x (broadcastInDim s ![] h (constantI S_ 32 5#32)))

/-- The divisor as the host guards it. -/
def five : IVec S_ 32 := select (cmpi .eq (constantI S_ 32 5#32) (constantI S_ 32 0#32)) (constantI S_ 32 1#32) (constantI S_ 32 5#32)

/-- The host's remainder by five. -/
def rem5 (x : IVec S25 32) : IVec S25 32 :=
  select (andi (cmpi .ne (cmpi .slt (Host.remsi x (broadcastInDim S25 ![] bcast_S_S25 five)) (broadcastInDim S25 ![] bcast_S_S25 (constantI S_ 32 0#32)))
        (broadcastInDim S25 ![] bcast_S_S25 (cmpi .slt five (constantI S_ 32 0#32))))
      (cmpi .ne (Host.remsi x (broadcastInDim S25 ![] bcast_S_S25 five)) (broadcastInDim S25 ![] bcast_S_S25 (constantI S_ 32 0#32))))
    (addi (Host.remsi x (broadcastInDim S25 ![] bcast_S_S25 five)) (broadcastInDim S25 ![] bcast_S_S25 five))
    (Host.remsi x (broadcastInDim S25 ![] bcast_S_S25 five))

/-- The last position that is taken. -/
def lastW (w : IVec S1 32) : IVec S1 32 :=
  maxsi (subi w (broadcastInDim S1 ![] bcast_S_S1 (constantI S_ 32 1#32))) (broadcastInDim S1 ![] bcast_S_S1 (constantI S_ 32 0#32))

/-- Each slot's position before the host looks at its sign. -/
def slotA (w : IVec S1 32) : IVec S25 32 :=
  minsi (addi (muli (minsi (fdiv5 S25 bcast_S_S25 (iotaInDim S25 32 0)) (broadcastInDim S25 ![0] bcast_S1_S25_0 (fdiv5 S1 bcast_S_S1 (lastW w))))
      (broadcastInDim S25 ![] bcast_S_S25 (constantI S_ 32 5#32))) (rem5 (iotaInDim S25 32 0)))
    (broadcastInDim S25 ![0] bcast_S1_S25_0 (lastW w))

/-- Each slot's position. -/
def slotW (w : IVec S1 32) : IVec S25 32 :=
  select (cmpi .slt (slotA w) (broadcastInDim S25 ![] bcast_S_S25 (constantI S_ 32 0#32)))
    (addi (slotA w) (broadcastInDim S25 ![] bcast_S_S25 (constantI S_ 32 24#32))) (slotA w)

theorem slotW_eq : ∀ (n : Fin 25) (p : Fin 25), slotW (fun _ => BitVec.ofNat 32 n.val) (ix1 p) = BitVec.ofNat 32 (slotPos n.val p.val).val := by
  decide +kernel

theorem toInt_small : ∀ t : Fin 24, (BitVec.ofNat 32 t.val).toInt.toNat = t.val := by decide

/-- The table at a slot is the order at that slot's word, read signed and clamped. -/
theorem gather_slot (x : IVec S24 32) (idx : IVec S25x1 32) (y : S25.Idx) :
    Host.gather gather_S24_S25x1_S25_n_0_n_n_0_1_1 x idx y
      = x (ix1 ⟨min (idx (ix2 (y (0 : Fin 1)) 0)).toInt.toNat 23, by omega⟩) := by
  unfold Host.gather
  refine congrArg x ?_
  funext a
  obtain rfl : a = (0 : Fin 1) := Subsingleton.elim (α := Fin 1) _ _
  refine Fin.ext ?_
  show gather_S24_S25x1_S25_n_0_n_n_0_1_1.start y idx (0 : Fin 1) + gather_S24_S25x1_S25_n_0_n_n_0_1_1.batchCoord y (0 : Fin 1) + gather_S24_S25x1_S25_n_0_n_n_0_1_1.offCoord y (0 : Fin 1) = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S24_S25x1_S25_n_0_n_n_0_1_1.startIndexMap from List.mem_singleton.mpr rfl)]
  have hsi : gather_S24_S25x1_S25_n_0_n_n_0_1_1.siIdx y ⟨List.idxOf (0 : Fin 1) gather_S24_S25x1_S25_n_0_n_n_0_1_1.startIndexMap,
      List.idxOf_lt_length_iff.2 (List.mem_singleton.mpr rfl)⟩ = ix2 (y (0 : Fin 1)) 0 := by
    funext b; refine Fin.ext ?_
    match b with
    | ⟨0, _⟩ => rfl
    | ⟨1, _⟩ => rfl
  rw [hsi]
  rfl

theorem gather_tab (x : IVec S24 32) (o : Fin 24 → Fin 24) (n : ℕ) (hn : n ≤ 24) (hx : ∀ p : S24.Idx, x p = BitVec.ofNat 32 (o (p (0 : Fin 1))).val)
    (w : IVec S1 32) (hw : w = fun _ => BitVec.ofNat 32 n) (p : S25.Idx) :
    Host.gather gather_S24_S25x1_S25_n_0_n_n_0_1_1 x (broadcastInDim S25x1 ![0] bcast_S25_S25x1_0 (slotW w)) p
      = BitVec.ofNat 32 (o (slotPos n (p (0 : Fin 1)).val)).val := by
  subst hw
  rw [gather_slot, hx]
  have e : broadcastInDim S25x1 ![0] bcast_S25_S25x1_0 (slotW fun _ => BitVec.ofNat 32 n) (ix2 (p (0 : Fin 1)) 0) = BitVec.ofNat 32 (slotPos n (p (0 : Fin 1)).val).val := by
    refine Eq.trans ?_ (slotW_eq ⟨n, by omega⟩ (p (0 : Fin 1)))
    refine congrArg (slotW _) (funext fun a => ?_)
    obtain rfl : a = (0 : Fin 1) := Subsingleton.elim (α := Fin 1) _ _
    rfl
  refine congrArg (fun t : Fin 24 => BitVec.ofNat 32 (o t).val) (Fin.ext ?_)
  refine (congrArg (fun v : BitVec 32 => min v.toInt.toNat 23) e).trans ?_
  simp only [toInt_small]
  have := (slotPos n (p (0 : Fin 1)).val).isLt
  omega

/-! ## The tables as the program leaves them -/

variable (m : (ℓ : Loc nD τ sig) → Buf (Elt F) ℓ)

/-- The tenants' counts, the program's third argument. -/
def counts : IVec S24 32 := m (0, Proc.tc.devRef main_arg2)

theorem V_order : (show IVec S24 32 from V m 0 main_v2)
    = (Host.sort2 S24 0 comparator_i1_i32_d0 (cmpi .sle (counts m) (broadcastInDim S24 ![] bcast_S_S24 (constantI S_ 32 0#32))) (iotaInDim S24 32 0)).2 := by
  show V m 0 main_v2 = _
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append, StableHlo.after_cons, StableHlo.after_nil]
  after_results_simp
  rfl

theorem V_count : (show IVec S1 32 from V m 0 main_v7) = fun _ => BitVec.ofNat 32 (cntOf (counts m)) := by
  show V m 0 main_v7 = _
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append, StableHlo.after_cons, StableHlo.after_nil]
  after_results_simp
  funext j
  exact count_word (counts m) _

set_option maxHeartbeats 2000000 in
theorem V_slots : (show IVec S25 32 from V m 0 main_v48)
    = Host.gather gather_S24_S25x1_S25_n_0_n_n_0_1_1 (show IVec S24 32 from V m 0 main_v2) (broadcastInDim S25x1 ![0] bcast_S25_S25x1_0 (slotW (show IVec S1 32 from V m 0 main_v7))) := by
  show V m 0 main_v48 = Host.gather gather_S24_S25x1_S25_n_0_n_n_0_1_1 (V m 0 main_v2) (broadcastInDim S25x1 ![0] bcast_S25_S25x1_0 (slotW (V m 0 main_v7)))
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append, StableHlo.after_cons, StableHlo.after_nil]
  after_results_simp
  simp -implicitDefEqProofs only [StableHlo.TRef.toBuf, StableHlo.TRef.ofBuf, cast_cast, cast_eq, id]
  unfold slotW slotA rem5 five fdiv5 lastW
  rfl

theorem V_order_word (p : S24.Idx) : (show IVec S24 32 from V m 0 main_v2) p = BitVec.ofNat 32 (ordOf (counts m) (p (0 : Fin 1))).val :=
  (congrFun (V_order m) p).trans (order_word (counts m) p)

/-- The tables hold the host's order, its count and its slots. -/
theorem tab : Tab (tbl m) (ordOf (counts m)) (cntOf (counts m)) where
  n_le := cntOf_le _
  h0 := V_order_word m
  h1 := fun p => congrFun (V_count m) p
  h2 := fun p => (congrFun (V_slots m) p).trans (gather_tab _ _ _ (cntOf_le _) (V_order_word m) _ (V_count m) p)

/-! ## What the order puts first -/

theorem ordOf_injective (x : IVec S24 32) : Function.Injective (ordOf x) := sortedFrom_injective _

end Cert.GateUp.Gen
-- ==== Proof.GateUpBodyWp.lean ====
/-
  One grid point's whole body: what it leaves in the output block, whichever of its two conditions hold.
-/
module

public import proofs.«01_k».proof.Proof.GateUpTab
public import Idealize.ShloMosaic.Lib.WritesUnit

@[expose] public section

set_option maxRecDepth 16384

noncomputable section

namespace Cert.GateUp.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ (UR sig nD τ) ℕ

/-- What a group leaves in the output block: its five tenants' rows, where it has any. -/
def outStep (i : grid0.Coords) (n : ℕ) (T : Fin 5 → Fin 24) (R : Fin 5 → FVec F S1x4x512 .f32) (Y : Vec F S24x4x512 .f32) : Vec F S24x4x512 .f32 :=
  if grpOf i * 5 < n then putRow (T 4) (R 4) (putRow (T 3) (R 3) (putRow (T 2) (R 2) (putRow (T 1) (R 1) (putRow (T 0) (R 0) Y)))) else Y

/-- What a grid point leaves in the output block: cleared first at a tile's start. -/
def outPt (i : grid0.Coords) (n : ℕ) (T : Fin 5 → Fin 24) (R : Fin 5 → FVec F S1x4x512 .f32) (Y : Vec F S24x4x512 .f32) : Vec F S24x4x512 .f32 :=
  outStep i n T R (if grpOf i = 0 then k0_pay9 else Y)

theorem cond1_iff (i : grid0.Coords) : k0_cond1 i = 1#1 ↔ grpOf i = 0 := by
  have H : ∀ g : Fin 5, (Scalar.cmpi .ne (Scalar.extui (Scalar.cmpi .eq (BitVec.ofNat 32 g.val) 0#32) : BitVec 32) 0#32 = 1#1 ↔ g.val = 0) := by decide
  exact H ⟨grpOf i, grpOf_lt i⟩

set_option maxHeartbeats 4000000 in
/-- The first program where it has nothing to do. -/
theorem skipA_wp (c : Dev nD) (i : grid0.Coords) (arg2 : Memref sig .tc .smem S24 .i32) (harg2 : arg2.IsWhole) (arg3 : Memref sig .tc .smem S1 .i32) (harg3 : arg3.IsWhole) (arg4 : Memref sig .tc .smem S25 .i32) (harg4 : arg4.IsWhole) (arg5 : Memref sig .tc .vmem S96x3584 .bf16) (harg5 : arg5.IsWhole) (arg6 : Memref sig .tc .vmem S24x16x3584 .bf16) (harg6 : arg6.IsWhole) (arg7 : Memref sig .tc .vmem S24x4x1 .f32) (harg7 : arg7.IsWhole) (arg8 : Memref sig .tc .vmem S24x4x1 .f32) (harg8 : arg8.IsWhole) (arg9 : Memref sig .tc .vmem S3584x512 .i8) (harg9 : arg9.IsWhole) (arg10 : Memref sig .tc .vmem S3584x512 .i8) (harg10 : arg10.IsWhole) (arg11 : Memref sig .tc .vmem S1x512 .f32) (harg11 : arg11.IsWhole) (arg12 : Memref sig .tc .vmem S1x512 .f32) (harg12 : arg12.IsWhole) (arg13 : Memref sig .tc .vmem S24x1x512 .f32) (harg13 : arg13.IsWhole) (arg14 : Memref sig .tc .vmem S24x1x512 .f32) (harg14 : arg14.IsWhole) (arg15 : Memref sig .tc .vmem S1x112x512 .i32) (harg15 : arg15.IsWhole) (arg16 : Memref sig .tc .vmem S1x112x512 .i32) (harg16 : arg16.IsWhole) (arg17 : Memref sig .tc .vmem S1x112x512 .i32) (harg17 : arg17.IsWhole) (arg18 : Memref sig .tc .vmem S1x112x512 .i32) (harg18 : arg18.IsWhole) (arg19 : Memref sig .tc .vmem S1x112x512 .i32) (harg19 : arg19.IsWhole) (arg20 : Memref sig .tc .vmem S1x112x512 .i32) (harg20 : arg20.IsWhole) (arg21 : Memref sig .tc .vmem S1x112x512 .i32) (harg21 : arg21.IsWhole) (arg22 : Memref sig .tc .vmem S1x112x512 .i32) (harg22 : arg22.IsWhole) (arg23 : Memref sig .tc .vmem S1x112x512 .i32) (harg23 : arg23.IsWhole) (arg24 : Memref sig .tc .vmem S1x112x512 .i32) (harg24 : arg24.IsWhole) (arg25 : Memref sig .tc .vmem S24x4x512 .f32) (harg25 : arg25.IsWhole) (arg26 : Memref sig .tc .vmem S24x8x512 .f32) (harg26 : arg26.IsWhole) (arg27 : Memref sig .tc .vmem S24x8x512 .f32) (harg27 : arg27.IsWhole) (hc1 : ¬ k0_cond1 i = 1#1) (E : Set ℕ) (K : PUnit → sProp 𝕄) :
    K ⟨⟩ ⊢ wp frame (wpE (defs₀ (F := F)) Variants.none c none) E (bodyA (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  unfold bodyA
  rw [dif_neg hc1, wp_pure]
  iintro H
  imodintro
  iexact H

set_option maxHeartbeats 4000000 in
/-- The second program where its group has no tenants. -/
theorem skipB_wp (c : Dev nD) (i : grid0.Coords) (arg2 : Memref sig .tc .smem S24 .i32) (harg2 : arg2.IsWhole) (arg3 : Memref sig .tc .smem S1 .i32) (harg3 : arg3.IsWhole) (arg4 : Memref sig .tc .smem S25 .i32) (harg4 : arg4.IsWhole) (arg5 : Memref sig .tc .vmem S96x3584 .bf16) (harg5 : arg5.IsWhole) (arg6 : Memref sig .tc .vmem S24x16x3584 .bf16) (harg6 : arg6.IsWhole) (arg7 : Memref sig .tc .vmem S24x4x1 .f32) (harg7 : arg7.IsWhole) (arg8 : Memref sig .tc .vmem S24x4x1 .f32) (harg8 : arg8.IsWhole) (arg9 : Memref sig .tc .vmem S3584x512 .i8) (harg9 : arg9.IsWhole) (arg10 : Memref sig .tc .vmem S3584x512 .i8) (harg10 : arg10.IsWhole) (arg11 : Memref sig .tc .vmem S1x512 .f32) (harg11 : arg11.IsWhole) (arg12 : Memref sig .tc .vmem S1x512 .f32) (harg12 : arg12.IsWhole) (arg13 : Memref sig .tc .vmem S24x1x512 .f32) (harg13 : arg13.IsWhole) (arg14 : Memref sig .tc .vmem S24x1x512 .f32) (harg14 : arg14.IsWhole) (arg15 : Memref sig .tc .vmem S1x112x512 .i32) (harg15 : arg15.IsWhole) (arg16 : Memref sig .tc .vmem S1x112x512 .i32) (harg16 : arg16.IsWhole) (arg17 : Memref sig .tc .vmem S1x112x512 .i32) (harg17 : arg17.IsWhole) (arg18 : Memref sig .tc .vmem S1x112x512 .i32) (harg18 : arg18.IsWhole) (arg19 : Memref sig .tc .vmem S1x112x512 .i32) (harg19 : arg19.IsWhole) (arg20 : Memref sig .tc .vmem S1x112x512 .i32) (harg20 : arg20.IsWhole) (arg21 : Memref sig .tc .vmem S1x112x512 .i32) (harg21 : arg21.IsWhole) (arg22 : Memref sig .tc .vmem S1x112x512 .i32) (harg22 : arg22.IsWhole) (arg23 : Memref sig .tc .vmem S1x112x512 .i32) (harg23 : arg23.IsWhole) (arg24 : Memref sig .tc .vmem S1x112x512 .i32) (harg24 : arg24.IsWhole) (arg25 : Memref sig .tc .vmem S24x4x512 .f32) (harg25 : arg25.IsWhole) (arg26 : Memref sig .tc .vmem S24x8x512 .f32) (harg26 : arg26.IsWhole) (arg27 : Memref sig .tc .vmem S24x8x512 .f32) (harg27 : arg27.IsWhole) (f3 : Buf (Elt F) (arg3.view.loc (c : Thread nD τ)))
    (hc2 : ∀ r y, ¬ k0_cond2 i (View.readAt (Elt F) arg3.view r f3 y) = 1#1) (q3 : PosShare TreeShare) (E : Set ℕ) (K : PUnit → sProp 𝕄) :
    iprop((arg3.view.loc (c : Thread nD τ) ↦{q3} f3) ∗ (iprop((arg3.view.loc (c : Thread nD τ) ↦{q3} f3)) -∗ K ⟨⟩))
      ⊢ wp frame (wpE (defs₀ (F := F)) Variants.none c none) E (bodyB (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  iintro ⟨H3, Hk⟩
  sl_unfold [bodyB]
  sl_exec_parts (disch := first | (guard_target = ¬ (k0_cond2 _ _ = _); exact hc2 _ _))
  sl_step
  iapply Hk
  iexact H3

set_option maxHeartbeats 8000000 in
/-- The second program, whichever way its condition falls, once the scratch rows hold the tile's base products. -/
theorem stepB_wp (c : Dev nD) (i : grid0.Coords) (arg2 : Memref sig .tc .smem S24 .i32) (harg2 : arg2.IsWhole) (arg3 : Memref sig .tc .smem S1 .i32) (harg3 : arg3.IsWhole) (arg4 : Memref sig .tc .smem S25 .i32) (harg4 : arg4.IsWhole) (arg5 : Memref sig .tc .vmem S96x3584 .bf16) (harg5 : arg5.IsWhole) (arg6 : Memref sig .tc .vmem S24x16x3584 .bf16) (harg6 : arg6.IsWhole) (arg7 : Memref sig .tc .vmem S24x4x1 .f32) (harg7 : arg7.IsWhole) (arg8 : Memref sig .tc .vmem S24x4x1 .f32) (harg8 : arg8.IsWhole) (arg9 : Memref sig .tc .vmem S3584x512 .i8) (harg9 : arg9.IsWhole) (arg10 : Memref sig .tc .vmem S3584x512 .i8) (harg10 : arg10.IsWhole) (arg11 : Memref sig .tc .vmem S1x512 .f32) (harg11 : arg11.IsWhole) (arg12 : Memref sig .tc .vmem S1x512 .f32) (harg12 : arg12.IsWhole) (arg13 : Memref sig .tc .vmem S24x1x512 .f32) (harg13 : arg13.IsWhole) (arg14 : Memref sig .tc .vmem S24x1x512 .f32) (harg14 : arg14.IsWhole) (arg15 : Memref sig .tc .vmem S1x112x512 .i32) (harg15 : arg15.IsWhole) (arg16 : Memref sig .tc .vmem S1x112x512 .i32) (harg16 : arg16.IsWhole) (arg17 : Memref sig .tc .vmem S1x112x512 .i32) (harg17 : arg17.IsWhole) (arg18 : Memref sig .tc .vmem S1x112x512 .i32) (harg18 : arg18.IsWhole) (arg19 : Memref sig .tc .vmem S1x112x512 .i32) (harg19 : arg19.IsWhole) (arg20 : Memref sig .tc .vmem S1x112x512 .i32) (harg20 : arg20.IsWhole) (arg21 : Memref sig .tc .vmem S1x112x512 .i32) (harg21 : arg21.IsWhole) (arg22 : Memref sig .tc .vmem S1x112x512 .i32) (harg22 : arg22.IsWhole) (arg23 : Memref sig .tc .vmem S1x112x512 .i32) (harg23 : arg23.IsWhole) (arg24 : Memref sig .tc .vmem S1x112x512 .i32) (harg24 : arg24.IsWhole) (arg25 : Memref sig .tc .vmem S24x4x512 .f32) (harg25 : arg25.IsWhole) (arg26 : Memref sig .tc .vmem S24x8x512 .f32) (harg26 : arg26.IsWhole) (arg27 : Memref sig .tc .vmem S24x8x512 .f32) (harg27 : arg27.IsWhole)
    (x5 : Vec F S96x3584 .bf16) (x6 : Vec F S24x16x3584 .bf16) (x7 : Vec F S24x4x1 .f32) (x8 : Vec F S24x4x1 .f32) (x9 : Vec F S3584x512 .i8) (x10 : Vec F S3584x512 .i8) (x11 : Vec F S1x512 .f32) (x12 : Vec F S1x512 .f32) (x13 : Vec F S24x1x512 .f32) (x14 : Vec F S24x1x512 .f32) (x15 : Vec F S1x112x512 .i32) (x16 : Vec F S1x112x512 .i32) (x17 : Vec F S1x112x512 .i32) (x18 : Vec F S1x112x512 .i32) (x19 : Vec F S1x112x512 .i32) (x20 : Vec F S1x112x512 .i32) (x21 : Vec F S1x112x512 .i32) (x22 : Vec F S1x112x512 .i32) (x23 : Vec F S1x112x512 .i32) (x24 : Vec F S1x112x512 .i32) (x25 : Vec F S24x4x512 .f32) (x26 : Vec F S24x8x512 .f32) (x27 : Vec F S24x8x512 .f32)
    (f2 : Buf (Elt F) (arg2.view.loc (c : Thread nD τ))) (f3 : Buf (Elt F) (arg3.view.loc (c : Thread nD τ)))
    (n : ℕ) (hn : ∀ r y, View.readAt (Elt F) arg3.view r f3 y = BitVec.ofNat 32 n) (hn24 : n ≤ 24)
    (hw : ∀ r y, BitVec.toNat (View.readAt (Elt F) arg2.view r f2 y) < 24) (T : Fin 5 → Fin 24)
    (ht0 : grpOf i * 5 < n → ∀ inb, (tWord arg2 f2 (k0_off2 i (nWord arg3 f3)) inb).toNat = (T 0).val)
    (ht1 : grpOf i * 5 < n → ∀ inb, (tWord arg2 f2 (k0_off8 i (nWord arg3 f3)) inb).toNat = (T 1).val)
    (ht2 : grpOf i * 5 < n → ∀ inb, (tWord arg2 f2 (k0_off14 i (nWord arg3 f3)) inb).toNat = (T 2).val)
    (ht3 : grpOf i * 5 < n → ∀ inb, (tWord arg2 f2 (k0_off20 i (nWord arg3 f3)) inb).toNat = (T 3).val)
    (ht4 : grpOf i * 5 < n → ∀ inb, (tWord arg2 f2 (k0_off26 i (nWord arg3 f3)) inb).toNat = (T 4).val)
    (hb : (∀ t, pick4 x26 t = baseRow (base x5 x9) t) ∧ (∀ t, pick4 x27 t = baseRow (base x5 x10) t))
    (q2 q3 q5 q6 q7 q8 q9 q10 q11 q12 q13 q14 q15 q16 q17 q18 q19 q20 q21 q22 q23 q24 : PosShare TreeShare) (E : Set ℕ) (K : PUnit → sProp 𝕄) :
    iprop((arg2.view.loc (c : Thread nD τ) ↦{q2} f2) ∗ (arg3.view.loc (c : Thread nD τ) ↦{q3} f3) ∗ (arg5.view.loc (c : Thread nD τ) ↦{q5} harg5.unread x5) ∗ (arg6.view.loc (c : Thread nD τ) ↦{q6} harg6.unread x6) ∗ (arg7.view.loc (c : Thread nD τ) ↦{q7} harg7.unread x7) ∗ (arg8.view.loc (c : Thread nD τ) ↦{q8} harg8.unread x8) ∗ (arg9.view.loc (c : Thread nD τ) ↦{q9} harg9.unread x9) ∗ (arg10.view.loc (c : Thread nD τ) ↦{q10} harg10.unread x10) ∗ (arg11.view.loc (c : Thread nD τ) ↦{q11} harg11.unread x11) ∗ (arg12.view.loc (c : Thread nD τ) ↦{q12} harg12.unread x12) ∗ (arg13.view.loc (c : Thread nD τ) ↦{q13} harg13.unread x13) ∗ (arg14.view.loc (c : Thread nD τ) ↦{q14} harg14.unread x14) ∗ (arg15.view.loc (c : Thread nD τ) ↦{q15} harg15.unread x15) ∗ (arg16.view.loc (c : Thread nD τ) ↦{q16} harg16.unread x16) ∗ (arg17.view.loc (c : Thread nD τ) ↦{q17} harg17.unread x17) ∗ (arg18.view.loc (c : Thread nD τ) ↦{q18} harg18.unread x18) ∗ (arg19.view.loc (c : Thread nD τ) ↦{q19} harg19.unread x19) ∗ (arg20.view.loc (c : Thread nD τ) ↦{q20} harg20.unread x20) ∗ (arg21.view.loc (c : Thread nD τ) ↦{q21} harg21.unread x21) ∗ (arg22.view.loc (c : Thread nD τ) ↦{q22} harg22.unread x22) ∗ (arg23.view.loc (c : Thread nD τ) ↦{q23} harg23.unread x23) ∗ (arg24.view.loc (c : Thread nD τ) ↦{q24} harg24.unread x24) ∗ (arg25.view.loc (c : Thread nD τ) ↦{fullShare} harg25.unread x25) ∗ (arg26.view.loc (c : Thread nD τ) ↦{fullShare} harg26.unread x26) ∗ (arg27.view.loc (c : Thread nD τ) ↦{fullShare} harg27.unread x27) ∗ (iprop((arg2.view.loc (c : Thread nD τ) ↦{q2} f2) ∗ (arg3.view.loc (c : Thread nD τ) ↦{q3} f3) ∗ (arg5.view.loc (c : Thread nD τ) ↦{q5} harg5.unread x5) ∗ (arg6.view.loc (c : Thread nD τ) ↦{q6} harg6.unread x6) ∗ (arg7.view.loc (c : Thread nD τ) ↦{q7} harg7.unread x7) ∗ (arg8.view.loc (c : Thread nD τ) ↦{q8} harg8.unread x8) ∗ (arg9.view.loc (c : Thread nD τ) ↦{q9} harg9.unread x9) ∗ (arg10.view.loc (c : Thread nD τ) ↦{q10} harg10.unread x10) ∗ (arg11.view.loc (c : Thread nD τ) ↦{q11} harg11.unread x11) ∗ (arg12.view.loc (c : Thread nD τ) ↦{q12} harg12.unread x12) ∗ (arg13.view.loc (c : Thread nD τ) ↦{q13} harg13.unread x13) ∗ (arg14.view.loc (c : Thread nD τ) ↦{q14} harg14.unread x14) ∗ (arg15.view.loc (c : Thread nD τ) ↦{q15} harg15.unread x15) ∗ (arg16.view.loc (c : Thread nD τ) ↦{q16} harg16.unread x16) ∗ (arg17.view.loc (c : Thread nD τ) ↦{q17} harg17.unread x17) ∗ (arg18.view.loc (c : Thread nD τ) ↦{q18} harg18.unread x18) ∗ (arg19.view.loc (c : Thread nD τ) ↦{q19} harg19.unread x19) ∗ (arg20.view.loc (c : Thread nD τ) ↦{q20} harg20.unread x20) ∗ (arg21.view.loc (c : Thread nD τ) ↦{q21} harg21.unread x21) ∗ (arg22.view.loc (c : Thread nD τ) ↦{q22} harg22.unread x22) ∗ (arg23.view.loc (c : Thread nD τ) ↦{q23} harg23.unread x23) ∗ (arg24.view.loc (c : Thread nD τ) ↦{q24} harg24.unread x24) ∗ (arg25.view.loc (c : Thread nD τ) ↦{fullShare} harg25.unread (outStep i n T (fun k => rowV x6 x7 x8 x11 x12 x13 x14 (baseRow (base x5 x9) (T k)) (baseRow (base x5 x10) (T k)) (![x15, x16, x17, x18, x19] k) (![x20, x21, x22, x23, x24] k) (T k)) x25)) ∗ (arg26.view.loc (c : Thread nD τ) ↦{fullShare} harg26.unread x26) ∗ (arg27.view.loc (c : Thread nD τ) ↦{fullShare} harg27.unread x27)) -∗ K ⟨⟩))
      ⊢ wp frame (wpE (defs₀ (F := F)) Variants.none c none) E (bodyB (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  by_cases hg : grpOf i * 5 < n
  · have hn' : nWord arg3 f3 = BitVec.ofNat 32 n := hn _ _
    have hc2 : ∀ r y, k0_cond2 i (View.readAt (Elt F) arg3.view r f3 y) = 1#1 := fun r y => by rw [hn]; exact (cond2_iff i n hn24).mpr hg
    have h := runB_wp c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x6 x7 x8 x11 x12 x13 x14 x15 x16 x17 x18 x19 x20 x21 x22 x23 x24 x25 x26 x27 f2 f3 hc2
      (fun _ _ _ _ => by rw [hn, hn]; exact chk1_of i n hn24) (fun _ _ _ _ => by rw [hn, hn]; exact chk3_of i n hn24) (fun _ _ _ _ => by rw [hn, hn]; exact chk5_of i n hn24) (fun _ _ _ _ => by rw [hn, hn]; exact chk7_of i n hn24) (fun _ _ _ _ => by rw [hn, hn]; exact chk9_of i n hn24)
      (fun _ _ _ _ => chk2_of i _ _ (hw _ _)) (fun _ _ _ _ => chk4_of i _ _ (hw _ _)) (fun _ _ _ _ => chk6_of i _ _ (hw _ _)) (fun _ _ _ _ => chk8_of i _ _ (hw _ _)) (fun _ _ _ _ => chk10_of i _ _ (hw _ _))
      hw (T 0) (T 1) (T 2) (T 3) (T 4) (ht0 hg) (ht1 hg) (ht2 hg) (ht3 hg) (ht4 hg) q2 q3 q6 q7 q8 q11 q12 q13 q14 q15 q16 q17 q18 q19 q20 q21 q22 q23 q24 E K
    have hR : outStep i n T (fun k => rowV x6 x7 x8 x11 x12 x13 x14 (baseRow (base x5 x9) (T k)) (baseRow (base x5 x10) (T k)) (![x15, x16, x17, x18, x19] k) (![x20, x21, x22, x23, x24] k) (T k)) x25 = (putRow (T 4)
      (rowV x6 x7 x8 x11 x12 x13 x14 (pick4 x26 (T 4)) (pick4 x27 (T 4)) x19 x24 (T 4))
      (putRow (T 3)
      (rowV x6 x7 x8 x11 x12 x13 x14 (pick4 x26 (T 3)) (pick4 x27 (T 3)) x18 x23 (T 3))
      (putRow (T 2)
      (rowV x6 x7 x8 x11 x12 x13 x14 (pick4 x26 (T 2)) (pick4 x27 (T 2)) x17 x22 (T 2))
      (putRow (T 1)
      (rowV x6 x7 x8 x11 x12 x13 x14 (pick4 x26 (T 1)) (pick4 x27 (T 1)) x16 x21 (T 1))
      (putRow (T 0)
      (rowV x6 x7 x8 x11 x12 x13 x14 (pick4 x26 (T 0)) (pick4 x27 (T 0)) x15 x20 (T 0))
      x25))))) := by
      unfold outStep
      rw [if_pos hg]
      simp only [hb.1, hb.2]
      rfl
    rw [hR]
    iintro ⟨H2, H3, H5, H6, H7, H8, H9, H10, H11, H12, H13, H14, H15, H16, H17, H18, H19, H20, H21, H22, H23, H24, H25, H26, H27, Hk⟩
    iapply h
    isplitl [H2]; · iexact H2
    isplitl [H3]; · iexact H3
    isplitl [H6]; · iexact H6
    isplitl [H7]; · iexact H7
    isplitl [H8]; · iexact H8
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    iintro ⟨H2, H3, H6, H7, H8, H11, H12, H13, H14, H15, H16, H17, H18, H19, H20, H21, H22, H23, H24, H25, H26, H27⟩
    iapply Hk
    isplitl [H2]; · iexact H2
    isplitl [H3]; · iexact H3
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    iexact H27
  · have h := skipB_wp c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 f3 (fun r y => by rw [hn]; exact fun h => hg ((cond2_iff i n hn24).mp h)) q3 E K
    have hR : outStep i n T (fun k => rowV x6 x7 x8 x11 x12 x13 x14 (baseRow (base x5 x9) (T k)) (baseRow (base x5 x10) (T k)) (![x15, x16, x17, x18, x19] k) (![x20, x21, x22, x23, x24] k) (T k)) x25 = x25 := by
      unfold outStep; rw [if_neg hg]
    rw [hR]
    iintro ⟨H2, H3, H5, H6, H7, H8, H9, H10, H11, H12, H13, H14, H15, H16, H17, H18, H19, H20, H21, H22, H23, H24, H25, H26, H27, Hk⟩
    iapply h
    isplitl [H3]; · iexact H3
    iintro H3
    iapply Hk
    isplitl [H2]; · iexact H2
    isplitl [H3]; · iexact H3
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    iexact H27

set_option maxHeartbeats 8000000 in
/-- The whole body at a grid point: the scratch rows hold the tile's base products after it, whether computed now or before. -/
theorem body_wp (c : Dev nD) (i : grid0.Coords) (arg2 : Memref sig .tc .smem S24 .i32) (harg2 : arg2.IsWhole) (arg3 : Memref sig .tc .smem S1 .i32) (harg3 : arg3.IsWhole) (arg4 : Memref sig .tc .smem S25 .i32) (harg4 : arg4.IsWhole) (arg5 : Memref sig .tc .vmem S96x3584 .bf16) (harg5 : arg5.IsWhole) (arg6 : Memref sig .tc .vmem S24x16x3584 .bf16) (harg6 : arg6.IsWhole) (arg7 : Memref sig .tc .vmem S24x4x1 .f32) (harg7 : arg7.IsWhole) (arg8 : Memref sig .tc .vmem S24x4x1 .f32) (harg8 : arg8.IsWhole) (arg9 : Memref sig .tc .vmem S3584x512 .i8) (harg9 : arg9.IsWhole) (arg10 : Memref sig .tc .vmem S3584x512 .i8) (harg10 : arg10.IsWhole) (arg11 : Memref sig .tc .vmem S1x512 .f32) (harg11 : arg11.IsWhole) (arg12 : Memref sig .tc .vmem S1x512 .f32) (harg12 : arg12.IsWhole) (arg13 : Memref sig .tc .vmem S24x1x512 .f32) (harg13 : arg13.IsWhole) (arg14 : Memref sig .tc .vmem S24x1x512 .f32) (harg14 : arg14.IsWhole) (arg15 : Memref sig .tc .vmem S1x112x512 .i32) (harg15 : arg15.IsWhole) (arg16 : Memref sig .tc .vmem S1x112x512 .i32) (harg16 : arg16.IsWhole) (arg17 : Memref sig .tc .vmem S1x112x512 .i32) (harg17 : arg17.IsWhole) (arg18 : Memref sig .tc .vmem S1x112x512 .i32) (harg18 : arg18.IsWhole) (arg19 : Memref sig .tc .vmem S1x112x512 .i32) (harg19 : arg19.IsWhole) (arg20 : Memref sig .tc .vmem S1x112x512 .i32) (harg20 : arg20.IsWhole) (arg21 : Memref sig .tc .vmem S1x112x512 .i32) (harg21 : arg21.IsWhole) (arg22 : Memref sig .tc .vmem S1x112x512 .i32) (harg22 : arg22.IsWhole) (arg23 : Memref sig .tc .vmem S1x112x512 .i32) (harg23 : arg23.IsWhole) (arg24 : Memref sig .tc .vmem S1x112x512 .i32) (harg24 : arg24.IsWhole) (arg25 : Memref sig .tc .vmem S24x4x512 .f32) (harg25 : arg25.IsWhole) (arg26 : Memref sig .tc .vmem S24x8x512 .f32) (harg26 : arg26.IsWhole) (arg27 : Memref sig .tc .vmem S24x8x512 .f32) (harg27 : arg27.IsWhole)
    (x5 : Vec F S96x3584 .bf16) (x6 : Vec F S24x16x3584 .bf16) (x7 : Vec F S24x4x1 .f32) (x8 : Vec F S24x4x1 .f32) (x9 : Vec F S3584x512 .i8) (x10 : Vec F S3584x512 .i8) (x11 : Vec F S1x512 .f32) (x12 : Vec F S1x512 .f32) (x13 : Vec F S24x1x512 .f32) (x14 : Vec F S24x1x512 .f32) (x15 : Vec F S1x112x512 .i32) (x16 : Vec F S1x112x512 .i32) (x17 : Vec F S1x112x512 .i32) (x18 : Vec F S1x112x512 .i32) (x19 : Vec F S1x112x512 .i32) (x20 : Vec F S1x112x512 .i32) (x21 : Vec F S1x112x512 .i32) (x22 : Vec F S1x112x512 .i32) (x23 : Vec F S1x112x512 .i32) (x24 : Vec F S1x112x512 .i32) (x25 : Vec F S24x4x512 .f32) (x26 : Vec F S24x8x512 .f32) (x27 : Vec F S24x8x512 .f32)
    (f2 : Buf (Elt F) (arg2.view.loc (c : Thread nD τ))) (f3 : Buf (Elt F) (arg3.view.loc (c : Thread nD τ)))
    (n : ℕ) (hn : ∀ r y, View.readAt (Elt F) arg3.view r f3 y = BitVec.ofNat 32 n) (hn24 : n ≤ 24)
    (hw : ∀ r y, BitVec.toNat (View.readAt (Elt F) arg2.view r f2 y) < 24) (T : Fin 5 → Fin 24)
    (ht0 : grpOf i * 5 < n → ∀ inb, (tWord arg2 f2 (k0_off2 i (nWord arg3 f3)) inb).toNat = (T 0).val)
    (ht1 : grpOf i * 5 < n → ∀ inb, (tWord arg2 f2 (k0_off8 i (nWord arg3 f3)) inb).toNat = (T 1).val)
    (ht2 : grpOf i * 5 < n → ∀ inb, (tWord arg2 f2 (k0_off14 i (nWord arg3 f3)) inb).toNat = (T 2).val)
    (ht3 : grpOf i * 5 < n → ∀ inb, (tWord arg2 f2 (k0_off20 i (nWord arg3 f3)) inb).toNat = (T 3).val)
    (ht4 : grpOf i * 5 < n → ∀ inb, (tWord arg2 f2 (k0_off26 i (nWord arg3 f3)) inb).toNat = (T 4).val)
    (hb : grpOf i ≠ 0 → (∀ t, pick4 x26 t = baseRow (base x5 x9) t) ∧ (∀ t, pick4 x27 t = baseRow (base x5 x10) t))
    (q2 q3 q5 q6 q7 q8 q9 q10 q11 q12 q13 q14 q15 q16 q17 q18 q19 q20 q21 q22 q23 q24 : PosShare TreeShare) (E : Set ℕ) (K : PUnit → sProp 𝕄) :
    iprop((arg2.view.loc (c : Thread nD τ) ↦{q2} f2) ∗ (arg3.view.loc (c : Thread nD τ) ↦{q3} f3) ∗ (arg5.view.loc (c : Thread nD τ) ↦{q5} harg5.unread x5) ∗ (arg6.view.loc (c : Thread nD τ) ↦{q6} harg6.unread x6) ∗ (arg7.view.loc (c : Thread nD τ) ↦{q7} harg7.unread x7) ∗ (arg8.view.loc (c : Thread nD τ) ↦{q8} harg8.unread x8) ∗ (arg9.view.loc (c : Thread nD τ) ↦{q9} harg9.unread x9) ∗ (arg10.view.loc (c : Thread nD τ) ↦{q10} harg10.unread x10) ∗ (arg11.view.loc (c : Thread nD τ) ↦{q11} harg11.unread x11) ∗ (arg12.view.loc (c : Thread nD τ) ↦{q12} harg12.unread x12) ∗ (arg13.view.loc (c : Thread nD τ) ↦{q13} harg13.unread x13) ∗ (arg14.view.loc (c : Thread nD τ) ↦{q14} harg14.unread x14) ∗ (arg15.view.loc (c : Thread nD τ) ↦{q15} harg15.unread x15) ∗ (arg16.view.loc (c : Thread nD τ) ↦{q16} harg16.unread x16) ∗ (arg17.view.loc (c : Thread nD τ) ↦{q17} harg17.unread x17) ∗ (arg18.view.loc (c : Thread nD τ) ↦{q18} harg18.unread x18) ∗ (arg19.view.loc (c : Thread nD τ) ↦{q19} harg19.unread x19) ∗ (arg20.view.loc (c : Thread nD τ) ↦{q20} harg20.unread x20) ∗ (arg21.view.loc (c : Thread nD τ) ↦{q21} harg21.unread x21) ∗ (arg22.view.loc (c : Thread nD τ) ↦{q22} harg22.unread x22) ∗ (arg23.view.loc (c : Thread nD τ) ↦{q23} harg23.unread x23) ∗ (arg24.view.loc (c : Thread nD τ) ↦{q24} harg24.unread x24) ∗ (arg25.view.loc (c : Thread nD τ) ↦{fullShare} harg25.unread x25) ∗ (arg26.view.loc (c : Thread nD τ) ↦{fullShare} harg26.unread x26) ∗ (arg27.view.loc (c : Thread nD τ) ↦{fullShare} harg27.unread x27) ∗ (∀ x26' x27', ⌜(∀ t, pick4 x26' t = baseRow (base x5 x9) t) ∧ (∀ t, pick4 x27' t = baseRow (base x5 x10) t)⌝ -∗ iprop((arg2.view.loc (c : Thread nD τ) ↦{q2} f2) ∗ (arg3.view.loc (c : Thread nD τ) ↦{q3} f3) ∗ (arg5.view.loc (c : Thread nD τ) ↦{q5} harg5.unread x5) ∗ (arg6.view.loc (c : Thread nD τ) ↦{q6} harg6.unread x6) ∗ (arg7.view.loc (c : Thread nD τ) ↦{q7} harg7.unread x7) ∗ (arg8.view.loc (c : Thread nD τ) ↦{q8} harg8.unread x8) ∗ (arg9.view.loc (c : Thread nD τ) ↦{q9} harg9.unread x9) ∗ (arg10.view.loc (c : Thread nD τ) ↦{q10} harg10.unread x10) ∗ (arg11.view.loc (c : Thread nD τ) ↦{q11} harg11.unread x11) ∗ (arg12.view.loc (c : Thread nD τ) ↦{q12} harg12.unread x12) ∗ (arg13.view.loc (c : Thread nD τ) ↦{q13} harg13.unread x13) ∗ (arg14.view.loc (c : Thread nD τ) ↦{q14} harg14.unread x14) ∗ (arg15.view.loc (c : Thread nD τ) ↦{q15} harg15.unread x15) ∗ (arg16.view.loc (c : Thread nD τ) ↦{q16} harg16.unread x16) ∗ (arg17.view.loc (c : Thread nD τ) ↦{q17} harg17.unread x17) ∗ (arg18.view.loc (c : Thread nD τ) ↦{q18} harg18.unread x18) ∗ (arg19.view.loc (c : Thread nD τ) ↦{q19} harg19.unread x19) ∗ (arg20.view.loc (c : Thread nD τ) ↦{q20} harg20.unread x20) ∗ (arg21.view.loc (c : Thread nD τ) ↦{q21} harg21.unread x21) ∗ (arg22.view.loc (c : Thread nD τ) ↦{q22} harg22.unread x22) ∗ (arg23.view.loc (c : Thread nD τ) ↦{q23} harg23.unread x23) ∗ (arg24.view.loc (c : Thread nD τ) ↦{q24} harg24.unread x24) ∗ (arg25.view.loc (c : Thread nD τ) ↦{fullShare} harg25.unread (outPt i n T (fun k => rowV x6 x7 x8 x11 x12 x13 x14 (baseRow (base x5 x9) (T k)) (baseRow (base x5 x10) (T k)) (![x15, x16, x17, x18, x19] k) (![x20, x21, x22, x23, x24] k) (T k)) x25)) ∗ (arg26.view.loc (c : Thread nD τ) ↦{fullShare} harg26.unread x26') ∗ (arg27.view.loc (c : Thread nD τ) ↦{fullShare} harg27.unread x27')) -∗ K ⟨⟩))
      ⊢ wp frame (wpE (defs₀ (F := F)) Variants.none c none) E (cc0_gate_up (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  rw [body_eq, wp_bind]
  by_cases hg : grpOf i = 0
  · iintro ⟨H2, H3, H5, H6, H7, H8, H9, H10, H11, H12, H13, H14, H15, H16, H17, H18, H19, H20, H21, H22, H23, H24, H25, H26, H27, Hk⟩
    iapply (runA_wp c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x5 x9 x10 x25 x26 x27 ((cond1_iff i).mpr hg) q5 q9 q10 E)
    isplitl [H5]; · iexact H5
    isplitl [H9]; · iexact H9
    isplitl [H10]; · iexact H10
    isplitl [H25]; · iexact H25
    isplitl [H26]; · iexact H26
    isplitl [H27]; · iexact H27
    iintro %x26' %x27' %hp ⟨H5, H9, H10, H25, H26, H27⟩
    iapply (stepB_wp c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x5 x6 x7 x8 x9 x10 x11 x12 x13 x14 x15 x16 x17 x18 x19 x20 x21 x22 x23 x24 k0_pay9 x26' x27' f2 f3 n hn hn24 hw T ht0 ht1 ht2 ht3 ht4 hp q2 q3 q5 q6 q7 q8 q9 q10 q11 q12 q13 q14 q15 q16 q17 q18 q19 q20 q21 q22 q23 q24 E K)
    isplitl [H2]; · iexact H2
    isplitl [H3]; · iexact H3
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    ispecialize Hk $$ %x26' %x27' %hp
    unfold outPt
    rw [if_pos hg]
    iexact Hk
  · iintro ⟨H2, H3, H5, H6, H7, H8, H9, H10, H11, H12, H13, H14, H15, H16, H17, H18, H19, H20, H21, H22, H23, H24, H25, H26, H27, Hk⟩
    iapply (skipA_wp c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 (fun h => hg ((cond1_iff i).mp h)) E)
    iapply (stepB_wp c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x5 x6 x7 x8 x9 x10 x11 x12 x13 x14 x15 x16 x17 x18 x19 x20 x21 x22 x23 x24 x25 x26 x27 f2 f3 n hn hn24 hw T ht0 ht1 ht2 ht3 ht4 (hb hg) q2 q3 q5 q6 q7 q8 q9 q10 q11 q12 q13 q14 q15 q16 q17 q18 q19 q20 q21 q22 q23 q24 E K)
    isplitl [H2]; · iexact H2
    isplitl [H3]; · iexact H3
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    ispecialize Hk $$ %x26 %x27 %(hb hg)
    unfold outPt
    rw [if_neg hg]
    iexact Hk

end Cert.GateUp.Gen

end
-- ==== Proof.GateUpBlk.lean ====
/-
  What each window's block holds at a grid point, element by element off its array.
-/
module

public import proofs.«01_k».proof.Proof.GateUpBodyWp
public import Idealize.ShloMosaic.Lib.Pipeline.Value

@[expose] public section

set_option maxRecDepth 16384

noncomputable section

namespace Cert.GateUp.Gen

open Idealize.ShloMosaic Idealize.ShloMosaic.TcCoe Idealize.ShloMosaic.Tactic
open Idealize.ShloMosaic.ValueIdx

variable {F : FTy → Type} [FloatOps F]
variable (m : (ℓ : Loc nD τ sig) → Buf (Elt F) ℓ)

theorem coords_spec : ∀ t : Fin grid0.N, ((grid0.coords t) 0).val = t.val / 5 ∧ ((grid0.coords t) 1).val = t.val % 5 := by
  decide

/-- The column tile of a grid point. -/
def tileOf (t : Fin grid0.N) : Fin 37 := ⟨t.val / 5, by have := t.isLt; have h : grid0.N = 185 := N_0; omega⟩

/-- The array's column at a tile's. -/
def colOf (j : Fin 37) (y : Fin 512) : Fin 18944 := ⟨j.val * 512 + y.val, by omega⟩

/-- The slot of a grid point's `k`th tenant. -/
def slotIx (i : grid0.Coords) (k : Fin 5) : S25.Idx :=
  ix1 ⟨(i 1).val * 5 + k.val, by have h : (i 1).val < 5 := grpOf_lt i; have := k.isLt; show _ < 25; omega⟩

theorem coord0_toNat (t : Fin grid0.N) : (BitVec.ofNat 32 ((grid0.coords t) 0).val).toNat = (tileOf t).val := by
  rw [(coords_spec t).1, BitVec.toNat_ofNat]; have := (tileOf t).isLt; show t.val / 5 % 2 ^ 32 = t.val / 5
  have h : t.val / 5 < 37 := this
  omega

theorem emb_val (a : (pcfg0 (F := F)).Adm) (w : Fin 21) (hk : ((cfg0 a).win w).kind = .blocked) (t : Fin (cfg0 a).N) (y : (((cfg0 a).win w).xblock ((cfg0 a).grid.coords t)).Idx) (x) :
    ((((cfg0 a).win w).rect t).emb y x : ℕ) = ((cfg0 a).win w).index t x * ((cfg0 a).win w).size x + (y x : ℕ) :=
  Pipeline.Window.rect_emb_val _ t y x hk

theorem emb0_0 (a : (pcfg0 (F := F)).Adm) (t : Fin (cfg0 a).N) (y : S96x3584.Idx) : ((((cfg0 a).win 0).rect t).emb y (0 : Fin 2) : ℕ) = (y (0 : Fin 2)).val := by
  refine (emb_val a 0 rfl t y (0 : Fin 2)).trans ?_
  have h : ((cfg0 a).win 0).index t (0 : Fin 2) = 0 := rfl
  exact (congrArg (fun z => z * ((cfg0 a).win 0).size (0 : Fin 2) + (y (0 : Fin 2)).val) h).trans ((congrArg (· + (y (0 : Fin 2)).val) (Nat.zero_mul _)).trans (Nat.zero_add _))

theorem emb0_1 (a : (pcfg0 (F := F)).Adm) (t : Fin (cfg0 a).N) (y : S96x3584.Idx) : ((((cfg0 a).win 0).rect t).emb y (1 : Fin 2) : ℕ) = (y (1 : Fin 2)).val := by
  refine (emb_val a 0 rfl t y (1 : Fin 2)).trans ?_
  have h : ((cfg0 a).win 0).index t (1 : Fin 2) = 0 := rfl
  exact (congrArg (fun z => z * ((cfg0 a).win 0).size (1 : Fin 2) + (y (1 : Fin 2)).val) h).trans ((congrArg (· + (y (1 : Fin 2)).val) (Nat.zero_mul _)).trans (Nat.zero_add _))

theorem blkrd0 (a : (pcfg0 (F := F)).Adm) (c : Dev nD) (t : Fin (cfg0 a).N) (X : Buf (Elt F) ((c : Thread nD τ).loc main_v15)) :
    (((cfg0 a).win 0).blk t).view.read (Elt F) X = fun y : S96x3584.Idx => X (y) := by
  funext y
  refine congrArg X ?_
  funext x
  apply Fin.ext
  revert x
  show ∀ x : Fin 2, _
  intro x
  fin_cases x
  · exact emb0_0 a t y
  · exact emb0_1 a t y

theorem emb1_0 (a : (pcfg0 (F := F)).Adm) (t : Fin (cfg0 a).N) (y : S24x16x3584.Idx) : ((((cfg0 a).win 1).rect t).emb y (0 : Fin 3) : ℕ) = (y (0 : Fin 3)).val := by
  refine (emb_val a 1 rfl t y (0 : Fin 3)).trans ?_
  have h : ((cfg0 a).win 1).index t (0 : Fin 3) = 0 := rfl
  exact (congrArg (fun z => z * ((cfg0 a).win 1).size (0 : Fin 3) + (y (0 : Fin 3)).val) h).trans ((congrArg (· + (y (0 : Fin 3)).val) (Nat.zero_mul _)).trans (Nat.zero_add _))

theorem emb1_1 (a : (pcfg0 (F := F)).Adm) (t : Fin (cfg0 a).N) (y : S24x16x3584.Idx) : ((((cfg0 a).win 1).rect t).emb y (1 : Fin 3) : ℕ) = (y (1 : Fin 3)).val := by
  refine (emb_val a 1 rfl t y (1 : Fin 3)).trans ?_
  have h : ((cfg0 a).win 1).index t (1 : Fin 3) = 0 := rfl
  exact (congrArg (fun z => z * ((cfg0 a).win 1).size (1 : Fin 3) + (y (1 : Fin 3)).val) h).trans ((congrArg (· + (y (1 : Fin 3)).val) (Nat.zero_mul _)).trans (Nat.zero_add _))

theorem emb1_2 (a : (pcfg0 (F := F)).Adm) (t : Fin (cfg0 a).N) (y : S24x16x3584.Idx) : ((((cfg0 a).win 1).rect t).emb y (2 : Fin 3) : ℕ) = (y (2 : Fin 3)).val := by
  refine (emb_val a 1 rfl t y (2 : Fin 3)).trans ?_
  have h : ((cfg0 a).win 1).index t (2 : Fin 3) = 0 := rfl
  exact (congrArg (fun z => z * ((cfg0 a).win 1).size (2 : Fin 3) + (y (2 : Fin 3)).val) h).trans ((congrArg (· + (y (2 : Fin 3)).val) (Nat.zero_mul _)).trans (Nat.zero_add _))

theorem blkrd1 (a : (pcfg0 (F := F)).Adm) (c : Dev nD) (t : Fin (cfg0 a).N) (X : Buf (Elt F) ((c : Thread nD τ).loc main_v26)) :
    (((cfg0 a).win 1).blk t).view.read (Elt F) X = fun y : S24x16x3584.Idx => X (y) := by
  funext y
  refine congrArg X ?_
  funext x
  apply Fin.ext
  revert x
  show ∀ x : Fin 3, _
  intro x
  fin_cases x
  · exact emb1_0 a t y
  · exact emb1_1 a t y
  · exact emb1_2 a t y

theorem emb2_0 (a : (pcfg0 (F := F)).Adm) (t : Fin (cfg0 a).N) (y : S24x4x1.Idx) : ((((cfg0 a).win 2).rect t).emb y (0 : Fin 3) : ℕ) = (y (0 : Fin 3)).val := by
  refine (emb_val a 2 rfl t y (0 : Fin 3)).trans ?_
  have h : ((cfg0 a).win 2).index t (0 : Fin 3) = 0 := rfl
  exact (congrArg (fun z => z * ((cfg0 a).win 2).size (0 : Fin 3) + (y (0 : Fin 3)).val) h).trans ((congrArg (· + (y (0 : Fin 3)).val) (Nat.zero_mul _)).trans (Nat.zero_add _))

theorem emb2_1 (a : (pcfg0 (F := F)).Adm) (t : Fin (cfg0 a).N) (y : S24x4x1.Idx) : ((((cfg0 a).win 2).rect t).emb y (1 : Fin 3) : ℕ) = (y (1 : Fin 3)).val := by
  refine (emb_val a 2 rfl t y (1 : Fin 3)).trans ?_
  have h : ((cfg0 a).win 2).index t (1 : Fin 3) = 0 := rfl
  exact (congrArg (fun z => z * ((cfg0 a).win 2).size (1 : Fin 3) + (y (1 : Fin 3)).val) h).trans ((congrArg (· + (y (1 : Fin 3)).val) (Nat.zero_mul _)).trans (Nat.zero_add _))

theorem emb2_2 (a : (pcfg0 (F := F)).Adm) (t : Fin (cfg0 a).N) (y : S24x4x1.Idx) : ((((cfg0 a).win 2).rect t).emb y (2 : Fin 3) : ℕ) = (y (2 : Fin 3)).val := by
  refine (emb_val a 2 rfl t y (2 : Fin 3)).trans ?_
  have h : ((cfg0 a).win 2).index t (2 : Fin 3) = 0 := rfl
  exact (congrArg (fun z => z * ((cfg0 a).win 2).size (2 : Fin 3) + (y (2 : Fin 3)).val) h).trans ((congrArg (· + (y (2 : Fin 3)).val) (Nat.zero_mul _)).trans (Nat.zero_add _))

theorem blkrd2 (a : (pcfg0 (F := F)).Adm) (c : Dev nD) (t : Fin (cfg0 a).N) (X : Buf (Elt F) ((c : Thread nD τ).loc main_arg1)) :
    (((cfg0 a).win 2).blk t).view.read (Elt F) X = fun y : S24x4x1.Idx => X (y) := by
  funext y
  refine congrArg X ?_
  funext x
  apply Fin.ext
  revert x
  show ∀ x : Fin 3, _
  intro x
  fin_cases x
  · exact emb2_0 a t y
  · exact emb2_1 a t y
  · exact emb2_2 a t y

theorem emb3_0 (a : (pcfg0 (F := F)).Adm) (t : Fin (cfg0 a).N) (y : S24x4x1.Idx) : ((((cfg0 a).win 3).rect t).emb y (0 : Fin 3) : ℕ) = (y (0 : Fin 3)).val := by
  refine (emb_val a 3 rfl t y (0 : Fin 3)).trans ?_
  have h : ((cfg0 a).win 3).index t (0 : Fin 3) = 0 := rfl
  exact (congrArg (fun z => z * ((cfg0 a).win 3).size (0 : Fin 3) + (y (0 : Fin 3)).val) h).trans ((congrArg (· + (y (0 : Fin 3)).val) (Nat.zero_mul _)).trans (Nat.zero_add _))

theorem emb3_1 (a : (pcfg0 (F := F)).Adm) (t : Fin (cfg0 a).N) (y : S24x4x1.Idx) : ((((cfg0 a).win 3).rect t).emb y (1 : Fin 3) : ℕ) = (y (1 : Fin 3)).val := by
  refine (emb_val a 3 rfl t y (1 : Fin 3)).trans ?_
  have h : ((cfg0 a).win 3).index t (1 : Fin 3) = 0 := rfl
  exact (congrArg (fun z => z * ((cfg0 a).win 3).size (1 : Fin 3) + (y (1 : Fin 3)).val) h).trans ((congrArg (· + (y (1 : Fin 3)).val) (Nat.zero_mul _)).trans (Nat.zero_add _))

theorem emb3_2 (a : (pcfg0 (F := F)).Adm) (t : Fin (cfg0 a).N) (y : S24x4x1.Idx) : ((((cfg0 a).win 3).rect t).emb y (2 : Fin 3) : ℕ) = (y (2 : Fin 3)).val := by
  refine (emb_val a 3 rfl t y (2 : Fin 3)).trans ?_
  have h : ((cfg0 a).win 3).index t (2 : Fin 3) = 0 := rfl
  exact (congrArg (fun z => z * ((cfg0 a).win 3).size (2 : Fin 3) + (y (2 : Fin 3)).val) h).trans ((congrArg (· + (y (2 : Fin 3)).val) (Nat.zero_mul _)).trans (Nat.zero_add _))

theorem blkrd3 (a : (pcfg0 (F := F)).Adm) (c : Dev nD) (t : Fin (cfg0 a).N) (X : Buf (Elt F) ((c : Thread nD τ).loc main_v11)) :
    (((cfg0 a).win 3).blk t).view.read (Elt F) X = fun y : S24x4x1.Idx => X (y) := by
  funext y
  refine congrArg X ?_
  funext x
  apply Fin.ext
  revert x
  show ∀ x : Fin 3, _
  intro x
  fin_cases x
  · exact emb3_0 a t y
  · exact emb3_1 a t y
  · exact emb3_2 a t y

theorem emb4_0 (a : (pcfg0 (F := F)).Adm) (t : Fin (cfg0 a).N) (y : S3584x512.Idx) : ((((cfg0 a).win 4).rect t).emb y (0 : Fin 2) : ℕ) = (y (0 : Fin 2)).val := by
  refine (emb_val a 4 rfl t y (0 : Fin 2)).trans ?_
  have h : ((cfg0 a).win 4).index t (0 : Fin 2) = 0 := rfl
  exact (congrArg (fun z => z * ((cfg0 a).win 4).size (0 : Fin 2) + (y (0 : Fin 2)).val) h).trans ((congrArg (· + (y (0 : Fin 2)).val) (Nat.zero_mul _)).trans (Nat.zero_add _))

theorem emb4_1 (a : (pcfg0 (F := F)).Adm) (t : Fin (cfg0 a).N) (y : S3584x512.Idx) : ((((cfg0 a).win 4).rect t).emb y (1 : Fin 2) : ℕ) = (tileOf t).val * 512 + (y (1 : Fin 2)).val := by
  refine (emb_val a 4 rfl t y (1 : Fin 2)).trans ?_
  have h : ((cfg0 a).win 4).index t (1 : Fin 2) = (tileOf t).val := coord0_toNat t
  exact (congrArg (fun z => z * ((cfg0 a).win 4).size (1 : Fin 2) + (y (1 : Fin 2)).val) h)

theorem blkrd4 (a : (pcfg0 (F := F)).Adm) (c : Dev nD) (t : Fin (cfg0 a).N) (X : Buf (Elt F) ((c : Thread nD τ).loc main_arg3)) :
    (((cfg0 a).win 4).blk t).view.read (Elt F) X = fun y : S3584x512.Idx => X (ix2 (y (0 : Fin 2)) (colOf (tileOf t) (y (1 : Fin 2)))) := by
  funext y
  refine congrArg X ?_
  funext x
  apply Fin.ext
  revert x
  show ∀ x : Fin 2, _
  intro x
  fin_cases x
  · exact emb4_0 a t y
  · exact emb4_1 a t y

theorem emb5_0 (a : (pcfg0 (F := F)).Adm) (t : Fin (cfg0 a).N) (y : S3584x512.Idx) : ((((cfg0 a).win 5).rect t).emb y (0 : Fin 2) : ℕ) = (y (0 : Fin 2)).val := by
  refine (emb_val a 5 rfl t y (0 : Fin 2)).trans ?_
  have h : ((cfg0 a).win 5).index t (0 : Fin 2) = 0 := rfl
  exact (congrArg (fun z => z * ((cfg0 a).win 5).size (0 : Fin 2) + (y (0 : Fin 2)).val) h).trans ((congrArg (· + (y (0 : Fin 2)).val) (Nat.zero_mul _)).trans (Nat.zero_add _))

theorem emb5_1 (a : (pcfg0 (F := F)).Adm) (t : Fin (cfg0 a).N) (y : S3584x512.Idx) : ((((cfg0 a).win 5).rect t).emb y (1 : Fin 2) : ℕ) = (tileOf t).val * 512 + (y (1 : Fin 2)).val := by
  refine (emb_val a 5 rfl t y (1 : Fin 2)).trans ?_
  have h : ((cfg0 a).win 5).index t (1 : Fin 2) = (tileOf t).val := coord0_toNat t
  exact (congrArg (fun z => z * ((cfg0 a).win 5).size (1 : Fin 2) + (y (1 : Fin 2)).val) h)

theorem blkrd5 (a : (pcfg0 (F := F)).Adm) (c : Dev nD) (t : Fin (cfg0 a).N) (X : Buf (Elt F) ((c : Thread nD τ).loc main_arg5)) :
    (((cfg0 a).win 5).blk t).view.read (Elt F) X = fun y : S3584x512.Idx => X (ix2 (y (0 : Fin 2)) (colOf (tileOf t) (y (1 : Fin 2)))) := by
  funext y
  refine congrArg X ?_
  funext x
  apply Fin.ext
  revert x
  show ∀ x : Fin 2, _
  intro x
  fin_cases x
  · exact emb5_0 a t y
  · exact emb5_1 a t y

theorem emb6_0 (a : (pcfg0 (F := F)).Adm) (t : Fin (cfg0 a).N) (y : S1x512.Idx) : ((((cfg0 a).win 6).rect t).emb y (0 : Fin 2) : ℕ) = (y (0 : Fin 2)).val := by
  refine (emb_val a 6 rfl t y (0 : Fin 2)).trans ?_
  have h : ((cfg0 a).win 6).index t (0 : Fin 2) = 0 := rfl
  exact (congrArg (fun z => z * ((cfg0 a).win 6).size (0 : Fin 2) + (y (0 : Fin 2)).val) h).trans ((congrArg (· + (y (0 : Fin 2)).val) (Nat.zero_mul _)).trans (Nat.zero_add _))

theorem emb6_1 (a : (pcfg0 (F := F)).Adm) (t : Fin (cfg0 a).N) (y : S1x512.Idx) : ((((cfg0 a).win 6).rect t).emb y (1 : Fin 2) : ℕ) = (tileOf t).val * 512 + (y (1 : Fin 2)).val := by
  refine (emb_val a 6 rfl t y (1 : Fin 2)).trans ?_
  have h : ((cfg0 a).win 6).index t (1 : Fin 2) = (tileOf t).val := coord0_toNat t
  exact (congrArg (fun z => z * ((cfg0 a).win 6).size (1 : Fin 2) + (y (1 : Fin 2)).val) h)

theorem blkrd6 (a : (pcfg0 (F := F)).Adm) (c : Dev nD) (t : Fin (cfg0 a).N) (X : Buf (Elt F) ((c : Thread nD τ).loc main_v49)) :
    (((cfg0 a).win 6).blk t).view.read (Elt F) X = fun y : S1x512.Idx => X (ix2 (y (0 : Fin 2)) (colOf (tileOf t) (y (1 : Fin 2)))) := by
  funext y
  refine congrArg X ?_
  funext x
  apply Fin.ext
  revert x
  show ∀ x : Fin 2, _
  intro x
  fin_cases x
  · exact emb6_0 a t y
  · exact emb6_1 a t y

theorem emb7_0 (a : (pcfg0 (F := F)).Adm) (t : Fin (cfg0 a).N) (y : S1x512.Idx) : ((((cfg0 a).win 7).rect t).emb y (0 : Fin 2) : ℕ) = (y (0 : Fin 2)).val := by
  refine (emb_val a 7 rfl t y (0 : Fin 2)).trans ?_
  have h : ((cfg0 a).win 7).index t (0 : Fin 2) = 0 := rfl
  exact (congrArg (fun z => z * ((cfg0 a).win 7).size (0 : Fin 2) + (y (0 : Fin 2)).val) h).trans ((congrArg (· + (y (0 : Fin 2)).val) (Nat.zero_mul _)).trans (Nat.zero_add _))

theorem emb7_1 (a : (pcfg0 (F := F)).Adm) (t : Fin (cfg0 a).N) (y : S1x512.Idx) : ((((cfg0 a).win 7).rect t).emb y (1 : Fin 2) : ℕ) = (tileOf t).val * 512 + (y (1 : Fin 2)).val := by
  refine (emb_val a 7 rfl t y (1 : Fin 2)).trans ?_
  have h : ((cfg0 a).win 7).index t (1 : Fin 2) = (tileOf t).val := coord0_toNat t
  exact (congrArg (fun z => z * ((cfg0 a).win 7).size (1 : Fin 2) + (y (1 : Fin 2)).val) h)

theorem blkrd7 (a : (pcfg0 (F := F)).Adm) (c : Dev nD) (t : Fin (cfg0 a).N) (X : Buf (Elt F) ((c : Thread nD τ).loc main_v50)) :
    (((cfg0 a).win 7).blk t).view.read (Elt F) X = fun y : S1x512.Idx => X (ix2 (y (0 : Fin 2)) (colOf (tileOf t) (y (1 : Fin 2)))) := by
  funext y
  refine congrArg X ?_
  funext x
  apply Fin.ext
  revert x
  show ∀ x : Fin 2, _
  intro x
  fin_cases x
  · exact emb7_0 a t y
  · exact emb7_1 a t y

theorem emb8_0 (a : (pcfg0 (F := F)).Adm) (t : Fin (cfg0 a).N) (y : S24x1x512.Idx) : ((((cfg0 a).win 8).rect t).emb y (0 : Fin 3) : ℕ) = (y (0 : Fin 3)).val := by
  refine (emb_val a 8 rfl t y (0 : Fin 3)).trans ?_
  have h : ((cfg0 a).win 8).index t (0 : Fin 3) = 0 := rfl
  exact (congrArg (fun z => z * ((cfg0 a).win 8).size (0 : Fin 3) + (y (0 : Fin 3)).val) h).trans ((congrArg (· + (y (0 : Fin 3)).val) (Nat.zero_mul _)).trans (Nat.zero_add _))

theorem emb8_1 (a : (pcfg0 (F := F)).Adm) (t : Fin (cfg0 a).N) (y : S24x1x512.Idx) : ((((cfg0 a).win 8).rect t).emb y (1 : Fin 3) : ℕ) = (y (1 : Fin 3)).val := by
  refine (emb_val a 8 rfl t y (1 : Fin 3)).trans ?_
  have h : ((cfg0 a).win 8).index t (1 : Fin 3) = 0 := rfl
  exact (congrArg (fun z => z * ((cfg0 a).win 8).size (1 : Fin 3) + (y (1 : Fin 3)).val) h).trans ((congrArg (· + (y (1 : Fin 3)).val) (Nat.zero_mul _)).trans (Nat.zero_add _))

theorem emb8_2 (a : (pcfg0 (F := F)).Adm) (t : Fin (cfg0 a).N) (y : S24x1x512.Idx) : ((((cfg0 a).win 8).rect t).emb y (2 : Fin 3) : ℕ) = (tileOf t).val * 512 + (y (2 : Fin 3)).val := by
  refine (emb_val a 8 rfl t y (2 : Fin 3)).trans ?_
  have h : ((cfg0 a).win 8).index t (2 : Fin 3) = (tileOf t).val := coord0_toNat t
  exact (congrArg (fun z => z * ((cfg0 a).win 8).size (2 : Fin 3) + (y (2 : Fin 3)).val) h)

theorem blkrd8 (a : (pcfg0 (F := F)).Adm) (c : Dev nD) (t : Fin (cfg0 a).N) (X : Buf (Elt F) ((c : Thread nD τ).loc main_v51)) :
    (((cfg0 a).win 8).blk t).view.read (Elt F) X = fun y : S24x1x512.Idx => X (ix3 (y (0 : Fin 3)) (y (1 : Fin 3)) (colOf (tileOf t) (y (2 : Fin 3)))) := by
  funext y
  refine congrArg X ?_
  funext x
  apply Fin.ext
  revert x
  show ∀ x : Fin 3, _
  intro x
  fin_cases x
  · exact emb8_0 a t y
  · exact emb8_1 a t y
  · exact emb8_2 a t y

theorem emb9_0 (a : (pcfg0 (F := F)).Adm) (t : Fin (cfg0 a).N) (y : S24x1x512.Idx) : ((((cfg0 a).win 9).rect t).emb y (0 : Fin 3) : ℕ) = (y (0 : Fin 3)).val := by
  refine (emb_val a 9 rfl t y (0 : Fin 3)).trans ?_
  have h : ((cfg0 a).win 9).index t (0 : Fin 3) = 0 := rfl
  exact (congrArg (fun z => z * ((cfg0 a).win 9).size (0 : Fin 3) + (y (0 : Fin 3)).val) h).trans ((congrArg (· + (y (0 : Fin 3)).val) (Nat.zero_mul _)).trans (Nat.zero_add _))

theorem emb9_1 (a : (pcfg0 (F := F)).Adm) (t : Fin (cfg0 a).N) (y : S24x1x512.Idx) : ((((cfg0 a).win 9).rect t).emb y (1 : Fin 3) : ℕ) = (y (1 : Fin 3)).val := by
  refine (emb_val a 9 rfl t y (1 : Fin 3)).trans ?_
  have h : ((cfg0 a).win 9).index t (1 : Fin 3) = 0 := rfl
  exact (congrArg (fun z => z * ((cfg0 a).win 9).size (1 : Fin 3) + (y (1 : Fin 3)).val) h).trans ((congrArg (· + (y (1 : Fin 3)).val) (Nat.zero_mul _)).trans (Nat.zero_add _))

theorem emb9_2 (a : (pcfg0 (F := F)).Adm) (t : Fin (cfg0 a).N) (y : S24x1x512.Idx) : ((((cfg0 a).win 9).rect t).emb y (2 : Fin 3) : ℕ) = (tileOf t).val * 512 + (y (2 : Fin 3)).val := by
  refine (emb_val a 9 rfl t y (2 : Fin 3)).trans ?_
  have h : ((cfg0 a).win 9).index t (2 : Fin 3) = (tileOf t).val := coord0_toNat t
  exact (congrArg (fun z => z * ((cfg0 a).win 9).size (2 : Fin 3) + (y (2 : Fin 3)).val) h)

theorem blkrd9 (a : (pcfg0 (F := F)).Adm) (c : Dev nD) (t : Fin (cfg0 a).N) (X : Buf (Elt F) ((c : Thread nD τ).loc main_v52)) :
    (((cfg0 a).win 9).blk t).view.read (Elt F) X = fun y : S24x1x512.Idx => X (ix3 (y (0 : Fin 3)) (y (1 : Fin 3)) (colOf (tileOf t) (y (2 : Fin 3)))) := by
  funext y
  refine congrArg X ?_
  funext x
  apply Fin.ext
  revert x
  show ∀ x : Fin 3, _
  intro x
  fin_cases x
  · exact emb9_0 a t y
  · exact emb9_1 a t y
  · exact emb9_2 a t y

theorem idx10_0 (a : (pcfg0 (F := F)).Adm) (t : Fin (cfg0 a).N) (T : Fin 24) (hT : (a.1 2 : Vec F S25 .i32) (slotIx (grid0.coords t) 0) = BitVec.ofNat 32 T.val) : ((cfg0 a).win 10).index t (0 : Fin 3) = T.val := by
  show BitVec.toNat (a.1.at 2 (Rect.unit (s := S25) (k0_off1 (grid0.coords t) (BitVec.ofNat 32 (0 : Fin 5).val)) S1.size (k0_off1_inb (grid0.coords t) 0)) numel1_S1) = _
  have e : a.1.at 2 (Rect.unit (s := S25) (k0_off1 (grid0.coords t) (BitVec.ofNat 32 (0 : Fin 5).val)) S1.size (k0_off1_inb (grid0.coords t) 0)) numel1_S1 = (a.1 2 : Vec F S25 .i32) (slotIx (grid0.coords t) 0) := by
    refine congrArg (a.1 2 : Vec F S25 .i32) ?_
    funext x
    obtain rfl : x = (0 : Fin 1) := Subsingleton.elim (α := Fin 1) _ _
    apply Fin.ext
    have H : ∀ g : Fin 5, (Scalar.addi (Scalar.muli (BitVec.ofNat 32 g.val) 5#32) 0#32).toNat = g.val * 5 + 0 := by decide
    exact (H ⟨grpOf (grid0.coords t), grpOf_lt _⟩)
  rw [e, hT, toNat_fin]

theorem emb10_0 (a : (pcfg0 (F := F)).Adm) (t : Fin (cfg0 a).N) (y : S1x112x512.Idx) (T : Fin 24) (hT : (a.1 2 : Vec F S25 .i32) (slotIx (grid0.coords t) 0) = BitVec.ofNat 32 T.val) : ((((cfg0 a).win 10).rect t).emb y (0 : Fin 3) : ℕ) = T.val := by
  refine (emb_val a 10 rfl t y (0 : Fin 3)).trans ?_
  refine (congrArg (fun z => z * ((cfg0 a).win 10).size (0 : Fin 3) + (y (0 : Fin 3)).val) (idx10_0 a t T hT)).trans ?_
  have : (y (0 : Fin 3)).val < 1 := (y (0 : Fin 3)).isLt
  show T.val * 1 + (y (0 : Fin 3)).val = T.val
  omega

theorem emb10_1 (a : (pcfg0 (F := F)).Adm) (t : Fin (cfg0 a).N) (y : S1x112x512.Idx) : ((((cfg0 a).win 10).rect t).emb y (1 : Fin 3) : ℕ) = (y (1 : Fin 3)).val := by
  refine (emb_val a 10 rfl t y (1 : Fin 3)).trans ?_
  have h : ((cfg0 a).win 10).index t (1 : Fin 3) = 0 := rfl
  exact (congrArg (fun z => z * ((cfg0 a).win 10).size (1 : Fin 3) + (y (1 : Fin 3)).val) h).trans ((congrArg (· + (y (1 : Fin 3)).val) (Nat.zero_mul _)).trans (Nat.zero_add _))

theorem emb10_2 (a : (pcfg0 (F := F)).Adm) (t : Fin (cfg0 a).N) (y : S1x112x512.Idx) : ((((cfg0 a).win 10).rect t).emb y (2 : Fin 3) : ℕ) = (tileOf t).val * 512 + (y (2 : Fin 3)).val := by
  refine (emb_val a 10 rfl t y (2 : Fin 3)).trans ?_
  have h : ((cfg0 a).win 10).index t (2 : Fin 3) = (tileOf t).val := coord0_toNat t
  exact (congrArg (fun z => z * ((cfg0 a).win 10).size (2 : Fin 3) + (y (2 : Fin 3)).val) h)

theorem blkrd10 (a : (pcfg0 (F := F)).Adm) (c : Dev nD) (t : Fin (cfg0 a).N) (X : Buf (Elt F) ((c : Thread nD τ).loc main_arg7)) (T : Fin 24) (hT : (a.1 2 : Vec F S25 .i32) (slotIx (grid0.coords t) 0) = BitVec.ofNat 32 T.val) :
    (((cfg0 a).win 10).blk t).view.read (Elt F) X = fun y : S1x112x512.Idx => X (ix3 T (y (1 : Fin 3)) (colOf (tileOf t) (y (2 : Fin 3)))) := by
  funext y
  refine congrArg X ?_
  funext x
  apply Fin.ext
  revert x
  show ∀ x : Fin 3, _
  intro x
  fin_cases x
  · exact emb10_0 a t y T hT
  · exact emb10_1 a t y
  · exact emb10_2 a t y

theorem idx11_0 (a : (pcfg0 (F := F)).Adm) (t : Fin (cfg0 a).N) (T : Fin 24) (hT : (a.1 2 : Vec F S25 .i32) (slotIx (grid0.coords t) 1) = BitVec.ofNat 32 T.val) : ((cfg0 a).win 11).index t (0 : Fin 3) = T.val := by
  show BitVec.toNat (a.1.at 2 (Rect.unit (s := S25) (k0_off1 (grid0.coords t) (BitVec.ofNat 32 (1 : Fin 5).val)) S1.size (k0_off1_inb (grid0.coords t) 1)) numel1_S1) = _
  have e : a.1.at 2 (Rect.unit (s := S25) (k0_off1 (grid0.coords t) (BitVec.ofNat 32 (1 : Fin 5).val)) S1.size (k0_off1_inb (grid0.coords t) 1)) numel1_S1 = (a.1 2 : Vec F S25 .i32) (slotIx (grid0.coords t) 1) := by
    refine congrArg (a.1 2 : Vec F S25 .i32) ?_
    funext x
    obtain rfl : x = (0 : Fin 1) := Subsingleton.elim (α := Fin 1) _ _
    apply Fin.ext
    have H : ∀ g : Fin 5, (Scalar.addi (Scalar.muli (BitVec.ofNat 32 g.val) 5#32) 1#32).toNat = g.val * 5 + 1 := by decide
    exact (H ⟨grpOf (grid0.coords t), grpOf_lt _⟩)
  rw [e, hT, toNat_fin]

theorem emb11_0 (a : (pcfg0 (F := F)).Adm) (t : Fin (cfg0 a).N) (y : S1x112x512.Idx) (T : Fin 24) (hT : (a.1 2 : Vec F S25 .i32) (slotIx (grid0.coords t) 1) = BitVec.ofNat 32 T.val) : ((((cfg0 a).win 11).rect t).emb y (0 : Fin 3) : ℕ) = T.val := by
  refine (emb_val a 11 rfl t y (0 : Fin 3)).trans ?_
  refine (congrArg (fun z => z * ((cfg0 a).win 11).size (0 : Fin 3) + (y (0 : Fin 3)).val) (idx11_0 a t T hT)).trans ?_
  have : (y (0 : Fin 3)).val < 1 := (y (0 : Fin 3)).isLt
  show T.val * 1 + (y (0 : Fin 3)).val = T.val
  omega

theorem emb11_1 (a : (pcfg0 (F := F)).Adm) (t : Fin (cfg0 a).N) (y : S1x112x512.Idx) : ((((cfg0 a).win 11).rect t).emb y (1 : Fin 3) : ℕ) = (y (1 : Fin 3)).val := by
  refine (emb_val a 11 rfl t y (1 : Fin 3)).trans ?_
  have h : ((cfg0 a).win 11).index t (1 : Fin 3) = 0 := rfl
  exact (congrArg (fun z => z * ((cfg0 a).win 11).size (1 : Fin 3) + (y (1 : Fin 3)).val) h).trans ((congrArg (· + (y (1 : Fin 3)).val) (Nat.zero_mul _)).trans (Nat.zero_add _))

theorem emb11_2 (a : (pcfg0 (F := F)).Adm) (t : Fin (cfg0 a).N) (y : S1x112x512.Idx) : ((((cfg0 a).win 11).rect t).emb y (2 : Fin 3) : ℕ) = (tileOf t).val * 512 + (y (2 : Fin 3)).val := by
  refine (emb_val a 11 rfl t y (2 : Fin 3)).trans ?_
  have h : ((cfg0 a).win 11).index t (2 : Fin 3) = (tileOf t).val := coord0_toNat t
  exact (congrArg (fun z => z * ((cfg0 a).win 11).size (2 : Fin 3) + (y (2 : Fin 3)).val) h)

theorem blkrd11 (a : (pcfg0 (F := F)).Adm) (c : Dev nD) (t : Fin (cfg0 a).N) (X : Buf (Elt F) ((c : Thread nD τ).loc main_arg7)) (T : Fin 24) (hT : (a.1 2 : Vec F S25 .i32) (slotIx (grid0.coords t) 1) = BitVec.ofNat 32 T.val) :
    (((cfg0 a).win 11).blk t).view.read (Elt F) X = fun y : S1x112x512.Idx => X (ix3 T (y (1 : Fin 3)) (colOf (tileOf t) (y (2 : Fin 3)))) := by
  funext y
  refine congrArg X ?_
  funext x
  apply Fin.ext
  revert x
  show ∀ x : Fin 3, _
  intro x
  fin_cases x
  · exact emb11_0 a t y T hT
  · exact emb11_1 a t y
  · exact emb11_2 a t y

theorem idx12_0 (a : (pcfg0 (F := F)).Adm) (t : Fin (cfg0 a).N) (T : Fin 24) (hT : (a.1 2 : Vec F S25 .i32) (slotIx (grid0.coords t) 2) = BitVec.ofNat 32 T.val) : ((cfg0 a).win 12).index t (0 : Fin 3) = T.val := by
  show BitVec.toNat (a.1.at 2 (Rect.unit (s := S25) (k0_off1 (grid0.coords t) (BitVec.ofNat 32 (2 : Fin 5).val)) S1.size (k0_off1_inb (grid0.coords t) 2)) numel1_S1) = _
  have e : a.1.at 2 (Rect.unit (s := S25) (k0_off1 (grid0.coords t) (BitVec.ofNat 32 (2 : Fin 5).val)) S1.size (k0_off1_inb (grid0.coords t) 2)) numel1_S1 = (a.1 2 : Vec F S25 .i32) (slotIx (grid0.coords t) 2) := by
    refine congrArg (a.1 2 : Vec F S25 .i32) ?_
    funext x
    obtain rfl : x = (0 : Fin 1) := Subsingleton.elim (α := Fin 1) _ _
    apply Fin.ext
    have H : ∀ g : Fin 5, (Scalar.addi (Scalar.muli (BitVec.ofNat 32 g.val) 5#32) 2#32).toNat = g.val * 5 + 2 := by decide
    exact (H ⟨grpOf (grid0.coords t), grpOf_lt _⟩)
  rw [e, hT, toNat_fin]

theorem emb12_0 (a : (pcfg0 (F := F)).Adm) (t : Fin (cfg0 a).N) (y : S1x112x512.Idx) (T : Fin 24) (hT : (a.1 2 : Vec F S25 .i32) (slotIx (grid0.coords t) 2) = BitVec.ofNat 32 T.val) : ((((cfg0 a).win 12).rect t).emb y (0 : Fin 3) : ℕ) = T.val := by
  refine (emb_val a 12 rfl t y (0 : Fin 3)).trans ?_
  refine (congrArg (fun z => z * ((cfg0 a).win 12).size (0 : Fin 3) + (y (0 : Fin 3)).val) (idx12_0 a t T hT)).trans ?_
  have : (y (0 : Fin 3)).val < 1 := (y (0 : Fin 3)).isLt
  show T.val * 1 + (y (0 : Fin 3)).val = T.val
  omega

theorem emb12_1 (a : (pcfg0 (F := F)).Adm) (t : Fin (cfg0 a).N) (y : S1x112x512.Idx) : ((((cfg0 a).win 12).rect t).emb y (1 : Fin 3) : ℕ) = (y (1 : Fin 3)).val := by
  refine (emb_val a 12 rfl t y (1 : Fin 3)).trans ?_
  have h : ((cfg0 a).win 12).index t (1 : Fin 3) = 0 := rfl
  exact (congrArg (fun z => z * ((cfg0 a).win 12).size (1 : Fin 3) + (y (1 : Fin 3)).val) h).trans ((congrArg (· + (y (1 : Fin 3)).val) (Nat.zero_mul _)).trans (Nat.zero_add _))

theorem emb12_2 (a : (pcfg0 (F := F)).Adm) (t : Fin (cfg0 a).N) (y : S1x112x512.Idx) : ((((cfg0 a).win 12).rect t).emb y (2 : Fin 3) : ℕ) = (tileOf t).val * 512 + (y (2 : Fin 3)).val := by
  refine (emb_val a 12 rfl t y (2 : Fin 3)).trans ?_
  have h : ((cfg0 a).win 12).index t (2 : Fin 3) = (tileOf t).val := coord0_toNat t
  exact (congrArg (fun z => z * ((cfg0 a).win 12).size (2 : Fin 3) + (y (2 : Fin 3)).val) h)

theorem blkrd12 (a : (pcfg0 (F := F)).Adm) (c : Dev nD) (t : Fin (cfg0 a).N) (X : Buf (Elt F) ((c : Thread nD τ).loc main_arg7)) (T : Fin 24) (hT : (a.1 2 : Vec F S25 .i32) (slotIx (grid0.coords t) 2) = BitVec.ofNat 32 T.val) :
    (((cfg0 a).win 12).blk t).view.read (Elt F) X = fun y : S1x112x512.Idx => X (ix3 T (y (1 : Fin 3)) (colOf (tileOf t) (y (2 : Fin 3)))) := by
  funext y
  refine congrArg X ?_
  funext x
  apply Fin.ext
  revert x
  show ∀ x : Fin 3, _
  intro x
  fin_cases x
  · exact emb12_0 a t y T hT
  · exact emb12_1 a t y
  · exact emb12_2 a t y

theorem idx13_0 (a : (pcfg0 (F := F)).Adm) (t : Fin (cfg0 a).N) (T : Fin 24) (hT : (a.1 2 : Vec F S25 .i32) (slotIx (grid0.coords t) 3) = BitVec.ofNat 32 T.val) : ((cfg0 a).win 13).index t (0 : Fin 3) = T.val := by
  show BitVec.toNat (a.1.at 2 (Rect.unit (s := S25) (k0_off1 (grid0.coords t) (BitVec.ofNat 32 (3 : Fin 5).val)) S1.size (k0_off1_inb (grid0.coords t) 3)) numel1_S1) = _
  have e : a.1.at 2 (Rect.unit (s := S25) (k0_off1 (grid0.coords t) (BitVec.ofNat 32 (3 : Fin 5).val)) S1.size (k0_off1_inb (grid0.coords t) 3)) numel1_S1 = (a.1 2 : Vec F S25 .i32) (slotIx (grid0.coords t) 3) := by
    refine congrArg (a.1 2 : Vec F S25 .i32) ?_
    funext x
    obtain rfl : x = (0 : Fin 1) := Subsingleton.elim (α := Fin 1) _ _
    apply Fin.ext
    have H : ∀ g : Fin 5, (Scalar.addi (Scalar.muli (BitVec.ofNat 32 g.val) 5#32) 3#32).toNat = g.val * 5 + 3 := by decide
    exact (H ⟨grpOf (grid0.coords t), grpOf_lt _⟩)
  rw [e, hT, toNat_fin]

theorem emb13_0 (a : (pcfg0 (F := F)).Adm) (t : Fin (cfg0 a).N) (y : S1x112x512.Idx) (T : Fin 24) (hT : (a.1 2 : Vec F S25 .i32) (slotIx (grid0.coords t) 3) = BitVec.ofNat 32 T.val) : ((((cfg0 a).win 13).rect t).emb y (0 : Fin 3) : ℕ) = T.val := by
  refine (emb_val a 13 rfl t y (0 : Fin 3)).trans ?_
  refine (congrArg (fun z => z * ((cfg0 a).win 13).size (0 : Fin 3) + (y (0 : Fin 3)).val) (idx13_0 a t T hT)).trans ?_
  have : (y (0 : Fin 3)).val < 1 := (y (0 : Fin 3)).isLt
  show T.val * 1 + (y (0 : Fin 3)).val = T.val
  omega

theorem emb13_1 (a : (pcfg0 (F := F)).Adm) (t : Fin (cfg0 a).N) (y : S1x112x512.Idx) : ((((cfg0 a).win 13).rect t).emb y (1 : Fin 3) : ℕ) = (y (1 : Fin 3)).val := by
  refine (emb_val a 13 rfl t y (1 : Fin 3)).trans ?_
  have h : ((cfg0 a).win 13).index t (1 : Fin 3) = 0 := rfl
  exact (congrArg (fun z => z * ((cfg0 a).win 13).size (1 : Fin 3) + (y (1 : Fin 3)).val) h).trans ((congrArg (· + (y (1 : Fin 3)).val) (Nat.zero_mul _)).trans (Nat.zero_add _))

theorem emb13_2 (a : (pcfg0 (F := F)).Adm) (t : Fin (cfg0 a).N) (y : S1x112x512.Idx) : ((((cfg0 a).win 13).rect t).emb y (2 : Fin 3) : ℕ) = (tileOf t).val * 512 + (y (2 : Fin 3)).val := by
  refine (emb_val a 13 rfl t y (2 : Fin 3)).trans ?_
  have h : ((cfg0 a).win 13).index t (2 : Fin 3) = (tileOf t).val := coord0_toNat t
  exact (congrArg (fun z => z * ((cfg0 a).win 13).size (2 : Fin 3) + (y (2 : Fin 3)).val) h)

theorem blkrd13 (a : (pcfg0 (F := F)).Adm) (c : Dev nD) (t : Fin (cfg0 a).N) (X : Buf (Elt F) ((c : Thread nD τ).loc main_arg7)) (T : Fin 24) (hT : (a.1 2 : Vec F S25 .i32) (slotIx (grid0.coords t) 3) = BitVec.ofNat 32 T.val) :
    (((cfg0 a).win 13).blk t).view.read (Elt F) X = fun y : S1x112x512.Idx => X (ix3 T (y (1 : Fin 3)) (colOf (tileOf t) (y (2 : Fin 3)))) := by
  funext y
  refine congrArg X ?_
  funext x
  apply Fin.ext
  revert x
  show ∀ x : Fin 3, _
  intro x
  fin_cases x
  · exact emb13_0 a t y T hT
  · exact emb13_1 a t y
  · exact emb13_2 a t y

theorem idx14_0 (a : (pcfg0 (F := F)).Adm) (t : Fin (cfg0 a).N) (T : Fin 24) (hT : (a.1 2 : Vec F S25 .i32) (slotIx (grid0.coords t) 4) = BitVec.ofNat 32 T.val) : ((cfg0 a).win 14).index t (0 : Fin 3) = T.val := by
  show BitVec.toNat (a.1.at 2 (Rect.unit (s := S25) (k0_off1 (grid0.coords t) (BitVec.ofNat 32 (4 : Fin 5).val)) S1.size (k0_off1_inb (grid0.coords t) 4)) numel1_S1) = _
  have e : a.1.at 2 (Rect.unit (s := S25) (k0_off1 (grid0.coords t) (BitVec.ofNat 32 (4 : Fin 5).val)) S1.size (k0_off1_inb (grid0.coords t) 4)) numel1_S1 = (a.1 2 : Vec F S25 .i32) (slotIx (grid0.coords t) 4) := by
    refine congrArg (a.1 2 : Vec F S25 .i32) ?_
    funext x
    obtain rfl : x = (0 : Fin 1) := Subsingleton.elim (α := Fin 1) _ _
    apply Fin.ext
    have H : ∀ g : Fin 5, (Scalar.addi (Scalar.muli (BitVec.ofNat 32 g.val) 5#32) 4#32).toNat = g.val * 5 + 4 := by decide
    exact (H ⟨grpOf (grid0.coords t), grpOf_lt _⟩)
  rw [e, hT, toNat_fin]

theorem emb14_0 (a : (pcfg0 (F := F)).Adm) (t : Fin (cfg0 a).N) (y : S1x112x512.Idx) (T : Fin 24) (hT : (a.1 2 : Vec F S25 .i32) (slotIx (grid0.coords t) 4) = BitVec.ofNat 32 T.val) : ((((cfg0 a).win 14).rect t).emb y (0 : Fin 3) : ℕ) = T.val := by
  refine (emb_val a 14 rfl t y (0 : Fin 3)).trans ?_
  refine (congrArg (fun z => z * ((cfg0 a).win 14).size (0 : Fin 3) + (y (0 : Fin 3)).val) (idx14_0 a t T hT)).trans ?_
  have : (y (0 : Fin 3)).val < 1 := (y (0 : Fin 3)).isLt
  show T.val * 1 + (y (0 : Fin 3)).val = T.val
  omega

theorem emb14_1 (a : (pcfg0 (F := F)).Adm) (t : Fin (cfg0 a).N) (y : S1x112x512.Idx) : ((((cfg0 a).win 14).rect t).emb y (1 : Fin 3) : ℕ) = (y (1 : Fin 3)).val := by
  refine (emb_val a 14 rfl t y (1 : Fin 3)).trans ?_
  have h : ((cfg0 a).win 14).index t (1 : Fin 3) = 0 := rfl
  exact (congrArg (fun z => z * ((cfg0 a).win 14).size (1 : Fin 3) + (y (1 : Fin 3)).val) h).trans ((congrArg (· + (y (1 : Fin 3)).val) (Nat.zero_mul _)).trans (Nat.zero_add _))

theorem emb14_2 (a : (pcfg0 (F := F)).Adm) (t : Fin (cfg0 a).N) (y : S1x112x512.Idx) : ((((cfg0 a).win 14).rect t).emb y (2 : Fin 3) : ℕ) = (tileOf t).val * 512 + (y (2 : Fin 3)).val := by
  refine (emb_val a 14 rfl t y (2 : Fin 3)).trans ?_
  have h : ((cfg0 a).win 14).index t (2 : Fin 3) = (tileOf t).val := coord0_toNat t
  exact (congrArg (fun z => z * ((cfg0 a).win 14).size (2 : Fin 3) + (y (2 : Fin 3)).val) h)

theorem blkrd14 (a : (pcfg0 (F := F)).Adm) (c : Dev nD) (t : Fin (cfg0 a).N) (X : Buf (Elt F) ((c : Thread nD τ).loc main_arg7)) (T : Fin 24) (hT : (a.1 2 : Vec F S25 .i32) (slotIx (grid0.coords t) 4) = BitVec.ofNat 32 T.val) :
    (((cfg0 a).win 14).blk t).view.read (Elt F) X = fun y : S1x112x512.Idx => X (ix3 T (y (1 : Fin 3)) (colOf (tileOf t) (y (2 : Fin 3)))) := by
  funext y
  refine congrArg X ?_
  funext x
  apply Fin.ext
  revert x
  show ∀ x : Fin 3, _
  intro x
  fin_cases x
  · exact emb14_0 a t y T hT
  · exact emb14_1 a t y
  · exact emb14_2 a t y

theorem idx15_0 (a : (pcfg0 (F := F)).Adm) (t : Fin (cfg0 a).N) (T : Fin 24) (hT : (a.1 2 : Vec F S25 .i32) (slotIx (grid0.coords t) 0) = BitVec.ofNat 32 T.val) : ((cfg0 a).win 15).index t (0 : Fin 3) = T.val := by
  show BitVec.toNat (a.1.at 2 (Rect.unit (s := S25) (k0_off1 (grid0.coords t) (BitVec.ofNat 32 (0 : Fin 5).val)) S1.size (k0_off1_inb (grid0.coords t) 0)) numel1_S1) = _
  have e : a.1.at 2 (Rect.unit (s := S25) (k0_off1 (grid0.coords t) (BitVec.ofNat 32 (0 : Fin 5).val)) S1.size (k0_off1_inb (grid0.coords t) 0)) numel1_S1 = (a.1 2 : Vec F S25 .i32) (slotIx (grid0.coords t) 0) := by
    refine congrArg (a.1 2 : Vec F S25 .i32) ?_
    funext x
    obtain rfl : x = (0 : Fin 1) := Subsingleton.elim (α := Fin 1) _ _
    apply Fin.ext
    have H : ∀ g : Fin 5, (Scalar.addi (Scalar.muli (BitVec.ofNat 32 g.val) 5#32) 0#32).toNat = g.val * 5 + 0 := by decide
    exact (H ⟨grpOf (grid0.coords t), grpOf_lt _⟩)
  rw [e, hT, toNat_fin]

theorem emb15_0 (a : (pcfg0 (F := F)).Adm) (t : Fin (cfg0 a).N) (y : S1x112x512.Idx) (T : Fin 24) (hT : (a.1 2 : Vec F S25 .i32) (slotIx (grid0.coords t) 0) = BitVec.ofNat 32 T.val) : ((((cfg0 a).win 15).rect t).emb y (0 : Fin 3) : ℕ) = T.val := by
  refine (emb_val a 15 rfl t y (0 : Fin 3)).trans ?_
  refine (congrArg (fun z => z * ((cfg0 a).win 15).size (0 : Fin 3) + (y (0 : Fin 3)).val) (idx15_0 a t T hT)).trans ?_
  have : (y (0 : Fin 3)).val < 1 := (y (0 : Fin 3)).isLt
  show T.val * 1 + (y (0 : Fin 3)).val = T.val
  omega

theorem emb15_1 (a : (pcfg0 (F := F)).Adm) (t : Fin (cfg0 a).N) (y : S1x112x512.Idx) : ((((cfg0 a).win 15).rect t).emb y (1 : Fin 3) : ℕ) = (y (1 : Fin 3)).val := by
  refine (emb_val a 15 rfl t y (1 : Fin 3)).trans ?_
  have h : ((cfg0 a).win 15).index t (1 : Fin 3) = 0 := rfl
  exact (congrArg (fun z => z * ((cfg0 a).win 15).size (1 : Fin 3) + (y (1 : Fin 3)).val) h).trans ((congrArg (· + (y (1 : Fin 3)).val) (Nat.zero_mul _)).trans (Nat.zero_add _))

theorem emb15_2 (a : (pcfg0 (F := F)).Adm) (t : Fin (cfg0 a).N) (y : S1x112x512.Idx) : ((((cfg0 a).win 15).rect t).emb y (2 : Fin 3) : ℕ) = (tileOf t).val * 512 + (y (2 : Fin 3)).val := by
  refine (emb_val a 15 rfl t y (2 : Fin 3)).trans ?_
  have h : ((cfg0 a).win 15).index t (2 : Fin 3) = (tileOf t).val := coord0_toNat t
  exact (congrArg (fun z => z * ((cfg0 a).win 15).size (2 : Fin 3) + (y (2 : Fin 3)).val) h)

theorem blkrd15 (a : (pcfg0 (F := F)).Adm) (c : Dev nD) (t : Fin (cfg0 a).N) (X : Buf (Elt F) ((c : Thread nD τ).loc main_arg8)) (T : Fin 24) (hT : (a.1 2 : Vec F S25 .i32) (slotIx (grid0.coords t) 0) = BitVec.ofNat 32 T.val) :
    (((cfg0 a).win 15).blk t).view.read (Elt F) X = fun y : S1x112x512.Idx => X (ix3 T (y (1 : Fin 3)) (colOf (tileOf t) (y (2 : Fin 3)))) := by
  funext y
  refine congrArg X ?_
  funext x
  apply Fin.ext
  revert x
  show ∀ x : Fin 3, _
  intro x
  fin_cases x
  · exact emb15_0 a t y T hT
  · exact emb15_1 a t y
  · exact emb15_2 a t y

theorem idx16_0 (a : (pcfg0 (F := F)).Adm) (t : Fin (cfg0 a).N) (T : Fin 24) (hT : (a.1 2 : Vec F S25 .i32) (slotIx (grid0.coords t) 1) = BitVec.ofNat 32 T.val) : ((cfg0 a).win 16).index t (0 : Fin 3) = T.val := by
  show BitVec.toNat (a.1.at 2 (Rect.unit (s := S25) (k0_off1 (grid0.coords t) (BitVec.ofNat 32 (1 : Fin 5).val)) S1.size (k0_off1_inb (grid0.coords t) 1)) numel1_S1) = _
  have e : a.1.at 2 (Rect.unit (s := S25) (k0_off1 (grid0.coords t) (BitVec.ofNat 32 (1 : Fin 5).val)) S1.size (k0_off1_inb (grid0.coords t) 1)) numel1_S1 = (a.1 2 : Vec F S25 .i32) (slotIx (grid0.coords t) 1) := by
    refine congrArg (a.1 2 : Vec F S25 .i32) ?_
    funext x
    obtain rfl : x = (0 : Fin 1) := Subsingleton.elim (α := Fin 1) _ _
    apply Fin.ext
    have H : ∀ g : Fin 5, (Scalar.addi (Scalar.muli (BitVec.ofNat 32 g.val) 5#32) 1#32).toNat = g.val * 5 + 1 := by decide
    exact (H ⟨grpOf (grid0.coords t), grpOf_lt _⟩)
  rw [e, hT, toNat_fin]

theorem emb16_0 (a : (pcfg0 (F := F)).Adm) (t : Fin (cfg0 a).N) (y : S1x112x512.Idx) (T : Fin 24) (hT : (a.1 2 : Vec F S25 .i32) (slotIx (grid0.coords t) 1) = BitVec.ofNat 32 T.val) : ((((cfg0 a).win 16).rect t).emb y (0 : Fin 3) : ℕ) = T.val := by
  refine (emb_val a 16 rfl t y (0 : Fin 3)).trans ?_
  refine (congrArg (fun z => z * ((cfg0 a).win 16).size (0 : Fin 3) + (y (0 : Fin 3)).val) (idx16_0 a t T hT)).trans ?_
  have : (y (0 : Fin 3)).val < 1 := (y (0 : Fin 3)).isLt
  show T.val * 1 + (y (0 : Fin 3)).val = T.val
  omega

theorem emb16_1 (a : (pcfg0 (F := F)).Adm) (t : Fin (cfg0 a).N) (y : S1x112x512.Idx) : ((((cfg0 a).win 16).rect t).emb y (1 : Fin 3) : ℕ) = (y (1 : Fin 3)).val := by
  refine (emb_val a 16 rfl t y (1 : Fin 3)).trans ?_
  have h : ((cfg0 a).win 16).index t (1 : Fin 3) = 0 := rfl
  exact (congrArg (fun z => z * ((cfg0 a).win 16).size (1 : Fin 3) + (y (1 : Fin 3)).val) h).trans ((congrArg (· + (y (1 : Fin 3)).val) (Nat.zero_mul _)).trans (Nat.zero_add _))

theorem emb16_2 (a : (pcfg0 (F := F)).Adm) (t : Fin (cfg0 a).N) (y : S1x112x512.Idx) : ((((cfg0 a).win 16).rect t).emb y (2 : Fin 3) : ℕ) = (tileOf t).val * 512 + (y (2 : Fin 3)).val := by
  refine (emb_val a 16 rfl t y (2 : Fin 3)).trans ?_
  have h : ((cfg0 a).win 16).index t (2 : Fin 3) = (tileOf t).val := coord0_toNat t
  exact (congrArg (fun z => z * ((cfg0 a).win 16).size (2 : Fin 3) + (y (2 : Fin 3)).val) h)

theorem blkrd16 (a : (pcfg0 (F := F)).Adm) (c : Dev nD) (t : Fin (cfg0 a).N) (X : Buf (Elt F) ((c : Thread nD τ).loc main_arg8)) (T : Fin 24) (hT : (a.1 2 : Vec F S25 .i32) (slotIx (grid0.coords t) 1) = BitVec.ofNat 32 T.val) :
    (((cfg0 a).win 16).blk t).view.read (Elt F) X = fun y : S1x112x512.Idx => X (ix3 T (y (1 : Fin 3)) (colOf (tileOf t) (y (2 : Fin 3)))) := by
  funext y
  refine congrArg X ?_
  funext x
  apply Fin.ext
  revert x
  show ∀ x : Fin 3, _
  intro x
  fin_cases x
  · exact emb16_0 a t y T hT
  · exact emb16_1 a t y
  · exact emb16_2 a t y

theorem idx17_0 (a : (pcfg0 (F := F)).Adm) (t : Fin (cfg0 a).N) (T : Fin 24) (hT : (a.1 2 : Vec F S25 .i32) (slotIx (grid0.coords t) 2) = BitVec.ofNat 32 T.val) : ((cfg0 a).win 17).index t (0 : Fin 3) = T.val := by
  show BitVec.toNat (a.1.at 2 (Rect.unit (s := S25) (k0_off1 (grid0.coords t) (BitVec.ofNat 32 (2 : Fin 5).val)) S1.size (k0_off1_inb (grid0.coords t) 2)) numel1_S1) = _
  have e : a.1.at 2 (Rect.unit (s := S25) (k0_off1 (grid0.coords t) (BitVec.ofNat 32 (2 : Fin 5).val)) S1.size (k0_off1_inb (grid0.coords t) 2)) numel1_S1 = (a.1 2 : Vec F S25 .i32) (slotIx (grid0.coords t) 2) := by
    refine congrArg (a.1 2 : Vec F S25 .i32) ?_
    funext x
    obtain rfl : x = (0 : Fin 1) := Subsingleton.elim (α := Fin 1) _ _
    apply Fin.ext
    have H : ∀ g : Fin 5, (Scalar.addi (Scalar.muli (BitVec.ofNat 32 g.val) 5#32) 2#32).toNat = g.val * 5 + 2 := by decide
    exact (H ⟨grpOf (grid0.coords t), grpOf_lt _⟩)
  rw [e, hT, toNat_fin]

theorem emb17_0 (a : (pcfg0 (F := F)).Adm) (t : Fin (cfg0 a).N) (y : S1x112x512.Idx) (T : Fin 24) (hT : (a.1 2 : Vec F S25 .i32) (slotIx (grid0.coords t) 2) = BitVec.ofNat 32 T.val) : ((((cfg0 a).win 17).rect t).emb y (0 : Fin 3) : ℕ) = T.val := by
  refine (emb_val a 17 rfl t y (0 : Fin 3)).trans ?_
  refine (congrArg (fun z => z * ((cfg0 a).win 17).size (0 : Fin 3) + (y (0 : Fin 3)).val) (idx17_0 a t T hT)).trans ?_
  have : (y (0 : Fin 3)).val < 1 := (y (0 : Fin 3)).isLt
  show T.val * 1 + (y (0 : Fin 3)).val = T.val
  omega

theorem emb17_1 (a : (pcfg0 (F := F)).Adm) (t : Fin (cfg0 a).N) (y : S1x112x512.Idx) : ((((cfg0 a).win 17).rect t).emb y (1 : Fin 3) : ℕ) = (y (1 : Fin 3)).val := by
  refine (emb_val a 17 rfl t y (1 : Fin 3)).trans ?_
  have h : ((cfg0 a).win 17).index t (1 : Fin 3) = 0 := rfl
  exact (congrArg (fun z => z * ((cfg0 a).win 17).size (1 : Fin 3) + (y (1 : Fin 3)).val) h).trans ((congrArg (· + (y (1 : Fin 3)).val) (Nat.zero_mul _)).trans (Nat.zero_add _))

theorem emb17_2 (a : (pcfg0 (F := F)).Adm) (t : Fin (cfg0 a).N) (y : S1x112x512.Idx) : ((((cfg0 a).win 17).rect t).emb y (2 : Fin 3) : ℕ) = (tileOf t).val * 512 + (y (2 : Fin 3)).val := by
  refine (emb_val a 17 rfl t y (2 : Fin 3)).trans ?_
  have h : ((cfg0 a).win 17).index t (2 : Fin 3) = (tileOf t).val := coord0_toNat t
  exact (congrArg (fun z => z * ((cfg0 a).win 17).size (2 : Fin 3) + (y (2 : Fin 3)).val) h)

theorem blkrd17 (a : (pcfg0 (F := F)).Adm) (c : Dev nD) (t : Fin (cfg0 a).N) (X : Buf (Elt F) ((c : Thread nD τ).loc main_arg8)) (T : Fin 24) (hT : (a.1 2 : Vec F S25 .i32) (slotIx (grid0.coords t) 2) = BitVec.ofNat 32 T.val) :
    (((cfg0 a).win 17).blk t).view.read (Elt F) X = fun y : S1x112x512.Idx => X (ix3 T (y (1 : Fin 3)) (colOf (tileOf t) (y (2 : Fin 3)))) := by
  funext y
  refine congrArg X ?_
  funext x
  apply Fin.ext
  revert x
  show ∀ x : Fin 3, _
  intro x
  fin_cases x
  · exact emb17_0 a t y T hT
  · exact emb17_1 a t y
  · exact emb17_2 a t y

theorem idx18_0 (a : (pcfg0 (F := F)).Adm) (t : Fin (cfg0 a).N) (T : Fin 24) (hT : (a.1 2 : Vec F S25 .i32) (slotIx (grid0.coords t) 3) = BitVec.ofNat 32 T.val) : ((cfg0 a).win 18).index t (0 : Fin 3) = T.val := by
  show BitVec.toNat (a.1.at 2 (Rect.unit (s := S25) (k0_off1 (grid0.coords t) (BitVec.ofNat 32 (3 : Fin 5).val)) S1.size (k0_off1_inb (grid0.coords t) 3)) numel1_S1) = _
  have e : a.1.at 2 (Rect.unit (s := S25) (k0_off1 (grid0.coords t) (BitVec.ofNat 32 (3 : Fin 5).val)) S1.size (k0_off1_inb (grid0.coords t) 3)) numel1_S1 = (a.1 2 : Vec F S25 .i32) (slotIx (grid0.coords t) 3) := by
    refine congrArg (a.1 2 : Vec F S25 .i32) ?_
    funext x
    obtain rfl : x = (0 : Fin 1) := Subsingleton.elim (α := Fin 1) _ _
    apply Fin.ext
    have H : ∀ g : Fin 5, (Scalar.addi (Scalar.muli (BitVec.ofNat 32 g.val) 5#32) 3#32).toNat = g.val * 5 + 3 := by decide
    exact (H ⟨grpOf (grid0.coords t), grpOf_lt _⟩)
  rw [e, hT, toNat_fin]

theorem emb18_0 (a : (pcfg0 (F := F)).Adm) (t : Fin (cfg0 a).N) (y : S1x112x512.Idx) (T : Fin 24) (hT : (a.1 2 : Vec F S25 .i32) (slotIx (grid0.coords t) 3) = BitVec.ofNat 32 T.val) : ((((cfg0 a).win 18).rect t).emb y (0 : Fin 3) : ℕ) = T.val := by
  refine (emb_val a 18 rfl t y (0 : Fin 3)).trans ?_
  refine (congrArg (fun z => z * ((cfg0 a).win 18).size (0 : Fin 3) + (y (0 : Fin 3)).val) (idx18_0 a t T hT)).trans ?_
  have : (y (0 : Fin 3)).val < 1 := (y (0 : Fin 3)).isLt
  show T.val * 1 + (y (0 : Fin 3)).val = T.val
  omega

theorem emb18_1 (a : (pcfg0 (F := F)).Adm) (t : Fin (cfg0 a).N) (y : S1x112x512.Idx) : ((((cfg0 a).win 18).rect t).emb y (1 : Fin 3) : ℕ) = (y (1 : Fin 3)).val := by
  refine (emb_val a 18 rfl t y (1 : Fin 3)).trans ?_
  have h : ((cfg0 a).win 18).index t (1 : Fin 3) = 0 := rfl
  exact (congrArg (fun z => z * ((cfg0 a).win 18).size (1 : Fin 3) + (y (1 : Fin 3)).val) h).trans ((congrArg (· + (y (1 : Fin 3)).val) (Nat.zero_mul _)).trans (Nat.zero_add _))

theorem emb18_2 (a : (pcfg0 (F := F)).Adm) (t : Fin (cfg0 a).N) (y : S1x112x512.Idx) : ((((cfg0 a).win 18).rect t).emb y (2 : Fin 3) : ℕ) = (tileOf t).val * 512 + (y (2 : Fin 3)).val := by
  refine (emb_val a 18 rfl t y (2 : Fin 3)).trans ?_
  have h : ((cfg0 a).win 18).index t (2 : Fin 3) = (tileOf t).val := coord0_toNat t
  exact (congrArg (fun z => z * ((cfg0 a).win 18).size (2 : Fin 3) + (y (2 : Fin 3)).val) h)

theorem blkrd18 (a : (pcfg0 (F := F)).Adm) (c : Dev nD) (t : Fin (cfg0 a).N) (X : Buf (Elt F) ((c : Thread nD τ).loc main_arg8)) (T : Fin 24) (hT : (a.1 2 : Vec F S25 .i32) (slotIx (grid0.coords t) 3) = BitVec.ofNat 32 T.val) :
    (((cfg0 a).win 18).blk t).view.read (Elt F) X = fun y : S1x112x512.Idx => X (ix3 T (y (1 : Fin 3)) (colOf (tileOf t) (y (2 : Fin 3)))) := by
  funext y
  refine congrArg X ?_
  funext x
  apply Fin.ext
  revert x
  show ∀ x : Fin 3, _
  intro x
  fin_cases x
  · exact emb18_0 a t y T hT
  · exact emb18_1 a t y
  · exact emb18_2 a t y

theorem idx19_0 (a : (pcfg0 (F := F)).Adm) (t : Fin (cfg0 a).N) (T : Fin 24) (hT : (a.1 2 : Vec F S25 .i32) (slotIx (grid0.coords t) 4) = BitVec.ofNat 32 T.val) : ((cfg0 a).win 19).index t (0 : Fin 3) = T.val := by
  show BitVec.toNat (a.1.at 2 (Rect.unit (s := S25) (k0_off1 (grid0.coords t) (BitVec.ofNat 32 (4 : Fin 5).val)) S1.size (k0_off1_inb (grid0.coords t) 4)) numel1_S1) = _
  have e : a.1.at 2 (Rect.unit (s := S25) (k0_off1 (grid0.coords t) (BitVec.ofNat 32 (4 : Fin 5).val)) S1.size (k0_off1_inb (grid0.coords t) 4)) numel1_S1 = (a.1 2 : Vec F S25 .i32) (slotIx (grid0.coords t) 4) := by
    refine congrArg (a.1 2 : Vec F S25 .i32) ?_
    funext x
    obtain rfl : x = (0 : Fin 1) := Subsingleton.elim (α := Fin 1) _ _
    apply Fin.ext
    have H : ∀ g : Fin 5, (Scalar.addi (Scalar.muli (BitVec.ofNat 32 g.val) 5#32) 4#32).toNat = g.val * 5 + 4 := by decide
    exact (H ⟨grpOf (grid0.coords t), grpOf_lt _⟩)
  rw [e, hT, toNat_fin]

theorem emb19_0 (a : (pcfg0 (F := F)).Adm) (t : Fin (cfg0 a).N) (y : S1x112x512.Idx) (T : Fin 24) (hT : (a.1 2 : Vec F S25 .i32) (slotIx (grid0.coords t) 4) = BitVec.ofNat 32 T.val) : ((((cfg0 a).win 19).rect t).emb y (0 : Fin 3) : ℕ) = T.val := by
  refine (emb_val a 19 rfl t y (0 : Fin 3)).trans ?_
  refine (congrArg (fun z => z * ((cfg0 a).win 19).size (0 : Fin 3) + (y (0 : Fin 3)).val) (idx19_0 a t T hT)).trans ?_
  have : (y (0 : Fin 3)).val < 1 := (y (0 : Fin 3)).isLt
  show T.val * 1 + (y (0 : Fin 3)).val = T.val
  omega

theorem emb19_1 (a : (pcfg0 (F := F)).Adm) (t : Fin (cfg0 a).N) (y : S1x112x512.Idx) : ((((cfg0 a).win 19).rect t).emb y (1 : Fin 3) : ℕ) = (y (1 : Fin 3)).val := by
  refine (emb_val a 19 rfl t y (1 : Fin 3)).trans ?_
  have h : ((cfg0 a).win 19).index t (1 : Fin 3) = 0 := rfl
  exact (congrArg (fun z => z * ((cfg0 a).win 19).size (1 : Fin 3) + (y (1 : Fin 3)).val) h).trans ((congrArg (· + (y (1 : Fin 3)).val) (Nat.zero_mul _)).trans (Nat.zero_add _))

theorem emb19_2 (a : (pcfg0 (F := F)).Adm) (t : Fin (cfg0 a).N) (y : S1x112x512.Idx) : ((((cfg0 a).win 19).rect t).emb y (2 : Fin 3) : ℕ) = (tileOf t).val * 512 + (y (2 : Fin 3)).val := by
  refine (emb_val a 19 rfl t y (2 : Fin 3)).trans ?_
  have h : ((cfg0 a).win 19).index t (2 : Fin 3) = (tileOf t).val := coord0_toNat t
  exact (congrArg (fun z => z * ((cfg0 a).win 19).size (2 : Fin 3) + (y (2 : Fin 3)).val) h)

theorem blkrd19 (a : (pcfg0 (F := F)).Adm) (c : Dev nD) (t : Fin (cfg0 a).N) (X : Buf (Elt F) ((c : Thread nD τ).loc main_arg8)) (T : Fin 24) (hT : (a.1 2 : Vec F S25 .i32) (slotIx (grid0.coords t) 4) = BitVec.ofNat 32 T.val) :
    (((cfg0 a).win 19).blk t).view.read (Elt F) X = fun y : S1x112x512.Idx => X (ix3 T (y (1 : Fin 3)) (colOf (tileOf t) (y (2 : Fin 3)))) := by
  funext y
  refine congrArg X ?_
  funext x
  apply Fin.ext
  revert x
  show ∀ x : Fin 3, _
  intro x
  fin_cases x
  · exact emb19_0 a t y T hT
  · exact emb19_1 a t y
  · exact emb19_2 a t y

theorem emb20_0 (a : (pcfg0 (F := F)).Adm) (t : Fin (cfg0 a).N) (y : S24x4x512.Idx) : ((((cfg0 a).win 20).rect t).emb y (0 : Fin 3) : ℕ) = (y (0 : Fin 3)).val := by
  refine (emb_val a 20 rfl t y (0 : Fin 3)).trans ?_
  have h : ((cfg0 a).win 20).index t (0 : Fin 3) = 0 := rfl
  exact (congrArg (fun z => z * ((cfg0 a).win 20).size (0 : Fin 3) + (y (0 : Fin 3)).val) h).trans ((congrArg (· + (y (0 : Fin 3)).val) (Nat.zero_mul _)).trans (Nat.zero_add _))

theorem emb20_1 (a : (pcfg0 (F := F)).Adm) (t : Fin (cfg0 a).N) (y : S24x4x512.Idx) : ((((cfg0 a).win 20).rect t).emb y (1 : Fin 3) : ℕ) = (y (1 : Fin 3)).val := by
  refine (emb_val a 20 rfl t y (1 : Fin 3)).trans ?_
  have h : ((cfg0 a).win 20).index t (1 : Fin 3) = 0 := rfl
  exact (congrArg (fun z => z * ((cfg0 a).win 20).size (1 : Fin 3) + (y (1 : Fin 3)).val) h).trans ((congrArg (· + (y (1 : Fin 3)).val) (Nat.zero_mul _)).trans (Nat.zero_add _))

theorem emb20_2 (a : (pcfg0 (F := F)).Adm) (t : Fin (cfg0 a).N) (y : S24x4x512.Idx) : ((((cfg0 a).win 20).rect t).emb y (2 : Fin 3) : ℕ) = (tileOf t).val * 512 + (y (2 : Fin 3)).val := by
  refine (emb_val a 20 rfl t y (2 : Fin 3)).trans ?_
  have h : ((cfg0 a).win 20).index t (2 : Fin 3) = (tileOf t).val := coord0_toNat t
  exact (congrArg (fun z => z * ((cfg0 a).win 20).size (2 : Fin 3) + (y (2 : Fin 3)).val) h)

end Cert.GateUp.Gen

end
-- ==== Proof.GateUpDat.lean ====
/-
  The region's run: what every grid point may leave in the output block, stated as a relation, and the body's obligation.
-/
module

public import proofs.«01_k».proof.Proof.GateUpBlk

@[expose] public section

set_option maxRecDepth 16384

noncomputable section

namespace Cert.GateUp.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat RDat Cfg Window)

variable {F : FTy → Type} [FloatOps F]

local notation "𝕄" => MT nD τ sig Unit (Elt F) ℕ (UR sig nD τ) ℕ

variable (a : (pcfg0 (F := F)).Adm) (W : (c : Dev nD) → (b : Ref sig .tc) → Buf (Elt F) ((c : Thread nD τ).loc b))
variable (ord : Fin 24 → Fin 24) (n : ℕ)

/-- An operand window's block at a point, read off the region's arrays. -/
def blkv (c : Dev nD) (w : Fin 21) (t : Fin (cfg0 a).N) : (((cfg0 a).win w).xblock ((cfg0 a).grid.coords t)).Idx → Elt F ((cfg0 a).win w).elt :=
  (((cfg0 a).win w).blk t).view.read (Elt F) (W c (Pipeline.arrRef spec0 w))

/-- The tenant a point's `k`th step works on. -/
def tenOf (i : grid0.Coords) (k : Fin 5) : Fin 24 := ord (slotPos n (grpOf i * 5 + k.val))

/-- The rows a point's `k`th step writes. -/
def rowsAt (c : Dev nD) (t : Fin (cfg0 a).N) (k : Fin 5) : FVec F S1x4x512 .f32 :=
  rowV (blkv a W c 1 t) (blkv a W c 2 t) (blkv a W c 3 t) (blkv a W c 6 t) (blkv a W c 7 t) (blkv a W c 8 t) (blkv a W c 9 t)
    (baseRow (base (blkv a W c 0 t) (blkv a W c 4 t)) (tenOf ord n (grid0.coords t) k))
    (baseRow (base (blkv a W c 0 t) (blkv a W c 5 t)) (tenOf ord n (grid0.coords t) k))
    ((![blkv a W c 10 t, blkv a W c 11 t, blkv a W c 12 t, blkv a W c 13 t, blkv a W c 14 t] : Fin 5 → Vec F S1x112x512 .i32) k)
    ((![blkv a W c 15 t, blkv a W c 16 t, blkv a W c 17 t, blkv a W c 18 t, blkv a W c 19 t] : Fin 5 → Vec F S1x112x512 .i32) k)
    (tenOf ord n (grid0.coords t) k)

/-- What a point leaves in the output block, from what it found there. -/
def leaveAt (c : Dev nD) (t : Fin (cfg0 a).N) (Y : Vec F S24x4x512 .f32) : Vec F S24x4x512 .f32 :=
  outPt (grid0.coords t) n (tenOf ord n (grid0.coords t)) (rowsAt a W ord n c t) Y

/-- Inside a tile the scratch rows hold the tile's base products. -/
def ScrOk (c : Dev nD) (u : ℕ) (x26 x27 : Vec F S24x8x512 .f32) : Prop :=
  u % 5 ≠ 0 → ∀ t : Fin (cfg0 a).N, t.val / 5 = u / 5 →
    (∀ r, pick4 x26 r = baseRow (base (blkv a W c 0 t) (blkv a W c 4 t)) r) ∧ (∀ r, pick4 x27 r = baseRow (base (blkv a W c 0 t) (blkv a W c 5 t)) r)

/-- Between points: the scratch rows, the generator register and the tables. -/
def PhiAt (c : Dev nD) (u : Fin ((cfg0 a).N + 1)) : sProp 𝕄 :=
  iprop((∃ x26 x27, ⌜ScrOk a W c u.val x26 x27⌝
      ∗ ((Memref.whole cc0_scratch0).view.loc (c : Thread nD τ) ↦{fullShare} (Memref.isWhole_whole cc0_scratch0).unread x26)
      ∗ ((Memref.whole cc0_scratch1).view.loc (c : Thread nD τ) ↦{fullShare} (Memref.isWhole_whole cc0_scratch1).unread x27))
    ∗ (∃ r, prngReg c r)
    ∗ tbPt0 c tbM0_0 (a.1 0) ∗ tbPt0 c tbM0_1 (a.1 1) ∗ tbPt0 c tbM0_2 (a.1 2))

/-- The exact part of the region's data: operand blocks stay in place. -/
def datAt (c : Dev nD) : Dat τ (Elt F) Unit ℕ (UR sig nD τ) ℕ (cfg0 a) c where
  A w := W c (Pipeline.arrRef spec0 w)
  after := fun
    | 0, t => blkv a W c 0 t
    | 1, t => blkv a W c 1 t
    | 2, t => blkv a W c 2 t
    | 3, t => blkv a W c 3 t
    | 4, t => blkv a W c 4 t
    | 5, t => blkv a W c 5 t
    | 6, t => blkv a W c 6 t
    | 7, t => blkv a W c 7 t
    | 8, t => blkv a W c 8 t
    | 9, t => blkv a W c 9 t
    | 10, t => blkv a W c 10 t
    | 11, t => blkv a W c 11 t
    | 12, t => blkv a W c 12 t
    | 13, t => blkv a W c 13 t
    | 14, t => blkv a W c 14 t
    | 15, t => blkv a W c 15 t
    | 16, t => blkv a W c 16 t
    | 17, t => blkv a W c 17 t
    | 18, t => blkv a W c 18 t
    | 19, t => blkv a W c 19 t
    | 20, _ => (k0_pay9 : Vec F S24x4x512 .f32)
    | ⟨_ + 21, h⟩, _ => absurd h (Nat.not_lt.2 (Nat.le_add_left _ _))
  Φ := PhiAt a W c
  q := Pipeline.shareOf spec0
  owed _ := 0

/-- The output window's relation in place of an exact value. -/
def ovr (c : Dev nD) : (w : Fin 21) → Option (Fin (cfg0 a).N → (Y X : ((cfg0 a).win w).block.Idx → Elt F ((cfg0 a).win w).elt) → Prop) := fun
  | 0 => none
  | 1 => none
  | 2 => none
  | 3 => none
  | 4 => none
  | 5 => none
  | 6 => none
  | 7 => none
  | 8 => none
  | 9 => none
  | 10 => none
  | 11 => none
  | 12 => none
  | 13 => none
  | 14 => none
  | 15 => none
  | 16 => none
  | 17 => none
  | 18 => none
  | 19 => none
  | 20 => some fun t (Y X : Vec F S24x4x512 .f32) => X = leaveAt a W ord n c t Y
  | ⟨_ + 21, h⟩ => absurd h (Nat.not_lt.2 (Nat.le_add_left _ _))

/-- The region's data. -/
def rdat (c : Dev nD) : RDat τ (Elt F) Unit ℕ (UR sig nD τ) ℕ (cfg0 a) c := (datAt a W c).toR.override (ovr a W ord n c)

theorem finds0 (c : Dev nD) (t : Fin (cfg0 a).N) (X) (h : (rdat a W ord n c).Finds 0 t X) : X = blkv a W c 0 t := by
  obtain ⟨d, rfl⟩ := (datAt a W c).toR_finds 0 t X (((datAt a W c).toR.override_finds rfl t X).mp h)
  exact ((datAt a W c).before_in_eq_fetched 0 rfl (fun _ => rfl) (fun _ _ _ => rfl) (fun t => rfl) t d).trans rfl
theorem after0 (c : Dev nD) (t : Fin (cfg0 a).N) (Y) : (rdat a W ord n c).after 0 t Y (blkv a W c 0 t) := by
  unfold rdat
  rw [(datAt a W c).toR.override_after_of_eq_none rfl]
  exact rfl
theorem finds1 (c : Dev nD) (t : Fin (cfg0 a).N) (X) (h : (rdat a W ord n c).Finds 1 t X) : X = blkv a W c 1 t := by
  obtain ⟨d, rfl⟩ := (datAt a W c).toR_finds 1 t X (((datAt a W c).toR.override_finds rfl t X).mp h)
  exact ((datAt a W c).before_in_eq_fetched 1 rfl (fun _ => rfl) (fun _ _ _ => rfl) (fun t => rfl) t d).trans rfl
theorem after1 (c : Dev nD) (t : Fin (cfg0 a).N) (Y) : (rdat a W ord n c).after 1 t Y (blkv a W c 1 t) := by
  unfold rdat
  rw [(datAt a W c).toR.override_after_of_eq_none rfl]
  exact rfl
theorem finds2 (c : Dev nD) (t : Fin (cfg0 a).N) (X) (h : (rdat a W ord n c).Finds 2 t X) : X = blkv a W c 2 t := by
  obtain ⟨d, rfl⟩ := (datAt a W c).toR_finds 2 t X (((datAt a W c).toR.override_finds rfl t X).mp h)
  exact ((datAt a W c).before_in_eq_fetched 2 rfl (fun _ => rfl) (fun _ _ _ => rfl) (fun t => rfl) t d).trans rfl
theorem after2 (c : Dev nD) (t : Fin (cfg0 a).N) (Y) : (rdat a W ord n c).after 2 t Y (blkv a W c 2 t) := by
  unfold rdat
  rw [(datAt a W c).toR.override_after_of_eq_none rfl]
  exact rfl
theorem finds3 (c : Dev nD) (t : Fin (cfg0 a).N) (X) (h : (rdat a W ord n c).Finds 3 t X) : X = blkv a W c 3 t := by
  obtain ⟨d, rfl⟩ := (datAt a W c).toR_finds 3 t X (((datAt a W c).toR.override_finds rfl t X).mp h)
  exact ((datAt a W c).before_in_eq_fetched 3 rfl (fun _ => rfl) (fun _ _ _ => rfl) (fun t => rfl) t d).trans rfl
theorem after3 (c : Dev nD) (t : Fin (cfg0 a).N) (Y) : (rdat a W ord n c).after 3 t Y (blkv a W c 3 t) := by
  unfold rdat
  rw [(datAt a W c).toR.override_after_of_eq_none rfl]
  exact rfl
theorem finds4 (c : Dev nD) (t : Fin (cfg0 a).N) (X) (h : (rdat a W ord n c).Finds 4 t X) : X = blkv a W c 4 t := by
  obtain ⟨d, rfl⟩ := (datAt a W c).toR_finds 4 t X (((datAt a W c).toR.override_finds rfl t X).mp h)
  exact ((datAt a W c).before_in_eq_fetched 4 rfl (fun _ => rfl) (fun _ _ _ => rfl) (fun t => rfl) t d).trans rfl
theorem after4 (c : Dev nD) (t : Fin (cfg0 a).N) (Y) : (rdat a W ord n c).after 4 t Y (blkv a W c 4 t) := by
  unfold rdat
  rw [(datAt a W c).toR.override_after_of_eq_none rfl]
  exact rfl
theorem finds5 (c : Dev nD) (t : Fin (cfg0 a).N) (X) (h : (rdat a W ord n c).Finds 5 t X) : X = blkv a W c 5 t := by
  obtain ⟨d, rfl⟩ := (datAt a W c).toR_finds 5 t X (((datAt a W c).toR.override_finds rfl t X).mp h)
  exact ((datAt a W c).before_in_eq_fetched 5 rfl (fun _ => rfl) (fun _ _ _ => rfl) (fun t => rfl) t d).trans rfl
theorem after5 (c : Dev nD) (t : Fin (cfg0 a).N) (Y) : (rdat a W ord n c).after 5 t Y (blkv a W c 5 t) := by
  unfold rdat
  rw [(datAt a W c).toR.override_after_of_eq_none rfl]
  exact rfl
theorem finds6 (c : Dev nD) (t : Fin (cfg0 a).N) (X) (h : (rdat a W ord n c).Finds 6 t X) : X = blkv a W c 6 t := by
  obtain ⟨d, rfl⟩ := (datAt a W c).toR_finds 6 t X (((datAt a W c).toR.override_finds rfl t X).mp h)
  exact ((datAt a W c).before_in_eq_fetched 6 rfl (fun _ => rfl) (fun _ _ _ => rfl) (fun t => rfl) t d).trans rfl
theorem after6 (c : Dev nD) (t : Fin (cfg0 a).N) (Y) : (rdat a W ord n c).after 6 t Y (blkv a W c 6 t) := by
  unfold rdat
  rw [(datAt a W c).toR.override_after_of_eq_none rfl]
  exact rfl
theorem finds7 (c : Dev nD) (t : Fin (cfg0 a).N) (X) (h : (rdat a W ord n c).Finds 7 t X) : X = blkv a W c 7 t := by
  obtain ⟨d, rfl⟩ := (datAt a W c).toR_finds 7 t X (((datAt a W c).toR.override_finds rfl t X).mp h)
  exact ((datAt a W c).before_in_eq_fetched 7 rfl (fun _ => rfl) (fun _ _ _ => rfl) (fun t => rfl) t d).trans rfl
theorem after7 (c : Dev nD) (t : Fin (cfg0 a).N) (Y) : (rdat a W ord n c).after 7 t Y (blkv a W c 7 t) := by
  unfold rdat
  rw [(datAt a W c).toR.override_after_of_eq_none rfl]
  exact rfl
theorem finds8 (c : Dev nD) (t : Fin (cfg0 a).N) (X) (h : (rdat a W ord n c).Finds 8 t X) : X = blkv a W c 8 t := by
  obtain ⟨d, rfl⟩ := (datAt a W c).toR_finds 8 t X (((datAt a W c).toR.override_finds rfl t X).mp h)
  exact ((datAt a W c).before_in_eq_fetched 8 rfl (fun _ => rfl) (fun _ _ _ => rfl) (fun t => rfl) t d).trans rfl
theorem after8 (c : Dev nD) (t : Fin (cfg0 a).N) (Y) : (rdat a W ord n c).after 8 t Y (blkv a W c 8 t) := by
  unfold rdat
  rw [(datAt a W c).toR.override_after_of_eq_none rfl]
  exact rfl
theorem finds9 (c : Dev nD) (t : Fin (cfg0 a).N) (X) (h : (rdat a W ord n c).Finds 9 t X) : X = blkv a W c 9 t := by
  obtain ⟨d, rfl⟩ := (datAt a W c).toR_finds 9 t X (((datAt a W c).toR.override_finds rfl t X).mp h)
  exact ((datAt a W c).before_in_eq_fetched 9 rfl (fun _ => rfl) (fun _ _ _ => rfl) (fun t => rfl) t d).trans rfl
theorem after9 (c : Dev nD) (t : Fin (cfg0 a).N) (Y) : (rdat a W ord n c).after 9 t Y (blkv a W c 9 t) := by
  unfold rdat
  rw [(datAt a W c).toR.override_after_of_eq_none rfl]
  exact rfl
theorem finds10 (c : Dev nD) (t : Fin (cfg0 a).N) (X) (h : (rdat a W ord n c).Finds 10 t X) : X = blkv a W c 10 t := by
  obtain ⟨d, rfl⟩ := (datAt a W c).toR_finds 10 t X (((datAt a W c).toR.override_finds rfl t X).mp h)
  exact ((datAt a W c).before_in_eq_fetched 10 rfl (fun _ => rfl) (fun _ _ _ => rfl) (fun t => rfl) t d).trans rfl
theorem after10 (c : Dev nD) (t : Fin (cfg0 a).N) (Y) : (rdat a W ord n c).after 10 t Y (blkv a W c 10 t) := by
  unfold rdat
  rw [(datAt a W c).toR.override_after_of_eq_none rfl]
  exact rfl
theorem finds11 (c : Dev nD) (t : Fin (cfg0 a).N) (X) (h : (rdat a W ord n c).Finds 11 t X) : X = blkv a W c 11 t := by
  obtain ⟨d, rfl⟩ := (datAt a W c).toR_finds 11 t X (((datAt a W c).toR.override_finds rfl t X).mp h)
  exact ((datAt a W c).before_in_eq_fetched 11 rfl (fun _ => rfl) (fun _ _ _ => rfl) (fun t => rfl) t d).trans rfl
theorem after11 (c : Dev nD) (t : Fin (cfg0 a).N) (Y) : (rdat a W ord n c).after 11 t Y (blkv a W c 11 t) := by
  unfold rdat
  rw [(datAt a W c).toR.override_after_of_eq_none rfl]
  exact rfl
theorem finds12 (c : Dev nD) (t : Fin (cfg0 a).N) (X) (h : (rdat a W ord n c).Finds 12 t X) : X = blkv a W c 12 t := by
  obtain ⟨d, rfl⟩ := (datAt a W c).toR_finds 12 t X (((datAt a W c).toR.override_finds rfl t X).mp h)
  exact ((datAt a W c).before_in_eq_fetched 12 rfl (fun _ => rfl) (fun _ _ _ => rfl) (fun t => rfl) t d).trans rfl
theorem after12 (c : Dev nD) (t : Fin (cfg0 a).N) (Y) : (rdat a W ord n c).after 12 t Y (blkv a W c 12 t) := by
  unfold rdat
  rw [(datAt a W c).toR.override_after_of_eq_none rfl]
  exact rfl
theorem finds13 (c : Dev nD) (t : Fin (cfg0 a).N) (X) (h : (rdat a W ord n c).Finds 13 t X) : X = blkv a W c 13 t := by
  obtain ⟨d, rfl⟩ := (datAt a W c).toR_finds 13 t X (((datAt a W c).toR.override_finds rfl t X).mp h)
  exact ((datAt a W c).before_in_eq_fetched 13 rfl (fun _ => rfl) (fun _ _ _ => rfl) (fun t => rfl) t d).trans rfl
theorem after13 (c : Dev nD) (t : Fin (cfg0 a).N) (Y) : (rdat a W ord n c).after 13 t Y (blkv a W c 13 t) := by
  unfold rdat
  rw [(datAt a W c).toR.override_after_of_eq_none rfl]
  exact rfl
theorem finds14 (c : Dev nD) (t : Fin (cfg0 a).N) (X) (h : (rdat a W ord n c).Finds 14 t X) : X = blkv a W c 14 t := by
  obtain ⟨d, rfl⟩ := (datAt a W c).toR_finds 14 t X (((datAt a W c).toR.override_finds rfl t X).mp h)
  exact ((datAt a W c).before_in_eq_fetched 14 rfl (fun _ => rfl) (fun _ _ _ => rfl) (fun t => rfl) t d).trans rfl
theorem after14 (c : Dev nD) (t : Fin (cfg0 a).N) (Y) : (rdat a W ord n c).after 14 t Y (blkv a W c 14 t) := by
  unfold rdat
  rw [(datAt a W c).toR.override_after_of_eq_none rfl]
  exact rfl
theorem finds15 (c : Dev nD) (t : Fin (cfg0 a).N) (X) (h : (rdat a W ord n c).Finds 15 t X) : X = blkv a W c 15 t := by
  obtain ⟨d, rfl⟩ := (datAt a W c).toR_finds 15 t X (((datAt a W c).toR.override_finds rfl t X).mp h)
  exact ((datAt a W c).before_in_eq_fetched 15 rfl (fun _ => rfl) (fun _ _ _ => rfl) (fun t => rfl) t d).trans rfl
theorem after15 (c : Dev nD) (t : Fin (cfg0 a).N) (Y) : (rdat a W ord n c).after 15 t Y (blkv a W c 15 t) := by
  unfold rdat
  rw [(datAt a W c).toR.override_after_of_eq_none rfl]
  exact rfl
theorem finds16 (c : Dev nD) (t : Fin (cfg0 a).N) (X) (h : (rdat a W ord n c).Finds 16 t X) : X = blkv a W c 16 t := by
  obtain ⟨d, rfl⟩ := (datAt a W c).toR_finds 16 t X (((datAt a W c).toR.override_finds rfl t X).mp h)
  exact ((datAt a W c).before_in_eq_fetched 16 rfl (fun _ => rfl) (fun _ _ _ => rfl) (fun t => rfl) t d).trans rfl
theorem after16 (c : Dev nD) (t : Fin (cfg0 a).N) (Y) : (rdat a W ord n c).after 16 t Y (blkv a W c 16 t) := by
  unfold rdat
  rw [(datAt a W c).toR.override_after_of_eq_none rfl]
  exact rfl
theorem finds17 (c : Dev nD) (t : Fin (cfg0 a).N) (X) (h : (rdat a W ord n c).Finds 17 t X) : X = blkv a W c 17 t := by
  obtain ⟨d, rfl⟩ := (datAt a W c).toR_finds 17 t X (((datAt a W c).toR.override_finds rfl t X).mp h)
  exact ((datAt a W c).before_in_eq_fetched 17 rfl (fun _ => rfl) (fun _ _ _ => rfl) (fun t => rfl) t d).trans rfl
theorem after17 (c : Dev nD) (t : Fin (cfg0 a).N) (Y) : (rdat a W ord n c).after 17 t Y (blkv a W c 17 t) := by
  unfold rdat
  rw [(datAt a W c).toR.override_after_of_eq_none rfl]
  exact rfl
theorem finds18 (c : Dev nD) (t : Fin (cfg0 a).N) (X) (h : (rdat a W ord n c).Finds 18 t X) : X = blkv a W c 18 t := by
  obtain ⟨d, rfl⟩ := (datAt a W c).toR_finds 18 t X (((datAt a W c).toR.override_finds rfl t X).mp h)
  exact ((datAt a W c).before_in_eq_fetched 18 rfl (fun _ => rfl) (fun _ _ _ => rfl) (fun t => rfl) t d).trans rfl
theorem after18 (c : Dev nD) (t : Fin (cfg0 a).N) (Y) : (rdat a W ord n c).after 18 t Y (blkv a W c 18 t) := by
  unfold rdat
  rw [(datAt a W c).toR.override_after_of_eq_none rfl]
  exact rfl
theorem finds19 (c : Dev nD) (t : Fin (cfg0 a).N) (X) (h : (rdat a W ord n c).Finds 19 t X) : X = blkv a W c 19 t := by
  obtain ⟨d, rfl⟩ := (datAt a W c).toR_finds 19 t X (((datAt a W c).toR.override_finds rfl t X).mp h)
  exact ((datAt a W c).before_in_eq_fetched 19 rfl (fun _ => rfl) (fun _ _ _ => rfl) (fun t => rfl) t d).trans rfl
theorem after19 (c : Dev nD) (t : Fin (cfg0 a).N) (Y) : (rdat a W ord n c).after 19 t Y (blkv a W c 19 t) := by
  unfold rdat
  rw [(datAt a W c).toR.override_after_of_eq_none rfl]
  exact rfl

end Cert.GateUp.Gen

end
-- ==== Proof.GateUpObl.lean ====
/-
  The body's obligation: from any point's operand blocks, the body leaves what the region's data say.
-/
module

public import proofs.«01_k».proof.Proof.GateUpDat

@[expose] public section

set_option maxRecDepth 16384

noncomputable section

namespace Cert.GateUp.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat RDat Cfg Window)

variable {F : FTy → Type} [FloatOps F]

local notation "𝕄" => MT nD τ sig Unit (Elt F) ℕ (UR sig nD τ) ℕ

theorem owns_pt (c : Thread nD τ) {sp : Space} {sh : Shape} {e : EltTy} {M : Memref sig c.2.kind sp sh e} (h : M.IsWhole) (q : PosShare TreeShare)
    (X : sh.Idx → Elt F e) : (owns c M q X : sProp 𝕄) ⊢ (M.view.loc c ↦{q} h.unread X) := by
  unfold owns
  iintro ⟨%f, %hf, H⟩
  obtain rfl := h.eq_unread hf
  have hs : M.view.set = Finset.univ := by
    obtain ⟨b, rfl, rfl, rfl, hm⟩ := h; cases hm; simp only [Memref.view_whole, View.set_whole]
  rw [hs]
  iexact H

theorem pt_owns (c : Thread nD τ) {sp : Space} {sh : Shape} {e : EltTy} {M : Memref sig c.2.kind sp sh e} (h : M.IsWhole) (q : PosShare TreeShare)
    (X : sh.Idx → Elt F e) : ((M.view.loc c ↦{q} h.unread X) : sProp 𝕄) ⊢ owns c M q X := by
  have hs : M.view.set = Finset.univ := by
    obtain ⟨b, rfl, rfl, rfl, hm⟩ := h; cases hm; simp only [Memref.view_whole, View.set_whole]
  unfold owns
  iintro H
  iexists (h.unread X)
  isplitr; · ipureintro; exact h.read_unread X
  rw [hs]
  iexact H

variable (a : (pcfg0 (F := F)).Adm) (W : (c : Dev nD) → (b : Ref sig .tc) → Buf (Elt F) ((c : Thread nD τ).loc b))
variable (ord : Fin 24 → Fin 24) (n : ℕ)

theorem blkv0_eq (c : Dev nD) (t t' : Fin (cfg0 a).N) : blkv a W c 0 t = blkv a W c 0 t' := by
  unfold blkv
  exact (blkrd0 a c t _).trans (blkrd0 a c t' _).symm

theorem blkv4_eq (c : Dev nD) (t t' : Fin (cfg0 a).N) (h : t.val / 5 = t'.val / 5) : blkv a W c 4 t = blkv a W c 4 t' := by
  have h' : tileOf t = tileOf t' := Fin.ext h
  unfold blkv
  exact ((blkrd4 a c t _).trans (by rw [h'])).trans (blkrd4 a c t' _).symm

theorem blkv5_eq (c : Dev nD) (t t' : Fin (cfg0 a).N) (h : t.val / 5 = t'.val / 5) : blkv a W c 5 t = blkv a W c 5 t' := by
  have h' : tileOf t = tileOf t' := Fin.ext h
  unfold blkv
  exact ((blkrd5 a c t _).trans (by rw [h'])).trans (blkrd5 a c t' _).symm

theorem scr_next (c : Dev nD) (t : Fin (cfg0 a).N) (x26 x27 : Vec F S24x8x512 .f32)
    (h : (∀ r, pick4 x26 r = baseRow (base (blkv a W c 0 t) (blkv a W c 4 t)) r) ∧ (∀ r, pick4 x27 r = baseRow (base (blkv a W c 0 t) (blkv a W c 5 t)) r)) :
    ScrOk a W c (t.val + 1) x26 x27 := by
  intro hu t' ht'
  have e : t'.val / 5 = t.val / 5 := by omega
  rw [blkv0_eq a W c t' t, blkv4_eq a W c t' t e, blkv5_eq a W c t' t e]
  exact h

theorem slot0_of {a : (pcfg0 (F := F)).Adm} {ord : Fin 24 → Fin 24} {n : ℕ} (hT : Tab a.1 ord n) (c : Dev nD) (i : grid0.Coords) (hg : grpOf i * 5 < n) (inb) :
    (tWord (F := F) tbM0_0 (show Vec F S24 .i32 from a.1 0) (k0_off2 i (nWord (F := F) tbM0_1 (show Vec F S1 .i32 from a.1 1))) inb).toNat = (tenOf ord n i 0).val := by
  have hw : nWord (F := F) tbM0_1 (show Vec F S1 .i32 from a.1 1) = BitVec.ofNat 32 n := hT.h1 _
  refine tWord_eq _ ord hT.h0 _ inb (slotPos n (grpOf i * 5 + 0)) ?_
  rw [hw, off2_eq i n hT.n_le hg, slotPos_eq n (grpOf i) 0 (by omega) hg hT.n_le]

theorem slot1_of {a : (pcfg0 (F := F)).Adm} {ord : Fin 24 → Fin 24} {n : ℕ} (hT : Tab a.1 ord n) (c : Dev nD) (i : grid0.Coords) (hg : grpOf i * 5 < n) (inb) :
    (tWord (F := F) tbM0_0 (show Vec F S24 .i32 from a.1 0) (k0_off8 i (nWord (F := F) tbM0_1 (show Vec F S1 .i32 from a.1 1))) inb).toNat = (tenOf ord n i 1).val := by
  have hw : nWord (F := F) tbM0_1 (show Vec F S1 .i32 from a.1 1) = BitVec.ofNat 32 n := hT.h1 _
  refine tWord_eq _ ord hT.h0 _ inb (slotPos n (grpOf i * 5 + 1)) ?_
  rw [hw, off8_eq i n hT.n_le hg, slotPos_eq n (grpOf i) 1 (by omega) hg hT.n_le]

theorem slot2_of {a : (pcfg0 (F := F)).Adm} {ord : Fin 24 → Fin 24} {n : ℕ} (hT : Tab a.1 ord n) (c : Dev nD) (i : grid0.Coords) (hg : grpOf i * 5 < n) (inb) :
    (tWord (F := F) tbM0_0 (show Vec F S24 .i32 from a.1 0) (k0_off14 i (nWord (F := F) tbM0_1 (show Vec F S1 .i32 from a.1 1))) inb).toNat = (tenOf ord n i 2).val := by
  have hw : nWord (F := F) tbM0_1 (show Vec F S1 .i32 from a.1 1) = BitVec.ofNat 32 n := hT.h1 _
  refine tWord_eq _ ord hT.h0 _ inb (slotPos n (grpOf i * 5 + 2)) ?_
  rw [hw, off14_eq i n hT.n_le hg, slotPos_eq n (grpOf i) 2 (by omega) hg hT.n_le]

theorem slot3_of {a : (pcfg0 (F := F)).Adm} {ord : Fin 24 → Fin 24} {n : ℕ} (hT : Tab a.1 ord n) (c : Dev nD) (i : grid0.Coords) (hg : grpOf i * 5 < n) (inb) :
    (tWord (F := F) tbM0_0 (show Vec F S24 .i32 from a.1 0) (k0_off20 i (nWord (F := F) tbM0_1 (show Vec F S1 .i32 from a.1 1))) inb).toNat = (tenOf ord n i 3).val := by
  have hw : nWord (F := F) tbM0_1 (show Vec F S1 .i32 from a.1 1) = BitVec.ofNat 32 n := hT.h1 _
  refine tWord_eq _ ord hT.h0 _ inb (slotPos n (grpOf i * 5 + 3)) ?_
  rw [hw, off20_eq i n hT.n_le hg, slotPos_eq n (grpOf i) 3 (by omega) hg hT.n_le]

theorem slot4_of {a : (pcfg0 (F := F)).Adm} {ord : Fin 24 → Fin 24} {n : ℕ} (hT : Tab a.1 ord n) (c : Dev nD) (i : grid0.Coords) (hg : grpOf i * 5 < n) (inb) :
    (tWord (F := F) tbM0_0 (show Vec F S24 .i32 from a.1 0) (k0_off26 i (nWord (F := F) tbM0_1 (show Vec F S1 .i32 from a.1 1))) inb).toNat = (tenOf ord n i 4).val := by
  have hw : nWord (F := F) tbM0_1 (show Vec F S1 .i32 from a.1 1) = BitVec.ofNat 32 n := hT.h1 _
  refine tWord_eq _ ord hT.h0 _ inb (slotPos n (grpOf i * 5 + 4)) ?_
  rw [hw, off26_eq i n hT.n_le hg, slotPos_eq n (grpOf i) 4 (by omega) hg hT.n_le]

theorem after20 (c : Dev nD) (t : Fin (cfg0 a).N) (Y : Vec F S24x4x512 .f32) : (rdat a W ord n c).after 20 t Y (leaveAt a W ord n c t Y) := by
  unfold rdat
  rw [(datAt a W c).toR.override_after_of_eq_some (R := fun t (Y X : Vec F S24x4x512 .f32) => X = leaveAt a W ord n c t Y) rfl]

set_option maxHeartbeats 4000000 in
/-- The obligation at every point. -/
theorem obligation (hT : Tab a.1 ord n) (c : Dev nD) : (rdat a W ord n c).BodyObligation (defs₀ (F := F)) Variants.none () Set.univ := by
  intro t Y hY
  have hw : ∀ p : S24.Idx, ((show Vec F S24 .i32 from a.1 0) p).toNat < 24 := fun p => by
    rw [hT.h0, toNat_fin]; exact Fin.isLt _
  have e0 := finds0 a W ord n c t (Y 0) (hY 0)
  have e1 := finds1 a W ord n c t (Y 1) (hY 1)
  have e2 := finds2 a W ord n c t (Y 2) (hY 2)
  have e3 := finds3 a W ord n c t (Y 3) (hY 3)
  have e4 := finds4 a W ord n c t (Y 4) (hY 4)
  have e5 := finds5 a W ord n c t (Y 5) (hY 5)
  have e6 := finds6 a W ord n c t (Y 6) (hY 6)
  have e7 := finds7 a W ord n c t (Y 7) (hY 7)
  have e8 := finds8 a W ord n c t (Y 8) (hY 8)
  have e9 := finds9 a W ord n c t (Y 9) (hY 9)
  have e10 := finds10 a W ord n c t (Y 10) (hY 10)
  have e11 := finds11 a W ord n c t (Y 11) (hY 11)
  have e12 := finds12 a W ord n c t (Y 12) (hY 12)
  have e13 := finds13 a W ord n c t (Y 13) (hY 13)
  have e14 := finds14 a W ord n c t (Y 14) (hY 14)
  have e15 := finds15 a W ord n c t (Y 15) (hY 15)
  have e16 := finds16 a W ord n c t (Y 16) (hY 16)
  have e17 := finds17 a W ord n c t (Y 17) (hY 17)
  have e18 := finds18 a W ord n c t (Y 18) (hY 18)
  have e19 := finds19 a W ord n c t (Y 19) (hY 19)
  rw [bigSep_W0, bigSep_W0]
  show iprop(PhiAt a W c t.castSucc ∗ _ ∗ _) ⊢ _
  unfold PhiAt
  iintro ⟨⟨⟨%x26, %x27, %hs, HS0, HS1⟩, Hp, HT0, HT1, HT2⟩, Ho, H5, H6, H7, H8, H9, H10, H11, H12, H13, H14, H15, H16, H17, H18, H19, H20, H21, H22, H23, H24, H25⟩
  have hb : grpOf (grid0.coords t) ≠ 0 → (∀ r, pick4 x26 r = baseRow (base (blkv a W c 0 t) (blkv a W c 4 t)) r) ∧ (∀ r, pick4 x27 r = baseRow (base (blkv a W c 0 t) (blkv a W c 5 t)) r) := fun h =>
    hs (fun h0 => h ((coords_spec t).2.trans h0)) t rfl
  iapply (body_wp c (grid0.coords t) (Memref.whole main_v2) (Memref.isWhole_whole _) (Memref.whole main_v7) (Memref.isWhole_whole _) (Memref.whole main_v48) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (spec0_12.stage ((cfg0 a).slots t 12)) (hstage0_12 (((cfg0 a).slots t 12).cast nbuf0_12)) (spec0_13.stage ((cfg0 a).slots t 13)) (hstage0_13 (((cfg0 a).slots t 13).cast nbuf0_13)) (spec0_14.stage ((cfg0 a).slots t 14)) (hstage0_14 (((cfg0 a).slots t 14).cast nbuf0_14)) (spec0_15.stage ((cfg0 a).slots t 15)) (hstage0_15 (((cfg0 a).slots t 15).cast nbuf0_15)) (spec0_16.stage ((cfg0 a).slots t 16)) (hstage0_16 (((cfg0 a).slots t 16).cast nbuf0_16)) (spec0_17.stage ((cfg0 a).slots t 17)) (hstage0_17 (((cfg0 a).slots t 17).cast nbuf0_17)) (spec0_18.stage ((cfg0 a).slots t 18)) (hstage0_18 (((cfg0 a).slots t 18).cast nbuf0_18)) (spec0_19.stage ((cfg0 a).slots t 19)) (hstage0_19 (((cfg0 a).slots t 19).cast nbuf0_19)) (spec0_20.stage ((cfg0 a).slots t 20)) (hstage0_20 (((cfg0 a).slots t 20).cast nbuf0_20)) (Memref.whole cc0_scratch0) (Memref.isWhole_whole _) (Memref.whole cc0_scratch1) (Memref.isWhole_whole _) (blkv a W c 0 t) (blkv a W c 1 t) (blkv a W c 2 t) (blkv a W c 3 t) (blkv a W c 4 t) (blkv a W c 5 t) (blkv a W c 6 t) (blkv a W c 7 t) (blkv a W c 8 t) (blkv a W c 9 t) (blkv a W c 10 t) (blkv a W c 11 t) (blkv a W c 12 t) (blkv a W c 13 t) (blkv a W c 14 t) (blkv a W c 15 t) (blkv a W c 16 t) (blkv a W c 17 t) (blkv a W c 18 t) (blkv a W c 19 t) (Y 20) x26 x27 (a.1 0) (a.1 1) n (fun _ _ => hT.h1 _) hT.n_le (fun _ _ => hw _) (tenOf ord n (grid0.coords t)) (slot0_of hT c _) (slot1_of hT c _) (slot2_of hT c _) (slot3_of hT c _) (slot4_of hT c _) hb fullShare.right fullShare.right fullShare fullShare fullShare fullShare fullShare fullShare fullShare fullShare fullShare fullShare fullShare fullShare fullShare fullShare fullShare fullShare fullShare fullShare fullShare fullShare Set.univ _)
  isplitl [HT0]; · iexact HT0
  isplitl [HT1]; · iexact HT1
  isplitl [H5]; · (rw [e0]; iapply (owns_pt (c : Thread nD τ) (hstage0_0 (((cfg0 a).slots t 0).cast nbuf0_0)) fullShare (blkv a W c 0 t)); iexact H5)
  isplitl [H6]; · (rw [e1]; iapply (owns_pt (c : Thread nD τ) (hstage0_1 (((cfg0 a).slots t 1).cast nbuf0_1)) fullShare (blkv a W c 1 t)); iexact H6)
  isplitl [H7]; · (rw [e2]; iapply (owns_pt (c : Thread nD τ) (hstage0_2 (((cfg0 a).slots t 2).cast nbuf0_2)) fullShare (blkv a W c 2 t)); iexact H7)
  isplitl [H8]; · (rw [e3]; iapply (owns_pt (c : Thread nD τ) (hstage0_3 (((cfg0 a).slots t 3).cast nbuf0_3)) fullShare (blkv a W c 3 t)); iexact H8)
  isplitl [H9]; · (rw [e4]; iapply (owns_pt (c : Thread nD τ) (hstage0_4 (((cfg0 a).slots t 4).cast nbuf0_4)) fullShare (blkv a W c 4 t)); iexact H9)
  isplitl [H10]; · (rw [e5]; iapply (owns_pt (c : Thread nD τ) (hstage0_5 (((cfg0 a).slots t 5).cast nbuf0_5)) fullShare (blkv a W c 5 t)); iexact H10)
  isplitl [H11]; · (rw [e6]; iapply (owns_pt (c : Thread nD τ) (hstage0_6 (((cfg0 a).slots t 6).cast nbuf0_6)) fullShare (blkv a W c 6 t)); iexact H11)
  isplitl [H12]; · (rw [e7]; iapply (owns_pt (c : Thread nD τ) (hstage0_7 (((cfg0 a).slots t 7).cast nbuf0_7)) fullShare (blkv a W c 7 t)); iexact H12)
  isplitl [H13]; · (rw [e8]; iapply (owns_pt (c : Thread nD τ) (hstage0_8 (((cfg0 a).slots t 8).cast nbuf0_8)) fullShare (blkv a W c 8 t)); iexact H13)
  isplitl [H14]; · (rw [e9]; iapply (owns_pt (c : Thread nD τ) (hstage0_9 (((cfg0 a).slots t 9).cast nbuf0_9)) fullShare (blkv a W c 9 t)); iexact H14)
  isplitl [H15]; · (rw [e10]; iapply (owns_pt (c : Thread nD τ) (hstage0_10 (((cfg0 a).slots t 10).cast nbuf0_10)) fullShare (blkv a W c 10 t)); iexact H15)
  isplitl [H16]; · (rw [e11]; iapply (owns_pt (c : Thread nD τ) (hstage0_11 (((cfg0 a).slots t 11).cast nbuf0_11)) fullShare (blkv a W c 11 t)); iexact H16)
  isplitl [H17]; · (rw [e12]; iapply (owns_pt (c : Thread nD τ) (hstage0_12 (((cfg0 a).slots t 12).cast nbuf0_12)) fullShare (blkv a W c 12 t)); iexact H17)
  isplitl [H18]; · (rw [e13]; iapply (owns_pt (c : Thread nD τ) (hstage0_13 (((cfg0 a).slots t 13).cast nbuf0_13)) fullShare (blkv a W c 13 t)); iexact H18)
  isplitl [H19]; · (rw [e14]; iapply (owns_pt (c : Thread nD τ) (hstage0_14 (((cfg0 a).slots t 14).cast nbuf0_14)) fullShare (blkv a W c 14 t)); iexact H19)
  isplitl [H20]; · (rw [e15]; iapply (owns_pt (c : Thread nD τ) (hstage0_15 (((cfg0 a).slots t 15).cast nbuf0_15)) fullShare (blkv a W c 15 t)); iexact H20)
  isplitl [H21]; · (rw [e16]; iapply (owns_pt (c : Thread nD τ) (hstage0_16 (((cfg0 a).slots t 16).cast nbuf0_16)) fullShare (blkv a W c 16 t)); iexact H21)
  isplitl [H22]; · (rw [e17]; iapply (owns_pt (c : Thread nD τ) (hstage0_17 (((cfg0 a).slots t 17).cast nbuf0_17)) fullShare (blkv a W c 17 t)); iexact H22)
  isplitl [H23]; · (rw [e18]; iapply (owns_pt (c : Thread nD τ) (hstage0_18 (((cfg0 a).slots t 18).cast nbuf0_18)) fullShare (blkv a W c 18 t)); iexact H23)
  isplitl [H24]; · (rw [e19]; iapply (owns_pt (c : Thread nD τ) (hstage0_19 (((cfg0 a).slots t 19).cast nbuf0_19)) fullShare (blkv a W c 19 t)); iexact H24)
  isplitl [H25]; · (iapply (owns_pt (c : Thread nD τ) (hstage0_20 (((cfg0 a).slots t 20).cast nbuf0_20)) fullShare (Y 20)); iexact H25)
  isplitl [HS0]; · iexact HS0
  isplitl [HS1]; · iexact HS1
  iintro %x26' %x27' %hp ⟨HT0, HT1, H5, H6, H7, H8, H9, H10, H11, H12, H13, H14, H15, H16, H17, H18, H19, H20, H21, H22, H23, H24, H25, HS0, HS1⟩
  isplitl [HS0 HS1 Hp HT0 HT1 HT2]
  · iapply (show PhiAt a W c t.succ ⊢ (rdat a W ord n c).Φ t.succ from .rfl)
    unfold PhiAt
    isplitl [HS0 HS1]
    · iexists x26'; iexists x27'
      isplitr; · ipureintro; exact scr_next a W c t x26' x27' hp
      isplitl [HS0] <;> iassumption
    isplitl [Hp]; · iexact Hp
    isplitl [HT0]; · iexact HT0
    isplitl [HT1] <;> iassumption
  isplitl [Ho]; · iexact Ho
  isplitl [H5]
  · iexists (blkv a W c 0 t)
    isplitr; · ipureintro; exact after0 a W ord n c t _
    iapply (pt_owns (c : Thread nD τ) (hstage0_0 (((cfg0 a).slots t 0).cast nbuf0_0)) fullShare (blkv a W c 0 t)); iexact H5
  isplitl [H6]
  · iexists (blkv a W c 1 t)
    isplitr; · ipureintro; exact after1 a W ord n c t _
    iapply (pt_owns (c : Thread nD τ) (hstage0_1 (((cfg0 a).slots t 1).cast nbuf0_1)) fullShare (blkv a W c 1 t)); iexact H6
  isplitl [H7]
  · iexists (blkv a W c 2 t)
    isplitr; · ipureintro; exact after2 a W ord n c t _
    iapply (pt_owns (c : Thread nD τ) (hstage0_2 (((cfg0 a).slots t 2).cast nbuf0_2)) fullShare (blkv a W c 2 t)); iexact H7
  isplitl [H8]
  · iexists (blkv a W c 3 t)
    isplitr; · ipureintro; exact after3 a W ord n c t _
    iapply (pt_owns (c : Thread nD τ) (hstage0_3 (((cfg0 a).slots t 3).cast nbuf0_3)) fullShare (blkv a W c 3 t)); iexact H8
  isplitl [H9]
  · iexists (blkv a W c 4 t)
    isplitr; · ipureintro; exact after4 a W ord n c t _
    iapply (pt_owns (c : Thread nD τ) (hstage0_4 (((cfg0 a).slots t 4).cast nbuf0_4)) fullShare (blkv a W c 4 t)); iexact H9
  isplitl [H10]
  · iexists (blkv a W c 5 t)
    isplitr; · ipureintro; exact after5 a W ord n c t _
    iapply (pt_owns (c : Thread nD τ) (hstage0_5 (((cfg0 a).slots t 5).cast nbuf0_5)) fullShare (blkv a W c 5 t)); iexact H10
  isplitl [H11]
  · iexists (blkv a W c 6 t)
    isplitr; · ipureintro; exact after6 a W ord n c t _
    iapply (pt_owns (c : Thread nD τ) (hstage0_6 (((cfg0 a).slots t 6).cast nbuf0_6)) fullShare (blkv a W c 6 t)); iexact H11
  isplitl [H12]
  · iexists (blkv a W c 7 t)
    isplitr; · ipureintro; exact after7 a W ord n c t _
    iapply (pt_owns (c : Thread nD τ) (hstage0_7 (((cfg0 a).slots t 7).cast nbuf0_7)) fullShare (blkv a W c 7 t)); iexact H12
  isplitl [H13]
  · iexists (blkv a W c 8 t)
    isplitr; · ipureintro; exact after8 a W ord n c t _
    iapply (pt_owns (c : Thread nD τ) (hstage0_8 (((cfg0 a).slots t 8).cast nbuf0_8)) fullShare (blkv a W c 8 t)); iexact H13
  isplitl [H14]
  · iexists (blkv a W c 9 t)
    isplitr; · ipureintro; exact after9 a W ord n c t _
    iapply (pt_owns (c : Thread nD τ) (hstage0_9 (((cfg0 a).slots t 9).cast nbuf0_9)) fullShare (blkv a W c 9 t)); iexact H14
  isplitl [H15]
  · iexists (blkv a W c 10 t)
    isplitr; · ipureintro; exact after10 a W ord n c t _
    iapply (pt_owns (c : Thread nD τ) (hstage0_10 (((cfg0 a).slots t 10).cast nbuf0_10)) fullShare (blkv a W c 10 t)); iexact H15
  isplitl [H16]
  · iexists (blkv a W c 11 t)
    isplitr; · ipureintro; exact after11 a W ord n c t _
    iapply (pt_owns (c : Thread nD τ) (hstage0_11 (((cfg0 a).slots t 11).cast nbuf0_11)) fullShare (blkv a W c 11 t)); iexact H16
  isplitl [H17]
  · iexists (blkv a W c 12 t)
    isplitr; · ipureintro; exact after12 a W ord n c t _
    iapply (pt_owns (c : Thread nD τ) (hstage0_12 (((cfg0 a).slots t 12).cast nbuf0_12)) fullShare (blkv a W c 12 t)); iexact H17
  isplitl [H18]
  · iexists (blkv a W c 13 t)
    isplitr; · ipureintro; exact after13 a W ord n c t _
    iapply (pt_owns (c : Thread nD τ) (hstage0_13 (((cfg0 a).slots t 13).cast nbuf0_13)) fullShare (blkv a W c 13 t)); iexact H18
  isplitl [H19]
  · iexists (blkv a W c 14 t)
    isplitr; · ipureintro; exact after14 a W ord n c t _
    iapply (pt_owns (c : Thread nD τ) (hstage0_14 (((cfg0 a).slots t 14).cast nbuf0_14)) fullShare (blkv a W c 14 t)); iexact H19
  isplitl [H20]
  · iexists (blkv a W c 15 t)
    isplitr; · ipureintro; exact after15 a W ord n c t _
    iapply (pt_owns (c : Thread nD τ) (hstage0_15 (((cfg0 a).slots t 15).cast nbuf0_15)) fullShare (blkv a W c 15 t)); iexact H20
  isplitl [H21]
  · iexists (blkv a W c 16 t)
    isplitr; · ipureintro; exact after16 a W ord n c t _
    iapply (pt_owns (c : Thread nD τ) (hstage0_16 (((cfg0 a).slots t 16).cast nbuf0_16)) fullShare (blkv a W c 16 t)); iexact H21
  isplitl [H22]
  · iexists (blkv a W c 17 t)
    isplitr; · ipureintro; exact after17 a W ord n c t _
    iapply (pt_owns (c : Thread nD τ) (hstage0_17 (((cfg0 a).slots t 17).cast nbuf0_17)) fullShare (blkv a W c 17 t)); iexact H22
  isplitl [H23]
  · iexists (blkv a W c 18 t)
    isplitr; · ipureintro; exact after18 a W ord n c t _
    iapply (pt_owns (c : Thread nD τ) (hstage0_18 (((cfg0 a).slots t 18).cast nbuf0_18)) fullShare (blkv a W c 18 t)); iexact H23
  isplitl [H24]
  · iexists (blkv a W c 19 t)
    isplitr; · ipureintro; exact after19 a W ord n c t _
    iapply (pt_owns (c : Thread nD τ) (hstage0_19 (((cfg0 a).slots t 19).cast nbuf0_19)) fullShare (blkv a W c 19 t)); iexact H24
  iexists (leaveAt a W ord n c t (Y 20))
  isplitr; · ipureintro; exact after20 a W ord n c t _
  iapply (pt_owns (c : Thread nD τ) (hstage0_20 (((cfg0 a).slots t 20).cast nbuf0_20)) fullShare (leaveAt a W ord n c t (Y 20))); iexact H25

end Cert.GateUp.Gen

end
-- ==== Proof.GateUpLaunched.lean ====
/-
  The region launched: the machine ends quiescent, the arguments unchanged, the result at what the body's relation allows.
-/
module

public import proofs.«01_k».proof.Proof.GateUpObl

@[expose] public section

set_option maxRecDepth 16384

noncomputable section

namespace Cert.GateUp.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat RDat Cfg Window)

variable {F : FTy → Type} [FloatOps F]

local notation "𝕄" => MT nD τ sig Unit (Elt F) ℕ (UR sig nD τ) ℕ

variable (a : (pcfg0 (F := F)).Adm) (W : (c : Dev nD) → (b : Ref sig .tc) → Buf (Elt F) ((c : Thread nD τ).loc b))
variable (ord : Fin 24 → Fin 24) (n : ℕ)

theorem ΦT_eq (c : Dev nD) : (Pipeline.ΦT pre0 a.1 c : sProp 𝕄) = iprop(tbPt0 c tbM0_0 (a.1 0) ∗ tbPt0 c tbM0_1 (a.1 1) ∗ tbPt0 c tbM0_2 (a.1 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

theorem hin_of (c : Dev nD) : iprop(Pipeline.ΦA spec0 c ∗ Pipeline.ΦT pre0 a.1 c) ⊢ (PhiAt a W c 0 : sProp 𝕄) := by
  rw [ΦT_eq]
  unfold Pipeline.ΦA PhiAt
  rw [scopedRest0_eq]
  iintro ⟨⟨⟨⟨%f0, H0⟩, ⟨%f1, H1⟩⟩, Hp⟩, HT⟩
  isplitl [H0 H1]
  · iexists ((Memref.whole cc0_scratch0).view.read (Elt F) f0); iexists ((Memref.whole cc0_scratch1).view.read (Elt F) f1)
    isplitr; · ipureintro; exact fun h => absurd rfl h
    rw [(Memref.isWhole_whole cc0_scratch0).unread_read f0, (Memref.isWhole_whole cc0_scratch1).unread_read f1]
    isplitl [H0]; · iexact H0
    iexact H1
  isplitl [Hp]; · iexact Hp
  iexact HT

theorem hout_of (c : Dev nD) (u) : (PhiAt a W c u : sProp 𝕄) ⊢ Pipeline.ΦA spec0 c := by
  unfold Pipeline.ΦA PhiAt
  rw [scopedRest0_eq]
  iintro ⟨⟨%x26, %x27, -, H0, H1⟩, Hp, -⟩
  isplitl [H0 H1]
  · isplitl [H0]
    · iexists _; iexact H0
    · iexists _; iexact H1
  iexact Hp

theorem in2 (c : Dev nD) (X) (h : (rdat a W ord n c).ArrAt 2 (cfg0 a).N X) : X = W c (Pipeline.arrRef spec0 2) :=
  ((congrFun ((rdat a W ord n c).ArrAt_in 2 rfl _) X).mp h)
theorem in4 (c : Dev nD) (X) (h : (rdat a W ord n c).ArrAt 4 (cfg0 a).N X) : X = W c (Pipeline.arrRef spec0 4) :=
  ((congrFun ((rdat a W ord n c).ArrAt_in 4 rfl _) X).mp h)
theorem in5 (c : Dev nD) (X) (h : (rdat a W ord n c).ArrAt 5 (cfg0 a).N X) : X = W c (Pipeline.arrRef spec0 5) :=
  ((congrFun ((rdat a W ord n c).ArrAt_in 5 rfl _) X).mp h)
theorem in14 (c : Dev nD) (X) (h : (rdat a W ord n c).ArrAt 14 (cfg0 a).N X) : X = W c (Pipeline.arrRef spec0 14) :=
  ((congrFun ((rdat a W ord n c).ArrAt_in 14 rfl _) X).mp h)
theorem in19 (c : Dev nD) (X) (h : (rdat a W ord n c).ArrAt 19 (cfg0 a).N X) : X = W c (Pipeline.arrRef spec0 19) :=
  ((congrFun ((rdat a W ord n c).ArrAt_in 19 rfl _) X).mp h)

theorem rdat_q (c : Dev nD) (w : Fin 21) : (rdat a W ord n c).q w = Pipeline.shareOf spec0 w := rfl
theorem rdat_owed (c : Dev nD) (t) : (rdat a W ord n c).owed t = 0 := rfl
theorem rdat_A (c : Dev nD) (w : Fin 21) : (rdat a W ord n c).A w = W c (Pipeline.arrRef spec0 w) := rfl

set_option maxHeartbeats 4000000 in
theorem post_of (r : PUnit × MemSt nD τ sig (Elt F)) (h : Pipeline.RDat.FramePost (cfg0 a) (rdat a W ord n) W r ∧ r.2.sem = (fun _ => 0)) :
    (∀ c : Dev nD, (r.2.mem ((c.tc : Thread nD τ).loc main_arg0) = W c main_arg0
      ∧ r.2.mem ((c.tc : Thread nD τ).loc main_arg1) = W c main_arg1
      ∧ r.2.mem ((c.tc : Thread nD τ).loc main_arg2) = W c main_arg2
      ∧ r.2.mem ((c.tc : Thread nD τ).loc main_arg3) = W c main_arg3
      ∧ r.2.mem ((c.tc : Thread nD τ).loc main_arg4) = W c main_arg4
      ∧ r.2.mem ((c.tc : Thread nD τ).loc main_arg5) = W c main_arg5
      ∧ r.2.mem ((c.tc : Thread nD τ).loc main_arg6) = W c main_arg6
      ∧ r.2.mem ((c.tc : Thread nD τ).loc main_arg7) = W c main_arg7
      ∧ r.2.mem ((c.tc : Thread nD τ).loc main_arg8) = W c main_arg8
      ∧ r.2.mem ((c.tc : Thread nD τ).loc main_arg9) = W c main_arg9
      ∧ r.2.mem ((c.tc : Thread nD τ).loc main_arg10) = W c main_arg10)
      ∧ (rdat a W ord n c).ArrAt 20 (cfg0 a).N (r.2.mem ((c.tc : Thread nD τ).loc main_v53))) ∧ r.2.sem = fun _ => 0 :=
  ⟨fun c => ⟨⟨(h.1 c).2 main_arg0 (by decide : main_arg0 ∈ Pipeline.restRefs sig spec0),
      in2 a W ord n c _ ((h.1 c).1 2),
      (h.1 c).2 main_arg2 (by decide : main_arg2 ∈ Pipeline.restRefs sig spec0),
      in4 a W ord n c _ ((h.1 c).1 4),
      (h.1 c).2 main_arg4 (by decide : main_arg4 ∈ Pipeline.restRefs sig spec0),
      in5 a W ord n c _ ((h.1 c).1 5),
      (h.1 c).2 main_arg6 (by decide : main_arg6 ∈ Pipeline.restRefs sig spec0),
      in14 a W ord n c _ ((h.1 c).1 14),
      in19 a W ord n c _ ((h.1 c).1 19),
      (h.1 c).2 main_arg9 (by decide : main_arg9 ∈ Pipeline.restRefs sig spec0),
      (h.1 c).2 main_arg10 (by decide : main_arg10 ∈ Pipeline.restRefs sig spec0)⟩, (h.1 c).1 20⟩, h.2⟩

/-- The launch at any contents of the region's arrays. -/
theorem launch_of (m : (ℓ : Loc nD τ sig) → Buf (Elt F) ℓ) (g : Dev nD → PrngReg) (hT : Tab a.1 ord n)
    (hmain : Pipeline.HMainP (Ix := Unit) (Name := ℕ) (U := UR sig nD τ) (Lvl := ℕ) pcfgs 0 defs₀ Variants.none m (main (F := F)) W)
    (hpf : ∀ c k, W c (pre0.ref k) = a.1 k) :
    θ_run defs (onTc (τ := τ) (main (F := F))) ⟨m, fun _ => 0, g⟩ (fun r => (∀ c : Dev nD, (r.2.mem ((c.tc : Thread nD τ).loc main_arg0) = W c main_arg0
      ∧ r.2.mem ((c.tc : Thread nD τ).loc main_arg1) = W c main_arg1
      ∧ r.2.mem ((c.tc : Thread nD τ).loc main_arg2) = W c main_arg2
      ∧ r.2.mem ((c.tc : Thread nD τ).loc main_arg3) = W c main_arg3
      ∧ r.2.mem ((c.tc : Thread nD τ).loc main_arg4) = W c main_arg4
      ∧ r.2.mem ((c.tc : Thread nD τ).loc main_arg5) = W c main_arg5
      ∧ r.2.mem ((c.tc : Thread nD τ).loc main_arg6) = W c main_arg6
      ∧ r.2.mem ((c.tc : Thread nD τ).loc main_arg7) = W c main_arg7
      ∧ r.2.mem ((c.tc : Thread nD τ).loc main_arg8) = W c main_arg8
      ∧ r.2.mem ((c.tc : Thread nD τ).loc main_arg9) = W c main_arg9
      ∧ r.2.mem ((c.tc : Thread nD τ).loc main_arg10) = W c main_arg10)
      ∧ (rdat a W ord n c).ArrAt 20 (cfg0 a).N (r.2.mem ((c.tc : Thread nD τ).loc main_v53))) ∧ r.2.sem = fun _ => 0) :=
  Pipeline.RDat.θ_run_frameP_track_shared pcfgs (fun _ => a) 0 launch₀0 defs₀ Variants.none (rdat a W ord n) m g main
    (fun c => obligation a W ord n hT c) (fun c w _ => rdat_q a W ord n c w) (rdat_owed a W ord n) W hmain (rdat_A a W ord n) hpf
    (fun c => hin_of a W c) (fun c => hout_of a W c _) _ (fun r h => post_of a W ord n r h)

/-- The launch: arguments unchanged, the result at what the relation allows, every counter back at zero. -/
theorem launch (m : (ℓ : Loc nD τ sig) → Buf (Elt F) ℓ) (g : Dev nD → PrngReg) (hT : Tab (tbl m) ord n) :
    θ_run defs (onTc (τ := τ) (main (F := F))) ⟨m, fun _ => 0, g⟩ (fun r => (∀ c : Dev nD, (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ (rdat (adm m (ok_of_tab hT)) (V m) ord n c).ArrAt 20 (cfg0 (adm m (ok_of_tab hT))).N (r.2.mem ((c.tc : Thread nD τ).loc main_v53))) ∧ r.2.sem = fun _ => 0) := by
  have h := launch_of (adm m (ok_of_tab hT)) (V m) ord n m g hT (hmain m _) (V_pre m)
  refine (θ_run defs _ _).mono (fun r h => ⟨fun c => ⟨?_, (h.1 c).2⟩, h.2⟩) h
  have h1 := (h.1 c).1
  rw [V_main_arg0, V_main_arg1, V_main_arg2, V_main_arg3, V_main_arg4, V_main_arg5, V_main_arg6, V_main_arg7, V_main_arg8, V_main_arg9, V_main_arg10] at h1
  exact h1

end Cert.GateUp.Gen

end
-- ==== Proof.GateUpIdealKit.lean ====
/-
  The program up to its one region: the arrays' contents there, each argument as launched, the prefetched tables, and
  each window's block at a point.
-/
module

public import proofs.«01_k».proof.Proof.Gen.GateUpIdeal.Launch
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.GateUpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`, `hostOps0_3`, `hostOps0_4`, `hostOps0_5`, `hostOps0_6`, `hostOps0_7`, `hostOps0_8`, `hostOps0_9`, `hostOps0_10`. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9, hostOps0_10]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2, hostOps0_3, hostOps0_4, hostOps0_5, hostOps0_6, hostOps0_7, hostOps0_8, hostOps0_9, hostOps0_10] (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 3) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S24 .i32 := Memref.whole main_v2
abbrev htbM0_0 : tbM0_0.IsWhole := Memref.isWhole_whole _
abbrev tbM0_1 : Memref sig .tc .smem S1 .i32 := Memref.whole main_v7
abbrev htbM0_1 : tbM0_1.IsWhole := Memref.isWhole_whole _
abbrev tbM0_2 : Memref sig .tc .smem S25 .i32 := Memref.whole main_v48
abbrev htbM0_2 : tbM0_2.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

end Cert.GateUpIdeal.Gen

end
-- ==== Proof.GateUpIdealBody.lean ====
/-
  The body of `cc0_gate_up` as two programs run one after the other: `bodyA`, the start of a tile (clear the output
  block, form the base products of all tenants and keep their rows), and `bodyB`, the work on one group of five tenants.
-/
module

public import proofs.«01_k».proof.Proof.Gen.GateUpIdeal.Skeleton
public import proofs.«01_k».proof.Proof.Gen.GateUpIdeal.Launch

@[expose] public section

set_option maxRecDepth 16384

noncomputable section

namespace Cert.GateUpIdeal.Gen

open Idealize.ShloMosaic Idealize.SL.Sem

variable {F : FTy → Type} [FloatOps F]

set_option cleanup.letToHave false in set_option maxHeartbeats 40000000 in
/-- The start of a tile. -/
def bodyA (i : grid0.Coords) (arg2 : Memref sig .tc .smem S24 .i32) (harg2 : arg2.IsWhole) (arg3 : Memref sig .tc .smem S1 .i32) (harg3 : arg3.IsWhole) (arg4 : Memref sig .tc .smem S25 .i32) (harg4 : arg4.IsWhole) (arg5 : Memref sig .tc .vmem S96x3584 .bf16) (harg5 : arg5.IsWhole) (arg6 : Memref sig .tc .vmem S24x16x3584 .bf16) (harg6 : arg6.IsWhole) (arg7 : Memref sig .tc .vmem S24x4x1 .f32) (harg7 : arg7.IsWhole) (arg8 : Memref sig .tc .vmem S24x4x1 .f32) (harg8 : arg8.IsWhole) (arg9 : Memref sig .tc .vmem S3584x512 .i8) (harg9 : arg9.IsWhole) (arg10 : Memref sig .tc .vmem S3584x512 .i8) (harg10 : arg10.IsWhole) (arg11 : Memref sig .tc .vmem S1x512 .f32) (harg11 : arg11.IsWhole) (arg12 : Memref sig .tc .vmem S1x512 .f32) (harg12 : arg12.IsWhole) (arg13 : Memref sig .tc .vmem S24x1x512 .f32) (harg13 : arg13.IsWhole) (arg14 : Memref sig .tc .vmem S24x1x512 .f32) (harg14 : arg14.IsWhole) (arg15 : Memref sig .tc .vmem S1x112x512 .i32) (harg15 : arg15.IsWhole) (arg16 : Memref sig .tc .vmem S1x112x512 .i32) (harg16 : arg16.IsWhole) (arg17 : Memref sig .tc .vmem S1x112x512 .i32) (harg17 : arg17.IsWhole) (arg18 : Memref sig .tc .vmem S1x112x512 .i32) (harg18 : arg18.IsWhole) (arg19 : Memref sig .tc .vmem S1x112x512 .i32) (harg19 : arg19.IsWhole) (arg20 : Memref sig .tc .vmem S1x112x512 .i32) (harg20 : arg20.IsWhole) (arg21 : Memref sig .tc .vmem S1x112x512 .i32) (harg21 : arg21.IsWhole) (arg22 : Memref sig .tc .vmem S1x112x512 .i32) (harg22 : arg22.IsWhole) (arg23 : Memref sig .tc .vmem S1x112x512 .i32) (harg23 : arg23.IsWhole) (arg24 : Memref sig .tc .vmem S1x112x512 .i32) (harg24 : arg24.IsWhole) (arg25 : Memref sig .tc .vmem S24x4x512 .f32) (harg25 : arg25.IsWhole) (arg26 : Memref sig .tc .vmem S24x8x512 .f32) (harg26 : arg26.IsWhole) (arg27 : Memref sig .tc .vmem S24x8x512 .f32) (harg27 : arg27.IsWhole) :
    Prog (TpuEff nD τ sig (Elt F) Λ₀ .tc) PUnit := do
  let arg1 : BitVec 32 := BitVec.ofNat 32 (i 1).val
  if k0_h1 : k0_cond1 i = 1#1 then do
    let ⟨v14, v35⟩ : Σ' (v14 : FVec F S96x512 .f32), FVec F S4x512 .f32 ← k0_part1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27
    let v66 : FVec F S1x4x512 .f32 ← k0_part2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v14 v35
    let v95 : FVec F S4x512 .f32 ← k0_part3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v14 v66
    let ⟨v115, v124, v125⟩ : Σ' (v115 : FVec F S96x512 .f32) (v124 : FVec F S4x512 .f32), Vec F S1x4x512 .f32 ← k0_part4 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v14 v95
    let v156 : FVec F S4x512 .f32 ← k0_part5 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v115 v124 v125
    let ⟨v184, v185⟩ : Σ' (v184 : FVec F S4x512 .f32), Vec F S1x4x512 .f32 ← k0_part6 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v115 v156
    Prog.lift (.store arg27 (Rect.unit (s := S24x8x512) ![17, 0, 0] S1x4x512.size inb_S24x8x512_S1x4x512_17_0_0) (k0_pay1 v184) Finset.univ (View.stores_vmem_bits_univ h_S1x4x512 rfl) (.inl rfl))
    let v189 : Vec F S1x4x512 .f32 ← Prog.lift (.load arg27 (Rect.unit (s := S24x8x512) ![18, 0, 0] S1x4x512.size inb_S24x8x512_S1x4x512_18_0_0).toLoadRect (View.loadsAt_vmem h_S1x4x512))
    Prog.lift (.store arg27 (Rect.unit (s := S24x8x512) ![18, 0, 0] S1x4x512.size inb_S24x8x512_S1x4x512_18_0_0) (k0_pay2 v115) Finset.univ (View.stores_vmem_bits_univ h_S1x4x512 rfl) (.inl rfl))
    let v193 : Vec F S1x4x512 .f32 ← Prog.lift (.load arg27 (Rect.unit (s := S24x8x512) ![19, 0, 0] S1x4x512.size inb_S24x8x512_S1x4x512_19_0_0).toLoadRect (View.loadsAt_vmem h_S1x4x512))
    Prog.lift (.store arg27 (Rect.unit (s := S24x8x512) ![19, 0, 0] S1x4x512.size inb_S24x8x512_S1x4x512_19_0_0) (k0_pay3 v115) Finset.univ (View.stores_vmem_bits_univ h_S1x4x512 rfl) (.inl rfl))
    let v197 : Vec F S1x4x512 .f32 ← Prog.lift (.load arg27 (Rect.unit (s := S24x8x512) ![20, 0, 0] S1x4x512.size inb_S24x8x512_S1x4x512_20_0_0).toLoadRect (View.loadsAt_vmem h_S1x4x512))
    Prog.lift (.store arg27 (Rect.unit (s := S24x8x512) ![20, 0, 0] S1x4x512.size inb_S24x8x512_S1x4x512_20_0_0) (k0_pay4 v115) Finset.univ (View.stores_vmem_bits_univ h_S1x4x512 rfl) (.inl rfl))
    let v201 : Vec F S1x4x512 .f32 ← Prog.lift (.load arg27 (Rect.unit (s := S24x8x512) ![21, 0, 0] S1x4x512.size inb_S24x8x512_S1x4x512_21_0_0).toLoadRect (View.loadsAt_vmem h_S1x4x512))
    Prog.lift (.store arg27 (Rect.unit (s := S24x8x512) ![21, 0, 0] S1x4x512.size inb_S24x8x512_S1x4x512_21_0_0) (k0_pay5 v115) Finset.univ (View.stores_vmem_bits_univ h_S1x4x512 rfl) (.inl rfl))
    let v205 : Vec F S1x4x512 .f32 ← Prog.lift (.load arg27 (Rect.unit (s := S24x8x512) ![22, 0, 0] S1x4x512.size inb_S24x8x512_S1x4x512_22_0_0).toLoadRect (View.loadsAt_vmem h_S1x4x512))
    Prog.lift (.store arg27 (Rect.unit (s := S24x8x512) ![22, 0, 0] S1x4x512.size inb_S24x8x512_S1x4x512_22_0_0) (k0_pay6 v115) Finset.univ (View.stores_vmem_bits_univ h_S1x4x512 rfl) (.inl rfl))
    let v209 : Vec F S1x4x512 .f32 ← Prog.lift (.load arg27 (Rect.unit (s := S24x8x512) ![23, 0, 0] S1x4x512.size inb_S24x8x512_S1x4x512_23_0_0).toLoadRect (View.loadsAt_vmem h_S1x4x512))
    Prog.lift (.store arg27 (Rect.unit (s := S24x8x512) ![23, 0, 0] S1x4x512.size inb_S24x8x512_S1x4x512_23_0_0) (k0_pay7 v115) Finset.univ (View.stores_vmem_bits_univ h_S1x4x512 rfl) (.inl rfl))
    pure ⟨⟩
  else do
    pure ⟨⟩

set_option cleanup.letToHave false in set_option maxHeartbeats 40000000 in
/-- One group of tenants. -/
def bodyB (i : grid0.Coords) (arg2 : Memref sig .tc .smem S24 .i32) (harg2 : arg2.IsWhole) (arg3 : Memref sig .tc .smem S1 .i32) (harg3 : arg3.IsWhole) (arg4 : Memref sig .tc .smem S25 .i32) (harg4 : arg4.IsWhole) (arg5 : Memref sig .tc .vmem S96x3584 .bf16) (harg5 : arg5.IsWhole) (arg6 : Memref sig .tc .vmem S24x16x3584 .bf16) (harg6 : arg6.IsWhole) (arg7 : Memref sig .tc .vmem S24x4x1 .f32) (harg7 : arg7.IsWhole) (arg8 : Memref sig .tc .vmem S24x4x1 .f32) (harg8 : arg8.IsWhole) (arg9 : Memref sig .tc .vmem S3584x512 .i8) (harg9 : arg9.IsWhole) (arg10 : Memref sig .tc .vmem S3584x512 .i8) (harg10 : arg10.IsWhole) (arg11 : Memref sig .tc .vmem S1x512 .f32) (harg11 : arg11.IsWhole) (arg12 : Memref sig .tc .vmem S1x512 .f32) (harg12 : arg12.IsWhole) (arg13 : Memref sig .tc .vmem S24x1x512 .f32) (harg13 : arg13.IsWhole) (arg14 : Memref sig .tc .vmem S24x1x512 .f32) (harg14 : arg14.IsWhole) (arg15 : Memref sig .tc .vmem S1x112x512 .i32) (harg15 : arg15.IsWhole) (arg16 : Memref sig .tc .vmem S1x112x512 .i32) (harg16 : arg16.IsWhole) (arg17 : Memref sig .tc .vmem S1x112x512 .i32) (harg17 : arg17.IsWhole) (arg18 : Memref sig .tc .vmem S1x112x512 .i32) (harg18 : arg18.IsWhole) (arg19 : Memref sig .tc .vmem S1x112x512 .i32) (harg19 : arg19.IsWhole) (arg20 : Memref sig .tc .vmem S1x112x512 .i32) (harg20 : arg20.IsWhole) (arg21 : Memref sig .tc .vmem S1x112x512 .i32) (harg21 : arg21.IsWhole) (arg22 : Memref sig .tc .vmem S1x112x512 .i32) (harg22 : arg22.IsWhole) (arg23 : Memref sig .tc .vmem S1x112x512 .i32) (harg23 : arg23.IsWhole) (arg24 : Memref sig .tc .vmem S1x112x512 .i32) (harg24 : arg24.IsWhole) (arg25 : Memref sig .tc .vmem S24x4x512 .f32) (harg25 : arg25.IsWhole) (arg26 : Memref sig .tc .vmem S24x8x512 .f32) (harg26 : arg26.IsWhole) (arg27 : Memref sig .tc .vmem S24x8x512 .f32) (harg27 : arg27.IsWhole) :
    Prog (TpuEff nD τ sig (Elt F) Λ₀ .tc) PUnit := do
  let arg1 : BitVec 32 := BitVec.ofNat 32 (i 1).val
  let v4 : Elt F .i32 ← smemLoad arg3 (Rect.unit (s := S1) ![0] S1.size inb_S1_S1_0) numel1_S1 rfl
  if k0_h2 : k0_cond2 i v4 = 1#1 then do
    let ⟨v1926, k0_hw6, v1929, v2382, v2541, v2543, v2546, v2549, v2552, v2555, v2556⟩ : Σ' (v1926 : Elt F .i32) (k0_hw6 : k0_chk6 i v4 v1926) (v1929 : FVec F S16x3584 .bf16) (v2382 : FVec F S4x512 .f32) (v2541 : FVec F S16x512 .f32) (v2543 : IVec S8x512 32) (v2546 : FVec F S32x512 .fp8e4m3) (v2549 : FVec F S32x512 .fp8e4m3) (v2552 : FVec F S32x512 .fp8e4m3) (v2555 : FVec F S32x512 .fp8e4m3), IVec S8x512 32 ← k0_part119 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v4 k0_h2
    let ⟨v3838, k0_hw10, v4747, v4750, v4765, v4772⟩ : Σ' (v3838 : Elt F .i32) (k0_hw10 : k0_chk10 i v4 v3838) (v4747 : FVec F S4x512 .f32) (v4750 : FVec F S4x1 .f32) (v4765 : FVec F S4x512 .f32), FVec F S4x512 .f32 ← k0_part120 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v4 k0_h2 v1926 k0_hw6 v1929 v2382 v2541 v2543 v2546 v2549 v2552 v2555 v2556
    let v4774 : Vec F S1x1x512 .f32 ← Prog.lift (.load arg14 (Rect.unit (s := S24x1x512) (k0_off30 v3838) S1x1x512.size (k0_off30_inb i v4 v3838 k0_hw10 k0_h2)).toLoadRect (View.loadsAt_vmem h_S1x1x512))
    let v4785 : Vec F S1x4x512 .f32 ← Prog.lift (.load arg25 (Rect.unit (s := S24x4x512) (k0_off31 v3838) S1x4x512.size (k0_off31_inb i v4 v3838 k0_hw10 k0_h2)).toLoadRect (View.loadsAt_vmem h_S1x4x512))
    Prog.lift (.store arg25 (Rect.unit (s := S24x4x512) (k0_off31 v3838) S1x4x512.size (k0_off31_inb i v4 v3838 k0_hw10 k0_h2)) (k0_pay8 v4747 v4750 v4765 v4772 v4774) Finset.univ (View.stores_vmem_bits_univ h_S1x4x512 rfl) (.inl rfl))
    pure ⟨⟩
  else do
    pure ⟨⟩
  pure ⟨⟩

set_option maxHeartbeats 4000000 in
/-- The body is its two programs one after the other. -/
theorem body_eq (i : grid0.Coords) (arg2 : Memref sig .tc .smem S24 .i32) (harg2 : arg2.IsWhole) (arg3 : Memref sig .tc .smem S1 .i32) (harg3 : arg3.IsWhole) (arg4 : Memref sig .tc .smem S25 .i32) (harg4 : arg4.IsWhole) (arg5 : Memref sig .tc .vmem S96x3584 .bf16) (harg5 : arg5.IsWhole) (arg6 : Memref sig .tc .vmem S24x16x3584 .bf16) (harg6 : arg6.IsWhole) (arg7 : Memref sig .tc .vmem S24x4x1 .f32) (harg7 : arg7.IsWhole) (arg8 : Memref sig .tc .vmem S24x4x1 .f32) (harg8 : arg8.IsWhole) (arg9 : Memref sig .tc .vmem S3584x512 .i8) (harg9 : arg9.IsWhole) (arg10 : Memref sig .tc .vmem S3584x512 .i8) (harg10 : arg10.IsWhole) (arg11 : Memref sig .tc .vmem S1x512 .f32) (harg11 : arg11.IsWhole) (arg12 : Memref sig .tc .vmem S1x512 .f32) (harg12 : arg12.IsWhole) (arg13 : Memref sig .tc .vmem S24x1x512 .f32) (harg13 : arg13.IsWhole) (arg14 : Memref sig .tc .vmem S24x1x512 .f32) (harg14 : arg14.IsWhole) (arg15 : Memref sig .tc .vmem S1x112x512 .i32) (harg15 : arg15.IsWhole) (arg16 : Memref sig .tc .vmem S1x112x512 .i32) (harg16 : arg16.IsWhole) (arg17 : Memref sig .tc .vmem S1x112x512 .i32) (harg17 : arg17.IsWhole) (arg18 : Memref sig .tc .vmem S1x112x512 .i32) (harg18 : arg18.IsWhole) (arg19 : Memref sig .tc .vmem S1x112x512 .i32) (harg19 : arg19.IsWhole) (arg20 : Memref sig .tc .vmem S1x112x512 .i32) (harg20 : arg20.IsWhole) (arg21 : Memref sig .tc .vmem S1x112x512 .i32) (harg21 : arg21.IsWhole) (arg22 : Memref sig .tc .vmem S1x112x512 .i32) (harg22 : arg22.IsWhole) (arg23 : Memref sig .tc .vmem S1x112x512 .i32) (harg23 : arg23.IsWhole) (arg24 : Memref sig .tc .vmem S1x112x512 .i32) (harg24 : arg24.IsWhole) (arg25 : Memref sig .tc .vmem S24x4x512 .f32) (harg25 : arg25.IsWhole) (arg26 : Memref sig .tc .vmem S24x8x512 .f32) (harg26 : arg26.IsWhole) (arg27 : Memref sig .tc .vmem S24x8x512 .f32) (harg27 : arg27.IsWhole) :
    cc0_gate_up (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 =
      (do let _ ← bodyA (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27; bodyB (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) := by
  rw [show cc0_gate_up (F := F) = cc0_gate_up_skel (F := F) from cc0_gate_up_eq_skeleton]
  unfold cc0_gate_up_skel bodyA bodyB
  by_cases h : k0_cond1 i = 1#1
  · simp only [dif_pos h, bind_assoc, pure_bind]
  · simp only [dif_neg h, bind_assoc, pure_bind]

end Cert.GateUpIdeal.Gen

end
-- ==== Proof.GateUpIdealRunB.lean ====
/-
  The run of `bodyB` where the group has work: each of the group's five tenants has its output rows written once, from the
  operands' contents; the pieces written are found by the run.
-/
module

public import proofs.«01_k».proof.Proof.GateUpIdealBody
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.GateUpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 40000000 in
/-- What one group writes into the output block, with the proof that the program runs from its operands to them. -/
def runB (c : Dev nD) (i : grid0.Coords) (arg2 : Memref sig .tc .smem S24 .i32) (harg2 : arg2.IsWhole) (arg3 : Memref sig .tc .smem S1 .i32) (harg3 : arg3.IsWhole) (arg4 : Memref sig .tc .smem S25 .i32) (harg4 : arg4.IsWhole) (arg5 : Memref sig .tc .vmem S96x3584 .bf16) (harg5 : arg5.IsWhole) (arg6 : Memref sig .tc .vmem S24x16x3584 .bf16) (harg6 : arg6.IsWhole) (arg7 : Memref sig .tc .vmem S24x4x1 .f32) (harg7 : arg7.IsWhole) (arg8 : Memref sig .tc .vmem S24x4x1 .f32) (harg8 : arg8.IsWhole) (arg9 : Memref sig .tc .vmem S3584x512 .i8) (harg9 : arg9.IsWhole) (arg10 : Memref sig .tc .vmem S3584x512 .i8) (harg10 : arg10.IsWhole) (arg11 : Memref sig .tc .vmem S1x512 .f32) (harg11 : arg11.IsWhole) (arg12 : Memref sig .tc .vmem S1x512 .f32) (harg12 : arg12.IsWhole) (arg13 : Memref sig .tc .vmem S24x1x512 .f32) (harg13 : arg13.IsWhole) (arg14 : Memref sig .tc .vmem S24x1x512 .f32) (harg14 : arg14.IsWhole) (arg15 : Memref sig .tc .vmem S1x112x512 .i32) (harg15 : arg15.IsWhole) (arg16 : Memref sig .tc .vmem S1x112x512 .i32) (harg16 : arg16.IsWhole) (arg17 : Memref sig .tc .vmem S1x112x512 .i32) (harg17 : arg17.IsWhole) (arg18 : Memref sig .tc .vmem S1x112x512 .i32) (harg18 : arg18.IsWhole) (arg19 : Memref sig .tc .vmem S1x112x512 .i32) (harg19 : arg19.IsWhole) (arg20 : Memref sig .tc .vmem S1x112x512 .i32) (harg20 : arg20.IsWhole) (arg21 : Memref sig .tc .vmem S1x112x512 .i32) (harg21 : arg21.IsWhole) (arg22 : Memref sig .tc .vmem S1x112x512 .i32) (harg22 : arg22.IsWhole) (arg23 : Memref sig .tc .vmem S1x112x512 .i32) (harg23 : arg23.IsWhole) (arg24 : Memref sig .tc .vmem S1x112x512 .i32) (harg24 : arg24.IsWhole) (arg25 : Memref sig .tc .vmem S24x4x512 .f32) (harg25 : arg25.IsWhole) (arg26 : Memref sig .tc .vmem S24x8x512 .f32) (harg26 : arg26.IsWhole) (arg27 : Memref sig .tc .vmem S24x8x512 .f32) (harg27 : arg27.IsWhole)
    (x6 : Vec F S24x16x3584 .bf16) (x7 : Vec F S24x4x1 .f32) (x8 : Vec F S24x4x1 .f32) (x11 : Vec F S1x512 .f32) (x12 : Vec F S1x512 .f32) (x13 : Vec F S24x1x512 .f32) (x14 : Vec F S24x1x512 .f32) (x15 : Vec F S1x112x512 .i32) (x16 : Vec F S1x112x512 .i32) (x17 : Vec F S1x112x512 .i32) (x18 : Vec F S1x112x512 .i32) (x19 : Vec F S1x112x512 .i32) (x20 : Vec F S1x112x512 .i32) (x21 : Vec F S1x112x512 .i32) (x22 : Vec F S1x112x512 .i32) (x23 : Vec F S1x112x512 .i32) (x24 : Vec F S1x112x512 .i32) (x25 : Vec F S24x4x512 .f32) (x26 : Vec F S24x8x512 .f32) (x27 : Vec F S24x8x512 .f32)
    (f2 : Buf (Elt F) (arg2.view.loc (c : Thread nD τ))) (f3 : Buf (Elt F) (arg3.view.loc (c : Thread nD τ)))
    (hc2 : ∀ r y, k0_cond2 i (View.readAt (Elt F) arg3.view r f3 y) = 1#1)
    (hk1 : ∀ r y r' y', k0_chk1 i (View.readAt (Elt F) arg3.view r f3 y) (View.readAt (Elt F) arg3.view r' f3 y'))
    (hk3 : ∀ r y r' y', k0_chk3 i (View.readAt (Elt F) arg3.view r f3 y) (View.readAt (Elt F) arg3.view r' f3 y'))
    (hk5 : ∀ r y r' y', k0_chk5 i (View.readAt (Elt F) arg3.view r f3 y) (View.readAt (Elt F) arg3.view r' f3 y'))
    (hk7 : ∀ r y r' y', k0_chk7 i (View.readAt (Elt F) arg3.view r f3 y) (View.readAt (Elt F) arg3.view r' f3 y'))
    (hk9 : ∀ r y r' y', k0_chk9 i (View.readAt (Elt F) arg3.view r f3 y) (View.readAt (Elt F) arg3.view r' f3 y'))
    (hk2 : ∀ r y r' y', k0_chk2 i (View.readAt (Elt F) arg3.view r f3 y) (View.readAt (Elt F) arg2.view r' f2 y'))
    (hk4 : ∀ r y r' y', k0_chk4 i (View.readAt (Elt F) arg3.view r f3 y) (View.readAt (Elt F) arg2.view r' f2 y'))
    (hk6 : ∀ r y r' y', k0_chk6 i (View.readAt (Elt F) arg3.view r f3 y) (View.readAt (Elt F) arg2.view r' f2 y'))
    (hk8 : ∀ r y r' y', k0_chk8 i (View.readAt (Elt F) arg3.view r f3 y) (View.readAt (Elt F) arg2.view r' f2 y'))
    (hk10 : ∀ r y r' y', k0_chk10 i (View.readAt (Elt F) arg3.view r f3 y) (View.readAt (Elt F) arg2.view r' f2 y'))
 :
    { L : List (View.Piece (Elt F) S24x4x512 .f32) //
      ∀ (q2 q3 q6 q7 q8 q11 q12 q13 q14 q15 q16 q17 q18 q19 q20 q21 q22 q23 q24 : PosShare TreeShare) (E : Set ℕ) (K : PUnit → sProp 𝕄),
        iprop((arg2.view.loc (c : Thread nD τ) ↦{q2} f2) ∗ (arg3.view.loc (c : Thread nD τ) ↦{q3} f3) ∗ (arg6.view.loc (c : Thread nD τ) ↦{q6} harg6.unread x6) ∗ (arg7.view.loc (c : Thread nD τ) ↦{q7} harg7.unread x7) ∗ (arg8.view.loc (c : Thread nD τ) ↦{q8} harg8.unread x8) ∗ (arg11.view.loc (c : Thread nD τ) ↦{q11} harg11.unread x11) ∗ (arg12.view.loc (c : Thread nD τ) ↦{q12} harg12.unread x12) ∗ (arg13.view.loc (c : Thread nD τ) ↦{q13} harg13.unread x13) ∗ (arg14.view.loc (c : Thread nD τ) ↦{q14} harg14.unread x14) ∗ (arg15.view.loc (c : Thread nD τ) ↦{q15} harg15.unread x15) ∗ (arg16.view.loc (c : Thread nD τ) ↦{q16} harg16.unread x16) ∗ (arg17.view.loc (c : Thread nD τ) ↦{q17} harg17.unread x17) ∗ (arg18.view.loc (c : Thread nD τ) ↦{q18} harg18.unread x18) ∗ (arg19.view.loc (c : Thread nD τ) ↦{q19} harg19.unread x19) ∗ (arg20.view.loc (c : Thread nD τ) ↦{q20} harg20.unread x20) ∗ (arg21.view.loc (c : Thread nD τ) ↦{q21} harg21.unread x21) ∗ (arg22.view.loc (c : Thread nD τ) ↦{q22} harg22.unread x22) ∗ (arg23.view.loc (c : Thread nD τ) ↦{q23} harg23.unread x23) ∗ (arg24.view.loc (c : Thread nD τ) ↦{q24} harg24.unread x24) ∗ (arg25.view.loc (c : Thread nD τ) ↦{fullShare} harg25.unread x25) ∗ (arg26.view.loc (c : Thread nD τ) ↦{fullShare} harg26.unread x26) ∗ (arg27.view.loc (c : Thread nD τ) ↦{fullShare} harg27.unread x27) ∗ (iprop((arg2.view.loc (c : Thread nD τ) ↦{q2} f2) ∗ (arg3.view.loc (c : Thread nD τ) ↦{q3} f3) ∗ (arg6.view.loc (c : Thread nD τ) ↦{q6} harg6.unread x6) ∗ (arg7.view.loc (c : Thread nD τ) ↦{q7} harg7.unread x7) ∗ (arg8.view.loc (c : Thread nD τ) ↦{q8} harg8.unread x8) ∗ (arg11.view.loc (c : Thread nD τ) ↦{q11} harg11.unread x11) ∗ (arg12.view.loc (c : Thread nD τ) ↦{q12} harg12.unread x12) ∗ (arg13.view.loc (c : Thread nD τ) ↦{q13} harg13.unread x13) ∗ (arg14.view.loc (c : Thread nD τ) ↦{q14} harg14.unread x14) ∗ (arg15.view.loc (c : Thread nD τ) ↦{q15} harg15.unread x15) ∗ (arg16.view.loc (c : Thread nD τ) ↦{q16} harg16.unread x16) ∗ (arg17.view.loc (c : Thread nD τ) ↦{q17} harg17.unread x17) ∗ (arg18.view.loc (c : Thread nD τ) ↦{q18} harg18.unread x18) ∗ (arg19.view.loc (c : Thread nD τ) ↦{q19} harg19.unread x19) ∗ (arg20.view.loc (c : Thread nD τ) ↦{q20} harg20.unread x20) ∗ (arg21.view.loc (c : Thread nD τ) ↦{q21} harg21.unread x21) ∗ (arg22.view.loc (c : Thread nD τ) ↦{q22} harg22.unread x22) ∗ (arg23.view.loc (c : Thread nD τ) ↦{q23} harg23.unread x23) ∗ (arg24.view.loc (c : Thread nD τ) ↦{q24} harg24.unread x24) ∗ (arg25.view.loc (c : Thread nD τ) ↦{fullShare} arg25.view.writes (Elt F) (harg25.unread x25) L) ∗ (arg26.view.loc (c : Thread nD τ) ↦{fullShare} harg26.unread x26) ∗ (arg27.view.loc (c : Thread nD τ) ↦{fullShare} harg27.unread x27)) -∗ K ⟨⟩))
          ⊢ wp frame (wpE (defs₀ (F := F)) Variants.none c none) E (bodyB (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨?L, fun q2 q3 q6 q7 q8 q11 q12 q13 q14 q15 q16 q17 q18 q19 q20 q21 q22 q23 q24 E K => ?run⟩
  case run =>
    iintro ⟨H2, H3, H6, H7, H8, H11, H12, H13, H14, H15, H16, H17, H18, H19, H20, H21, H22, H23, H24, H25, H26, H27, Hk⟩
    sl_unfold [bodyB]
    sl_exec_parts (disch := first | (guard_target = k0_cond2 _ _ = _; exact hc2 _ _) | (guard_target = k0_chk1 _ _ _; exact hk1 _ _ _ _) | (guard_target = k0_chk2 _ _ _; exact hk2 _ _ _ _) | (guard_target = k0_chk3 _ _ _; exact hk3 _ _ _ _) | (guard_target = k0_chk4 _ _ _; exact hk4 _ _ _ _) | (guard_target = k0_chk5 _ _ _; exact hk5 _ _ _ _) | (guard_target = k0_chk6 _ _ _; exact hk6 _ _ _ _) | (guard_target = k0_chk7 _ _ _; exact hk7 _ _ _ _) | (guard_target = k0_chk8 _ _ _; exact hk8 _ _ _ _) | (guard_target = k0_chk9 _ _ _; exact hk9 _ _ _ _) | (guard_target = k0_chk10 _ _ _; exact hk10 _ _ _ _))
    sl_step
    iapply Hk
    isplitl [H2]; · iexact H2
    isplitl [H3]; · iexact H3
    isplitl [H6]; · iexact H6
    isplitl [H7]; · iexact H7
    isplitl [H8]; · iexact H8
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    iexact H27

end Cert.GateUpIdeal.Gen

end
-- ==== Proof.GateUpIdealRows.lean ====
/-
  The group's stored pieces in closed form: the sign expansion of an eight-row word block, the delta product over the
  fourteen chunks of the contraction, and the row a group step writes.
-/
module

public import proofs.«01_k».proof.Proof.GateUpIdealRunB
import all proofs.«01_k».proof.Proof.GateUpIdealRunB
public import Idealize.ShloMosaic.Lib.WholeRead

@[expose] public section

set_option maxRecDepth 16384

noncomputable section

namespace Cert.GateUpIdeal.Gen

open Idealize.ShloMosaic Idealize.ShloMosaic.TcCoe
open Idealize.SL Idealize.SL.RA Idealize.SL.BI

variable {F : FTy → Type} [FloatOps F]

/-- The word block read as a matrix of words. -/
def words (v : Vec F S1x8x512 .i32) : IVec S8x512 32 := shapeCast S8x512 v shapeCasts_S1x8x512_S8x512

/-- One masked word block taken apart into its bytes, each read as an eight bit float. -/
def bytes (x : IVec S8x512 32) : FVec F S32x512 .fp8e4m3 :=
  bitcastToFloat .fp8e4m3 (bitcast S32x512 8 x bitcasts_S8x512_w32_S32x512_w8)

/-- A word block expanded: one entry per stored bit, bit `j` of every byte in the block of rows `32 j …`. -/
def expand (v : Vec F S1x8x512 .i32) : FVec F S256x512 .fp8e4m3 :=
  concatenate S256x512 0 [
    ⟨S32x512, bytes (andi (words v) (broadcast S8x512 16843009#32))⟩,
    ⟨S32x512, bytes (andi (words v) (broadcast S8x512 33686018#32))⟩,
    ⟨S32x512, bytes (andi (words v) (broadcast S8x512 67372036#32))⟩,
    ⟨S32x512, bytes (andi (words v) (broadcast S8x512 134744072#32))⟩,
    ⟨S32x512, bytes (andi (words v) (broadcast S8x512 269488144#32))⟩,
    ⟨S32x512, bytes (andi (words v) (broadcast S8x512 538976288#32))⟩,
    ⟨S32x512, bytes (andi (words v) (broadcast S8x512 1077952576#32))⟩,
    ⟨S32x512, bytes (andi (shrui (words v) (broadcast S8x512 1#32)) (broadcast S8x512 1077952576#32))⟩]
    concatenates_S32x512_S32x512_S32x512_S32x512_S32x512_S32x512_S32x512_S32x512_S256x512_d0

/-- One chunk of the contraction. -/
def chunk (qs : FVec F S16x256 .bf16) (v : Vec F S1x8x512 .i32) : FVec F S16x512 .f32 :=
  matmul dot_S16x256_S256x512_S16x512_1_0_0_1_n_n none qs (expand v) (constant S16x512 .f32 0x00000000#32)

/-- The delta product: the chunks added from the first on, the four rows kept, the row sum taken off. -/
def delta (qv : Vec F S1x16x3584 .bf16) (sm : Vec F S1x4x1 .f32)
    (g0 g1 g2 g3 g4 g5 g6 g7 g8 g9 g10 g11 g12 g13 : Vec F S1x8x512 .i32) : FVec F S4x512 .f32 :=
  have q : FVec F S16x3584 .bf16 := shapeCast S16x3584 qv shapeCasts_S1x16x3584_S16x3584
  subf (extractStridedSlice S4x512 ![0, 0] (addf (addf (addf (addf (addf (addf (addf (addf (addf (addf (addf (addf (addf (chunk (extractStridedSlice S16x256 ![0, 0] q slices_S16x3584_o0_0_S16x256) g0)
    (chunk (extractStridedSlice S16x256 ![0, 256] q slices_S16x3584_o0_256_S16x256) g1))
    (chunk (extractStridedSlice S16x256 ![0, 512] q slices_S16x3584_o0_512_S16x256) g2))
    (chunk (extractStridedSlice S16x256 ![0, 768] q slices_S16x3584_o0_768_S16x256) g3))
    (chunk (extractStridedSlice S16x256 ![0, 1024] q slices_S16x3584_o0_1024_S16x256) g4))
    (chunk (extractStridedSlice S16x256 ![0, 1280] q slices_S16x3584_o0_1280_S16x256) g5))
    (chunk (extractStridedSlice S16x256 ![0, 1536] q slices_S16x3584_o0_1536_S16x256) g6))
    (chunk (extractStridedSlice S16x256 ![0, 1792] q slices_S16x3584_o0_1792_S16x256) g7))
    (chunk (extractStridedSlice S16x256 ![0, 2048] q slices_S16x3584_o0_2048_S16x256) g8))
    (chunk (extractStridedSlice S16x256 ![0, 2304] q slices_S16x3584_o0_2304_S16x256) g9))
    (chunk (extractStridedSlice S16x256 ![0, 2560] q slices_S16x3584_o0_2560_S16x256) g10))
    (chunk (extractStridedSlice S16x256 ![0, 2816] q slices_S16x3584_o0_2816_S16x256) g11))
    (chunk (extractStridedSlice S16x256 ![0, 3072] q slices_S16x3584_o0_3072_S16x256) g12))
    (chunk (extractStridedSlice S16x256 ![0, 3328] q slices_S16x3584_o0_3328_S16x256) g13)) slices_S16x512_o0_0_S4x512)
    (broadcastTo S4x512 (shapeCast S4x1 sm shapeCasts_S1x4x1_S4x1) broadcasts_S4x1_S4x512)

/-- One projection of a tenant's rows: the base product rescaled, the delta product rescaled and added, the row scale. -/
def proj (sc : Vec F S1x4x1 .f32) (acc : Vec F S1x4x512 .f32) (ws : Vec F S1x512 .f32) (al : Vec F S1x1x512 .f32)
    (d : FVec F S4x512 .f32) : FVec F S4x512 .f32 :=
  mulf (broadcastTo S4x512 (shapeCast S4x1 sc shapeCasts_S1x4x1_S4x1) broadcasts_S4x1_S4x512)
    (addf (mulf (shapeCast S4x512 acc shapeCasts_S1x4x512_S4x512)
        (broadcastTo S4x512 (shapeCast S1x512 ws shapeCasts_S1x512_S1x512) broadcasts_S1x512_S4x512))
      (mulf (broadcastTo S4x512 (shapeCast S1x512 al shapeCasts_S1x1x512_S1x512) broadcasts_S1x512_S4x512) d))

/-- What a group step stores in a tenant's rows, from the two delta products. -/
def rowOut (sc : Vec F S1x4x1 .f32) (accg accu : Vec F S1x4x512 .f32) (wgs wus : Vec F S1x512 .f32)
    (ag au : Vec F S1x1x512 .f32) (dg du : FVec F S4x512 .f32) : FVec F S1x4x512 .f32 :=
  shapeCast S1x4x512 (mulf (mulf (proj sc accg wgs ag dg) (logistic (proj sc accg wgs ag dg))) (proj sc accu wus au du))
    shapeCasts_S4x512_S1x4x512

/-- The delta product over a tenant's sign window. -/
def deltaM (m : Memref sig .tc .vmem S1x112x512 .i32) (hm : m.IsWhole) (X : Vec F S1x112x512 .i32)
    (qv : Vec F S1x16x3584 .bf16) (sm : Vec F S1x4x1 .f32) : FVec F S4x512 .f32 :=
  delta qv sm
      (View.readAt (Elt F) m.view (Rect.unit (s := S1x112x512) ![0, 0, 0] S1x8x512.size inb_S1x112x512_S1x8x512_0_0_0).toLoadRect (hm.unread X))
      (View.readAt (Elt F) m.view (Rect.unit (s := S1x112x512) ![0, 8, 0] S1x8x512.size inb_S1x112x512_S1x8x512_0_8_0).toLoadRect (hm.unread X))
      (View.readAt (Elt F) m.view (Rect.unit (s := S1x112x512) ![0, 16, 0] S1x8x512.size inb_S1x112x512_S1x8x512_0_16_0).toLoadRect (hm.unread X))
      (View.readAt (Elt F) m.view (Rect.unit (s := S1x112x512) ![0, 24, 0] S1x8x512.size inb_S1x112x512_S1x8x512_0_24_0).toLoadRect (hm.unread X))
      (View.readAt (Elt F) m.view (Rect.unit (s := S1x112x512) ![0, 32, 0] S1x8x512.size inb_S1x112x512_S1x8x512_0_32_0).toLoadRect (hm.unread X))
      (View.readAt (Elt F) m.view (Rect.unit (s := S1x112x512) ![0, 40, 0] S1x8x512.size inb_S1x112x512_S1x8x512_0_40_0).toLoadRect (hm.unread X))
      (View.readAt (Elt F) m.view (Rect.unit (s := S1x112x512) ![0, 48, 0] S1x8x512.size inb_S1x112x512_S1x8x512_0_48_0).toLoadRect (hm.unread X))
      (View.readAt (Elt F) m.view (Rect.unit (s := S1x112x512) ![0, 56, 0] S1x8x512.size inb_S1x112x512_S1x8x512_0_56_0).toLoadRect (hm.unread X))
      (View.readAt (Elt F) m.view (Rect.unit (s := S1x112x512) ![0, 64, 0] S1x8x512.size inb_S1x112x512_S1x8x512_0_64_0).toLoadRect (hm.unread X))
      (View.readAt (Elt F) m.view (Rect.unit (s := S1x112x512) ![0, 72, 0] S1x8x512.size inb_S1x112x512_S1x8x512_0_72_0).toLoadRect (hm.unread X))
      (View.readAt (Elt F) m.view (Rect.unit (s := S1x112x512) ![0, 80, 0] S1x8x512.size inb_S1x112x512_S1x8x512_0_80_0).toLoadRect (hm.unread X))
      (View.readAt (Elt F) m.view (Rect.unit (s := S1x112x512) ![0, 88, 0] S1x8x512.size inb_S1x112x512_S1x8x512_0_88_0).toLoadRect (hm.unread X))
      (View.readAt (Elt F) m.view (Rect.unit (s := S1x112x512) ![0, 96, 0] S1x8x512.size inb_S1x112x512_S1x8x512_0_96_0).toLoadRect (hm.unread X))
      (View.readAt (Elt F) m.view (Rect.unit (s := S1x112x512) ![0, 104, 0] S1x8x512.size inb_S1x112x512_S1x8x512_0_104_0).toLoadRect (hm.unread X))

/-- The piece a group step stores for the tenant `w`. -/
def pieceW (arg6 : Memref sig .tc .vmem S24x16x3584 .bf16) (harg6 : arg6.IsWhole) (x6 : Vec F S24x16x3584 .bf16) (arg7 : Memref sig .tc .vmem S24x4x1 .f32) (harg7 : arg7.IsWhole) (x7 : Vec F S24x4x1 .f32) (arg8 : Memref sig .tc .vmem S24x4x1 .f32) (harg8 : arg8.IsWhole) (x8 : Vec F S24x4x1 .f32) (arg11 : Memref sig .tc .vmem S1x512 .f32) (harg11 : arg11.IsWhole) (x11 : Vec F S1x512 .f32) (arg12 : Memref sig .tc .vmem S1x512 .f32) (harg12 : arg12.IsWhole) (x12 : Vec F S1x512 .f32) (arg13 : Memref sig .tc .vmem S24x1x512 .f32) (harg13 : arg13.IsWhole) (x13 : Vec F S24x1x512 .f32) (arg14 : Memref sig .tc .vmem S24x1x512 .f32) (harg14 : arg14.IsWhole) (x14 : Vec F S24x1x512 .f32) (arg26 : Memref sig .tc .vmem S24x8x512 .f32) (harg26 : arg26.IsWhole) (x26 : Vec F S24x8x512 .f32) (arg27 : Memref sig .tc .vmem S24x8x512 .f32) (harg27 : arg27.IsWhole) (x27 : Vec F S24x8x512 .f32)
    (mg : Memref sig .tc .vmem S1x112x512 .i32) (hmg : mg.IsWhole) (Xg : Vec F S1x112x512 .i32)
    (mu : Memref sig .tc .vmem S1x112x512 .i32) (hmu : mu.IsWhole) (Xu : Vec F S1x112x512 .i32)
    (w : BitVec 32) (hw : w.toNat < 24) : View.Piece (Elt F) S24x4x512 .f32 :=
  have inb (b d : ℕ) (B : ℕ) (hb : b ≤ B) : ∀ a : Fin 3, ![w.toNat, 0, 0] a + ![1, b, d] a ≤ ![24, B, d] a := by
    intro a; fin_cases a <;> simp <;> omega
  have q := (View.readAt (Elt F) arg6.view (Rect.unit (s := S24x16x3584) ![w.toNat, 0, 0] S1x16x3584.size (inb 16 3584 16 le_rfl)).toLoadRect (harg6.unread x6))
  have sm := (View.readAt (Elt F) arg8.view (Rect.unit (s := S24x4x1) ![w.toNat, 0, 0] S1x4x1.size (inb 4 1 4 le_rfl)).toLoadRect (harg8.unread x8))
  ⟨Rect.unit (s := S24x4x512) ![w.toNat, 0, 0] S1x4x512.size (inb 4 512 4 le_rfl),
    rowOut (View.readAt (Elt F) arg7.view (Rect.unit (s := S24x4x1) ![w.toNat, 0, 0] S1x4x1.size (inb 4 1 4 le_rfl)).toLoadRect (harg7.unread x7))
      (View.readAt (Elt F) arg26.view (Rect.unit (s := S24x8x512) ![w.toNat, 0, 0] S1x4x512.size (inb 4 512 8 (by decide))).toLoadRect (harg26.unread x26))
      (View.readAt (Elt F) arg27.view (Rect.unit (s := S24x8x512) ![w.toNat, 0, 0] S1x4x512.size (inb 4 512 8 (by decide))).toLoadRect (harg27.unread x27))
      (View.readAt (Elt F) arg11.view (Rect.unit (s := S1x512) ![0, 0] S1x512.size inb_S1x512_S1x512_0_0).toLoadRect (harg11.unread x11))
      (View.readAt (Elt F) arg12.view (Rect.unit (s := S1x512) ![0, 0] S1x512.size inb_S1x512_S1x512_0_0).toLoadRect (harg12.unread x12))
      (View.readAt (Elt F) arg13.view (Rect.unit (s := S24x1x512) ![w.toNat, 0, 0] S1x1x512.size (inb 1 512 1 le_rfl)).toLoadRect (harg13.unread x13))
      (View.readAt (Elt F) arg14.view (Rect.unit (s := S24x1x512) ![w.toNat, 0, 0] S1x1x512.size (inb 1 512 1 le_rfl)).toLoadRect (harg14.unread x14))
      (deltaM mg hmg Xg q sm) (deltaM mu hmu Xu q sm)⟩

/-- The number of active tenants, as the body reads it. -/
def nWord (arg3 : Memref sig .tc .smem S1 .i32) (f3 : arg3.view.ty.Contents (Elt F)) : BitVec 32 :=
  View.readAt (Elt F) arg3.view (Rect.unit (s := S1) ![0] S1.size inb_S1_S1_0).toLoadRect f3 (Shape.Idx.first (by show 0 < S1.numel; decide))

/-- The tenant word a group step reads from the order table. -/
def tWord (arg2 : Memref sig .tc .smem S24 .i32) (f2 : arg2.view.ty.Contents (Elt F)) (off : Fin 1 → ℕ)
    (inb : ∀ a, off a + S1.size a ≤ S24.size a) : BitVec 32 :=
  View.readAt (Elt F) arg2.view (Rect.unit (s := S24) off S1.size inb).toLoadRect f2 (Shape.Idx.first (by show 0 < S1.numel; decide))

set_option maxHeartbeats 4000000 in
/-- The pieces a group writes, in closed form (the last tenant first). -/
theorem runB_val (c : Dev nD) (i : grid0.Coords) (arg2 : Memref sig .tc .smem S24 .i32) (harg2 : arg2.IsWhole) (arg3 : Memref sig .tc .smem S1 .i32) (harg3 : arg3.IsWhole) (arg4 : Memref sig .tc .smem S25 .i32) (harg4 : arg4.IsWhole) (arg5 : Memref sig .tc .vmem S96x3584 .bf16) (harg5 : arg5.IsWhole) (arg6 : Memref sig .tc .vmem S24x16x3584 .bf16) (harg6 : arg6.IsWhole) (arg7 : Memref sig .tc .vmem S24x4x1 .f32) (harg7 : arg7.IsWhole) (arg8 : Memref sig .tc .vmem S24x4x1 .f32) (harg8 : arg8.IsWhole) (arg9 : Memref sig .tc .vmem S3584x512 .i8) (harg9 : arg9.IsWhole) (arg10 : Memref sig .tc .vmem S3584x512 .i8) (harg10 : arg10.IsWhole) (arg11 : Memref sig .tc .vmem S1x512 .f32) (harg11 : arg11.IsWhole) (arg12 : Memref sig .tc .vmem S1x512 .f32) (harg12 : arg12.IsWhole) (arg13 : Memref sig .tc .vmem S24x1x512 .f32) (harg13 : arg13.IsWhole) (arg14 : Memref sig .tc .vmem S24x1x512 .f32) (harg14 : arg14.IsWhole) (arg15 : Memref sig .tc .vmem S1x112x512 .i32) (harg15 : arg15.IsWhole) (arg16 : Memref sig .tc .vmem S1x112x512 .i32) (harg16 : arg16.IsWhole) (arg17 : Memref sig .tc .vmem S1x112x512 .i32) (harg17 : arg17.IsWhole) (arg18 : Memref sig .tc .vmem S1x112x512 .i32) (harg18 : arg18.IsWhole) (arg19 : Memref sig .tc .vmem S1x112x512 .i32) (harg19 : arg19.IsWhole) (arg20 : Memref sig .tc .vmem S1x112x512 .i32) (harg20 : arg20.IsWhole) (arg21 : Memref sig .tc .vmem S1x112x512 .i32) (harg21 : arg21.IsWhole) (arg22 : Memref sig .tc .vmem S1x112x512 .i32) (harg22 : arg22.IsWhole) (arg23 : Memref sig .tc .vmem S1x112x512 .i32) (harg23 : arg23.IsWhole) (arg24 : Memref sig .tc .vmem S1x112x512 .i32) (harg24 : arg24.IsWhole) (arg25 : Memref sig .tc .vmem S24x4x512 .f32) (harg25 : arg25.IsWhole) (arg26 : Memref sig .tc .vmem S24x8x512 .f32) (harg26 : arg26.IsWhole) (arg27 : Memref sig .tc .vmem S24x8x512 .f32) (harg27 : arg27.IsWhole)
    (x6 : Vec F S24x16x3584 .bf16) (x7 : Vec F S24x4x1 .f32) (x8 : Vec F S24x4x1 .f32) (x11 : Vec F S1x512 .f32) (x12 : Vec F S1x512 .f32) (x13 : Vec F S24x1x512 .f32) (x14 : Vec F S24x1x512 .f32) (x15 : Vec F S1x112x512 .i32) (x16 : Vec F S1x112x512 .i32) (x17 : Vec F S1x112x512 .i32) (x18 : Vec F S1x112x512 .i32) (x19 : Vec F S1x112x512 .i32) (x20 : Vec F S1x112x512 .i32) (x21 : Vec F S1x112x512 .i32) (x22 : Vec F S1x112x512 .i32) (x23 : Vec F S1x112x512 .i32) (x24 : Vec F S1x112x512 .i32) (x25 : Vec F S24x4x512 .f32) (x26 : Vec F S24x8x512 .f32) (x27 : Vec F S24x8x512 .f32)
    (f2 : Buf (Elt F) (arg2.view.loc (c : Thread nD τ))) (f3 : Buf (Elt F) (arg3.view.loc (c : Thread nD τ)))
    (hc2 : ∀ r y, k0_cond2 i (View.readAt (Elt F) arg3.view r f3 y) = 1#1)
    (hk1 : ∀ r y r' y', k0_chk1 i (View.readAt (Elt F) arg3.view r f3 y) (View.readAt (Elt F) arg3.view r' f3 y'))
    (hk3 : ∀ r y r' y', k0_chk3 i (View.readAt (Elt F) arg3.view r f3 y) (View.readAt (Elt F) arg3.view r' f3 y'))
    (hk5 : ∀ r y r' y', k0_chk5 i (View.readAt (Elt F) arg3.view r f3 y) (View.readAt (Elt F) arg3.view r' f3 y'))
    (hk7 : ∀ r y r' y', k0_chk7 i (View.readAt (Elt F) arg3.view r f3 y) (View.readAt (Elt F) arg3.view r' f3 y'))
    (hk9 : ∀ r y r' y', k0_chk9 i (View.readAt (Elt F) arg3.view r f3 y) (View.readAt (Elt F) arg3.view r' f3 y'))
    (hk2 : ∀ r y r' y', k0_chk2 i (View.readAt (Elt F) arg3.view r f3 y) (View.readAt (Elt F) arg2.view r' f2 y'))
    (hk4 : ∀ r y r' y', k0_chk4 i (View.readAt (Elt F) arg3.view r f3 y) (View.readAt (Elt F) arg2.view r' f2 y'))
    (hk6 : ∀ r y r' y', k0_chk6 i (View.readAt (Elt F) arg3.view r f3 y) (View.readAt (Elt F) arg2.view r' f2 y'))
    (hk8 : ∀ r y r' y', k0_chk8 i (View.readAt (Elt F) arg3.view r f3 y) (View.readAt (Elt F) arg2.view r' f2 y'))
    (hk10 : ∀ r y r' y', k0_chk10 i (View.readAt (Elt F) arg3.view r f3 y) (View.readAt (Elt F) arg2.view r' f2 y'))
    (hw : ∀ r y, BitVec.toNat (View.readAt (Elt F) arg2.view r f2 y) < 24) :
    (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x6 x7 x8 x11 x12 x13 x14 x15 x16 x17 x18 x19 x20 x21 x22 x23 x24 x25 x26 x27 f2 f3 hc2 hk1 hk3 hk5 hk7 hk9 hk2 hk4 hk6 hk8 hk10).1 = [
    pieceW arg6 harg6 x6 arg7 harg7 x7 arg8 harg8 x8 arg11 harg11 x11 arg12 harg12 x12 arg13 harg13 x13 arg14 harg14 x14 arg26 harg26 x26 arg27 harg27 x27 arg19 harg19 x19 arg24 harg24 x24
      (tWord arg2 f2 (k0_off26 i (nWord arg3 f3)) (k0_off26_inb i (nWord arg3 f3) (nWord arg3 f3) (hk9 _ _ _ _) (hc2 _ _))) (hw _ _),
    pieceW arg6 harg6 x6 arg7 harg7 x7 arg8 harg8 x8 arg11 harg11 x11 arg12 harg12 x12 arg13 harg13 x13 arg14 harg14 x14 arg26 harg26 x26 arg27 harg27 x27 arg18 harg18 x18 arg23 harg23 x23
      (tWord arg2 f2 (k0_off20 i (nWord arg3 f3)) (k0_off20_inb i (nWord arg3 f3) (nWord arg3 f3) (hk7 _ _ _ _) (hc2 _ _))) (hw _ _),
    pieceW arg6 harg6 x6 arg7 harg7 x7 arg8 harg8 x8 arg11 harg11 x11 arg12 harg12 x12 arg13 harg13 x13 arg14 harg14 x14 arg26 harg26 x26 arg27 harg27 x27 arg17 harg17 x17 arg22 harg22 x22
      (tWord arg2 f2 (k0_off14 i (nWord arg3 f3)) (k0_off14_inb i (nWord arg3 f3) (nWord arg3 f3) (hk5 _ _ _ _) (hc2 _ _))) (hw _ _),
    pieceW arg6 harg6 x6 arg7 harg7 x7 arg8 harg8 x8 arg11 harg11 x11 arg12 harg12 x12 arg13 harg13 x13 arg14 harg14 x14 arg26 harg26 x26 arg27 harg27 x27 arg16 harg16 x16 arg21 harg21 x21
      (tWord arg2 f2 (k0_off8 i (nWord arg3 f3)) (k0_off8_inb i (nWord arg3 f3) (nWord arg3 f3) (hk3 _ _ _ _) (hc2 _ _))) (hw _ _),
    pieceW arg6 harg6 x6 arg7 harg7 x7 arg8 harg8 x8 arg11 harg11 x11 arg12 harg12 x12 arg13 harg13 x13 arg14 harg14 x14 arg26 harg26 x26 arg27 harg27 x27 arg15 harg15 x15 arg20 harg20 x20
      (tWord arg2 f2 (k0_off2 i (nWord arg3 f3)) (k0_off2_inb i (nWord arg3 f3) (nWord arg3 f3) (hk1 _ _ _ _) (hc2 _ _))) (hw _ _)] := by
  rfl

end Cert.GateUpIdeal.Gen

end
-- ==== Proof.GateUpIdealRunA.lean ====
/-
  The run of `bodyA` at the first group of a tile: the output block cleared, the base products' rows kept; the pieces
  written are found by the run.
-/
module

public import proofs.«01_k».proof.Proof.GateUpIdealBody
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.GateUpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 40000000 in
/-- What the start of a tile writes, with the proof that the program runs from its operands to it. -/
def runA (c : Dev nD) (i : grid0.Coords) (arg2 : Memref sig .tc .smem S24 .i32) (harg2 : arg2.IsWhole) (arg3 : Memref sig .tc .smem S1 .i32) (harg3 : arg3.IsWhole) (arg4 : Memref sig .tc .smem S25 .i32) (harg4 : arg4.IsWhole) (arg5 : Memref sig .tc .vmem S96x3584 .bf16) (harg5 : arg5.IsWhole) (arg6 : Memref sig .tc .vmem S24x16x3584 .bf16) (harg6 : arg6.IsWhole) (arg7 : Memref sig .tc .vmem S24x4x1 .f32) (harg7 : arg7.IsWhole) (arg8 : Memref sig .tc .vmem S24x4x1 .f32) (harg8 : arg8.IsWhole) (arg9 : Memref sig .tc .vmem S3584x512 .i8) (harg9 : arg9.IsWhole) (arg10 : Memref sig .tc .vmem S3584x512 .i8) (harg10 : arg10.IsWhole) (arg11 : Memref sig .tc .vmem S1x512 .f32) (harg11 : arg11.IsWhole) (arg12 : Memref sig .tc .vmem S1x512 .f32) (harg12 : arg12.IsWhole) (arg13 : Memref sig .tc .vmem S24x1x512 .f32) (harg13 : arg13.IsWhole) (arg14 : Memref sig .tc .vmem S24x1x512 .f32) (harg14 : arg14.IsWhole) (arg15 : Memref sig .tc .vmem S1x112x512 .i32) (harg15 : arg15.IsWhole) (arg16 : Memref sig .tc .vmem S1x112x512 .i32) (harg16 : arg16.IsWhole) (arg17 : Memref sig .tc .vmem S1x112x512 .i32) (harg17 : arg17.IsWhole) (arg18 : Memref sig .tc .vmem S1x112x512 .i32) (harg18 : arg18.IsWhole) (arg19 : Memref sig .tc .vmem S1x112x512 .i32) (harg19 : arg19.IsWhole) (arg20 : Memref sig .tc .vmem S1x112x512 .i32) (harg20 : arg20.IsWhole) (arg21 : Memref sig .tc .vmem S1x112x512 .i32) (harg21 : arg21.IsWhole) (arg22 : Memref sig .tc .vmem S1x112x512 .i32) (harg22 : arg22.IsWhole) (arg23 : Memref sig .tc .vmem S1x112x512 .i32) (harg23 : arg23.IsWhole) (arg24 : Memref sig .tc .vmem S1x112x512 .i32) (harg24 : arg24.IsWhole) (arg25 : Memref sig .tc .vmem S24x4x512 .f32) (harg25 : arg25.IsWhole) (arg26 : Memref sig .tc .vmem S24x8x512 .f32) (harg26 : arg26.IsWhole) (arg27 : Memref sig .tc .vmem S24x8x512 .f32) (harg27 : arg27.IsWhole)
    (x5 : Vec F S96x3584 .bf16) (x9 : Vec F S3584x512 .i8) (x10 : Vec F S3584x512 .i8) (x25 : Vec F S24x4x512 .f32) (x26 : Vec F S24x8x512 .f32) (x27 : Vec F S24x8x512 .f32) (hc1 : k0_cond1 i = 1#1) :
    Σ' (L25 : List (View.Piece (Elt F) S24x4x512 .f32)) (L26 : List (View.Piece (Elt F) S24x8x512 .f32)),
    { L27 : List (View.Piece (Elt F) S24x8x512 .f32) //
      ∀ (q5 q9 q10 : PosShare TreeShare) (E : Set ℕ) (K : PUnit → sProp 𝕄),
        iprop((arg5.view.loc (c : Thread nD τ) ↦{q5} harg5.unread x5) ∗ (arg9.view.loc (c : Thread nD τ) ↦{q9} harg9.unread x9) ∗ (arg10.view.loc (c : Thread nD τ) ↦{q10} harg10.unread x10) ∗ (arg25.view.loc (c : Thread nD τ) ↦{fullShare} harg25.unread x25) ∗ (arg26.view.loc (c : Thread nD τ) ↦{fullShare} harg26.unread x26) ∗ (arg27.view.loc (c : Thread nD τ) ↦{fullShare} harg27.unread x27) ∗ (iprop((arg5.view.loc (c : Thread nD τ) ↦{q5} harg5.unread x5) ∗ (arg9.view.loc (c : Thread nD τ) ↦{q9} harg9.unread x9) ∗ (arg10.view.loc (c : Thread nD τ) ↦{q10} harg10.unread x10) ∗ (arg25.view.loc (c : Thread nD τ) ↦{fullShare} arg25.view.writes (Elt F) (harg25.unread x25) L25) ∗ (arg26.view.loc (c : Thread nD τ) ↦{fullShare} arg26.view.writes (Elt F) (harg26.unread x26) L26) ∗ (arg27.view.loc (c : Thread nD τ) ↦{fullShare} arg27.view.writes (Elt F) (harg27.unread x27) L27)) -∗ K ⟨⟩))
          ⊢ wp frame (wpE (defs₀ (F := F)) Variants.none c none) E (bodyA (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨?L25, ?L26, ?L27, fun q5 q9 q10 E K => ?run⟩
  case run =>
    iintro ⟨H5, H9, H10, H25, H26, H27, Hk⟩
    sl_unfold [bodyA]
    sl_exec_parts (disch := first | (guard_target = k0_cond1 _ = _; exact hc1))
    sl_step
    iapply Hk
    isplitl [H5]; · iexact H5
    isplitl [H9]; · iexact H9
    isplitl [H10]; · iexact H10
    isplitl [H25]; · iexact H25
    isplitl [H26]; · iexact H26
    iexact H27

end Cert.GateUpIdeal.Gen

end
-- ==== Proof.GateUpIdealRowsA.lean ====
/-
  The pieces the start of a tile stores in closed form: the base product's rows, four per tenant, and the cleared output
  block.
-/
module

public import proofs.«01_k».proof.Proof.GateUpIdealRunA
import all proofs.«01_k».proof.Proof.GateUpIdealRunA

@[expose] public section

set_option maxRecDepth 16384

noncomputable section

namespace Cert.GateUpIdeal.Gen

open Idealize.ShloMosaic Idealize.ShloMosaic.TcCoe
open Idealize.SL Idealize.SL.RA Idealize.SL.BI

variable {F : FTy → Type} [FloatOps F]

/-- The base product of a tile: every row's code against the tile's signed weights. -/
def base (xq : Vec F S96x3584 .bf16) (w : Vec F S3584x512 .i8) : FVec F S96x512 .f32 :=
  matmul dot_S96x3584_S3584x512_S96x512_1_0_0_1_n_n none (shapeCast S96x3584 xq shapeCasts_S96x3584_S96x3584)
    (sitofp .bf16 w : FVec F S3584x512 .bf16) (constant S96x512 .f32 0x00000000#32)

/-- The pieces that keep a base product, four rows for each of the twenty-four tenants (the last first). -/
def basePieces (b : FVec F S96x512 .f32) : List (View.Piece (Elt F) S24x8x512 .f32) := [
  ⟨Rect.unit (s := S24x8x512) ![23, 0, 0] S1x4x512.size inb_S24x8x512_S1x4x512_23_0_0,
    shapeCast S1x4x512 (extractStridedSlice S4x512 ![92, 0] b slices_S96x512_o92_0_S4x512) shapeCasts_S4x512_S1x4x512⟩,
  ⟨Rect.unit (s := S24x8x512) ![22, 0, 0] S1x4x512.size inb_S24x8x512_S1x4x512_22_0_0,
    shapeCast S1x4x512 (extractStridedSlice S4x512 ![88, 0] b slices_S96x512_o88_0_S4x512) shapeCasts_S4x512_S1x4x512⟩,
  ⟨Rect.unit (s := S24x8x512) ![21, 0, 0] S1x4x512.size inb_S24x8x512_S1x4x512_21_0_0,
    shapeCast S1x4x512 (extractStridedSlice S4x512 ![84, 0] b slices_S96x512_o84_0_S4x512) shapeCasts_S4x512_S1x4x512⟩,
  ⟨Rect.unit (s := S24x8x512) ![20, 0, 0] S1x4x512.size inb_S24x8x512_S1x4x512_20_0_0,
    shapeCast S1x4x512 (extractStridedSlice S4x512 ![80, 0] b slices_S96x512_o80_0_S4x512) shapeCasts_S4x512_S1x4x512⟩,
  ⟨Rect.unit (s := S24x8x512) ![19, 0, 0] S1x4x512.size inb_S24x8x512_S1x4x512_19_0_0,
    shapeCast S1x4x512 (extractStridedSlice S4x512 ![76, 0] b slices_S96x512_o76_0_S4x512) shapeCasts_S4x512_S1x4x512⟩,
  ⟨Rect.unit (s := S24x8x512) ![18, 0, 0] S1x4x512.size inb_S24x8x512_S1x4x512_18_0_0,
    shapeCast S1x4x512 (extractStridedSlice S4x512 ![72, 0] b slices_S96x512_o72_0_S4x512) shapeCasts_S4x512_S1x4x512⟩,
  ⟨Rect.unit (s := S24x8x512) ![17, 0, 0] S1x4x512.size inb_S24x8x512_S1x4x512_17_0_0,
    shapeCast S1x4x512 (extractStridedSlice S4x512 ![68, 0] b slices_S96x512_o68_0_S4x512) shapeCasts_S4x512_S1x4x512⟩,
  ⟨Rect.unit (s := S24x8x512) ![16, 0, 0] S1x4x512.size inb_S24x8x512_S1x4x512_16_0_0,
    shapeCast S1x4x512 (extractStridedSlice S4x512 ![64, 0] b slices_S96x512_o64_0_S4x512) shapeCasts_S4x512_S1x4x512⟩,
  ⟨Rect.unit (s := S24x8x512) ![15, 0, 0] S1x4x512.size inb_S24x8x512_S1x4x512_15_0_0,
    shapeCast S1x4x512 (extractStridedSlice S4x512 ![60, 0] b slices_S96x512_o60_0_S4x512) shapeCasts_S4x512_S1x4x512⟩,
  ⟨Rect.unit (s := S24x8x512) ![14, 0, 0] S1x4x512.size inb_S24x8x512_S1x4x512_14_0_0,
    shapeCast S1x4x512 (extractStridedSlice S4x512 ![56, 0] b slices_S96x512_o56_0_S4x512) shapeCasts_S4x512_S1x4x512⟩,
  ⟨Rect.unit (s := S24x8x512) ![13, 0, 0] S1x4x512.size inb_S24x8x512_S1x4x512_13_0_0,
    shapeCast S1x4x512 (extractStridedSlice S4x512 ![52, 0] b slices_S96x512_o52_0_S4x512) shapeCasts_S4x512_S1x4x512⟩,
  ⟨Rect.unit (s := S24x8x512) ![12, 0, 0] S1x4x512.size inb_S24x8x512_S1x4x512_12_0_0,
    shapeCast S1x4x512 (extractStridedSlice S4x512 ![48, 0] b slices_S96x512_o48_0_S4x512) shapeCasts_S4x512_S1x4x512⟩,
  ⟨Rect.unit (s := S24x8x512) ![11, 0, 0] S1x4x512.size inb_S24x8x512_S1x4x512_11_0_0,
    shapeCast S1x4x512 (extractStridedSlice S4x512 ![44, 0] b slices_S96x512_o44_0_S4x512) shapeCasts_S4x512_S1x4x512⟩,
  ⟨Rect.unit (s := S24x8x512) ![10, 0, 0] S1x4x512.size inb_S24x8x512_S1x4x512_10_0_0,
    shapeCast S1x4x512 (extractStridedSlice S4x512 ![40, 0] b slices_S96x512_o40_0_S4x512) shapeCasts_S4x512_S1x4x512⟩,
  ⟨Rect.unit (s := S24x8x512) ![9, 0, 0] S1x4x512.size inb_S24x8x512_S1x4x512_9_0_0,
    shapeCast S1x4x512 (extractStridedSlice S4x512 ![36, 0] b slices_S96x512_o36_0_S4x512) shapeCasts_S4x512_S1x4x512⟩,
  ⟨Rect.unit (s := S24x8x512) ![8, 0, 0] S1x4x512.size inb_S24x8x512_S1x4x512_8_0_0,
    shapeCast S1x4x512 (extractStridedSlice S4x512 ![32, 0] b slices_S96x512_o32_0_S4x512) shapeCasts_S4x512_S1x4x512⟩,
  ⟨Rect.unit (s := S24x8x512) ![7, 0, 0] S1x4x512.size inb_S24x8x512_S1x4x512_7_0_0,
    shapeCast S1x4x512 (extractStridedSlice S4x512 ![28, 0] b slices_S96x512_o28_0_S4x512) shapeCasts_S4x512_S1x4x512⟩,
  ⟨Rect.unit (s := S24x8x512) ![6, 0, 0] S1x4x512.size inb_S24x8x512_S1x4x512_6_0_0,
    shapeCast S1x4x512 (extractStridedSlice S4x512 ![24, 0] b slices_S96x512_o24_0_S4x512) shapeCasts_S4x512_S1x4x512⟩,
  ⟨Rect.unit (s := S24x8x512) ![5, 0, 0] S1x4x512.size inb_S24x8x512_S1x4x512_5_0_0,
    shapeCast S1x4x512 (extractStridedSlice S4x512 ![20, 0] b slices_S96x512_o20_0_S4x512) shapeCasts_S4x512_S1x4x512⟩,
  ⟨Rect.unit (s := S24x8x512) ![4, 0, 0] S1x4x512.size inb_S24x8x512_S1x4x512_4_0_0,
    shapeCast S1x4x512 (extractStridedSlice S4x512 ![16, 0] b slices_S96x512_o16_0_S4x512) shapeCasts_S4x512_S1x4x512⟩,
  ⟨Rect.unit (s := S24x8x512) ![3, 0, 0] S1x4x512.size inb_S24x8x512_S1x4x512_3_0_0,
    shapeCast S1x4x512 (extractStridedSlice S4x512 ![12, 0] b slices_S96x512_o12_0_S4x512) shapeCasts_S4x512_S1x4x512⟩,
  ⟨Rect.unit (s := S24x8x512) ![2, 0, 0] S1x4x512.size inb_S24x8x512_S1x4x512_2_0_0,
    shapeCast S1x4x512 (extractStridedSlice S4x512 ![8, 0] b slices_S96x512_o8_0_S4x512) shapeCasts_S4x512_S1x4x512⟩,
  ⟨Rect.unit (s := S24x8x512) ![1, 0, 0] S1x4x512.size inb_S24x8x512_S1x4x512_1_0_0,
    shapeCast S1x4x512 (extractStridedSlice S4x512 ![4, 0] b slices_S96x512_o4_0_S4x512) shapeCasts_S4x512_S1x4x512⟩,
  ⟨Rect.unit (s := S24x8x512) ![0, 0, 0] S1x4x512.size inb_S24x8x512_S1x4x512_0_0_0,
    shapeCast S1x4x512 (extractStridedSlice S4x512 ![0, 0] b slices_S96x512_o0_0_S4x512) shapeCasts_S4x512_S1x4x512⟩]

/-- What the start of a tile writes, in closed form. -/
theorem runA_val (c : Dev nD) (i : grid0.Coords) (arg2 : Memref sig .tc .smem S24 .i32) (harg2 : arg2.IsWhole) (arg3 : Memref sig .tc .smem S1 .i32) (harg3 : arg3.IsWhole) (arg4 : Memref sig .tc .smem S25 .i32) (harg4 : arg4.IsWhole) (arg5 : Memref sig .tc .vmem S96x3584 .bf16) (harg5 : arg5.IsWhole) (arg6 : Memref sig .tc .vmem S24x16x3584 .bf16) (harg6 : arg6.IsWhole) (arg7 : Memref sig .tc .vmem S24x4x1 .f32) (harg7 : arg7.IsWhole) (arg8 : Memref sig .tc .vmem S24x4x1 .f32) (harg8 : arg8.IsWhole) (arg9 : Memref sig .tc .vmem S3584x512 .i8) (harg9 : arg9.IsWhole) (arg10 : Memref sig .tc .vmem S3584x512 .i8) (harg10 : arg10.IsWhole) (arg11 : Memref sig .tc .vmem S1x512 .f32) (harg11 : arg11.IsWhole) (arg12 : Memref sig .tc .vmem S1x512 .f32) (harg12 : arg12.IsWhole) (arg13 : Memref sig .tc .vmem S24x1x512 .f32) (harg13 : arg13.IsWhole) (arg14 : Memref sig .tc .vmem S24x1x512 .f32) (harg14 : arg14.IsWhole) (arg15 : Memref sig .tc .vmem S1x112x512 .i32) (harg15 : arg15.IsWhole) (arg16 : Memref sig .tc .vmem S1x112x512 .i32) (harg16 : arg16.IsWhole) (arg17 : Memref sig .tc .vmem S1x112x512 .i32) (harg17 : arg17.IsWhole) (arg18 : Memref sig .tc .vmem S1x112x512 .i32) (harg18 : arg18.IsWhole) (arg19 : Memref sig .tc .vmem S1x112x512 .i32) (harg19 : arg19.IsWhole) (arg20 : Memref sig .tc .vmem S1x112x512 .i32) (harg20 : arg20.IsWhole) (arg21 : Memref sig .tc .vmem S1x112x512 .i32) (harg21 : arg21.IsWhole) (arg22 : Memref sig .tc .vmem S1x112x512 .i32) (harg22 : arg22.IsWhole) (arg23 : Memref sig .tc .vmem S1x112x512 .i32) (harg23 : arg23.IsWhole) (arg24 : Memref sig .tc .vmem S1x112x512 .i32) (harg24 : arg24.IsWhole) (arg25 : Memref sig .tc .vmem S24x4x512 .f32) (harg25 : arg25.IsWhole) (arg26 : Memref sig .tc .vmem S24x8x512 .f32) (harg26 : arg26.IsWhole) (arg27 : Memref sig .tc .vmem S24x8x512 .f32) (harg27 : arg27.IsWhole)
    (x5 : Vec F S96x3584 .bf16) (x9 : Vec F S3584x512 .i8) (x10 : Vec F S3584x512 .i8) (x25 : Vec F S24x4x512 .f32) (x26 : Vec F S24x8x512 .f32) (x27 : Vec F S24x8x512 .f32) (hc1 : k0_cond1 i = 1#1) :
    (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x5 x9 x10 x25 x26 x27 hc1).1 = [⟨Rect.unit (s := S24x4x512) ![0, 0, 0] S24x4x512.size inb_S24x4x512_S24x4x512_0_0_0, k0_pay9⟩]
      ∧ (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x5 x9 x10 x25 x26 x27 hc1).2.1 = basePieces (base (View.readAt (Elt F) arg5.view (Rect.unit (s := S96x3584) ![0, 0] S96x3584.size inb_S96x3584_S96x3584_0_0).toLoadRect (harg5.unread x5)) (View.readAt (Elt F) arg9.view (Rect.unit (s := S3584x512) ![0, 0] S3584x512.size inb_S3584x512_S3584x512_0_0).toLoadRect (harg9.unread x9)))
      ∧ (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x5 x9 x10 x25 x26 x27 hc1).2.2.1 = basePieces (base (View.readAt (Elt F) arg5.view (Rect.unit (s := S96x3584) ![0, 0] S96x3584.size inb_S96x3584_S96x3584_0_0).toLoadRect (harg5.unread x5)) (View.readAt (Elt F) arg10.view (Rect.unit (s := S3584x512) ![0, 0] S3584x512.size inb_S3584x512_S3584x512_0_0).toLoadRect (harg10.unread x10))) := by
  exact ⟨rfl, rfl, rfl⟩

end Cert.GateUpIdeal.Gen

end
-- ==== Proof.GateUpIdealStep.lean ====
/-
  What the stored pieces leave, read back: a tenant's rows of the output block and of the scratch blocks.
-/
module

public import proofs.«01_k».proof.Proof.GateUpIdealRows
public import proofs.«01_k».proof.Proof.GateUpIdealRowsA
public import Idealize.ShloMosaic.Lib.WritesUnit
public import Idealize.ShloMosaic.Lib.ValueIdx

@[expose] public section

set_option maxRecDepth 16384

noncomputable section

namespace Cert.GateUpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ (UR sig nD τ) ℕ

/-- Tenant `t`'s rows lie in a block of twenty-four tenants. -/
theorem inbT (t : Fin 24) (b d B : ℕ) (hb : b ≤ B) : ∀ a : Fin 3, ![t.val, 0, 0] a + ![1, b, d] a ≤ ![24, B, d] a := by
  intro a; have := t.isLt; fin_cases a <;> simp <;> omega

/-- Tenant `t`'s four rows of a scratch block. -/
def pick4 (X : Vec F S24x8x512 .f32) (t : Fin 24) : Vec F S1x4x512 .f32 :=
  (fun y => X ((Rect.unit (s := S24x8x512) ![t.val, 0, 0] S1x4x512.size (inbT t 4 512 8 (by decide))).toLoadRect.idx y))

/-- Tenant `t`'s four rows of a base product. -/
def baseRow (b : FVec F S96x512 .f32) (t : Fin 24) : FVec F S1x4x512 .f32 :=
  shapeCast S1x4x512 (extractStridedSlice S4x512 ![4 * t.val, 0] b ⟨rfl, by have := t.isLt; intro a; fin_cases a <;> simp <;> omega⟩) shapeCasts_S4x512_S1x4x512

/-- The delta product over a sign window. -/
def deltaX (X : Vec F S1x112x512 .i32) (qv : Vec F S1x16x3584 .bf16) (sm : Vec F S1x4x1 .f32) : FVec F S4x512 .f32 :=
  delta qv sm
      (fun y => X ((Rect.unit (s := S1x112x512) ![0, 0, 0] S1x8x512.size inb_S1x112x512_S1x8x512_0_0_0).toLoadRect.idx y))
      (fun y => X ((Rect.unit (s := S1x112x512) ![0, 8, 0] S1x8x512.size inb_S1x112x512_S1x8x512_0_8_0).toLoadRect.idx y))
      (fun y => X ((Rect.unit (s := S1x112x512) ![0, 16, 0] S1x8x512.size inb_S1x112x512_S1x8x512_0_16_0).toLoadRect.idx y))
      (fun y => X ((Rect.unit (s := S1x112x512) ![0, 24, 0] S1x8x512.size inb_S1x112x512_S1x8x512_0_24_0).toLoadRect.idx y))
      (fun y => X ((Rect.unit (s := S1x112x512) ![0, 32, 0] S1x8x512.size inb_S1x112x512_S1x8x512_0_32_0).toLoadRect.idx y))
      (fun y => X ((Rect.unit (s := S1x112x512) ![0, 40, 0] S1x8x512.size inb_S1x112x512_S1x8x512_0_40_0).toLoadRect.idx y))
      (fun y => X ((Rect.unit (s := S1x112x512) ![0, 48, 0] S1x8x512.size inb_S1x112x512_S1x8x512_0_48_0).toLoadRect.idx y))
      (fun y => X ((Rect.unit (s := S1x112x512) ![0, 56, 0] S1x8x512.size inb_S1x112x512_S1x8x512_0_56_0).toLoadRect.idx y))
      (fun y => X ((Rect.unit (s := S1x112x512) ![0, 64, 0] S1x8x512.size inb_S1x112x512_S1x8x512_0_64_0).toLoadRect.idx y))
      (fun y => X ((Rect.unit (s := S1x112x512) ![0, 72, 0] S1x8x512.size inb_S1x112x512_S1x8x512_0_72_0).toLoadRect.idx y))
      (fun y => X ((Rect.unit (s := S1x112x512) ![0, 80, 0] S1x8x512.size inb_S1x112x512_S1x8x512_0_80_0).toLoadRect.idx y))
      (fun y => X ((Rect.unit (s := S1x112x512) ![0, 88, 0] S1x8x512.size inb_S1x112x512_S1x8x512_0_88_0).toLoadRect.idx y))
      (fun y => X ((Rect.unit (s := S1x112x512) ![0, 96, 0] S1x8x512.size inb_S1x112x512_S1x8x512_0_96_0).toLoadRect.idx y))
      (fun y => X ((Rect.unit (s := S1x112x512) ![0, 104, 0] S1x8x512.size inb_S1x112x512_S1x8x512_0_104_0).toLoadRect.idx y))

/-- The four rows a group step stores for tenant `t`. -/
def rowV (x6 : Vec F S24x16x3584 .bf16) (x7 : Vec F S24x4x1 .f32) (x8 : Vec F S24x4x1 .f32) (x11 : Vec F S1x512 .f32) (x12 : Vec F S1x512 .f32) (x13 : Vec F S24x1x512 .f32) (x14 : Vec F S24x1x512 .f32) (Ag Au : Vec F S1x4x512 .f32) (Xg Xu : Vec F S1x112x512 .i32)
    (t : Fin 24) : FVec F S1x4x512 .f32 :=
  rowOut (fun y => x7 ((Rect.unit (s := S24x4x1) ![t.val, 0, 0] S1x4x1.size (inbT t 4 1 4 (by decide))).toLoadRect.idx y)) Ag Au x11 x12
    (fun y => x13 ((Rect.unit (s := S24x1x512) ![t.val, 0, 0] S1x1x512.size (inbT t 1 512 1 (by decide))).toLoadRect.idx y))
    (fun y => x14 ((Rect.unit (s := S24x1x512) ![t.val, 0, 0] S1x1x512.size (inbT t 1 512 1 (by decide))).toLoadRect.idx y))
    (deltaX Xg (fun y => x6 ((Rect.unit (s := S24x16x3584) ![t.val, 0, 0] S1x16x3584.size (inbT t 16 3584 16 (by decide))).toLoadRect.idx y))
      (fun y => x8 ((Rect.unit (s := S24x4x1) ![t.val, 0, 0] S1x4x1.size (inbT t 4 1 4 (by decide))).toLoadRect.idx y)))
    (deltaX Xu (fun y => x6 ((Rect.unit (s := S24x16x3584) ![t.val, 0, 0] S1x16x3584.size (inbT t 16 3584 16 (by decide))).toLoadRect.idx y))
      (fun y => x8 ((Rect.unit (s := S24x4x1) ![t.val, 0, 0] S1x4x1.size (inbT t 4 1 4 (by decide))).toLoadRect.idx y)))

theorem ra_unread {sp : Space} {s : Shape} {e : EltTy} {m : Memref sig .tc sp s e} (h : m.IsWhole) (X : s.Idx → Elt F e)
    (B : LoadRect s) : View.readAt (Elt F) m.view B (h.unread X) = fun x => X (B.idx x) :=
  funext fun x => h.readAt_unread X B x

theorem ld_full2 {d : Fin 2 → ℕ} {e : EltTy} (X : (⟨2, d⟩ : Shape).Idx → Elt F e) (inb : ∀ a : Fin 2, ![0, 0] a + d a ≤ d a) :
    (fun y => X ((Rect.unit (s := ⟨2, d⟩) ![0, 0] d inb).toLoadRect.idx y)) = X := by
  funext y
  exact congrArg X (funext fun a => Fin.ext (by
    show ![0, 0] a + 1 * (y a).val = (y a).val
    fin_cases a <;> simp))

/-- A stored piece by its pure contents. -/
theorem pieceW_eq (arg6 : Memref sig .tc .vmem S24x16x3584 .bf16) (harg6 : arg6.IsWhole) (x6 : Vec F S24x16x3584 .bf16) (arg7 : Memref sig .tc .vmem S24x4x1 .f32) (harg7 : arg7.IsWhole) (x7 : Vec F S24x4x1 .f32) (arg8 : Memref sig .tc .vmem S24x4x1 .f32) (harg8 : arg8.IsWhole) (x8 : Vec F S24x4x1 .f32) (arg11 : Memref sig .tc .vmem S1x512 .f32) (harg11 : arg11.IsWhole) (x11 : Vec F S1x512 .f32) (arg12 : Memref sig .tc .vmem S1x512 .f32) (harg12 : arg12.IsWhole) (x12 : Vec F S1x512 .f32) (arg13 : Memref sig .tc .vmem S24x1x512 .f32) (harg13 : arg13.IsWhole) (x13 : Vec F S24x1x512 .f32) (arg14 : Memref sig .tc .vmem S24x1x512 .f32) (harg14 : arg14.IsWhole) (x14 : Vec F S24x1x512 .f32) (arg26 : Memref sig .tc .vmem S24x8x512 .f32) (harg26 : arg26.IsWhole) (x26 : Vec F S24x8x512 .f32) (arg27 : Memref sig .tc .vmem S24x8x512 .f32) (harg27 : arg27.IsWhole) (x27 : Vec F S24x8x512 .f32)
    (mg : Memref sig .tc .vmem S1x112x512 .i32) (hmg : mg.IsWhole) (Xg : Vec F S1x112x512 .i32)
    (mu : Memref sig .tc .vmem S1x112x512 .i32) (hmu : mu.IsWhole) (Xu : Vec F S1x112x512 .i32)
    (w : BitVec 32) (hw : w.toNat < 24) :
    pieceW arg6 harg6 x6 arg7 harg7 x7 arg8 harg8 x8 arg11 harg11 x11 arg12 harg12 x12 arg13 harg13 x13 arg14 harg14 x14 arg26 harg26 x26 arg27 harg27 x27 mg hmg Xg mu hmu Xu w hw
      = ⟨Rect.unit (s := S24x4x512) ![w.toNat, 0, 0] S1x4x512.size (inbT ⟨w.toNat, hw⟩ 4 512 4 (by decide)),
          rowV x6 x7 x8 x11 x12 x13 x14 (pick4 x26 ⟨w.toNat, hw⟩) (pick4 x27 ⟨w.toNat, hw⟩) Xg Xu ⟨w.toNat, hw⟩⟩ := by
  unfold pieceW deltaM rowV pick4 deltaX
  simp only [ra_unread, ld_full2]
  rfl

/-- The same at a named tenant. -/
theorem pieceW_eq' (arg6 : Memref sig .tc .vmem S24x16x3584 .bf16) (harg6 : arg6.IsWhole) (x6 : Vec F S24x16x3584 .bf16) (arg7 : Memref sig .tc .vmem S24x4x1 .f32) (harg7 : arg7.IsWhole) (x7 : Vec F S24x4x1 .f32) (arg8 : Memref sig .tc .vmem S24x4x1 .f32) (harg8 : arg8.IsWhole) (x8 : Vec F S24x4x1 .f32) (arg11 : Memref sig .tc .vmem S1x512 .f32) (harg11 : arg11.IsWhole) (x11 : Vec F S1x512 .f32) (arg12 : Memref sig .tc .vmem S1x512 .f32) (harg12 : arg12.IsWhole) (x12 : Vec F S1x512 .f32) (arg13 : Memref sig .tc .vmem S24x1x512 .f32) (harg13 : arg13.IsWhole) (x13 : Vec F S24x1x512 .f32) (arg14 : Memref sig .tc .vmem S24x1x512 .f32) (harg14 : arg14.IsWhole) (x14 : Vec F S24x1x512 .f32) (arg26 : Memref sig .tc .vmem S24x8x512 .f32) (harg26 : arg26.IsWhole) (x26 : Vec F S24x8x512 .f32) (arg27 : Memref sig .tc .vmem S24x8x512 .f32) (harg27 : arg27.IsWhole) (x27 : Vec F S24x8x512 .f32)
    (mg : Memref sig .tc .vmem S1x112x512 .i32) (hmg : mg.IsWhole) (Xg : Vec F S1x112x512 .i32)
    (mu : Memref sig .tc .vmem S1x112x512 .i32) (hmu : mu.IsWhole) (Xu : Vec F S1x112x512 .i32)
    (w : BitVec 32) (hw : w.toNat < 24) (t : Fin 24) (h : w.toNat = t.val) :
    pieceW arg6 harg6 x6 arg7 harg7 x7 arg8 harg8 x8 arg11 harg11 x11 arg12 harg12 x12 arg13 harg13 x13 arg14 harg14 x14 arg26 harg26 x26 arg27 harg27 x27 mg hmg Xg mu hmu Xu w hw
      = ⟨Rect.unit (s := S24x4x512) ![t.val, 0, 0] S1x4x512.size (inbT t 4 512 4 (by decide)),
          rowV x6 x7 x8 x11 x12 x13 x14 (pick4 x26 t) (pick4 x27 t) Xg Xu t⟩ := by
  obtain rfl : t = ⟨w.toNat, hw⟩ := Fin.ext h.symm
  exact pieceW_eq arg6 harg6 x6 arg7 harg7 x7 arg8 harg8 x8 arg11 harg11 x11 arg12 harg12 x12 arg13 harg13 x13 arg14 harg14 x14 arg26 harg26 x26 arg27 harg27 x27 mg hmg Xg mu hmu Xu w hw

/-- An output block with tenant `t`'s rows replaced. -/
def putRow (t : Fin 24) (R : FVec F S1x4x512 .f32) (Y : Vec F S24x4x512 .f32) : Vec F S24x4x512 .f32 := fun y =>
  if (y (0 : Fin 3)).val = t.val then R (ix3 (0 : Fin 1) (y (1 : Fin 3)) (y (2 : Fin 3))) else Y y

/-- Reading past a stored tenant's rows. -/
theorem read_putRow {m : Memref sig .tc .vmem S24x4x512 .f32} (f : m.view.ty.Contents (Elt F)) (t : Fin 24)
    (inb : ∀ a : Fin 3, ![t.val, 0, 0] a + S1x4x512.size a ≤ S24x4x512.size a) (R : FVec F S1x4x512 .f32) (L : List (View.Piece (Elt F) S24x4x512 .f32)) :
    m.view.read (Elt F) (m.view.writes (Elt F) f (⟨Rect.unit (s := S24x4x512) ![t.val, 0, 0] S1x4x512.size inb, R⟩ :: L))
      = putRow t R (m.view.read (Elt F) (m.view.writes (Elt F) f L)) := by
  funext y
  unfold putRow
  by_cases h : (y (0 : Fin 3)).val = t.val
  · rw [if_pos h]
    refine View.read_writes_cons_unit_of_mem m.view f inb R L y (ix3 (0 : Fin 1) (y (1 : Fin 3)) (y (2 : Fin 3))) rfl ?_
    intro a; fin_cases a
    · exact h
    · exact (Nat.zero_add _).symm
    · exact (Nat.zero_add _).symm
  · rw [if_neg h]
    refine View.read_writes_cons_unit_of_not_mem m.view f inb R L y rfl (0 : Fin 3) ?_
    show (y (0 : Fin 3)).val < t.val ∨ t.val + 1 ≤ (y (0 : Fin 3)).val
    omega

/-- Reading past a group step's stored piece. -/
theorem read_pieceW {m : Memref sig .tc .vmem S24x4x512 .f32} (f : m.view.ty.Contents (Elt F)) (L : List (View.Piece (Elt F) S24x4x512 .f32))
    (arg6 : Memref sig .tc .vmem S24x16x3584 .bf16) (harg6 : arg6.IsWhole) (x6 : Vec F S24x16x3584 .bf16) (arg7 : Memref sig .tc .vmem S24x4x1 .f32) (harg7 : arg7.IsWhole) (x7 : Vec F S24x4x1 .f32) (arg8 : Memref sig .tc .vmem S24x4x1 .f32) (harg8 : arg8.IsWhole) (x8 : Vec F S24x4x1 .f32) (arg11 : Memref sig .tc .vmem S1x512 .f32) (harg11 : arg11.IsWhole) (x11 : Vec F S1x512 .f32) (arg12 : Memref sig .tc .vmem S1x512 .f32) (harg12 : arg12.IsWhole) (x12 : Vec F S1x512 .f32) (arg13 : Memref sig .tc .vmem S24x1x512 .f32) (harg13 : arg13.IsWhole) (x13 : Vec F S24x1x512 .f32) (arg14 : Memref sig .tc .vmem S24x1x512 .f32) (harg14 : arg14.IsWhole) (x14 : Vec F S24x1x512 .f32) (arg26 : Memref sig .tc .vmem S24x8x512 .f32) (harg26 : arg26.IsWhole) (x26 : Vec F S24x8x512 .f32) (arg27 : Memref sig .tc .vmem S24x8x512 .f32) (harg27 : arg27.IsWhole) (x27 : Vec F S24x8x512 .f32)
    (mg : Memref sig .tc .vmem S1x112x512 .i32) (hmg : mg.IsWhole) (Xg : Vec F S1x112x512 .i32)
    (mu : Memref sig .tc .vmem S1x112x512 .i32) (hmu : mu.IsWhole) (Xu : Vec F S1x112x512 .i32)
    (w : BitVec 32) (hw : w.toNat < 24) (t : Fin 24) (h : w.toNat = t.val) (Y : Vec F S24x4x512 .f32)
    (hY : m.view.read (Elt F) (m.view.writes (Elt F) f L) = Y) :
    m.view.read (Elt F) (m.view.writes (Elt F) f
        (pieceW arg6 harg6 x6 arg7 harg7 x7 arg8 harg8 x8 arg11 harg11 x11 arg12 harg12 x12 arg13 harg13 x13 arg14 harg14 x14 arg26 harg26 x26 arg27 harg27 x27 mg hmg Xg mu hmu Xu w hw :: L))
      = putRow t (rowV x6 x7 x8 x11 x12 x13 x14 (pick4 x26 t) (pick4 x27 t) Xg Xu t) Y := by
  rw [pieceW_eq' (h := h), read_putRow, hY]

/-- The pieces that keep a base product, by tenant. -/
theorem basePieces_eq (b : FVec F S96x512 .f32) :
    basePieces b = (List.finRange 24).reverse.map fun t =>
      (⟨Rect.unit (s := S24x8x512) ![t.val, 0, 0] S1x4x512.size (inbT t 4 512 8 (by decide)), baseRow b t⟩ :
        View.Piece (Elt F) S24x8x512 .f32) := by
  rfl

/-- A tenant's rows read back from its piece. -/
theorem pick4_writes {m : Memref sig .tc .vmem S24x8x512 .f32} (f : m.view.ty.Contents (Elt F)) (R : Fin 24 → FVec F S1x4x512 .f32) (t : Fin 24) :
    ∀ (l : List (Fin 24)), t ∈ l → pick4 (m.view.read (Elt F) (m.view.writes (Elt F) f (l.map fun t =>
      (⟨Rect.unit (s := S24x8x512) ![t.val, 0, 0] S1x4x512.size (inbT t 4 512 8 (by decide)), R t⟩ :
        View.Piece (Elt F) S24x8x512 .f32)))) t = R t
  | [], h => absurd h (by simp)
  | u :: l, h => by
      by_cases e : u = t
      · subst e
        funext y
        exact View.read_writes_cons_unit_of_mem m.view f _ (R u) _ _ y rfl fun a => by
          show ![u.val, 0, 0] a + 1 * (y a).val = _
          rw [Nat.one_mul]
      · rw [← pick4_writes f R t l ((List.mem_cons.mp h).resolve_left (fun h => e h.symm))]
        funext y
        refine View.read_writes_cons_unit_of_not_mem m.view f _ (R u) _ _ rfl (0 : Fin 3) ?_
        have h0 : (y (0 : Fin 3)).val = 0 := Nat.lt_one_iff.mp (y (0 : Fin 3)).isLt
        have : u.val ≠ t.val := fun e' => e (Fin.ext e')
        show t.val + 1 * (y (0 : Fin 3)).val < u.val ∨ u.val + 1 ≤ t.val + 1 * (y (0 : Fin 3)).val
        omega

theorem pick4_base {m : Memref sig .tc .vmem S24x8x512 .f32} (f : m.view.ty.Contents (Elt F)) (b : FVec F S96x512 .f32) (t : Fin 24) :
    pick4 (m.view.read (Elt F) (m.view.writes (Elt F) f (basePieces b))) t = baseRow b t := by
  rw [basePieces_eq]
  exact pick4_writes f (baseRow b) t _ (by simp)

theorem read_zero {m : Memref sig .tc .vmem S24x4x512 .f32} (f : m.view.ty.Contents (Elt F)) (R : FVec F S24x4x512 .f32)
    (inb : ∀ a : Fin 3, ![0, 0, 0] a + S24x4x512.size a ≤ S24x4x512.size a) :
    m.view.read (Elt F) (m.view.writes (Elt F) f [⟨Rect.unit (s := S24x4x512) ![0, 0, 0] S24x4x512.size inb, R⟩]) = R := by
  funext y
  exact View.read_writes_cons_unit_of_mem m.view f inb R [] y y rfl fun a => by
    fin_cases a <;> exact (Nat.zero_add _).symm

end Cert.GateUpIdeal.Gen

end
-- ==== Proof.GateUpIdealStepRun.lean ====
/-
  The runs of a grid point's two programs with what they leave in closed form.
-/
module

public import proofs.«01_k».proof.Proof.GateUpIdealStep
public import Idealize.ShloMosaic.Lib.WritesUnit

@[expose] public section

set_option maxRecDepth 16384

noncomputable section

namespace Cert.GateUpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ (UR sig nD τ) ℕ

theorem congr_cons {α : Type _} {a b : α} {l m : List α} (h : a = b) (h' : l = m) : a :: l = b :: m := by rw [h, h']

set_option maxHeartbeats 4000000 in
/-- A group's run, its output block in closed form. -/
theorem runB_wp (c : Dev nD) (i : grid0.Coords) (arg2 : Memref sig .tc .smem S24 .i32) (harg2 : arg2.IsWhole) (arg3 : Memref sig .tc .smem S1 .i32) (harg3 : arg3.IsWhole) (arg4 : Memref sig .tc .smem S25 .i32) (harg4 : arg4.IsWhole) (arg5 : Memref sig .tc .vmem S96x3584 .bf16) (harg5 : arg5.IsWhole) (arg6 : Memref sig .tc .vmem S24x16x3584 .bf16) (harg6 : arg6.IsWhole) (arg7 : Memref sig .tc .vmem S24x4x1 .f32) (harg7 : arg7.IsWhole) (arg8 : Memref sig .tc .vmem S24x4x1 .f32) (harg8 : arg8.IsWhole) (arg9 : Memref sig .tc .vmem S3584x512 .i8) (harg9 : arg9.IsWhole) (arg10 : Memref sig .tc .vmem S3584x512 .i8) (harg10 : arg10.IsWhole) (arg11 : Memref sig .tc .vmem S1x512 .f32) (harg11 : arg11.IsWhole) (arg12 : Memref sig .tc .vmem S1x512 .f32) (harg12 : arg12.IsWhole) (arg13 : Memref sig .tc .vmem S24x1x512 .f32) (harg13 : arg13.IsWhole) (arg14 : Memref sig .tc .vmem S24x1x512 .f32) (harg14 : arg14.IsWhole) (arg15 : Memref sig .tc .vmem S1x112x512 .i32) (harg15 : arg15.IsWhole) (arg16 : Memref sig .tc .vmem S1x112x512 .i32) (harg16 : arg16.IsWhole) (arg17 : Memref sig .tc .vmem S1x112x512 .i32) (harg17 : arg17.IsWhole) (arg18 : Memref sig .tc .vmem S1x112x512 .i32) (harg18 : arg18.IsWhole) (arg19 : Memref sig .tc .vmem S1x112x512 .i32) (harg19 : arg19.IsWhole) (arg20 : Memref sig .tc .vmem S1x112x512 .i32) (harg20 : arg20.IsWhole) (arg21 : Memref sig .tc .vmem S1x112x512 .i32) (harg21 : arg21.IsWhole) (arg22 : Memref sig .tc .vmem S1x112x512 .i32) (harg22 : arg22.IsWhole) (arg23 : Memref sig .tc .vmem S1x112x512 .i32) (harg23 : arg23.IsWhole) (arg24 : Memref sig .tc .vmem S1x112x512 .i32) (harg24 : arg24.IsWhole) (arg25 : Memref sig .tc .vmem S24x4x512 .f32) (harg25 : arg25.IsWhole) (arg26 : Memref sig .tc .vmem S24x8x512 .f32) (harg26 : arg26.IsWhole) (arg27 : Memref sig .tc .vmem S24x8x512 .f32) (harg27 : arg27.IsWhole)
    (x6 : Vec F S24x16x3584 .bf16) (x7 : Vec F S24x4x1 .f32) (x8 : Vec F S24x4x1 .f32) (x11 : Vec F S1x512 .f32) (x12 : Vec F S1x512 .f32) (x13 : Vec F S24x1x512 .f32) (x14 : Vec F S24x1x512 .f32) (x15 : Vec F S1x112x512 .i32) (x16 : Vec F S1x112x512 .i32) (x17 : Vec F S1x112x512 .i32) (x18 : Vec F S1x112x512 .i32) (x19 : Vec F S1x112x512 .i32) (x20 : Vec F S1x112x512 .i32) (x21 : Vec F S1x112x512 .i32) (x22 : Vec F S1x112x512 .i32) (x23 : Vec F S1x112x512 .i32) (x24 : Vec F S1x112x512 .i32) (x25 : Vec F S24x4x512 .f32) (x26 : Vec F S24x8x512 .f32) (x27 : Vec F S24x8x512 .f32)
    (f2 : Buf (Elt F) (arg2.view.loc (c : Thread nD τ))) (f3 : Buf (Elt F) (arg3.view.loc (c : Thread nD τ)))
    (hc2 : ∀ r y, k0_cond2 i (View.readAt (Elt F) arg3.view r f3 y) = 1#1)
    (hk1 : ∀ r y r' y', k0_chk1 i (View.readAt (Elt F) arg3.view r f3 y) (View.readAt (Elt F) arg3.view r' f3 y'))
    (hk3 : ∀ r y r' y', k0_chk3 i (View.readAt (Elt F) arg3.view r f3 y) (View.readAt (Elt F) arg3.view r' f3 y'))
    (hk5 : ∀ r y r' y', k0_chk5 i (View.readAt (Elt F) arg3.view r f3 y) (View.readAt (Elt F) arg3.view r' f3 y'))
    (hk7 : ∀ r y r' y', k0_chk7 i (View.readAt (Elt F) arg3.view r f3 y) (View.readAt (Elt F) arg3.view r' f3 y'))
    (hk9 : ∀ r y r' y', k0_chk9 i (View.readAt (Elt F) arg3.view r f3 y) (View.readAt (Elt F) arg3.view r' f3 y'))
    (hk2 : ∀ r y r' y', k0_chk2 i (View.readAt (Elt F) arg3.view r f3 y) (View.readAt (Elt F) arg2.view r' f2 y'))
    (hk4 : ∀ r y r' y', k0_chk4 i (View.readAt (Elt F) arg3.view r f3 y) (View.readAt (Elt F) arg2.view r' f2 y'))
    (hk6 : ∀ r y r' y', k0_chk6 i (View.readAt (Elt F) arg3.view r f3 y) (View.readAt (Elt F) arg2.view r' f2 y'))
    (hk8 : ∀ r y r' y', k0_chk8 i (View.readAt (Elt F) arg3.view r f3 y) (View.readAt (Elt F) arg2.view r' f2 y'))
    (hk10 : ∀ r y r' y', k0_chk10 i (View.readAt (Elt F) arg3.view r f3 y) (View.readAt (Elt F) arg2.view r' f2 y'))
    (hw : ∀ r y, BitVec.toNat (View.readAt (Elt F) arg2.view r f2 y) < 24)
    (t0 t1 t2 t3 t4 : Fin 24)
    (ht0 : ∀ inb, (tWord arg2 f2 (k0_off2 i (nWord arg3 f3)) inb).toNat = t0.val)
    (ht1 : ∀ inb, (tWord arg2 f2 (k0_off8 i (nWord arg3 f3)) inb).toNat = t1.val)
    (ht2 : ∀ inb, (tWord arg2 f2 (k0_off14 i (nWord arg3 f3)) inb).toNat = t2.val)
    (ht3 : ∀ inb, (tWord arg2 f2 (k0_off20 i (nWord arg3 f3)) inb).toNat = t3.val)
    (ht4 : ∀ inb, (tWord arg2 f2 (k0_off26 i (nWord arg3 f3)) inb).toNat = t4.val)
    (q2 q3 q6 q7 q8 q11 q12 q13 q14 q15 q16 q17 q18 q19 q20 q21 q22 q23 q24 : PosShare TreeShare) (E : Set ℕ) (K : PUnit → sProp 𝕄) :
    iprop((arg2.view.loc (c : Thread nD τ) ↦{q2} f2) ∗ (arg3.view.loc (c : Thread nD τ) ↦{q3} f3) ∗ (arg6.view.loc (c : Thread nD τ) ↦{q6} harg6.unread x6) ∗ (arg7.view.loc (c : Thread nD τ) ↦{q7} harg7.unread x7) ∗ (arg8.view.loc (c : Thread nD τ) ↦{q8} harg8.unread x8) ∗ (arg11.view.loc (c : Thread nD τ) ↦{q11} harg11.unread x11) ∗ (arg12.view.loc (c : Thread nD τ) ↦{q12} harg12.unread x12) ∗ (arg13.view.loc (c : Thread nD τ) ↦{q13} harg13.unread x13) ∗ (arg14.view.loc (c : Thread nD τ) ↦{q14} harg14.unread x14) ∗ (arg15.view.loc (c : Thread nD τ) ↦{q15} harg15.unread x15) ∗ (arg16.view.loc (c : Thread nD τ) ↦{q16} harg16.unread x16) ∗ (arg17.view.loc (c : Thread nD τ) ↦{q17} harg17.unread x17) ∗ (arg18.view.loc (c : Thread nD τ) ↦{q18} harg18.unread x18) ∗ (arg19.view.loc (c : Thread nD τ) ↦{q19} harg19.unread x19) ∗ (arg20.view.loc (c : Thread nD τ) ↦{q20} harg20.unread x20) ∗ (arg21.view.loc (c : Thread nD τ) ↦{q21} harg21.unread x21) ∗ (arg22.view.loc (c : Thread nD τ) ↦{q22} harg22.unread x22) ∗ (arg23.view.loc (c : Thread nD τ) ↦{q23} harg23.unread x23) ∗ (arg24.view.loc (c : Thread nD τ) ↦{q24} harg24.unread x24) ∗ (arg25.view.loc (c : Thread nD τ) ↦{fullShare} harg25.unread x25) ∗ (arg26.view.loc (c : Thread nD τ) ↦{fullShare} harg26.unread x26) ∗ (arg27.view.loc (c : Thread nD τ) ↦{fullShare} harg27.unread x27) ∗ (iprop((arg2.view.loc (c : Thread nD τ) ↦{q2} f2) ∗ (arg3.view.loc (c : Thread nD τ) ↦{q3} f3) ∗ (arg6.view.loc (c : Thread nD τ) ↦{q6} harg6.unread x6) ∗ (arg7.view.loc (c : Thread nD τ) ↦{q7} harg7.unread x7) ∗ (arg8.view.loc (c : Thread nD τ) ↦{q8} harg8.unread x8) ∗ (arg11.view.loc (c : Thread nD τ) ↦{q11} harg11.unread x11) ∗ (arg12.view.loc (c : Thread nD τ) ↦{q12} harg12.unread x12) ∗ (arg13.view.loc (c : Thread nD τ) ↦{q13} harg13.unread x13) ∗ (arg14.view.loc (c : Thread nD τ) ↦{q14} harg14.unread x14) ∗ (arg15.view.loc (c : Thread nD τ) ↦{q15} harg15.unread x15) ∗ (arg16.view.loc (c : Thread nD τ) ↦{q16} harg16.unread x16) ∗ (arg17.view.loc (c : Thread nD τ) ↦{q17} harg17.unread x17) ∗ (arg18.view.loc (c : Thread nD τ) ↦{q18} harg18.unread x18) ∗ (arg19.view.loc (c : Thread nD τ) ↦{q19} harg19.unread x19) ∗ (arg20.view.loc (c : Thread nD τ) ↦{q20} harg20.unread x20) ∗ (arg21.view.loc (c : Thread nD τ) ↦{q21} harg21.unread x21) ∗ (arg22.view.loc (c : Thread nD τ) ↦{q22} harg22.unread x22) ∗ (arg23.view.loc (c : Thread nD τ) ↦{q23} harg23.unread x23) ∗ (arg24.view.loc (c : Thread nD τ) ↦{q24} harg24.unread x24) ∗ (arg25.view.loc (c : Thread nD τ) ↦{fullShare} harg25.unread (putRow t4
      (rowV x6 x7 x8 x11 x12 x13 x14 (pick4 x26 t4) (pick4 x27 t4) x19 x24 t4)
      (putRow t3
      (rowV x6 x7 x8 x11 x12 x13 x14 (pick4 x26 t3) (pick4 x27 t3) x18 x23 t3)
      (putRow t2
      (rowV x6 x7 x8 x11 x12 x13 x14 (pick4 x26 t2) (pick4 x27 t2) x17 x22 t2)
      (putRow t1
      (rowV x6 x7 x8 x11 x12 x13 x14 (pick4 x26 t1) (pick4 x27 t1) x16 x21 t1)
      (putRow t0
      (rowV x6 x7 x8 x11 x12 x13 x14 (pick4 x26 t0) (pick4 x27 t0) x15 x20 t0)
      x25)))))) ∗ (arg26.view.loc (c : Thread nD τ) ↦{fullShare} harg26.unread x26) ∗ (arg27.view.loc (c : Thread nD τ) ↦{fullShare} harg27.unread x27)) -∗ K ⟨⟩))
      ⊢ wp frame (wpE (defs₀ (F := F)) Variants.none c none) E (bodyB (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  have hY : arg25.view.writes (Elt F) (harg25.unread x25) (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x6 x7 x8 x11 x12 x13 x14 x15 x16 x17 x18 x19 x20 x21 x22 x23 x24 x25 x26 x27 f2 f3 hc2 hk1 hk3 hk5 hk7 hk9 hk2 hk4 hk6 hk8 hk10).1 = harg25.unread (putRow t4
      (rowV x6 x7 x8 x11 x12 x13 x14 (pick4 x26 t4) (pick4 x27 t4) x19 x24 t4)
      (putRow t3
      (rowV x6 x7 x8 x11 x12 x13 x14 (pick4 x26 t3) (pick4 x27 t3) x18 x23 t3)
      (putRow t2
      (rowV x6 x7 x8 x11 x12 x13 x14 (pick4 x26 t2) (pick4 x27 t2) x17 x22 t2)
      (putRow t1
      (rowV x6 x7 x8 x11 x12 x13 x14 (pick4 x26 t1) (pick4 x27 t1) x16 x21 t1)
      (putRow t0
      (rowV x6 x7 x8 x11 x12 x13 x14 (pick4 x26 t0) (pick4 x27 t0) x15 x20 t0)
      x25))))) :=
    (congrArg (arg25.view.writes (Elt F) (harg25.unread x25)) (runB_val c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x6 x7 x8 x11 x12 x13 x14 x15 x16 x17 x18 x19 x20 x21 x22 x23 x24 x25 x26 x27 f2 f3 hc2 hk1 hk3 hk5 hk7 hk9 hk2 hk4 hk6 hk8 hk10 hw)).trans
      (harg25.eq_unread (read_pieceW _ _ _ _ _ _ _ _ _ _ _ _ _ _ _ _ _ _ _ _ _ _ _ _ _ _ _ _ _ _ _ _ _ _ _ _ _ t4 (ht4 _) _ (read_pieceW _ _ _ _ _ _ _ _ _ _ _ _ _ _ _ _ _ _ _ _ _ _ _ _ _ _ _ _ _ _ _ _ _ _ _ _ _ t3 (ht3 _) _ (read_pieceW _ _ _ _ _ _ _ _ _ _ _ _ _ _ _ _ _ _ _ _ _ _ _ _ _ _ _ _ _ _ _ _ _ _ _ _ _ t2 (ht2 _) _ (read_pieceW _ _ _ _ _ _ _ _ _ _ _ _ _ _ _ _ _ _ _ _ _ _ _ _ _ _ _ _ _ _ _ _ _ _ _ _ _ t1 (ht1 _) _ (read_pieceW _ _ _ _ _ _ _ _ _ _ _ _ _ _ _ _ _ _ _ _ _ _ _ _ _ _ _ _ _ _ _ _ _ _ _ _ _ t0 (ht0 _) _ (by rw [View.writes_nil]; exact harg25.read_unread _)))))))
  have h := (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x6 x7 x8 x11 x12 x13 x14 x15 x16 x17 x18 x19 x20 x21 x22 x23 x24 x25 x26 x27 f2 f3 hc2 hk1 hk3 hk5 hk7 hk9 hk2 hk4 hk6 hk8 hk10).2 q2 q3 q6 q7 q8 q11 q12 q13 q14 q15 q16 q17 q18 q19 q20 q21 q22 q23 q24 E K
  rw [hY] at h
  exact h

set_option maxHeartbeats 4000000 in
/-- The start of a tile, its effect in closed form. -/
theorem runA_wp (c : Dev nD) (i : grid0.Coords) (arg2 : Memref sig .tc .smem S24 .i32) (harg2 : arg2.IsWhole) (arg3 : Memref sig .tc .smem S1 .i32) (harg3 : arg3.IsWhole) (arg4 : Memref sig .tc .smem S25 .i32) (harg4 : arg4.IsWhole) (arg5 : Memref sig .tc .vmem S96x3584 .bf16) (harg5 : arg5.IsWhole) (arg6 : Memref sig .tc .vmem S24x16x3584 .bf16) (harg6 : arg6.IsWhole) (arg7 : Memref sig .tc .vmem S24x4x1 .f32) (harg7 : arg7.IsWhole) (arg8 : Memref sig .tc .vmem S24x4x1 .f32) (harg8 : arg8.IsWhole) (arg9 : Memref sig .tc .vmem S3584x512 .i8) (harg9 : arg9.IsWhole) (arg10 : Memref sig .tc .vmem S3584x512 .i8) (harg10 : arg10.IsWhole) (arg11 : Memref sig .tc .vmem S1x512 .f32) (harg11 : arg11.IsWhole) (arg12 : Memref sig .tc .vmem S1x512 .f32) (harg12 : arg12.IsWhole) (arg13 : Memref sig .tc .vmem S24x1x512 .f32) (harg13 : arg13.IsWhole) (arg14 : Memref sig .tc .vmem S24x1x512 .f32) (harg14 : arg14.IsWhole) (arg15 : Memref sig .tc .vmem S1x112x512 .i32) (harg15 : arg15.IsWhole) (arg16 : Memref sig .tc .vmem S1x112x512 .i32) (harg16 : arg16.IsWhole) (arg17 : Memref sig .tc .vmem S1x112x512 .i32) (harg17 : arg17.IsWhole) (arg18 : Memref sig .tc .vmem S1x112x512 .i32) (harg18 : arg18.IsWhole) (arg19 : Memref sig .tc .vmem S1x112x512 .i32) (harg19 : arg19.IsWhole) (arg20 : Memref sig .tc .vmem S1x112x512 .i32) (harg20 : arg20.IsWhole) (arg21 : Memref sig .tc .vmem S1x112x512 .i32) (harg21 : arg21.IsWhole) (arg22 : Memref sig .tc .vmem S1x112x512 .i32) (harg22 : arg22.IsWhole) (arg23 : Memref sig .tc .vmem S1x112x512 .i32) (harg23 : arg23.IsWhole) (arg24 : Memref sig .tc .vmem S1x112x512 .i32) (harg24 : arg24.IsWhole) (arg25 : Memref sig .tc .vmem S24x4x512 .f32) (harg25 : arg25.IsWhole) (arg26 : Memref sig .tc .vmem S24x8x512 .f32) (harg26 : arg26.IsWhole) (arg27 : Memref sig .tc .vmem S24x8x512 .f32) (harg27 : arg27.IsWhole)
    (x5 : Vec F S96x3584 .bf16) (x9 : Vec F S3584x512 .i8) (x10 : Vec F S3584x512 .i8) (x25 : Vec F S24x4x512 .f32) (x26 : Vec F S24x8x512 .f32) (x27 : Vec F S24x8x512 .f32) (hc1 : k0_cond1 i = 1#1)
    (q5 q9 q10 : PosShare TreeShare) (E : Set ℕ) (K : PUnit → sProp 𝕄) :
    iprop((arg5.view.loc (c : Thread nD τ) ↦{q5} harg5.unread x5) ∗ (arg9.view.loc (c : Thread nD τ) ↦{q9} harg9.unread x9) ∗ (arg10.view.loc (c : Thread nD τ) ↦{q10} harg10.unread x10) ∗ (arg25.view.loc (c : Thread nD τ) ↦{fullShare} harg25.unread x25) ∗ (arg26.view.loc (c : Thread nD τ) ↦{fullShare} harg26.unread x26) ∗ (arg27.view.loc (c : Thread nD τ) ↦{fullShare} harg27.unread x27) ∗ (∀ x26' x27', ⌜(∀ t, pick4 x26' t = baseRow (base x5 x9) t) ∧ (∀ t, pick4 x27' t = baseRow (base x5 x10) t)⌝ -∗
        iprop((arg5.view.loc (c : Thread nD τ) ↦{q5} harg5.unread x5) ∗ (arg9.view.loc (c : Thread nD τ) ↦{q9} harg9.unread x9) ∗ (arg10.view.loc (c : Thread nD τ) ↦{q10} harg10.unread x10) ∗ (arg25.view.loc (c : Thread nD τ) ↦{fullShare} harg25.unread k0_pay9) ∗ (arg26.view.loc (c : Thread nD τ) ↦{fullShare} harg26.unread x26') ∗ (arg27.view.loc (c : Thread nD τ) ↦{fullShare} harg27.unread x27')) -∗ K ⟨⟩))
      ⊢ wp frame (wpE (defs₀ (F := F)) Variants.none c none) E (bodyA (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  have h := (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x5 x9 x10 x25 x26 x27 hc1).2.2.2 q5 q9 q10 E K
  obtain ⟨h1, h2, h3⟩ := runA_val c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x5 x9 x10 x25 x26 x27 hc1
  generalize runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x5 x9 x10 x25 x26 x27 hc1 = R at h h1 h2 h3
  obtain ⟨L25, L26, L27, hrun⟩ := R
  have b9 : base (View.readAt (Elt F) arg5.view (Rect.unit (s := S96x3584) ![0, 0] S96x3584.size inb_S96x3584_S96x3584_0_0).toLoadRect (harg5.unread x5)) (View.readAt (Elt F) arg9.view (Rect.unit (s := S3584x512) ![0, 0] S3584x512.size inb_S3584x512_S3584x512_0_0).toLoadRect (harg9.unread x9)) = base x5 x9 := by
    rw [ra_unread, ra_unread]; exact congrArg₂ base (ld_full2 _ _) (ld_full2 _ _)
  have b10 : base (View.readAt (Elt F) arg5.view (Rect.unit (s := S96x3584) ![0, 0] S96x3584.size inb_S96x3584_S96x3584_0_0).toLoadRect (harg5.unread x5)) (View.readAt (Elt F) arg10.view (Rect.unit (s := S3584x512) ![0, 0] S3584x512.size inb_S3584x512_S3584x512_0_0).toLoadRect (harg10.unread x10)) = base x5 x10 := by
    rw [ra_unread, ra_unread]; exact congrArg₂ base (ld_full2 _ _) (ld_full2 _ _)
  have hY25 : arg25.view.writes (Elt F) (harg25.unread x25) L25 = harg25.unread k0_pay9 :=
    (congrArg (arg25.view.writes (Elt F) (harg25.unread x25)) h1).trans (harg25.eq_unread (read_zero _ _ _))
  have hY26 : arg26.view.writes (Elt F) (harg26.unread x26) L26
      = harg26.unread (arg26.view.read (Elt F) (arg26.view.writes (Elt F) (harg26.unread x26) (basePieces (base x5 x9)))) :=
    (congrArg (arg26.view.writes (Elt F) (harg26.unread x26)) (h2.trans (congrArg basePieces b9))).trans (harg26.unread_read _).symm
  have hY27 : arg27.view.writes (Elt F) (harg27.unread x27) L27
      = harg27.unread (arg27.view.read (Elt F) (arg27.view.writes (Elt F) (harg27.unread x27) (basePieces (base x5 x10)))) :=
    (congrArg (arg27.view.writes (Elt F) (harg27.unread x27)) (h3.trans (congrArg basePieces b10))).trans (harg27.unread_read _).symm
  have h : iprop((arg5.view.loc (c : Thread nD τ) ↦{q5} harg5.unread x5) ∗ (arg9.view.loc (c : Thread nD τ) ↦{q9} harg9.unread x9) ∗ (arg10.view.loc (c : Thread nD τ) ↦{q10} harg10.unread x10) ∗ (arg25.view.loc (c : Thread nD τ) ↦{fullShare} harg25.unread x25) ∗ (arg26.view.loc (c : Thread nD τ) ↦{fullShare} harg26.unread x26) ∗ (arg27.view.loc (c : Thread nD τ) ↦{fullShare} harg27.unread x27) ∗ (iprop((arg5.view.loc (c : Thread nD τ) ↦{q5} harg5.unread x5) ∗ (arg9.view.loc (c : Thread nD τ) ↦{q9} harg9.unread x9) ∗ (arg10.view.loc (c : Thread nD τ) ↦{q10} harg10.unread x10) ∗ (arg25.view.loc (c : Thread nD τ) ↦{fullShare} arg25.view.writes (Elt F) (harg25.unread x25) L25) ∗ (arg26.view.loc (c : Thread nD τ) ↦{fullShare} arg26.view.writes (Elt F) (harg26.unread x26) L26) ∗ (arg27.view.loc (c : Thread nD τ) ↦{fullShare} arg27.view.writes (Elt F) (harg27.unread x27) L27)) -∗ K ⟨⟩))
      ⊢ wp frame (wpE (defs₀ (F := F)) Variants.none c none) E (bodyA (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := h
  rw [hY25, hY26, hY27] at h
  have hp : (∀ t, pick4 (arg26.view.read (Elt F) (arg26.view.writes (Elt F) (harg26.unread x26) (basePieces (base x5 x9)))) t = baseRow (base x5 x9) t)
      ∧ (∀ t, pick4 (arg27.view.read (Elt F) (arg27.view.writes (Elt F) (harg27.unread x27) (basePieces (base x5 x10)))) t = baseRow (base x5 x10) t) :=
    ⟨fun t => pick4_base _ _ t, fun t => pick4_base _ _ t⟩
  iintro ⟨H5, H9, H10, H25, H26, H27, Hk⟩
  iapply h
  isplitl [H5]; · iexact H5
  isplitl [H9]; · iexact H9
  isplitl [H10]; · iexact H10
  isplitl [H25]; · iexact H25
  isplitl [H26]; · iexact H26
  isplitl [H27]; · iexact H27
  ispecialize Hk $$ %(arg26.view.read (Elt F) (arg26.view.writes (Elt F) (harg26.unread x26) (basePieces (base x5 x9)))) %(arg27.view.read (Elt F) (arg27.view.writes (Elt F) (harg27.unread x27) (basePieces (base x5 x10)))) %hp
  iexact Hk

end Cert.GateUpIdeal.Gen

end
-- ==== Proof.GateUpIdealTab.lean ====
/-
  What the three prefetched tables hold - an order of the tenants, a number of active ones and the tenant of each slot of
  the grid - and what the body's word computations and side conditions come to with them.
-/
module

public import proofs.«01_k».proof.Proof.GateUpIdealKit
public import proofs.«01_k».proof.Proof.GateUpIdealStepRun

@[expose] public section

set_option maxRecDepth 16384

noncomputable section

namespace Cert.GateUpIdeal.Gen

open Idealize.ShloMosaic Idealize.ShloMosaic.TcCoe Idealize.ShloMosaic.Tactic
open Idealize.ShloMosaic.ValueIdx

variable {F : FTy → Type} [FloatOps F]

/-- The position in the order which slot `s` of the grid takes, of `n` active tenants. -/
def slotPos (n s : ℕ) : Fin 24 := ⟨min (min (min (s / 5) ((n - 1) / 5) * 5 + s % 5) (n - 1)) 23, by omega⟩

/-- The tables hold the order `ord`, the number `n` of active tenants and the tenant of each slot. -/
structure Tab (pf : pre0.Contents (Elt F)) (ord : Fin 24 → Fin 24) (n : ℕ) : Prop where
  n_le : n ≤ 24
  h0 : ∀ p : S24.Idx, (show Vec F S24 .i32 from pf 0) p = BitVec.ofNat 32 (ord (p (0 : Fin 1))).val
  h1 : ∀ p : S1.Idx, (show Vec F S1 .i32 from pf 1) p = BitVec.ofNat 32 n
  h2 : ∀ p : S25.Idx, (show Vec F S25 .i32 from pf 2) p = BitVec.ofNat 32 (ord (slotPos n (p (0 : Fin 1)).val)).val

theorem slotPos_eq (n g k : ℕ) (hk : k < 5) (hg : g * 5 < n) (hn : n ≤ 24) : (slotPos n (g * 5 + k)).val = min (g * 5 + k) (n - 1) := by
  unfold slotPos; simp only; omega

/-- The group of a grid point. -/
abbrev grpOf (i : grid0.Coords) : ℕ := (i 1).val

theorem grpOf_lt (i : grid0.Coords) : grpOf i < 5 := (i 1).isLt

theorem toNat_fin (t : Fin 24) : (BitVec.ofNat 32 t.val).toNat = t.val := by
  rw [BitVec.toNat_ofNat]; have := t.isLt; omega

/-- A word below 24 is that tenant's. -/
theorem cond2_iff (i : grid0.Coords) (n : ℕ) (hn : n ≤ 24) : k0_cond2 i (BitVec.ofNat 32 n) = 1#1 ↔ grpOf i * 5 < n := by
  have hg := grpOf_lt i
  have H : ∀ (g : Fin 5) (n : Fin 25), (Scalar.cmpi .ne (Scalar.extui (Scalar.cmpi .slt (Scalar.muli (BitVec.ofNat 32 g.val) 5#32) (BitVec.ofNat 32 n.val)) : BitVec 32) 0#32 = 1#1 ↔ g.val * 5 < n.val) := by decide
  exact H ⟨grpOf i, hg⟩ ⟨n, by omega⟩

theorem off2_eq (i : grid0.Coords) (n : ℕ) (hn : n ≤ 24) (hg : grpOf i * 5 < n) : k0_off2 i (BitVec.ofNat 32 n) 0 = min (grpOf i * 5 + 0) (n - 1) := by
  have hi := grpOf_lt i
  have H : ∀ (g : Fin 5) (n : Fin 25), g.val * 5 < n.val → (Scalar.minsi (Scalar.addi (Scalar.muli (BitVec.ofNat 32 g.val) 5#32) 0#32) (Scalar.subi (BitVec.ofNat 32 n.val) 1#32)).toNat = min (g.val * 5 + 0) (n.val - 1) := by decide
  exact H ⟨grpOf i, hi⟩ ⟨n, by omega⟩ hg

theorem chk1_of (i : grid0.Coords) (n : ℕ) (hn : n ≤ 24) : k0_chk1 i (BitVec.ofNat 32 n) (BitVec.ofNat 32 n) := by
  intro h a
  have hg := (cond2_iff i n hn).mp h
  have h0 := off2_eq i n hn hg
  obtain rfl : a = (0 : Fin 1) := Subsingleton.elim (α := Fin 1) _ _
  rw [h0]; show _ + 1 ≤ 24
  omega

theorem chk2_of (i : grid0.Coords) (v w : BitVec 32) (hw : w.toNat < 24) : k0_chk2 i v w := by
  refine ⟨fun _ => ?_, fun _ => ?_, fun _ => ?_, fun _ => ?_, fun _ => ?_⟩ <;>
    exact fun a => by
      fin_cases a
      · show w.toNat + 1 ≤ 24; omega
      · exact Nat.le_of_ble_eq_true rfl
      · exact Nat.le_of_ble_eq_true rfl

theorem off8_eq (i : grid0.Coords) (n : ℕ) (hn : n ≤ 24) (hg : grpOf i * 5 < n) : k0_off8 i (BitVec.ofNat 32 n) 0 = min (grpOf i * 5 + 1) (n - 1) := by
  have hi := grpOf_lt i
  have H : ∀ (g : Fin 5) (n : Fin 25), g.val * 5 < n.val → (Scalar.minsi (Scalar.addi (Scalar.muli (BitVec.ofNat 32 g.val) 5#32) 1#32) (Scalar.subi (BitVec.ofNat 32 n.val) 1#32)).toNat = min (g.val * 5 + 1) (n.val - 1) := by decide
  exact H ⟨grpOf i, hi⟩ ⟨n, by omega⟩ hg

theorem chk3_of (i : grid0.Coords) (n : ℕ) (hn : n ≤ 24) : k0_chk3 i (BitVec.ofNat 32 n) (BitVec.ofNat 32 n) := by
  intro h a
  have hg := (cond2_iff i n hn).mp h
  have h0 := off8_eq i n hn hg
  obtain rfl : a = (0 : Fin 1) := Subsingleton.elim (α := Fin 1) _ _
  rw [h0]; show _ + 1 ≤ 24
  omega

theorem chk4_of (i : grid0.Coords) (v w : BitVec 32) (hw : w.toNat < 24) : k0_chk4 i v w := by
  refine ⟨fun _ => ?_, fun _ => ?_, fun _ => ?_, fun _ => ?_, fun _ => ?_⟩ <;>
    exact fun a => by
      fin_cases a
      · show w.toNat + 1 ≤ 24; omega
      · exact Nat.le_of_ble_eq_true rfl
      · exact Nat.le_of_ble_eq_true rfl

theorem off14_eq (i : grid0.Coords) (n : ℕ) (hn : n ≤ 24) (hg : grpOf i * 5 < n) : k0_off14 i (BitVec.ofNat 32 n) 0 = min (grpOf i * 5 + 2) (n - 1) := by
  have hi := grpOf_lt i
  have H : ∀ (g : Fin 5) (n : Fin 25), g.val * 5 < n.val → (Scalar.minsi (Scalar.addi (Scalar.muli (BitVec.ofNat 32 g.val) 5#32) 2#32) (Scalar.subi (BitVec.ofNat 32 n.val) 1#32)).toNat = min (g.val * 5 + 2) (n.val - 1) := by decide
  exact H ⟨grpOf i, hi⟩ ⟨n, by omega⟩ hg

theorem chk5_of (i : grid0.Coords) (n : ℕ) (hn : n ≤ 24) : k0_chk5 i (BitVec.ofNat 32 n) (BitVec.ofNat 32 n) := by
  intro h a
  have hg := (cond2_iff i n hn).mp h
  have h0 := off14_eq i n hn hg
  obtain rfl : a = (0 : Fin 1) := Subsingleton.elim (α := Fin 1) _ _
  rw [h0]; show _ + 1 ≤ 24
  omega

theorem chk6_of (i : grid0.Coords) (v w : BitVec 32) (hw : w.toNat < 24) : k0_chk6 i v w := by
  refine ⟨fun _ => ?_, fun _ => ?_, fun _ => ?_, fun _ => ?_, fun _ => ?_⟩ <;>
    exact fun a => by
      fin_cases a
      · show w.toNat + 1 ≤ 24; omega
      · exact Nat.le_of_ble_eq_true rfl
      · exact Nat.le_of_ble_eq_true rfl

theorem off20_eq (i : grid0.Coords) (n : ℕ) (hn : n ≤ 24) (hg : grpOf i * 5 < n) : k0_off20 i (BitVec.ofNat 32 n) 0 = min (grpOf i * 5 + 3) (n - 1) := by
  have hi := grpOf_lt i
  have H : ∀ (g : Fin 5) (n : Fin 25), g.val * 5 < n.val → (Scalar.minsi (Scalar.addi (Scalar.muli (BitVec.ofNat 32 g.val) 5#32) 3#32) (Scalar.subi (BitVec.ofNat 32 n.val) 1#32)).toNat = min (g.val * 5 + 3) (n.val - 1) := by decide
  exact H ⟨grpOf i, hi⟩ ⟨n, by omega⟩ hg

theorem chk7_of (i : grid0.Coords) (n : ℕ) (hn : n ≤ 24) : k0_chk7 i (BitVec.ofNat 32 n) (BitVec.ofNat 32 n) := by
  intro h a
  have hg := (cond2_iff i n hn).mp h
  have h0 := off20_eq i n hn hg
  obtain rfl : a = (0 : Fin 1) := Subsingleton.elim (α := Fin 1) _ _
  rw [h0]; show _ + 1 ≤ 24
  omega

theorem chk8_of (i : grid0.Coords) (v w : BitVec 32) (hw : w.toNat < 24) : k0_chk8 i v w := by
  refine ⟨fun _ => ?_, fun _ => ?_, fun _ => ?_, fun _ => ?_, fun _ => ?_⟩ <;>
    exact fun a => by
      fin_cases a
      · show w.toNat + 1 ≤ 24; omega
      · exact Nat.le_of_ble_eq_true rfl
      · exact Nat.le_of_ble_eq_true rfl

theorem off26_eq (i : grid0.Coords) (n : ℕ) (hn : n ≤ 24) (hg : grpOf i * 5 < n) : k0_off26 i (BitVec.ofNat 32 n) 0 = min (grpOf i * 5 + 4) (n - 1) := by
  have hi := grpOf_lt i
  have H : ∀ (g : Fin 5) (n : Fin 25), g.val * 5 < n.val → (Scalar.minsi (Scalar.addi (Scalar.muli (BitVec.ofNat 32 g.val) 5#32) 4#32) (Scalar.subi (BitVec.ofNat 32 n.val) 1#32)).toNat = min (g.val * 5 + 4) (n.val - 1) := by decide
  exact H ⟨grpOf i, hi⟩ ⟨n, by omega⟩ hg

theorem chk9_of (i : grid0.Coords) (n : ℕ) (hn : n ≤ 24) : k0_chk9 i (BitVec.ofNat 32 n) (BitVec.ofNat 32 n) := by
  intro h a
  have hg := (cond2_iff i n hn).mp h
  have h0 := off26_eq i n hn hg
  obtain rfl : a = (0 : Fin 1) := Subsingleton.elim (α := Fin 1) _ _
  rw [h0]; show _ + 1 ≤ 24
  omega

theorem chk10_of (i : grid0.Coords) (v w : BitVec 32) (hw : w.toNat < 24) : k0_chk10 i v w := by
  refine ⟨fun _ => ?_, fun _ => ?_, fun _ => ?_, fun _ => ?_, fun _ => ?_⟩ <;>
    exact fun a => by
      fin_cases a
      · show w.toNat + 1 ≤ 24; omega
      · exact Nat.le_of_ble_eq_true rfl
      · exact Nat.le_of_ble_eq_true rfl

/-- The tables' words keep every table-indexed window inside its array. -/
theorem ok_of_tab {pf : pre0.Contents (Elt F)} {ord : Fin 24 → Fin 24} {n : ℕ} (hT : Tab pf ord n) : ok0 pf := by
  have hw : ∀ p : S25.Idx, ((show Vec F S25 .i32 from pf 2) p).toNat < 24 := fun p => by
    rw [hT.h2]; rw [toNat_fin]; exact Fin.isLt _
  unfold ok0
  refine ⟨?_, ?_, ?_, ?_, ?_, ?_, ?_, ?_, ?_, ?_⟩ <;>
  · intro i
    refine ⟨fun a => ?_, Or.inl rfl⟩
    fin_cases a
    · show (_ + 1) * 1 ≤ 24
      rw [Nat.mul_one]; exact hw _
    · exact Nat.le_of_ble_eq_true rfl
    · have := (i 0).isLt
      have h37 : (i 0).val < 37 := this
      show ((BitVec.ofNat 32 (i 0).val).toNat + 1) * 512 ≤ 18944
      rw [BitVec.toNat_ofNat, Nat.mod_eq_of_lt (by omega)]; omega

/-- The word the body reads off the order at an offset. -/
theorem tWord_eq (f2 : Vec F S24 .i32) (ord : Fin 24 → Fin 24) (h0 : ∀ p : S24.Idx, f2 p = BitVec.ofNat 32 (ord (p (0 : Fin 1))).val)
    (off : Fin 1 → ℕ) (inb : ∀ a, off a + S1.size a ≤ S24.size a) (t : Fin 24) (ht : off 0 = t.val) :
    (tWord (F := F) (Memref.whole main_v2) f2 off inb).toNat = (ord t).val := by
  unfold tWord
  refine (congrArg BitVec.toNat (h0 _)).trans ?_
  rw [toNat_fin]
  congr 2
  apply Fin.ext
  show off 0 + _ = _
  rw [ht]; rfl

theorem nWord_eq (f3 : Vec F S1 .i32) (n : ℕ) (h1 : ∀ p : S1.Idx, f3 p = BitVec.ofNat 32 n) : nWord (F := F) (Memref.whole main_v7) f3 = BitVec.ofNat 32 n := h1 _

end Cert.GateUpIdeal.Gen

end
-- ==== Proof.GateUpIdealHost.lean ====
/-
  What the host computes into the three prefetched tables: the tenants in a stable order with the active ones first, the
  number of active ones, and the tenant of each slot of the grid.
-/
module

public import proofs.«01_k».proof.Proof.GateUpIdealTab
public import Idealize.ShloMosaic.Lib.Claim
public import Idealize.ShloMosaic.Lib.SortFacts
public import Idealize.ShloMosaic.Lib.IndicatorCount

@[expose] public section

set_option maxRecDepth 16384

noncomputable section

namespace Cert.GateUpIdeal.Gen

open Idealize.ShloMosaic Idealize.ShloMosaic.TcCoe Idealize.ShloMosaic.Tactic
open Idealize.ShloMosaic.ValueIdx

variable {F : FTy → Type} [FloatOps F]

/-! ## The order and the count -/

/-- Whether a tenant is inactive, as the host's bit. -/
def idleBit (x : IVec S24 32) (d : Fin 24) : BitVec 1 := IntOp.cmpi .sle (x (ix1 d)) 0#32
/-- Whether a tenant is active, as the host's bit. -/
def actBit (x : IVec S24 32) (i : S24.Idx) : BitVec 1 := IntOp.cmpi .sgt (x i) 0#32
/-- The host's order of the tenants. -/
def ordOf (x : IVec S24 32) : Fin 24 → Fin 24 := sortedFrom fun k k' => IntOp.cmpi .ult (idleBit x k) (idleBit x k') == 1#1
/-- The host's number of active tenants. -/
def cntOf (x : IVec S24 32) : ℕ := (Finset.univ.filter fun i : S24.Idx => actBit x i = 1#1).card

theorem cntOf_le (x : IVec S24 32) : cntOf x ≤ 24 := by
  refine (Finset.card_le_univ _).trans (Nat.le_of_eq ?_)
  rw [Shape.card_idx]
  rfl

theorem along_ix1 (j : S24.Idx) (k : Fin 24) : Shape.Idx.along j (0 : Fin S24.rank) k = ix1 k := by
  funext a
  obtain rfl : a = (0 : Fin 1) := Subsingleton.elim (α := Fin 1) _ _
  exact Function.update_self ..

/-- The count as the host reduces it. -/
theorem count_word (x : IVec S24 32) (j : S_.Idx) :
    Host.reduce IntOp.addi (extui 32 (cmpi .sgt x (broadcastInDim S24 ![] bcast_S_S24 (constantI S_ 32 0#32))) natLt_1_32) (constantI S_ 32 0#32) reducesTo_S24_S_d0 h_S_ j
      = BitVec.ofNat 32 (cntOf x) := by
  rw [Host.reduce_eq_fold, Finset.filter_true_of_mem (fun i _ => funext fun a => a.elim0)]
  exact IndicatorCount.fold_addi_setWidth_eq_card (fun i => actBit x i) _

/-- The order as the host sorts it. -/
theorem order_word (x : IVec S24 32) (j : S24.Idx) :
    (Host.sort2 S24 0 comparator_i1_i32_d0 (cmpi .sle x (broadcastInDim S24 ![] bcast_S_S24 (constantI S_ 32 0#32))) (iotaInDim S24 32 0)).2 j
      = BitVec.ofNat 32 (ordOf x (j (0 : Fin 1))).val := by
  unfold Host.sort2
  rw [dif_pos (show 0 < S24.rank from Nat.one_pos)]
  refine (congrArg (fun i : S24.Idx => BitVec.ofNat 32 (i (0 : Fin 1)).val) (along_ix1 j _)).trans ?_
  show BitVec.ofNat 32 (sortedFrom _ (j (0 : Fin 1))).val = _
  unfold ordOf
  have e : (fun k k' : Fin 24 => comparator_i1_i32_d0
        (cmpi .sle x (broadcastInDim S24 ![] bcast_S_S24 (constantI S_ 32 0#32)) (Shape.Idx.along j (0 : Fin S24.rank) k), iotaInDim S24 32 0 (Shape.Idx.along j (0 : Fin S24.rank) k))
        (cmpi .sle x (broadcastInDim S24 ![] bcast_S_S24 (constantI S_ 32 0#32)) (Shape.Idx.along j (0 : Fin S24.rank) k'), iotaInDim S24 32 0 (Shape.Idx.along j (0 : Fin S24.rank) k')) == 1#1)
      = fun k k' => IntOp.cmpi .ult (idleBit x k) (idleBit x k') == 1#1 := by
    funext k k'
    rw [along_ix1, along_ix1]; rfl
  exact congrArg (fun f => BitVec.ofNat 32 (sortedFrom f (j (0 : Fin 1))).val) e

/-! ## The slots -/

/-- The host's division by five. -/
def fdiv5 (s : Shape) (h : S_.BroadcastsInDim s (![] : Fin 0 → Fin s.rank)) (x : IVec s 32) : IVec s 32 :=
  select (andi (cmpi .ne (signi x) (broadcastInDim s ![] h (signi (constantI S_ 32 5#32))))
      (cmpi .ne (Host.remsi x (broadcastInDim s ![] h (constantI S_ 32 5#32))) (broadcastInDim s ![] h (constantI S_ 32 0#32))))
    (subi (Host.divsi x (broadcastInDim s ![] h (constantI S_ 32 5#32))) (broadcastInDim s ![] h (constantI S_ 32 1#32)))
    (Host.divsi x (broadcastInDim s ![] h (constantI S_ 32 5#32)))

/-- The divisor as the host guards it. -/
def five : IVec S_ 32 := select (cmpi .eq (constantI S_ 32 5#32) (constantI S_ 32 0#32)) (constantI S_ 32 1#32) (constantI S_ 32 5#32)

/-- The host's remainder by five. -/
def rem5 (x : IVec S25 32) : IVec S25 32 :=
  select (andi (cmpi .ne (cmpi .slt (Host.remsi x (broadcastInDim S25 ![] bcast_S_S25 five)) (broadcastInDim S25 ![] bcast_S_S25 (constantI S_ 32 0#32)))
        (broadcastInDim S25 ![] bcast_S_S25 (cmpi .slt five (constantI S_ 32 0#32))))
      (cmpi .ne (Host.remsi x (broadcastInDim S25 ![] bcast_S_S25 five)) (broadcastInDim S25 ![] bcast_S_S25 (constantI S_ 32 0#32))))
    (addi (Host.remsi x (broadcastInDim S25 ![] bcast_S_S25 five)) (broadcastInDim S25 ![] bcast_S_S25 five))
    (Host.remsi x (broadcastInDim S25 ![] bcast_S_S25 five))

/-- The last position that is taken. -/
def lastW (w : IVec S1 32) : IVec S1 32 :=
  maxsi (subi w (broadcastInDim S1 ![] bcast_S_S1 (constantI S_ 32 1#32))) (broadcastInDim S1 ![] bcast_S_S1 (constantI S_ 32 0#32))

/-- Each slot's position before the host looks at its sign. -/
def slotA (w : IVec S1 32) : IVec S25 32 :=
  minsi (addi (muli (minsi (fdiv5 S25 bcast_S_S25 (iotaInDim S25 32 0)) (broadcastInDim S25 ![0] bcast_S1_S25_0 (fdiv5 S1 bcast_S_S1 (lastW w))))
      (broadcastInDim S25 ![] bcast_S_S25 (constantI S_ 32 5#32))) (rem5 (iotaInDim S25 32 0)))
    (broadcastInDim S25 ![0] bcast_S1_S25_0 (lastW w))

/-- Each slot's position. -/
def slotW (w : IVec S1 32) : IVec S25 32 :=
  select (cmpi .slt (slotA w) (broadcastInDim S25 ![] bcast_S_S25 (constantI S_ 32 0#32)))
    (addi (slotA w) (broadcastInDim S25 ![] bcast_S_S25 (constantI S_ 32 24#32))) (slotA w)

theorem slotW_eq : ∀ (n : Fin 25) (p : Fin 25), slotW (fun _ => BitVec.ofNat 32 n.val) (ix1 p) = BitVec.ofNat 32 (slotPos n.val p.val).val := by
  decide +kernel

theorem toInt_small : ∀ t : Fin 24, (BitVec.ofNat 32 t.val).toInt.toNat = t.val := by decide

/-- The table at a slot is the order at that slot's word, read signed and clamped. -/
theorem gather_slot (x : IVec S24 32) (idx : IVec S25x1 32) (y : S25.Idx) :
    Host.gather gather_S24_S25x1_S25_n_0_n_n_0_1_1 x idx y
      = x (ix1 ⟨min (idx (ix2 (y (0 : Fin 1)) 0)).toInt.toNat 23, by omega⟩) := by
  unfold Host.gather
  refine congrArg x ?_
  funext a
  obtain rfl : a = (0 : Fin 1) := Subsingleton.elim (α := Fin 1) _ _
  refine Fin.ext ?_
  show gather_S24_S25x1_S25_n_0_n_n_0_1_1.start y idx (0 : Fin 1) + gather_S24_S25x1_S25_n_0_n_n_0_1_1.batchCoord y (0 : Fin 1) + gather_S24_S25x1_S25_n_0_n_n_0_1_1.offCoord y (0 : Fin 1) = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S24_S25x1_S25_n_0_n_n_0_1_1.startIndexMap from List.mem_singleton.mpr rfl)]
  have hsi : gather_S24_S25x1_S25_n_0_n_n_0_1_1.siIdx y ⟨List.idxOf (0 : Fin 1) gather_S24_S25x1_S25_n_0_n_n_0_1_1.startIndexMap,
      List.idxOf_lt_length_iff.2 (List.mem_singleton.mpr rfl)⟩ = ix2 (y (0 : Fin 1)) 0 := by
    funext b; refine Fin.ext ?_
    match b with
    | ⟨0, _⟩ => rfl
    | ⟨1, _⟩ => rfl
  rw [hsi]
  rfl

theorem gather_tab (x : IVec S24 32) (o : Fin 24 → Fin 24) (n : ℕ) (hn : n ≤ 24) (hx : ∀ p : S24.Idx, x p = BitVec.ofNat 32 (o (p (0 : Fin 1))).val)
    (w : IVec S1 32) (hw : w = fun _ => BitVec.ofNat 32 n) (p : S25.Idx) :
    Host.gather gather_S24_S25x1_S25_n_0_n_n_0_1_1 x (broadcastInDim S25x1 ![0] bcast_S25_S25x1_0 (slotW w)) p
      = BitVec.ofNat 32 (o (slotPos n (p (0 : Fin 1)).val)).val := by
  subst hw
  rw [gather_slot, hx]
  have e : broadcastInDim S25x1 ![0] bcast_S25_S25x1_0 (slotW fun _ => BitVec.ofNat 32 n) (ix2 (p (0 : Fin 1)) 0) = BitVec.ofNat 32 (slotPos n (p (0 : Fin 1)).val).val := by
    refine Eq.trans ?_ (slotW_eq ⟨n, by omega⟩ (p (0 : Fin 1)))
    refine congrArg (slotW _) (funext fun a => ?_)
    obtain rfl : a = (0 : Fin 1) := Subsingleton.elim (α := Fin 1) _ _
    rfl
  refine congrArg (fun t : Fin 24 => BitVec.ofNat 32 (o t).val) (Fin.ext ?_)
  refine (congrArg (fun v : BitVec 32 => min v.toInt.toNat 23) e).trans ?_
  simp only [toInt_small]
  have := (slotPos n (p (0 : Fin 1)).val).isLt
  omega

/-! ## The tables as the program leaves them -/

variable (m : (ℓ : Loc nD τ sig) → Buf (Elt F) ℓ)

/-- The tenants' counts, the program's third argument. -/
def counts : IVec S24 32 := m (0, Proc.tc.devRef main_arg2)

theorem V_order : (show IVec S24 32 from V m 0 main_v2)
    = (Host.sort2 S24 0 comparator_i1_i32_d0 (cmpi .sle (counts m) (broadcastInDim S24 ![] bcast_S_S24 (constantI S_ 32 0#32))) (iotaInDim S24 32 0)).2 := by
  show V m 0 main_v2 = _
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append, StableHlo.after_cons, StableHlo.after_nil]
  after_results_simp
  rfl

theorem V_count : (show IVec S1 32 from V m 0 main_v7) = fun _ => BitVec.ofNat 32 (cntOf (counts m)) := by
  show V m 0 main_v7 = _
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append, StableHlo.after_cons, StableHlo.after_nil]
  after_results_simp
  funext j
  exact count_word (counts m) _

set_option maxHeartbeats 2000000 in
theorem V_slots : (show IVec S25 32 from V m 0 main_v48)
    = Host.gather gather_S24_S25x1_S25_n_0_n_n_0_1_1 (show IVec S24 32 from V m 0 main_v2) (broadcastInDim S25x1 ![0] bcast_S25_S25x1_0 (slotW (show IVec S1 32 from V m 0 main_v7))) := by
  show V m 0 main_v48 = Host.gather gather_S24_S25x1_S25_n_0_n_n_0_1_1 (V m 0 main_v2) (broadcastInDim S25x1 ![0] bcast_S25_S25x1_0 (slotW (V m 0 main_v7)))
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append, StableHlo.after_cons, StableHlo.after_nil]
  after_results_simp
  simp -implicitDefEqProofs only [StableHlo.TRef.toBuf, StableHlo.TRef.ofBuf, cast_cast, cast_eq, id]
  unfold slotW slotA rem5 five fdiv5 lastW
  rfl

theorem V_order_word (p : S24.Idx) : (show IVec S24 32 from V m 0 main_v2) p = BitVec.ofNat 32 (ordOf (counts m) (p (0 : Fin 1))).val :=
  (congrFun (V_order m) p).trans (order_word (counts m) p)

/-- The tables hold the host's order, its count and its slots. -/
theorem tab : Tab (tbl m) (ordOf (counts m)) (cntOf (counts m)) where
  n_le := cntOf_le _
  h0 := V_order_word m
  h1 := fun p => congrFun (V_count m) p
  h2 := fun p => (congrFun (V_slots m) p).trans (gather_tab _ _ _ (cntOf_le _) (V_order_word m) _ (V_count m) p)

/-! ## What the order puts first -/

theorem ordOf_injective (x : IVec S24 32) : Function.Injective (ordOf x) := sortedFrom_injective _

end Cert.GateUpIdeal.Gen
-- ==== Proof.GateUpIdealBodyWp.lean ====
/-
  One grid point's whole body: what it leaves in the output block, whichever of its two conditions hold.
-/
module

public import proofs.«01_k».proof.Proof.GateUpIdealTab
public import Idealize.ShloMosaic.Lib.WritesUnit

@[expose] public section

set_option maxRecDepth 16384

noncomputable section

namespace Cert.GateUpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ (UR sig nD τ) ℕ

/-- What a group leaves in the output block: its five tenants' rows, where it has any. -/
def outStep (i : grid0.Coords) (n : ℕ) (T : Fin 5 → Fin 24) (R : Fin 5 → FVec F S1x4x512 .f32) (Y : Vec F S24x4x512 .f32) : Vec F S24x4x512 .f32 :=
  if grpOf i * 5 < n then putRow (T 4) (R 4) (putRow (T 3) (R 3) (putRow (T 2) (R 2) (putRow (T 1) (R 1) (putRow (T 0) (R 0) Y)))) else Y

/-- What a grid point leaves in the output block: cleared first at a tile's start. -/
def outPt (i : grid0.Coords) (n : ℕ) (T : Fin 5 → Fin 24) (R : Fin 5 → FVec F S1x4x512 .f32) (Y : Vec F S24x4x512 .f32) : Vec F S24x4x512 .f32 :=
  outStep i n T R (if grpOf i = 0 then k0_pay9 else Y)

theorem cond1_iff (i : grid0.Coords) : k0_cond1 i = 1#1 ↔ grpOf i = 0 := by
  have H : ∀ g : Fin 5, (Scalar.cmpi .ne (Scalar.extui (Scalar.cmpi .eq (BitVec.ofNat 32 g.val) 0#32) : BitVec 32) 0#32 = 1#1 ↔ g.val = 0) := by decide
  exact H ⟨grpOf i, grpOf_lt i⟩

set_option maxHeartbeats 4000000 in
/-- The first program where it has nothing to do. -/
theorem skipA_wp (c : Dev nD) (i : grid0.Coords) (arg2 : Memref sig .tc .smem S24 .i32) (harg2 : arg2.IsWhole) (arg3 : Memref sig .tc .smem S1 .i32) (harg3 : arg3.IsWhole) (arg4 : Memref sig .tc .smem S25 .i32) (harg4 : arg4.IsWhole) (arg5 : Memref sig .tc .vmem S96x3584 .bf16) (harg5 : arg5.IsWhole) (arg6 : Memref sig .tc .vmem S24x16x3584 .bf16) (harg6 : arg6.IsWhole) (arg7 : Memref sig .tc .vmem S24x4x1 .f32) (harg7 : arg7.IsWhole) (arg8 : Memref sig .tc .vmem S24x4x1 .f32) (harg8 : arg8.IsWhole) (arg9 : Memref sig .tc .vmem S3584x512 .i8) (harg9 : arg9.IsWhole) (arg10 : Memref sig .tc .vmem S3584x512 .i8) (harg10 : arg10.IsWhole) (arg11 : Memref sig .tc .vmem S1x512 .f32) (harg11 : arg11.IsWhole) (arg12 : Memref sig .tc .vmem S1x512 .f32) (harg12 : arg12.IsWhole) (arg13 : Memref sig .tc .vmem S24x1x512 .f32) (harg13 : arg13.IsWhole) (arg14 : Memref sig .tc .vmem S24x1x512 .f32) (harg14 : arg14.IsWhole) (arg15 : Memref sig .tc .vmem S1x112x512 .i32) (harg15 : arg15.IsWhole) (arg16 : Memref sig .tc .vmem S1x112x512 .i32) (harg16 : arg16.IsWhole) (arg17 : Memref sig .tc .vmem S1x112x512 .i32) (harg17 : arg17.IsWhole) (arg18 : Memref sig .tc .vmem S1x112x512 .i32) (harg18 : arg18.IsWhole) (arg19 : Memref sig .tc .vmem S1x112x512 .i32) (harg19 : arg19.IsWhole) (arg20 : Memref sig .tc .vmem S1x112x512 .i32) (harg20 : arg20.IsWhole) (arg21 : Memref sig .tc .vmem S1x112x512 .i32) (harg21 : arg21.IsWhole) (arg22 : Memref sig .tc .vmem S1x112x512 .i32) (harg22 : arg22.IsWhole) (arg23 : Memref sig .tc .vmem S1x112x512 .i32) (harg23 : arg23.IsWhole) (arg24 : Memref sig .tc .vmem S1x112x512 .i32) (harg24 : arg24.IsWhole) (arg25 : Memref sig .tc .vmem S24x4x512 .f32) (harg25 : arg25.IsWhole) (arg26 : Memref sig .tc .vmem S24x8x512 .f32) (harg26 : arg26.IsWhole) (arg27 : Memref sig .tc .vmem S24x8x512 .f32) (harg27 : arg27.IsWhole) (hc1 : ¬ k0_cond1 i = 1#1) (E : Set ℕ) (K : PUnit → sProp 𝕄) :
    K ⟨⟩ ⊢ wp frame (wpE (defs₀ (F := F)) Variants.none c none) E (bodyA (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  unfold bodyA
  rw [dif_neg hc1, wp_pure]
  iintro H
  imodintro
  iexact H

set_option maxHeartbeats 4000000 in
/-- The second program where its group has no tenants. -/
theorem skipB_wp (c : Dev nD) (i : grid0.Coords) (arg2 : Memref sig .tc .smem S24 .i32) (harg2 : arg2.IsWhole) (arg3 : Memref sig .tc .smem S1 .i32) (harg3 : arg3.IsWhole) (arg4 : Memref sig .tc .smem S25 .i32) (harg4 : arg4.IsWhole) (arg5 : Memref sig .tc .vmem S96x3584 .bf16) (harg5 : arg5.IsWhole) (arg6 : Memref sig .tc .vmem S24x16x3584 .bf16) (harg6 : arg6.IsWhole) (arg7 : Memref sig .tc .vmem S24x4x1 .f32) (harg7 : arg7.IsWhole) (arg8 : Memref sig .tc .vmem S24x4x1 .f32) (harg8 : arg8.IsWhole) (arg9 : Memref sig .tc .vmem S3584x512 .i8) (harg9 : arg9.IsWhole) (arg10 : Memref sig .tc .vmem S3584x512 .i8) (harg10 : arg10.IsWhole) (arg11 : Memref sig .tc .vmem S1x512 .f32) (harg11 : arg11.IsWhole) (arg12 : Memref sig .tc .vmem S1x512 .f32) (harg12 : arg12.IsWhole) (arg13 : Memref sig .tc .vmem S24x1x512 .f32) (harg13 : arg13.IsWhole) (arg14 : Memref sig .tc .vmem S24x1x512 .f32) (harg14 : arg14.IsWhole) (arg15 : Memref sig .tc .vmem S1x112x512 .i32) (harg15 : arg15.IsWhole) (arg16 : Memref sig .tc .vmem S1x112x512 .i32) (harg16 : arg16.IsWhole) (arg17 : Memref sig .tc .vmem S1x112x512 .i32) (harg17 : arg17.IsWhole) (arg18 : Memref sig .tc .vmem S1x112x512 .i32) (harg18 : arg18.IsWhole) (arg19 : Memref sig .tc .vmem S1x112x512 .i32) (harg19 : arg19.IsWhole) (arg20 : Memref sig .tc .vmem S1x112x512 .i32) (harg20 : arg20.IsWhole) (arg21 : Memref sig .tc .vmem S1x112x512 .i32) (harg21 : arg21.IsWhole) (arg22 : Memref sig .tc .vmem S1x112x512 .i32) (harg22 : arg22.IsWhole) (arg23 : Memref sig .tc .vmem S1x112x512 .i32) (harg23 : arg23.IsWhole) (arg24 : Memref sig .tc .vmem S1x112x512 .i32) (harg24 : arg24.IsWhole) (arg25 : Memref sig .tc .vmem S24x4x512 .f32) (harg25 : arg25.IsWhole) (arg26 : Memref sig .tc .vmem S24x8x512 .f32) (harg26 : arg26.IsWhole) (arg27 : Memref sig .tc .vmem S24x8x512 .f32) (harg27 : arg27.IsWhole) (f3 : Buf (Elt F) (arg3.view.loc (c : Thread nD τ)))
    (hc2 : ∀ r y, ¬ k0_cond2 i (View.readAt (Elt F) arg3.view r f3 y) = 1#1) (q3 : PosShare TreeShare) (E : Set ℕ) (K : PUnit → sProp 𝕄) :
    iprop((arg3.view.loc (c : Thread nD τ) ↦{q3} f3) ∗ (iprop((arg3.view.loc (c : Thread nD τ) ↦{q3} f3)) -∗ K ⟨⟩))
      ⊢ wp frame (wpE (defs₀ (F := F)) Variants.none c none) E (bodyB (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  iintro ⟨H3, Hk⟩
  sl_unfold [bodyB]
  sl_exec_parts (disch := first | (guard_target = ¬ (k0_cond2 _ _ = _); exact hc2 _ _))
  sl_step
  iapply Hk
  iexact H3

set_option maxHeartbeats 8000000 in
/-- The second program, whichever way its condition falls, once the scratch rows hold the tile's base products. -/
theorem stepB_wp (c : Dev nD) (i : grid0.Coords) (arg2 : Memref sig .tc .smem S24 .i32) (harg2 : arg2.IsWhole) (arg3 : Memref sig .tc .smem S1 .i32) (harg3 : arg3.IsWhole) (arg4 : Memref sig .tc .smem S25 .i32) (harg4 : arg4.IsWhole) (arg5 : Memref sig .tc .vmem S96x3584 .bf16) (harg5 : arg5.IsWhole) (arg6 : Memref sig .tc .vmem S24x16x3584 .bf16) (harg6 : arg6.IsWhole) (arg7 : Memref sig .tc .vmem S24x4x1 .f32) (harg7 : arg7.IsWhole) (arg8 : Memref sig .tc .vmem S24x4x1 .f32) (harg8 : arg8.IsWhole) (arg9 : Memref sig .tc .vmem S3584x512 .i8) (harg9 : arg9.IsWhole) (arg10 : Memref sig .tc .vmem S3584x512 .i8) (harg10 : arg10.IsWhole) (arg11 : Memref sig .tc .vmem S1x512 .f32) (harg11 : arg11.IsWhole) (arg12 : Memref sig .tc .vmem S1x512 .f32) (harg12 : arg12.IsWhole) (arg13 : Memref sig .tc .vmem S24x1x512 .f32) (harg13 : arg13.IsWhole) (arg14 : Memref sig .tc .vmem S24x1x512 .f32) (harg14 : arg14.IsWhole) (arg15 : Memref sig .tc .vmem S1x112x512 .i32) (harg15 : arg15.IsWhole) (arg16 : Memref sig .tc .vmem S1x112x512 .i32) (harg16 : arg16.IsWhole) (arg17 : Memref sig .tc .vmem S1x112x512 .i32) (harg17 : arg17.IsWhole) (arg18 : Memref sig .tc .vmem S1x112x512 .i32) (harg18 : arg18.IsWhole) (arg19 : Memref sig .tc .vmem S1x112x512 .i32) (harg19 : arg19.IsWhole) (arg20 : Memref sig .tc .vmem S1x112x512 .i32) (harg20 : arg20.IsWhole) (arg21 : Memref sig .tc .vmem S1x112x512 .i32) (harg21 : arg21.IsWhole) (arg22 : Memref sig .tc .vmem S1x112x512 .i32) (harg22 : arg22.IsWhole) (arg23 : Memref sig .tc .vmem S1x112x512 .i32) (harg23 : arg23.IsWhole) (arg24 : Memref sig .tc .vmem S1x112x512 .i32) (harg24 : arg24.IsWhole) (arg25 : Memref sig .tc .vmem S24x4x512 .f32) (harg25 : arg25.IsWhole) (arg26 : Memref sig .tc .vmem S24x8x512 .f32) (harg26 : arg26.IsWhole) (arg27 : Memref sig .tc .vmem S24x8x512 .f32) (harg27 : arg27.IsWhole)
    (x5 : Vec F S96x3584 .bf16) (x6 : Vec F S24x16x3584 .bf16) (x7 : Vec F S24x4x1 .f32) (x8 : Vec F S24x4x1 .f32) (x9 : Vec F S3584x512 .i8) (x10 : Vec F S3584x512 .i8) (x11 : Vec F S1x512 .f32) (x12 : Vec F S1x512 .f32) (x13 : Vec F S24x1x512 .f32) (x14 : Vec F S24x1x512 .f32) (x15 : Vec F S1x112x512 .i32) (x16 : Vec F S1x112x512 .i32) (x17 : Vec F S1x112x512 .i32) (x18 : Vec F S1x112x512 .i32) (x19 : Vec F S1x112x512 .i32) (x20 : Vec F S1x112x512 .i32) (x21 : Vec F S1x112x512 .i32) (x22 : Vec F S1x112x512 .i32) (x23 : Vec F S1x112x512 .i32) (x24 : Vec F S1x112x512 .i32) (x25 : Vec F S24x4x512 .f32) (x26 : Vec F S24x8x512 .f32) (x27 : Vec F S24x8x512 .f32)
    (f2 : Buf (Elt F) (arg2.view.loc (c : Thread nD τ))) (f3 : Buf (Elt F) (arg3.view.loc (c : Thread nD τ)))
    (n : ℕ) (hn : ∀ r y, View.readAt (Elt F) arg3.view r f3 y = BitVec.ofNat 32 n) (hn24 : n ≤ 24)
    (hw : ∀ r y, BitVec.toNat (View.readAt (Elt F) arg2.view r f2 y) < 24) (T : Fin 5 → Fin 24)
    (ht0 : grpOf i * 5 < n → ∀ inb, (tWord arg2 f2 (k0_off2 i (nWord arg3 f3)) inb).toNat = (T 0).val)
    (ht1 : grpOf i * 5 < n → ∀ inb, (tWord arg2 f2 (k0_off8 i (nWord arg3 f3)) inb).toNat = (T 1).val)
    (ht2 : grpOf i * 5 < n → ∀ inb, (tWord arg2 f2 (k0_off14 i (nWord arg3 f3)) inb).toNat = (T 2).val)
    (ht3 : grpOf i * 5 < n → ∀ inb, (tWord arg2 f2 (k0_off20 i (nWord arg3 f3)) inb).toNat = (T 3).val)
    (ht4 : grpOf i * 5 < n → ∀ inb, (tWord arg2 f2 (k0_off26 i (nWord arg3 f3)) inb).toNat = (T 4).val)
    (hb : (∀ t, pick4 x26 t = baseRow (base x5 x9) t) ∧ (∀ t, pick4 x27 t = baseRow (base x5 x10) t))
    (q2 q3 q5 q6 q7 q8 q9 q10 q11 q12 q13 q14 q15 q16 q17 q18 q19 q20 q21 q22 q23 q24 : PosShare TreeShare) (E : Set ℕ) (K : PUnit → sProp 𝕄) :
    iprop((arg2.view.loc (c : Thread nD τ) ↦{q2} f2) ∗ (arg3.view.loc (c : Thread nD τ) ↦{q3} f3) ∗ (arg5.view.loc (c : Thread nD τ) ↦{q5} harg5.unread x5) ∗ (arg6.view.loc (c : Thread nD τ) ↦{q6} harg6.unread x6) ∗ (arg7.view.loc (c : Thread nD τ) ↦{q7} harg7.unread x7) ∗ (arg8.view.loc (c : Thread nD τ) ↦{q8} harg8.unread x8) ∗ (arg9.view.loc (c : Thread nD τ) ↦{q9} harg9.unread x9) ∗ (arg10.view.loc (c : Thread nD τ) ↦{q10} harg10.unread x10) ∗ (arg11.view.loc (c : Thread nD τ) ↦{q11} harg11.unread x11) ∗ (arg12.view.loc (c : Thread nD τ) ↦{q12} harg12.unread x12) ∗ (arg13.view.loc (c : Thread nD τ) ↦{q13} harg13.unread x13) ∗ (arg14.view.loc (c : Thread nD τ) ↦{q14} harg14.unread x14) ∗ (arg15.view.loc (c : Thread nD τ) ↦{q15} harg15.unread x15) ∗ (arg16.view.loc (c : Thread nD τ) ↦{q16} harg16.unread x16) ∗ (arg17.view.loc (c : Thread nD τ) ↦{q17} harg17.unread x17) ∗ (arg18.view.loc (c : Thread nD τ) ↦{q18} harg18.unread x18) ∗ (arg19.view.loc (c : Thread nD τ) ↦{q19} harg19.unread x19) ∗ (arg20.view.loc (c : Thread nD τ) ↦{q20} harg20.unread x20) ∗ (arg21.view.loc (c : Thread nD τ) ↦{q21} harg21.unread x21) ∗ (arg22.view.loc (c : Thread nD τ) ↦{q22} harg22.unread x22) ∗ (arg23.view.loc (c : Thread nD τ) ↦{q23} harg23.unread x23) ∗ (arg24.view.loc (c : Thread nD τ) ↦{q24} harg24.unread x24) ∗ (arg25.view.loc (c : Thread nD τ) ↦{fullShare} harg25.unread x25) ∗ (arg26.view.loc (c : Thread nD τ) ↦{fullShare} harg26.unread x26) ∗ (arg27.view.loc (c : Thread nD τ) ↦{fullShare} harg27.unread x27) ∗ (iprop((arg2.view.loc (c : Thread nD τ) ↦{q2} f2) ∗ (arg3.view.loc (c : Thread nD τ) ↦{q3} f3) ∗ (arg5.view.loc (c : Thread nD τ) ↦{q5} harg5.unread x5) ∗ (arg6.view.loc (c : Thread nD τ) ↦{q6} harg6.unread x6) ∗ (arg7.view.loc (c : Thread nD τ) ↦{q7} harg7.unread x7) ∗ (arg8.view.loc (c : Thread nD τ) ↦{q8} harg8.unread x8) ∗ (arg9.view.loc (c : Thread nD τ) ↦{q9} harg9.unread x9) ∗ (arg10.view.loc (c : Thread nD τ) ↦{q10} harg10.unread x10) ∗ (arg11.view.loc (c : Thread nD τ) ↦{q11} harg11.unread x11) ∗ (arg12.view.loc (c : Thread nD τ) ↦{q12} harg12.unread x12) ∗ (arg13.view.loc (c : Thread nD τ) ↦{q13} harg13.unread x13) ∗ (arg14.view.loc (c : Thread nD τ) ↦{q14} harg14.unread x14) ∗ (arg15.view.loc (c : Thread nD τ) ↦{q15} harg15.unread x15) ∗ (arg16.view.loc (c : Thread nD τ) ↦{q16} harg16.unread x16) ∗ (arg17.view.loc (c : Thread nD τ) ↦{q17} harg17.unread x17) ∗ (arg18.view.loc (c : Thread nD τ) ↦{q18} harg18.unread x18) ∗ (arg19.view.loc (c : Thread nD τ) ↦{q19} harg19.unread x19) ∗ (arg20.view.loc (c : Thread nD τ) ↦{q20} harg20.unread x20) ∗ (arg21.view.loc (c : Thread nD τ) ↦{q21} harg21.unread x21) ∗ (arg22.view.loc (c : Thread nD τ) ↦{q22} harg22.unread x22) ∗ (arg23.view.loc (c : Thread nD τ) ↦{q23} harg23.unread x23) ∗ (arg24.view.loc (c : Thread nD τ) ↦{q24} harg24.unread x24) ∗ (arg25.view.loc (c : Thread nD τ) ↦{fullShare} harg25.unread (outStep i n T (fun k => rowV x6 x7 x8 x11 x12 x13 x14 (baseRow (base x5 x9) (T k)) (baseRow (base x5 x10) (T k)) (![x15, x16, x17, x18, x19] k) (![x20, x21, x22, x23, x24] k) (T k)) x25)) ∗ (arg26.view.loc (c : Thread nD τ) ↦{fullShare} harg26.unread x26) ∗ (arg27.view.loc (c : Thread nD τ) ↦{fullShare} harg27.unread x27)) -∗ K ⟨⟩))
      ⊢ wp frame (wpE (defs₀ (F := F)) Variants.none c none) E (bodyB (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  by_cases hg : grpOf i * 5 < n
  · have hn' : nWord arg3 f3 = BitVec.ofNat 32 n := hn _ _
    have hc2 : ∀ r y, k0_cond2 i (View.readAt (Elt F) arg3.view r f3 y) = 1#1 := fun r y => by rw [hn]; exact (cond2_iff i n hn24).mpr hg
    have h := runB_wp c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x6 x7 x8 x11 x12 x13 x14 x15 x16 x17 x18 x19 x20 x21 x22 x23 x24 x25 x26 x27 f2 f3 hc2
      (fun _ _ _ _ => by rw [hn, hn]; exact chk1_of i n hn24) (fun _ _ _ _ => by rw [hn, hn]; exact chk3_of i n hn24) (fun _ _ _ _ => by rw [hn, hn]; exact chk5_of i n hn24) (fun _ _ _ _ => by rw [hn, hn]; exact chk7_of i n hn24) (fun _ _ _ _ => by rw [hn, hn]; exact chk9_of i n hn24)
      (fun _ _ _ _ => chk2_of i _ _ (hw _ _)) (fun _ _ _ _ => chk4_of i _ _ (hw _ _)) (fun _ _ _ _ => chk6_of i _ _ (hw _ _)) (fun _ _ _ _ => chk8_of i _ _ (hw _ _)) (fun _ _ _ _ => chk10_of i _ _ (hw _ _))
      hw (T 0) (T 1) (T 2) (T 3) (T 4) (ht0 hg) (ht1 hg) (ht2 hg) (ht3 hg) (ht4 hg) q2 q3 q6 q7 q8 q11 q12 q13 q14 q15 q16 q17 q18 q19 q20 q21 q22 q23 q24 E K
    have hR : outStep i n T (fun k => rowV x6 x7 x8 x11 x12 x13 x14 (baseRow (base x5 x9) (T k)) (baseRow (base x5 x10) (T k)) (![x15, x16, x17, x18, x19] k) (![x20, x21, x22, x23, x24] k) (T k)) x25 = (putRow (T 4)
      (rowV x6 x7 x8 x11 x12 x13 x14 (pick4 x26 (T 4)) (pick4 x27 (T 4)) x19 x24 (T 4))
      (putRow (T 3)
      (rowV x6 x7 x8 x11 x12 x13 x14 (pick4 x26 (T 3)) (pick4 x27 (T 3)) x18 x23 (T 3))
      (putRow (T 2)
      (rowV x6 x7 x8 x11 x12 x13 x14 (pick4 x26 (T 2)) (pick4 x27 (T 2)) x17 x22 (T 2))
      (putRow (T 1)
      (rowV x6 x7 x8 x11 x12 x13 x14 (pick4 x26 (T 1)) (pick4 x27 (T 1)) x16 x21 (T 1))
      (putRow (T 0)
      (rowV x6 x7 x8 x11 x12 x13 x14 (pick4 x26 (T 0)) (pick4 x27 (T 0)) x15 x20 (T 0))
      x25))))) := by
      unfold outStep
      rw [if_pos hg]
      simp only [hb.1, hb.2]
      rfl
    rw [hR]
    iintro ⟨H2, H3, H5, H6, H7, H8, H9, H10, H11, H12, H13, H14, H15, H16, H17, H18, H19, H20, H21, H22, H23, H24, H25, H26, H27, Hk⟩
    iapply h
    isplitl [H2]; · iexact H2
    isplitl [H3]; · iexact H3
    isplitl [H6]; · iexact H6
    isplitl [H7]; · iexact H7
    isplitl [H8]; · iexact H8
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    iintro ⟨H2, H3, H6, H7, H8, H11, H12, H13, H14, H15, H16, H17, H18, H19, H20, H21, H22, H23, H24, H25, H26, H27⟩
    iapply Hk
    isplitl [H2]; · iexact H2
    isplitl [H3]; · iexact H3
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    iexact H27
  · have h := skipB_wp c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 f3 (fun r y => by rw [hn]; exact fun h => hg ((cond2_iff i n hn24).mp h)) q3 E K
    have hR : outStep i n T (fun k => rowV x6 x7 x8 x11 x12 x13 x14 (baseRow (base x5 x9) (T k)) (baseRow (base x5 x10) (T k)) (![x15, x16, x17, x18, x19] k) (![x20, x21, x22, x23, x24] k) (T k)) x25 = x25 := by
      unfold outStep; rw [if_neg hg]
    rw [hR]
    iintro ⟨H2, H3, H5, H6, H7, H8, H9, H10, H11, H12, H13, H14, H15, H16, H17, H18, H19, H20, H21, H22, H23, H24, H25, H26, H27, Hk⟩
    iapply h
    isplitl [H3]; · iexact H3
    iintro H3
    iapply Hk
    isplitl [H2]; · iexact H2
    isplitl [H3]; · iexact H3
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    iexact H27

set_option maxHeartbeats 8000000 in
/-- The whole body at a grid point: the scratch rows hold the tile's base products after it, whether computed now or before. -/
theorem body_wp (c : Dev nD) (i : grid0.Coords) (arg2 : Memref sig .tc .smem S24 .i32) (harg2 : arg2.IsWhole) (arg3 : Memref sig .tc .smem S1 .i32) (harg3 : arg3.IsWhole) (arg4 : Memref sig .tc .smem S25 .i32) (harg4 : arg4.IsWhole) (arg5 : Memref sig .tc .vmem S96x3584 .bf16) (harg5 : arg5.IsWhole) (arg6 : Memref sig .tc .vmem S24x16x3584 .bf16) (harg6 : arg6.IsWhole) (arg7 : Memref sig .tc .vmem S24x4x1 .f32) (harg7 : arg7.IsWhole) (arg8 : Memref sig .tc .vmem S24x4x1 .f32) (harg8 : arg8.IsWhole) (arg9 : Memref sig .tc .vmem S3584x512 .i8) (harg9 : arg9.IsWhole) (arg10 : Memref sig .tc .vmem S3584x512 .i8) (harg10 : arg10.IsWhole) (arg11 : Memref sig .tc .vmem S1x512 .f32) (harg11 : arg11.IsWhole) (arg12 : Memref sig .tc .vmem S1x512 .f32) (harg12 : arg12.IsWhole) (arg13 : Memref sig .tc .vmem S24x1x512 .f32) (harg13 : arg13.IsWhole) (arg14 : Memref sig .tc .vmem S24x1x512 .f32) (harg14 : arg14.IsWhole) (arg15 : Memref sig .tc .vmem S1x112x512 .i32) (harg15 : arg15.IsWhole) (arg16 : Memref sig .tc .vmem S1x112x512 .i32) (harg16 : arg16.IsWhole) (arg17 : Memref sig .tc .vmem S1x112x512 .i32) (harg17 : arg17.IsWhole) (arg18 : Memref sig .tc .vmem S1x112x512 .i32) (harg18 : arg18.IsWhole) (arg19 : Memref sig .tc .vmem S1x112x512 .i32) (harg19 : arg19.IsWhole) (arg20 : Memref sig .tc .vmem S1x112x512 .i32) (harg20 : arg20.IsWhole) (arg21 : Memref sig .tc .vmem S1x112x512 .i32) (harg21 : arg21.IsWhole) (arg22 : Memref sig .tc .vmem S1x112x512 .i32) (harg22 : arg22.IsWhole) (arg23 : Memref sig .tc .vmem S1x112x512 .i32) (harg23 : arg23.IsWhole) (arg24 : Memref sig .tc .vmem S1x112x512 .i32) (harg24 : arg24.IsWhole) (arg25 : Memref sig .tc .vmem S24x4x512 .f32) (harg25 : arg25.IsWhole) (arg26 : Memref sig .tc .vmem S24x8x512 .f32) (harg26 : arg26.IsWhole) (arg27 : Memref sig .tc .vmem S24x8x512 .f32) (harg27 : arg27.IsWhole)
    (x5 : Vec F S96x3584 .bf16) (x6 : Vec F S24x16x3584 .bf16) (x7 : Vec F S24x4x1 .f32) (x8 : Vec F S24x4x1 .f32) (x9 : Vec F S3584x512 .i8) (x10 : Vec F S3584x512 .i8) (x11 : Vec F S1x512 .f32) (x12 : Vec F S1x512 .f32) (x13 : Vec F S24x1x512 .f32) (x14 : Vec F S24x1x512 .f32) (x15 : Vec F S1x112x512 .i32) (x16 : Vec F S1x112x512 .i32) (x17 : Vec F S1x112x512 .i32) (x18 : Vec F S1x112x512 .i32) (x19 : Vec F S1x112x512 .i32) (x20 : Vec F S1x112x512 .i32) (x21 : Vec F S1x112x512 .i32) (x22 : Vec F S1x112x512 .i32) (x23 : Vec F S1x112x512 .i32) (x24 : Vec F S1x112x512 .i32) (x25 : Vec F S24x4x512 .f32) (x26 : Vec F S24x8x512 .f32) (x27 : Vec F S24x8x512 .f32)
    (f2 : Buf (Elt F) (arg2.view.loc (c : Thread nD τ))) (f3 : Buf (Elt F) (arg3.view.loc (c : Thread nD τ)))
    (n : ℕ) (hn : ∀ r y, View.readAt (Elt F) arg3.view r f3 y = BitVec.ofNat 32 n) (hn24 : n ≤ 24)
    (hw : ∀ r y, BitVec.toNat (View.readAt (Elt F) arg2.view r f2 y) < 24) (T : Fin 5 → Fin 24)
    (ht0 : grpOf i * 5 < n → ∀ inb, (tWord arg2 f2 (k0_off2 i (nWord arg3 f3)) inb).toNat = (T 0).val)
    (ht1 : grpOf i * 5 < n → ∀ inb, (tWord arg2 f2 (k0_off8 i (nWord arg3 f3)) inb).toNat = (T 1).val)
    (ht2 : grpOf i * 5 < n → ∀ inb, (tWord arg2 f2 (k0_off14 i (nWord arg3 f3)) inb).toNat = (T 2).val)
    (ht3 : grpOf i * 5 < n → ∀ inb, (tWord arg2 f2 (k0_off20 i (nWord arg3 f3)) inb).toNat = (T 3).val)
    (ht4 : grpOf i * 5 < n → ∀ inb, (tWord arg2 f2 (k0_off26 i (nWord arg3 f3)) inb).toNat = (T 4).val)
    (hb : grpOf i ≠ 0 → (∀ t, pick4 x26 t = baseRow (base x5 x9) t) ∧ (∀ t, pick4 x27 t = baseRow (base x5 x10) t))
    (q2 q3 q5 q6 q7 q8 q9 q10 q11 q12 q13 q14 q15 q16 q17 q18 q19 q20 q21 q22 q23 q24 : PosShare TreeShare) (E : Set ℕ) (K : PUnit → sProp 𝕄) :
    iprop((arg2.view.loc (c : Thread nD τ) ↦{q2} f2) ∗ (arg3.view.loc (c : Thread nD τ) ↦{q3} f3) ∗ (arg5.view.loc (c : Thread nD τ) ↦{q5} harg5.unread x5) ∗ (arg6.view.loc (c : Thread nD τ) ↦{q6} harg6.unread x6) ∗ (arg7.view.loc (c : Thread nD τ) ↦{q7} harg7.unread x7) ∗ (arg8.view.loc (c : Thread nD τ) ↦{q8} harg8.unread x8) ∗ (arg9.view.loc (c : Thread nD τ) ↦{q9} harg9.unread x9) ∗ (arg10.view.loc (c : Thread nD τ) ↦{q10} harg10.unread x10) ∗ (arg11.view.loc (c : Thread nD τ) ↦{q11} harg11.unread x11) ∗ (arg12.view.loc (c : Thread nD τ) ↦{q12} harg12.unread x12) ∗ (arg13.view.loc (c : Thread nD τ) ↦{q13} harg13.unread x13) ∗ (arg14.view.loc (c : Thread nD τ) ↦{q14} harg14.unread x14) ∗ (arg15.view.loc (c : Thread nD τ) ↦{q15} harg15.unread x15) ∗ (arg16.view.loc (c : Thread nD τ) ↦{q16} harg16.unread x16) ∗ (arg17.view.loc (c : Thread nD τ) ↦{q17} harg17.unread x17) ∗ (arg18.view.loc (c : Thread nD τ) ↦{q18} harg18.unread x18) ∗ (arg19.view.loc (c : Thread nD τ) ↦{q19} harg19.unread x19) ∗ (arg20.view.loc (c : Thread nD τ) ↦{q20} harg20.unread x20) ∗ (arg21.view.loc (c : Thread nD τ) ↦{q21} harg21.unread x21) ∗ (arg22.view.loc (c : Thread nD τ) ↦{q22} harg22.unread x22) ∗ (arg23.view.loc (c : Thread nD τ) ↦{q23} harg23.unread x23) ∗ (arg24.view.loc (c : Thread nD τ) ↦{q24} harg24.unread x24) ∗ (arg25.view.loc (c : Thread nD τ) ↦{fullShare} harg25.unread x25) ∗ (arg26.view.loc (c : Thread nD τ) ↦{fullShare} harg26.unread x26) ∗ (arg27.view.loc (c : Thread nD τ) ↦{fullShare} harg27.unread x27) ∗ (∀ x26' x27', ⌜(∀ t, pick4 x26' t = baseRow (base x5 x9) t) ∧ (∀ t, pick4 x27' t = baseRow (base x5 x10) t)⌝ -∗ iprop((arg2.view.loc (c : Thread nD τ) ↦{q2} f2) ∗ (arg3.view.loc (c : Thread nD τ) ↦{q3} f3) ∗ (arg5.view.loc (c : Thread nD τ) ↦{q5} harg5.unread x5) ∗ (arg6.view.loc (c : Thread nD τ) ↦{q6} harg6.unread x6) ∗ (arg7.view.loc (c : Thread nD τ) ↦{q7} harg7.unread x7) ∗ (arg8.view.loc (c : Thread nD τ) ↦{q8} harg8.unread x8) ∗ (arg9.view.loc (c : Thread nD τ) ↦{q9} harg9.unread x9) ∗ (arg10.view.loc (c : Thread nD τ) ↦{q10} harg10.unread x10) ∗ (arg11.view.loc (c : Thread nD τ) ↦{q11} harg11.unread x11) ∗ (arg12.view.loc (c : Thread nD τ) ↦{q12} harg12.unread x12) ∗ (arg13.view.loc (c : Thread nD τ) ↦{q13} harg13.unread x13) ∗ (arg14.view.loc (c : Thread nD τ) ↦{q14} harg14.unread x14) ∗ (arg15.view.loc (c : Thread nD τ) ↦{q15} harg15.unread x15) ∗ (arg16.view.loc (c : Thread nD τ) ↦{q16} harg16.unread x16) ∗ (arg17.view.loc (c : Thread nD τ) ↦{q17} harg17.unread x17) ∗ (arg18.view.loc (c : Thread nD τ) ↦{q18} harg18.unread x18) ∗ (arg19.view.loc (c : Thread nD τ) ↦{q19} harg19.unread x19) ∗ (arg20.view.loc (c : Thread nD τ) ↦{q20} harg20.unread x20) ∗ (arg21.view.loc (c : Thread nD τ) ↦{q21} harg21.unread x21) ∗ (arg22.view.loc (c : Thread nD τ) ↦{q22} harg22.unread x22) ∗ (arg23.view.loc (c : Thread nD τ) ↦{q23} harg23.unread x23) ∗ (arg24.view.loc (c : Thread nD τ) ↦{q24} harg24.unread x24) ∗ (arg25.view.loc (c : Thread nD τ) ↦{fullShare} harg25.unread (outPt i n T (fun k => rowV x6 x7 x8 x11 x12 x13 x14 (baseRow (base x5 x9) (T k)) (baseRow (base x5 x10) (T k)) (![x15, x16, x17, x18, x19] k) (![x20, x21, x22, x23, x24] k) (T k)) x25)) ∗ (arg26.view.loc (c : Thread nD τ) ↦{fullShare} harg26.unread x26') ∗ (arg27.view.loc (c : Thread nD τ) ↦{fullShare} harg27.unread x27')) -∗ K ⟨⟩))
      ⊢ wp frame (wpE (defs₀ (F := F)) Variants.none c none) E (cc0_gate_up (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  rw [body_eq, wp_bind]
  by_cases hg : grpOf i = 0
  · iintro ⟨H2, H3, H5, H6, H7, H8, H9, H10, H11, H12, H13, H14, H15, H16, H17, H18, H19, H20, H21, H22, H23, H24, H25, H26, H27, Hk⟩
    iapply (runA_wp c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x5 x9 x10 x25 x26 x27 ((cond1_iff i).mpr hg) q5 q9 q10 E)
    isplitl [H5]; · iexact H5
    isplitl [H9]; · iexact H9
    isplitl [H10]; · iexact H10
    isplitl [H25]; · iexact H25
    isplitl [H26]; · iexact H26
    isplitl [H27]; · iexact H27
    iintro %x26' %x27' %hp ⟨H5, H9, H10, H25, H26, H27⟩
    iapply (stepB_wp c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x5 x6 x7 x8 x9 x10 x11 x12 x13 x14 x15 x16 x17 x18 x19 x20 x21 x22 x23 x24 k0_pay9 x26' x27' f2 f3 n hn hn24 hw T ht0 ht1 ht2 ht3 ht4 hp q2 q3 q5 q6 q7 q8 q9 q10 q11 q12 q13 q14 q15 q16 q17 q18 q19 q20 q21 q22 q23 q24 E K)
    isplitl [H2]; · iexact H2
    isplitl [H3]; · iexact H3
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    ispecialize Hk $$ %x26' %x27' %hp
    unfold outPt
    rw [if_pos hg]
    iexact Hk
  · iintro ⟨H2, H3, H5, H6, H7, H8, H9, H10, H11, H12, H13, H14, H15, H16, H17, H18, H19, H20, H21, H22, H23, H24, H25, H26, H27, Hk⟩
    iapply (skipA_wp c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 (fun h => hg ((cond1_iff i).mp h)) E)
    iapply (stepB_wp c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x5 x6 x7 x8 x9 x10 x11 x12 x13 x14 x15 x16 x17 x18 x19 x20 x21 x22 x23 x24 x25 x26 x27 f2 f3 n hn hn24 hw T ht0 ht1 ht2 ht3 ht4 (hb hg) q2 q3 q5 q6 q7 q8 q9 q10 q11 q12 q13 q14 q15 q16 q17 q18 q19 q20 q21 q22 q23 q24 E K)
    isplitl [H2]; · iexact H2
    isplitl [H3]; · iexact H3
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    ispecialize Hk $$ %x26 %x27 %(hb hg)
    unfold outPt
    rw [if_neg hg]
    iexact Hk

end Cert.GateUpIdeal.Gen

end
-- ==== Proof.GateUpIdealBlk.lean ====
/-
  What each window's block holds at a grid point, element by element off its array.
-/
module

public import proofs.«01_k».proof.Proof.GateUpIdealBodyWp
public import Idealize.ShloMosaic.Lib.Pipeline.Value

@[expose] public section

set_option maxRecDepth 16384

noncomputable section

namespace Cert.GateUpIdeal.Gen

open Idealize.ShloMosaic Idealize.ShloMosaic.TcCoe Idealize.ShloMosaic.Tactic
open Idealize.ShloMosaic.ValueIdx

variable {F : FTy → Type} [FloatOps F]
variable (m : (ℓ : Loc nD τ sig) → Buf (Elt F) ℓ)

theorem coords_spec : ∀ t : Fin grid0.N, ((grid0.coords t) 0).val = t.val / 5 ∧ ((grid0.coords t) 1).val = t.val % 5 := by
  decide

/-- The column tile of a grid point. -/
def tileOf (t : Fin grid0.N) : Fin 37 := ⟨t.val / 5, by have := t.isLt; have h : grid0.N = 185 := N_0; omega⟩

/-- The array's column at a tile's. -/
def colOf (j : Fin 37) (y : Fin 512) : Fin 18944 := ⟨j.val * 512 + y.val, by omega⟩

/-- The slot of a grid point's `k`th tenant. -/
def slotIx (i : grid0.Coords) (k : Fin 5) : S25.Idx :=
  ix1 ⟨(i 1).val * 5 + k.val, by have h : (i 1).val < 5 := grpOf_lt i; have := k.isLt; show _ < 25; omega⟩

theorem coord0_toNat (t : Fin grid0.N) : (BitVec.ofNat 32 ((grid0.coords t) 0).val).toNat = (tileOf t).val := by
  rw [(coords_spec t).1, BitVec.toNat_ofNat]; have := (tileOf t).isLt; show t.val / 5 % 2 ^ 32 = t.val / 5
  have h : t.val / 5 < 37 := this
  omega

theorem emb_val (a : (pcfg0 (F := F)).Adm) (w : Fin 21) (hk : ((cfg0 a).win w).kind = .blocked) (t : Fin (cfg0 a).N) (y : (((cfg0 a).win w).xblock ((cfg0 a).grid.coords t)).Idx) (x) :
    ((((cfg0 a).win w).rect t).emb y x : ℕ) = ((cfg0 a).win w).index t x * ((cfg0 a).win w).size x + (y x : ℕ) :=
  Pipeline.Window.rect_emb_val _ t y x hk

theorem emb0_0 (a : (pcfg0 (F := F)).Adm) (t : Fin (cfg0 a).N) (y : S96x3584.Idx) : ((((cfg0 a).win 0).rect t).emb y (0 : Fin 2) : ℕ) = (y (0 : Fin 2)).val := by
  refine (emb_val a 0 rfl t y (0 : Fin 2)).trans ?_
  have h : ((cfg0 a).win 0).index t (0 : Fin 2) = 0 := rfl
  exact (congrArg (fun z => z * ((cfg0 a).win 0).size (0 : Fin 2) + (y (0 : Fin 2)).val) h).trans ((congrArg (· + (y (0 : Fin 2)).val) (Nat.zero_mul _)).trans (Nat.zero_add _))

theorem emb0_1 (a : (pcfg0 (F := F)).Adm) (t : Fin (cfg0 a).N) (y : S96x3584.Idx) : ((((cfg0 a).win 0).rect t).emb y (1 : Fin 2) : ℕ) = (y (1 : Fin 2)).val := by
  refine (emb_val a 0 rfl t y (1 : Fin 2)).trans ?_
  have h : ((cfg0 a).win 0).index t (1 : Fin 2) = 0 := rfl
  exact (congrArg (fun z => z * ((cfg0 a).win 0).size (1 : Fin 2) + (y (1 : Fin 2)).val) h).trans ((congrArg (· + (y (1 : Fin 2)).val) (Nat.zero_mul _)).trans (Nat.zero_add _))

theorem blkrd0 (a : (pcfg0 (F := F)).Adm) (c : Dev nD) (t : Fin (cfg0 a).N) (X : Buf (Elt F) ((c : Thread nD τ).loc main_v15)) :
    (((cfg0 a).win 0).blk t).view.read (Elt F) X = fun y : S96x3584.Idx => X (y) := by
  funext y
  refine congrArg X ?_
  funext x
  apply Fin.ext
  revert x
  show ∀ x : Fin 2, _
  intro x
  fin_cases x
  · exact emb0_0 a t y
  · exact emb0_1 a t y

theorem emb1_0 (a : (pcfg0 (F := F)).Adm) (t : Fin (cfg0 a).N) (y : S24x16x3584.Idx) : ((((cfg0 a).win 1).rect t).emb y (0 : Fin 3) : ℕ) = (y (0 : Fin 3)).val := by
  refine (emb_val a 1 rfl t y (0 : Fin 3)).trans ?_
  have h : ((cfg0 a).win 1).index t (0 : Fin 3) = 0 := rfl
  exact (congrArg (fun z => z * ((cfg0 a).win 1).size (0 : Fin 3) + (y (0 : Fin 3)).val) h).trans ((congrArg (· + (y (0 : Fin 3)).val) (Nat.zero_mul _)).trans (Nat.zero_add _))

theorem emb1_1 (a : (pcfg0 (F := F)).Adm) (t : Fin (cfg0 a).N) (y : S24x16x3584.Idx) : ((((cfg0 a).win 1).rect t).emb y (1 : Fin 3) : ℕ) = (y (1 : Fin 3)).val := by
  refine (emb_val a 1 rfl t y (1 : Fin 3)).trans ?_
  have h : ((cfg0 a).win 1).index t (1 : Fin 3) = 0 := rfl
  exact (congrArg (fun z => z * ((cfg0 a).win 1).size (1 : Fin 3) + (y (1 : Fin 3)).val) h).trans ((congrArg (· + (y (1 : Fin 3)).val) (Nat.zero_mul _)).trans (Nat.zero_add _))

theorem emb1_2 (a : (pcfg0 (F := F)).Adm) (t : Fin (cfg0 a).N) (y : S24x16x3584.Idx) : ((((cfg0 a).win 1).rect t).emb y (2 : Fin 3) : ℕ) = (y (2 : Fin 3)).val := by
  refine (emb_val a 1 rfl t y (2 : Fin 3)).trans ?_
  have h : ((cfg0 a).win 1).index t (2 : Fin 3) = 0 := rfl
  exact (congrArg (fun z => z * ((cfg0 a).win 1).size (2 : Fin 3) + (y (2 : Fin 3)).val) h).trans ((congrArg (· + (y (2 : Fin 3)).val) (Nat.zero_mul _)).trans (Nat.zero_add _))

theorem blkrd1 (a : (pcfg0 (F := F)).Adm) (c : Dev nD) (t : Fin (cfg0 a).N) (X : Buf (Elt F) ((c : Thread nD τ).loc main_v26)) :
    (((cfg0 a).win 1).blk t).view.read (Elt F) X = fun y : S24x16x3584.Idx => X (y) := by
  funext y
  refine congrArg X ?_
  funext x
  apply Fin.ext
  revert x
  show ∀ x : Fin 3, _
  intro x
  fin_cases x
  · exact emb1_0 a t y
  · exact emb1_1 a t y
  · exact emb1_2 a t y

theorem emb2_0 (a : (pcfg0 (F := F)).Adm) (t : Fin (cfg0 a).N) (y : S24x4x1.Idx) : ((((cfg0 a).win 2).rect t).emb y (0 : Fin 3) : ℕ) = (y (0 : Fin 3)).val := by
  refine (emb_val a 2 rfl t y (0 : Fin 3)).trans ?_
  have h : ((cfg0 a).win 2).index t (0 : Fin 3) = 0 := rfl
  exact (congrArg (fun z => z * ((cfg0 a).win 2).size (0 : Fin 3) + (y (0 : Fin 3)).val) h).trans ((congrArg (· + (y (0 : Fin 3)).val) (Nat.zero_mul _)).trans (Nat.zero_add _))

theorem emb2_1 (a : (pcfg0 (F := F)).Adm) (t : Fin (cfg0 a).N) (y : S24x4x1.Idx) : ((((cfg0 a).win 2).rect t).emb y (1 : Fin 3) : ℕ) = (y (1 : Fin 3)).val := by
  refine (emb_val a 2 rfl t y (1 : Fin 3)).trans ?_
  have h : ((cfg0 a).win 2).index t (1 : Fin 3) = 0 := rfl
  exact (congrArg (fun z => z * ((cfg0 a).win 2).size (1 : Fin 3) + (y (1 : Fin 3)).val) h).trans ((congrArg (· + (y (1 : Fin 3)).val) (Nat.zero_mul _)).trans (Nat.zero_add _))

theorem emb2_2 (a : (pcfg0 (F := F)).Adm) (t : Fin (cfg0 a).N) (y : S24x4x1.Idx) : ((((cfg0 a).win 2).rect t).emb y (2 : Fin 3) : ℕ) = (y (2 : Fin 3)).val := by
  refine (emb_val a 2 rfl t y (2 : Fin 3)).trans ?_
  have h : ((cfg0 a).win 2).index t (2 : Fin 3) = 0 := rfl
  exact (congrArg (fun z => z * ((cfg0 a).win 2).size (2 : Fin 3) + (y (2 : Fin 3)).val) h).trans ((congrArg (· + (y (2 : Fin 3)).val) (Nat.zero_mul _)).trans (Nat.zero_add _))

theorem blkrd2 (a : (pcfg0 (F := F)).Adm) (c : Dev nD) (t : Fin (cfg0 a).N) (X : Buf (Elt F) ((c : Thread nD τ).loc main_arg1)) :
    (((cfg0 a).win 2).blk t).view.read (Elt F) X = fun y : S24x4x1.Idx => X (y) := by
  funext y
  refine congrArg X ?_
  funext x
  apply Fin.ext
  revert x
  show ∀ x : Fin 3, _
  intro x
  fin_cases x
  · exact emb2_0 a t y
  · exact emb2_1 a t y
  · exact emb2_2 a t y

theorem emb3_0 (a : (pcfg0 (F := F)).Adm) (t : Fin (cfg0 a).N) (y : S24x4x1.Idx) : ((((cfg0 a).win 3).rect t).emb y (0 : Fin 3) : ℕ) = (y (0 : Fin 3)).val := by
  refine (emb_val a 3 rfl t y (0 : Fin 3)).trans ?_
  have h : ((cfg0 a).win 3).index t (0 : Fin 3) = 0 := rfl
  exact (congrArg (fun z => z * ((cfg0 a).win 3).size (0 : Fin 3) + (y (0 : Fin 3)).val) h).trans ((congrArg (· + (y (0 : Fin 3)).val) (Nat.zero_mul _)).trans (Nat.zero_add _))

theorem emb3_1 (a : (pcfg0 (F := F)).Adm) (t : Fin (cfg0 a).N) (y : S24x4x1.Idx) : ((((cfg0 a).win 3).rect t).emb y (1 : Fin 3) : ℕ) = (y (1 : Fin 3)).val := by
  refine (emb_val a 3 rfl t y (1 : Fin 3)).trans ?_
  have h : ((cfg0 a).win 3).index t (1 : Fin 3) = 0 := rfl
  exact (congrArg (fun z => z * ((cfg0 a).win 3).size (1 : Fin 3) + (y (1 : Fin 3)).val) h).trans ((congrArg (· + (y (1 : Fin 3)).val) (Nat.zero_mul _)).trans (Nat.zero_add _))

theorem emb3_2 (a : (pcfg0 (F := F)).Adm) (t : Fin (cfg0 a).N) (y : S24x4x1.Idx) : ((((cfg0 a).win 3).rect t).emb y (2 : Fin 3) : ℕ) = (y (2 : Fin 3)).val := by
  refine (emb_val a 3 rfl t y (2 : Fin 3)).trans ?_
  have h : ((cfg0 a).win 3).index t (2 : Fin 3) = 0 := rfl
  exact (congrArg (fun z => z * ((cfg0 a).win 3).size (2 : Fin 3) + (y (2 : Fin 3)).val) h).trans ((congrArg (· + (y (2 : Fin 3)).val) (Nat.zero_mul _)).trans (Nat.zero_add _))

theorem blkrd3 (a : (pcfg0 (F := F)).Adm) (c : Dev nD) (t : Fin (cfg0 a).N) (X : Buf (Elt F) ((c : Thread nD τ).loc main_v11)) :
    (((cfg0 a).win 3).blk t).view.read (Elt F) X = fun y : S24x4x1.Idx => X (y) := by
  funext y
  refine congrArg X ?_
  funext x
  apply Fin.ext
  revert x
  show ∀ x : Fin 3, _
  intro x
  fin_cases x
  · exact emb3_0 a t y
  · exact emb3_1 a t y
  · exact emb3_2 a t y

theorem emb4_0 (a : (pcfg0 (F := F)).Adm) (t : Fin (cfg0 a).N) (y : S3584x512.Idx) : ((((cfg0 a).win 4).rect t).emb y (0 : Fin 2) : ℕ) = (y (0 : Fin 2)).val := by
  refine (emb_val a 4 rfl t y (0 : Fin 2)).trans ?_
  have h : ((cfg0 a).win 4).index t (0 : Fin 2) = 0 := rfl
  exact (congrArg (fun z => z * ((cfg0 a).win 4).size (0 : Fin 2) + (y (0 : Fin 2)).val) h).trans ((congrArg (· + (y (0 : Fin 2)).val) (Nat.zero_mul _)).trans (Nat.zero_add _))

theorem emb4_1 (a : (pcfg0 (F := F)).Adm) (t : Fin (cfg0 a).N) (y : S3584x512.Idx) : ((((cfg0 a).win 4).rect t).emb y (1 : Fin 2) : ℕ) = (tileOf t).val * 512 + (y (1 : Fin 2)).val := by
  refine (emb_val a 4 rfl t y (1 : Fin 2)).trans ?_
  have h : ((cfg0 a).win 4).index t (1 : Fin 2) = (tileOf t).val := coord0_toNat t
  exact (congrArg (fun z => z * ((cfg0 a).win 4).size (1 : Fin 2) + (y (1 : Fin 2)).val) h)

theorem blkrd4 (a : (pcfg0 (F := F)).Adm) (c : Dev nD) (t : Fin (cfg0 a).N) (X : Buf (Elt F) ((c : Thread nD τ).loc main_arg3)) :
    (((cfg0 a).win 4).blk t).view.read (Elt F) X = fun y : S3584x512.Idx => X (ix2 (y (0 : Fin 2)) (colOf (tileOf t) (y (1 : Fin 2)))) := by
  funext y
  refine congrArg X ?_
  funext x
  apply Fin.ext
  revert x
  show ∀ x : Fin 2, _
  intro x
  fin_cases x
  · exact emb4_0 a t y
  · exact emb4_1 a t y

theorem emb5_0 (a : (pcfg0 (F := F)).Adm) (t : Fin (cfg0 a).N) (y : S3584x512.Idx) : ((((cfg0 a).win 5).rect t).emb y (0 : Fin 2) : ℕ) = (y (0 : Fin 2)).val := by
  refine (emb_val a 5 rfl t y (0 : Fin 2)).trans ?_
  have h : ((cfg0 a).win 5).index t (0 : Fin 2) = 0 := rfl
  exact (congrArg (fun z => z * ((cfg0 a).win 5).size (0 : Fin 2) + (y (0 : Fin 2)).val) h).trans ((congrArg (· + (y (0 : Fin 2)).val) (Nat.zero_mul _)).trans (Nat.zero_add _))

theorem emb5_1 (a : (pcfg0 (F := F)).Adm) (t : Fin (cfg0 a).N) (y : S3584x512.Idx) : ((((cfg0 a).win 5).rect t).emb y (1 : Fin 2) : ℕ) = (tileOf t).val * 512 + (y (1 : Fin 2)).val := by
  refine (emb_val a 5 rfl t y (1 : Fin 2)).trans ?_
  have h : ((cfg0 a).win 5).index t (1 : Fin 2) = (tileOf t).val := coord0_toNat t
  exact (congrArg (fun z => z * ((cfg0 a).win 5).size (1 : Fin 2) + (y (1 : Fin 2)).val) h)

theorem blkrd5 (a : (pcfg0 (F := F)).Adm) (c : Dev nD) (t : Fin (cfg0 a).N) (X : Buf (Elt F) ((c : Thread nD τ).loc main_arg5)) :
    (((cfg0 a).win 5).blk t).view.read (Elt F) X = fun y : S3584x512.Idx => X (ix2 (y (0 : Fin 2)) (colOf (tileOf t) (y (1 : Fin 2)))) := by
  funext y
  refine congrArg X ?_
  funext x
  apply Fin.ext
  revert x
  show ∀ x : Fin 2, _
  intro x
  fin_cases x
  · exact emb5_0 a t y
  · exact emb5_1 a t y

theorem emb6_0 (a : (pcfg0 (F := F)).Adm) (t : Fin (cfg0 a).N) (y : S1x512.Idx) : ((((cfg0 a).win 6).rect t).emb y (0 : Fin 2) : ℕ) = (y (0 : Fin 2)).val := by
  refine (emb_val a 6 rfl t y (0 : Fin 2)).trans ?_
  have h : ((cfg0 a).win 6).index t (0 : Fin 2) = 0 := rfl
  exact (congrArg (fun z => z * ((cfg0 a).win 6).size (0 : Fin 2) + (y (0 : Fin 2)).val) h).trans ((congrArg (· + (y (0 : Fin 2)).val) (Nat.zero_mul _)).trans (Nat.zero_add _))

theorem emb6_1 (a : (pcfg0 (F := F)).Adm) (t : Fin (cfg0 a).N) (y : S1x512.Idx) : ((((cfg0 a).win 6).rect t).emb y (1 : Fin 2) : ℕ) = (tileOf t).val * 512 + (y (1 : Fin 2)).val := by
  refine (emb_val a 6 rfl t y (1 : Fin 2)).trans ?_
  have h : ((cfg0 a).win 6).index t (1 : Fin 2) = (tileOf t).val := coord0_toNat t
  exact (congrArg (fun z => z * ((cfg0 a).win 6).size (1 : Fin 2) + (y (1 : Fin 2)).val) h)

theorem blkrd6 (a : (pcfg0 (F := F)).Adm) (c : Dev nD) (t : Fin (cfg0 a).N) (X : Buf (Elt F) ((c : Thread nD τ).loc main_v49)) :
    (((cfg0 a).win 6).blk t).view.read (Elt F) X = fun y : S1x512.Idx => X (ix2 (y (0 : Fin 2)) (colOf (tileOf t) (y (1 : Fin 2)))) := by
  funext y
  refine congrArg X ?_
  funext x
  apply Fin.ext
  revert x
  show ∀ x : Fin 2, _
  intro x
  fin_cases x
  · exact emb6_0 a t y
  · exact emb6_1 a t y

theorem emb7_0 (a : (pcfg0 (F := F)).Adm) (t : Fin (cfg0 a).N) (y : S1x512.Idx) : ((((cfg0 a).win 7).rect t).emb y (0 : Fin 2) : ℕ) = (y (0 : Fin 2)).val := by
  refine (emb_val a 7 rfl t y (0 : Fin 2)).trans ?_
  have h : ((cfg0 a).win 7).index t (0 : Fin 2) = 0 := rfl
  exact (congrArg (fun z => z * ((cfg0 a).win 7).size (0 : Fin 2) + (y (0 : Fin 2)).val) h).trans ((congrArg (· + (y (0 : Fin 2)).val) (Nat.zero_mul _)).trans (Nat.zero_add _))

theorem emb7_1 (a : (pcfg0 (F := F)).Adm) (t : Fin (cfg0 a).N) (y : S1x512.Idx) : ((((cfg0 a).win 7).rect t).emb y (1 : Fin 2) : ℕ) = (tileOf t).val * 512 + (y (1 : Fin 2)).val := by
  refine (emb_val a 7 rfl t y (1 : Fin 2)).trans ?_
  have h : ((cfg0 a).win 7).index t (1 : Fin 2) = (tileOf t).val := coord0_toNat t
  exact (congrArg (fun z => z * ((cfg0 a).win 7).size (1 : Fin 2) + (y (1 : Fin 2)).val) h)

theorem blkrd7 (a : (pcfg0 (F := F)).Adm) (c : Dev nD) (t : Fin (cfg0 a).N) (X : Buf (Elt F) ((c : Thread nD τ).loc main_v50)) :
    (((cfg0 a).win 7).blk t).view.read (Elt F) X = fun y : S1x512.Idx => X (ix2 (y (0 : Fin 2)) (colOf (tileOf t) (y (1 : Fin 2)))) := by
  funext y
  refine congrArg X ?_
  funext x
  apply Fin.ext
  revert x
  show ∀ x : Fin 2, _
  intro x
  fin_cases x
  · exact emb7_0 a t y
  · exact emb7_1 a t y

theorem emb8_0 (a : (pcfg0 (F := F)).Adm) (t : Fin (cfg0 a).N) (y : S24x1x512.Idx) : ((((cfg0 a).win 8).rect t).emb y (0 : Fin 3) : ℕ) = (y (0 : Fin 3)).val := by
  refine (emb_val a 8 rfl t y (0 : Fin 3)).trans ?_
  have h : ((cfg0 a).win 8).index t (0 : Fin 3) = 0 := rfl
  exact (congrArg (fun z => z * ((cfg0 a).win 8).size (0 : Fin 3) + (y (0 : Fin 3)).val) h).trans ((congrArg (· + (y (0 : Fin 3)).val) (Nat.zero_mul _)).trans (Nat.zero_add _))

theorem emb8_1 (a : (pcfg0 (F := F)).Adm) (t : Fin (cfg0 a).N) (y : S24x1x512.Idx) : ((((cfg0 a).win 8).rect t).emb y (1 : Fin 3) : ℕ) = (y (1 : Fin 3)).val := by
  refine (emb_val a 8 rfl t y (1 : Fin 3)).trans ?_
  have h : ((cfg0 a).win 8).index t (1 : Fin 3) = 0 := rfl
  exact (congrArg (fun z => z * ((cfg0 a).win 8).size (1 : Fin 3) + (y (1 : Fin 3)).val) h).trans ((congrArg (· + (y (1 : Fin 3)).val) (Nat.zero_mul _)).trans (Nat.zero_add _))

theorem emb8_2 (a : (pcfg0 (F := F)).Adm) (t : Fin (cfg0 a).N) (y : S24x1x512.Idx) : ((((cfg0 a).win 8).rect t).emb y (2 : Fin 3) : ℕ) = (tileOf t).val * 512 + (y (2 : Fin 3)).val := by
  refine (emb_val a 8 rfl t y (2 : Fin 3)).trans ?_
  have h : ((cfg0 a).win 8).index t (2 : Fin 3) = (tileOf t).val := coord0_toNat t
  exact (congrArg (fun z => z * ((cfg0 a).win 8).size (2 : Fin 3) + (y (2 : Fin 3)).val) h)

theorem blkrd8 (a : (pcfg0 (F := F)).Adm) (c : Dev nD) (t : Fin (cfg0 a).N) (X : Buf (Elt F) ((c : Thread nD τ).loc main_v51)) :
    (((cfg0 a).win 8).blk t).view.read (Elt F) X = fun y : S24x1x512.Idx => X (ix3 (y (0 : Fin 3)) (y (1 : Fin 3)) (colOf (tileOf t) (y (2 : Fin 3)))) := by
  funext y
  refine congrArg X ?_
  funext x
  apply Fin.ext
  revert x
  show ∀ x : Fin 3, _
  intro x
  fin_cases x
  · exact emb8_0 a t y
  · exact emb8_1 a t y
  · exact emb8_2 a t y

theorem emb9_0 (a : (pcfg0 (F := F)).Adm) (t : Fin (cfg0 a).N) (y : S24x1x512.Idx) : ((((cfg0 a).win 9).rect t).emb y (0 : Fin 3) : ℕ) = (y (0 : Fin 3)).val := by
  refine (emb_val a 9 rfl t y (0 : Fin 3)).trans ?_
  have h : ((cfg0 a).win 9).index t (0 : Fin 3) = 0 := rfl
  exact (congrArg (fun z => z * ((cfg0 a).win 9).size (0 : Fin 3) + (y (0 : Fin 3)).val) h).trans ((congrArg (· + (y (0 : Fin 3)).val) (Nat.zero_mul _)).trans (Nat.zero_add _))

theorem emb9_1 (a : (pcfg0 (F := F)).Adm) (t : Fin (cfg0 a).N) (y : S24x1x512.Idx) : ((((cfg0 a).win 9).rect t).emb y (1 : Fin 3) : ℕ) = (y (1 : Fin 3)).val := by
  refine (emb_val a 9 rfl t y (1 : Fin 3)).trans ?_
  have h : ((cfg0 a).win 9).index t (1 : Fin 3) = 0 := rfl
  exact (congrArg (fun z => z * ((cfg0 a).win 9).size (1 : Fin 3) + (y (1 : Fin 3)).val) h).trans ((congrArg (· + (y (1 : Fin 3)).val) (Nat.zero_mul _)).trans (Nat.zero_add _))

theorem emb9_2 (a : (pcfg0 (F := F)).Adm) (t : Fin (cfg0 a).N) (y : S24x1x512.Idx) : ((((cfg0 a).win 9).rect t).emb y (2 : Fin 3) : ℕ) = (tileOf t).val * 512 + (y (2 : Fin 3)).val := by
  refine (emb_val a 9 rfl t y (2 : Fin 3)).trans ?_
  have h : ((cfg0 a).win 9).index t (2 : Fin 3) = (tileOf t).val := coord0_toNat t
  exact (congrArg (fun z => z * ((cfg0 a).win 9).size (2 : Fin 3) + (y (2 : Fin 3)).val) h)

theorem blkrd9 (a : (pcfg0 (F := F)).Adm) (c : Dev nD) (t : Fin (cfg0 a).N) (X : Buf (Elt F) ((c : Thread nD τ).loc main_v52)) :
    (((cfg0 a).win 9).blk t).view.read (Elt F) X = fun y : S24x1x512.Idx => X (ix3 (y (0 : Fin 3)) (y (1 : Fin 3)) (colOf (tileOf t) (y (2 : Fin 3)))) := by
  funext y
  refine congrArg X ?_
  funext x
  apply Fin.ext
  revert x
  show ∀ x : Fin 3, _
  intro x
  fin_cases x
  · exact emb9_0 a t y
  · exact emb9_1 a t y
  · exact emb9_2 a t y

theorem idx10_0 (a : (pcfg0 (F := F)).Adm) (t : Fin (cfg0 a).N) (T : Fin 24) (hT : (a.1 2 : Vec F S25 .i32) (slotIx (grid0.coords t) 0) = BitVec.ofNat 32 T.val) : ((cfg0 a).win 10).index t (0 : Fin 3) = T.val := by
  show BitVec.toNat (a.1.at 2 (Rect.unit (s := S25) (k0_off1 (grid0.coords t) (BitVec.ofNat 32 (0 : Fin 5).val)) S1.size (k0_off1_inb (grid0.coords t) 0)) numel1_S1) = _
  have e : a.1.at 2 (Rect.unit (s := S25) (k0_off1 (grid0.coords t) (BitVec.ofNat 32 (0 : Fin 5).val)) S1.size (k0_off1_inb (grid0.coords t) 0)) numel1_S1 = (a.1 2 : Vec F S25 .i32) (slotIx (grid0.coords t) 0) := by
    refine congrArg (a.1 2 : Vec F S25 .i32) ?_
    funext x
    obtain rfl : x = (0 : Fin 1) := Subsingleton.elim (α := Fin 1) _ _
    apply Fin.ext
    have H : ∀ g : Fin 5, (Scalar.addi (Scalar.muli (BitVec.ofNat 32 g.val) 5#32) 0#32).toNat = g.val * 5 + 0 := by decide
    exact (H ⟨grpOf (grid0.coords t), grpOf_lt _⟩)
  rw [e, hT, toNat_fin]

theorem emb10_0 (a : (pcfg0 (F := F)).Adm) (t : Fin (cfg0 a).N) (y : S1x112x512.Idx) (T : Fin 24) (hT : (a.1 2 : Vec F S25 .i32) (slotIx (grid0.coords t) 0) = BitVec.ofNat 32 T.val) : ((((cfg0 a).win 10).rect t).emb y (0 : Fin 3) : ℕ) = T.val := by
  refine (emb_val a 10 rfl t y (0 : Fin 3)).trans ?_
  refine (congrArg (fun z => z * ((cfg0 a).win 10).size (0 : Fin 3) + (y (0 : Fin 3)).val) (idx10_0 a t T hT)).trans ?_
  have : (y (0 : Fin 3)).val < 1 := (y (0 : Fin 3)).isLt
  show T.val * 1 + (y (0 : Fin 3)).val = T.val
  omega

theorem emb10_1 (a : (pcfg0 (F := F)).Adm) (t : Fin (cfg0 a).N) (y : S1x112x512.Idx) : ((((cfg0 a).win 10).rect t).emb y (1 : Fin 3) : ℕ) = (y (1 : Fin 3)).val := by
  refine (emb_val a 10 rfl t y (1 : Fin 3)).trans ?_
  have h : ((cfg0 a).win 10).index t (1 : Fin 3) = 0 := rfl
  exact (congrArg (fun z => z * ((cfg0 a).win 10).size (1 : Fin 3) + (y (1 : Fin 3)).val) h).trans ((congrArg (· + (y (1 : Fin 3)).val) (Nat.zero_mul _)).trans (Nat.zero_add _))

theorem emb10_2 (a : (pcfg0 (F := F)).Adm) (t : Fin (cfg0 a).N) (y : S1x112x512.Idx) : ((((cfg0 a).win 10).rect t).emb y (2 : Fin 3) : ℕ) = (tileOf t).val * 512 + (y (2 : Fin 3)).val := by
  refine (emb_val a 10 rfl t y (2 : Fin 3)).trans ?_
  have h : ((cfg0 a).win 10).index t (2 : Fin 3) = (tileOf t).val := coord0_toNat t
  exact (congrArg (fun z => z * ((cfg0 a).win 10).size (2 : Fin 3) + (y (2 : Fin 3)).val) h)

theorem blkrd10 (a : (pcfg0 (F := F)).Adm) (c : Dev nD) (t : Fin (cfg0 a).N) (X : Buf (Elt F) ((c : Thread nD τ).loc main_arg7)) (T : Fin 24) (hT : (a.1 2 : Vec F S25 .i32) (slotIx (grid0.coords t) 0) = BitVec.ofNat 32 T.val) :
    (((cfg0 a).win 10).blk t).view.read (Elt F) X = fun y : S1x112x512.Idx => X (ix3 T (y (1 : Fin 3)) (colOf (tileOf t) (y (2 : Fin 3)))) := by
  funext y
  refine congrArg X ?_
  funext x
  apply Fin.ext
  revert x
  show ∀ x : Fin 3, _
  intro x
  fin_cases x
  · exact emb10_0 a t y T hT
  · exact emb10_1 a t y
  · exact emb10_2 a t y

theorem idx11_0 (a : (pcfg0 (F := F)).Adm) (t : Fin (cfg0 a).N) (T : Fin 24) (hT : (a.1 2 : Vec F S25 .i32) (slotIx (grid0.coords t) 1) = BitVec.ofNat 32 T.val) : ((cfg0 a).win 11).index t (0 : Fin 3) = T.val := by
  show BitVec.toNat (a.1.at 2 (Rect.unit (s := S25) (k0_off1 (grid0.coords t) (BitVec.ofNat 32 (1 : Fin 5).val)) S1.size (k0_off1_inb (grid0.coords t) 1)) numel1_S1) = _
  have e : a.1.at 2 (Rect.unit (s := S25) (k0_off1 (grid0.coords t) (BitVec.ofNat 32 (1 : Fin 5).val)) S1.size (k0_off1_inb (grid0.coords t) 1)) numel1_S1 = (a.1 2 : Vec F S25 .i32) (slotIx (grid0.coords t) 1) := by
    refine congrArg (a.1 2 : Vec F S25 .i32) ?_
    funext x
    obtain rfl : x = (0 : Fin 1) := Subsingleton.elim (α := Fin 1) _ _
    apply Fin.ext
    have H : ∀ g : Fin 5, (Scalar.addi (Scalar.muli (BitVec.ofNat 32 g.val) 5#32) 1#32).toNat = g.val * 5 + 1 := by decide
    exact (H ⟨grpOf (grid0.coords t), grpOf_lt _⟩)
  rw [e, hT, toNat_fin]

theorem emb11_0 (a : (pcfg0 (F := F)).Adm) (t : Fin (cfg0 a).N) (y : S1x112x512.Idx) (T : Fin 24) (hT : (a.1 2 : Vec F S25 .i32) (slotIx (grid0.coords t) 1) = BitVec.ofNat 32 T.val) : ((((cfg0 a).win 11).rect t).emb y (0 : Fin 3) : ℕ) = T.val := by
  refine (emb_val a 11 rfl t y (0 : Fin 3)).trans ?_
  refine (congrArg (fun z => z * ((cfg0 a).win 11).size (0 : Fin 3) + (y (0 : Fin 3)).val) (idx11_0 a t T hT)).trans ?_
  have : (y (0 : Fin 3)).val < 1 := (y (0 : Fin 3)).isLt
  show T.val * 1 + (y (0 : Fin 3)).val = T.val
  omega

theorem emb11_1 (a : (pcfg0 (F := F)).Adm) (t : Fin (cfg0 a).N) (y : S1x112x512.Idx) : ((((cfg0 a).win 11).rect t).emb y (1 : Fin 3) : ℕ) = (y (1 : Fin 3)).val := by
  refine (emb_val a 11 rfl t y (1 : Fin 3)).trans ?_
  have h : ((cfg0 a).win 11).index t (1 : Fin 3) = 0 := rfl
  exact (congrArg (fun z => z * ((cfg0 a).win 11).size (1 : Fin 3) + (y (1 : Fin 3)).val) h).trans ((congrArg (· + (y (1 : Fin 3)).val) (Nat.zero_mul _)).trans (Nat.zero_add _))

theorem emb11_2 (a : (pcfg0 (F := F)).Adm) (t : Fin (cfg0 a).N) (y : S1x112x512.Idx) : ((((cfg0 a).win 11).rect t).emb y (2 : Fin 3) : ℕ) = (tileOf t).val * 512 + (y (2 : Fin 3)).val := by
  refine (emb_val a 11 rfl t y (2 : Fin 3)).trans ?_
  have h : ((cfg0 a).win 11).index t (2 : Fin 3) = (tileOf t).val := coord0_toNat t
  exact (congrArg (fun z => z * ((cfg0 a).win 11).size (2 : Fin 3) + (y (2 : Fin 3)).val) h)

theorem blkrd11 (a : (pcfg0 (F := F)).Adm) (c : Dev nD) (t : Fin (cfg0 a).N) (X : Buf (Elt F) ((c : Thread nD τ).loc main_arg7)) (T : Fin 24) (hT : (a.1 2 : Vec F S25 .i32) (slotIx (grid0.coords t) 1) = BitVec.ofNat 32 T.val) :
    (((cfg0 a).win 11).blk t).view.read (Elt F) X = fun y : S1x112x512.Idx => X (ix3 T (y (1 : Fin 3)) (colOf (tileOf t) (y (2 : Fin 3)))) := by
  funext y
  refine congrArg X ?_
  funext x
  apply Fin.ext
  revert x
  show ∀ x : Fin 3, _
  intro x
  fin_cases x
  · exact emb11_0 a t y T hT
  · exact emb11_1 a t y
  · exact emb11_2 a t y

theorem idx12_0 (a : (pcfg0 (F := F)).Adm) (t : Fin (cfg0 a).N) (T : Fin 24) (hT : (a.1 2 : Vec F S25 .i32) (slotIx (grid0.coords t) 2) = BitVec.ofNat 32 T.val) : ((cfg0 a).win 12).index t (0 : Fin 3) = T.val := by
  show BitVec.toNat (a.1.at 2 (Rect.unit (s := S25) (k0_off1 (grid0.coords t) (BitVec.ofNat 32 (2 : Fin 5).val)) S1.size (k0_off1_inb (grid0.coords t) 2)) numel1_S1) = _
  have e : a.1.at 2 (Rect.unit (s := S25) (k0_off1 (grid0.coords t) (BitVec.ofNat 32 (2 : Fin 5).val)) S1.size (k0_off1_inb (grid0.coords t) 2)) numel1_S1 = (a.1 2 : Vec F S25 .i32) (slotIx (grid0.coords t) 2) := by
    refine congrArg (a.1 2 : Vec F S25 .i32) ?_
    funext x
    obtain rfl : x = (0 : Fin 1) := Subsingleton.elim (α := Fin 1) _ _
    apply Fin.ext
    have H : ∀ g : Fin 5, (Scalar.addi (Scalar.muli (BitVec.ofNat 32 g.val) 5#32) 2#32).toNat = g.val * 5 + 2 := by decide
    exact (H ⟨grpOf (grid0.coords t), grpOf_lt _⟩)
  rw [e, hT, toNat_fin]

theorem emb12_0 (a : (pcfg0 (F := F)).Adm) (t : Fin (cfg0 a).N) (y : S1x112x512.Idx) (T : Fin 24) (hT : (a.1 2 : Vec F S25 .i32) (slotIx (grid0.coords t) 2) = BitVec.ofNat 32 T.val) : ((((cfg0 a).win 12).rect t).emb y (0 : Fin 3) : ℕ) = T.val := by
  refine (emb_val a 12 rfl t y (0 : Fin 3)).trans ?_
  refine (congrArg (fun z => z * ((cfg0 a).win 12).size (0 : Fin 3) + (y (0 : Fin 3)).val) (idx12_0 a t T hT)).trans ?_
  have : (y (0 : Fin 3)).val < 1 := (y (0 : Fin 3)).isLt
  show T.val * 1 + (y (0 : Fin 3)).val = T.val
  omega

theorem emb12_1 (a : (pcfg0 (F := F)).Adm) (t : Fin (cfg0 a).N) (y : S1x112x512.Idx) : ((((cfg0 a).win 12).rect t).emb y (1 : Fin 3) : ℕ) = (y (1 : Fin 3)).val := by
  refine (emb_val a 12 rfl t y (1 : Fin 3)).trans ?_
  have h : ((cfg0 a).win 12).index t (1 : Fin 3) = 0 := rfl
  exact (congrArg (fun z => z * ((cfg0 a).win 12).size (1 : Fin 3) + (y (1 : Fin 3)).val) h).trans ((congrArg (· + (y (1 : Fin 3)).val) (Nat.zero_mul _)).trans (Nat.zero_add _))

theorem emb12_2 (a : (pcfg0 (F := F)).Adm) (t : Fin (cfg0 a).N) (y : S1x112x512.Idx) : ((((cfg0 a).win 12).rect t).emb y (2 : Fin 3) : ℕ) = (tileOf t).val * 512 + (y (2 : Fin 3)).val := by
  refine (emb_val a 12 rfl t y (2 : Fin 3)).trans ?_
  have h : ((cfg0 a).win 12).index t (2 : Fin 3) = (tileOf t).val := coord0_toNat t
  exact (congrArg (fun z => z * ((cfg0 a).win 12).size (2 : Fin 3) + (y (2 : Fin 3)).val) h)

theorem blkrd12 (a : (pcfg0 (F := F)).Adm) (c : Dev nD) (t : Fin (cfg0 a).N) (X : Buf (Elt F) ((c : Thread nD τ).loc main_arg7)) (T : Fin 24) (hT : (a.1 2 : Vec F S25 .i32) (slotIx (grid0.coords t) 2) = BitVec.ofNat 32 T.val) :
    (((cfg0 a).win 12).blk t).view.read (Elt F) X = fun y : S1x112x512.Idx => X (ix3 T (y (1 : Fin 3)) (colOf (tileOf t) (y (2 : Fin 3)))) := by
  funext y
  refine congrArg X ?_
  funext x
  apply Fin.ext
  revert x
  show ∀ x : Fin 3, _
  intro x
  fin_cases x
  · exact emb12_0 a t y T hT
  · exact emb12_1 a t y
  · exact emb12_2 a t y

theorem idx13_0 (a : (pcfg0 (F := F)).Adm) (t : Fin (cfg0 a).N) (T : Fin 24) (hT : (a.1 2 : Vec F S25 .i32) (slotIx (grid0.coords t) 3) = BitVec.ofNat 32 T.val) : ((cfg0 a).win 13).index t (0 : Fin 3) = T.val := by
  show BitVec.toNat (a.1.at 2 (Rect.unit (s := S25) (k0_off1 (grid0.coords t) (BitVec.ofNat 32 (3 : Fin 5).val)) S1.size (k0_off1_inb (grid0.coords t) 3)) numel1_S1) = _
  have e : a.1.at 2 (Rect.unit (s := S25) (k0_off1 (grid0.coords t) (BitVec.ofNat 32 (3 : Fin 5).val)) S1.size (k0_off1_inb (grid0.coords t) 3)) numel1_S1 = (a.1 2 : Vec F S25 .i32) (slotIx (grid0.coords t) 3) := by
    refine congrArg (a.1 2 : Vec F S25 .i32) ?_
    funext x
    obtain rfl : x = (0 : Fin 1) := Subsingleton.elim (α := Fin 1) _ _
    apply Fin.ext
    have H : ∀ g : Fin 5, (Scalar.addi (Scalar.muli (BitVec.ofNat 32 g.val) 5#32) 3#32).toNat = g.val * 5 + 3 := by decide
    exact (H ⟨grpOf (grid0.coords t), grpOf_lt _⟩)
  rw [e, hT, toNat_fin]

theorem emb13_0 (a : (pcfg0 (F := F)).Adm) (t : Fin (cfg0 a).N) (y : S1x112x512.Idx) (T : Fin 24) (hT : (a.1 2 : Vec F S25 .i32) (slotIx (grid0.coords t) 3) = BitVec.ofNat 32 T.val) : ((((cfg0 a).win 13).rect t).emb y (0 : Fin 3) : ℕ) = T.val := by
  refine (emb_val a 13 rfl t y (0 : Fin 3)).trans ?_
  refine (congrArg (fun z => z * ((cfg0 a).win 13).size (0 : Fin 3) + (y (0 : Fin 3)).val) (idx13_0 a t T hT)).trans ?_
  have : (y (0 : Fin 3)).val < 1 := (y (0 : Fin 3)).isLt
  show T.val * 1 + (y (0 : Fin 3)).val = T.val
  omega

theorem emb13_1 (a : (pcfg0 (F := F)).Adm) (t : Fin (cfg0 a).N) (y : S1x112x512.Idx) : ((((cfg0 a).win 13).rect t).emb y (1 : Fin 3) : ℕ) = (y (1 : Fin 3)).val := by
  refine (emb_val a 13 rfl t y (1 : Fin 3)).trans ?_
  have h : ((cfg0 a).win 13).index t (1 : Fin 3) = 0 := rfl
  exact (congrArg (fun z => z * ((cfg0 a).win 13).size (1 : Fin 3) + (y (1 : Fin 3)).val) h).trans ((congrArg (· + (y (1 : Fin 3)).val) (Nat.zero_mul _)).trans (Nat.zero_add _))

theorem emb13_2 (a : (pcfg0 (F := F)).Adm) (t : Fin (cfg0 a).N) (y : S1x112x512.Idx) : ((((cfg0 a).win 13).rect t).emb y (2 : Fin 3) : ℕ) = (tileOf t).val * 512 + (y (2 : Fin 3)).val := by
  refine (emb_val a 13 rfl t y (2 : Fin 3)).trans ?_
  have h : ((cfg0 a).win 13).index t (2 : Fin 3) = (tileOf t).val := coord0_toNat t
  exact (congrArg (fun z => z * ((cfg0 a).win 13).size (2 : Fin 3) + (y (2 : Fin 3)).val) h)

theorem blkrd13 (a : (pcfg0 (F := F)).Adm) (c : Dev nD) (t : Fin (cfg0 a).N) (X : Buf (Elt F) ((c : Thread nD τ).loc main_arg7)) (T : Fin 24) (hT : (a.1 2 : Vec F S25 .i32) (slotIx (grid0.coords t) 3) = BitVec.ofNat 32 T.val) :
    (((cfg0 a).win 13).blk t).view.read (Elt F) X = fun y : S1x112x512.Idx => X (ix3 T (y (1 : Fin 3)) (colOf (tileOf t) (y (2 : Fin 3)))) := by
  funext y
  refine congrArg X ?_
  funext x
  apply Fin.ext
  revert x
  show ∀ x : Fin 3, _
  intro x
  fin_cases x
  · exact emb13_0 a t y T hT
  · exact emb13_1 a t y
  · exact emb13_2 a t y

theorem idx14_0 (a : (pcfg0 (F := F)).Adm) (t : Fin (cfg0 a).N) (T : Fin 24) (hT : (a.1 2 : Vec F S25 .i32) (slotIx (grid0.coords t) 4) = BitVec.ofNat 32 T.val) : ((cfg0 a).win 14).index t (0 : Fin 3) = T.val := by
  show BitVec.toNat (a.1.at 2 (Rect.unit (s := S25) (k0_off1 (grid0.coords t) (BitVec.ofNat 32 (4 : Fin 5).val)) S1.size (k0_off1_inb (grid0.coords t) 4)) numel1_S1) = _
  have e : a.1.at 2 (Rect.unit (s := S25) (k0_off1 (grid0.coords t) (BitVec.ofNat 32 (4 : Fin 5).val)) S1.size (k0_off1_inb (grid0.coords t) 4)) numel1_S1 = (a.1 2 : Vec F S25 .i32) (slotIx (grid0.coords t) 4) := by
    refine congrArg (a.1 2 : Vec F S25 .i32) ?_
    funext x
    obtain rfl : x = (0 : Fin 1) := Subsingleton.elim (α := Fin 1) _ _
    apply Fin.ext
    have H : ∀ g : Fin 5, (Scalar.addi (Scalar.muli (BitVec.ofNat 32 g.val) 5#32) 4#32).toNat = g.val * 5 + 4 := by decide
    exact (H ⟨grpOf (grid0.coords t), grpOf_lt _⟩)
  rw [e, hT, toNat_fin]

theorem emb14_0 (a : (pcfg0 (F := F)).Adm) (t : Fin (cfg0 a).N) (y : S1x112x512.Idx) (T : Fin 24) (hT : (a.1 2 : Vec F S25 .i32) (slotIx (grid0.coords t) 4) = BitVec.ofNat 32 T.val) : ((((cfg0 a).win 14).rect t).emb y (0 : Fin 3) : ℕ) = T.val := by
  refine (emb_val a 14 rfl t y (0 : Fin 3)).trans ?_
  refine (congrArg (fun z => z * ((cfg0 a).win 14).size (0 : Fin 3) + (y (0 : Fin 3)).val) (idx14_0 a t T hT)).trans ?_
  have : (y (0 : Fin 3)).val < 1 := (y (0 : Fin 3)).isLt
  show T.val * 1 + (y (0 : Fin 3)).val = T.val
  omega

theorem emb14_1 (a : (pcfg0 (F := F)).Adm) (t : Fin (cfg0 a).N) (y : S1x112x512.Idx) : ((((cfg0 a).win 14).rect t).emb y (1 : Fin 3) : ℕ) = (y (1 : Fin 3)).val := by
  refine (emb_val a 14 rfl t y (1 : Fin 3)).trans ?_
  have h : ((cfg0 a).win 14).index t (1 : Fin 3) = 0 := rfl
  exact (congrArg (fun z => z * ((cfg0 a).win 14).size (1 : Fin 3) + (y (1 : Fin 3)).val) h).trans ((congrArg (· + (y (1 : Fin 3)).val) (Nat.zero_mul _)).trans (Nat.zero_add _))

theorem emb14_2 (a : (pcfg0 (F := F)).Adm) (t : Fin (cfg0 a).N) (y : S1x112x512.Idx) : ((((cfg0 a).win 14).rect t).emb y (2 : Fin 3) : ℕ) = (tileOf t).val * 512 + (y (2 : Fin 3)).val := by
  refine (emb_val a 14 rfl t y (2 : Fin 3)).trans ?_
  have h : ((cfg0 a).win 14).index t (2 : Fin 3) = (tileOf t).val := coord0_toNat t
  exact (congrArg (fun z => z * ((cfg0 a).win 14).size (2 : Fin 3) + (y (2 : Fin 3)).val) h)

theorem blkrd14 (a : (pcfg0 (F := F)).Adm) (c : Dev nD) (t : Fin (cfg0 a).N) (X : Buf (Elt F) ((c : Thread nD τ).loc main_arg7)) (T : Fin 24) (hT : (a.1 2 : Vec F S25 .i32) (slotIx (grid0.coords t) 4) = BitVec.ofNat 32 T.val) :
    (((cfg0 a).win 14).blk t).view.read (Elt F) X = fun y : S1x112x512.Idx => X (ix3 T (y (1 : Fin 3)) (colOf (tileOf t) (y (2 : Fin 3)))) := by
  funext y
  refine congrArg X ?_
  funext x
  apply Fin.ext
  revert x
  show ∀ x : Fin 3, _
  intro x
  fin_cases x
  · exact emb14_0 a t y T hT
  · exact emb14_1 a t y
  · exact emb14_2 a t y

theorem idx15_0 (a : (pcfg0 (F := F)).Adm) (t : Fin (cfg0 a).N) (T : Fin 24) (hT : (a.1 2 : Vec F S25 .i32) (slotIx (grid0.coords t) 0) = BitVec.ofNat 32 T.val) : ((cfg0 a).win 15).index t (0 : Fin 3) = T.val := by
  show BitVec.toNat (a.1.at 2 (Rect.unit (s := S25) (k0_off1 (grid0.coords t) (BitVec.ofNat 32 (0 : Fin 5).val)) S1.size (k0_off1_inb (grid0.coords t) 0)) numel1_S1) = _
  have e : a.1.at 2 (Rect.unit (s := S25) (k0_off1 (grid0.coords t) (BitVec.ofNat 32 (0 : Fin 5).val)) S1.size (k0_off1_inb (grid0.coords t) 0)) numel1_S1 = (a.1 2 : Vec F S25 .i32) (slotIx (grid0.coords t) 0) := by
    refine congrArg (a.1 2 : Vec F S25 .i32) ?_
    funext x
    obtain rfl : x = (0 : Fin 1) := Subsingleton.elim (α := Fin 1) _ _
    apply Fin.ext
    have H : ∀ g : Fin 5, (Scalar.addi (Scalar.muli (BitVec.ofNat 32 g.val) 5#32) 0#32).toNat = g.val * 5 + 0 := by decide
    exact (H ⟨grpOf (grid0.coords t), grpOf_lt _⟩)
  rw [e, hT, toNat_fin]

theorem emb15_0 (a : (pcfg0 (F := F)).Adm) (t : Fin (cfg0 a).N) (y : S1x112x512.Idx) (T : Fin 24) (hT : (a.1 2 : Vec F S25 .i32) (slotIx (grid0.coords t) 0) = BitVec.ofNat 32 T.val) : ((((cfg0 a).win 15).rect t).emb y (0 : Fin 3) : ℕ) = T.val := by
  refine (emb_val a 15 rfl t y (0 : Fin 3)).trans ?_
  refine (congrArg (fun z => z * ((cfg0 a).win 15).size (0 : Fin 3) + (y (0 : Fin 3)).val) (idx15_0 a t T hT)).trans ?_
  have : (y (0 : Fin 3)).val < 1 := (y (0 : Fin 3)).isLt
  show T.val * 1 + (y (0 : Fin 3)).val = T.val
  omega

theorem emb15_1 (a : (pcfg0 (F := F)).Adm) (t : Fin (cfg0 a).N) (y : S1x112x512.Idx) : ((((cfg0 a).win 15).rect t).emb y (1 : Fin 3) : ℕ) = (y (1 : Fin 3)).val := by
  refine (emb_val a 15 rfl t y (1 : Fin 3)).trans ?_
  have h : ((cfg0 a).win 15).index t (1 : Fin 3) = 0 := rfl
  exact (congrArg (fun z => z * ((cfg0 a).win 15).size (1 : Fin 3) + (y (1 : Fin 3)).val) h).trans ((congrArg (· + (y (1 : Fin 3)).val) (Nat.zero_mul _)).trans (Nat.zero_add _))

theorem emb15_2 (a : (pcfg0 (F := F)).Adm) (t : Fin (cfg0 a).N) (y : S1x112x512.Idx) : ((((cfg0 a).win 15).rect t).emb y (2 : Fin 3) : ℕ) = (tileOf t).val * 512 + (y (2 : Fin 3)).val := by
  refine (emb_val a 15 rfl t y (2 : Fin 3)).trans ?_
  have h : ((cfg0 a).win 15).index t (2 : Fin 3) = (tileOf t).val := coord0_toNat t
  exact (congrArg (fun z => z * ((cfg0 a).win 15).size (2 : Fin 3) + (y (2 : Fin 3)).val) h)

theorem blkrd15 (a : (pcfg0 (F := F)).Adm) (c : Dev nD) (t : Fin (cfg0 a).N) (X : Buf (Elt F) ((c : Thread nD τ).loc main_arg8)) (T : Fin 24) (hT : (a.1 2 : Vec F S25 .i32) (slotIx (grid0.coords t) 0) = BitVec.ofNat 32 T.val) :
    (((cfg0 a).win 15).blk t).view.read (Elt F) X = fun y : S1x112x512.Idx => X (ix3 T (y (1 : Fin 3)) (colOf (tileOf t) (y (2 : Fin 3)))) := by
  funext y
  refine congrArg X ?_
  funext x
  apply Fin.ext
  revert x
  show ∀ x : Fin 3, _
  intro x
  fin_cases x
  · exact emb15_0 a t y T hT
  · exact emb15_1 a t y
  · exact emb15_2 a t y

theorem idx16_0 (a : (pcfg0 (F := F)).Adm) (t : Fin (cfg0 a).N) (T : Fin 24) (hT : (a.1 2 : Vec F S25 .i32) (slotIx (grid0.coords t) 1) = BitVec.ofNat 32 T.val) : ((cfg0 a).win 16).index t (0 : Fin 3) = T.val := by
  show BitVec.toNat (a.1.at 2 (Rect.unit (s := S25) (k0_off1 (grid0.coords t) (BitVec.ofNat 32 (1 : Fin 5).val)) S1.size (k0_off1_inb (grid0.coords t) 1)) numel1_S1) = _
  have e : a.1.at 2 (Rect.unit (s := S25) (k0_off1 (grid0.coords t) (BitVec.ofNat 32 (1 : Fin 5).val)) S1.size (k0_off1_inb (grid0.coords t) 1)) numel1_S1 = (a.1 2 : Vec F S25 .i32) (slotIx (grid0.coords t) 1) := by
    refine congrArg (a.1 2 : Vec F S25 .i32) ?_
    funext x
    obtain rfl : x = (0 : Fin 1) := Subsingleton.elim (α := Fin 1) _ _
    apply Fin.ext
    have H : ∀ g : Fin 5, (Scalar.addi (Scalar.muli (BitVec.ofNat 32 g.val) 5#32) 1#32).toNat = g.val * 5 + 1 := by decide
    exact (H ⟨grpOf (grid0.coords t), grpOf_lt _⟩)
  rw [e, hT, toNat_fin]

theorem emb16_0 (a : (pcfg0 (F := F)).Adm) (t : Fin (cfg0 a).N) (y : S1x112x512.Idx) (T : Fin 24) (hT : (a.1 2 : Vec F S25 .i32) (slotIx (grid0.coords t) 1) = BitVec.ofNat 32 T.val) : ((((cfg0 a).win 16).rect t).emb y (0 : Fin 3) : ℕ) = T.val := by
  refine (emb_val a 16 rfl t y (0 : Fin 3)).trans ?_
  refine (congrArg (fun z => z * ((cfg0 a).win 16).size (0 : Fin 3) + (y (0 : Fin 3)).val) (idx16_0 a t T hT)).trans ?_
  have : (y (0 : Fin 3)).val < 1 := (y (0 : Fin 3)).isLt
  show T.val * 1 + (y (0 : Fin 3)).val = T.val
  omega

theorem emb16_1 (a : (pcfg0 (F := F)).Adm) (t : Fin (cfg0 a).N) (y : S1x112x512.Idx) : ((((cfg0 a).win 16).rect t).emb y (1 : Fin 3) : ℕ) = (y (1 : Fin 3)).val := by
  refine (emb_val a 16 rfl t y (1 : Fin 3)).trans ?_
  have h : ((cfg0 a).win 16).index t (1 : Fin 3) = 0 := rfl
  exact (congrArg (fun z => z * ((cfg0 a).win 16).size (1 : Fin 3) + (y (1 : Fin 3)).val) h).trans ((congrArg (· + (y (1 : Fin 3)).val) (Nat.zero_mul _)).trans (Nat.zero_add _))

theorem emb16_2 (a : (pcfg0 (F := F)).Adm) (t : Fin (cfg0 a).N) (y : S1x112x512.Idx) : ((((cfg0 a).win 16).rect t).emb y (2 : Fin 3) : ℕ) = (tileOf t).val * 512 + (y (2 : Fin 3)).val := by
  refine (emb_val a 16 rfl t y (2 : Fin 3)).trans ?_
  have h : ((cfg0 a).win 16).index t (2 : Fin 3) = (tileOf t).val := coord0_toNat t
  exact (congrArg (fun z => z * ((cfg0 a).win 16).size (2 : Fin 3) + (y (2 : Fin 3)).val) h)

theorem blkrd16 (a : (pcfg0 (F := F)).Adm) (c : Dev nD) (t : Fin (cfg0 a).N) (X : Buf (Elt F) ((c : Thread nD τ).loc main_arg8)) (T : Fin 24) (hT : (a.1 2 : Vec F S25 .i32) (slotIx (grid0.coords t) 1) = BitVec.ofNat 32 T.val) :
    (((cfg0 a).win 16).blk t).view.read (Elt F) X = fun y : S1x112x512.Idx => X (ix3 T (y (1 : Fin 3)) (colOf (tileOf t) (y (2 : Fin 3)))) := by
  funext y
  refine congrArg X ?_
  funext x
  apply Fin.ext
  revert x
  show ∀ x : Fin 3, _
  intro x
  fin_cases x
  · exact emb16_0 a t y T hT
  · exact emb16_1 a t y
  · exact emb16_2 a t y

theorem idx17_0 (a : (pcfg0 (F := F)).Adm) (t : Fin (cfg0 a).N) (T : Fin 24) (hT : (a.1 2 : Vec F S25 .i32) (slotIx (grid0.coords t) 2) = BitVec.ofNat 32 T.val) : ((cfg0 a).win 17).index t (0 : Fin 3) = T.val := by
  show BitVec.toNat (a.1.at 2 (Rect.unit (s := S25) (k0_off1 (grid0.coords t) (BitVec.ofNat 32 (2 : Fin 5).val)) S1.size (k0_off1_inb (grid0.coords t) 2)) numel1_S1) = _
  have e : a.1.at 2 (Rect.unit (s := S25) (k0_off1 (grid0.coords t) (BitVec.ofNat 32 (2 : Fin 5).val)) S1.size (k0_off1_inb (grid0.coords t) 2)) numel1_S1 = (a.1 2 : Vec F S25 .i32) (slotIx (grid0.coords t) 2) := by
    refine congrArg (a.1 2 : Vec F S25 .i32) ?_
    funext x
    obtain rfl : x = (0 : Fin 1) := Subsingleton.elim (α := Fin 1) _ _
    apply Fin.ext
    have H : ∀ g : Fin 5, (Scalar.addi (Scalar.muli (BitVec.ofNat 32 g.val) 5#32) 2#32).toNat = g.val * 5 + 2 := by decide
    exact (H ⟨grpOf (grid0.coords t), grpOf_lt _⟩)
  rw [e, hT, toNat_fin]

theorem emb17_0 (a : (pcfg0 (F := F)).Adm) (t : Fin (cfg0 a).N) (y : S1x112x512.Idx) (T : Fin 24) (hT : (a.1 2 : Vec F S25 .i32) (slotIx (grid0.coords t) 2) = BitVec.ofNat 32 T.val) : ((((cfg0 a).win 17).rect t).emb y (0 : Fin 3) : ℕ) = T.val := by
  refine (emb_val a 17 rfl t y (0 : Fin 3)).trans ?_
  refine (congrArg (fun z => z * ((cfg0 a).win 17).size (0 : Fin 3) + (y (0 : Fin 3)).val) (idx17_0 a t T hT)).trans ?_
  have : (y (0 : Fin 3)).val < 1 := (y (0 : Fin 3)).isLt
  show T.val * 1 + (y (0 : Fin 3)).val = T.val
  omega

theorem emb17_1 (a : (pcfg0 (F := F)).Adm) (t : Fin (cfg0 a).N) (y : S1x112x512.Idx) : ((((cfg0 a).win 17).rect t).emb y (1 : Fin 3) : ℕ) = (y (1 : Fin 3)).val := by
  refine (emb_val a 17 rfl t y (1 : Fin 3)).trans ?_
  have h : ((cfg0 a).win 17).index t (1 : Fin 3) = 0 := rfl
  exact (congrArg (fun z => z * ((cfg0 a).win 17).size (1 : Fin 3) + (y (1 : Fin 3)).val) h).trans ((congrArg (· + (y (1 : Fin 3)).val) (Nat.zero_mul _)).trans (Nat.zero_add _))

theorem emb17_2 (a : (pcfg0 (F := F)).Adm) (t : Fin (cfg0 a).N) (y : S1x112x512.Idx) : ((((cfg0 a).win 17).rect t).emb y (2 : Fin 3) : ℕ) = (tileOf t).val * 512 + (y (2 : Fin 3)).val := by
  refine (emb_val a 17 rfl t y (2 : Fin 3)).trans ?_
  have h : ((cfg0 a).win 17).index t (2 : Fin 3) = (tileOf t).val := coord0_toNat t
  exact (congrArg (fun z => z * ((cfg0 a).win 17).size (2 : Fin 3) + (y (2 : Fin 3)).val) h)

theorem blkrd17 (a : (pcfg0 (F := F)).Adm) (c : Dev nD) (t : Fin (cfg0 a).N) (X : Buf (Elt F) ((c : Thread nD τ).loc main_arg8)) (T : Fin 24) (hT : (a.1 2 : Vec F S25 .i32) (slotIx (grid0.coords t) 2) = BitVec.ofNat 32 T.val) :
    (((cfg0 a).win 17).blk t).view.read (Elt F) X = fun y : S1x112x512.Idx => X (ix3 T (y (1 : Fin 3)) (colOf (tileOf t) (y (2 : Fin 3)))) := by
  funext y
  refine congrArg X ?_
  funext x
  apply Fin.ext
  revert x
  show ∀ x : Fin 3, _
  intro x
  fin_cases x
  · exact emb17_0 a t y T hT
  · exact emb17_1 a t y
  · exact emb17_2 a t y

theorem idx18_0 (a : (pcfg0 (F := F)).Adm) (t : Fin (cfg0 a).N) (T : Fin 24) (hT : (a.1 2 : Vec F S25 .i32) (slotIx (grid0.coords t) 3) = BitVec.ofNat 32 T.val) : ((cfg0 a).win 18).index t (0 : Fin 3) = T.val := by
  show BitVec.toNat (a.1.at 2 (Rect.unit (s := S25) (k0_off1 (grid0.coords t) (BitVec.ofNat 32 (3 : Fin 5).val)) S1.size (k0_off1_inb (grid0.coords t) 3)) numel1_S1) = _
  have e : a.1.at 2 (Rect.unit (s := S25) (k0_off1 (grid0.coords t) (BitVec.ofNat 32 (3 : Fin 5).val)) S1.size (k0_off1_inb (grid0.coords t) 3)) numel1_S1 = (a.1 2 : Vec F S25 .i32) (slotIx (grid0.coords t) 3) := by
    refine congrArg (a.1 2 : Vec F S25 .i32) ?_
    funext x
    obtain rfl : x = (0 : Fin 1) := Subsingleton.elim (α := Fin 1) _ _
    apply Fin.ext
    have H : ∀ g : Fin 5, (Scalar.addi (Scalar.muli (BitVec.ofNat 32 g.val) 5#32) 3#32).toNat = g.val * 5 + 3 := by decide
    exact (H ⟨grpOf (grid0.coords t), grpOf_lt _⟩)
  rw [e, hT, toNat_fin]

theorem emb18_0 (a : (pcfg0 (F := F)).Adm) (t : Fin (cfg0 a).N) (y : S1x112x512.Idx) (T : Fin 24) (hT : (a.1 2 : Vec F S25 .i32) (slotIx (grid0.coords t) 3) = BitVec.ofNat 32 T.val) : ((((cfg0 a).win 18).rect t).emb y (0 : Fin 3) : ℕ) = T.val := by
  refine (emb_val a 18 rfl t y (0 : Fin 3)).trans ?_
  refine (congrArg (fun z => z * ((cfg0 a).win 18).size (0 : Fin 3) + (y (0 : Fin 3)).val) (idx18_0 a t T hT)).trans ?_
  have : (y (0 : Fin 3)).val < 1 := (y (0 : Fin 3)).isLt
  show T.val * 1 + (y (0 : Fin 3)).val = T.val
  omega

theorem emb18_1 (a : (pcfg0 (F := F)).Adm) (t : Fin (cfg0 a).N) (y : S1x112x512.Idx) : ((((cfg0 a).win 18).rect t).emb y (1 : Fin 3) : ℕ) = (y (1 : Fin 3)).val := by
  refine (emb_val a 18 rfl t y (1 : Fin 3)).trans ?_
  have h : ((cfg0 a).win 18).index t (1 : Fin 3) = 0 := rfl
  exact (congrArg (fun z => z * ((cfg0 a).win 18).size (1 : Fin 3) + (y (1 : Fin 3)).val) h).trans ((congrArg (· + (y (1 : Fin 3)).val) (Nat.zero_mul _)).trans (Nat.zero_add _))

theorem emb18_2 (a : (pcfg0 (F := F)).Adm) (t : Fin (cfg0 a).N) (y : S1x112x512.Idx) : ((((cfg0 a).win 18).rect t).emb y (2 : Fin 3) : ℕ) = (tileOf t).val * 512 + (y (2 : Fin 3)).val := by
  refine (emb_val a 18 rfl t y (2 : Fin 3)).trans ?_
  have h : ((cfg0 a).win 18).index t (2 : Fin 3) = (tileOf t).val := coord0_toNat t
  exact (congrArg (fun z => z * ((cfg0 a).win 18).size (2 : Fin 3) + (y (2 : Fin 3)).val) h)

theorem blkrd18 (a : (pcfg0 (F := F)).Adm) (c : Dev nD) (t : Fin (cfg0 a).N) (X : Buf (Elt F) ((c : Thread nD τ).loc main_arg8)) (T : Fin 24) (hT : (a.1 2 : Vec F S25 .i32) (slotIx (grid0.coords t) 3) = BitVec.ofNat 32 T.val) :
    (((cfg0 a).win 18).blk t).view.read (Elt F) X = fun y : S1x112x512.Idx => X (ix3 T (y (1 : Fin 3)) (colOf (tileOf t) (y (2 : Fin 3)))) := by
  funext y
  refine congrArg X ?_
  funext x
  apply Fin.ext
  revert x
  show ∀ x : Fin 3, _
  intro x
  fin_cases x
  · exact emb18_0 a t y T hT
  · exact emb18_1 a t y
  · exact emb18_2 a t y

theorem idx19_0 (a : (pcfg0 (F := F)).Adm) (t : Fin (cfg0 a).N) (T : Fin 24) (hT : (a.1 2 : Vec F S25 .i32) (slotIx (grid0.coords t) 4) = BitVec.ofNat 32 T.val) : ((cfg0 a).win 19).index t (0 : Fin 3) = T.val := by
  show BitVec.toNat (a.1.at 2 (Rect.unit (s := S25) (k0_off1 (grid0.coords t) (BitVec.ofNat 32 (4 : Fin 5).val)) S1.size (k0_off1_inb (grid0.coords t) 4)) numel1_S1) = _
  have e : a.1.at 2 (Rect.unit (s := S25) (k0_off1 (grid0.coords t) (BitVec.ofNat 32 (4 : Fin 5).val)) S1.size (k0_off1_inb (grid0.coords t) 4)) numel1_S1 = (a.1 2 : Vec F S25 .i32) (slotIx (grid0.coords t) 4) := by
    refine congrArg (a.1 2 : Vec F S25 .i32) ?_
    funext x
    obtain rfl : x = (0 : Fin 1) := Subsingleton.elim (α := Fin 1) _ _
    apply Fin.ext
    have H : ∀ g : Fin 5, (Scalar.addi (Scalar.muli (BitVec.ofNat 32 g.val) 5#32) 4#32).toNat = g.val * 5 + 4 := by decide
    exact (H ⟨grpOf (grid0.coords t), grpOf_lt _⟩)
  rw [e, hT, toNat_fin]

theorem emb19_0 (a : (pcfg0 (F := F)).Adm) (t : Fin (cfg0 a).N) (y : S1x112x512.Idx) (T : Fin 24) (hT : (a.1 2 : Vec F S25 .i32) (slotIx (grid0.coords t) 4) = BitVec.ofNat 32 T.val) : ((((cfg0 a).win 19).rect t).emb y (0 : Fin 3) : ℕ) = T.val := by
  refine (emb_val a 19 rfl t y (0 : Fin 3)).trans ?_
  refine (congrArg (fun z => z * ((cfg0 a).win 19).size (0 : Fin 3) + (y (0 : Fin 3)).val) (idx19_0 a t T hT)).trans ?_
  have : (y (0 : Fin 3)).val < 1 := (y (0 : Fin 3)).isLt
  show T.val * 1 + (y (0 : Fin 3)).val = T.val
  omega

theorem emb19_1 (a : (pcfg0 (F := F)).Adm) (t : Fin (cfg0 a).N) (y : S1x112x512.Idx) : ((((cfg0 a).win 19).rect t).emb y (1 : Fin 3) : ℕ) = (y (1 : Fin 3)).val := by
  refine (emb_val a 19 rfl t y (1 : Fin 3)).trans ?_
  have h : ((cfg0 a).win 19).index t (1 : Fin 3) = 0 := rfl
  exact (congrArg (fun z => z * ((cfg0 a).win 19).size (1 : Fin 3) + (y (1 : Fin 3)).val) h).trans ((congrArg (· + (y (1 : Fin 3)).val) (Nat.zero_mul _)).trans (Nat.zero_add _))

theorem emb19_2 (a : (pcfg0 (F := F)).Adm) (t : Fin (cfg0 a).N) (y : S1x112x512.Idx) : ((((cfg0 a).win 19).rect t).emb y (2 : Fin 3) : ℕ) = (tileOf t).val * 512 + (y (2 : Fin 3)).val := by
  refine (emb_val a 19 rfl t y (2 : Fin 3)).trans ?_
  have h : ((cfg0 a).win 19).index t (2 : Fin 3) = (tileOf t).val := coord0_toNat t
  exact (congrArg (fun z => z * ((cfg0 a).win 19).size (2 : Fin 3) + (y (2 : Fin 3)).val) h)

theorem blkrd19 (a : (pcfg0 (F := F)).Adm) (c : Dev nD) (t : Fin (cfg0 a).N) (X : Buf (Elt F) ((c : Thread nD τ).loc main_arg8)) (T : Fin 24) (hT : (a.1 2 : Vec F S25 .i32) (slotIx (grid0.coords t) 4) = BitVec.ofNat 32 T.val) :
    (((cfg0 a).win 19).blk t).view.read (Elt F) X = fun y : S1x112x512.Idx => X (ix3 T (y (1 : Fin 3)) (colOf (tileOf t) (y (2 : Fin 3)))) := by
  funext y
  refine congrArg X ?_
  funext x
  apply Fin.ext
  revert x
  show ∀ x : Fin 3, _
  intro x
  fin_cases x
  · exact emb19_0 a t y T hT
  · exact emb19_1 a t y
  · exact emb19_2 a t y

theorem emb20_0 (a : (pcfg0 (F := F)).Adm) (t : Fin (cfg0 a).N) (y : S24x4x512.Idx) : ((((cfg0 a).win 20).rect t).emb y (0 : Fin 3) : ℕ) = (y (0 : Fin 3)).val := by
  refine (emb_val a 20 rfl t y (0 : Fin 3)).trans ?_
  have h : ((cfg0 a).win 20).index t (0 : Fin 3) = 0 := rfl
  exact (congrArg (fun z => z * ((cfg0 a).win 20).size (0 : Fin 3) + (y (0 : Fin 3)).val) h).trans ((congrArg (· + (y (0 : Fin 3)).val) (Nat.zero_mul _)).trans (Nat.zero_add _))

theorem emb20_1 (a : (pcfg0 (F := F)).Adm) (t : Fin (cfg0 a).N) (y : S24x4x512.Idx) : ((((cfg0 a).win 20).rect t).emb y (1 : Fin 3) : ℕ) = (y (1 : Fin 3)).val := by
  refine (emb_val a 20 rfl t y (1 : Fin 3)).trans ?_
  have h : ((cfg0 a).win 20).index t (1 : Fin 3) = 0 := rfl
  exact (congrArg (fun z => z * ((cfg0 a).win 20).size (1 : Fin 3) + (y (1 : Fin 3)).val) h).trans ((congrArg (· + (y (1 : Fin 3)).val) (Nat.zero_mul _)).trans (Nat.zero_add _))

theorem emb20_2 (a : (pcfg0 (F := F)).Adm) (t : Fin (cfg0 a).N) (y : S24x4x512.Idx) : ((((cfg0 a).win 20).rect t).emb y (2 : Fin 3) : ℕ) = (tileOf t).val * 512 + (y (2 : Fin 3)).val := by
  refine (emb_val a 20 rfl t y (2 : Fin 3)).trans ?_
  have h : ((cfg0 a).win 20).index t (2 : Fin 3) = (tileOf t).val := coord0_toNat t
  exact (congrArg (fun z => z * ((cfg0 a).win 20).size (2 : Fin 3) + (y (2 : Fin 3)).val) h)

end Cert.GateUpIdeal.Gen

end
-- ==== Proof.GateUpIdealDat.lean ====
/-
  The region's run: what every grid point may leave in the output block, stated as a relation, and the body's obligation.
-/
module

public import proofs.«01_k».proof.Proof.GateUpIdealBlk

@[expose] public section

set_option maxRecDepth 16384

noncomputable section

namespace Cert.GateUpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat RDat Cfg Window)

variable {F : FTy → Type} [FloatOps F]

local notation "𝕄" => MT nD τ sig Unit (Elt F) ℕ (UR sig nD τ) ℕ

variable (a : (pcfg0 (F := F)).Adm) (W : (c : Dev nD) → (b : Ref sig .tc) → Buf (Elt F) ((c : Thread nD τ).loc b))
variable (ord : Fin 24 → Fin 24) (n : ℕ)

/-- An operand window's block at a point, read off the region's arrays. -/
def blkv (c : Dev nD) (w : Fin 21) (t : Fin (cfg0 a).N) : (((cfg0 a).win w).xblock ((cfg0 a).grid.coords t)).Idx → Elt F ((cfg0 a).win w).elt :=
  (((cfg0 a).win w).blk t).view.read (Elt F) (W c (Pipeline.arrRef spec0 w))

/-- The tenant a point's `k`th step works on. -/
def tenOf (i : grid0.Coords) (k : Fin 5) : Fin 24 := ord (slotPos n (grpOf i * 5 + k.val))

/-- The rows a point's `k`th step writes. -/
def rowsAt (c : Dev nD) (t : Fin (cfg0 a).N) (k : Fin 5) : FVec F S1x4x512 .f32 :=
  rowV (blkv a W c 1 t) (blkv a W c 2 t) (blkv a W c 3 t) (blkv a W c 6 t) (blkv a W c 7 t) (blkv a W c 8 t) (blkv a W c 9 t)
    (baseRow (base (blkv a W c 0 t) (blkv a W c 4 t)) (tenOf ord n (grid0.coords t) k))
    (baseRow (base (blkv a W c 0 t) (blkv a W c 5 t)) (tenOf ord n (grid0.coords t) k))
    ((![blkv a W c 10 t, blkv a W c 11 t, blkv a W c 12 t, blkv a W c 13 t, blkv a W c 14 t] : Fin 5 → Vec F S1x112x512 .i32) k)
    ((![blkv a W c 15 t, blkv a W c 16 t, blkv a W c 17 t, blkv a W c 18 t, blkv a W c 19 t] : Fin 5 → Vec F S1x112x512 .i32) k)
    (tenOf ord n (grid0.coords t) k)

/-- What a point leaves in the output block, from what it found there. -/
def leaveAt (c : Dev nD) (t : Fin (cfg0 a).N) (Y : Vec F S24x4x512 .f32) : Vec F S24x4x512 .f32 :=
  outPt (grid0.coords t) n (tenOf ord n (grid0.coords t)) (rowsAt a W ord n c t) Y

/-- Inside a tile the scratch rows hold the tile's base products. -/
def ScrOk (c : Dev nD) (u : ℕ) (x26 x27 : Vec F S24x8x512 .f32) : Prop :=
  u % 5 ≠ 0 → ∀ t : Fin (cfg0 a).N, t.val / 5 = u / 5 →
    (∀ r, pick4 x26 r = baseRow (base (blkv a W c 0 t) (blkv a W c 4 t)) r) ∧ (∀ r, pick4 x27 r = baseRow (base (blkv a W c 0 t) (blkv a W c 5 t)) r)

/-- Between points: the scratch rows, the generator register and the tables. -/
def PhiAt (c : Dev nD) (u : Fin ((cfg0 a).N + 1)) : sProp 𝕄 :=
  iprop((∃ x26 x27, ⌜ScrOk a W c u.val x26 x27⌝
      ∗ ((Memref.whole cc0_scratch0).view.loc (c : Thread nD τ) ↦{fullShare} (Memref.isWhole_whole cc0_scratch0).unread x26)
      ∗ ((Memref.whole cc0_scratch1).view.loc (c : Thread nD τ) ↦{fullShare} (Memref.isWhole_whole cc0_scratch1).unread x27))
    ∗ (∃ r, prngReg c r)
    ∗ tbPt0 c tbM0_0 (a.1 0) ∗ tbPt0 c tbM0_1 (a.1 1) ∗ tbPt0 c tbM0_2 (a.1 2))

/-- The exact part of the region's data: operand blocks stay in place. -/
def datAt (c : Dev nD) : Dat τ (Elt F) Unit ℕ (UR sig nD τ) ℕ (cfg0 a) c where
  A w := W c (Pipeline.arrRef spec0 w)
  after := fun
    | 0, t => blkv a W c 0 t
    | 1, t => blkv a W c 1 t
    | 2, t => blkv a W c 2 t
    | 3, t => blkv a W c 3 t
    | 4, t => blkv a W c 4 t
    | 5, t => blkv a W c 5 t
    | 6, t => blkv a W c 6 t
    | 7, t => blkv a W c 7 t
    | 8, t => blkv a W c 8 t
    | 9, t => blkv a W c 9 t
    | 10, t => blkv a W c 10 t
    | 11, t => blkv a W c 11 t
    | 12, t => blkv a W c 12 t
    | 13, t => blkv a W c 13 t
    | 14, t => blkv a W c 14 t
    | 15, t => blkv a W c 15 t
    | 16, t => blkv a W c 16 t
    | 17, t => blkv a W c 17 t
    | 18, t => blkv a W c 18 t
    | 19, t => blkv a W c 19 t
    | 20, _ => (k0_pay9 : Vec F S24x4x512 .f32)
    | ⟨_ + 21, h⟩, _ => absurd h (Nat.not_lt.2 (Nat.le_add_left _ _))
  Φ := PhiAt a W c
  q := Pipeline.shareOf spec0
  owed _ := 0

/-- The output window's relation in place of an exact value. -/
def ovr (c : Dev nD) : (w : Fin 21) → Option (Fin (cfg0 a).N → (Y X : ((cfg0 a).win w).block.Idx → Elt F ((cfg0 a).win w).elt) → Prop) := fun
  | 0 => none
  | 1 => none
  | 2 => none
  | 3 => none
  | 4 => none
  | 5 => none
  | 6 => none
  | 7 => none
  | 8 => none
  | 9 => none
  | 10 => none
  | 11 => none
  | 12 => none
  | 13 => none
  | 14 => none
  | 15 => none
  | 16 => none
  | 17 => none
  | 18 => none
  | 19 => none
  | 20 => some fun t (Y X : Vec F S24x4x512 .f32) => X = leaveAt a W ord n c t Y
  | ⟨_ + 21, h⟩ => absurd h (Nat.not_lt.2 (Nat.le_add_left _ _))

/-- The region's data. -/
def rdat (c : Dev nD) : RDat τ (Elt F) Unit ℕ (UR sig nD τ) ℕ (cfg0 a) c := (datAt a W c).toR.override (ovr a W ord n c)

theorem finds0 (c : Dev nD) (t : Fin (cfg0 a).N) (X) (h : (rdat a W ord n c).Finds 0 t X) : X = blkv a W c 0 t := by
  obtain ⟨d, rfl⟩ := (datAt a W c).toR_finds 0 t X (((datAt a W c).toR.override_finds rfl t X).mp h)
  exact ((datAt a W c).before_in_eq_fetched 0 rfl (fun _ => rfl) (fun _ _ _ => rfl) (fun t => rfl) t d).trans rfl
theorem after0 (c : Dev nD) (t : Fin (cfg0 a).N) (Y) : (rdat a W ord n c).after 0 t Y (blkv a W c 0 t) := by
  unfold rdat
  rw [(datAt a W c).toR.override_after_of_eq_none rfl]
  exact rfl
theorem finds1 (c : Dev nD) (t : Fin (cfg0 a).N) (X) (h : (rdat a W ord n c).Finds 1 t X) : X = blkv a W c 1 t := by
  obtain ⟨d, rfl⟩ := (datAt a W c).toR_finds 1 t X (((datAt a W c).toR.override_finds rfl t X).mp h)
  exact ((datAt a W c).before_in_eq_fetched 1 rfl (fun _ => rfl) (fun _ _ _ => rfl) (fun t => rfl) t d).trans rfl
theorem after1 (c : Dev nD) (t : Fin (cfg0 a).N) (Y) : (rdat a W ord n c).after 1 t Y (blkv a W c 1 t) := by
  unfold rdat
  rw [(datAt a W c).toR.override_after_of_eq_none rfl]
  exact rfl
theorem finds2 (c : Dev nD) (t : Fin (cfg0 a).N) (X) (h : (rdat a W ord n c).Finds 2 t X) : X = blkv a W c 2 t := by
  obtain ⟨d, rfl⟩ := (datAt a W c).toR_finds 2 t X (((datAt a W c).toR.override_finds rfl t X).mp h)
  exact ((datAt a W c).before_in_eq_fetched 2 rfl (fun _ => rfl) (fun _ _ _ => rfl) (fun t => rfl) t d).trans rfl
theorem after2 (c : Dev nD) (t : Fin (cfg0 a).N) (Y) : (rdat a W ord n c).after 2 t Y (blkv a W c 2 t) := by
  unfold rdat
  rw [(datAt a W c).toR.override_after_of_eq_none rfl]
  exact rfl
theorem finds3 (c : Dev nD) (t : Fin (cfg0 a).N) (X) (h : (rdat a W ord n c).Finds 3 t X) : X = blkv a W c 3 t := by
  obtain ⟨d, rfl⟩ := (datAt a W c).toR_finds 3 t X (((datAt a W c).toR.override_finds rfl t X).mp h)
  exact ((datAt a W c).before_in_eq_fetched 3 rfl (fun _ => rfl) (fun _ _ _ => rfl) (fun t => rfl) t d).trans rfl
theorem after3 (c : Dev nD) (t : Fin (cfg0 a).N) (Y) : (rdat a W ord n c).after 3 t Y (blkv a W c 3 t) := by
  unfold rdat
  rw [(datAt a W c).toR.override_after_of_eq_none rfl]
  exact rfl
theorem finds4 (c : Dev nD) (t : Fin (cfg0 a).N) (X) (h : (rdat a W ord n c).Finds 4 t X) : X = blkv a W c 4 t := by
  obtain ⟨d, rfl⟩ := (datAt a W c).toR_finds 4 t X (((datAt a W c).toR.override_finds rfl t X).mp h)
  exact ((datAt a W c).before_in_eq_fetched 4 rfl (fun _ => rfl) (fun _ _ _ => rfl) (fun t => rfl) t d).trans rfl
theorem after4 (c : Dev nD) (t : Fin (cfg0 a).N) (Y) : (rdat a W ord n c).after 4 t Y (blkv a W c 4 t) := by
  unfold rdat
  rw [(datAt a W c).toR.override_after_of_eq_none rfl]
  exact rfl
theorem finds5 (c : Dev nD) (t : Fin (cfg0 a).N) (X) (h : (rdat a W ord n c).Finds 5 t X) : X = blkv a W c 5 t := by
  obtain ⟨d, rfl⟩ := (datAt a W c).toR_finds 5 t X (((datAt a W c).toR.override_finds rfl t X).mp h)
  exact ((datAt a W c).before_in_eq_fetched 5 rfl (fun _ => rfl) (fun _ _ _ => rfl) (fun t => rfl) t d).trans rfl
theorem after5 (c : Dev nD) (t : Fin (cfg0 a).N) (Y) : (rdat a W ord n c).after 5 t Y (blkv a W c 5 t) := by
  unfold rdat
  rw [(datAt a W c).toR.override_after_of_eq_none rfl]
  exact rfl
theorem finds6 (c : Dev nD) (t : Fin (cfg0 a).N) (X) (h : (rdat a W ord n c).Finds 6 t X) : X = blkv a W c 6 t := by
  obtain ⟨d, rfl⟩ := (datAt a W c).toR_finds 6 t X (((datAt a W c).toR.override_finds rfl t X).mp h)
  exact ((datAt a W c).before_in_eq_fetched 6 rfl (fun _ => rfl) (fun _ _ _ => rfl) (fun t => rfl) t d).trans rfl
theorem after6 (c : Dev nD) (t : Fin (cfg0 a).N) (Y) : (rdat a W ord n c).after 6 t Y (blkv a W c 6 t) := by
  unfold rdat
  rw [(datAt a W c).toR.override_after_of_eq_none rfl]
  exact rfl
theorem finds7 (c : Dev nD) (t : Fin (cfg0 a).N) (X) (h : (rdat a W ord n c).Finds 7 t X) : X = blkv a W c 7 t := by
  obtain ⟨d, rfl⟩ := (datAt a W c).toR_finds 7 t X (((datAt a W c).toR.override_finds rfl t X).mp h)
  exact ((datAt a W c).before_in_eq_fetched 7 rfl (fun _ => rfl) (fun _ _ _ => rfl) (fun t => rfl) t d).trans rfl
theorem after7 (c : Dev nD) (t : Fin (cfg0 a).N) (Y) : (rdat a W ord n c).after 7 t Y (blkv a W c 7 t) := by
  unfold rdat
  rw [(datAt a W c).toR.override_after_of_eq_none rfl]
  exact rfl
theorem finds8 (c : Dev nD) (t : Fin (cfg0 a).N) (X) (h : (rdat a W ord n c).Finds 8 t X) : X = blkv a W c 8 t := by
  obtain ⟨d, rfl⟩ := (datAt a W c).toR_finds 8 t X (((datAt a W c).toR.override_finds rfl t X).mp h)
  exact ((datAt a W c).before_in_eq_fetched 8 rfl (fun _ => rfl) (fun _ _ _ => rfl) (fun t => rfl) t d).trans rfl
theorem after8 (c : Dev nD) (t : Fin (cfg0 a).N) (Y) : (rdat a W ord n c).after 8 t Y (blkv a W c 8 t) := by
  unfold rdat
  rw [(datAt a W c).toR.override_after_of_eq_none rfl]
  exact rfl
theorem finds9 (c : Dev nD) (t : Fin (cfg0 a).N) (X) (h : (rdat a W ord n c).Finds 9 t X) : X = blkv a W c 9 t := by
  obtain ⟨d, rfl⟩ := (datAt a W c).toR_finds 9 t X (((datAt a W c).toR.override_finds rfl t X).mp h)
  exact ((datAt a W c).before_in_eq_fetched 9 rfl (fun _ => rfl) (fun _ _ _ => rfl) (fun t => rfl) t d).trans rfl
theorem after9 (c : Dev nD) (t : Fin (cfg0 a).N) (Y) : (rdat a W ord n c).after 9 t Y (blkv a W c 9 t) := by
  unfold rdat
  rw [(datAt a W c).toR.override_after_of_eq_none rfl]
  exact rfl
theorem finds10 (c : Dev nD) (t : Fin (cfg0 a).N) (X) (h : (rdat a W ord n c).Finds 10 t X) : X = blkv a W c 10 t := by
  obtain ⟨d, rfl⟩ := (datAt a W c).toR_finds 10 t X (((datAt a W c).toR.override_finds rfl t X).mp h)
  exact ((datAt a W c).before_in_eq_fetched 10 rfl (fun _ => rfl) (fun _ _ _ => rfl) (fun t => rfl) t d).trans rfl
theorem after10 (c : Dev nD) (t : Fin (cfg0 a).N) (Y) : (rdat a W ord n c).after 10 t Y (blkv a W c 10 t) := by
  unfold rdat
  rw [(datAt a W c).toR.override_after_of_eq_none rfl]
  exact rfl
theorem finds11 (c : Dev nD) (t : Fin (cfg0 a).N) (X) (h : (rdat a W ord n c).Finds 11 t X) : X = blkv a W c 11 t := by
  obtain ⟨d, rfl⟩ := (datAt a W c).toR_finds 11 t X (((datAt a W c).toR.override_finds rfl t X).mp h)
  exact ((datAt a W c).before_in_eq_fetched 11 rfl (fun _ => rfl) (fun _ _ _ => rfl) (fun t => rfl) t d).trans rfl
theorem after11 (c : Dev nD) (t : Fin (cfg0 a).N) (Y) : (rdat a W ord n c).after 11 t Y (blkv a W c 11 t) := by
  unfold rdat
  rw [(datAt a W c).toR.override_after_of_eq_none rfl]
  exact rfl
theorem finds12 (c : Dev nD) (t : Fin (cfg0 a).N) (X) (h : (rdat a W ord n c).Finds 12 t X) : X = blkv a W c 12 t := by
  obtain ⟨d, rfl⟩ := (datAt a W c).toR_finds 12 t X (((datAt a W c).toR.override_finds rfl t X).mp h)
  exact ((datAt a W c).before_in_eq_fetched 12 rfl (fun _ => rfl) (fun _ _ _ => rfl) (fun t => rfl) t d).trans rfl
theorem after12 (c : Dev nD) (t : Fin (cfg0 a).N) (Y) : (rdat a W ord n c).after 12 t Y (blkv a W c 12 t) := by
  unfold rdat
  rw [(datAt a W c).toR.override_after_of_eq_none rfl]
  exact rfl
theorem finds13 (c : Dev nD) (t : Fin (cfg0 a).N) (X) (h : (rdat a W ord n c).Finds 13 t X) : X = blkv a W c 13 t := by
  obtain ⟨d, rfl⟩ := (datAt a W c).toR_finds 13 t X (((datAt a W c).toR.override_finds rfl t X).mp h)
  exact ((datAt a W c).before_in_eq_fetched 13 rfl (fun _ => rfl) (fun _ _ _ => rfl) (fun t => rfl) t d).trans rfl
theorem after13 (c : Dev nD) (t : Fin (cfg0 a).N) (Y) : (rdat a W ord n c).after 13 t Y (blkv a W c 13 t) := by
  unfold rdat
  rw [(datAt a W c).toR.override_after_of_eq_none rfl]
  exact rfl
theorem finds14 (c : Dev nD) (t : Fin (cfg0 a).N) (X) (h : (rdat a W ord n c).Finds 14 t X) : X = blkv a W c 14 t := by
  obtain ⟨d, rfl⟩ := (datAt a W c).toR_finds 14 t X (((datAt a W c).toR.override_finds rfl t X).mp h)
  exact ((datAt a W c).before_in_eq_fetched 14 rfl (fun _ => rfl) (fun _ _ _ => rfl) (fun t => rfl) t d).trans rfl
theorem after14 (c : Dev nD) (t : Fin (cfg0 a).N) (Y) : (rdat a W ord n c).after 14 t Y (blkv a W c 14 t) := by
  unfold rdat
  rw [(datAt a W c).toR.override_after_of_eq_none rfl]
  exact rfl
theorem finds15 (c : Dev nD) (t : Fin (cfg0 a).N) (X) (h : (rdat a W ord n c).Finds 15 t X) : X = blkv a W c 15 t := by
  obtain ⟨d, rfl⟩ := (datAt a W c).toR_finds 15 t X (((datAt a W c).toR.override_finds rfl t X).mp h)
  exact ((datAt a W c).before_in_eq_fetched 15 rfl (fun _ => rfl) (fun _ _ _ => rfl) (fun t => rfl) t d).trans rfl
theorem after15 (c : Dev nD) (t : Fin (cfg0 a).N) (Y) : (rdat a W ord n c).after 15 t Y (blkv a W c 15 t) := by
  unfold rdat
  rw [(datAt a W c).toR.override_after_of_eq_none rfl]
  exact rfl
theorem finds16 (c : Dev nD) (t : Fin (cfg0 a).N) (X) (h : (rdat a W ord n c).Finds 16 t X) : X = blkv a W c 16 t := by
  obtain ⟨d, rfl⟩ := (datAt a W c).toR_finds 16 t X (((datAt a W c).toR.override_finds rfl t X).mp h)
  exact ((datAt a W c).before_in_eq_fetched 16 rfl (fun _ => rfl) (fun _ _ _ => rfl) (fun t => rfl) t d).trans rfl
theorem after16 (c : Dev nD) (t : Fin (cfg0 a).N) (Y) : (rdat a W ord n c).after 16 t Y (blkv a W c 16 t) := by
  unfold rdat
  rw [(datAt a W c).toR.override_after_of_eq_none rfl]
  exact rfl
theorem finds17 (c : Dev nD) (t : Fin (cfg0 a).N) (X) (h : (rdat a W ord n c).Finds 17 t X) : X = blkv a W c 17 t := by
  obtain ⟨d, rfl⟩ := (datAt a W c).toR_finds 17 t X (((datAt a W c).toR.override_finds rfl t X).mp h)
  exact ((datAt a W c).before_in_eq_fetched 17 rfl (fun _ => rfl) (fun _ _ _ => rfl) (fun t => rfl) t d).trans rfl
theorem after17 (c : Dev nD) (t : Fin (cfg0 a).N) (Y) : (rdat a W ord n c).after 17 t Y (blkv a W c 17 t) := by
  unfold rdat
  rw [(datAt a W c).toR.override_after_of_eq_none rfl]
  exact rfl
theorem finds18 (c : Dev nD) (t : Fin (cfg0 a).N) (X) (h : (rdat a W ord n c).Finds 18 t X) : X = blkv a W c 18 t := by
  obtain ⟨d, rfl⟩ := (datAt a W c).toR_finds 18 t X (((datAt a W c).toR.override_finds rfl t X).mp h)
  exact ((datAt a W c).before_in_eq_fetched 18 rfl (fun _ => rfl) (fun _ _ _ => rfl) (fun t => rfl) t d).trans rfl
theorem after18 (c : Dev nD) (t : Fin (cfg0 a).N) (Y) : (rdat a W ord n c).after 18 t Y (blkv a W c 18 t) := by
  unfold rdat
  rw [(datAt a W c).toR.override_after_of_eq_none rfl]
  exact rfl
theorem finds19 (c : Dev nD) (t : Fin (cfg0 a).N) (X) (h : (rdat a W ord n c).Finds 19 t X) : X = blkv a W c 19 t := by
  obtain ⟨d, rfl⟩ := (datAt a W c).toR_finds 19 t X (((datAt a W c).toR.override_finds rfl t X).mp h)
  exact ((datAt a W c).before_in_eq_fetched 19 rfl (fun _ => rfl) (fun _ _ _ => rfl) (fun t => rfl) t d).trans rfl
theorem after19 (c : Dev nD) (t : Fin (cfg0 a).N) (Y) : (rdat a W ord n c).after 19 t Y (blkv a W c 19 t) := by
  unfold rdat
  rw [(datAt a W c).toR.override_after_of_eq_none rfl]
  exact rfl

end Cert.GateUpIdeal.Gen

end
-- ==== Proof.GateUpIdealObl.lean ====
/-
  The body's obligation: from any point's operand blocks, the body leaves what the region's data say.
-/
module

public import proofs.«01_k».proof.Proof.GateUpIdealDat

@[expose] public section

set_option maxRecDepth 16384

noncomputable section

namespace Cert.GateUpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat RDat Cfg Window)

variable {F : FTy → Type} [FloatOps F]

local notation "𝕄" => MT nD τ sig Unit (Elt F) ℕ (UR sig nD τ) ℕ

theorem owns_pt (c : Thread nD τ) {sp : Space} {sh : Shape} {e : EltTy} {M : Memref sig c.2.kind sp sh e} (h : M.IsWhole) (q : PosShare TreeShare)
    (X : sh.Idx → Elt F e) : (owns c M q X : sProp 𝕄) ⊢ (M.view.loc c ↦{q} h.unread X) := by
  unfold owns
  iintro ⟨%f, %hf, H⟩
  obtain rfl := h.eq_unread hf
  have hs : M.view.set = Finset.univ := by
    obtain ⟨b, rfl, rfl, rfl, hm⟩ := h; cases hm; simp only [Memref.view_whole, View.set_whole]
  rw [hs]
  iexact H

theorem pt_owns (c : Thread nD τ) {sp : Space} {sh : Shape} {e : EltTy} {M : Memref sig c.2.kind sp sh e} (h : M.IsWhole) (q : PosShare TreeShare)
    (X : sh.Idx → Elt F e) : ((M.view.loc c ↦{q} h.unread X) : sProp 𝕄) ⊢ owns c M q X := by
  have hs : M.view.set = Finset.univ := by
    obtain ⟨b, rfl, rfl, rfl, hm⟩ := h; cases hm; simp only [Memref.view_whole, View.set_whole]
  unfold owns
  iintro H
  iexists (h.unread X)
  isplitr; · ipureintro; exact h.read_unread X
  rw [hs]
  iexact H

variable (a : (pcfg0 (F := F)).Adm) (W : (c : Dev nD) → (b : Ref sig .tc) → Buf (Elt F) ((c : Thread nD τ).loc b))
variable (ord : Fin 24 → Fin 24) (n : ℕ)

theorem blkv0_eq (c : Dev nD) (t t' : Fin (cfg0 a).N) : blkv a W c 0 t = blkv a W c 0 t' := by
  unfold blkv
  exact (blkrd0 a c t _).trans (blkrd0 a c t' _).symm

theorem blkv4_eq (c : Dev nD) (t t' : Fin (cfg0 a).N) (h : t.val / 5 = t'.val / 5) : blkv a W c 4 t = blkv a W c 4 t' := by
  have h' : tileOf t = tileOf t' := Fin.ext h
  unfold blkv
  exact ((blkrd4 a c t _).trans (by rw [h'])).trans (blkrd4 a c t' _).symm

theorem blkv5_eq (c : Dev nD) (t t' : Fin (cfg0 a).N) (h : t.val / 5 = t'.val / 5) : blkv a W c 5 t = blkv a W c 5 t' := by
  have h' : tileOf t = tileOf t' := Fin.ext h
  unfold blkv
  exact ((blkrd5 a c t _).trans (by rw [h'])).trans (blkrd5 a c t' _).symm

theorem scr_next (c : Dev nD) (t : Fin (cfg0 a).N) (x26 x27 : Vec F S24x8x512 .f32)
    (h : (∀ r, pick4 x26 r = baseRow (base (blkv a W c 0 t) (blkv a W c 4 t)) r) ∧ (∀ r, pick4 x27 r = baseRow (base (blkv a W c 0 t) (blkv a W c 5 t)) r)) :
    ScrOk a W c (t.val + 1) x26 x27 := by
  intro hu t' ht'
  have e : t'.val / 5 = t.val / 5 := by omega
  rw [blkv0_eq a W c t' t, blkv4_eq a W c t' t e, blkv5_eq a W c t' t e]
  exact h

theorem slot0_of {a : (pcfg0 (F := F)).Adm} {ord : Fin 24 → Fin 24} {n : ℕ} (hT : Tab a.1 ord n) (c : Dev nD) (i : grid0.Coords) (hg : grpOf i * 5 < n) (inb) :
    (tWord (F := F) tbM0_0 (show Vec F S24 .i32 from a.1 0) (k0_off2 i (nWord (F := F) tbM0_1 (show Vec F S1 .i32 from a.1 1))) inb).toNat = (tenOf ord n i 0).val := by
  have hw : nWord (F := F) tbM0_1 (show Vec F S1 .i32 from a.1 1) = BitVec.ofNat 32 n := hT.h1 _
  refine tWord_eq _ ord hT.h0 _ inb (slotPos n (grpOf i * 5 + 0)) ?_
  rw [hw, off2_eq i n hT.n_le hg, slotPos_eq n (grpOf i) 0 (by omega) hg hT.n_le]

theorem slot1_of {a : (pcfg0 (F := F)).Adm} {ord : Fin 24 → Fin 24} {n : ℕ} (hT : Tab a.1 ord n) (c : Dev nD) (i : grid0.Coords) (hg : grpOf i * 5 < n) (inb) :
    (tWord (F := F) tbM0_0 (show Vec F S24 .i32 from a.1 0) (k0_off8 i (nWord (F := F) tbM0_1 (show Vec F S1 .i32 from a.1 1))) inb).toNat = (tenOf ord n i 1).val := by
  have hw : nWord (F := F) tbM0_1 (show Vec F S1 .i32 from a.1 1) = BitVec.ofNat 32 n := hT.h1 _
  refine tWord_eq _ ord hT.h0 _ inb (slotPos n (grpOf i * 5 + 1)) ?_
  rw [hw, off8_eq i n hT.n_le hg, slotPos_eq n (grpOf i) 1 (by omega) hg hT.n_le]

theorem slot2_of {a : (pcfg0 (F := F)).Adm} {ord : Fin 24 → Fin 24} {n : ℕ} (hT : Tab a.1 ord n) (c : Dev nD) (i : grid0.Coords) (hg : grpOf i * 5 < n) (inb) :
    (tWord (F := F) tbM0_0 (show Vec F S24 .i32 from a.1 0) (k0_off14 i (nWord (F := F) tbM0_1 (show Vec F S1 .i32 from a.1 1))) inb).toNat = (tenOf ord n i 2).val := by
  have hw : nWord (F := F) tbM0_1 (show Vec F S1 .i32 from a.1 1) = BitVec.ofNat 32 n := hT.h1 _
  refine tWord_eq _ ord hT.h0 _ inb (slotPos n (grpOf i * 5 + 2)) ?_
  rw [hw, off14_eq i n hT.n_le hg, slotPos_eq n (grpOf i) 2 (by omega) hg hT.n_le]

theorem slot3_of {a : (pcfg0 (F := F)).Adm} {ord : Fin 24 → Fin 24} {n : ℕ} (hT : Tab a.1 ord n) (c : Dev nD) (i : grid0.Coords) (hg : grpOf i * 5 < n) (inb) :
    (tWord (F := F) tbM0_0 (show Vec F S24 .i32 from a.1 0) (k0_off20 i (nWord (F := F) tbM0_1 (show Vec F S1 .i32 from a.1 1))) inb).toNat = (tenOf ord n i 3).val := by
  have hw : nWord (F := F) tbM0_1 (show Vec F S1 .i32 from a.1 1) = BitVec.ofNat 32 n := hT.h1 _
  refine tWord_eq _ ord hT.h0 _ inb (slotPos n (grpOf i * 5 + 3)) ?_
  rw [hw, off20_eq i n hT.n_le hg, slotPos_eq n (grpOf i) 3 (by omega) hg hT.n_le]

theorem slot4_of {a : (pcfg0 (F := F)).Adm} {ord : Fin 24 → Fin 24} {n : ℕ} (hT : Tab a.1 ord n) (c : Dev nD) (i : grid0.Coords) (hg : grpOf i * 5 < n) (inb) :
    (tWord (F := F) tbM0_0 (show Vec F S24 .i32 from a.1 0) (k0_off26 i (nWord (F := F) tbM0_1 (show Vec F S1 .i32 from a.1 1))) inb).toNat = (tenOf ord n i 4).val := by
  have hw : nWord (F := F) tbM0_1 (show Vec F S1 .i32 from a.1 1) = BitVec.ofNat 32 n := hT.h1 _
  refine tWord_eq _ ord hT.h0 _ inb (slotPos n (grpOf i * 5 + 4)) ?_
  rw [hw, off26_eq i n hT.n_le hg, slotPos_eq n (grpOf i) 4 (by omega) hg hT.n_le]

theorem after20 (c : Dev nD) (t : Fin (cfg0 a).N) (Y : Vec F S24x4x512 .f32) : (rdat a W ord n c).after 20 t Y (leaveAt a W ord n c t Y) := by
  unfold rdat
  rw [(datAt a W c).toR.override_after_of_eq_some (R := fun t (Y X : Vec F S24x4x512 .f32) => X = leaveAt a W ord n c t Y) rfl]

set_option maxHeartbeats 4000000 in
/-- The obligation at every point. -/
theorem obligation (hT : Tab a.1 ord n) (c : Dev nD) : (rdat a W ord n c).BodyObligation (defs₀ (F := F)) Variants.none () Set.univ := by
  intro t Y hY
  have hw : ∀ p : S24.Idx, ((show Vec F S24 .i32 from a.1 0) p).toNat < 24 := fun p => by
    rw [hT.h0, toNat_fin]; exact Fin.isLt _
  have e0 := finds0 a W ord n c t (Y 0) (hY 0)
  have e1 := finds1 a W ord n c t (Y 1) (hY 1)
  have e2 := finds2 a W ord n c t (Y 2) (hY 2)
  have e3 := finds3 a W ord n c t (Y 3) (hY 3)
  have e4 := finds4 a W ord n c t (Y 4) (hY 4)
  have e5 := finds5 a W ord n c t (Y 5) (hY 5)
  have e6 := finds6 a W ord n c t (Y 6) (hY 6)
  have e7 := finds7 a W ord n c t (Y 7) (hY 7)
  have e8 := finds8 a W ord n c t (Y 8) (hY 8)
  have e9 := finds9 a W ord n c t (Y 9) (hY 9)
  have e10 := finds10 a W ord n c t (Y 10) (hY 10)
  have e11 := finds11 a W ord n c t (Y 11) (hY 11)
  have e12 := finds12 a W ord n c t (Y 12) (hY 12)
  have e13 := finds13 a W ord n c t (Y 13) (hY 13)
  have e14 := finds14 a W ord n c t (Y 14) (hY 14)
  have e15 := finds15 a W ord n c t (Y 15) (hY 15)
  have e16 := finds16 a W ord n c t (Y 16) (hY 16)
  have e17 := finds17 a W ord n c t (Y 17) (hY 17)
  have e18 := finds18 a W ord n c t (Y 18) (hY 18)
  have e19 := finds19 a W ord n c t (Y 19) (hY 19)
  rw [bigSep_W0, bigSep_W0]
  show iprop(PhiAt a W c t.castSucc ∗ _ ∗ _) ⊢ _
  unfold PhiAt
  iintro ⟨⟨⟨%x26, %x27, %hs, HS0, HS1⟩, Hp, HT0, HT1, HT2⟩, Ho, H5, H6, H7, H8, H9, H10, H11, H12, H13, H14, H15, H16, H17, H18, H19, H20, H21, H22, H23, H24, H25⟩
  have hb : grpOf (grid0.coords t) ≠ 0 → (∀ r, pick4 x26 r = baseRow (base (blkv a W c 0 t) (blkv a W c 4 t)) r) ∧ (∀ r, pick4 x27 r = baseRow (base (blkv a W c 0 t) (blkv a W c 5 t)) r) := fun h =>
    hs (fun h0 => h ((coords_spec t).2.trans h0)) t rfl
  iapply (body_wp c (grid0.coords t) (Memref.whole main_v2) (Memref.isWhole_whole _) (Memref.whole main_v7) (Memref.isWhole_whole _) (Memref.whole main_v48) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (spec0_12.stage ((cfg0 a).slots t 12)) (hstage0_12 (((cfg0 a).slots t 12).cast nbuf0_12)) (spec0_13.stage ((cfg0 a).slots t 13)) (hstage0_13 (((cfg0 a).slots t 13).cast nbuf0_13)) (spec0_14.stage ((cfg0 a).slots t 14)) (hstage0_14 (((cfg0 a).slots t 14).cast nbuf0_14)) (spec0_15.stage ((cfg0 a).slots t 15)) (hstage0_15 (((cfg0 a).slots t 15).cast nbuf0_15)) (spec0_16.stage ((cfg0 a).slots t 16)) (hstage0_16 (((cfg0 a).slots t 16).cast nbuf0_16)) (spec0_17.stage ((cfg0 a).slots t 17)) (hstage0_17 (((cfg0 a).slots t 17).cast nbuf0_17)) (spec0_18.stage ((cfg0 a).slots t 18)) (hstage0_18 (((cfg0 a).slots t 18).cast nbuf0_18)) (spec0_19.stage ((cfg0 a).slots t 19)) (hstage0_19 (((cfg0 a).slots t 19).cast nbuf0_19)) (spec0_20.stage ((cfg0 a).slots t 20)) (hstage0_20 (((cfg0 a).slots t 20).cast nbuf0_20)) (Memref.whole cc0_scratch0) (Memref.isWhole_whole _) (Memref.whole cc0_scratch1) (Memref.isWhole_whole _) (blkv a W c 0 t) (blkv a W c 1 t) (blkv a W c 2 t) (blkv a W c 3 t) (blkv a W c 4 t) (blkv a W c 5 t) (blkv a W c 6 t) (blkv a W c 7 t) (blkv a W c 8 t) (blkv a W c 9 t) (blkv a W c 10 t) (blkv a W c 11 t) (blkv a W c 12 t) (blkv a W c 13 t) (blkv a W c 14 t) (blkv a W c 15 t) (blkv a W c 16 t) (blkv a W c 17 t) (blkv a W c 18 t) (blkv a W c 19 t) (Y 20) x26 x27 (a.1 0) (a.1 1) n (fun _ _ => hT.h1 _) hT.n_le (fun _ _ => hw _) (tenOf ord n (grid0.coords t)) (slot0_of hT c _) (slot1_of hT c _) (slot2_of hT c _) (slot3_of hT c _) (slot4_of hT c _) hb fullShare.right fullShare.right fullShare fullShare fullShare fullShare fullShare fullShare fullShare fullShare fullShare fullShare fullShare fullShare fullShare fullShare fullShare fullShare fullShare fullShare fullShare fullShare Set.univ _)
  isplitl [HT0]; · iexact HT0
  isplitl [HT1]; · iexact HT1
  isplitl [H5]; · (rw [e0]; iapply (owns_pt (c : Thread nD τ) (hstage0_0 (((cfg0 a).slots t 0).cast nbuf0_0)) fullShare (blkv a W c 0 t)); iexact H5)
  isplitl [H6]; · (rw [e1]; iapply (owns_pt (c : Thread nD τ) (hstage0_1 (((cfg0 a).slots t 1).cast nbuf0_1)) fullShare (blkv a W c 1 t)); iexact H6)
  isplitl [H7]; · (rw [e2]; iapply (owns_pt (c : Thread nD τ) (hstage0_2 (((cfg0 a).slots t 2).cast nbuf0_2)) fullShare (blkv a W c 2 t)); iexact H7)
  isplitl [H8]; · (rw [e3]; iapply (owns_pt (c : Thread nD τ) (hstage0_3 (((cfg0 a).slots t 3).cast nbuf0_3)) fullShare (blkv a W c 3 t)); iexact H8)
  isplitl [H9]; · (rw [e4]; iapply (owns_pt (c : Thread nD τ) (hstage0_4 (((cfg0 a).slots t 4).cast nbuf0_4)) fullShare (blkv a W c 4 t)); iexact H9)
  isplitl [H10]; · (rw [e5]; iapply (owns_pt (c : Thread nD τ) (hstage0_5 (((cfg0 a).slots t 5).cast nbuf0_5)) fullShare (blkv a W c 5 t)); iexact H10)
  isplitl [H11]; · (rw [e6]; iapply (owns_pt (c : Thread nD τ) (hstage0_6 (((cfg0 a).slots t 6).cast nbuf0_6)) fullShare (blkv a W c 6 t)); iexact H11)
  isplitl [H12]; · (rw [e7]; iapply (owns_pt (c : Thread nD τ) (hstage0_7 (((cfg0 a).slots t 7).cast nbuf0_7)) fullShare (blkv a W c 7 t)); iexact H12)
  isplitl [H13]; · (rw [e8]; iapply (owns_pt (c : Thread nD τ) (hstage0_8 (((cfg0 a).slots t 8).cast nbuf0_8)) fullShare (blkv a W c 8 t)); iexact H13)
  isplitl [H14]; · (rw [e9]; iapply (owns_pt (c : Thread nD τ) (hstage0_9 (((cfg0 a).slots t 9).cast nbuf0_9)) fullShare (blkv a W c 9 t)); iexact H14)
  isplitl [H15]; · (rw [e10]; iapply (owns_pt (c : Thread nD τ) (hstage0_10 (((cfg0 a).slots t 10).cast nbuf0_10)) fullShare (blkv a W c 10 t)); iexact H15)
  isplitl [H16]; · (rw [e11]; iapply (owns_pt (c : Thread nD τ) (hstage0_11 (((cfg0 a).slots t 11).cast nbuf0_11)) fullShare (blkv a W c 11 t)); iexact H16)
  isplitl [H17]; · (rw [e12]; iapply (owns_pt (c : Thread nD τ) (hstage0_12 (((cfg0 a).slots t 12).cast nbuf0_12)) fullShare (blkv a W c 12 t)); iexact H17)
  isplitl [H18]; · (rw [e13]; iapply (owns_pt (c : Thread nD τ) (hstage0_13 (((cfg0 a).slots t 13).cast nbuf0_13)) fullShare (blkv a W c 13 t)); iexact H18)
  isplitl [H19]; · (rw [e14]; iapply (owns_pt (c : Thread nD τ) (hstage0_14 (((cfg0 a).slots t 14).cast nbuf0_14)) fullShare (blkv a W c 14 t)); iexact H19)
  isplitl [H20]; · (rw [e15]; iapply (owns_pt (c : Thread nD τ) (hstage0_15 (((cfg0 a).slots t 15).cast nbuf0_15)) fullShare (blkv a W c 15 t)); iexact H20)
  isplitl [H21]; · (rw [e16]; iapply (owns_pt (c : Thread nD τ) (hstage0_16 (((cfg0 a).slots t 16).cast nbuf0_16)) fullShare (blkv a W c 16 t)); iexact H21)
  isplitl [H22]; · (rw [e17]; iapply (owns_pt (c : Thread nD τ) (hstage0_17 (((cfg0 a).slots t 17).cast nbuf0_17)) fullShare (blkv a W c 17 t)); iexact H22)
  isplitl [H23]; · (rw [e18]; iapply (owns_pt (c : Thread nD τ) (hstage0_18 (((cfg0 a).slots t 18).cast nbuf0_18)) fullShare (blkv a W c 18 t)); iexact H23)
  isplitl [H24]; · (rw [e19]; iapply (owns_pt (c : Thread nD τ) (hstage0_19 (((cfg0 a).slots t 19).cast nbuf0_19)) fullShare (blkv a W c 19 t)); iexact H24)
  isplitl [H25]; · (iapply (owns_pt (c : Thread nD τ) (hstage0_20 (((cfg0 a).slots t 20).cast nbuf0_20)) fullShare (Y 20)); iexact H25)
  isplitl [HS0]; · iexact HS0
  isplitl [HS1]; · iexact HS1
  iintro %x26' %x27' %hp ⟨HT0, HT1, H5, H6, H7, H8, H9, H10, H11, H12, H13, H14, H15, H16, H17, H18, H19, H20, H21, H22, H23, H24, H25, HS0, HS1⟩
  isplitl [HS0 HS1 Hp HT0 HT1 HT2]
  · iapply (show PhiAt a W c t.succ ⊢ (rdat a W ord n c).Φ t.succ from .rfl)
    unfold PhiAt
    isplitl [HS0 HS1]
    · iexists x26'; iexists x27'
      isplitr; · ipureintro; exact scr_next a W c t x26' x27' hp
      isplitl [HS0] <;> iassumption
    isplitl [Hp]; · iexact Hp
    isplitl [HT0]; · iexact HT0
    isplitl [HT1] <;> iassumption
  isplitl [Ho]; · iexact Ho
  isplitl [H5]
  · iexists (blkv a W c 0 t)
    isplitr; · ipureintro; exact after0 a W ord n c t _
    iapply (pt_owns (c : Thread nD τ) (hstage0_0 (((cfg0 a).slots t 0).cast nbuf0_0)) fullShare (blkv a W c 0 t)); iexact H5
  isplitl [H6]
  · iexists (blkv a W c 1 t)
    isplitr; · ipureintro; exact after1 a W ord n c t _
    iapply (pt_owns (c : Thread nD τ) (hstage0_1 (((cfg0 a).slots t 1).cast nbuf0_1)) fullShare (blkv a W c 1 t)); iexact H6
  isplitl [H7]
  · iexists (blkv a W c 2 t)
    isplitr; · ipureintro; exact after2 a W ord n c t _
    iapply (pt_owns (c : Thread nD τ) (hstage0_2 (((cfg0 a).slots t 2).cast nbuf0_2)) fullShare (blkv a W c 2 t)); iexact H7
  isplitl [H8]
  · iexists (blkv a W c 3 t)
    isplitr; · ipureintro; exact after3 a W ord n c t _
    iapply (pt_owns (c : Thread nD τ) (hstage0_3 (((cfg0 a).slots t 3).cast nbuf0_3)) fullShare (blkv a W c 3 t)); iexact H8
  isplitl [H9]
  · iexists (blkv a W c 4 t)
    isplitr; · ipureintro; exact after4 a W ord n c t _
    iapply (pt_owns (c : Thread nD τ) (hstage0_4 (((cfg0 a).slots t 4).cast nbuf0_4)) fullShare (blkv a W c 4 t)); iexact H9
  isplitl [H10]
  · iexists (blkv a W c 5 t)
    isplitr; · ipureintro; exact after5 a W ord n c t _
    iapply (pt_owns (c : Thread nD τ) (hstage0_5 (((cfg0 a).slots t 5).cast nbuf0_5)) fullShare (blkv a W c 5 t)); iexact H10
  isplitl [H11]
  · iexists (blkv a W c 6 t)
    isplitr; · ipureintro; exact after6 a W ord n c t _
    iapply (pt_owns (c : Thread nD τ) (hstage0_6 (((cfg0 a).slots t 6).cast nbuf0_6)) fullShare (blkv a W c 6 t)); iexact H11
  isplitl [H12]
  · iexists (blkv a W c 7 t)
    isplitr; · ipureintro; exact after7 a W ord n c t _
    iapply (pt_owns (c : Thread nD τ) (hstage0_7 (((cfg0 a).slots t 7).cast nbuf0_7)) fullShare (blkv a W c 7 t)); iexact H12
  isplitl [H13]
  · iexists (blkv a W c 8 t)
    isplitr; · ipureintro; exact after8 a W ord n c t _
    iapply (pt_owns (c : Thread nD τ) (hstage0_8 (((cfg0 a).slots t 8).cast nbuf0_8)) fullShare (blkv a W c 8 t)); iexact H13
  isplitl [H14]
  · iexists (blkv a W c 9 t)
    isplitr; · ipureintro; exact after9 a W ord n c t _
    iapply (pt_owns (c : Thread nD τ) (hstage0_9 (((cfg0 a).slots t 9).cast nbuf0_9)) fullShare (blkv a W c 9 t)); iexact H14
  isplitl [H15]
  · iexists (blkv a W c 10 t)
    isplitr; · ipureintro; exact after10 a W ord n c t _
    iapply (pt_owns (c : Thread nD τ) (hstage0_10 (((cfg0 a).slots t 10).cast nbuf0_10)) fullShare (blkv a W c 10 t)); iexact H15
  isplitl [H16]
  · iexists (blkv a W c 11 t)
    isplitr; · ipureintro; exact after11 a W ord n c t _
    iapply (pt_owns (c : Thread nD τ) (hstage0_11 (((cfg0 a).slots t 11).cast nbuf0_11)) fullShare (blkv a W c 11 t)); iexact H16
  isplitl [H17]
  · iexists (blkv a W c 12 t)
    isplitr; · ipureintro; exact after12 a W ord n c t _
    iapply (pt_owns (c : Thread nD τ) (hstage0_12 (((cfg0 a).slots t 12).cast nbuf0_12)) fullShare (blkv a W c 12 t)); iexact H17
  isplitl [H18]
  · iexists (blkv a W c 13 t)
    isplitr; · ipureintro; exact after13 a W ord n c t _
    iapply (pt_owns (c : Thread nD τ) (hstage0_13 (((cfg0 a).slots t 13).cast nbuf0_13)) fullShare (blkv a W c 13 t)); iexact H18
  isplitl [H19]
  · iexists (blkv a W c 14 t)
    isplitr; · ipureintro; exact after14 a W ord n c t _
    iapply (pt_owns (c : Thread nD τ) (hstage0_14 (((cfg0 a).slots t 14).cast nbuf0_14)) fullShare (blkv a W c 14 t)); iexact H19
  isplitl [H20]
  · iexists (blkv a W c 15 t)
    isplitr; · ipureintro; exact after15 a W ord n c t _
    iapply (pt_owns (c : Thread nD τ) (hstage0_15 (((cfg0 a).slots t 15).cast nbuf0_15)) fullShare (blkv a W c 15 t)); iexact H20
  isplitl [H21]
  · iexists (blkv a W c 16 t)
    isplitr; · ipureintro; exact after16 a W ord n c t _
    iapply (pt_owns (c : Thread nD τ) (hstage0_16 (((cfg0 a).slots t 16).cast nbuf0_16)) fullShare (blkv a W c 16 t)); iexact H21
  isplitl [H22]
  · iexists (blkv a W c 17 t)
    isplitr; · ipureintro; exact after17 a W ord n c t _
    iapply (pt_owns (c : Thread nD τ) (hstage0_17 (((cfg0 a).slots t 17).cast nbuf0_17)) fullShare (blkv a W c 17 t)); iexact H22
  isplitl [H23]
  · iexists (blkv a W c 18 t)
    isplitr; · ipureintro; exact after18 a W ord n c t _
    iapply (pt_owns (c : Thread nD τ) (hstage0_18 (((cfg0 a).slots t 18).cast nbuf0_18)) fullShare (blkv a W c 18 t)); iexact H23
  isplitl [H24]
  · iexists (blkv a W c 19 t)
    isplitr; · ipureintro; exact after19 a W ord n c t _
    iapply (pt_owns (c : Thread nD τ) (hstage0_19 (((cfg0 a).slots t 19).cast nbuf0_19)) fullShare (blkv a W c 19 t)); iexact H24
  iexists (leaveAt a W ord n c t (Y 20))
  isplitr; · ipureintro; exact after20 a W ord n c t _
  iapply (pt_owns (c : Thread nD τ) (hstage0_20 (((cfg0 a).slots t 20).cast nbuf0_20)) fullShare (leaveAt a W ord n c t (Y 20))); iexact H25

end Cert.GateUpIdeal.Gen

end
-- ==== Proof.GateUpIdealLaunched.lean ====
/-
  The region launched: the machine ends quiescent, the arguments unchanged, the result at what the body's relation allows.
-/
module

public import proofs.«01_k».proof.Proof.GateUpIdealObl

@[expose] public section

set_option maxRecDepth 16384

noncomputable section

namespace Cert.GateUpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat RDat Cfg Window)

variable {F : FTy → Type} [FloatOps F]

local notation "𝕄" => MT nD τ sig Unit (Elt F) ℕ (UR sig nD τ) ℕ

variable (a : (pcfg0 (F := F)).Adm) (W : (c : Dev nD) → (b : Ref sig .tc) → Buf (Elt F) ((c : Thread nD τ).loc b))
variable (ord : Fin 24 → Fin 24) (n : ℕ)

theorem ΦT_eq (c : Dev nD) : (Pipeline.ΦT pre0 a.1 c : sProp 𝕄) = iprop(tbPt0 c tbM0_0 (a.1 0) ∗ tbPt0 c tbM0_1 (a.1 1) ∗ tbPt0 c tbM0_2 (a.1 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

theorem hin_of (c : Dev nD) : iprop(Pipeline.ΦA spec0 c ∗ Pipeline.ΦT pre0 a.1 c) ⊢ (PhiAt a W c 0 : sProp 𝕄) := by
  rw [ΦT_eq]
  unfold Pipeline.ΦA PhiAt
  rw [scopedRest0_eq]
  iintro ⟨⟨⟨⟨%f0, H0⟩, ⟨%f1, H1⟩⟩, Hp⟩, HT⟩
  isplitl [H0 H1]
  · iexists ((Memref.whole cc0_scratch0).view.read (Elt F) f0); iexists ((Memref.whole cc0_scratch1).view.read (Elt F) f1)
    isplitr; · ipureintro; exact fun h => absurd rfl h
    rw [(Memref.isWhole_whole cc0_scratch0).unread_read f0, (Memref.isWhole_whole cc0_scratch1).unread_read f1]
    isplitl [H0]; · iexact H0
    iexact H1
  isplitl [Hp]; · iexact Hp
  iexact HT

theorem hout_of (c : Dev nD) (u) : (PhiAt a W c u : sProp 𝕄) ⊢ Pipeline.ΦA spec0 c := by
  unfold Pipeline.ΦA PhiAt
  rw [scopedRest0_eq]
  iintro ⟨⟨%x26, %x27, -, H0, H1⟩, Hp, -⟩
  isplitl [H0 H1]
  · isplitl [H0]
    · iexists _; iexact H0
    · iexists _; iexact H1
  iexact Hp

theorem in2 (c : Dev nD) (X) (h : (rdat a W ord n c).ArrAt 2 (cfg0 a).N X) : X = W c (Pipeline.arrRef spec0 2) :=
  ((congrFun ((rdat a W ord n c).ArrAt_in 2 rfl _) X).mp h)
theorem in4 (c : Dev nD) (X) (h : (rdat a W ord n c).ArrAt 4 (cfg0 a).N X) : X = W c (Pipeline.arrRef spec0 4) :=
  ((congrFun ((rdat a W ord n c).ArrAt_in 4 rfl _) X).mp h)
theorem in5 (c : Dev nD) (X) (h : (rdat a W ord n c).ArrAt 5 (cfg0 a).N X) : X = W c (Pipeline.arrRef spec0 5) :=
  ((congrFun ((rdat a W ord n c).ArrAt_in 5 rfl _) X).mp h)
theorem in14 (c : Dev nD) (X) (h : (rdat a W ord n c).ArrAt 14 (cfg0 a).N X) : X = W c (Pipeline.arrRef spec0 14) :=
  ((congrFun ((rdat a W ord n c).ArrAt_in 14 rfl _) X).mp h)
theorem in19 (c : Dev nD) (X) (h : (rdat a W ord n c).ArrAt 19 (cfg0 a).N X) : X = W c (Pipeline.arrRef spec0 19) :=
  ((congrFun ((rdat a W ord n c).ArrAt_in 19 rfl _) X).mp h)

theorem rdat_q (c : Dev nD) (w : Fin 21) : (rdat a W ord n c).q w = Pipeline.shareOf spec0 w := rfl
theorem rdat_owed (c : Dev nD) (t) : (rdat a W ord n c).owed t = 0 := rfl
theorem rdat_A (c : Dev nD) (w : Fin 21) : (rdat a W ord n c).A w = W c (Pipeline.arrRef spec0 w) := rfl

set_option maxHeartbeats 4000000 in
theorem post_of (r : PUnit × MemSt nD τ sig (Elt F)) (h : Pipeline.RDat.FramePost (cfg0 a) (rdat a W ord n) W r ∧ r.2.sem = (fun _ => 0)) :
    (∀ c : Dev nD, (r.2.mem ((c.tc : Thread nD τ).loc main_arg0) = W c main_arg0
      ∧ r.2.mem ((c.tc : Thread nD τ).loc main_arg1) = W c main_arg1
      ∧ r.2.mem ((c.tc : Thread nD τ).loc main_arg2) = W c main_arg2
      ∧ r.2.mem ((c.tc : Thread nD τ).loc main_arg3) = W c main_arg3
      ∧ r.2.mem ((c.tc : Thread nD τ).loc main_arg4) = W c main_arg4
      ∧ r.2.mem ((c.tc : Thread nD τ).loc main_arg5) = W c main_arg5
      ∧ r.2.mem ((c.tc : Thread nD τ).loc main_arg6) = W c main_arg6
      ∧ r.2.mem ((c.tc : Thread nD τ).loc main_arg7) = W c main_arg7
      ∧ r.2.mem ((c.tc : Thread nD τ).loc main_arg8) = W c main_arg8
      ∧ r.2.mem ((c.tc : Thread nD τ).loc main_arg9) = W c main_arg9
      ∧ r.2.mem ((c.tc : Thread nD τ).loc main_arg10) = W c main_arg10)
      ∧ (rdat a W ord n c).ArrAt 20 (cfg0 a).N (r.2.mem ((c.tc : Thread nD τ).loc main_v53))) ∧ r.2.sem = fun _ => 0 :=
  ⟨fun c => ⟨⟨(h.1 c).2 main_arg0 (by decide : main_arg0 ∈ Pipeline.restRefs sig spec0),
      in2 a W ord n c _ ((h.1 c).1 2),
      (h.1 c).2 main_arg2 (by decide : main_arg2 ∈ Pipeline.restRefs sig spec0),
      in4 a W ord n c _ ((h.1 c).1 4),
      (h.1 c).2 main_arg4 (by decide : main_arg4 ∈ Pipeline.restRefs sig spec0),
      in5 a W ord n c _ ((h.1 c).1 5),
      (h.1 c).2 main_arg6 (by decide : main_arg6 ∈ Pipeline.restRefs sig spec0),
      in14 a W ord n c _ ((h.1 c).1 14),
      in19 a W ord n c _ ((h.1 c).1 19),
      (h.1 c).2 main_arg9 (by decide : main_arg9 ∈ Pipeline.restRefs sig spec0),
      (h.1 c).2 main_arg10 (by decide : main_arg10 ∈ Pipeline.restRefs sig spec0)⟩, (h.1 c).1 20⟩, h.2⟩

/-- The launch at any contents of the region's arrays. -/
theorem launch_of (m : (ℓ : Loc nD τ sig) → Buf (Elt F) ℓ) (g : Dev nD → PrngReg) (hT : Tab a.1 ord n)
    (hmain : Pipeline.HMainP (Ix := Unit) (Name := ℕ) (U := UR sig nD τ) (Lvl := ℕ) pcfgs 0 defs₀ Variants.none m (main (F := F)) W)
    (hpf : ∀ c k, W c (pre0.ref k) = a.1 k) :
    θ_run defs (onTc (τ := τ) (main (F := F))) ⟨m, fun _ => 0, g⟩ (fun r => (∀ c : Dev nD, (r.2.mem ((c.tc : Thread nD τ).loc main_arg0) = W c main_arg0
      ∧ r.2.mem ((c.tc : Thread nD τ).loc main_arg1) = W c main_arg1
      ∧ r.2.mem ((c.tc : Thread nD τ).loc main_arg2) = W c main_arg2
      ∧ r.2.mem ((c.tc : Thread nD τ).loc main_arg3) = W c main_arg3
      ∧ r.2.mem ((c.tc : Thread nD τ).loc main_arg4) = W c main_arg4
      ∧ r.2.mem ((c.tc : Thread nD τ).loc main_arg5) = W c main_arg5
      ∧ r.2.mem ((c.tc : Thread nD τ).loc main_arg6) = W c main_arg6
      ∧ r.2.mem ((c.tc : Thread nD τ).loc main_arg7) = W c main_arg7
      ∧ r.2.mem ((c.tc : Thread nD τ).loc main_arg8) = W c main_arg8
      ∧ r.2.mem ((c.tc : Thread nD τ).loc main_arg9) = W c main_arg9
      ∧ r.2.mem ((c.tc : Thread nD τ).loc main_arg10) = W c main_arg10)
      ∧ (rdat a W ord n c).ArrAt 20 (cfg0 a).N (r.2.mem ((c.tc : Thread nD τ).loc main_v53))) ∧ r.2.sem = fun _ => 0) :=
  Pipeline.RDat.θ_run_frameP_track_shared pcfgs (fun _ => a) 0 launch₀0 defs₀ Variants.none (rdat a W ord n) m g main
    (fun c => obligation a W ord n hT c) (fun c w _ => rdat_q a W ord n c w) (rdat_owed a W ord n) W hmain (rdat_A a W ord n) hpf
    (fun c => hin_of a W c) (fun c => hout_of a W c _) _ (fun r h => post_of a W ord n r h)

/-- The launch: arguments unchanged, the result at what the relation allows, every counter back at zero. -/
theorem launch (m : (ℓ : Loc nD τ sig) → Buf (Elt F) ℓ) (g : Dev nD → PrngReg) (hT : Tab (tbl m) ord n) :
    θ_run defs (onTc (τ := τ) (main (F := F))) ⟨m, fun _ => 0, g⟩ (fun r => (∀ c : Dev nD, (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ (rdat (adm m (ok_of_tab hT)) (V m) ord n c).ArrAt 20 (cfg0 (adm m (ok_of_tab hT))).N (r.2.mem ((c.tc : Thread nD τ).loc main_v53))) ∧ r.2.sem = fun _ => 0) := by
  have h := launch_of (adm m (ok_of_tab hT)) (V m) ord n m g hT (hmain m _) (V_pre m)
  refine (θ_run defs _ _).mono (fun r h => ⟨fun c => ⟨?_, (h.1 c).2⟩, h.2⟩) h
  have h1 := (h.1 c).1
  rw [V_main_arg0, V_main_arg1, V_main_arg2, V_main_arg3, V_main_arg4, V_main_arg5, V_main_arg6, V_main_arg7, V_main_arg8, V_main_arg9, V_main_arg10] at h1
  exact h1

end Cert.GateUpIdeal.Gen

end
-- ==== Proof.GateUpIdealOut.lean ====
/-
  The output array after the run, read at an element: the row of the tenant if its place is among the active ones, else the
  cleared value.
-/
module

public import proofs.«01_k».proof.Proof.GateUpIdealDat
public import Idealize.ShloMosaic.Lib.Pipeline.ArrRel
public import Idealize.ShloMosaic.Lib.Pipeline.Covers

@[expose] public section

set_option maxRecDepth 16384

noncomputable section

namespace Cert.GateUpIdeal.Gen

open Idealize.ShloMosaic Idealize.ShloMosaic.TcCoe Idealize.ShloMosaic.Tactic
open Idealize.ShloMosaic.ValueIdx
open Idealize.ShloMosaic.Pipeline (Dat RDat Cfg Window)

variable {F : FTy → Type} [FloatOps F]
variable (a : (pcfg0 (F := F)).Adm) (W : (c : Dev nD) → (b : Ref sig .tc) → Buf (Elt F) ((c : Thread nD τ).loc b))
variable (ord : Fin 24 → Fin 24) (n : ℕ)

/-- A group's step at a tenant's row: the row written if the tenant's place is in the group and active. -/
theorem outStep_apply (hn : n ≤ 24) (hinj : Function.Injective ord) (i : grid0.Coords) (R : Fin 5 → FVec F S1x4x512 .f32)
    (RS : Fin 24 → Fin 4 → Fin 512 → F .f32)
    (hR : ∀ (k : Fin 5) (r : Fin 4) (y : Fin 512), R k (ix3 (0 : Fin 1) r y) = RS (tenOf ord n i k) r y)
    (Y : Vec F S24x4x512 .f32) (q : Fin 24) (r : Fin 4) (y : Fin 512) :
    outStep i n (tenOf ord n i) R Y (ix3 (ord q) r y)
      = if grpOf i * 5 ≤ q.val ∧ q.val < min n (grpOf i * 5 + 5) then RS (ord q) r y else Y (ix3 (ord q) r y) := by
  unfold outStep
  by_cases hg : grpOf i * 5 < n
  · have hput : ∀ (k : Fin 5) (kv : ℕ), k.val = kv → ∀ Y' : Vec F S24x4x512 .f32, putRow (tenOf ord n i k) (R k) Y' (ix3 (ord q) r y)
        = if q.val = min (grpOf i * 5 + kv) (n - 1) then RS (ord q) r y else Y' (ix3 (ord q) r y) := by
      intro k kv hk Y'
      have hs := slotPos_eq n (grpOf i) k.val k.isLt hg hn
      have hiff : (ord q).val = (tenOf ord n i k).val ↔ q.val = min (grpOf i * 5 + kv) (n - 1) := by
        rw [← hk, ← hs, ← Fin.ext_iff, ← Fin.ext_iff]
        exact ⟨fun e => hinj e, fun e => congrArg ord e⟩
      unfold putRow
      by_cases h : (ord q).val = (tenOf ord n i k).val
      · rw [if_pos (hiff.mp h)]
        refine (if_pos h).trans ((hR k r y).trans ?_)
        rw [← Fin.ext h]
      · rw [if_neg fun e => h (hiff.mpr e)]
        exact if_neg h
    rw [if_pos hg, hput 4 4 rfl, hput 3 3 rfl, hput 2 2 rfl, hput 1 1 rfl, hput 0 0 rfl]
    by_cases hc : grpOf i * 5 ≤ q.val ∧ q.val < min n (grpOf i * 5 + 5)
    · rw [if_pos hc]
      split_ifs <;> first | rfl | omega
    · rw [if_neg hc]
      split_ifs <;> first | rfl | omega
  · rw [if_neg hg, if_neg (by omega)]

theorem grp_spec (t : Fin (cfg0 a).N) : grpOf (grid0.coords t) = t.val % 5 := (coords_spec t).2

theorem index20 (t : Fin (cfg0 a).N) : ((cfg0 a).win 20).index t = ![0, 0, t.val / 5] := by
  have h : (BitVec.ofNat 32 ((grid0.coords t) 0).val).toNat = t.val / 5 := coord0_toNat t
  funext x
  revert x
  show ∀ x : Fin 3, _
  intro x
  fin_cases x
  · rfl
  · rfl
  · exact h

theorem no_flush20 (t : Fin (cfg0 a).N) (h : t.val % 5 ≠ 4) : ((cfg0 a).win 20).flush t = false := by
  rw [Bool.eq_false_iff]
  intro hf
  have hN : (cfg0 a).N = 185 := N_0
  have ht := t.isLt
  rcases (((cfg0 a).win 20).flush_out rfl t).mp hf with h1 | ⟨h1, h2⟩
  · have : t.val + 1 = 185 := h1.trans hN
    omega
  · apply h2
    rw [index20, index20]
    have : (t.val + 1) / 5 = t.val / 5 := by omega
    show ![0, 0, (t.val + 1) / 5] = _
    rw [this]

variable (RS : Fin 37 → Fin 24 → Fin 4 → Fin 512 → F .f32) (Z : F .f32)

/-- What the points of a tile may leave, group after group. -/
theorem leaves_chain (c : Dev nD) (hn : n ≤ 24) (hinj : Function.Injective ord) (hZ : ∀ y, (k0_pay9 (F := F)) y = Z)
    (hR : ∀ (t : Fin (cfg0 a).N) (k : Fin 5) (r : Fin 4) (y : Fin 512), rowsAt a W ord n c t k (ix3 (0 : Fin 1) r y) = RS (tileOf t) (tenOf ord n (grid0.coords t) k) r y) :
    ∀ (g : ℕ) (t : Fin (cfg0 a).N), t.val % 5 = g → ∀ X : Vec F S24x4x512 .f32, (rdat a W ord n c).Leaves 20 t X →
      ∀ (q : Fin 24) (r : Fin 4) (y : Fin 512), X (ix3 (ord q) r y) = if q.val < min n (g * 5 + 5) then RS (tileOf t) (ord q) r y else Z := by
  have hstep : ∀ (t : Fin (cfg0 a).N) (X : Vec F S24x4x512 .f32), (rdat a W ord n c).Leaves 20 t X →
      ∃ Y : Vec F S24x4x512 .f32, (rdat a W ord n c).Finds 20 t Y ∧ X = leaveAt a W ord n c t Y := by
    rintro t X ⟨Y, hF, hA⟩
    refine ⟨Y, hF, ?_⟩
    unfold rdat at hA
    rw [(datAt a W c).toR.override_after_of_eq_some (R := fun t (Y X : Vec F S24x4x512 .f32) => X = leaveAt a W ord n c t Y) rfl] at hA
    exact hA
  intro g
  induction g with
  | zero =>
    intro t ht X hL q r y
    obtain ⟨Y, -, rfl⟩ := hstep t X hL
    have hg := grp_spec a t
    unfold leaveAt outPt
    rw [outStep_apply ord n hn hinj _ _ (RS (tileOf t)) (hR t), hg, ht, if_pos rfl, hZ]
    exact if_congr (by omega) rfl rfl
  | succ g ih =>
    intro t ht X hL q r y
    obtain ⟨Y, hF, rfl⟩ := hstep t X hL
    have hg := grp_spec a t
    have hN : (cfg0 a).N = 185 := N_0
    have hlt := t.isLt
    have hpos : t.val ≠ 0 := by omega
    have hp : (⟨t.val - 1, Nat.lt_of_le_of_lt (Nat.sub_le _ _) t.isLt⟩ : Fin (cfg0 a).N).val % 5 = g := by show (t.val - 1) % 5 = g; omega
    rcases ((rdat a W ord n c).finds_of_pos (((cfg0 a).win 20).fetch_out rfl t) hpos Y).mp hF with hfl | hLv
    · rw [no_flush20 a _ (by rw [hp]; omega)] at hfl
      exact absurd hfl Bool.false_ne_true
    · have h0 := ih _ hp Y hLv q r y
      have ht' : tileOf (⟨t.val - 1, Nat.lt_of_le_of_lt (Nat.sub_le _ _) t.isLt⟩ : Fin (cfg0 a).N) = tileOf t := Fin.ext (by show (t.val - 1) / 5 = t.val / 5; omega)
      rw [ht'] at h0
      unfold leaveAt outPt
      rw [outStep_apply ord n hn hinj _ _ (RS (tileOf t)) (hR t), hg, ht, if_neg (Nat.succ_ne_zero g), h0]
      split_ifs <;> first | rfl | omega

/-- The grid coordinates of tile `b`'s first group. -/
def tilePt (b : Fin 37) : grid0.Coords := fun x => match x with
  | ⟨0, _⟩ => (b : Fin 37)
  | ⟨1, _⟩ => (0 : Fin 5)

theorem covers20_aux (β : (x : Fin 3) → Fin ((![1, 1, 37] : Fin 3 → ℕ) x)) :
    ∀ x : Fin 3, ((cfg0 a).win 20).indexMap (tilePt (β 2)) x = (β x).val := by
  intro x
  fin_cases x
  · exact (Nat.lt_one_iff.mp (β 0).isLt).symm
  · exact (Nat.lt_one_iff.mp (β 1).isLt).symm
  · have h : (β 2).val < 37 := (β 2).isLt
    show (BitVec.ofNat 32 (β 2).val).toNat = (β 2).val
    rw [BitVec.toNat_ofNat]; omega

theorem nblk20_eq : ∀ x : Fin 3, (S24x4x18944.size x + S24x4x512.size x - 1) / S24x4x512.size x = (![1, 1, 37] : Fin 3 → ℕ) x := by
  decide

theorem covers20 : ((cfg0 a).win 20).Covers :=
  ((cfg0 a).win 20).covers_of_indexMap_surj rfl (by show ∀ x : Fin 3, 0 < S24x4x512.size x; decide) (by
    show ∀ β : (x : Fin 3) → Fin ((S24x4x18944.size x + S24x4x512.size x - 1) / S24x4x512.size x), _
    intro β
    exact ⟨tilePt ((β (2 : Fin 3)).cast (nblk20_eq 2)), covers20_aux a fun x => (β x).cast (nblk20_eq x)⟩)

/-- The array at an element. -/
def outVal (pos : Fin 24 → Fin 24) (j : S24x4x18944.Idx) : F .f32 :=
  if (pos (j (0 : Fin 3))).val < n then RS ⟨(j (2 : Fin 3)).val / 512, by have : (j (2 : Fin 3)).val < 18944 := (j (2 : Fin 3)).isLt; omega⟩ (j (0 : Fin 3)) (j (1 : Fin 3)) ⟨(j (2 : Fin 3)).val % 512, by omega⟩ else Z

theorem out_eq (c : Dev nD) (hn : n ≤ 24) (hinj : Function.Injective ord) (pos : Fin 24 → Fin 24) (hpos : ∀ t, ord (pos t) = t) (hZ : ∀ y, (k0_pay9 (F := F)) y = Z)
    (hR : ∀ (t : Fin (cfg0 a).N) (k : Fin 5) (r : Fin 4) (y : Fin 512), rowsAt a W ord n c t k (ix3 (0 : Fin 1) r y) = RS (tileOf t) (tenOf ord n (grid0.coords t) k) r y)
    (G : Buf (Elt F) ((c : Thread nD τ).loc main_v53)) (hG : (rdat a W ord n c).ArrAt 20 (cfg0 a).N G) : G = outVal n RS Z pos := by
  obtain ⟨X, hX, hA⟩ := hG.exists_exact
  rw [hA (Function.update (fun _ _ _ => Classical.arbitrary _) 20 X) fun _ _ _ => by rw [Function.update_self]]
  refine Dat.arrAt_eq_of_covers _ 20 _ (covers20 a) (fun t hf y => ?_)
  have ht5 : t.val % 5 = 4 := by
    by_contra h
    rw [no_flush20 a t h] at hf
    exact absurd hf Bool.false_ne_true
  have hc : ∀ (q : Fin 24) (r : Fin 4) (y : Fin 512), (X t : Vec F S24x4x512 .f32) (ix3 (ord q) r y)
      = if q.val < min n (4 * 5 + 5) then RS (tileOf t) (ord q) r y else Z := leaves_chain a W ord n RS Z c hn hinj hZ hR 4 t ht5 _ (hX t t.isLt hf)
  have key : ∀ y : S24x4x512.Idx, (X t : Vec F S24x4x512 .f32) y = outVal n RS Z pos ((((cfg0 a).win 20).blk t).view.emb y) := by
    intro y
    have e0 := emb20_0 a t y
    have e1 := emb20_1 a t y
    have e2 := emb20_2 a t y
    have h := hc (pos (y (0 : Fin 3))) (y (1 : Fin 3)) (y (2 : Fin 3))
    rw [hpos (y (0 : Fin 3))] at h
    have ey : ix3 (y (0 : Fin 3)) (y (1 : Fin 3)) (y (2 : Fin 3)) = y := by funext x; fin_cases x <;> rfl
    have hy2 : (y (2 : Fin 3)).val < 512 := (y (2 : Fin 3)).isLt
    have f0 : ((((cfg0 a).win 20).blk t).view.emb y) (0 : Fin 3) = y (0 : Fin 3) := Fin.ext e0
    have f1 : ((((cfg0 a).win 20).blk t).view.emb y) (1 : Fin 3) = y (1 : Fin 3) := Fin.ext e1
    have f2 : (((((cfg0 a).win 20).blk t).view.emb y) (2 : Fin 3)).val = (tileOf t).val * 512 + (y (2 : Fin 3)).val := e2
    refine ((congrArg (X t : Vec F S24x4x512 .f32) ey).symm.trans h).trans ?_
    unfold outVal
    have hq := (pos (y (0 : Fin 3))).isLt
    refine if_congr ?_ ?_ rfl
    · rw [f0]; omega
    · congr 1
      · apply Fin.ext; show (tileOf t).val = (((((cfg0 a).win 20).blk t).view.emb y) (2 : Fin 3)).val / 512
        rw [f2]; omega
      · exact f0.symm
      · exact f1.symm
      · apply Fin.ext; show (y (2 : Fin 3)).val = (((((cfg0 a).win 20).blk t).view.emb y) (2 : Fin 3)).val % 512
        rw [f2]; omega
  have hk := key y
  rw [← hk]
  show _root_.cast _ ((Function.update (fun _ _ _ => Classical.arbitrary _) 20 X : (w : Fin 21) → _) 20 t _) = _
  rw [Function.update_self]
  rfl

end Cert.GateUpIdeal.Gen

end
-- ==== Proof.GateUpIdealActive.lean ====
/-
  The host's order puts the active tenants first: a tenant's position is below the count exactly when it is active.
-/
module

public import proofs.«01_k».proof.Proof.GateUpIdealHost

@[expose] public section

noncomputable section

namespace Cert.GateUpIdeal.Gen

open Idealize.ShloMosaic Idealize.ShloMosaic.TcCoe
open Idealize.ShloMosaic.ValueIdx

theorem idle_iff (v : BitVec 32) : IntOp.cmpi .sle v 0#32 = 0#1 ↔ IntOp.cmpi .sgt v 0#32 = 1#1 := by
  unfold IntOp.cmpi
  show BitVec.ofBool (v.sle 0#32) = 0#1 ↔ BitVec.ofBool ((0#32).slt v) = 1#1
  have : v.sle 0#32 = !(0#32).slt v := by
    rw [BitVec.sle_eq_decide, BitVec.slt_eq_decide, ← decide_not, decide_eq_decide, not_lt]
  rw [this]
  cases (0#32).slt v <;> decide

/-- Along the order an active tenant has only active ones before it. -/
theorem active_before (x : IVec S24 32) (p q : Fin 24) (hpq : p < q) (hq : actBit x (ix1 (ordOf x q)) = 1#1) :
    actBit x (ix1 (ordOf x p)) = 1#1 := by
  have h := sortedFrom_noInversion (fun k k' : Fin 24 => IntOp.cmpi .ult (idleBit x k) (idleBit x k') == 1#1)
    (fun k k' : Fin 24 => IntOp.cmpi .ult (idleBit x k) (idleBit x k') == 1#1)
    (by
      intro a b
      have key : ∀ u v : BitVec 1, (IntOp.cmpi .ult u v == 1#1) = true → (IntOp.cmpi .ult v u == 1#1) = false := by decide
      exact key _ _)
    (fun a b h => h)
    (by
      intro a b c
      have key : ∀ u v w : BitVec 1, (IntOp.cmpi .ult u v == 1#1) = false → (IntOp.cmpi .ult v w == 1#1) = false → (IntOp.cmpi .ult u w == 1#1) = false := by decide
      exact key _ _ _) p q hpq
  have h' : (IntOp.cmpi .ult (idleBit x (ordOf x q)) (idleBit x (ordOf x p)) == 1#1) = false := h
  have hq' : idleBit x (ordOf x q) = 0#1 := (idle_iff _).mpr hq
  refine (idle_iff _).mp ?_
  show idleBit x (ordOf x p) = 0#1
  have key : ∀ u v : BitVec 1, (IntOp.cmpi .ult u v == 1#1) = false → u = 0#1 → v = 0#1 := by decide
  exact key _ _ h' hq'

/-- A tenant's position is below the count exactly when it is active. -/
theorem active_iff (x : IVec S24 32) (pos : Fin 24 → Fin 24) (hpos : ∀ t, ordOf x (pos t) = t) (t : Fin 24) :
    (pos t).val < cntOf x ↔ actBit x (ix1 t) = 1#1 := by
  have hinv : ∀ p, pos (ordOf x p) = p := fun p => ordOf_injective x (hpos _)
  let P : Finset (Fin 24) := Finset.univ.filter fun p => actBit x (ix1 (ordOf x p)) = 1#1
  have hcard : cntOf x = P.card := by
    unfold cntOf
    refine Finset.card_nbij' (fun i : S24.Idx => pos (i (0 : Fin 1))) (fun p => ix1 (ordOf x p)) ?_ ?_ ?_ ?_
    · intro i hi
      have hi' : actBit x i = 1#1 := by simpa using hi
      have e : (ix1 (ordOf x (pos (i (0 : Fin 1)))) : S24.Idx) = i := by
        funext a
        obtain rfl : a = (0 : Fin 1) := Subsingleton.elim (α := Fin 1) _ _
        exact hpos _
      simp only [P, Finset.coe_filter, Finset.mem_univ, true_and, Set.mem_setOf_eq]
      rw [e]; exact hi'
    · intro p hp
      simpa [P] using hp
    · intro i hi
      funext a
      obtain rfl : a = (0 : Fin 1) := Subsingleton.elim (α := Fin 1) _ _
      exact hpos _
    · intro p hp
      exact hinv p
  rw [hcard]
  have hm : ∀ p, p ∈ P ↔ actBit x (ix1 (ordOf x p)) = 1#1 := fun p => by simp [P]
  constructor
  · intro hlt
    by_contra hna
    have hsub : P ⊆ Finset.Iio (pos t) := by
      intro p hp
      rw [Finset.mem_Iio]
      by_contra hge
      rcases Nat.eq_or_lt_of_le (not_lt.mp hge) with e | l
      · have : pos t = p := Fin.ext e
        subst this
        exact hna (by have := (hm _).mp hp; rwa [hpos] at this)
      · have := active_before x (pos t) p l ((hm _).mp hp)
        rw [hpos] at this
        exact hna this
    have := Finset.card_le_card hsub
    rw [Fin.card_Iio] at this
    omega
  · intro ha
    have hsub : Finset.Iic (pos t) ⊆ P := by
      intro p hp
      rw [Finset.mem_Iic] at hp
      rw [hm]
      rcases Nat.eq_or_lt_of_le hp with e | l
      · have : p = pos t := Fin.ext e
        subst this
        rw [hpos]; exact ha
      · exact active_before x p (pos t) l (by rw [hpos]; exact ha)
    have := Finset.card_le_card hsub
    rw [Fin.card_Iic] at this
    omega

end Cert.GateUpIdeal.Gen
-- ==== Proof.GateUpIdealSum.lean ====
/-
  The delta product as a sum: the stored bits, read as eight bit floats, times the rescaled codes are the signed codes.
-/
module

public import proofs.«01_k».proof.Proof.GateUpIdealStep
public import Idealize.ShloMosaic.Lib.ValueIdx
public import Idealize.ShloMosaic.Lib.BitcastFour
public import Idealize.ShloMosaic.Lib.Pipeline.Value
public import Idealize.ShloMosaic.PureOps.Ideal.Laws
public import Idealize.ShloMosaic.Lib.Pointwise
public import Idealize.ShloMosaic.Lib.ValueLayout

@[expose] public section

set_option maxRecDepth 16384

noncomputable section

namespace Cert.GateUpIdeal.Gen

open Idealize.ShloMosaic hiding ix1 ix2 ix3 ix4
open Idealize.ShloMosaic.TcCoe
open Idealize.ShloMosaic.ValueIdx

/-- The mask of the `j`th expanded part. -/
def maskW : Fin 8 → BitVec 32 := ![16843009#32, 33686018#32, 67372036#32, 134744072#32, 269488144#32, 538976288#32, 1077952576#32, 1077952576#32]

/-- The bit of a byte that the `j`th part keeps. -/
def keep : Fin 8 → ℕ := ![0, 1, 2, 3, 4, 5, 6, 6]

/-- The exponent of the `j`th part's one bit float. -/
def bitExp : Fin 8 → ℤ := ![-9, -8, -7, -6, -5, -3, 1, 1]

/-- The `j`th part's source: the word, or for the last part the word moved down by one bit. -/
def srcW (j : Fin 8) (x : BitVec 32) : BitVec 32 := if j = 7 then IntOp.shrui .vector x 1#32 else x

theorem mask_bit (j : Fin 8) (b : Fin 4) (i : Fin 8) : (maskW j).getLsbD (8 * b.val + i.val) = decide (i.val = keep j) := by
  revert j b i; decide

theorem pow_bit (j i : Fin 8) (c : Bool) : ((if c then BitVec.twoPow 8 (keep j) else 0#8) : BitVec 8).getLsbD i.val = (c && decide (i.val = keep j)) := by
  revert j i c; decide

theorem src_bit (j : Fin 8) (b : Fin 4) (x : BitVec 32) : (srcW j x).getLsbD (8 * b.val + keep j) = x.getLsbD (8 * b.val + j.val) := by
  have h1 : ∀ x : BitVec 32, IntOp.shrui .vector x 1#32 = x >>> 1 := fun x => rfl
  unfold srcW
  by_cases hj : j = 7
  · subst hj
    rw [if_pos rfl, h1, BitVec.getLsbD_ushiftRight]
    congr 1
    show 1 + (8 * b.val + 6) = 8 * b.val + 7
    omega
  · rw [if_neg hj]
    have : keep j = j.val := by revert hj; revert j; decide
    rw [this]

/-- One kept bit as an eight bit float. -/
theorem bit_float (j : Fin 8) (c : Bool) : Ideal.ofBits .fp8e4m3 (if c then BitVec.twoPow 8 (keep j) else 0#8)
    = (((if c then (2 : ℝ) ^ bitExp j else 0 : ℝ)) : EReal) := by
  cases c
  · simp [Ideal.ofBits, Ideal.e4m3fn]
  · have hb : ∀ j, BitVec.twoPow 8 (keep j) = (![1#8, 2#8, 4#8, 8#8, 16#8, 32#8, 64#8, 64#8] : Fin 8 → BitVec 8) j := by decide
    rw [if_pos rfl, if_pos rfl, hb]
    fin_cases j <;> (simp [Ideal.ofBits, Ideal.e4m3fn, bitExp, -EReal.coe_mul]; try norm_num)

/-- The masked source of the `j`th part. -/
def msk (v : Vec Ideal S1x8x512 .i32) (j : Fin 8) : IVec S8x512 32 := fun p => IntOp.andi (srcW j (words v p)) (maskW j)

theorem hcat (f : Fin 8 → FVec Ideal S32x512 .fp8e4m3) :
    Shape.Concatenates ((List.ofFn fun n : Fin 8 => (⟨S32x512, f n⟩ : (s : Shape) × (s.Idx → Ideal .fp8e4m3))).map (·.1)) S256x512 0 := by
  simp only [List.ofFn_succ, List.ofFn_zero, List.map_cons, List.map_nil]
  exact concatenates_S32x512_S32x512_S32x512_S32x512_S32x512_S32x512_S32x512_S32x512_S256x512_d0

theorem cat_congr {α : Type} {s : Shape} {a : Fin s.rank} {xs ys : List ((t : Shape) × (t.Idx → α))} (h : xs = ys)
    (hx : Shape.Concatenates (xs.map (·.1)) s a) (hy : Shape.Concatenates (ys.map (·.1)) s a) :
    concatenate s a xs hx = concatenate s a ys hy := by subst h; rfl

theorem ofFn8 {α : Type*} (f : Fin 8 → α) : List.ofFn f = [f 0, f 1, f 2, f 3, f 4, f 5, f 6, f 7] := by
  simp only [List.ofFn_succ, List.ofFn_zero]
  rfl

theorem expand_eq (v : Vec Ideal S1x8x512 .i32) :
    expand v = concatenate S256x512 0 (List.ofFn fun n : Fin 8 => ⟨S32x512, bytes (msk v n)⟩) (hcat fun n => bytes (msk v n)) := by
  refine cat_congr ?_ _ _
  rw [ofFn8]
  rfl

theorem bytes_apply (v : Vec Ideal S1x8x512 .i32) (j : Fin 8) (s : Fin 8) (b : Fin 4) (y : Fin 512) :
    bytes (F := Ideal) (msk v j) (ix2 (⟨4 * s.val + b.val, by omega⟩ : Fin 32) y)
      = (((if (v (ix3 (0 : Fin 1) s y) : BitVec 32).getLsbD (8 * b.val + j.val) then (2 : ℝ) ^ bitExp j else 0 : ℝ)) : EReal) := by
  refine Eq.trans ?_ (bit_float j _)
  refine congrArg (Ideal.ofBits .fp8e4m3) ?_
  apply BitVec.eq_of_getLsbD_eq
  intro i hi
  rw [bitcast_getLsbD _ _ _ i hi (by decide)]
  have hs : ∀ p hp, (bitcasts_S8x512_w32_S32x512_w8).srcIdx (ix2 (⟨4 * s.val + b.val, by omega⟩ : Fin 32) y) p hp = ix2 (⟨p, hp 0 rfl⟩ : Fin 8) y := by
    intro p hp
    funext a
    apply Fin.ext
    fin_cases a
    · exact Shape.Bitcasts.srcIdx_row _ _ _ _ _ rfl
    · exact Shape.Bitcasts.srcIdx_other _ _ _ _ _ (by decide)
  have hrow : S32x512.row (ix2 (⟨4 * s.val + b.val, by omega⟩ : Fin 32) y) = 4 * s.val + b.val := rfl
  rw [hs]
  have e1 : (S32x512.row (ix2 (⟨4 * s.val + b.val, by omega⟩ : Fin 32) y) * 8 + i) / 32 = s.val := by rw [hrow]; omega
  have e2 : (S32x512.row (ix2 (⟨4 * s.val + b.val, by omega⟩ : Fin 32) y) * 8 + i) % 32 = 8 * b.val + i := by rw [hrow]; omega
  rw [e2]
  have e3 : ∀ (q : ℕ) (hq : q < 8), q = s.val → words v (ix2 (⟨q, hq⟩ : Fin 8) y) = v (ix3 (0 : Fin 1) s y) := by
    intro q hq e; subst e
    exact shapeCast_1ab_ab_apply v shapeCasts_S1x8x512_S8x512 s y
  refine (congrArg (fun w : BitVec 32 => (IntOp.andi (srcW j w) (maskW j)).getLsbD (8 * b.val + i)) (e3 _ (by rw [e1]; exact s.isLt) e1)).trans ?_
  show (srcW j (v (ix3 (0 : Fin 1) s y)) &&& maskW j).getLsbD (8 * b.val + i) = _
  rw [BitVec.getLsbD_and, mask_bit j b ⟨i, hi⟩, pow_bit j ⟨i, hi⟩]
  by_cases h : i = keep j
  · subst h; rw [src_bit]
  · simp [h]

/-- The row of the expanded block that holds code `c` of the chunk. -/
def pos (c : Fin 256) : Fin 256 := ⟨c.val % 8 * 32 + (4 * (c.val / 32) + c.val % 32 / 8), by omega⟩

/-- The code that an expanded row holds. -/
def unpos (k : Fin 256) : Fin 256 := ⟨k.val % 32 / 4 * 32 + (8 * (k.val % 4) + k.val / 32), by omega⟩

/-- The two are inverse. -/
def posEquiv : Fin 256 ≃ Fin 256 where
  toFun := pos
  invFun := unpos
  left_inv := by decide +kernel
  right_inv := by decide +kernel

theorem expand_apply (v : Vec Ideal S1x8x512 .i32) (c : Fin 256) (y : Fin 512) :
    expand v (ix2 (pos c) y)
      = (((if (v (ix3 (0 : Fin 1) (⟨c.val / 32, by omega⟩ : Fin 8) y) : BitVec 32).getLsbD (c.val % 32) then (2 : ℝ) ^ bitExp ⟨c.val % 8, by omega⟩ else 0 : ℝ)) : EReal) := by
  rw [expand_eq, concatenate_ofFn_apply (t := S256x512) (s₁ := S32x512) 0 (fun n : Fin 8 => bytes (msk v n)) _ rfl 32 rfl (ix2 (pos c) y) (⟨c.val % 8, by omega⟩ : Fin 8)
    (by show (pos c).val / 32 = c.val % 8; simp only [pos]; omega)
    (ix2 (⟨4 * (⟨c.val / 32, by omega⟩ : Fin 8).val + (⟨c.val % 32 / 8, by omega⟩ : Fin 4).val, by simp only; omega⟩ : Fin 32) y)
    (by show 4 * (c.val / 32) + c.val % 32 / 8 = (pos c).val % 32; simp only [pos]; omega)
    (by intro b hb; fin_cases b
        · exact absurd rfl hb
        · rfl)]
  rw [bytes_apply]
  have e : 8 * (c.val % 32 / 8) + c.val % 8 = c.val % 32 := by omega
  simp only [e]

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- One chunk: the codes whose bit is set, doubled. -/
theorem chunk_apply (qs : FVec Ideal S16x256 .bf16) (v : Vec Ideal S1x8x512 .i32) (Q : Fin 256 → ℝ) (r : Fin 16) (y : Fin 512)
    (hq : ∀ c : Fin 256, qs (ix2 r (pos c)) = ((Q c * (2 : ℝ) ^ (1 - bitExp ⟨c.val % 8, by omega⟩) : ℝ) : EReal)) :
    chunk qs v (ix2 r y) = ((∑ c : Fin 256, (if (v (ix3 (0 : Fin 1) (⟨c.val / 32, by omega⟩ : Fin 8) y) : BitVec 32).getLsbD (c.val % 32) then 2 * Q c else 0) : ℝ) : EReal) := by
  have h : chunk qs v (ix2 r y) = ∑ k : Fin 256, qs (ix2 r k) * expand v (ix2 k y) := by
    refine (Ideal.matmul_apply₁_of dot_S16x256_S256x512_S16x512_1_0_0_1_n_n (a := 1) rfl (K := 256) rfl qs (expand v)
      (constant (F := Ideal) S16x512 .f32 0x00000000#32) (ix2 r y) (fun k => ix2 r k) (fun k => ix2 k y) ?_ ?_).trans ?_
    · intro k; funext a; fin_cases a <;> rfl
    · intro k; funext a; fin_cases a <;> rfl
    · exact (congrArg (· + _) Ideal.ofBits_zero_f32).trans (zero_add _)
  rw [h, ← Equiv.sum_comp posEquiv]
  rw [coe_sum]
  refine Finset.sum_congr rfl fun c _ => ?_
  show qs (ix2 r (pos c)) * expand v (ix2 (pos c) y) = _
  rw [hq, expand_apply, ← EReal.coe_mul]
  refine congrArg _ ?_
  split
  · rw [mul_assoc, ← zpow_add₀ (by norm_num : (2:ℝ) ≠ 0), sub_add_cancel, zpow_one, mul_comm]
  · exact mul_zero _

end Cert.GateUpIdeal.Gen

end
-- ==== Proof.GateUpIdealDelta.lean ====
/-
  The delta product of a tenant's rows as a real sum: every code with the sign its stored bit says.
-/
module

public import proofs.«01_k».proof.Proof.GateUpIdealSum

@[expose] public section

set_option maxRecDepth 16384

noncomputable section

namespace Cert.GateUpIdeal.Gen

open Idealize.ShloMosaic hiding ix1 ix2 ix3 ix4
open Idealize.ShloMosaic.TcCoe
open Idealize.ShloMosaic.ValueIdx

/-- The eight word rows of chunk `g`. -/
def wordsG (X : Vec Ideal S1x112x512 .i32) (g : Fin 14) : Vec Ideal S1x8x512 .i32 := fun y =>
  X (ix3 (0 : Fin 1) (⟨8 * g.val + (y (1 : Fin 3)).val, by have : (y (1 : Fin 3)).val < 8 := (y (1 : Fin 3)).isLt; omega⟩ : Fin 112) (y (2 : Fin 3)))

/-- The codes of chunk `g`. -/
def codesG (qv : Vec Ideal S1x16x3584 .bf16) (g : Fin 14) : FVec Ideal S16x256 .bf16 := fun y =>
  qv (ix3 (0 : Fin 1) (y (0 : Fin 2)) (⟨256 * g.val + (y (1 : Fin 2)).val, by have : (y (1 : Fin 2)).val < 256 := (y (1 : Fin 2)).isLt; omega⟩ : Fin 3584))

theorem words_slice (X : Vec Ideal S1x112x512 .i32) (g : Fin 14) (o : ℕ) (ho : o = 8 * g.val) (inb : ∀ a : Fin 3, ![0, o, 0] a + S1x8x512.size a ≤ S1x112x512.size a) :
    (fun y => X ((Rect.unit (s := S1x112x512) ![0, o, 0] S1x8x512.size inb).toLoadRect.idx y) : Vec Ideal S1x8x512 .i32) = wordsG X g := by
  subst ho
  funext y
  refine congrArg X (funext fun a => Fin.ext ?_)
  have h0 : (y (0 : Fin 3)).val < 1 := (y (0 : Fin 3)).isLt
  show ![0, 8 * g.val, 0] a + 1 * (y a).val = _
  revert a
  show ∀ a : Fin 3, _
  intro a
  fin_cases a
  · show 0 + 1 * (y (0 : Fin 3)).val = 0; omega
  · show 8 * g.val + 1 * (y (1 : Fin 3)).val = 8 * g.val + (y (1 : Fin 3)).val; omega
  · show 0 + 1 * (y (2 : Fin 3)).val = (y (2 : Fin 3)).val; omega

theorem q_slice (qv : Vec Ideal S1x16x3584 .bf16) (g : Fin 14) (o : ℕ) (ho : o = 256 * g.val) (h : Shape.Slices S16x3584 ![0, o] S16x256) :
    extractStridedSlice S16x256 ![0, o] (shapeCast S16x3584 qv shapeCasts_S1x16x3584_S16x3584 : FVec Ideal S16x3584 .bf16) h = codesG qv g := by
  subst ho
  funext y
  have h1 : (y (1 : Fin 2)).val < 256 := (y (1 : Fin 2)).isLt
  refine (extractStridedSlice_apply _ _ _ y (ix2 (y (0 : Fin 2)) (⟨256 * g.val + (y (1 : Fin 2)).val, by omega⟩ : Fin 3584)) ?_).trans ?_
  · intro a
    fin_cases a
    · show (y (0 : Fin 2)).val = 0 + (y (0 : Fin 2)).val; omega
    · rfl
  · exact shapeCast_1ab_ab_apply qv shapeCasts_S1x16x3584_S16x3584 _ _

theorem split_sum (G : Fin 3584 → ℝ) : ∑ d, G d = ∑ g : Fin 14, ∑ c : Fin 256, G ⟨256 * g.val + c.val, by omega⟩ := by
  rw [← Fintype.sum_prod_type' (f := fun (g : Fin 14) (c : Fin 256) => G ⟨256 * g.val + c.val, by omega⟩)]
  refine (Fintype.sum_equiv (finProdFinEquiv (m := 14) (n := 256)) _ _ fun p => ?_).symm
  refine congrArg G (Fin.ext ?_)
  show 256 * p.1.val + p.2.val = p.2.val + 256 * p.1.val
  omega

theorem sum14 (T : Fin 14 → ℝ) : T 0 + T 1 + T 2 + T 3 + T 4 + T 5 + T 6 + T 7 + T 8 + T 9 + T 10 + T 11 + T 12 + T 13 = ∑ g, T g := by
  simp only [Fin.sum_univ_castSucc, Fin.sum_univ_zero, zero_add]
  rfl

/-- The chunks added up and the row sum taken off. -/
theorem deltaX_eq (X : Vec Ideal S1x112x512 .i32) (qv : Vec Ideal S1x16x3584 .bf16) (sm : Vec Ideal S1x4x1 .f32) (r : Fin 4) (y : Fin 512)
    (C : Fin 14 → EReal) (hC : ∀ g, chunk (codesG qv g) (wordsG X g) (ix2 (⟨r.val, by omega⟩ : Fin 16) y) = C g) :
    deltaX X qv sm (ix2 r y) = (C 0 + C 1 + C 2 + C 3 + C 4 + C 5 + C 6 + C 7 + C 8 + C 9 + C 10 + C 11 + C 12 + C 13) - sm (ix3 (0 : Fin 1) r (0 : Fin 1)) := by
  unfold deltaX
  have w0 := words_slice X 0 0 rfl inb_S1x112x512_S1x8x512_0_0_0
  have w1 := words_slice X 1 8 rfl inb_S1x112x512_S1x8x512_0_8_0
  have w2 := words_slice X 2 16 rfl inb_S1x112x512_S1x8x512_0_16_0
  have w3 := words_slice X 3 24 rfl inb_S1x112x512_S1x8x512_0_24_0
  have w4 := words_slice X 4 32 rfl inb_S1x112x512_S1x8x512_0_32_0
  have w5 := words_slice X 5 40 rfl inb_S1x112x512_S1x8x512_0_40_0
  have w6 := words_slice X 6 48 rfl inb_S1x112x512_S1x8x512_0_48_0
  have w7 := words_slice X 7 56 rfl inb_S1x112x512_S1x8x512_0_56_0
  have w8 := words_slice X 8 64 rfl inb_S1x112x512_S1x8x512_0_64_0
  have w9 := words_slice X 9 72 rfl inb_S1x112x512_S1x8x512_0_72_0
  have w10 := words_slice X 10 80 rfl inb_S1x112x512_S1x8x512_0_80_0
  have w11 := words_slice X 11 88 rfl inb_S1x112x512_S1x8x512_0_88_0
  have w12 := words_slice X 12 96 rfl inb_S1x112x512_S1x8x512_0_96_0
  have w13 := words_slice X 13 104 rfl inb_S1x112x512_S1x8x512_0_104_0
  have q0 := q_slice qv 0 0 rfl slices_S16x3584_o0_0_S16x256
  have q1 := q_slice qv 1 256 rfl slices_S16x3584_o0_256_S16x256
  have q2 := q_slice qv 2 512 rfl slices_S16x3584_o0_512_S16x256
  have q3 := q_slice qv 3 768 rfl slices_S16x3584_o0_768_S16x256
  have q4 := q_slice qv 4 1024 rfl slices_S16x3584_o0_1024_S16x256
  have q5 := q_slice qv 5 1280 rfl slices_S16x3584_o0_1280_S16x256
  have q6 := q_slice qv 6 1536 rfl slices_S16x3584_o0_1536_S16x256
  have q7 := q_slice qv 7 1792 rfl slices_S16x3584_o0_1792_S16x256
  have q8 := q_slice qv 8 2048 rfl slices_S16x3584_o0_2048_S16x256
  have q9 := q_slice qv 9 2304 rfl slices_S16x3584_o0_2304_S16x256
  have q10 := q_slice qv 10 2560 rfl slices_S16x3584_o0_2560_S16x256
  have q11 := q_slice qv 11 2816 rfl slices_S16x3584_o0_2816_S16x256
  have q12 := q_slice qv 12 3072 rfl slices_S16x3584_o0_3072_S16x256
  have q13 := q_slice qv 13 3328 rfl slices_S16x3584_o0_3328_S16x256
  rw [w0, w1, w2, w3, w4, w5, w6, w7, w8, w9, w10, w11, w12, w13]
  unfold delta
  simp only [q0, q1, q2, q3, q4, q5, q6, q7, q8, q9, q10, q11, q12, q13]
  refine congrArg₂ (fun a b : EReal => a - b) ?_ ?_
  · refine (extractStridedSlice_apply _ _ _ (ix2 r y) (ix2 (⟨r.val, by omega⟩ : Fin 16) y) ?_).trans ?_
    · intro a
      fin_cases a
      · show r.val = 0 + r.val; omega
      · show y.val = 0 + y.val; omega
    · rw [← hC 0, ← hC 1, ← hC 2, ← hC 3, ← hC 4, ← hC 5, ← hC 6, ← hC 7, ← hC 8, ← hC 9, ← hC 10, ← hC 11, ← hC 12, ← hC 13]
      rfl
  · refine (broadcastTo_apply _ _ (ix2 r y) (ix2 r (0 : Fin 1)) ?_).trans (shapeCast_1ab_ab_apply sm shapeCasts_S1x4x1_S4x1 r 0)
    intro a
    fin_cases a <;> rfl

/-- The delta product at a row and column. -/
theorem deltaX_apply (X : Vec Ideal S1x112x512 .i32) (qv : Vec Ideal S1x16x3584 .bf16) (sm : Vec Ideal S1x4x1 .f32) (Q : Fin 3584 → ℝ) (r : Fin 4) (y : Fin 512)
    (hq : ∀ (g : Fin 14) (c : Fin 256), qv (ix3 (0 : Fin 1) (⟨r.val, by omega⟩ : Fin 16) (⟨256 * g.val + (pos c).val, by omega⟩ : Fin 3584))
      = ((Q ⟨256 * g.val + c.val, by omega⟩ * (2 : ℝ) ^ (1 - bitExp ⟨c.val % 8, by omega⟩) : ℝ) : EReal))
    (hs : sm (ix3 (0 : Fin 1) r (0 : Fin 1)) = ((∑ d, Q d : ℝ) : EReal)) :
    deltaX X qv sm (ix2 r y)
      = ((∑ d : Fin 3584, (if (X (ix3 (0 : Fin 1) (⟨d.val / 32, by omega⟩ : Fin 112) y) : BitVec 32).getLsbD (d.val % 32) then Q d else -Q d) : ℝ) : EReal) := by
  let T : Fin 14 → ℝ := fun g => ∑ c : Fin 256, (if (wordsG X g (ix3 (0 : Fin 1) (⟨c.val / 32, by omega⟩ : Fin 8) y) : BitVec 32).getLsbD (c.val % 32) then 2 * Q ⟨256 * g.val + c.val, by omega⟩ else 0)
  have hT : ∀ g, chunk (codesG qv g) (wordsG X g) (ix2 (⟨r.val, by omega⟩ : Fin 16) y) = (T g : EReal) := fun g =>
    chunk_apply _ _ (fun c => Q ⟨256 * g.val + c.val, by omega⟩) _ y (hq g)
  rw [deltaX_eq X qv sm r y (fun g => (T g : EReal)) hT, hs]
  simp only [← EReal.coe_add, ← EReal.coe_sub]
  refine congrArg _ ?_
  rw [sum14 T, split_sum Q, split_sum (fun d => if (X (ix3 (0 : Fin 1) (⟨d.val / 32, by omega⟩ : Fin 112) y) : BitVec 32).getLsbD (d.val % 32) then Q d else -Q d),
    ← Finset.sum_sub_distrib]
  refine Finset.sum_congr rfl fun g _ => ?_
  show (∑ c : Fin 256, _) - _ = _
  rw [← Finset.sum_sub_distrib]
  refine Finset.sum_congr rfl fun c _ => ?_
  have e1 : wordsG X g (ix3 (0 : Fin 1) (⟨c.val / 32, by omega⟩ : Fin 8) y) = X (ix3 (0 : Fin 1) (⟨(256 * g.val + c.val) / 32, by omega⟩ : Fin 112) y) := by
    refine congrArg (fun k : Fin 112 => X (ix3 (0 : Fin 1) k y)) (Fin.ext ?_)
    show 8 * g.val + c.val / 32 = (256 * g.val + c.val) / 32
    omega
  have e2 : (256 * g.val + c.val) % 32 = c.val % 32 := by omega
  rw [e1, e2]
  split <;> ring

end Cert.GateUpIdeal.Gen

end
-- ==== Proof.GateUpIdealRow.lean ====
/-
  The rows a group step writes, element by element: the scaled sum of the base product and the signed sum, for both
  projections, and the gate times its logistic times the up projection.
-/
module

public import proofs.«01_k».proof.Proof.GateUpIdealDelta
public import proofs.«01_k».proof.Proof.GateUpIdealDat

@[expose] public section

set_option maxRecDepth 16384

noncomputable section

namespace Cert.GateUpIdeal.Gen

open Idealize.ShloMosaic hiding ix1 ix2 ix3 ix4
open Idealize.ShloMosaic.TcCoe
open Idealize.ShloMosaic.ValueIdx

/-- An eight bit code widened is the same integer. -/
theorem code_float (v : BitVec 8) : (BitVec.signExtend 32 v).toInt = v.toInt := by
  revert v
  decide +kernel

/-- One projection from its parts. -/
def projS (sc b ws al dl : EReal) : EReal := sc * (b * ws + al * dl)

/-- The hidden value from the two projections. -/
def hidS (g u : EReal) : EReal := g * Ideal.logistic g * u

theorem proj_apply (sc : Vec Ideal S1x4x1 .f32) (acc : Vec Ideal S1x4x512 .f32) (ws : Vec Ideal S1x512 .f32) (al : Vec Ideal S1x1x512 .f32)
    (d : FVec Ideal S4x512 .f32) (r : Fin 4) (y : Fin 512) :
    proj sc acc ws al d (ix2 r y)
      = projS (sc (ix3 (0 : Fin 1) r (0 : Fin 1))) (acc (ix3 (0 : Fin 1) r y)) (ws (ix2 (0 : Fin 1) y)) (al (ix3 (0 : Fin 1) (0 : Fin 1) y)) (d (ix2 r y)) := by
  have e1 : broadcastTo S4x512 (shapeCast S4x1 sc shapeCasts_S1x4x1_S4x1 : FVec Ideal S4x1 .f32) broadcasts_S4x1_S4x512 (ix2 r y) = sc (ix3 (0 : Fin 1) r (0 : Fin 1)) := by
    refine (broadcastTo_apply _ _ (ix2 r y) (ix2 r (0 : Fin 1)) ?_).trans (shapeCast_1ab_ab_apply sc shapeCasts_S1x4x1_S4x1 r 0)
    intro a
    fin_cases a <;> rfl
  have e2 : shapeCast S4x512 acc shapeCasts_S1x4x512_S4x512 (ix2 r y) = acc (ix3 (0 : Fin 1) r y) := shapeCast_1ab_ab_apply acc _ r y
  have e3 : broadcastTo S4x512 (shapeCast S1x512 ws shapeCasts_S1x512_S1x512 : FVec Ideal S1x512 .f32) broadcasts_S1x512_S4x512 (ix2 r y) = ws (ix2 (0 : Fin 1) y) := by
    refine (broadcastTo_apply _ _ (ix2 r y) (ix2 (0 : Fin 1) y) ?_).trans (shapeCast_apply ws _ _ _ rfl)
    intro a
    fin_cases a <;> rfl
  have e4 : broadcastTo S4x512 (shapeCast S1x512 al shapeCasts_S1x1x512_S1x512 : FVec Ideal S1x512 .f32) broadcasts_S1x512_S4x512 (ix2 r y) = al (ix3 (0 : Fin 1) (0 : Fin 1) y) := by
    refine (broadcastTo_apply _ _ (ix2 r y) (ix2 (0 : Fin 1) y) ?_).trans (shapeCast_1ab_ab_apply al shapeCasts_S1x1x512_S1x512 0 y)
    intro a
    fin_cases a <;> rfl
  unfold proj projS
  rw [← e1, ← e2, ← e3, ← e4]
  rfl

theorem idx_t {B b d : ℕ} (t : Fin 24) (hb : b ≤ B) (inb : ∀ a : Fin 3, ![t.val, 0, 0] a + ![1, b, d] a ≤ ![24, B, d] a) (i : Fin b) (j : Fin d) :
    (Rect.unit (s := ⟨3, ![24, B, d]⟩) ![t.val, 0, 0] ![1, b, d] inb).toLoadRect.idx (ix3 (0 : Fin 1) i j) = ix3 t (⟨i.val, by omega⟩ : Fin B) j := by
  funext a
  apply Fin.ext
  show ![t.val, 0, 0] a + 1 * (ix3 (0 : Fin 1) i j a).val = _
  revert a
  show ∀ a : Fin 3, _
  intro a
  fin_cases a
  · show t.val + 1 * 0 = t.val; omega
  · show 0 + 1 * i.val = i.val; omega
  · show 0 + 1 * j.val = j.val; omega

/-- The signed sum of the codes `Q` over a column of sign words. -/
def signed (Q : Fin 3584 → ℝ) (w : Fin 112 → BitVec 32) : EReal :=
  ((∑ d : Fin 3584, (if (w (⟨d.val / 32, by omega⟩ : Fin 112)).getLsbD (d.val % 32) then Q d else -Q d) : ℝ) : EReal)

/-- The codes as the sign product takes them, and their sums. -/
structure Codes (qx : Vec Ideal S24x16x3584 .bf16) (sm : Vec Ideal S24x4x1 .f32) (Q : Fin 24 → Fin 4 → Fin 3584 → ℝ) : Prop where
  hq : ∀ (t : Fin 24) (r : Fin 4) (g : Fin 14) (c : Fin 256), qx (ix3 t (⟨r.val, by omega⟩ : Fin 16) (⟨256 * g.val + (pos c).val, by omega⟩ : Fin 3584))
      = ((Q t r ⟨256 * g.val + c.val, by omega⟩ * (2 : ℝ) ^ (1 - bitExp ⟨c.val % 8, by omega⟩) : ℝ) : EReal)
  hs : ∀ (t : Fin 24) (r : Fin 4), sm (ix3 t r (0 : Fin 1)) = ((∑ d, Q t r d : ℝ) : EReal)

theorem rowV_apply (x6 : Vec Ideal S24x16x3584 .bf16) (x7 : Vec Ideal S24x4x1 .f32) (x8 : Vec Ideal S24x4x1 .f32) (x11 x12 : Vec Ideal S1x512 .f32) (x13 x14 : Vec Ideal S24x1x512 .f32)
    (Ag Au : Vec Ideal S1x4x512 .f32) (Xg Xu : Vec Ideal S1x112x512 .i32) (t : Fin 24) (Q : Fin 24 → Fin 4 → Fin 3584 → ℝ) (hC : Codes x6 x8 Q) (r : Fin 4) (y : Fin 512) :
    rowV x6 x7 x8 x11 x12 x13 x14 Ag Au Xg Xu t (ix3 (0 : Fin 1) r y)
      = hidS (projS (x7 (ix3 t r (0 : Fin 1))) (Ag (ix3 (0 : Fin 1) r y)) (x11 (ix2 (0 : Fin 1) y)) (x13 (ix3 t (0 : Fin 1) y)) (signed (Q t r) fun k => Xg (ix3 (0 : Fin 1) k y)))
          (projS (x7 (ix3 t r (0 : Fin 1))) (Au (ix3 (0 : Fin 1) r y)) (x12 (ix2 (0 : Fin 1) y)) (x14 (ix3 t (0 : Fin 1) y)) (signed (Q t r) fun k => Xu (ix3 (0 : Fin 1) k y))) := by
  have hq : ∀ (g : Fin 14) (c : Fin 256), (fun y => x6 ((Rect.unit (s := S24x16x3584) ![t.val, 0, 0] S1x16x3584.size (inbT t 16 3584 16 (by decide))).toLoadRect.idx y) : Vec Ideal S1x16x3584 .bf16)
      (ix3 (0 : Fin 1) (⟨r.val, by omega⟩ : Fin 16) (⟨256 * g.val + (pos c).val, by omega⟩ : Fin 3584)) = ((Q t r ⟨256 * g.val + c.val, by omega⟩ * (2 : ℝ) ^ (1 - bitExp ⟨c.val % 8, by omega⟩) : ℝ) : EReal) :=
    fun g c => (congrArg x6 (idx_t t (by decide) _ _ _)).trans (hC.hq t r g c)
  have hs : (fun y => x8 ((Rect.unit (s := S24x4x1) ![t.val, 0, 0] S1x4x1.size (inbT t 4 1 4 (by decide))).toLoadRect.idx y) : Vec Ideal S1x4x1 .f32) (ix3 (0 : Fin 1) r (0 : Fin 1))
      = ((∑ d, Q t r d : ℝ) : EReal) := (congrArg x8 (idx_t t (by decide) _ _ _)).trans (hC.hs t r)
  have h7 : x7 ((Rect.unit (s := S24x4x1) ![t.val, 0, 0] S1x4x1.size (inbT t 4 1 4 (by decide))).toLoadRect.idx (ix3 (0 : Fin 1) r (0 : Fin 1))) = x7 (ix3 t r (0 : Fin 1)) :=
    congrArg x7 (idx_t t (by decide) _ _ _)
  have h13 : x13 ((Rect.unit (s := S24x1x512) ![t.val, 0, 0] S1x1x512.size (inbT t 1 512 1 (by decide))).toLoadRect.idx (ix3 (0 : Fin 1) (0 : Fin 1) y)) = x13 (ix3 t (0 : Fin 1) y) :=
    congrArg x13 (idx_t t (by decide) _ _ _)
  have h14 : x14 ((Rect.unit (s := S24x1x512) ![t.val, 0, 0] S1x1x512.size (inbT t 1 512 1 (by decide))).toLoadRect.idx (ix3 (0 : Fin 1) (0 : Fin 1) y)) = x14 (ix3 t (0 : Fin 1) y) :=
    congrArg x14 (idx_t t (by decide) _ _ _)
  unfold rowV rowOut
  refine (shapeCast_ab_1ab_apply _ shapeCasts_S4x512_S1x4x512 0 r y).trans ?_
  refine congrArg₂ hidS ?_ ?_
  · refine (proj_apply _ _ _ _ _ r y).trans ?_
    rw [deltaX_apply Xg _ _ (Q t r) r y hq hs, h7, h13]
    rfl
  · refine (proj_apply _ _ _ _ _ r y).trans ?_
    rw [deltaX_apply Xu _ _ (Q t r) r y hq hs, h7, h14]
    rfl

/-- A row of the base product. -/
theorem baseRow_apply (xq : Vec Ideal S96x3584 .bf16) (w : Vec Ideal S3584x512 .i8) (t : Fin 24) (r : Fin 4) (y : Fin 512) :
    baseRow (base xq w) t (ix3 (0 : Fin 1) r y)
      = ∑ k : Fin 3584, (xq (ix2 (⟨4 * t.val + r.val, by omega⟩ : Fin 96) k) * (((w (ix2 k y) : BitVec 8).toInt : ℝ) : EReal) : EReal) := by
  unfold baseRow base
  refine (shapeCast_ab_1ab_apply _ shapeCasts_S4x512_S1x4x512 0 r y).trans ?_
  refine (extractStridedSlice_apply _ _ _ (ix2 r y) (ix2 (⟨4 * t.val + r.val, by omega⟩ : Fin 96) y) ?_).trans ?_
  · intro a
    fin_cases a
    · rfl
    · show y.val = 0 + y.val; omega
  refine (Ideal.matmul_apply₁_of dot_S96x3584_S3584x512_S96x512_1_0_0_1_n_n (a := 1) rfl (K := 3584) rfl
      (shapeCast S96x3584 xq shapeCasts_S96x3584_S96x3584) (sitofp (F := Ideal) .bf16 w)
      (constant (F := Ideal) S96x512 .f32 0x00000000#32) (ix2 (⟨4 * t.val + r.val, by omega⟩ : Fin 96) y) (fun k => ix2 (⟨4 * t.val + r.val, by omega⟩ : Fin 96) k) (fun k => ix2 k y) ?_ ?_).trans ?_
  · intro k; funext a; fin_cases a <;> rfl
  · intro k; funext a; fin_cases a <;> rfl
  refine ((congrArg (· + _) Ideal.ofBits_zero_f32).trans (zero_add _)).trans ?_
  refine Finset.sum_congr rfl fun k _ => ?_
  exact congrArg₂ (fun a b : EReal => a * b) (shapeCast_apply xq _ _ _ rfl) rfl

/-- What a tile's rows hold, from the whole operands. -/
def rowSpec (xq : Vec Ideal S96x3584 .bf16) (sc : Vec Ideal S24x4x1 .f32) (wg wu : Vec Ideal S3584x18944 .i8) (wgs wus : Vec Ideal S1x18944 .f32)
    (ag au : Vec Ideal S24x1x18944 .f32) (sg su : Vec Ideal S24x112x18944 .i32) (Q : Fin 24 → Fin 4 → Fin 3584 → ℝ)
    (t : Fin 24) (r : Fin 4) (x : Fin 18944) : EReal :=
  hidS (projS (sc (ix3 t r (0 : Fin 1))) (∑ k : Fin 3584, (xq (ix2 (⟨4 * t.val + r.val, by omega⟩ : Fin 96) k) * (((wg (ix2 k x) : BitVec 8).toInt : ℝ) : EReal) : EReal))
      (wgs (ix2 (0 : Fin 1) x)) (ag (ix3 t (0 : Fin 1) x)) (signed (Q t r) fun k => sg (ix3 t k x)))
    (projS (sc (ix3 t r (0 : Fin 1))) (∑ k : Fin 3584, (xq (ix2 (⟨4 * t.val + r.val, by omega⟩ : Fin 96) k) * (((wu (ix2 k x) : BitVec 8).toInt : ℝ) : EReal) : EReal))
      (wus (ix2 (0 : Fin 1) x)) (au (ix3 t (0 : Fin 1) x)) (signed (Q t r) fun k => su (ix3 t k x)))

variable (a : (pcfg0 (F := Ideal)).Adm) (W : (c : Dev nD) → (b : Ref sig .tc) → Buf (Elt Ideal) ((c : Thread nD τ).loc b))
variable (ord : Fin 24 → Fin 24) (n : ℕ)

theorem rowV_congr {x6 x6' : Vec Ideal S24x16x3584 .bf16} {x7 x7' : Vec Ideal S24x4x1 .f32} {x8 x8' : Vec Ideal S24x4x1 .f32} {x11 x11' x12 x12' : Vec Ideal S1x512 .f32}
    {x13 x13' x14 x14' : Vec Ideal S24x1x512 .f32} {xq xq' : Vec Ideal S96x3584 .bf16} {wg wg' wu wu' : Vec Ideal S3584x512 .i8} {Xg Xg' Xu Xu' : Vec Ideal S1x112x512 .i32} (t : Fin 24)
    (h6 : x6 = x6') (h7 : x7 = x7') (h8 : x8 = x8') (h11 : x11 = x11') (h12 : x12 = x12') (h13 : x13 = x13') (h14 : x14 = x14') (hxq : xq = xq') (hwg : wg = wg') (hwu : wu = wu')
    (hXg : Xg = Xg') (hXu : Xu = Xu') :
    rowV x6 x7 x8 x11 x12 x13 x14 (baseRow (base xq wg) t) (baseRow (base xq wu) t) Xg Xu t
      = rowV x6' x7' x8' x11' x12' x13' x14' (baseRow (base xq' wg') t) (baseRow (base xq' wu') t) Xg' Xu' t := by
  subst h6 h7 h8 h11 h12 h13 h14 hxq hwg hwu hXg hXu
  rfl

/-- The rows of a grid point's `k`th step. -/
theorem rows_eq (hT : ∀ (i : grid0.Coords) (k : Fin 5), (a.1 2 : Vec Ideal S25 .i32) (slotIx i k) = BitVec.ofNat 32 (tenOf ord n i k).val)
    (c : Dev nD) (Q : Fin 24 → Fin 4 → Fin 3584 → ℝ) (hC : Codes (W c main_v26) (W c main_v11) Q) (t : Fin (cfg0 a).N) (k : Fin 5) (r : Fin 4) (y : Fin 512) :
    rowsAt a W ord n c t k (ix3 (0 : Fin 1) r y)
      = rowSpec (W c main_v15) (W c main_arg1) (W c main_arg3) (W c main_arg5) (W c main_v49) (W c main_v50) (W c main_v51) (W c main_v52) (W c main_arg7) (W c main_arg8) Q
          (tenOf ord n (grid0.coords t) k) r (colOf (tileOf t) y) := by
  have hg : (![blkv a W c 10 t, blkv a W c 11 t, blkv a W c 12 t, blkv a W c 13 t, blkv a W c 14 t] : Fin 5 → Vec Ideal S1x112x512 .i32) k
      = fun y : S1x112x512.Idx => (W c main_arg7 : Vec Ideal S24x112x18944 .i32) (ix3 (tenOf ord n (grid0.coords t) k) (y (1 : Fin 3)) (colOf (tileOf t) (y (2 : Fin 3)))) := by
    fin_cases k
    · exact blkrd10 a c t _ _ (hT _ 0)
    · exact blkrd11 a c t _ _ (hT _ 1)
    · exact blkrd12 a c t _ _ (hT _ 2)
    · exact blkrd13 a c t _ _ (hT _ 3)
    · exact blkrd14 a c t _ _ (hT _ 4)
  have hu : (![blkv a W c 15 t, blkv a W c 16 t, blkv a W c 17 t, blkv a W c 18 t, blkv a W c 19 t] : Fin 5 → Vec Ideal S1x112x512 .i32) k
      = fun y : S1x112x512.Idx => (W c main_arg8 : Vec Ideal S24x112x18944 .i32) (ix3 (tenOf ord n (grid0.coords t) k) (y (1 : Fin 3)) (colOf (tileOf t) (y (2 : Fin 3)))) := by
    fin_cases k
    · exact blkrd15 a c t _ _ (hT _ 0)
    · exact blkrd16 a c t _ _ (hT _ 1)
    · exact blkrd17 a c t _ _ (hT _ 2)
    · exact blkrd18 a c t _ _ (hT _ 3)
    · exact blkrd19 a c t _ _ (hT _ 4)
  unfold rowsAt
  refine (congrFun (rowV_congr (tenOf ord n (grid0.coords t) k) (blkrd1 a c t _) (blkrd2 a c t _) (blkrd3 a c t _) (blkrd6 a c t _) (blkrd7 a c t _) (blkrd8 a c t _) (blkrd9 a c t _)
    (blkrd0 a c t _) (blkrd4 a c t _) (blkrd5 a c t _) hg hu) (ix3 (0 : Fin 1) r y)).trans ?_
  refine (rowV_apply _ _ _ _ _ _ _ _ _ _ _ _ Q hC r y).trans ?_
  rw [baseRow_apply, baseRow_apply]
  rfl

end Cert.GateUpIdeal.Gen

end
-- ==== Proof.GateUpIdealPrep.lean ====
/-
  What the host prepares for the call besides the tables: the codes as the base product takes them, the codes as the
  sign product takes them with their powers of two, the codes' sums, and the scales laid out for their windows.
-/
module

public import proofs.«01_k».proof.Proof.GateUpIdealRow
public import proofs.«01_k».proof.Proof.GateUpIdealHost
public import Idealize.ShloMosaic.Lib.IdealHost
public import Idealize.ShloMosaic.Lib.KernelVsHost
public import Idealize.ShloMosaic.Lib.ValueIdxRank6

@[expose] public section

set_option maxRecDepth 16384

noncomputable section

namespace Cert.GateUpIdeal.Gen

open Idealize.ShloMosaic hiding ix1 ix2 ix3 ix4 ix5 ix6
open Idealize.ShloMosaic.TcCoe Idealize.ShloMosaic.Tactic
open Idealize.ShloMosaic.ValueIdx

/-! ## The values, from the codes -/

/-- The codes row by row. -/
def prepRows (q : IVec S24x4x3584 8) : FVec Ideal S96x3584 .bf16 :=
  truncf .bf16 (sitofp .f32 (extsi 32 (shapeCast S96x3584 q shapeCasts_S24x4x3584_S96x3584) natLt_8_32)) bitsLt_bf16_f32
/-- The powers of two. -/
def prepPow : FVec Ideal S8 .bf16 := fun i => FloatOps.ofBits .bf16 (lit0 (S8.rowMajor i))
/-- The codes laid out by bit, scaled. -/
def prepBits (q : IVec S24x4x3584 8) : FVec Ideal S24x4x14x8x8x4 .bf16 :=
  mulf (truncf .bf16 (sitofp .f32 (extsi 32 (transpose S24x4x14x8x8x4 [0, 1, 2, 5, 3, 4] (shapeCast S24x4x14x8x4x8 q shapeCasts_S24x4x3584_S24x4x14x8x4x8) transposes_S24x4x14x8x4x8_S24x4x14x8x8x4_0_1_2_5_3_4) natLt_8_32)) bitsLt_bf16_f32)
    (broadcastInDim S24x4x14x8x8x4 ![0, 1, 2, 3, 4, 5] bcast_S1x1x1x8x1x1_S24x4x14x8x8x4_0_1_2_3_4_5 (broadcastInDim S1x1x1x8x1x1 ![3, 4, 5] bcast_S8x1x1_S1x1x1x8x1x1_3_4_5 (broadcastInDim S8x1x1 ![0] bcast_S8_S8x1x1_0 prepPow)))
/-- The codes as the sign product takes them. -/
def prepX (q : IVec S24x4x3584 8) : FVec Ideal S24x16x3584 .bf16 :=
  pad S24x16x3584 ![0, 0, 0] ![0, 12, 0] ![0, 0, 0] (shapeCast S24x4x3584 (prepBits q) shapeCasts_S24x4x14x8x8x4_S24x4x3584) (sitofp .bf16 (constantI S_ 32 0#32)) pads_S24x4x3584_S24x16x3584_000_0120_000 h_S_
/-- The codes' sums. -/
def prepSum (q : IVec S24x4x3584 8) : FVec Ideal S24x4x1 .f32 :=
  broadcastInDim S24x4x1 ![0, 1] bcast_S24x4_S24x4x1_0_1 (Host.reduceAdd (sitofp .f32 (extsi 32 q natLt_8_32)) (constant S_ .f32 0x00000000#32) reducesTo_S24x4x3584_S24x4_d2 h_S_)

theorem prepRows_apply (q : IVec S24x4x3584 8) (t : Fin 24) (r : Fin 4) (k : Fin 3584) :
    prepRows q (ix2 (⟨4 * t.val + r.val, by omega⟩ : Fin 96) k) = (((q (ix3 t r k)).toInt : ℝ) : EReal) := by
  have e : shapeCast S96x3584 q shapeCasts_S24x4x3584_S96x3584 (ix2 (⟨4 * t.val + r.val, by omega⟩ : Fin 96) k) = q (ix3 t r k) := by
    refine shapeCast_apply q _ _ _ ?_
    rw [Shape.rowMajor_val_three, Shape.rowMajor_val_two]
    show (t.val * 4 + r.val) * 3584 + k.val = (4 * t.val + r.val) * 3584 + k.val
    omega
  refine (congrArg (fun v : BitVec 8 => (((BitVec.signExtend 32 v).toInt : ℝ) : EReal)) e).trans ?_
  rw [code_float]

theorem prepPow_apply (j : Fin 8) : prepPow (ix1 j) = (((2 : ℝ) ^ (1 - bitExp j) : ℝ) : EReal) := by
  have e : S8.rowMajor (ix1 j) = j := Fin.ext (Shape.rowMajor_val_one _)
  refine (congrArg (fun i : Fin 8 => Ideal.ofBits .bf16 (lit0 i)) e).trans ?_
  fin_cases j <;> (simp [lit0, Ideal.ofBits, Ideal.ieee, bitExp, -EReal.coe_mul, -EReal.coe_pow]; try norm_num)

theorem prepBits_apply (q : IVec S24x4x3584 8) (t : Fin 24) (r : Fin 4) (g : Fin 14) (j : Fin 8) (s : Fin 8) (b : Fin 4) :
    prepBits q (ix6 t r g j s b) = (((q (ix3 t r (⟨256 * g.val + 32 * s.val + 8 * b.val + j.val, by omega⟩ : Fin 3584))).toInt * (2 : ℝ) ^ (1 - bitExp j) : ℝ) : EReal) := by
  have e1 : transpose S24x4x14x8x8x4 [0, 1, 2, 5, 3, 4] (shapeCast S24x4x14x8x4x8 q shapeCasts_S24x4x3584_S24x4x14x8x4x8) transposes_S24x4x14x8x4x8_S24x4x14x8x8x4_0_1_2_5_3_4 (ix6 t r g j s b)
      = q (ix3 t r (⟨256 * g.val + 32 * s.val + 8 * b.val + j.val, by omega⟩ : Fin 3584)) := by
    refine (transpose_apply _ _ _ _ (ix6 t r g s b j) ?_).trans (shapeCast_apply q _ _ _ ?_)
    · intro a
      match a with | ⟨0, _⟩ => rfl | ⟨1, _⟩ => rfl | ⟨2, _⟩ => rfl | ⟨3, _⟩ => rfl | ⟨4, _⟩ => rfl | ⟨5, _⟩ => rfl
    · rw [Shape.rowMajor_val_three, Shape.rowMajor_val_six]
      show (t.val * 4 + r.val) * 3584 + (256 * g.val + 32 * s.val + 8 * b.val + j.val) = ((((t.val * 4 + r.val) * 14 + g.val) * 8 + s.val) * 4 + b.val) * 8 + j.val
      omega
  have e2 : broadcastInDim S24x4x14x8x8x4 ![0, 1, 2, 3, 4, 5] bcast_S1x1x1x8x1x1_S24x4x14x8x8x4_0_1_2_3_4_5 (broadcastInDim S1x1x1x8x1x1 ![3, 4, 5] bcast_S8x1x1_S1x1x1x8x1x1_3_4_5 (broadcastInDim S8x1x1 ![0] bcast_S8_S8x1x1_0 prepPow)) (ix6 t r g j s b)
      = (((2 : ℝ) ^ (1 - bitExp j) : ℝ) : EReal) := by
    refine ((broadcastInDim_apply _ _ _ _ (ix6 (0 : Fin 1) (0 : Fin 1) (0 : Fin 1) j (0 : Fin 1) (0 : Fin 1)) (fun a => ?_)).trans
      ((broadcastInDim_apply _ _ _ _ (ix3 j (0 : Fin 1) (0 : Fin 1)) (fun a => ?_)).trans (broadcastInDim_apply _ _ _ _ (ix1 j) (fun a => ?_)))).trans (prepPow_apply j)
    · fin_cases a <;> rfl
    · fin_cases a <;> rfl
    · fin_cases a; rfl
  refine (congrArg₂ (fun (v : BitVec 8) (p : EReal) => (((BitVec.signExtend 32 v).toInt : ℝ) : EReal) * p) e1 e2).trans ?_
  rw [code_float, ← EReal.coe_mul]

theorem prep_codes (q : IVec S24x4x3584 8) : Codes (prepX q) (prepSum q) (fun t r d => ((q (ix3 t r d)).toInt : ℝ)) where
  hq t r g c := by
    have ej : c.val % 8 < 8 := Nat.mod_lt _ (by decide)
    have es : c.val / 32 < 8 := by omega
    have eb : c.val % 32 / 8 < 4 := by omega
    refine (pad_apply_of_inside _ _ _ _ _ _ _ _ (ix3 t r (⟨256 * g.val + (pos c).val, by omega⟩ : Fin 3584)) ?_).trans
      ((shapeCast_apply (prepBits q) _ _ (ix6 t r g (⟨c.val % 8, ej⟩ : Fin 8) (⟨c.val / 32, es⟩ : Fin 8) (⟨c.val % 32 / 8, eb⟩ : Fin 4)) ?_).trans ((prepBits_apply q t r g _ _ _).trans ?_))
    · intro a
      revert a
      show ∀ a : Fin 3, _
      intro a
      fin_cases a
      · show t.val = 0 + t.val * (0 + 1); omega
      · show r.val = 0 + r.val * (0 + 1); omega
      · show 256 * g.val + (pos c).val = 0 + (256 * g.val + (pos c).val) * (0 + 1); omega
    · rw [Shape.rowMajor_val_three, Shape.rowMajor_val_six]
      show ((((t.val * 4 + r.val) * 14 + g.val) * 8 + c.val % 8) * 8 + c.val / 32) * 4 + c.val % 32 / 8 = (t.val * 4 + r.val) * 3584 + (256 * g.val + (c.val % 8 * 32 + (4 * (c.val / 32) + c.val % 32 / 8)))
      omega
    · have e : (⟨256 * g.val + 32 * (c.val / 32) + 8 * (c.val % 32 / 8) + c.val % 8, by omega⟩ : Fin 3584) = ⟨256 * g.val + c.val, by omega⟩ := Fin.ext (by show 256 * g.val + 32 * (c.val / 32) + 8 * (c.val % 32 / 8) + c.val % 8 = 256 * g.val + c.val; omega)
      exact congrArg (fun d : Fin 3584 => (((q (ix3 t r d)).toInt * (2 : ℝ) ^ (1 - bitExp ⟨c.val % 8, ej⟩) : ℝ) : EReal)) e
  hs t r := by
    refine (broadcastInDim_apply _ _ _ (ix3 t r (0 : Fin 1)) (ix2 t r) (fun a => by fin_cases a <;> rfl)).trans ?_
    refine (Ideal.hostReduceAdd_r3_a2 reducesTo_S24x4x3584_S24x4_d2 _ _ (ix2 t r)).trans ?_
    refine ((congrArg (· + _) Ideal.ofBits_zero_f32).trans (zero_add _)).trans ?_
    rw [coe_sum]
    refine Finset.sum_congr rfl fun k _ => ?_
    show (((BitVec.signExtend 32 (q (ix3 t r k))).toInt : ℝ) : EReal) = _
    rw [code_float]

theorem lay1 (w : FVec Ideal S18944 .f32) (x : Fin 18944) : broadcastInDim S1x18944 ![1] bcast_S18944_S1x18944_1 w (ix2 (0 : Fin 1) x) = w (ix1 x) :=
  broadcastInDim_apply _ _ _ _ (ix1 x) (fun a => by fin_cases a; rfl)
theorem lay2 (w : FVec Ideal S24x18944 .f32) (t : Fin 24) (x : Fin 18944) : broadcastInDim S24x1x18944 ![0, 2] bcast_S24x18944_S24x1x18944_0_2 w (ix3 t (0 : Fin 1) x) = w (ix2 t x) :=
  broadcastInDim_apply _ _ _ _ (ix2 t x) (fun a => by fin_cases a <;> rfl)

/-! ## The values, as the program leaves them -/

variable (m : (ℓ : Loc nD τ sig) → Buf (Elt Ideal) ℓ) (c : Dev nD)

theorem V_rows : V m c main_v15 = prepRows (m ((c : Thread nD τ).loc main_arg0)) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append, StableHlo.after_cons, StableHlo.after_nil]
  after_results_simp
  rfl

theorem V_sum : V m c main_v11 = prepSum (m ((c : Thread nD τ).loc main_arg0)) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append, StableHlo.after_cons, StableHlo.after_nil]
  after_results_simp
  rfl

theorem V_x : V m c main_v26 = prepX (m ((c : Thread nD τ).loc main_arg0)) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append, StableHlo.after_cons, StableHlo.after_nil]
  after_results_simp
  simp -implicitDefEqProofs only [StableHlo.TRef.toBuf, StableHlo.TRef.ofBuf, cast_cast, cast_eq, id]
  rfl

theorem V_v49 : V m c main_v49 = broadcastInDim S1x18944 ![1] bcast_S18944_S1x18944_1 (m ((c : Thread nD τ).loc main_arg4)) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append, StableHlo.after_cons, StableHlo.after_nil]
  after_results_simp

theorem V_v50 : V m c main_v50 = broadcastInDim S1x18944 ![1] bcast_S18944_S1x18944_1 (m ((c : Thread nD τ).loc main_arg6)) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append, StableHlo.after_cons, StableHlo.after_nil]
  after_results_simp

theorem V_v51 : V m c main_v51 = broadcastInDim S24x1x18944 ![0, 2] bcast_S24x18944_S24x1x18944_0_2 (m ((c : Thread nD τ).loc main_arg9)) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append, StableHlo.after_cons, StableHlo.after_nil]
  after_results_simp

theorem V_v52 : V m c main_v52 = broadcastInDim S24x1x18944 ![0, 2] bcast_S24x18944_S24x1x18944_0_2 (m ((c : Thread nD τ).loc main_arg10)) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append, StableHlo.after_cons, StableHlo.after_nil]
  after_results_simp

end Cert.GateUpIdeal.Gen
-- ==== Proof.GateUpIdealRefAt.lean ====
/-
  The reference's result element by element, in the same parts as the kernel's rows: the scaled sum of the base product
  and the signed sum, for both projections, the gate times its logistic times the up projection, and zero for an
  inactive tenant.
-/
module

public import proofs.«01_k».proof.Proof.GateUpIdealRow
public import proofs.«01_k».proof.Proof.Gen.GateUpRefIdeal.Run
public import Idealize.ShloMosaic.Lib.IdealHost

@[expose] public section

set_option maxRecDepth 16384

noncomputable section

namespace Cert.GateUpRefIdeal.Value

open Cert.GateUpRefIdeal Cert.GateUpRefIdeal.Gen
open Idealize.ShloMosaic hiding ix1 ix2 ix3 ix4
open Idealize.ShloMosaic.TcCoe
open Idealize.ShloMosaic.ValueIdx
open Cert.GateUpIdeal.Gen (projS hidS signed coe_sum code_float)

/-- The codes as the reference's products take them. -/
def codesV (q : IVec S24x4x3584 8) : FVec Ideal S24x4x3584 .bf16 := truncf .bf16 (sitofp .f32 (extsi 32 q natLt_8_32)) bitsLt_bf16_f32
/-- The weights as the reference's product takes them. -/
def weightsV (w : IVec S3584x18944 8) : FVec Ideal S3584x18944 .bf16 := truncf .bf16 (sitofp .f32 (extsi 32 w natLt_8_32)) bitsLt_bf16_f32
/-- The signs before they are laid out by column. -/
def signs4 (s : IVec S24x112x18944 32) : FVec Ideal S24x112x32x18944 .bf16 :=
  truncf .bf16 (select (cmpi .eq (andi (Host.shrui (broadcastInDim S24x112x32x18944 ![0, 1, 2, 3] bcast_S24x112x1x18944_S24x112x32x18944_0_1_2_3 (broadcastInDim S24x112x1x18944 ![0, 1, 3] bcast_S24x112x18944_S24x112x1x18944_0_1_3 s)) (broadcastInDim S24x112x32x18944 ![0, 1, 2, 3] bcast_S1x1x32x1_S24x112x32x18944_0_1_2_3 (broadcastInDim S1x1x32x1 ![2] bcast_S32_S1x1x32x1_2 (iotaInDim S32 32 0)))) (broadcastInDim S24x112x32x18944 ![] bcast_S_S24x112x32x18944 (constantI S_ 32 1#32))) (broadcastInDim S24x112x32x18944 ![] bcast_S_S24x112x32x18944 (constantI S_ 32 1#32))) (broadcastInDim S24x112x32x18944 ![] bcast_S_S24x112x32x18944 (constant S_ .f32 0x3F800000#32)) (broadcastInDim S24x112x32x18944 ![] bcast_S_S24x112x32x18944 (constant S_ .f32 0xBF800000#32))) bitsLt_bf16_f32
/-- The signs by column. -/
def signsV (s : IVec S24x112x18944 32) : FVec Ideal S24x3584x18944 .bf16 := shapeCast _ (signs4 s) shapeCasts_S24x112x32x18944_S24x3584x18944

/-- One projection of the reference. -/
def projV (q : IVec S24x4x3584 8) (sc : FVec Ideal S24x4x1 .f32) (w : IVec S3584x18944 8) (ws : FVec Ideal S18944 .f32) (al : FVec Ideal S24x18944 .f32) (s : IVec S24x112x18944 32) :
    FVec Ideal S24x4x18944 .f32 :=
  mulf (broadcastInDim S24x4x18944 ![0, 1, 2] bcast_S24x4x1_S24x4x18944_0_1_2 sc) (addf (mulf (Host.dotGeneral dot_S24x4x3584_S3584x18944_S24x4x18944_2_0_01_1_n_n none (codesV q) (weightsV w)) (broadcastInDim S24x4x18944 ![0, 1, 2] bcast_S1x1x18944_S24x4x18944_0_1_2 (broadcastInDim S1x1x18944 ![2] bcast_S18944_S1x1x18944_2 ws))) (mulf (broadcastInDim S24x4x18944 ![0, 1, 2] bcast_S24x1x18944_S24x4x18944_0_1_2 (broadcastInDim S24x1x18944 ![0, 2] bcast_S24x18944_S24x1x18944_0_2 al)) (Host.dotGeneral dot_S24x4x3584_S24x3584x18944_S24x4x18944_2_1_1_2_0_0 none (codesV q) (signsV s))))

/-- The reference's hidden values. -/
def hidV (x : IVec S24 32) (g u : FVec Ideal S24x4x18944 .f32) : FVec Ideal S24x4x18944 .f32 :=
  select (broadcastInDim S24x4x18944 ![0, 1, 2] bcast_S24x1x1_S24x4x18944_0_1_2 (broadcastInDim S24x1x1 ![0] bcast_S24_S24x1x1_0 (cmpi .sgt x (broadcastInDim S24 ![] bcast_S_S24 (constantI S_ 32 0#32)))))
    (mulf (mulf g (Host.divf (broadcastInDim S24x4x18944 ![] bcast_S_S24x4x18944 (constant S_ .f32 0x3F800000#32)) (addf (broadcastInDim S24x4x18944 ![] bcast_S_S24x4x18944 (constant S_ .f32 0x3F800000#32)) (Host.exp (Host.negf g))))) u)
    (broadcastInDim S24x4x18944 ![] bcast_S_S24x4x18944 (constant S_ .f32 0x00000000#32))

set_option maxHeartbeats 1000000 in
theorem res_eq (m : (ℓ : Loc nD τ sig) → Buf (Elt Ideal) ℓ) (c : Dev nD) :
    res_main_v68 m c = hidV (m ((c.tc : Thread nD τ).loc main_arg2))
      (projV (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg9)) (m ((c.tc : Thread nD τ).loc main_arg7)))
      (projV (m ((c.tc : Thread nD τ).loc main_arg0)) (m ((c.tc : Thread nD τ).loc main_arg1)) (m ((c.tc : Thread nD τ).loc main_arg5)) (m ((c.tc : Thread nD τ).loc main_arg6)) (m ((c.tc : Thread nD τ).loc main_arg10)) (m ((c.tc : Thread nD τ).loc main_arg8))) := by
  unfold res_main_v68 hidV projV codesV weightsV signsV signs4
  rfl

theorem codesV_apply (q : IVec S24x4x3584 8) (i : S24x4x3584.Idx) : codesV q i = (((q i).toInt : ℝ) : EReal) := by
  show (((BitVec.signExtend 32 (q i)).toInt : ℝ) : EReal) = _
  rw [code_float]
theorem weightsV_apply (w : IVec S3584x18944 8) (i : S3584x18944.Idx) : weightsV w i = (((w i).toInt : ℝ) : EReal) := by
  show (((BitVec.signExtend 32 (w i)).toInt : ℝ) : EReal) = _
  rw [code_float]

theorem bit_test (v : BitVec 32) (b : Fin 32) : IntOp.cmpi .eq (IntOp.andi (IntOp.shrui .host v (BitVec.ofNat 32 b.val)) 1#32) 1#32 = BitVec.ofBool (v.getLsbD b.val) := by
  have hb : (BitVec.ofNat 32 b.val).toNat = b.val := by rw [BitVec.toNat_ofNat]; omega
  unfold IntOp.cmpi IntOp.andi IntOp.shrui
  rw [if_pos (by rw [hb]; exact b.isLt)]
  show BitVec.ofBool (_ == _) = _
  congr 1
  rw [BitVec.ushiftRight_eq', hb, BitVec.and_one_eq_setWidth_ofBool_getLsbD, BitVec.getLsbD_ushiftRight, Nat.add_zero]
  cases v.getLsbD b.val <;> decide

theorem signs4_apply (s : IVec S24x112x18944 32) (t : Fin 24) (k : Fin 112) (b : Fin 32) (x : Fin 18944) :
    signs4 s (ix4 t k b x) = ((if (s (ix3 t k x)).getLsbD b.val then (1 : ℝ) else -1 : ℝ) : EReal) := by
  have e1 : (broadcastInDim S24x112x32x18944 ![0, 1, 2, 3] bcast_S24x112x1x18944_S24x112x32x18944_0_1_2_3 (broadcastInDim S24x112x1x18944 ![0, 1, 3] bcast_S24x112x18944_S24x112x1x18944_0_1_3 s)) (ix4 t k b x) = s (ix3 t k x) := by
    refine (broadcastInDim_apply _ _ _ _ (ix4 t k (0 : Fin 1) x) (fun a => ?_)).trans (broadcastInDim_apply _ _ _ _ (ix3 t k x) (fun a => ?_))
    · fin_cases a <;> rfl
    · fin_cases a <;> rfl
  have e2 : (broadcastInDim S24x112x32x18944 ![0, 1, 2, 3] bcast_S1x1x32x1_S24x112x32x18944_0_1_2_3 (broadcastInDim S1x1x32x1 ![2] bcast_S32_S1x1x32x1_2 (iotaInDim S32 32 0))) (ix4 t k b x) = BitVec.ofNat 32 b.val := by
    refine (broadcastInDim_apply _ _ _ _ (ix4 (0 : Fin 1) (0 : Fin 1) b (0 : Fin 1)) (fun a => ?_)).trans (broadcastInDim_apply _ _ _ _ (ix1 b) (fun a => ?_))
    · fin_cases a <;> rfl
    · fin_cases a <;> rfl
  have e3 : cmpi .eq (andi (Host.shrui (broadcastInDim S24x112x32x18944 ![0, 1, 2, 3] bcast_S24x112x1x18944_S24x112x32x18944_0_1_2_3 (broadcastInDim S24x112x1x18944 ![0, 1, 3] bcast_S24x112x18944_S24x112x1x18944_0_1_3 s)) (broadcastInDim S24x112x32x18944 ![0, 1, 2, 3] bcast_S1x1x32x1_S24x112x32x18944_0_1_2_3 (broadcastInDim S1x1x32x1 ![2] bcast_S32_S1x1x32x1_2 (iotaInDim S32 32 0)))) (broadcastInDim S24x112x32x18944 ![] bcast_S_S24x112x32x18944 (constantI S_ 32 1#32))) (broadcastInDim S24x112x32x18944 ![] bcast_S_S24x112x32x18944 (constantI S_ 32 1#32)) (ix4 t k b x)
      = BitVec.ofBool ((s (ix3 t k x)).getLsbD b.val) :=
    (congrArg₂ (fun u v : BitVec 32 => IntOp.cmpi .eq (IntOp.andi (IntOp.shrui .host u v) 1#32) 1#32) e1 e2).trans (bit_test _ b)
  unfold signs4
  refine (congrArg (fun v : BitVec 1 => if v = 1#1 then Ideal.ofBits .f32 0x3F800000#32 else Ideal.ofBits .f32 0xBF800000#32) e3).trans ?_
  cases (s (ix3 t k x)).getLsbD b.val
  · show Ideal.ofBits .f32 0xBF800000#32 = ((-1 : ℝ) : EReal)
    simp [Ideal.ofBits, Ideal.ieee, -EReal.coe_mul, -EReal.coe_neg]; norm_num
  · show Ideal.ofBits .f32 0x3F800000#32 = ((1 : ℝ) : EReal)
    rw [Ideal.ofBits_one_f32]; rfl

theorem signsV_apply (s : IVec S24x112x18944 32) (t : Fin 24) (d : Fin 3584) (x : Fin 18944) :
    signsV s (ix3 t d x) = ((if (s (ix3 t (⟨d.val / 32, by omega⟩ : Fin 112) x)).getLsbD (d.val % 32) then (1 : ℝ) else -1 : ℝ) : EReal) := by
  refine (shapeCast_apply (signs4 s) shapeCasts_S24x112x32x18944_S24x3584x18944 (ix3 t d x) (ix4 t (⟨d.val / 32, by omega⟩ : Fin 112) (⟨d.val % 32, by omega⟩ : Fin 32) x) ?_).trans (signs4_apply s t _ _ x)
  rw [Shape.rowMajor_val_three, Shape.rowMajor_val_four]
  show ((t.val * 112 + d.val / 32) * 32 + d.val % 32) * 18944 + x.val = (t.val * 3584 + d.val) * 18944 + x.val
  have : (t.val * 112 + d.val / 32) * 32 + d.val % 32 = t.val * 3584 + d.val := by omega
  rw [this]

theorem base_dot (l : FVec Ideal S24x4x3584 .bf16) (w : FVec Ideal S3584x18944 .bf16) (t : Fin 24) (r : Fin 4) (x : Fin 18944) :
    (Host.dotGeneral dot_S24x4x3584_S3584x18944_S24x4x18944_2_0_01_1_n_n none l w : FVec Ideal S24x4x18944 .f32) (ix3 t r x) = ∑ k : Fin 3584, (l (ix3 t r k) * w (ix2 k x) : EReal) := by
  refine (Ideal.matmul_apply₁_of dot_S24x4x3584_S3584x18944_S24x4x18944_2_0_01_1_n_n (a := 2) rfl (K := 3584) rfl l w (fun _ => 0) (ix3 t r x) (fun k => ix3 t r k) (fun k => ix2 k x) ?_ ?_).trans (zero_add _)
  · intro k; funext a; fin_cases a <;> rfl
  · intro k; funext a; fin_cases a <;> rfl

theorem sign_dot (l : FVec Ideal S24x4x3584 .bf16) (w : FVec Ideal S24x3584x18944 .bf16) (t : Fin 24) (r : Fin 4) (x : Fin 18944) :
    (Host.dotGeneral dot_S24x4x3584_S24x3584x18944_S24x4x18944_2_1_1_2_0_0 none l w : FVec Ideal S24x4x18944 .f32) (ix3 t r x) = ∑ k : Fin 3584, (l (ix3 t r k) * w (ix3 t k x) : EReal) := by
  refine (Ideal.matmul_apply₁_of dot_S24x4x3584_S24x3584x18944_S24x4x18944_2_1_1_2_0_0 (a := 2) rfl (K := 3584) rfl l w (fun _ => 0) (ix3 t r x) (fun k => ix3 t r k) (fun k => ix3 t k x) ?_ ?_).trans (zero_add _)
  · intro k; funext a; fin_cases a <;> rfl
  · intro k; funext a; fin_cases a <;> rfl

theorem signed_eq (q : IVec S24x4x3584 8) (s : IVec S24x112x18944 32) (t : Fin 24) (r : Fin 4) (x : Fin 18944) :
    ∑ k : Fin 3584, (codesV q (ix3 t r k) * signsV s (ix3 t k x) : EReal)
      = signed (fun d => ((q (ix3 t r d)).toInt : ℝ)) (fun k => s (ix3 t k x)) := by
  unfold signed
  rw [coe_sum]
  refine Finset.sum_congr rfl fun d _ => ?_
  rw [codesV_apply, signsV_apply, ← EReal.coe_mul]
  congr 1
  split <;> ring

theorem projV_apply (q : IVec S24x4x3584 8) (sc : FVec Ideal S24x4x1 .f32) (w : IVec S3584x18944 8) (ws : FVec Ideal S18944 .f32) (al : FVec Ideal S24x18944 .f32) (s : IVec S24x112x18944 32)
    (t : Fin 24) (r : Fin 4) (x : Fin 18944) :
    projV q sc w ws al s (ix3 t r x) = projS (sc (ix3 t r (0 : Fin 1))) (∑ k : Fin 3584, ((((q (ix3 t r k)).toInt : ℝ) : EReal) * (((w (ix2 k x)).toInt : ℝ) : EReal) : EReal))
      (ws (ix1 x)) (al (ix2 t x)) (signed (fun d => ((q (ix3 t r d)).toInt : ℝ)) (fun k => s (ix3 t k x))) := by
  have e1 : (broadcastInDim S24x4x18944 ![0, 1, 2] bcast_S24x4x1_S24x4x18944_0_1_2 sc) (ix3 t r x) = sc (ix3 t r (0 : Fin 1)) :=
    broadcastInDim_apply _ _ _ _ _ (fun a => by fin_cases a <;> rfl)
  have e2 : (broadcastInDim S24x4x18944 ![0, 1, 2] bcast_S1x1x18944_S24x4x18944_0_1_2 (broadcastInDim S1x1x18944 ![2] bcast_S18944_S1x1x18944_2 ws)) (ix3 t r x) = ws (ix1 x) :=
    (broadcastInDim_apply _ _ _ _ (ix3 (0 : Fin 1) (0 : Fin 1) x) (fun a => by fin_cases a <;> rfl)).trans (broadcastInDim_apply _ _ _ _ (ix1 x) (fun a => by fin_cases a <;> rfl))
  have e3 : (broadcastInDim S24x4x18944 ![0, 1, 2] bcast_S24x1x18944_S24x4x18944_0_1_2 (broadcastInDim S24x1x18944 ![0, 2] bcast_S24x18944_S24x1x18944_0_2 al)) (ix3 t r x) = al (ix2 t x) :=
    (broadcastInDim_apply _ _ _ _ (ix3 t (0 : Fin 1) x) (fun a => by fin_cases a <;> rfl)).trans (broadcastInDim_apply _ _ _ _ (ix2 t x) (fun a => by fin_cases a <;> rfl))
  have e4 := base_dot (codesV q) (weightsV w) t r x
  have e5 := (sign_dot (codesV q) (signsV s) t r x).trans (signed_eq q s t r x)
  simp only [codesV_apply, weightsV_apply] at e4
  unfold projV projS
  rw [← e1, ← e2, ← e3, ← e4, ← e5]
  rfl

theorem hidV_apply (x : IVec S24 32) (g u : FVec Ideal S24x4x18944 .f32) (t : Fin 24) (r : Fin 4) (y : Fin 18944) :
    hidV x g u (ix3 t r y) = if IntOp.cmpi .sgt (x (ix1 t)) 0#32 = 1#1 then hidS (g (ix3 t r y)) (u (ix3 t r y)) else 0 := by
  have e1 : (broadcastInDim S24x4x18944 ![0, 1, 2] bcast_S24x1x1_S24x4x18944_0_1_2 (broadcastInDim S24x1x1 ![0] bcast_S24_S24x1x1_0 (cmpi .sgt x (broadcastInDim S24 ![] bcast_S_S24 (constantI S_ 32 0#32))))) (ix3 t r y)
      = IntOp.cmpi .sgt (x (ix1 t)) 0#32 :=
    (broadcastInDim_apply _ _ _ _ (ix3 t (0 : Fin 1) (0 : Fin 1)) (fun a => by fin_cases a <;> rfl)).trans (broadcastInDim_apply _ _ _ _ (ix1 t) (fun a => by fin_cases a <;> rfl))
  unfold hidV
  refine (congrArg (fun v : BitVec 1 => if v = 1#1 then (g (ix3 t r y) * Ideal.div (Ideal.ofBits .f32 0x3F800000#32) (Ideal.ofBits .f32 0x3F800000#32 + Ideal.exp (-(g (ix3 t r y)))) * u (ix3 t r y) : EReal) else Ideal.ofBits .f32 0x00000000#32) e1).trans ?_
  rw [Ideal.ofBits_one_f32, Ideal.ofBits_zero_f32]
  rfl

end Cert.GateUpRefIdeal.Value
-- ==== Proof.GateUpIdealAlg.lean ====
/-
  The call's result equals the reference's: what the relation allows of the output array is, element by element, the
  reference's term of the arguments.
-/
module

public import proofs.«01_k».proof.Defs
public import proofs.«01_k».proof.Proof.GateUpIdealOut
public import proofs.«01_k».proof.Proof.GateUpIdealActive
public import proofs.«01_k».proof.Proof.GateUpIdealPrep
public import proofs.«01_k».proof.Proof.GateUpIdealRefAt
public import proofs.«01_k».proof.Proof.GateUpIdealLaunched

@[expose] public section

set_option maxRecDepth 16384

noncomputable section

namespace Cert.GateUpIdeal.Gen

open Idealize.ShloMosaic hiding ix1 ix2 ix3 ix4 ix5 ix6
open Idealize.ShloMosaic.TcCoe Idealize.SL.Sem
open Idealize.ShloMosaic.ValueIdx
open Cert.GateUpRefIdeal.Value (projV hidV projV_apply hidV_apply res_eq)

section Generic
variable (a : (pcfg0 (F := Ideal)).Adm) (W : (c : Dev nD) → (b : Ref sig .tc) → Buf (Elt Ideal) ((c : Thread nD τ).loc b))
variable (ord : Fin 24 → Fin 24) (n : ℕ)

/-- The output array at an index, from the arrays the region reads. -/
theorem out_spec (hTab : Tab a.1 ord n) (hinj : Function.Injective ord) (pos : Fin 24 → Fin 24) (hpos : ∀ t, ord (pos t) = t) (c : Dev nD)
    (Q : Fin 24 → Fin 4 → Fin 3584 → ℝ) (hC : Codes (W c main_v26) (W c main_v11) Q) (G) (hG : (rdat a W ord n c).ArrAt 20 (cfg0 a).N G)
    (t : Fin 24) (r : Fin 4) (x : Fin 18944) :
    (G : Vec Ideal S24x4x18944 .f32) (ix3 t r x) = if (pos t).val < n then rowSpec (W c main_v15) (W c main_arg1) (W c main_arg3) (W c main_arg5) (W c main_v49) (W c main_v50) (W c main_v51) (W c main_v52) (W c main_arg7) (W c main_arg8) Q t r x else 0 := by
  have h := out_eq a W ord n (fun j t r y => rowSpec (W c main_v15) (W c main_arg1) (W c main_arg3) (W c main_arg5) (W c main_v49) (W c main_v50) (W c main_v51) (W c main_v52) (W c main_arg7) (W c main_arg8) Q t r (colOf j y)) (0 : EReal) c
    hTab.n_le hinj pos hpos (fun y => Ideal.ofBits_zero_f32) (rows_eq a W ord n (fun i k => hTab.h2 (slotIx i k)) c Q hC) G hG
  refine (congrFun h (ix3 t r x)).trans ?_
  unfold outVal
  have e : colOf (⟨x.val / 512, by omega⟩ : Fin 37) (⟨x.val % 512, by omega⟩ : Fin 512) = x := Fin.ext (by show x.val / 512 * 512 + x.val % 512 = x.val; omega)
  exact congrArg (fun x : Fin 18944 => if (pos t).val < n then rowSpec (W c main_v15) (W c main_arg1) (W c main_arg3) (W c main_arg5) (W c main_v49) (W c main_v50) (W c main_v51) (W c main_v52) (W c main_arg7) (W c main_arg8) Q t r x else (0 : EReal)) e

end Generic

/-- The rows over the host's values are the reference's projections. -/
theorem rowSpec_prep (q : IVec S24x4x3584 8) (sc : FVec Ideal S24x4x1 .f32) (wg wu : IVec S3584x18944 8) (ws1 ws2 : FVec Ideal S18944 .f32) (al1 al2 : FVec Ideal S24x18944 .f32) (sg su : IVec S24x112x18944 32)
    (t : Fin 24) (r : Fin 4) (x : Fin 18944) :
    rowSpec (prepRows q) sc wg wu (broadcastInDim S1x18944 ![1] bcast_S18944_S1x18944_1 ws1) (broadcastInDim S1x18944 ![1] bcast_S18944_S1x18944_1 ws2)
        (broadcastInDim S24x1x18944 ![0, 2] bcast_S24x18944_S24x1x18944_0_2 al1) (broadcastInDim S24x1x18944 ![0, 2] bcast_S24x18944_S24x1x18944_0_2 al2) sg su (fun t r d => ((q (ix3 t r d)).toInt : ℝ)) t r x
      = hidS (projV q sc wg ws1 al1 sg (ix3 t r x)) (projV q sc wu ws2 al2 su (ix3 t r x)) := by
  rw [projV_apply, projV_apply]
  unfold rowSpec
  simp only [prepRows_apply]
  rw [lay1, lay1, lay2, lay2]

variable (m : (ℓ : Loc nD τ sig) → Buf (Elt Ideal) ℓ) (c : Dev nD)

/-- The reference's result over the call's arguments. -/
def refOut : FVec Ideal S24x4x18944 .f32 :=
  hidV (m ((c : Thread nD τ).loc main_arg2))
    (projV (m ((c : Thread nD τ).loc main_arg0)) (m ((c : Thread nD τ).loc main_arg1)) (m ((c : Thread nD τ).loc main_arg3)) (m ((c : Thread nD τ).loc main_arg4)) (m ((c : Thread nD τ).loc main_arg9)) (m ((c : Thread nD τ).loc main_arg7)))
    (projV (m ((c : Thread nD τ).loc main_arg0)) (m ((c : Thread nD τ).loc main_arg1)) (m ((c : Thread nD τ).loc main_arg5)) (m ((c : Thread nD τ).loc main_arg6)) (m ((c : Thread nD τ).loc main_arg10)) (m ((c : Thread nD τ).loc main_arg8)))

theorem V_codes : Codes (V m c main_v26) (V m c main_v11) (fun t r d => (((m ((c : Thread nD τ).loc main_arg0) : IVec S24x4x3584 8) (ix3 t r d)).toInt : ℝ)) := by
  rw [V_x, V_sum]
  exact prep_codes _

theorem V_rowSpec (t : Fin 24) (r : Fin 4) (x : Fin 18944) :
    rowSpec (V m c main_v15) (V m c main_arg1) (V m c main_arg3) (V m c main_arg5) (V m c main_v49) (V m c main_v50) (V m c main_v51) (V m c main_v52) (V m c main_arg7) (V m c main_arg8)
        (fun t r d => (((m ((c : Thread nD τ).loc main_arg0) : IVec S24x4x3584 8) (ix3 t r d)).toInt : ℝ)) t r x
      = hidS (projV (m ((c : Thread nD τ).loc main_arg0)) (m ((c : Thread nD τ).loc main_arg1)) (m ((c : Thread nD τ).loc main_arg3)) (m ((c : Thread nD τ).loc main_arg4)) (m ((c : Thread nD τ).loc main_arg9)) (m ((c : Thread nD τ).loc main_arg7)) (ix3 t r x))
          (projV (m ((c : Thread nD τ).loc main_arg0)) (m ((c : Thread nD τ).loc main_arg1)) (m ((c : Thread nD τ).loc main_arg5)) (m ((c : Thread nD τ).loc main_arg6)) (m ((c : Thread nD τ).loc main_arg10)) (m ((c : Thread nD τ).loc main_arg8)) (ix3 t r x)) := by
  rw [V_rows, V_v49, V_v50, V_v51, V_v52, V_main_arg1, V_main_arg3, V_main_arg5, V_main_arg7, V_main_arg8]
  exact rowSpec_prep _ _ _ _ _ _ _ _ _ _ t r x

/-- Whatever the region leaves in the output array is the reference's result. -/
theorem out_ref (G) (hG : (rdat (adm m (ok_of_tab (tab m))) (V m) (ordOf (counts m)) (cntOf (counts m)) c).ArrAt 20 (cfg0 (adm m (ok_of_tab (tab m)))).N G) :
    (G : Vec Ideal S24x4x18944 .f32) = refOut m c := by
  obtain rfl : c = 0 := Subsingleton.elim _ _
  obtain ⟨pos, hpos⟩ : ∃ pos : Fin 24 → Fin 24, ∀ t, ordOf (counts m) (pos t) = t :=
    ⟨_, Function.rightInverse_surjInv (Finite.injective_iff_surjective.mp (ordOf_injective (counts m)))⟩
  suffices key : ∀ (t : Fin 24) (r : Fin 4) (x : Fin 18944), (G : Vec Ideal S24x4x18944 .f32) (ix3 t r x) = refOut m 0 (ix3 t r x) by
    refine funext fun j : S24x4x18944.Idx => ?_
    have ej : j = ix3 (j (0 : Fin 3)) (j (1 : Fin 3)) (j (2 : Fin 3)) := ValueIdx.eq_ix3 j
    exact (congrArg (G : Vec Ideal S24x4x18944 .f32) ej).trans ((key _ _ _).trans (congrArg (refOut m 0) ej.symm))
  intro t r x
  refine (out_spec _ (V m) _ _ (tab m) (ordOf_injective _) pos hpos 0 _ (V_codes m 0) G hG t r x).trans ?_
  refine Eq.trans ?_ (hidV_apply _ _ _ t r x).symm
  have hiff := active_iff (counts m) pos hpos t
  by_cases hact : actBit (counts m) (ix1 t) = 1#1
  · rw [if_pos (hiff.mpr hact), V_rowSpec]
    exact (if_pos hact).symm
  · rw [if_neg (fun h => hact (hiff.mp h))]
    exact (if_neg hact).symm

end Cert.GateUpIdeal.Gen

namespace Cert.Proof

open Idealize.ShloMosaic Idealize.ShloMosaic.TcCoe Idealize.SL.Sem

/-- The call over the reals and its reference leave the same result. -/
theorem algebraic_gateUp : Cert.algebraic_GateUpIdeal_GateUpRefIdeal (hGateUpIdeal := Cert.GateUpIdeal.Gen.facts) (hGateUpRefIdeal := Cert.GateUpRefIdeal.Gen.facts) := by
  intro m g m' g' _ hagree
  refine ⟨fun c => Cert.GateUpIdeal.Gen.refOut m c, ?_, ?_⟩
  · exact (θ_run Cert.GateUpIdeal.defs _ _).mono (fun r h c => ⟨Cert.GateUpIdeal.Gen.out_ref m c _ (h.1 c).2, (h.1 c).1⟩)
      (Cert.GateUpIdeal.Gen.launch _ _ m g (Cert.GateUpIdeal.Gen.tab m))
  · refine (θ_run Cert.GateUpRefIdeal.defs _ _).mono (fun r h c => ⟨(h c).1.trans ?_, (h c).2⟩) (Cert.GateUpRefIdeal.Value.run (F := Ideal) m' g')
    obtain ⟨h0, h1, h2, h3, h4, h5, h6, h7, h8, h9, h10⟩ := hagree c
    rw [Cert.GateUpRefIdeal.Value.res_eq, h0, h1, h2, h3, h4, h5, h6, h7, h8, h9, h10]
    rfl

end Cert.Proof
-- ==== Proof.lean ====
module

public import proofs.«01_k».proof.Defs
public import proofs.«01_k».proof.Proof.GateUpHost
public import proofs.«01_k».proof.Proof.GateUpLaunched
public import proofs.«01_k».proof.Proof.GateUpIdealHost
public import proofs.«01_k».proof.Proof.GateUpIdealLaunched
public import proofs.«01_k».proof.Proof.GateUpIdealAlg
public import proofs.«01_k».proof.Proof.Gen.GateUpRefIdeal
public import proofs.«01_k».proof.Proof.Gen.GateUpRefIdeal.Run

@[expose] public section

noncomputable section

namespace Cert.Proof

open Idealize.ShloMosaic Idealize.SL.Sem

/-- The call as printed runs to the end and leaves its arguments as they were. -/
theorem quiescent_gateUp : Cert.quiescent_GateUp (hGateUp := Cert.GateUp.Gen.facts) := fun m g _ =>
  (θ_run Cert.GateUp.defs _ _).mono (fun _ h => ⟨fun c => (h.1 c).1, h.2⟩) (Cert.GateUp.Gen.launch _ _ m g (Cert.GateUp.Gen.tab m))

/-- The call over the reals runs to the end and leaves its arguments as they were. -/
theorem quiescent_gateUpIdeal : Cert.quiescent_GateUpIdeal (hGateUpIdeal := Cert.GateUpIdeal.Gen.facts) := fun m g _ =>
  (θ_run Cert.GateUpIdeal.defs _ _).mono (fun _ h => ⟨fun c => (h.1 c).1, h.2⟩) (Cert.GateUpIdeal.Gen.launch _ _ m g (Cert.GateUpIdeal.Gen.tab m))

/-- The reference runs to the end and leaves its arguments as they were; it declares no semaphore. -/
theorem quiescent_gateUpRefIdeal : Cert.quiescent_GateUpRefIdeal (hGateUpRefIdeal := Cert.GateUpRefIdeal.Gen.facts) := fun m g _ =>
  (θ_run Cert.GateUpRefIdeal.defs _ _).mono (fun r h => ⟨fun c => (h c).2, Idealize.ShloMosaic.sem_eq_zero_of_no_sems (by decide) r.2⟩)
    (Cert.GateUpRefIdeal.Value.run (F := Ideal) m g)

theorem claim : Cert.Claim := ⟨Cert.GateUp.Gen.facts, Cert.GateUpIdeal.Gen.facts, Cert.GateUpRefIdeal.Gen.facts,
  quiescent_gateUp, quiescent_gateUpIdeal, quiescent_gateUpRefIdeal, trivial, algebraic_gateUp⟩

end Cert.Proof

end
